-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpRefIdeal (m : (ℓ : Loc Cert.DUpRefIdeal.nD Cert.DUpRefIdeal.τ Cert.DUpRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.2 = (fun _ => 1#1)

def Pre_DXMid (m : (ℓ : Loc Cert.DXMid.nD Cert.DXMid.τ Cert.DXMid.sig) → Buf (Elt Bits) ℓ) : Prop :=
  True

def Pre_DXMidIdeal (m : (ℓ : Loc Cert.DXMidIdeal.nD Cert.DXMidIdeal.τ Cert.DXMidIdeal.sig) → Buf (Elt Ideal) ℓ) : Prop :=
  True

def Pre_DXMidIdeal_finite_dx1 [hPre_finite_dx1 : Cert.Pre_finite_dx1.Facts] (m : (ℓ : Loc Cert.DXMidIdeal.nD Cert.DXMidIdeal.τ Cert.DXMidIdeal.sig) → Buf (Elt Ideal) ℓ) : Prop :=
  ∀ c : Dev Cert.DXMidIdeal.nD,
    (Cert.Pre_finite_dx1.fn (F := Ideal) (m ((c.tc : Thread Cert.DXMidIdeal.nD Cert.DXMidIdeal.τ).loc Cert.DXMidIdeal.main_arg0)) (m ((c.tc : Thread Cert.DXMidIdeal.nD Cert.DXMidIdeal.τ).loc Cert.DXMidIdeal.main_arg1)) (m ((c.tc : Thread Cert.DXMidIdeal.nD Cert.DXMidIdeal.τ).loc Cert.DXMidIdeal.main_arg2)) (m ((c.tc : Thread Cert.DXMidIdeal.nD Cert.DXMidIdeal.τ).loc Cert.DXMidIdeal.main_arg3)) (m ((c.tc : Thread Cert.DXMidIdeal.nD Cert.DXMidIdeal.τ).loc Cert.DXMidIdeal.main_arg4)) (m ((c.tc : Thread Cert.DXMidIdeal.nD Cert.DXMidIdeal.τ).loc Cert.DXMidIdeal.main_arg5))).1 = (fun _ => 1#1)
    ∧ (Cert.Pre_finite_dx1.fn (F := Ideal) (m ((c.tc : Thread Cert.DXMidIdeal.nD Cert.DXMidIdeal.τ).loc Cert.DXMidIdeal.main_arg0)) (m ((c.tc : Thread Cert.DXMidIdeal.nD Cert.DXMidIdeal.τ).loc Cert.DXMidIdeal.main_arg1)) (m ((c.tc : Thread Cert.DXMidIdeal.nD Cert.DXMidIdeal.τ).loc Cert.DXMidIdeal.main_arg2)) (m ((c.tc : Thread Cert.DXMidIdeal.nD Cert.DXMidIdeal.τ).loc Cert.DXMidIdeal.main_arg3)) (m ((c.tc : Thread Cert.DXMidIdeal.nD Cert.DXMidIdeal.τ).loc Cert.DXMidIdeal.main_arg4)) (m ((c.tc : Thread Cert.DXMidIdeal.nD Cert.DXMidIdeal.τ).loc Cert.DXMidIdeal.main_arg5))).2.1 = (fun _ => 1#1)
    ∧ (Cert.Pre_finite_dx1.fn (F := Ideal) (m ((c.tc : Thread Cert.DXMidIdeal.nD Cert.DXMidIdeal.τ).loc Cert.DXMidIdeal.main_arg0)) (m ((c.tc : Thread Cert.DXMidIdeal.nD Cert.DXMidIdeal.τ).loc Cert.DXMidIdeal.main_arg1)) (m ((c.tc : Thread Cert.DXMidIdeal.nD Cert.DXMidIdeal.τ).loc Cert.DXMidIdeal.main_arg2)) (m ((c.tc : Thread Cert.DXMidIdeal.nD Cert.DXMidIdeal.τ).loc Cert.DXMidIdeal.main_arg3)) (m ((c.tc : Thread Cert.DXMidIdeal.nD Cert.DXMidIdeal.τ).loc Cert.DXMidIdeal.main_arg4)) (m ((c.tc : Thread Cert.DXMidIdeal.nD Cert.DXMidIdeal.τ).loc Cert.DXMidIdeal.main_arg5))).2.2.1 = (fun _ => 1#1)
    ∧ (Cert.Pre_finite_dx1.fn (F := Ideal) (m ((c.tc : Thread Cert.DXMidIdeal.nD Cert.DXMidIdeal.τ).loc Cert.DXMidIdeal.main_arg0)) (m ((c.tc : Thread Cert.DXMidIdeal.nD Cert.DXMidIdeal.τ).loc Cert.DXMidIdeal.main_arg1)) (m ((c.tc : Thread Cert.DXMidIdeal.nD Cert.DXMidIdeal.τ).loc Cert.DXMidIdeal.main_arg2)) (m ((c.tc : Thread Cert.DXMidIdeal.nD Cert.DXMidIdeal.τ).loc Cert.DXMidIdeal.main_arg3)) (m ((c.tc : Thread Cert.DXMidIdeal.nD Cert.DXMidIdeal.τ).loc Cert.DXMidIdeal.main_arg4)) (m ((c.tc : Thread Cert.DXMidIdeal.nD Cert.DXMidIdeal.τ).loc Cert.DXMidIdeal.main_arg5))).2.2.2.1 = (fun _ => 1#1)
    ∧ (Cert.Pre_finite_dx1.fn (F := Ideal) (m ((c.tc : Thread Cert.DXMidIdeal.nD Cert.DXMidIdeal.τ).loc Cert.DXMidIdeal.main_arg0)) (m ((c.tc : Thread Cert.DXMidIdeal.nD Cert.DXMidIdeal.τ).loc Cert.DXMidIdeal.main_arg1)) (m ((c.tc : Thread Cert.DXMidIdeal.nD Cert.DXMidIdeal.τ).loc Cert.DXMidIdeal.main_arg2)) (m ((c.tc : Thread Cert.DXMidIdeal.nD Cert.DXMidIdeal.τ).loc Cert.DXMidIdeal.main_arg3)) (m ((c.tc : Thread Cert.DXMidIdeal.nD Cert.DXMidIdeal.τ).loc Cert.DXMidIdeal.main_arg4)) (m ((c.tc : Thread Cert.DXMidIdeal.nD Cert.DXMidIdeal.τ).loc Cert.DXMidIdeal.main_arg5))).2.2.2.2 = (fun _ => 1#1)

def Pre_DXMidRefIdeal (m : (ℓ : Loc Cert.DXMidRefIdeal.nD Cert.DXMidRefIdeal.τ Cert.DXMidRefIdeal.sig) → Buf (Elt Ideal) ℓ) : Prop :=
  True

def Pre_DXMidRefIdeal_finite_dx1 [hPre_finite_dx1 : Cert.Pre_finite_dx1.Facts] (m : (ℓ : Loc Cert.DXMidRefIdeal.nD Cert.DXMidRefIdeal.τ Cert.DXMidRefIdeal.sig) → Buf (Elt Ideal) ℓ) : Prop :=
  ∀ c : Dev Cert.DXMidRefIdeal.nD,
    (Cert.Pre_finite_dx1.fn (F := Ideal) (m ((c.tc : Thread Cert.DXMidRefIdeal.nD Cert.DXMidRefIdeal.τ).loc Cert.DXMidRefIdeal.main_arg0)) (m ((c.tc : Thread Cert.DXMidRefIdeal.nD Cert.DXMidRefIdeal.τ).loc Cert.DXMidRefIdeal.main_arg1)) (m ((c.tc : Thread Cert.DXMidRefIdeal.nD Cert.DXMidRefIdeal.τ).loc Cert.DXMidRefIdeal.main_arg2)) (m ((c.tc : Thread Cert.DXMidRefIdeal.nD Cert.DXMidRefIdeal.τ).loc Cert.DXMidRefIdeal.main_arg3)) (m ((c.tc : Thread Cert.DXMidRefIdeal.nD Cert.DXMidRefIdeal.τ).loc Cert.DXMidRefIdeal.main_arg4)) (m ((c.tc : Thread Cert.DXMidRefIdeal.nD Cert.DXMidRefIdeal.τ).loc Cert.DXMidRefIdeal.main_arg5))).1 = (fun _ => 1#1)
    ∧ (Cert.Pre_finite_dx1.fn (F := Ideal) (m ((c.tc : Thread Cert.DXMidRefIdeal.nD Cert.DXMidRefIdeal.τ).loc Cert.DXMidRefIdeal.main_arg0)) (m ((c.tc : Thread Cert.DXMidRefIdeal.nD Cert.DXMidRefIdeal.τ).loc Cert.DXMidRefIdeal.main_arg1)) (m ((c.tc : Thread Cert.DXMidRefIdeal.nD Cert.DXMidRefIdeal.τ).loc Cert.DXMidRefIdeal.main_arg2)) (m ((c.tc : Thread Cert.DXMidRefIdeal.nD Cert.DXMidRefIdeal.τ).loc Cert.DXMidRefIdeal.main_arg3)) (m ((c.tc : Thread Cert.DXMidRefIdeal.nD Cert.DXMidRefIdeal.τ).loc Cert.DXMidRefIdeal.main_arg4)) (m ((c.tc : Thread Cert.DXMidRefIdeal.nD Cert.DXMidRefIdeal.τ).loc Cert.DXMidRefIdeal.main_arg5))).2.1 = (fun _ => 1#1)
    ∧ (Cert.Pre_finite_dx1.fn (F := Ideal) (m ((c.tc : Thread Cert.DXMidRefIdeal.nD Cert.DXMidRefIdeal.τ).loc Cert.DXMidRefIdeal.main_arg0)) (m ((c.tc : Thread Cert.DXMidRefIdeal.nD Cert.DXMidRefIdeal.τ).loc Cert.DXMidRefIdeal.main_arg1)) (m ((c.tc : Thread Cert.DXMidRefIdeal.nD Cert.DXMidRefIdeal.τ).loc Cert.DXMidRefIdeal.main_arg2)) (m ((c.tc : Thread Cert.DXMidRefIdeal.nD Cert.DXMidRefIdeal.τ).loc Cert.DXMidRefIdeal.main_arg3)) (m ((c.tc : Thread Cert.DXMidRefIdeal.nD Cert.DXMidRefIdeal.τ).loc Cert.DXMidRefIdeal.main_arg4)) (m ((c.tc : Thread Cert.DXMidRefIdeal.nD Cert.DXMidRefIdeal.τ).loc Cert.DXMidRefIdeal.main_arg5))).2.2.1 = (fun _ => 1#1)
    ∧ (Cert.Pre_finite_dx1.fn (F := Ideal) (m ((c.tc : Thread Cert.DXMidRefIdeal.nD Cert.DXMidRefIdeal.τ).loc Cert.DXMidRefIdeal.main_arg0)) (m ((c.tc : Thread Cert.DXMidRefIdeal.nD Cert.DXMidRefIdeal.τ).loc Cert.DXMidRefIdeal.main_arg1)) (m ((c.tc : Thread Cert.DXMidRefIdeal.nD Cert.DXMidRefIdeal.τ).loc Cert.DXMidRefIdeal.main_arg2)) (m ((c.tc : Thread Cert.DXMidRefIdeal.nD Cert.DXMidRefIdeal.τ).loc Cert.DXMidRefIdeal.main_arg3)) (m ((c.tc : Thread Cert.DXMidRefIdeal.nD Cert.DXMidRefIdeal.τ).loc Cert.DXMidRefIdeal.main_arg4)) (m ((c.tc : Thread Cert.DXMidRefIdeal.nD Cert.DXMidRefIdeal.τ).loc Cert.DXMidRefIdeal.main_arg5))).2.2.2.1 = (fun _ => 1#1)
    ∧ (Cert.Pre_finite_dx1.fn (F := Ideal) (m ((c.tc : Thread Cert.DXMidRefIdeal.nD Cert.DXMidRefIdeal.τ).loc Cert.DXMidRefIdeal.main_arg0)) (m ((c.tc : Thread Cert.DXMidRefIdeal.nD Cert.DXMidRefIdeal.τ).loc Cert.DXMidRefIdeal.main_arg1)) (m ((c.tc : Thread Cert.DXMidRefIdeal.nD Cert.DXMidRefIdeal.τ).loc Cert.DXMidRefIdeal.main_arg2)) (m ((c.tc : Thread Cert.DXMidRefIdeal.nD Cert.DXMidRefIdeal.τ).loc Cert.DXMidRefIdeal.main_arg3)) (m ((c.tc : Thread Cert.DXMidRefIdeal.nD Cert.DXMidRefIdeal.τ).loc Cert.DXMidRefIdeal.main_arg4)) (m ((c.tc : Thread Cert.DXMidRefIdeal.nD Cert.DXMidRefIdeal.τ).loc Cert.DXMidRefIdeal.main_arg5))).2.2.2.2 = (fun _ => 1#1)

def Pre_DXIn (m : (ℓ : Loc Cert.DXIn.nD Cert.DXIn.τ Cert.DXIn.sig) → Buf (Elt Bits) ℓ) : Prop :=
  True

def Pre_DXInIdeal (m : (ℓ : Loc Cert.DXInIdeal.nD Cert.DXInIdeal.τ Cert.DXInIdeal.sig) → Buf (Elt Ideal) ℓ) : Prop :=
  True

def Pre_DXInIdeal_finite_dx [hPre_finite_dx : Cert.Pre_finite_dx.Facts] (m : (ℓ : Loc Cert.DXInIdeal.nD Cert.DXInIdeal.τ Cert.DXInIdeal.sig) → Buf (Elt Ideal) ℓ) : Prop :=
  ∀ c : Dev Cert.DXInIdeal.nD,
    (Cert.Pre_finite_dx.fn (F := Ideal) (m ((c.tc : Thread Cert.DXInIdeal.nD Cert.DXInIdeal.τ).loc Cert.DXInIdeal.main_arg0)) (m ((c.tc : Thread Cert.DXInIdeal.nD Cert.DXInIdeal.τ).loc Cert.DXInIdeal.main_arg1)) (m ((c.tc : Thread Cert.DXInIdeal.nD Cert.DXInIdeal.τ).loc Cert.DXInIdeal.main_arg2)) (m ((c.tc : Thread Cert.DXInIdeal.nD Cert.DXInIdeal.τ).loc Cert.DXInIdeal.main_arg3)) (m ((c.tc : Thread Cert.DXInIdeal.nD Cert.DXInIdeal.τ).loc Cert.DXInIdeal.main_arg4)) (m ((c.tc : Thread Cert.DXInIdeal.nD Cert.DXInIdeal.τ).loc Cert.DXInIdeal.main_arg5)) (m ((c.tc : Thread Cert.DXInIdeal.nD Cert.DXInIdeal.τ).loc Cert.DXInIdeal.main_arg6)) (m ((c.tc : Thread Cert.DXInIdeal.nD Cert.DXInIdeal.τ).loc Cert.DXInIdeal.main_arg7)) (m ((c.tc : Thread Cert.DXInIdeal.nD Cert.DXInIdeal.τ).loc Cert.DXInIdeal.main_arg8))).1 = (fun _ => 1#1)
    ∧ (Cert.Pre_finite_dx.fn (F := Ideal) (m ((c.tc : Thread Cert.DXInIdeal.nD Cert.DXInIdeal.τ).loc Cert.DXInIdeal.main_arg0)) (m ((c.tc : Thread Cert.DXInIdeal.nD Cert.DXInIdeal.τ).loc Cert.DXInIdeal.main_arg1)) (m ((c.tc : Thread Cert.DXInIdeal.nD Cert.DXInIdeal.τ).loc Cert.DXInIdeal.main_arg2)) (m ((c.tc : Thread Cert.DXInIdeal.nD Cert.DXInIdeal.τ).loc Cert.DXInIdeal.main_arg3)) (m ((c.tc : Thread Cert.DXInIdeal.nD Cert.DXInIdeal.τ).loc Cert.DXInIdeal.main_arg4)) (m ((c.tc : Thread Cert.DXInIdeal.nD Cert.DXInIdeal.τ).loc Cert.DXInIdeal.main_arg5)) (m ((c.tc : Thread Cert.DXInIdeal.nD Cert.DXInIdeal.τ).loc Cert.DXInIdeal.main_arg6)) (m ((c.tc : Thread Cert.DXInIdeal.nD Cert.DXInIdeal.τ).loc Cert.DXInIdeal.main_arg7)) (m ((c.tc : Thread Cert.DXInIdeal.nD Cert.DXInIdeal.τ).loc Cert.DXInIdeal.main_arg8))).2.1 = (fun _ => 1#1)
    ∧ (Cert.Pre_finite_dx.fn (F := Ideal) (m ((c.tc : Thread Cert.DXInIdeal.nD Cert.DXInIdeal.τ).loc Cert.DXInIdeal.main_arg0)) (m ((c.tc : Thread Cert.DXInIdeal.nD Cert.DXInIdeal.τ).loc Cert.DXInIdeal.main_arg1)) (m ((c.tc : Thread Cert.DXInIdeal.nD Cert.DXInIdeal.τ).loc Cert.DXInIdeal.main_arg2)) (m ((c.tc : Thread Cert.DXInIdeal.nD Cert.DXInIdeal.τ).loc Cert.DXInIdeal.main_arg3)) (m ((c.tc : Thread Cert.DXInIdeal.nD Cert.DXInIdeal.τ).loc Cert.DXInIdeal.main_arg4)) (m ((c.tc : Thread Cert.DXInIdeal.nD Cert.DXInIdeal.τ).loc Cert.DXInIdeal.main_arg5)) (m ((c.tc : Thread Cert.DXInIdeal.nD Cert.DXInIdeal.τ).loc Cert.DXInIdeal.main_arg6)) (m ((c.tc : Thread Cert.DXInIdeal.nD Cert.DXInIdeal.τ).loc Cert.DXInIdeal.main_arg7)) (m ((c.tc : Thread Cert.DXInIdeal.nD Cert.DXInIdeal.τ).loc Cert.DXInIdeal.main_arg8))).2.2.1 = (fun _ => 1#1)
    ∧ (Cert.Pre_finite_dx.fn (F := Ideal) (m ((c.tc : Thread Cert.DXInIdeal.nD Cert.DXInIdeal.τ).loc Cert.DXInIdeal.main_arg0)) (m ((c.tc : Thread Cert.DXInIdeal.nD Cert.DXInIdeal.τ).loc Cert.DXInIdeal.main_arg1)) (m ((c.tc : Thread Cert.DXInIdeal.nD Cert.DXInIdeal.τ).loc Cert.DXInIdeal.main_arg2)) (m ((c.tc : Thread Cert.DXInIdeal.nD Cert.DXInIdeal.τ).loc Cert.DXInIdeal.main_arg3)) (m ((c.tc : Thread Cert.DXInIdeal.nD Cert.DXInIdeal.τ).loc Cert.DXInIdeal.main_arg4)) (m ((c.tc : Thread Cert.DXInIdeal.nD Cert.DXInIdeal.τ).loc Cert.DXInIdeal.main_arg5)) (m ((c.tc : Thread Cert.DXInIdeal.nD Cert.DXInIdeal.τ).loc Cert.DXInIdeal.main_arg6)) (m ((c.tc : Thread Cert.DXInIdeal.nD Cert.DXInIdeal.τ).loc Cert.DXInIdeal.main_arg7)) (m ((c.tc : Thread Cert.DXInIdeal.nD Cert.DXInIdeal.τ).loc Cert.DXInIdeal.main_arg8))).2.2.2.1 = (fun _ => 1#1)
    ∧ (Cert.Pre_finite_dx.fn (F := Ideal) (m ((c.tc : Thread Cert.DXInIdeal.nD Cert.DXInIdeal.τ).loc Cert.DXInIdeal.main_arg0)) (m ((c.tc : Thread Cert.DXInIdeal.nD Cert.DXInIdeal.τ).loc Cert.DXInIdeal.main_arg1)) (m ((c.tc : Thread Cert.DXInIdeal.nD Cert.DXInIdeal.τ).loc Cert.DXInIdeal.main_arg2)) (m ((c.tc : Thread Cert.DXInIdeal.nD Cert.DXInIdeal.τ).loc Cert.DXInIdeal.main_arg3)) (m ((c.tc : Thread Cert.DXInIdeal.nD Cert.DXInIdeal.τ).loc Cert.DXInIdeal.main_arg4)) (m ((c.tc : Thread Cert.DXInIdeal.nD Cert.DXInIdeal.τ).loc Cert.DXInIdeal.main_arg5)) (m ((c.tc : Thread Cert.DXInIdeal.nD Cert.DXInIdeal.τ).loc Cert.DXInIdeal.main_arg6)) (m ((c.tc : Thread Cert.DXInIdeal.nD Cert.DXInIdeal.τ).loc Cert.DXInIdeal.main_arg7)) (m ((c.tc : Thread Cert.DXInIdeal.nD Cert.DXInIdeal.τ).loc Cert.DXInIdeal.main_arg8))).2.2.2.2.1 = (fun _ => 1#1)
    ∧ (Cert.Pre_finite_dx.fn (F := Ideal) (m ((c.tc : Thread Cert.DXInIdeal.nD Cert.DXInIdeal.τ).loc Cert.DXInIdeal.main_arg0)) (m ((c.tc : Thread Cert.DXInIdeal.nD Cert.DXInIdeal.τ).loc Cert.DXInIdeal.main_arg1)) (m ((c.tc : Thread Cert.DXInIdeal.nD Cert.DXInIdeal.τ).loc Cert.DXInIdeal.main_arg2)) (m ((c.tc : Thread Cert.DXInIdeal.nD Cert.DXInIdeal.τ).loc Cert.DXInIdeal.main_arg3)) (m ((c.tc : Thread Cert.DXInIdeal.nD Cert.DXInIdeal.τ).loc Cert.DXInIdeal.main_arg4)) (m ((c.tc : Thread Cert.DXInIdeal.nD Cert.DXInIdeal.τ).loc Cert.DXInIdeal.main_arg5)) (m ((c.tc : Thread Cert.DXInIdeal.nD Cert.DXInIdeal.τ).loc Cert.DXInIdeal.main_arg6)) (m ((c.tc : Thread Cert.DXInIdeal.nD Cert.DXInIdeal.τ).loc Cert.DXInIdeal.main_arg7)) (m ((c.tc : Thread Cert.DXInIdeal.nD Cert.DXInIdeal.τ).loc Cert.DXInIdeal.main_arg8))).2.2.2.2.2.1 = (fun _ => 1#1)
    ∧ (Cert.Pre_finite_dx.fn (F := Ideal) (m ((c.tc : Thread Cert.DXInIdeal.nD Cert.DXInIdeal.τ).loc Cert.DXInIdeal.main_arg0)) (m ((c.tc : Thread Cert.DXInIdeal.nD Cert.DXInIdeal.τ).loc Cert.DXInIdeal.main_arg1)) (m ((c.tc : Thread Cert.DXInIdeal.nD Cert.DXInIdeal.τ).loc Cert.DXInIdeal.main_arg2)) (m ((c.tc : Thread Cert.DXInIdeal.nD Cert.DXInIdeal.τ).loc Cert.DXInIdeal.main_arg3)) (m ((c.tc : Thread Cert.DXInIdeal.nD Cert.DXInIdeal.τ).loc Cert.DXInIdeal.main_arg4)) (m ((c.tc : Thread Cert.DXInIdeal.nD Cert.DXInIdeal.τ).loc Cert.DXInIdeal.main_arg5)) (m ((c.tc : Thread Cert.DXInIdeal.nD Cert.DXInIdeal.τ).loc Cert.DXInIdeal.main_arg6)) (m ((c.tc : Thread Cert.DXInIdeal.nD Cert.DXInIdeal.τ).loc Cert.DXInIdeal.main_arg7)) (m ((c.tc : Thread Cert.DXInIdeal.nD Cert.DXInIdeal.τ).loc Cert.DXInIdeal.main_arg8))).2.2.2.2.2.2.1 = (fun _ => 1#1)
    ∧ (Cert.Pre_finite_dx.fn (F := Ideal) (m ((c.tc : Thread Cert.DXInIdeal.nD Cert.DXInIdeal.τ).loc Cert.DXInIdeal.main_arg0)) (m ((c.tc : Thread Cert.DXInIdeal.nD Cert.DXInIdeal.τ).loc Cert.DXInIdeal.main_arg1)) (m ((c.tc : Thread Cert.DXInIdeal.nD Cert.DXInIdeal.τ).loc Cert.DXInIdeal.main_arg2)) (m ((c.tc : Thread Cert.DXInIdeal.nD Cert.DXInIdeal.τ).loc Cert.DXInIdeal.main_arg3)) (m ((c.tc : Thread Cert.DXInIdeal.nD Cert.DXInIdeal.τ).loc Cert.DXInIdeal.main_arg4)) (m ((c.tc : Thread Cert.DXInIdeal.nD Cert.DXInIdeal.τ).loc Cert.DXInIdeal.main_arg5)) (m ((c.tc : Thread Cert.DXInIdeal.nD Cert.DXInIdeal.τ).loc Cert.DXInIdeal.main_arg6)) (m ((c.tc : Thread Cert.DXInIdeal.nD Cert.DXInIdeal.τ).loc Cert.DXInIdeal.main_arg7)) (m ((c.tc : Thread Cert.DXInIdeal.nD Cert.DXInIdeal.τ).loc Cert.DXInIdeal.main_arg8))).2.2.2.2.2.2.2 = (fun _ => 1#1)

def Pre_DXInRefIdeal (m : (ℓ : Loc Cert.DXInRefIdeal.nD Cert.DXInRefIdeal.τ Cert.DXInRefIdeal.sig) → Buf (Elt Ideal) ℓ) : Prop :=
  True

def Pre_DXInRefIdeal_finite_dx [hPre_finite_dx : Cert.Pre_finite_dx.Facts] (m : (ℓ : Loc Cert.DXInRefIdeal.nD Cert.DXInRefIdeal.τ Cert.DXInRefIdeal.sig) → Buf (Elt Ideal) ℓ) : Prop :=
  ∀ c : Dev Cert.DXInRefIdeal.nD,
    (Cert.Pre_finite_dx.fn (F := Ideal) (m ((c.tc : Thread Cert.DXInRefIdeal.nD Cert.DXInRefIdeal.τ).loc Cert.DXInRefIdeal.main_arg0)) (m ((c.tc : Thread Cert.DXInRefIdeal.nD Cert.DXInRefIdeal.τ).loc Cert.DXInRefIdeal.main_arg1)) (m ((c.tc : Thread Cert.DXInRefIdeal.nD Cert.DXInRefIdeal.τ).loc Cert.DXInRefIdeal.main_arg2)) (m ((c.tc : Thread Cert.DXInRefIdeal.nD Cert.DXInRefIdeal.τ).loc Cert.DXInRefIdeal.main_arg3)) (m ((c.tc : Thread Cert.DXInRefIdeal.nD Cert.DXInRefIdeal.τ).loc Cert.DXInRefIdeal.main_arg4)) (m ((c.tc : Thread Cert.DXInRefIdeal.nD Cert.DXInRefIdeal.τ).loc Cert.DXInRefIdeal.main_arg5)) (m ((c.tc : Thread Cert.DXInRefIdeal.nD Cert.DXInRefIdeal.τ).loc Cert.DXInRefIdeal.main_arg6)) (m ((c.tc : Thread Cert.DXInRefIdeal.nD Cert.DXInRefIdeal.τ).loc Cert.DXInRefIdeal.main_arg7)) (m ((c.tc : Thread Cert.DXInRefIdeal.nD Cert.DXInRefIdeal.τ).loc Cert.DXInRefIdeal.main_arg8))).1 = (fun _ => 1#1)
    ∧ (Cert.Pre_finite_dx.fn (F := Ideal) (m ((c.tc : Thread Cert.DXInRefIdeal.nD Cert.DXInRefIdeal.τ).loc Cert.DXInRefIdeal.main_arg0)) (m ((c.tc : Thread Cert.DXInRefIdeal.nD Cert.DXInRefIdeal.τ).loc Cert.DXInRefIdeal.main_arg1)) (m ((c.tc : Thread Cert.DXInRefIdeal.nD Cert.DXInRefIdeal.τ).loc Cert.DXInRefIdeal.main_arg2)) (m ((c.tc : Thread Cert.DXInRefIdeal.nD Cert.DXInRefIdeal.τ).loc Cert.DXInRefIdeal.main_arg3)) (m ((c.tc : Thread Cert.DXInRefIdeal.nD Cert.DXInRefIdeal.τ).loc Cert.DXInRefIdeal.main_arg4)) (m ((c.tc : Thread Cert.DXInRefIdeal.nD Cert.DXInRefIdeal.τ).loc Cert.DXInRefIdeal.main_arg5)) (m ((c.tc : Thread Cert.DXInRefIdeal.nD Cert.DXInRefIdeal.τ).loc Cert.DXInRefIdeal.main_arg6)) (m ((c.tc : Thread Cert.DXInRefIdeal.nD Cert.DXInRefIdeal.τ).loc Cert.DXInRefIdeal.main_arg7)) (m ((c.tc : Thread Cert.DXInRefIdeal.nD Cert.DXInRefIdeal.τ).loc Cert.DXInRefIdeal.main_arg8))).2.1 = (fun _ => 1#1)
    ∧ (Cert.Pre_finite_dx.fn (F := Ideal) (m ((c.tc : Thread Cert.DXInRefIdeal.nD Cert.DXInRefIdeal.τ).loc Cert.DXInRefIdeal.main_arg0)) (m ((c.tc : Thread Cert.DXInRefIdeal.nD Cert.DXInRefIdeal.τ).loc Cert.DXInRefIdeal.main_arg1)) (m ((c.tc : Thread Cert.DXInRefIdeal.nD Cert.DXInRefIdeal.τ).loc Cert.DXInRefIdeal.main_arg2)) (m ((c.tc : Thread Cert.DXInRefIdeal.nD Cert.DXInRefIdeal.τ).loc Cert.DXInRefIdeal.main_arg3)) (m ((c.tc : Thread Cert.DXInRefIdeal.nD Cert.DXInRefIdeal.τ).loc Cert.DXInRefIdeal.main_arg4)) (m ((c.tc : Thread Cert.DXInRefIdeal.nD Cert.DXInRefIdeal.τ).loc Cert.DXInRefIdeal.main_arg5)) (m ((c.tc : Thread Cert.DXInRefIdeal.nD Cert.DXInRefIdeal.τ).loc Cert.DXInRefIdeal.main_arg6)) (m ((c.tc : Thread Cert.DXInRefIdeal.nD Cert.DXInRefIdeal.τ).loc Cert.DXInRefIdeal.main_arg7)) (m ((c.tc : Thread Cert.DXInRefIdeal.nD Cert.DXInRefIdeal.τ).loc Cert.DXInRefIdeal.main_arg8))).2.2.1 = (fun _ => 1#1)
    ∧ (Cert.Pre_finite_dx.fn (F := Ideal) (m ((c.tc : Thread Cert.DXInRefIdeal.nD Cert.DXInRefIdeal.τ).loc Cert.DXInRefIdeal.main_arg0)) (m ((c.tc : Thread Cert.DXInRefIdeal.nD Cert.DXInRefIdeal.τ).loc Cert.DXInRefIdeal.main_arg1)) (m ((c.tc : Thread Cert.DXInRefIdeal.nD Cert.DXInRefIdeal.τ).loc Cert.DXInRefIdeal.main_arg2)) (m ((c.tc : Thread Cert.DXInRefIdeal.nD Cert.DXInRefIdeal.τ).loc Cert.DXInRefIdeal.main_arg3)) (m ((c.tc : Thread Cert.DXInRefIdeal.nD Cert.DXInRefIdeal.τ).loc Cert.DXInRefIdeal.main_arg4)) (m ((c.tc : Thread Cert.DXInRefIdeal.nD Cert.DXInRefIdeal.τ).loc Cert.DXInRefIdeal.main_arg5)) (m ((c.tc : Thread Cert.DXInRefIdeal.nD Cert.DXInRefIdeal.τ).loc Cert.DXInRefIdeal.main_arg6)) (m ((c.tc : Thread Cert.DXInRefIdeal.nD Cert.DXInRefIdeal.τ).loc Cert.DXInRefIdeal.main_arg7)) (m ((c.tc : Thread Cert.DXInRefIdeal.nD Cert.DXInRefIdeal.τ).loc Cert.DXInRefIdeal.main_arg8))).2.2.2.1 = (fun _ => 1#1)
    ∧ (Cert.Pre_finite_dx.fn (F := Ideal) (m ((c.tc : Thread Cert.DXInRefIdeal.nD Cert.DXInRefIdeal.τ).loc Cert.DXInRefIdeal.main_arg0)) (m ((c.tc : Thread Cert.DXInRefIdeal.nD Cert.DXInRefIdeal.τ).loc Cert.DXInRefIdeal.main_arg1)) (m ((c.tc : Thread Cert.DXInRefIdeal.nD Cert.DXInRefIdeal.τ).loc Cert.DXInRefIdeal.main_arg2)) (m ((c.tc : Thread Cert.DXInRefIdeal.nD Cert.DXInRefIdeal.τ).loc Cert.DXInRefIdeal.main_arg3)) (m ((c.tc : Thread Cert.DXInRefIdeal.nD Cert.DXInRefIdeal.τ).loc Cert.DXInRefIdeal.main_arg4)) (m ((c.tc : Thread Cert.DXInRefIdeal.nD Cert.DXInRefIdeal.τ).loc Cert.DXInRefIdeal.main_arg5)) (m ((c.tc : Thread Cert.DXInRefIdeal.nD Cert.DXInRefIdeal.τ).loc Cert.DXInRefIdeal.main_arg6)) (m ((c.tc : Thread Cert.DXInRefIdeal.nD Cert.DXInRefIdeal.τ).loc Cert.DXInRefIdeal.main_arg7)) (m ((c.tc : Thread Cert.DXInRefIdeal.nD Cert.DXInRefIdeal.τ).loc Cert.DXInRefIdeal.main_arg8))).2.2.2.2.1 = (fun _ => 1#1)
    ∧ (Cert.Pre_finite_dx.fn (F := Ideal) (m ((c.tc : Thread Cert.DXInRefIdeal.nD Cert.DXInRefIdeal.τ).loc Cert.DXInRefIdeal.main_arg0)) (m ((c.tc : Thread Cert.DXInRefIdeal.nD Cert.DXInRefIdeal.τ).loc Cert.DXInRefIdeal.main_arg1)) (m ((c.tc : Thread Cert.DXInRefIdeal.nD Cert.DXInRefIdeal.τ).loc Cert.DXInRefIdeal.main_arg2)) (m ((c.tc : Thread Cert.DXInRefIdeal.nD Cert.DXInRefIdeal.τ).loc Cert.DXInRefIdeal.main_arg3)) (m ((c.tc : Thread Cert.DXInRefIdeal.nD Cert.DXInRefIdeal.τ).loc Cert.DXInRefIdeal.main_arg4)) (m ((c.tc : Thread Cert.DXInRefIdeal.nD Cert.DXInRefIdeal.τ).loc Cert.DXInRefIdeal.main_arg5)) (m ((c.tc : Thread Cert.DXInRefIdeal.nD Cert.DXInRefIdeal.τ).loc Cert.DXInRefIdeal.main_arg6)) (m ((c.tc : Thread Cert.DXInRefIdeal.nD Cert.DXInRefIdeal.τ).loc Cert.DXInRefIdeal.main_arg7)) (m ((c.tc : Thread Cert.DXInRefIdeal.nD Cert.DXInRefIdeal.τ).loc Cert.DXInRefIdeal.main_arg8))).2.2.2.2.2.1 = (fun _ => 1#1)
    ∧ (Cert.Pre_finite_dx.fn (F := Ideal) (m ((c.tc : Thread Cert.DXInRefIdeal.nD Cert.DXInRefIdeal.τ).loc Cert.DXInRefIdeal.main_arg0)) (m ((c.tc : Thread Cert.DXInRefIdeal.nD Cert.DXInRefIdeal.τ).loc Cert.DXInRefIdeal.main_arg1)) (m ((c.tc : Thread Cert.DXInRefIdeal.nD Cert.DXInRefIdeal.τ).loc Cert.DXInRefIdeal.main_arg2)) (m ((c.tc : Thread Cert.DXInRefIdeal.nD Cert.DXInRefIdeal.τ).loc Cert.DXInRefIdeal.main_arg3)) (m ((c.tc : Thread Cert.DXInRefIdeal.nD Cert.DXInRefIdeal.τ).loc Cert.DXInRefIdeal.main_arg4)) (m ((c.tc : Thread Cert.DXInRefIdeal.nD Cert.DXInRefIdeal.τ).loc Cert.DXInRefIdeal.main_arg5)) (m ((c.tc : Thread Cert.DXInRefIdeal.nD Cert.DXInRefIdeal.τ).loc Cert.DXInRefIdeal.main_arg6)) (m ((c.tc : Thread Cert.DXInRefIdeal.nD Cert.DXInRefIdeal.τ).loc Cert.DXInRefIdeal.main_arg7)) (m ((c.tc : Thread Cert.DXInRefIdeal.nD Cert.DXInRefIdeal.τ).loc Cert.DXInRefIdeal.main_arg8))).2.2.2.2.2.2.1 = (fun _ => 1#1)
    ∧ (Cert.Pre_finite_dx.fn (F := Ideal) (m ((c.tc : Thread Cert.DXInRefIdeal.nD Cert.DXInRefIdeal.τ).loc Cert.DXInRefIdeal.main_arg0)) (m ((c.tc : Thread Cert.DXInRefIdeal.nD Cert.DXInRefIdeal.τ).loc Cert.DXInRefIdeal.main_arg1)) (m ((c.tc : Thread Cert.DXInRefIdeal.nD Cert.DXInRefIdeal.τ).loc Cert.DXInRefIdeal.main_arg2)) (m ((c.tc : Thread Cert.DXInRefIdeal.nD Cert.DXInRefIdeal.τ).loc Cert.DXInRefIdeal.main_arg3)) (m ((c.tc : Thread Cert.DXInRefIdeal.nD Cert.DXInRefIdeal.τ).loc Cert.DXInRefIdeal.main_arg4)) (m ((c.tc : Thread Cert.DXInRefIdeal.nD Cert.DXInRefIdeal.τ).loc Cert.DXInRefIdeal.main_arg5)) (m ((c.tc : Thread Cert.DXInRefIdeal.nD Cert.DXInRefIdeal.τ).loc Cert.DXInRefIdeal.main_arg6)) (m ((c.tc : Thread Cert.DXInRefIdeal.nD Cert.DXInRefIdeal.τ).loc Cert.DXInRefIdeal.main_arg7)) (m ((c.tc : Thread Cert.DXInRefIdeal.nD Cert.DXInRefIdeal.τ).loc Cert.DXInRefIdeal.main_arg8))).2.2.2.2.2.2.2 = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_finite_rms [hPre_finite_rms : Cert.Pre_finite_rms.Facts] (m : (ℓ : Loc Cert.RmsIdeal.nD Cert.RmsIdeal.τ Cert.RmsIdeal.sig) → Buf (Elt Ideal) ℓ) : Prop :=
  ∀ c : Dev Cert.RmsIdeal.nD,
    (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.2.1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.2.2 = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_finite_rms [hPre_finite_rms : Cert.Pre_finite_rms.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).1 = (fun _ => 1#1)
    ∧ (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.1 = (fun _ => 1#1)
    ∧ (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.2.1 = (fun _ => 1#1)
    ∧ (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.2.2 = (fun _ => 1#1)

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_finite_fwd [hPre_finite_fwd : Cert.Pre_finite_fwd.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_finite_fwd.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).1 = (fun _ => 1#1)
    ∧ (Cert.Pre_finite_fwd.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).2.1 = (fun _ => 1#1)
    ∧ (Cert.Pre_finite_fwd.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).2.2 = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_finite_fwd [hPre_finite_fwd : Cert.Pre_finite_fwd.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_finite_fwd.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).1 = (fun _ => 1#1)
    ∧ (Cert.Pre_finite_fwd.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).2.1 = (fun _ => 1#1)
    ∧ (Cert.Pre_finite_fwd.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).2.2 = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_mixer [hPre_finite_mixer : Cert.Pre_finite_mixer.Facts] (m : (ℓ : Loc Cert.MixerIdeal.nD Cert.MixerIdeal.τ Cert.MixerIdeal.sig) → Buf (Elt Ideal) ℓ) : Prop :=
  ∀ c : Dev Cert.MixerIdeal.nD,
    (Cert.Pre_finite_mixer.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5))).1 = (fun _ => 1#1)
    ∧ (Cert.Pre_finite_mixer.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5))).2.1 = (fun _ => 1#1)
    ∧ (Cert.Pre_finite_mixer.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5))).2.2.1 = (fun _ => 1#1)
    ∧ (Cert.Pre_finite_mixer.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5))).2.2.2.1 = (fun _ => 1#1)
    ∧ (Cert.Pre_finite_mixer.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5))).2.2.2.2.1 = (fun _ => 1#1)
    ∧ (Cert.Pre_finite_mixer.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5))).2.2.2.2.2 = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_mixer [hPre_finite_mixer : Cert.Pre_finite_mixer.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_mixer.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5))).1 = (fun _ => 1#1)
    ∧ (Cert.Pre_finite_mixer.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5))).2.1 = (fun _ => 1#1)
    ∧ (Cert.Pre_finite_mixer.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5))).2.2.1 = (fun _ => 1#1)
    ∧ (Cert.Pre_finite_mixer.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5))).2.2.2.1 = (fun _ => 1#1)
    ∧ (Cert.Pre_finite_mixer.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5))).2.2.2.2.1 = (fun _ => 1#1)
    ∧ (Cert.Pre_finite_mixer.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1)
      ∧ r.2.mem ((c.tc : Thread Cert.DUp.nD Cert.DUp.τ).loc Cert.DUp.main_arg2) = m ((c.tc : Thread Cert.DUp.nD Cert.DUp.τ).loc Cert.DUp.main_arg2))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
      ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2))
      ∧ r.2.sem = fun _ => 0)

def quiescent_DUpRefIdeal [hDUpRefIdeal : Cert.DUpRefIdeal.Facts] : Prop :=
  ∀ (m : (ℓ : Loc Cert.DUpRefIdeal.nD Cert.DUpRefIdeal.τ Cert.DUpRefIdeal.sig) → Buf (Elt Ideal) ℓ) (g : Dev Cert.DUpRefIdeal.nD → PrngReg), Pre_DUpRefIdeal m →
    θ_run (Cert.DUpRefIdeal.defs (F := Ideal)) (onTc (τ := Cert.DUpRefIdeal.τ) (Cert.DUpRefIdeal.main (F := Ideal))) ⟨m, fun _ => 0, g⟩ (fun r => (∀ c : Dev Cert.DUpRefIdeal.nD,
      r.2.mem ((c.tc : Thread Cert.DUpRefIdeal.nD Cert.DUpRefIdeal.τ).loc Cert.DUpRefIdeal.main_arg0) = m ((c.tc : Thread Cert.DUpRefIdeal.nD Cert.DUpRefIdeal.τ).loc Cert.DUpRefIdeal.main_arg0)
      ∧ r.2.mem ((c.tc : Thread Cert.DUpRefIdeal.nD Cert.DUpRefIdeal.τ).loc Cert.DUpRefIdeal.main_arg1) = m ((c.tc : Thread Cert.DUpRefIdeal.nD Cert.DUpRefIdeal.τ).loc Cert.DUpRefIdeal.main_arg1)
      ∧ r.2.mem ((c.tc : Thread Cert.DUpRefIdeal.nD Cert.DUpRefIdeal.τ).loc Cert.DUpRefIdeal.main_arg2) = m ((c.tc : Thread Cert.DUpRefIdeal.nD Cert.DUpRefIdeal.τ).loc Cert.DUpRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_DXMid [hDXMid : Cert.DXMid.Facts] : Prop :=
  ∀ (m : (ℓ : Loc Cert.DXMid.nD Cert.DXMid.τ Cert.DXMid.sig) → Buf (Elt Bits) ℓ) (g : Dev Cert.DXMid.nD → PrngReg), Pre_DXMid m →
    θ_run (Cert.DXMid.defs (F := Bits)) (onTc (τ := Cert.DXMid.τ) (Cert.DXMid.main (F := Bits))) ⟨m, fun _ => 0, g⟩ (fun r => (∀ c : Dev Cert.DXMid.nD,
      r.2.mem ((c.tc : Thread Cert.DXMid.nD Cert.DXMid.τ).loc Cert.DXMid.main_arg0) = m ((c.tc : Thread Cert.DXMid.nD Cert.DXMid.τ).loc Cert.DXMid.main_arg0)
      ∧ r.2.mem ((c.tc : Thread Cert.DXMid.nD Cert.DXMid.τ).loc Cert.DXMid.main_arg1) = m ((c.tc : Thread Cert.DXMid.nD Cert.DXMid.τ).loc Cert.DXMid.main_arg1)
      ∧ r.2.mem ((c.tc : Thread Cert.DXMid.nD Cert.DXMid.τ).loc Cert.DXMid.main_arg2) = m ((c.tc : Thread Cert.DXMid.nD Cert.DXMid.τ).loc Cert.DXMid.main_arg2)
      ∧ r.2.mem ((c.tc : Thread Cert.DXMid.nD Cert.DXMid.τ).loc Cert.DXMid.main_arg3) = m ((c.tc : Thread Cert.DXMid.nD Cert.DXMid.τ).loc Cert.DXMid.main_arg3)
      ∧ r.2.mem ((c.tc : Thread Cert.DXMid.nD Cert.DXMid.τ).loc Cert.DXMid.main_arg4) = m ((c.tc : Thread Cert.DXMid.nD Cert.DXMid.τ).loc Cert.DXMid.main_arg4)
      ∧ r.2.mem ((c.tc : Thread Cert.DXMid.nD Cert.DXMid.τ).loc Cert.DXMid.main_arg5) = m ((c.tc : Thread Cert.DXMid.nD Cert.DXMid.τ).loc Cert.DXMid.main_arg5))
      ∧ r.2.sem = fun _ => 0)

def quiescent_DXMidIdeal [hDXMidIdeal : Cert.DXMidIdeal.Facts] : Prop :=
  ∀ (m : (ℓ : Loc Cert.DXMidIdeal.nD Cert.DXMidIdeal.τ Cert.DXMidIdeal.sig) → Buf (Elt Ideal) ℓ) (g : Dev Cert.DXMidIdeal.nD → PrngReg), Pre_DXMidIdeal m →
    θ_run (Cert.DXMidIdeal.defs (F := Ideal)) (onTc (τ := Cert.DXMidIdeal.τ) (Cert.DXMidIdeal.main (F := Ideal))) ⟨m, fun _ => 0, g⟩ (fun r => (∀ c : Dev Cert.DXMidIdeal.nD,
      r.2.mem ((c.tc : Thread Cert.DXMidIdeal.nD Cert.DXMidIdeal.τ).loc Cert.DXMidIdeal.main_arg0) = m ((c.tc : Thread Cert.DXMidIdeal.nD Cert.DXMidIdeal.τ).loc Cert.DXMidIdeal.main_arg0)
      ∧ r.2.mem ((c.tc : Thread Cert.DXMidIdeal.nD Cert.DXMidIdeal.τ).loc Cert.DXMidIdeal.main_arg1) = m ((c.tc : Thread Cert.DXMidIdeal.nD Cert.DXMidIdeal.τ).loc Cert.DXMidIdeal.main_arg1)
      ∧ r.2.mem ((c.tc : Thread Cert.DXMidIdeal.nD Cert.DXMidIdeal.τ).loc Cert.DXMidIdeal.main_arg2) = m ((c.tc : Thread Cert.DXMidIdeal.nD Cert.DXMidIdeal.τ).loc Cert.DXMidIdeal.main_arg2)
      ∧ r.2.mem ((c.tc : Thread Cert.DXMidIdeal.nD Cert.DXMidIdeal.τ).loc Cert.DXMidIdeal.main_arg3) = m ((c.tc : Thread Cert.DXMidIdeal.nD Cert.DXMidIdeal.τ).loc Cert.DXMidIdeal.main_arg3)
      ∧ r.2.mem ((c.tc : Thread Cert.DXMidIdeal.nD Cert.DXMidIdeal.τ).loc Cert.DXMidIdeal.main_arg4) = m ((c.tc : Thread Cert.DXMidIdeal.nD Cert.DXMidIdeal.τ).loc Cert.DXMidIdeal.main_arg4)
      ∧ r.2.mem ((c.tc : Thread Cert.DXMidIdeal.nD Cert.DXMidIdeal.τ).loc Cert.DXMidIdeal.main_arg5) = m ((c.tc : Thread Cert.DXMidIdeal.nD Cert.DXMidIdeal.τ).loc Cert.DXMidIdeal.main_arg5))
      ∧ r.2.sem = fun _ => 0)

def quiescent_DXMidIdeal_pre_finite_dx1 [hDXMidIdeal : Cert.DXMidIdeal.Facts] [hPre_finite_dx1 : Cert.Pre_finite_dx1.Facts] : Prop :=
  ∀ (m : (ℓ : Loc Cert.DXMidIdeal.nD Cert.DXMidIdeal.τ Cert.DXMidIdeal.sig) → Buf (Elt Ideal) ℓ) (g : Dev Cert.DXMidIdeal.nD → PrngReg), Pre_DXMidIdeal_finite_dx1 m →
    θ_run (Cert.DXMidIdeal.defs (F := Ideal)) (onTc (τ := Cert.DXMidIdeal.τ) (Cert.DXMidIdeal.main (F := Ideal))) ⟨m, fun _ => 0, g⟩ (fun r => (∀ c : Dev Cert.DXMidIdeal.nD,
      r.2.mem ((c.tc : Thread Cert.DXMidIdeal.nD Cert.DXMidIdeal.τ).loc Cert.DXMidIdeal.main_arg0) = m ((c.tc : Thread Cert.DXMidIdeal.nD Cert.DXMidIdeal.τ).loc Cert.DXMidIdeal.main_arg0)
      ∧ r.2.mem ((c.tc : Thread Cert.DXMidIdeal.nD Cert.DXMidIdeal.τ).loc Cert.DXMidIdeal.main_arg1) = m ((c.tc : Thread Cert.DXMidIdeal.nD Cert.DXMidIdeal.τ).loc Cert.DXMidIdeal.main_arg1)
      ∧ r.2.mem ((c.tc : Thread Cert.DXMidIdeal.nD Cert.DXMidIdeal.τ).loc Cert.DXMidIdeal.main_arg2) = m ((c.tc : Thread Cert.DXMidIdeal.nD Cert.DXMidIdeal.τ).loc Cert.DXMidIdeal.main_arg2)
      ∧ r.2.mem ((c.tc : Thread Cert.DXMidIdeal.nD Cert.DXMidIdeal.τ).loc Cert.DXMidIdeal.main_arg3) = m ((c.tc : Thread Cert.DXMidIdeal.nD Cert.DXMidIdeal.τ).loc Cert.DXMidIdeal.main_arg3)
      ∧ r.2.mem ((c.tc : Thread Cert.DXMidIdeal.nD Cert.DXMidIdeal.τ).loc Cert.DXMidIdeal.main_arg4) = m ((c.tc : Thread Cert.DXMidIdeal.nD Cert.DXMidIdeal.τ).loc Cert.DXMidIdeal.main_arg4)
      ∧ r.2.mem ((c.tc : Thread Cert.DXMidIdeal.nD Cert.DXMidIdeal.τ).loc Cert.DXMidIdeal.main_arg5) = m ((c.tc : Thread Cert.DXMidIdeal.nD Cert.DXMidIdeal.τ).loc Cert.DXMidIdeal.main_arg5))
      ∧ r.2.sem = fun _ => 0)

def quiescent_DXMidRefIdeal [hDXMidRefIdeal : Cert.DXMidRefIdeal.Facts] : Prop :=
  ∀ (m : (ℓ : Loc Cert.DXMidRefIdeal.nD Cert.DXMidRefIdeal.τ Cert.DXMidRefIdeal.sig) → Buf (Elt Ideal) ℓ) (g : Dev Cert.DXMidRefIdeal.nD → PrngReg), Pre_DXMidRefIdeal m →
    θ_run (Cert.DXMidRefIdeal.defs (F := Ideal)) (onTc (τ := Cert.DXMidRefIdeal.τ) (Cert.DXMidRefIdeal.main (F := Ideal))) ⟨m, fun _ => 0, g⟩ (fun r => (∀ c : Dev Cert.DXMidRefIdeal.nD,
      r.2.mem ((c.tc : Thread Cert.DXMidRefIdeal.nD Cert.DXMidRefIdeal.τ).loc Cert.DXMidRefIdeal.main_arg0) = m ((c.tc : Thread Cert.DXMidRefIdeal.nD Cert.DXMidRefIdeal.τ).loc Cert.DXMidRefIdeal.main_arg0)
      ∧ r.2.mem ((c.tc : Thread Cert.DXMidRefIdeal.nD Cert.DXMidRefIdeal.τ).loc Cert.DXMidRefIdeal.main_arg1) = m ((c.tc : Thread Cert.DXMidRefIdeal.nD Cert.DXMidRefIdeal.τ).loc Cert.DXMidRefIdeal.main_arg1)
      ∧ r.2.mem ((c.tc : Thread Cert.DXMidRefIdeal.nD Cert.DXMidRefIdeal.τ).loc Cert.DXMidRefIdeal.main_arg2) = m ((c.tc : Thread Cert.DXMidRefIdeal.nD Cert.DXMidRefIdeal.τ).loc Cert.DXMidRefIdeal.main_arg2)
      ∧ r.2.mem ((c.tc : Thread Cert.DXMidRefIdeal.nD Cert.DXMidRefIdeal.τ).loc Cert.DXMidRefIdeal.main_arg3) = m ((c.tc : Thread Cert.DXMidRefIdeal.nD Cert.DXMidRefIdeal.τ).loc Cert.DXMidRefIdeal.main_arg3)
      ∧ r.2.mem ((c.tc : Thread Cert.DXMidRefIdeal.nD Cert.DXMidRefIdeal.τ).loc Cert.DXMidRefIdeal.main_arg4) = m ((c.tc : Thread Cert.DXMidRefIdeal.nD Cert.DXMidRefIdeal.τ).loc Cert.DXMidRefIdeal.main_arg4)
      ∧ r.2.mem ((c.tc : Thread Cert.DXMidRefIdeal.nD Cert.DXMidRefIdeal.τ).loc Cert.DXMidRefIdeal.main_arg5) = m ((c.tc : Thread Cert.DXMidRefIdeal.nD Cert.DXMidRefIdeal.τ).loc Cert.DXMidRefIdeal.main_arg5))
      ∧ r.2.sem = fun _ => 0)

def quiescent_DXMidRefIdeal_pre_finite_dx1 [hDXMidRefIdeal : Cert.DXMidRefIdeal.Facts] [hPre_finite_dx1 : Cert.Pre_finite_dx1.Facts] : Prop :=
  ∀ (m : (ℓ : Loc Cert.DXMidRefIdeal.nD Cert.DXMidRefIdeal.τ Cert.DXMidRefIdeal.sig) → Buf (Elt Ideal) ℓ) (g : Dev Cert.DXMidRefIdeal.nD → PrngReg), Pre_DXMidRefIdeal_finite_dx1 m →
    θ_run (Cert.DXMidRefIdeal.defs (F := Ideal)) (onTc (τ := Cert.DXMidRefIdeal.τ) (Cert.DXMidRefIdeal.main (F := Ideal))) ⟨m, fun _ => 0, g⟩ (fun r => (∀ c : Dev Cert.DXMidRefIdeal.nD,
      r.2.mem ((c.tc : Thread Cert.DXMidRefIdeal.nD Cert.DXMidRefIdeal.τ).loc Cert.DXMidRefIdeal.main_arg0) = m ((c.tc : Thread Cert.DXMidRefIdeal.nD Cert.DXMidRefIdeal.τ).loc Cert.DXMidRefIdeal.main_arg0)
      ∧ r.2.mem ((c.tc : Thread Cert.DXMidRefIdeal.nD Cert.DXMidRefIdeal.τ).loc Cert.DXMidRefIdeal.main_arg1) = m ((c.tc : Thread Cert.DXMidRefIdeal.nD Cert.DXMidRefIdeal.τ).loc Cert.DXMidRefIdeal.main_arg1)
      ∧ r.2.mem ((c.tc : Thread Cert.DXMidRefIdeal.nD Cert.DXMidRefIdeal.τ).loc Cert.DXMidRefIdeal.main_arg2) = m ((c.tc : Thread Cert.DXMidRefIdeal.nD Cert.DXMidRefIdeal.τ).loc Cert.DXMidRefIdeal.main_arg2)
      ∧ r.2.mem ((c.tc : Thread Cert.DXMidRefIdeal.nD Cert.DXMidRefIdeal.τ).loc Cert.DXMidRefIdeal.main_arg3) = m ((c.tc : Thread Cert.DXMidRefIdeal.nD Cert.DXMidRefIdeal.τ).loc Cert.DXMidRefIdeal.main_arg3)
      ∧ r.2.mem ((c.tc : Thread Cert.DXMidRefIdeal.nD Cert.DXMidRefIdeal.τ).loc Cert.DXMidRefIdeal.main_arg4) = m ((c.tc : Thread Cert.DXMidRefIdeal.nD Cert.DXMidRefIdeal.τ).loc Cert.DXMidRefIdeal.main_arg4)
      ∧ r.2.mem ((c.tc : Thread Cert.DXMidRefIdeal.nD Cert.DXMidRefIdeal.τ).loc Cert.DXMidRefIdeal.main_arg5) = m ((c.tc : Thread Cert.DXMidRefIdeal.nD Cert.DXMidRefIdeal.τ).loc Cert.DXMidRefIdeal.main_arg5))
      ∧ r.2.sem = fun _ => 0)

def quiescent_DXIn [hDXIn : Cert.DXIn.Facts] : Prop :=
  ∀ (m : (ℓ : Loc Cert.DXIn.nD Cert.DXIn.τ Cert.DXIn.sig) → Buf (Elt Bits) ℓ) (g : Dev Cert.DXIn.nD → PrngReg), Pre_DXIn m →
    θ_run (Cert.DXIn.defs (F := Bits)) (onTc (τ := Cert.DXIn.τ) (Cert.DXIn.main (F := Bits))) ⟨m, fun _ => 0, g⟩ (fun r => (∀ c : Dev Cert.DXIn.nD,
      r.2.mem ((c.tc : Thread Cert.DXIn.nD Cert.DXIn.τ).loc Cert.DXIn.main_arg0) = m ((c.tc : Thread Cert.DXIn.nD Cert.DXIn.τ).loc Cert.DXIn.main_arg0)
      ∧ r.2.mem ((c.tc : Thread Cert.DXIn.nD Cert.DXIn.τ).loc Cert.DXIn.main_arg1) = m ((c.tc : Thread Cert.DXIn.nD Cert.DXIn.τ).loc Cert.DXIn.main_arg1)
      ∧ r.2.mem ((c.tc : Thread Cert.DXIn.nD Cert.DXIn.τ).loc Cert.DXIn.main_arg2) = m ((c.tc : Thread Cert.DXIn.nD Cert.DXIn.τ).loc Cert.DXIn.main_arg2)
      ∧ r.2.mem ((c.tc : Thread Cert.DXIn.nD Cert.DXIn.τ).loc Cert.DXIn.main_arg3) = m ((c.tc : Thread Cert.DXIn.nD Cert.DXIn.τ).loc Cert.DXIn.main_arg3)
      ∧ r.2.mem ((c.tc : Thread Cert.DXIn.nD Cert.DXIn.τ).loc Cert.DXIn.main_arg4) = m ((c.tc : Thread Cert.DXIn.nD Cert.DXIn.τ).loc Cert.DXIn.main_arg4)
      ∧ r.2.mem ((c.tc : Thread Cert.DXIn.nD Cert.DXIn.τ).loc Cert.DXIn.main_arg5) = m ((c.tc : Thread Cert.DXIn.nD Cert.DXIn.τ).loc Cert.DXIn.main_arg5)
      ∧ r.2.mem ((c.tc : Thread Cert.DXIn.nD Cert.DXIn.τ).loc Cert.DXIn.main_arg6) = m ((c.tc : Thread Cert.DXIn.nD Cert.DXIn.τ).loc Cert.DXIn.main_arg6)
      ∧ r.2.mem ((c.tc : Thread Cert.DXIn.nD Cert.DXIn.τ).loc Cert.DXIn.main_arg7) = m ((c.tc : Thread Cert.DXIn.nD Cert.DXIn.τ).loc Cert.DXIn.main_arg7)
      ∧ r.2.mem ((c.tc : Thread Cert.DXIn.nD Cert.DXIn.τ).loc Cert.DXIn.main_arg8) = m ((c.tc : Thread Cert.DXIn.nD Cert.DXIn.τ).loc Cert.DXIn.main_arg8))
      ∧ r.2.sem = fun _ => 0)

def quiescent_DXInIdeal [hDXInIdeal : Cert.DXInIdeal.Facts] : Prop :=
  ∀ (m : (ℓ : Loc Cert.DXInIdeal.nD Cert.DXInIdeal.τ Cert.DXInIdeal.sig) → Buf (Elt Ideal) ℓ) (g : Dev Cert.DXInIdeal.nD → PrngReg), Pre_DXInIdeal m →
    θ_run (Cert.DXInIdeal.defs (F := Ideal)) (onTc (τ := Cert.DXInIdeal.τ) (Cert.DXInIdeal.main (F := Ideal))) ⟨m, fun _ => 0, g⟩ (fun r => (∀ c : Dev Cert.DXInIdeal.nD,
      r.2.mem ((c.tc : Thread Cert.DXInIdeal.nD Cert.DXInIdeal.τ).loc Cert.DXInIdeal.main_arg0) = m ((c.tc : Thread Cert.DXInIdeal.nD Cert.DXInIdeal.τ).loc Cert.DXInIdeal.main_arg0)
      ∧ r.2.mem ((c.tc : Thread Cert.DXInIdeal.nD Cert.DXInIdeal.τ).loc Cert.DXInIdeal.main_arg1) = m ((c.tc : Thread Cert.DXInIdeal.nD Cert.DXInIdeal.τ).loc Cert.DXInIdeal.main_arg1)
      ∧ r.2.mem ((c.tc : Thread Cert.DXInIdeal.nD Cert.DXInIdeal.τ).loc Cert.DXInIdeal.main_arg2) = m ((c.tc : Thread Cert.DXInIdeal.nD Cert.DXInIdeal.τ).loc Cert.DXInIdeal.main_arg2)
      ∧ r.2.mem ((c.tc : Thread Cert.DXInIdeal.nD Cert.DXInIdeal.τ).loc Cert.DXInIdeal.main_arg3) = m ((c.tc : Thread Cert.DXInIdeal.nD Cert.DXInIdeal.τ).loc Cert.DXInIdeal.main_arg3)
      ∧ r.2.mem ((c.tc : Thread Cert.DXInIdeal.nD Cert.DXInIdeal.τ).loc Cert.DXInIdeal.main_arg4) = m ((c.tc : Thread Cert.DXInIdeal.nD Cert.DXInIdeal.τ).loc Cert.DXInIdeal.main_arg4)
      ∧ r.2.mem ((c.tc : Thread Cert.DXInIdeal.nD Cert.DXInIdeal.τ).loc Cert.DXInIdeal.main_arg5) = m ((c.tc : Thread Cert.DXInIdeal.nD Cert.DXInIdeal.τ).loc Cert.DXInIdeal.main_arg5)
      ∧ r.2.mem ((c.tc : Thread Cert.DXInIdeal.nD Cert.DXInIdeal.τ).loc Cert.DXInIdeal.main_arg6) = m ((c.tc : Thread Cert.DXInIdeal.nD Cert.DXInIdeal.τ).loc Cert.DXInIdeal.main_arg6)
      ∧ r.2.mem ((c.tc : Thread Cert.DXInIdeal.nD Cert.DXInIdeal.τ).loc Cert.DXInIdeal.main_arg7) = m ((c.tc : Thread Cert.DXInIdeal.nD Cert.DXInIdeal.τ).loc Cert.DXInIdeal.main_arg7)
      ∧ r.2.mem ((c.tc : Thread Cert.DXInIdeal.nD Cert.DXInIdeal.τ).loc Cert.DXInIdeal.main_arg8) = m ((c.tc : Thread Cert.DXInIdeal.nD Cert.DXInIdeal.τ).loc Cert.DXInIdeal.main_arg8))
      ∧ r.2.sem = fun _ => 0)

def quiescent_DXInIdeal_pre_finite_dx [hDXInIdeal : Cert.DXInIdeal.Facts] [hPre_finite_dx : Cert.Pre_finite_dx.Facts] : Prop :=
  ∀ (m : (ℓ : Loc Cert.DXInIdeal.nD Cert.DXInIdeal.τ Cert.DXInIdeal.sig) → Buf (Elt Ideal) ℓ) (g : Dev Cert.DXInIdeal.nD → PrngReg), Pre_DXInIdeal_finite_dx m →
    θ_run (Cert.DXInIdeal.defs (F := Ideal)) (onTc (τ := Cert.DXInIdeal.τ) (Cert.DXInIdeal.main (F := Ideal))) ⟨m, fun _ => 0, g⟩ (fun r => (∀ c : Dev Cert.DXInIdeal.nD,
      r.2.mem ((c.tc : Thread Cert.DXInIdeal.nD Cert.DXInIdeal.τ).loc Cert.DXInIdeal.main_arg0) = m ((c.tc : Thread Cert.DXInIdeal.nD Cert.DXInIdeal.τ).loc Cert.DXInIdeal.main_arg0)
      ∧ r.2.mem ((c.tc : Thread Cert.DXInIdeal.nD Cert.DXInIdeal.τ).loc Cert.DXInIdeal.main_arg1) = m ((c.tc : Thread Cert.DXInIdeal.nD Cert.DXInIdeal.τ).loc Cert.DXInIdeal.main_arg1)
      ∧ r.2.mem ((c.tc : Thread Cert.DXInIdeal.nD Cert.DXInIdeal.τ).loc Cert.DXInIdeal.main_arg2) = m ((c.tc : Thread Cert.DXInIdeal.nD Cert.DXInIdeal.τ).loc Cert.DXInIdeal.main_arg2)
      ∧ r.2.mem ((c.tc : Thread Cert.DXInIdeal.nD Cert.DXInIdeal.τ).loc Cert.DXInIdeal.main_arg3) = m ((c.tc : Thread Cert.DXInIdeal.nD Cert.DXInIdeal.τ).loc Cert.DXInIdeal.main_arg3)
      ∧ r.2.mem ((c.tc : Thread Cert.DXInIdeal.nD Cert.DXInIdeal.τ).loc Cert.DXInIdeal.main_arg4) = m ((c.tc : Thread Cert.DXInIdeal.nD Cert.DXInIdeal.τ).loc Cert.DXInIdeal.main_arg4)
      ∧ r.2.mem ((c.tc : Thread Cert.DXInIdeal.nD Cert.DXInIdeal.τ).loc Cert.DXInIdeal.main_arg5) = m ((c.tc : Thread Cert.DXInIdeal.nD Cert.DXInIdeal.τ).loc Cert.DXInIdeal.main_arg5)
      ∧ r.2.mem ((c.tc : Thread Cert.DXInIdeal.nD Cert.DXInIdeal.τ).loc Cert.DXInIdeal.main_arg6) = m ((c.tc : Thread Cert.DXInIdeal.nD Cert.DXInIdeal.τ).loc Cert.DXInIdeal.main_arg6)
      ∧ r.2.mem ((c.tc : Thread Cert.DXInIdeal.nD Cert.DXInIdeal.τ).loc Cert.DXInIdeal.main_arg7) = m ((c.tc : Thread Cert.DXInIdeal.nD Cert.DXInIdeal.τ).loc Cert.DXInIdeal.main_arg7)
      ∧ r.2.mem ((c.tc : Thread Cert.DXInIdeal.nD Cert.DXInIdeal.τ).loc Cert.DXInIdeal.main_arg8) = m ((c.tc : Thread Cert.DXInIdeal.nD Cert.DXInIdeal.τ).loc Cert.DXInIdeal.main_arg8))
      ∧ r.2.sem = fun _ => 0)

def quiescent_DXInRefIdeal [hDXInRefIdeal : Cert.DXInRefIdeal.Facts] : Prop :=
  ∀ (m : (ℓ : Loc Cert.DXInRefIdeal.nD Cert.DXInRefIdeal.τ Cert.DXInRefIdeal.sig) → Buf (Elt Ideal) ℓ) (g : Dev Cert.DXInRefIdeal.nD → PrngReg), Pre_DXInRefIdeal m →
    θ_run (Cert.DXInRefIdeal.defs (F := Ideal)) (onTc (τ := Cert.DXInRefIdeal.τ) (Cert.DXInRefIdeal.main (F := Ideal))) ⟨m, fun _ => 0, g⟩ (fun r => (∀ c : Dev Cert.DXInRefIdeal.nD,
      r.2.mem ((c.tc : Thread Cert.DXInRefIdeal.nD Cert.DXInRefIdeal.τ).loc Cert.DXInRefIdeal.main_arg0) = m ((c.tc : Thread Cert.DXInRefIdeal.nD Cert.DXInRefIdeal.τ).loc Cert.DXInRefIdeal.main_arg0)
      ∧ r.2.mem ((c.tc : Thread Cert.DXInRefIdeal.nD Cert.DXInRefIdeal.τ).loc Cert.DXInRefIdeal.main_arg1) = m ((c.tc : Thread Cert.DXInRefIdeal.nD Cert.DXInRefIdeal.τ).loc Cert.DXInRefIdeal.main_arg1)
      ∧ r.2.mem ((c.tc : Thread Cert.DXInRefIdeal.nD Cert.DXInRefIdeal.τ).loc Cert.DXInRefIdeal.main_arg2) = m ((c.tc : Thread Cert.DXInRefIdeal.nD Cert.DXInRefIdeal.τ).loc Cert.DXInRefIdeal.main_arg2)
      ∧ r.2.mem ((c.tc : Thread Cert.DXInRefIdeal.nD Cert.DXInRefIdeal.τ).loc Cert.DXInRefIdeal.main_arg3) = m ((c.tc : Thread Cert.DXInRefIdeal.nD Cert.DXInRefIdeal.τ).loc Cert.DXInRefIdeal.main_arg3)
      ∧ r.2.mem ((c.tc : Thread Cert.DXInRefIdeal.nD Cert.DXInRefIdeal.τ).loc Cert.DXInRefIdeal.main_arg4) = m ((c.tc : Thread Cert.DXInRefIdeal.nD Cert.DXInRefIdeal.τ).loc Cert.DXInRefIdeal.main_arg4)
      ∧ r.2.mem ((c.tc : Thread Cert.DXInRefIdeal.nD Cert.DXInRefIdeal.τ).loc Cert.DXInRefIdeal.main_arg5) = m ((c.tc : Thread Cert.DXInRefIdeal.nD Cert.DXInRefIdeal.τ).loc Cert.DXInRefIdeal.main_arg5)
      ∧ r.2.mem ((c.tc : Thread Cert.DXInRefIdeal.nD Cert.DXInRefIdeal.τ).loc Cert.DXInRefIdeal.main_arg6) = m ((c.tc : Thread Cert.DXInRefIdeal.nD Cert.DXInRefIdeal.τ).loc Cert.DXInRefIdeal.main_arg6)
      ∧ r.2.mem ((c.tc : Thread Cert.DXInRefIdeal.nD Cert.DXInRefIdeal.τ).loc Cert.DXInRefIdeal.main_arg7) = m ((c.tc : Thread Cert.DXInRefIdeal.nD Cert.DXInRefIdeal.τ).loc Cert.DXInRefIdeal.main_arg7)
      ∧ r.2.mem ((c.tc : Thread Cert.DXInRefIdeal.nD Cert.DXInRefIdeal.τ).loc Cert.DXInRefIdeal.main_arg8) = m ((c.tc : Thread Cert.DXInRefIdeal.nD Cert.DXInRefIdeal.τ).loc Cert.DXInRefIdeal.main_arg8))
      ∧ r.2.sem = fun _ => 0)

def quiescent_DXInRefIdeal_pre_finite_dx [hDXInRefIdeal : Cert.DXInRefIdeal.Facts] [hPre_finite_dx : Cert.Pre_finite_dx.Facts] : Prop :=
  ∀ (m : (ℓ : Loc Cert.DXInRefIdeal.nD Cert.DXInRefIdeal.τ Cert.DXInRefIdeal.sig) → Buf (Elt Ideal) ℓ) (g : Dev Cert.DXInRefIdeal.nD → PrngReg), Pre_DXInRefIdeal_finite_dx m →
    θ_run (Cert.DXInRefIdeal.defs (F := Ideal)) (onTc (τ := Cert.DXInRefIdeal.τ) (Cert.DXInRefIdeal.main (F := Ideal))) ⟨m, fun _ => 0, g⟩ (fun r => (∀ c : Dev Cert.DXInRefIdeal.nD,
      r.2.mem ((c.tc : Thread Cert.DXInRefIdeal.nD Cert.DXInRefIdeal.τ).loc Cert.DXInRefIdeal.main_arg0) = m ((c.tc : Thread Cert.DXInRefIdeal.nD Cert.DXInRefIdeal.τ).loc Cert.DXInRefIdeal.main_arg0)
      ∧ r.2.mem ((c.tc : Thread Cert.DXInRefIdeal.nD Cert.DXInRefIdeal.τ).loc Cert.DXInRefIdeal.main_arg1) = m ((c.tc : Thread Cert.DXInRefIdeal.nD Cert.DXInRefIdeal.τ).loc Cert.DXInRefIdeal.main_arg1)
      ∧ r.2.mem ((c.tc : Thread Cert.DXInRefIdeal.nD Cert.DXInRefIdeal.τ).loc Cert.DXInRefIdeal.main_arg2) = m ((c.tc : Thread Cert.DXInRefIdeal.nD Cert.DXInRefIdeal.τ).loc Cert.DXInRefIdeal.main_arg2)
      ∧ r.2.mem ((c.tc : Thread Cert.DXInRefIdeal.nD Cert.DXInRefIdeal.τ).loc Cert.DXInRefIdeal.main_arg3) = m ((c.tc : Thread Cert.DXInRefIdeal.nD Cert.DXInRefIdeal.τ).loc Cert.DXInRefIdeal.main_arg3)
      ∧ r.2.mem ((c.tc : Thread Cert.DXInRefIdeal.nD Cert.DXInRefIdeal.τ).loc Cert.DXInRefIdeal.main_arg4) = m ((c.tc : Thread Cert.DXInRefIdeal.nD Cert.DXInRefIdeal.τ).loc Cert.DXInRefIdeal.main_arg4)
      ∧ r.2.mem ((c.tc : Thread Cert.DXInRefIdeal.nD Cert.DXInRefIdeal.τ).loc Cert.DXInRefIdeal.main_arg5) = m ((c.tc : Thread Cert.DXInRefIdeal.nD Cert.DXInRefIdeal.τ).loc Cert.DXInRefIdeal.main_arg5)
      ∧ r.2.mem ((c.tc : Thread Cert.DXInRefIdeal.nD Cert.DXInRefIdeal.τ).loc Cert.DXInRefIdeal.main_arg6) = m ((c.tc : Thread Cert.DXInRefIdeal.nD Cert.DXInRefIdeal.τ).loc Cert.DXInRefIdeal.main_arg6)
      ∧ r.2.mem ((c.tc : Thread Cert.DXInRefIdeal.nD Cert.DXInRefIdeal.τ).loc Cert.DXInRefIdeal.main_arg7) = m ((c.tc : Thread Cert.DXInRefIdeal.nD Cert.DXInRefIdeal.τ).loc Cert.DXInRefIdeal.main_arg7)
      ∧ r.2.mem ((c.tc : Thread Cert.DXInRefIdeal.nD Cert.DXInRefIdeal.τ).loc Cert.DXInRefIdeal.main_arg8) = m ((c.tc : Thread Cert.DXInRefIdeal.nD Cert.DXInRefIdeal.τ).loc Cert.DXInRefIdeal.main_arg8))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsIdeal_pre_finite_rms [hRmsIdeal : Cert.RmsIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_finite_rms m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_finite_rms [hRmsRefIdeal : Cert.RmsRefIdeal.Facts] [hPre_finite_rms : Cert.Pre_finite_rms.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_finite_rms m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFIdeal_pre_finite_fwd [hAttnFIdeal : Cert.AttnFIdeal.Facts] [hPre_finite_fwd : Cert.Pre_finite_fwd.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_finite_fwd m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnFRefIdeal_pre_finite_fwd [hAttnFRefIdeal : Cert.AttnFRefIdeal.Facts] [hPre_finite_fwd : Cert.Pre_finite_fwd.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_finite_fwd m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ r.2.sem = fun _ => 0)

def quiescent_MixerIdeal_pre_finite_mixer [hMixerIdeal : Cert.MixerIdeal.Facts] [hPre_finite_mixer : Cert.Pre_finite_mixer.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_mixer m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5))
      ∧ r.2.sem = fun _ => 0)

def quiescent_MixerRefIdeal_pre_finite_mixer [hMixerRefIdeal : Cert.MixerRefIdeal.Facts] [hPre_finite_mixer : Cert.Pre_finite_mixer.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_mixer m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5))
      ∧ r.2.sem = fun _ => 0)

def preserves_Kernel_KernelIdeal : Prop :=
  IdealRules.named_const.Statement Cert.KernelIdeal.κ "dead" .f32 0x43000000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DUp_DUpIdeal : Prop :=
  True

def algebraic_DUpIdeal_DUpRefIdeal [hDUpIdeal : Cert.DUpIdeal.Facts] [hDUpRefIdeal : Cert.DUpRefIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpRefIdeal.nD Cert.DUpRefIdeal.τ Cert.DUpRefIdeal.sig) → Buf (Elt Ideal) ℓ) (g' : Dev Cert.DUpRefIdeal.nD → PrngReg), Pre_DUpIdeal m →
    (∀ c : Dev Cert.DUpIdeal.nD,
      m' ((c.tc : Thread Cert.DUpRefIdeal.nD Cert.DUpRefIdeal.τ).loc Cert.DUpRefIdeal.main_arg0) = m ((c.tc : Thread Cert.DUpIdeal.nD Cert.DUpIdeal.τ).loc Cert.DUpIdeal.main_arg0)
      ∧ m' ((c.tc : Thread Cert.DUpRefIdeal.nD Cert.DUpRefIdeal.τ).loc Cert.DUpRefIdeal.main_arg1) = m ((c.tc : Thread Cert.DUpIdeal.nD Cert.DUpIdeal.τ).loc Cert.DUpIdeal.main_arg1)
      ∧ m' ((c.tc : Thread Cert.DUpRefIdeal.nD Cert.DUpRefIdeal.τ).loc Cert.DUpRefIdeal.main_arg2) = m ((c.tc : Thread Cert.DUpIdeal.nD Cert.DUpIdeal.τ).loc Cert.DUpIdeal.main_arg2)) →
    ∃ (v0 : (c : Dev Cert.DUpIdeal.nD) → Buf (Elt Ideal) ((c.tc : Thread Cert.DUpIdeal.nD Cert.DUpIdeal.τ).loc Cert.DUpIdeal.main_v1)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v1) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
          ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2))
      ∧ θ_run (Cert.DUpRefIdeal.defs (F := Ideal)) (onTc (τ := Cert.DUpRefIdeal.τ) (Cert.DUpRefIdeal.main (F := Ideal))) ⟨m', fun _ => 0, g'⟩ (fun r => ∀ c : Dev Cert.DUpRefIdeal.nD,
          r.2.mem ((c.tc : Thread Cert.DUpRefIdeal.nD Cert.DUpRefIdeal.τ).loc Cert.DUpRefIdeal.main_v15) = v0 c
          ∧ r.2.mem ((c.tc : Thread Cert.DUpRefIdeal.nD Cert.DUpRefIdeal.τ).loc Cert.DUpRefIdeal.main_arg0) = m' ((c.tc : Thread Cert.DUpRefIdeal.nD Cert.DUpRefIdeal.τ).loc Cert.DUpRefIdeal.main_arg0)
          ∧ r.2.mem ((c.tc : Thread Cert.DUpRefIdeal.nD Cert.DUpRefIdeal.τ).loc Cert.DUpRefIdeal.main_arg1) = m' ((c.tc : Thread Cert.DUpRefIdeal.nD Cert.DUpRefIdeal.τ).loc Cert.DUpRefIdeal.main_arg1)
          ∧ r.2.mem ((c.tc : Thread Cert.DUpRefIdeal.nD Cert.DUpRefIdeal.τ).loc Cert.DUpRefIdeal.main_arg2) = m' ((c.tc : Thread Cert.DUpRefIdeal.nD Cert.DUpRefIdeal.τ).loc Cert.DUpRefIdeal.main_arg2))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v71) = v0 c
          ∧ r.2.mem ((c.tc : Thread Cert.LossRefIdeal.nD Cert.LossRefIdeal.τ).loc Cert.LossRefIdeal.main_v70) = v1 c
          ∧ r.2.mem ((c.tc : Thread Cert.LossRefIdeal.nD Cert.LossRefIdeal.τ).loc Cert.LossRefIdeal.main_v72) = v2 c
          ∧ r.2.mem ((c.tc : Thread Cert.LossRefIdeal.nD Cert.LossRefIdeal.τ).loc Cert.LossRefIdeal.main_v73) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_DXMid_DXMidIdeal : Prop :=
  True

def algebraic_DXMidIdeal_DXMidRefIdeal_pre_finite_dx1 [hDXMidIdeal : Cert.DXMidIdeal.Facts] [hDXMidRefIdeal : Cert.DXMidRefIdeal.Facts] [hPre_finite_dx1 : Cert.Pre_finite_dx1.Facts] : Prop :=
  ∀ (m : (ℓ : Loc Cert.DXMidIdeal.nD Cert.DXMidIdeal.τ Cert.DXMidIdeal.sig) → Buf (Elt Ideal) ℓ) (g : Dev Cert.DXMidIdeal.nD → PrngReg)
    (m' : (ℓ : Loc Cert.DXMidRefIdeal.nD Cert.DXMidRefIdeal.τ Cert.DXMidRefIdeal.sig) → Buf (Elt Ideal) ℓ) (g' : Dev Cert.DXMidRefIdeal.nD → PrngReg), Pre_DXMidIdeal_finite_dx1 m →
    (∀ c : Dev Cert.DXMidIdeal.nD,
      m' ((c.tc : Thread Cert.DXMidRefIdeal.nD Cert.DXMidRefIdeal.τ).loc Cert.DXMidRefIdeal.main_arg0) = m ((c.tc : Thread Cert.DXMidIdeal.nD Cert.DXMidIdeal.τ).loc Cert.DXMidIdeal.main_arg0)
      ∧ m' ((c.tc : Thread Cert.DXMidRefIdeal.nD Cert.DXMidRefIdeal.τ).loc Cert.DXMidRefIdeal.main_arg1) = m ((c.tc : Thread Cert.DXMidIdeal.nD Cert.DXMidIdeal.τ).loc Cert.DXMidIdeal.main_arg1)
      ∧ m' ((c.tc : Thread Cert.DXMidRefIdeal.nD Cert.DXMidRefIdeal.τ).loc Cert.DXMidRefIdeal.main_arg2) = m ((c.tc : Thread Cert.DXMidIdeal.nD Cert.DXMidIdeal.τ).loc Cert.DXMidIdeal.main_arg2)
      ∧ m' ((c.tc : Thread Cert.DXMidRefIdeal.nD Cert.DXMidRefIdeal.τ).loc Cert.DXMidRefIdeal.main_arg3) = m ((c.tc : Thread Cert.DXMidIdeal.nD Cert.DXMidIdeal.τ).loc Cert.DXMidIdeal.main_arg3)
      ∧ m' ((c.tc : Thread Cert.DXMidRefIdeal.nD Cert.DXMidRefIdeal.τ).loc Cert.DXMidRefIdeal.main_arg4) = m ((c.tc : Thread Cert.DXMidIdeal.nD Cert.DXMidIdeal.τ).loc Cert.DXMidIdeal.main_arg4)
      ∧ m' ((c.tc : Thread Cert.DXMidRefIdeal.nD Cert.DXMidRefIdeal.τ).loc Cert.DXMidRefIdeal.main_arg5) = m ((c.tc : Thread Cert.DXMidIdeal.nD Cert.DXMidIdeal.τ).loc Cert.DXMidIdeal.main_arg5)) →
    ∃ (v0 : (c : Dev Cert.DXMidIdeal.nD) → Buf (Elt Ideal) ((c.tc : Thread Cert.DXMidIdeal.nD Cert.DXMidIdeal.τ).loc Cert.DXMidIdeal.main_v3_0)) (v1 : (c : Dev Cert.DXMidIdeal.nD) → Buf (Elt Ideal) ((c.tc : Thread Cert.DXMidIdeal.nD Cert.DXMidIdeal.τ).loc Cert.DXMidIdeal.main_v3_1)) (v2 : (c : Dev Cert.DXMidIdeal.nD) → Buf (Elt Ideal) ((c.tc : Thread Cert.DXMidIdeal.nD Cert.DXMidIdeal.τ).loc Cert.DXMidIdeal.main_v3_2)),
      θ_run (Cert.DXMidIdeal.defs (F := Ideal)) (onTc (τ := Cert.DXMidIdeal.τ) (Cert.DXMidIdeal.main (F := Ideal))) ⟨m, fun _ => 0, g⟩ (fun r => ∀ c : Dev Cert.DXMidIdeal.nD,
          r.2.mem ((c.tc : Thread Cert.DXMidIdeal.nD Cert.DXMidIdeal.τ).loc Cert.DXMidIdeal.main_v3_0) = v0 c
          ∧ r.2.mem ((c.tc : Thread Cert.DXMidIdeal.nD Cert.DXMidIdeal.τ).loc Cert.DXMidIdeal.main_v3_1) = v1 c
          ∧ r.2.mem ((c.tc : Thread Cert.DXMidIdeal.nD Cert.DXMidIdeal.τ).loc Cert.DXMidIdeal.main_v3_2) = v2 c
          ∧ r.2.mem ((c.tc : Thread Cert.DXMidIdeal.nD Cert.DXMidIdeal.τ).loc Cert.DXMidIdeal.main_arg0) = m ((c.tc : Thread Cert.DXMidIdeal.nD Cert.DXMidIdeal.τ).loc Cert.DXMidIdeal.main_arg0)
          ∧ r.2.mem ((c.tc : Thread Cert.DXMidIdeal.nD Cert.DXMidIdeal.τ).loc Cert.DXMidIdeal.main_arg1) = m ((c.tc : Thread Cert.DXMidIdeal.nD Cert.DXMidIdeal.τ).loc Cert.DXMidIdeal.main_arg1)
          ∧ r.2.mem ((c.tc : Thread Cert.DXMidIdeal.nD Cert.DXMidIdeal.τ).loc Cert.DXMidIdeal.main_arg2) = m ((c.tc : Thread Cert.DXMidIdeal.nD Cert.DXMidIdeal.τ).loc Cert.DXMidIdeal.main_arg2)
          ∧ r.2.mem ((c.tc : Thread Cert.DXMidIdeal.nD Cert.DXMidIdeal.τ).loc Cert.DXMidIdeal.main_arg3) = m ((c.tc : Thread Cert.DXMidIdeal.nD Cert.DXMidIdeal.τ).loc Cert.DXMidIdeal.main_arg3)
          ∧ r.2.mem ((c.tc : Thread Cert.DXMidIdeal.nD Cert.DXMidIdeal.τ).loc Cert.DXMidIdeal.main_arg4) = m ((c.tc : Thread Cert.DXMidIdeal.nD Cert.DXMidIdeal.τ).loc Cert.DXMidIdeal.main_arg4)
          ∧ r.2.mem ((c.tc : Thread Cert.DXMidIdeal.nD Cert.DXMidIdeal.τ).loc Cert.DXMidIdeal.main_arg5) = m ((c.tc : Thread Cert.DXMidIdeal.nD Cert.DXMidIdeal.τ).loc Cert.DXMidIdeal.main_arg5))
      ∧ θ_run (Cert.DXMidRefIdeal.defs (F := Ideal)) (onTc (τ := Cert.DXMidRefIdeal.τ) (Cert.DXMidRefIdeal.main (F := Ideal))) ⟨m', fun _ => 0, g'⟩ (fun r => ∀ c : Dev Cert.DXMidRefIdeal.nD,
          r.2.mem ((c.tc : Thread Cert.DXMidRefIdeal.nD Cert.DXMidRefIdeal.τ).loc Cert.DXMidRefIdeal.main_v65) = v0 c
          ∧ r.2.mem ((c.tc : Thread Cert.DXMidRefIdeal.nD Cert.DXMidRefIdeal.τ).loc Cert.DXMidRefIdeal.main_v66) = v1 c
          ∧ r.2.mem ((c.tc : Thread Cert.DXMidRefIdeal.nD Cert.DXMidRefIdeal.τ).loc Cert.DXMidRefIdeal.main_v67) = v2 c
          ∧ r.2.mem ((c.tc : Thread Cert.DXMidRefIdeal.nD Cert.DXMidRefIdeal.τ).loc Cert.DXMidRefIdeal.main_arg0) = m' ((c.tc : Thread Cert.DXMidRefIdeal.nD Cert.DXMidRefIdeal.τ).loc Cert.DXMidRefIdeal.main_arg0)
          ∧ r.2.mem ((c.tc : Thread Cert.DXMidRefIdeal.nD Cert.DXMidRefIdeal.τ).loc Cert.DXMidRefIdeal.main_arg1) = m' ((c.tc : Thread Cert.DXMidRefIdeal.nD Cert.DXMidRefIdeal.τ).loc Cert.DXMidRefIdeal.main_arg1)
          ∧ r.2.mem ((c.tc : Thread Cert.DXMidRefIdeal.nD Cert.DXMidRefIdeal.τ).loc Cert.DXMidRefIdeal.main_arg2) = m' ((c.tc : Thread Cert.DXMidRefIdeal.nD Cert.DXMidRefIdeal.τ).loc Cert.DXMidRefIdeal.main_arg2)
          ∧ r.2.mem ((c.tc : Thread Cert.DXMidRefIdeal.nD Cert.DXMidRefIdeal.τ).loc Cert.DXMidRefIdeal.main_arg3) = m' ((c.tc : Thread Cert.DXMidRefIdeal.nD Cert.DXMidRefIdeal.τ).loc Cert.DXMidRefIdeal.main_arg3)
          ∧ r.2.mem ((c.tc : Thread Cert.DXMidRefIdeal.nD Cert.DXMidRefIdeal.τ).loc Cert.DXMidRefIdeal.main_arg4) = m' ((c.tc : Thread Cert.DXMidRefIdeal.nD Cert.DXMidRefIdeal.τ).loc Cert.DXMidRefIdeal.main_arg4)
          ∧ r.2.mem ((c.tc : Thread Cert.DXMidRefIdeal.nD Cert.DXMidRefIdeal.τ).loc Cert.DXMidRefIdeal.main_arg5) = m' ((c.tc : Thread Cert.DXMidRefIdeal.nD Cert.DXMidRefIdeal.τ).loc Cert.DXMidRefIdeal.main_arg5))

def preserves_DXIn_DXInIdeal : Prop :=
  True

def algebraic_DXInIdeal_DXInRefIdeal_pre_finite_dx [hDXInIdeal : Cert.DXInIdeal.Facts] [hDXInRefIdeal : Cert.DXInRefIdeal.Facts] [hPre_finite_dx : Cert.Pre_finite_dx.Facts] : Prop :=
  ∀ (m : (ℓ : Loc Cert.DXInIdeal.nD Cert.DXInIdeal.τ Cert.DXInIdeal.sig) → Buf (Elt Ideal) ℓ) (g : Dev Cert.DXInIdeal.nD → PrngReg)
    (m' : (ℓ : Loc Cert.DXInRefIdeal.nD Cert.DXInRefIdeal.τ Cert.DXInRefIdeal.sig) → Buf (Elt Ideal) ℓ) (g' : Dev Cert.DXInRefIdeal.nD → PrngReg), Pre_DXInIdeal_finite_dx m →
    (∀ c : Dev Cert.DXInIdeal.nD,
      m' ((c.tc : Thread Cert.DXInRefIdeal.nD Cert.DXInRefIdeal.τ).loc Cert.DXInRefIdeal.main_arg0) = m ((c.tc : Thread Cert.DXInIdeal.nD Cert.DXInIdeal.τ).loc Cert.DXInIdeal.main_arg0)
      ∧ m' ((c.tc : Thread Cert.DXInRefIdeal.nD Cert.DXInRefIdeal.τ).loc Cert.DXInRefIdeal.main_arg1) = m ((c.tc : Thread Cert.DXInIdeal.nD Cert.DXInIdeal.τ).loc Cert.DXInIdeal.main_arg1)
      ∧ m' ((c.tc : Thread Cert.DXInRefIdeal.nD Cert.DXInRefIdeal.τ).loc Cert.DXInRefIdeal.main_arg2) = m ((c.tc : Thread Cert.DXInIdeal.nD Cert.DXInIdeal.τ).loc Cert.DXInIdeal.main_arg2)
      ∧ m' ((c.tc : Thread Cert.DXInRefIdeal.nD Cert.DXInRefIdeal.τ).loc Cert.DXInRefIdeal.main_arg3) = m ((c.tc : Thread Cert.DXInIdeal.nD Cert.DXInIdeal.τ).loc Cert.DXInIdeal.main_arg3)
      ∧ m' ((c.tc : Thread Cert.DXInRefIdeal.nD Cert.DXInRefIdeal.τ).loc Cert.DXInRefIdeal.main_arg4) = m ((c.tc : Thread Cert.DXInIdeal.nD Cert.DXInIdeal.τ).loc Cert.DXInIdeal.main_arg4)
      ∧ m' ((c.tc : Thread Cert.DXInRefIdeal.nD Cert.DXInRefIdeal.τ).loc Cert.DXInRefIdeal.main_arg5) = m ((c.tc : Thread Cert.DXInIdeal.nD Cert.DXInIdeal.τ).loc Cert.DXInIdeal.main_arg5)
      ∧ m' ((c.tc : Thread Cert.DXInRefIdeal.nD Cert.DXInRefIdeal.τ).loc Cert.DXInRefIdeal.main_arg6) = m ((c.tc : Thread Cert.DXInIdeal.nD Cert.DXInIdeal.τ).loc Cert.DXInIdeal.main_arg6)
      ∧ m' ((c.tc : Thread Cert.DXInRefIdeal.nD Cert.DXInRefIdeal.τ).loc Cert.DXInRefIdeal.main_arg7) = m ((c.tc : Thread Cert.DXInIdeal.nD Cert.DXInIdeal.τ).loc Cert.DXInIdeal.main_arg7)
      ∧ m' ((c.tc : Thread Cert.DXInRefIdeal.nD Cert.DXInRefIdeal.τ).loc Cert.DXInRefIdeal.main_arg8) = m ((c.tc : Thread Cert.DXInIdeal.nD Cert.DXInIdeal.τ).loc Cert.DXInIdeal.main_arg8)) →
    ∃ (v0 : (c : Dev Cert.DXInIdeal.nD) → Buf (Elt Ideal) ((c.tc : Thread Cert.DXInIdeal.nD Cert.DXInIdeal.τ).loc Cert.DXInIdeal.main_v3_0)) (v1 : (c : Dev Cert.DXInIdeal.nD) → Buf (Elt Ideal) ((c.tc : Thread Cert.DXInIdeal.nD Cert.DXInIdeal.τ).loc Cert.DXInIdeal.main_v3_1)) (v2 : (c : Dev Cert.DXInIdeal.nD) → Buf (Elt Ideal) ((c.tc : Thread Cert.DXInIdeal.nD Cert.DXInIdeal.τ).loc Cert.DXInIdeal.main_v3_2)),
      θ_run (Cert.DXInIdeal.defs (F := Ideal)) (onTc (τ := Cert.DXInIdeal.τ) (Cert.DXInIdeal.main (F := Ideal))) ⟨m, fun _ => 0, g⟩ (fun r => ∀ c : Dev Cert.DXInIdeal.nD,
          r.2.mem ((c.tc : Thread Cert.DXInIdeal.nD Cert.DXInIdeal.τ).loc Cert.DXInIdeal.main_v3_0) = v0 c
          ∧ r.2.mem ((c.tc : Thread Cert.DXInIdeal.nD Cert.DXInIdeal.τ).loc Cert.DXInIdeal.main_v3_1) = v1 c
          ∧ r.2.mem ((c.tc : Thread Cert.DXInIdeal.nD Cert.DXInIdeal.τ).loc Cert.DXInIdeal.main_v3_2) = v2 c
          ∧ r.2.mem ((c.tc : Thread Cert.DXInIdeal.nD Cert.DXInIdeal.τ).loc Cert.DXInIdeal.main_arg0) = m ((c.tc : Thread Cert.DXInIdeal.nD Cert.DXInIdeal.τ).loc Cert.DXInIdeal.main_arg0)
          ∧ r.2.mem ((c.tc : Thread Cert.DXInIdeal.nD Cert.DXInIdeal.τ).loc Cert.DXInIdeal.main_arg1) = m ((c.tc : Thread Cert.DXInIdeal.nD Cert.DXInIdeal.τ).loc Cert.DXInIdeal.main_arg1)
          ∧ r.2.mem ((c.tc : Thread Cert.DXInIdeal.nD Cert.DXInIdeal.τ).loc Cert.DXInIdeal.main_arg2) = m ((c.tc : Thread Cert.DXInIdeal.nD Cert.DXInIdeal.τ).loc Cert.DXInIdeal.main_arg2)
          ∧ r.2.mem ((c.tc : Thread Cert.DXInIdeal.nD Cert.DXInIdeal.τ).loc Cert.DXInIdeal.main_arg3) = m ((c.tc : Thread Cert.DXInIdeal.nD Cert.DXInIdeal.τ).loc Cert.DXInIdeal.main_arg3)
          ∧ r.2.mem ((c.tc : Thread Cert.DXInIdeal.nD Cert.DXInIdeal.τ).loc Cert.DXInIdeal.main_arg4) = m ((c.tc : Thread Cert.DXInIdeal.nD Cert.DXInIdeal.τ).loc Cert.DXInIdeal.main_arg4)
          ∧ r.2.mem ((c.tc : Thread Cert.DXInIdeal.nD Cert.DXInIdeal.τ).loc Cert.DXInIdeal.main_arg5) = m ((c.tc : Thread Cert.DXInIdeal.nD Cert.DXInIdeal.τ).loc Cert.DXInIdeal.main_arg5)
          ∧ r.2.mem ((c.tc : Thread Cert.DXInIdeal.nD Cert.DXInIdeal.τ).loc Cert.DXInIdeal.main_arg6) = m ((c.tc : Thread Cert.DXInIdeal.nD Cert.DXInIdeal.τ).loc Cert.DXInIdeal.main_arg6)
          ∧ r.2.mem ((c.tc : Thread Cert.DXInIdeal.nD Cert.DXInIdeal.τ).loc Cert.DXInIdeal.main_arg7) = m ((c.tc : Thread Cert.DXInIdeal.nD Cert.DXInIdeal.τ).loc Cert.DXInIdeal.main_arg7)
          ∧ r.2.mem ((c.tc : Thread Cert.DXInIdeal.nD Cert.DXInIdeal.τ).loc Cert.DXInIdeal.main_arg8) = m ((c.tc : Thread Cert.DXInIdeal.nD Cert.DXInIdeal.τ).loc Cert.DXInIdeal.main_arg8))
      ∧ θ_run (Cert.DXInRefIdeal.defs (F := Ideal)) (onTc (τ := Cert.DXInRefIdeal.τ) (Cert.DXInRefIdeal.main (F := Ideal))) ⟨m', fun _ => 0, g'⟩ (fun r => ∀ c : Dev Cert.DXInRefIdeal.nD,
          r.2.mem ((c.tc : Thread Cert.DXInRefIdeal.nD Cert.DXInRefIdeal.τ).loc Cert.DXInRefIdeal.main_v69) = v0 c
          ∧ r.2.mem ((c.tc : Thread Cert.DXInRefIdeal.nD Cert.DXInRefIdeal.τ).loc Cert.DXInRefIdeal.main_v70) = v1 c
          ∧ r.2.mem ((c.tc : Thread Cert.DXInRefIdeal.nD Cert.DXInRefIdeal.τ).loc Cert.DXInRefIdeal.main_v71) = v2 c
          ∧ r.2.mem ((c.tc : Thread Cert.DXInRefIdeal.nD Cert.DXInRefIdeal.τ).loc Cert.DXInRefIdeal.main_arg0) = m' ((c.tc : Thread Cert.DXInRefIdeal.nD Cert.DXInRefIdeal.τ).loc Cert.DXInRefIdeal.main_arg0)
          ∧ r.2.mem ((c.tc : Thread Cert.DXInRefIdeal.nD Cert.DXInRefIdeal.τ).loc Cert.DXInRefIdeal.main_arg1) = m' ((c.tc : Thread Cert.DXInRefIdeal.nD Cert.DXInRefIdeal.τ).loc Cert.DXInRefIdeal.main_arg1)
          ∧ r.2.mem ((c.tc : Thread Cert.DXInRefIdeal.nD Cert.DXInRefIdeal.τ).loc Cert.DXInRefIdeal.main_arg2) = m' ((c.tc : Thread Cert.DXInRefIdeal.nD Cert.DXInRefIdeal.τ).loc Cert.DXInRefIdeal.main_arg2)
          ∧ r.2.mem ((c.tc : Thread Cert.DXInRefIdeal.nD Cert.DXInRefIdeal.τ).loc Cert.DXInRefIdeal.main_arg3) = m' ((c.tc : Thread Cert.DXInRefIdeal.nD Cert.DXInRefIdeal.τ).loc Cert.DXInRefIdeal.main_arg3)
          ∧ r.2.mem ((c.tc : Thread Cert.DXInRefIdeal.nD Cert.DXInRefIdeal.τ).loc Cert.DXInRefIdeal.main_arg4) = m' ((c.tc : Thread Cert.DXInRefIdeal.nD Cert.DXInRefIdeal.τ).loc Cert.DXInRefIdeal.main_arg4)
          ∧ r.2.mem ((c.tc : Thread Cert.DXInRefIdeal.nD Cert.DXInRefIdeal.τ).loc Cert.DXInRefIdeal.main_arg5) = m' ((c.tc : Thread Cert.DXInRefIdeal.nD Cert.DXInRefIdeal.τ).loc Cert.DXInRefIdeal.main_arg5)
          ∧ r.2.mem ((c.tc : Thread Cert.DXInRefIdeal.nD Cert.DXInRefIdeal.τ).loc Cert.DXInRefIdeal.main_arg6) = m' ((c.tc : Thread Cert.DXInRefIdeal.nD Cert.DXInRefIdeal.τ).loc Cert.DXInRefIdeal.main_arg6)
          ∧ r.2.mem ((c.tc : Thread Cert.DXInRefIdeal.nD Cert.DXInRefIdeal.τ).loc Cert.DXInRefIdeal.main_arg7) = m' ((c.tc : Thread Cert.DXInRefIdeal.nD Cert.DXInRefIdeal.τ).loc Cert.DXInRefIdeal.main_arg7)
          ∧ r.2.mem ((c.tc : Thread Cert.DXInRefIdeal.nD Cert.DXInRefIdeal.τ).loc Cert.DXInRefIdeal.main_arg8) = m' ((c.tc : Thread Cert.DXInRefIdeal.nD Cert.DXInRefIdeal.τ).loc Cert.DXInRefIdeal.main_arg8))

def preserves_Rms_RmsIdeal : Prop :=
  True

def algebraic_RmsIdeal_RmsRefIdeal_pre_finite_rms [hRmsIdeal : Cert.RmsIdeal.Facts] [hRmsRefIdeal : Cert.RmsRefIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_finite_rms m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v23_0)) (v1 : (c : Dev Cert.RmsIdeal.nD) → Buf (Elt Ideal) ((c.tc : Thread Cert.RmsIdeal.nD Cert.RmsIdeal.τ).loc Cert.RmsIdeal.main_v23_1)) (v2 : (c : Dev Cert.RmsIdeal.nD) → Buf (Elt Ideal) ((c.tc : Thread Cert.RmsIdeal.nD Cert.RmsIdeal.τ).loc Cert.RmsIdeal.main_v23_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v23_0) = v0 c
          ∧ r.2.mem ((c.tc : Thread Cert.RmsIdeal.nD Cert.RmsIdeal.τ).loc Cert.RmsIdeal.main_v23_1) = v1 c
          ∧ r.2.mem ((c.tc : Thread Cert.RmsIdeal.nD Cert.RmsIdeal.τ).loc Cert.RmsIdeal.main_v23_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v43) = v0 c
          ∧ r.2.mem ((c.tc : Thread Cert.RmsRefIdeal.nD Cert.RmsRefIdeal.τ).loc Cert.RmsRefIdeal.main_v42) = v1 c
          ∧ r.2.mem ((c.tc : Thread Cert.RmsRefIdeal.nD Cert.RmsRefIdeal.τ).loc Cert.RmsRefIdeal.main_v44) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_AttnF_AttnFIdeal : Prop :=
  IdealRules.named_const.Statement Cert.AttnFIdeal.κ "alive" .f32 0x43000000#32 ⊤

def algebraic_AttnFIdeal_AttnFRefIdeal_pre_finite_fwd [hAttnFIdeal : Cert.AttnFIdeal.Facts] [hAttnFRefIdeal : Cert.AttnFRefIdeal.Facts] [hPre_finite_fwd : Cert.Pre_finite_fwd.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_finite_fwd m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v9_0)) (v1 : (c : Dev Cert.AttnFIdeal.nD) → Buf (Elt Ideal) ((c.tc : Thread Cert.AttnFIdeal.nD Cert.AttnFIdeal.τ).loc Cert.AttnFIdeal.main_v9_1)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v9_0) = v0 c
          ∧ r.2.mem ((c.tc : Thread Cert.AttnFIdeal.nD Cert.AttnFIdeal.τ).loc Cert.AttnFIdeal.main_v9_1) = v1 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v58) = v0 c
          ∧ r.2.mem ((c.tc : Thread Cert.AttnFRefIdeal.nD Cert.AttnFRefIdeal.τ).loc Cert.AttnFRefIdeal.main_v60) = v1 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v3_0)) (v1 : (c : Dev Cert.FfnDownIdeal.nD) → Buf (Elt Ideal) ((c.tc : Thread Cert.FfnDownIdeal.nD Cert.FfnDownIdeal.τ).loc Cert.FfnDownIdeal.main_v3_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3_0) = v0 c
          ∧ r.2.mem ((c.tc : Thread Cert.FfnDownIdeal.nD Cert.FfnDownIdeal.τ).loc Cert.FfnDownIdeal.main_v3_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v6) = v0 c
          ∧ r.2.mem ((c.tc : Thread Cert.FfnDownRefIdeal.nD Cert.FfnDownRefIdeal.τ).loc Cert.FfnDownRefIdeal.main_v28) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v26) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Mixer_MixerIdeal : Prop :=
  True

def algebraic_MixerIdeal_MixerRefIdeal_pre_finite_mixer [hMixerIdeal : Cert.MixerIdeal.Facts] [hMixerRefIdeal : Cert.MixerRefIdeal.Facts] [hPre_finite_mixer : Cert.Pre_finite_mixer.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_mixer m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)) →
    ∃ (v0 : (c : Dev Cert.MixerIdeal.nD) → Buf (Elt Ideal) ((c.tc : Thread Cert.MixerIdeal.nD Cert.MixerIdeal.τ).loc Cert.MixerIdeal.main_v40_0)) (v1 : (c : Dev Cert.MixerIdeal.nD) → Buf (Elt Ideal) ((c.tc : Thread Cert.MixerIdeal.nD Cert.MixerIdeal.τ).loc Cert.MixerIdeal.main_v40_1)) (v2 : (c : Dev Cert.MixerIdeal.nD) → Buf (Elt Ideal) ((c.tc : Thread Cert.MixerIdeal.nD Cert.MixerIdeal.τ).loc Cert.MixerIdeal.main_v40_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v40_0) = v0 c
          ∧ r.2.mem ((c.tc : Thread Cert.MixerIdeal.nD Cert.MixerIdeal.τ).loc Cert.MixerIdeal.main_v40_1) = v1 c
          ∧ r.2.mem ((c.tc : Thread Cert.MixerIdeal.nD Cert.MixerIdeal.τ).loc Cert.MixerIdeal.main_v40_2) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v162) = v0 c
          ∧ r.2.mem ((c.tc : Thread Cert.MixerRefIdeal.nD Cert.MixerRefIdeal.τ).loc Cert.MixerRefIdeal.main_v189) = v1 c
          ∧ r.2.mem ((c.tc : Thread Cert.MixerRefIdeal.nD Cert.MixerRefIdeal.τ).loc Cert.MixerRefIdeal.main_v190) = v2 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5))

def Claim : Prop :=
  ∃ (hKernel : Cert.Kernel.Facts) (hKernelIdeal : Cert.KernelIdeal.Facts) (hReferenceIdeal : Cert.ReferenceIdeal.Facts) (hDUp : Cert.DUp.Facts) (hDUpIdeal : Cert.DUpIdeal.Facts) (hDUpRefIdeal : Cert.DUpRefIdeal.Facts) (hLoss : Cert.Loss.Facts) (hLossIdeal : Cert.LossIdeal.Facts) (hLossRefIdeal : Cert.LossRefIdeal.Facts) (hDXMid : Cert.DXMid.Facts) (hDXMidIdeal : Cert.DXMidIdeal.Facts) (hDXMidRefIdeal : Cert.DXMidRefIdeal.Facts) (hDXIn : Cert.DXIn.Facts) (hDXInIdeal : Cert.DXInIdeal.Facts) (hDXInRefIdeal : Cert.DXInRefIdeal.Facts) (hRms : Cert.Rms.Facts) (hRmsIdeal : Cert.RmsIdeal.Facts) (hRmsRefIdeal : Cert.RmsRefIdeal.Facts) (hAttnF : Cert.AttnF.Facts) (hAttnFIdeal : Cert.AttnFIdeal.Facts) (hAttnFRefIdeal : Cert.AttnFRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hMixer : Cert.Mixer.Facts) (hMixerIdeal : Cert.MixerIdeal.Facts) (hMixerRefIdeal : Cert.MixerRefIdeal.Facts) (hPre_finite : Cert.Pre_finite.Facts) (hPre_finite_loss : Cert.Pre_finite_loss.Facts) (hPre_finite_dx1 : Cert.Pre_finite_dx1.Facts) (hPre_finite_dx : Cert.Pre_finite_dx.Facts) (hPre_finite_rms : Cert.Pre_finite_rms.Facts) (hPre_finite_fwd : Cert.Pre_finite_fwd.Facts) (hPre_finite_mixer : Cert.Pre_finite_mixer.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DUp (hDUp := hDUp)
    ∧ quiescent_DUpIdeal (hDUpIdeal := hDUpIdeal)
    ∧ quiescent_DUpRefIdeal (hDUpRefIdeal := hDUpRefIdeal)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_DXMid (hDXMid := hDXMid)
    ∧ quiescent_DXMidIdeal (hDXMidIdeal := hDXMidIdeal)
    ∧ quiescent_DXMidIdeal_pre_finite_dx1 (hDXMidIdeal := hDXMidIdeal) (hPre_finite_dx1 := hPre_finite_dx1)
    ∧ quiescent_DXMidRefIdeal (hDXMidRefIdeal := hDXMidRefIdeal)
    ∧ quiescent_DXMidRefIdeal_pre_finite_dx1 (hDXMidRefIdeal := hDXMidRefIdeal) (hPre_finite_dx1 := hPre_finite_dx1)
    ∧ quiescent_DXIn (hDXIn := hDXIn)
    ∧ quiescent_DXInIdeal (hDXInIdeal := hDXInIdeal)
    ∧ quiescent_DXInIdeal_pre_finite_dx (hDXInIdeal := hDXInIdeal) (hPre_finite_dx := hPre_finite_dx)
    ∧ quiescent_DXInRefIdeal (hDXInRefIdeal := hDXInRefIdeal)
    ∧ quiescent_DXInRefIdeal_pre_finite_dx (hDXInRefIdeal := hDXInRefIdeal) (hPre_finite_dx := hPre_finite_dx)
    ∧ quiescent_Rms (hRms := hRms)
    ∧ quiescent_RmsIdeal (hRmsIdeal := hRmsIdeal)
    ∧ quiescent_RmsIdeal_pre_finite_rms (hRmsIdeal := hRmsIdeal) (hPre_finite_rms := hPre_finite_rms)
    ∧ quiescent_RmsRefIdeal (hRmsRefIdeal := hRmsRefIdeal)
    ∧ quiescent_RmsRefIdeal_pre_finite_rms (hRmsRefIdeal := hRmsRefIdeal) (hPre_finite_rms := hPre_finite_rms)
    ∧ quiescent_AttnF (hAttnF := hAttnF)
    ∧ quiescent_AttnFIdeal (hAttnFIdeal := hAttnFIdeal)
    ∧ quiescent_AttnFIdeal_pre_finite_fwd (hAttnFIdeal := hAttnFIdeal) (hPre_finite_fwd := hPre_finite_fwd)
    ∧ quiescent_AttnFRefIdeal (hAttnFRefIdeal := hAttnFRefIdeal)
    ∧ quiescent_AttnFRefIdeal_pre_finite_fwd (hAttnFRefIdeal := hAttnFRefIdeal) (hPre_finite_fwd := hPre_finite_fwd)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Mixer (hMixer := hMixer)
    ∧ quiescent_MixerIdeal (hMixerIdeal := hMixerIdeal)
    ∧ quiescent_MixerIdeal_pre_finite_mixer (hMixerIdeal := hMixerIdeal) (hPre_finite_mixer := hPre_finite_mixer)
    ∧ quiescent_MixerRefIdeal (hMixerRefIdeal := hMixerRefIdeal)
    ∧ quiescent_MixerRefIdeal_pre_finite_mixer (hMixerRefIdeal := hMixerRefIdeal) (hPre_finite_mixer := hPre_finite_mixer)
    ∧ preserves_Kernel_KernelIdeal
    ∧ algebraic_KernelIdeal_ReferenceIdeal_pre_finite (hKernelIdeal := hKernelIdeal) (hReferenceIdeal := hReferenceIdeal) (hPre_finite := hPre_finite)
    ∧ preserves_DUp_DUpIdeal
    ∧ algebraic_DUpIdeal_DUpRefIdeal (hDUpIdeal := hDUpIdeal) (hDUpRefIdeal := hDUpRefIdeal)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_DXMid_DXMidIdeal
    ∧ algebraic_DXMidIdeal_DXMidRefIdeal_pre_finite_dx1 (hDXMidIdeal := hDXMidIdeal) (hDXMidRefIdeal := hDXMidRefIdeal) (hPre_finite_dx1 := hPre_finite_dx1)
    ∧ preserves_DXIn_DXInIdeal
    ∧ algebraic_DXInIdeal_DXInRefIdeal_pre_finite_dx (hDXInIdeal := hDXInIdeal) (hDXInRefIdeal := hDXInRefIdeal) (hPre_finite_dx := hPre_finite_dx)
    ∧ preserves_Rms_RmsIdeal
    ∧ algebraic_RmsIdeal_RmsRefIdeal_pre_finite_rms (hRmsIdeal := hRmsIdeal) (hRmsRefIdeal := hRmsRefIdeal) (hPre_finite_rms := hPre_finite_rms)
    ∧ preserves_AttnF_AttnFIdeal
    ∧ algebraic_AttnFIdeal_AttnFRefIdeal_pre_finite_fwd (hAttnFIdeal := hAttnFIdeal) (hAttnFRefIdeal := hAttnFRefIdeal) (hPre_finite_fwd := hPre_finite_fwd)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_Mixer_MixerIdeal
    ∧ algebraic_MixerIdeal_MixerRefIdeal_pre_finite_mixer (hMixerIdeal := hMixerIdeal) (hMixerRefIdeal := hMixerRefIdeal) (hPre_finite_mixer := hPre_finite_mixer)
-- ==== Pre_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) (main_arg3 : FVec F S8192x512 .f32) : IVec S8192x512 1 × IVec S8192x512 1 × IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_finite_dx.lean ====
abbrev S8192x1024 : Shape := ⟨2, ![8192, 1024]⟩
abbrev S1024 : Shape := ⟨1, ![1024]⟩
abbrev S1024x2560 : Shape := ⟨2, ![1024, 2560]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024 : S_.BroadcastsInDim S1024 (![] : Fin 0 → Fin S1024.rank)
  bcast_S_S1024x2560 : S_.BroadcastsInDim S1024x2560 (![] : Fin 0 → Fin S1024x2560.rank)
  bcast_S_S8192x512 : S_.BroadcastsInDim S8192x512 (![] : Fin 0 → Fin S8192x512.rank)

variable [Facts]

def fn_part1 {F : FTy → Type} [FloatOps F] (main_arg8 : FVec F S8192x1024 .f32) (main_v2 : FVec F S8192x512 .f32) (main_v3 : FVec F S8192x1024 .f32) (main_v6 : IVec S8192x1024 1) (main_v9 : IVec S1024 1) (main_v12 : IVec S1024x2560 1) (main_v15 : IVec S8192x512 1) (main_v18 : IVec S8192x512 1) : IVec S8192x1024 1 × IVec S1024 1 × IVec S1024x2560 1 × IVec S8192x512 1 × IVec S8192x512 1 × IVec S8192x512 1 × IVec S8192x1024 1 × IVec S8192x1024 1 :=
  let main_v19 : FVec F S8192x512 .f32 := Host.absf main_v2
  let main_cst_4 : FVec F S_ .f32 := constant S_ .f32 0x7F800000#32
  let main_v20 : FVec F S8192x512 .f32 := broadcastInDim S8192x512 ![] bcast_S_S8192x512 main_cst_4
  let main_v21 : IVec S8192x512 1 := cmpf .olt main_v19 main_v20
  let main_v22 : FVec F S8192x1024 .f32 := Host.absf main_v3
  let main_cst_5 : FVec F S_ .f32 := constant S_ .f32 0x7F800000#32
  let main_v23 : FVec F S8192x1024 .f32 := broadcastInDim S8192x1024 ![] bcast_S_S8192x1024 main_cst_5
  let main_v24 : IVec S8192x1024 1 := cmpf .olt main_v22 main_v23
  let main_v25 : FVec F S8192x1024 .f32 := Host.absf main_arg8
  let main_cst_6 : FVec F S_ .f32 := constant S_ .f32 0x7F800000#32
  let main_v26 : FVec F S8192x1024 .f32 := broadcastInDim S8192x1024 ![] bcast_S_S8192x1024 main_cst_6
  let main_v27 : IVec S8192x1024 1 := cmpf .olt main_v25 main_v26
  (main_v6, main_v9, main_v12, main_v15, main_v18, main_v21, main_v24, main_v27)

def fn {F : FTy → Type} [FloatOps F] (main_arg0 : FVec F S8192x1024 .f32) (main_arg1 : FVec F S1024 .f32) (main_arg2 : FVec F S1024 .f32) (main_arg3 : FVec F S1024x2560 .f32) (main_arg4 : FVec F S8192x512 .bf16) (main_arg5 : FVec F S8192x512 .bf16) (main_arg6 : FVec F S8192x512 .bf16) (main_arg7 : FVec F S8192x1024 .bf16) (main_arg8 : FVec F S8192x1024 .f32) : IVec S8192x1024 1 × IVec S1024 1 × IVec S1024x2560 1 × IVec S8192x512 1 × IVec S8192x512 1 × IVec S8192x512 1 × IVec S8192x1024 1 × IVec S8192x1024 1 :=
  let main_v0 : FVec F S8192x512 .f32 := (extf .f32 · bitsLt_bf16_f32) main_arg4
  let main_v1 : FVec F S8192x512 .f32 := (extf .f32 · bitsLt_bf16_f32) main_arg5
  let main_v2 : FVec F S8192x512 .f32 := (extf .f32 · bitsLt_bf16_f32) main_arg6
  let main_v3 : FVec F S8192x1024 .f32 := (extf .f32 · bitsLt_bf16_f32) main_arg7
  let main_v4 : FVec F S8192x1024 .f32 := Host.absf main_arg0
  let main_cst : FVec F S_ .f32 := constant S_ .f32 0x7F800000#32
  let main_v5 : FVec F S8192x1024 .f32 := broadcastInDim S8192x1024 ![] bcast_S_S8192x1024 main_cst
  let main_v6 : IVec S8192x1024 1 := cmpf .olt main_v4 main_v5
  let main_v7 : FVec F S1024 .f32 := Host.absf main_arg1
  let main_cst_0 : FVec F S_ .f32 := constant S_ .f32 0x7F800000#32
  let main_v8 : FVec F S1024 .f32 := broadcastInDim S1024 ![] bcast_S_S1024 main_cst_0
  let main_v9 : IVec S1024 1 := cmpf .olt main_v7 main_v8
  let main_v10 : FVec F S1024x2560 .f32 := Host.absf main_arg3
  let main_cst_1 : FVec F S_ .f32 := constant S_ .f32 0x7F800000#32
  let main_v11 : FVec F S1024x2560 .f32 := broadcastInDim S1024x2560 ![] bcast_S_S1024x2560 main_cst_1
  let main_v12 : IVec S1024x2560 1 := cmpf .olt main_v10 main_v11
  let main_v13 : FVec F S8192x512 .f32 := Host.absf main_v0
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  let main_v16 : FVec F S8192x512 .f32 := Host.absf main_v1
  let main_cst_3 : FVec F S_ .f32 := constant S_ .f32 0x7F800000#32
  let main_v17 : FVec F S8192x512 .f32 := broadcastInDim S8192x512 ![] bcast_S_S8192x512 main_cst_3
  let main_v18 : IVec S8192x512 1 := cmpf .olt main_v16 main_v17
  fn_part1 (F := F) main_arg8 main_v2 main_v3 main_v6 main_v9 main_v12 main_v15 main_v18
-- ==== Pre_finite_dx1.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1024 .f32) (main_arg2 : FVec F S1024 .f32) (main_arg3 : FVec F S1024x4096 .f32) (main_arg4 : FVec F S8192x4096 .bf16) (main_arg5 : FVec F S8192x1024 .f32) : IVec S8192x1024 1 × IVec S1024 1 × IVec S1024x4096 1 × IVec S8192x4096 1 × IVec S8192x1024 1 :=
  let main_v0 : FVec F S8192x4096 .f32 := (extf .f32 · bitsLt_bf16_f32) main_arg4
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x4096 .f32 := Host.absf main_arg3
  let main_cst_1 : FVec F S_ .f32 := constant S_ .f32 0x7F800000#32
  let main_v8 : FVec F S1024x4096 .f32 := broadcastInDim S1024x4096 ![] bcast_S_S1024x4096 main_cst_1
  let main_v9 : IVec S1024x4096 1 := cmpf .olt main_v7 main_v8
  let main_v10 : FVec F S8192x4096 .f32 := Host.absf main_v0
  let main_cst_2 : FVec F S_ .f32 := constant S_ .f32 0x7F800000#32
  let main_v11 : FVec F S8192x4096 .f32 := broadcastInDim S8192x4096 ![] bcast_S_S8192x4096 main_cst_2
  let main_v12 : IVec S8192x4096 1 := cmpf .olt main_v10 main_v11
  let main_v13 : FVec F S8192x1024 .f32 := Host.absf main_arg5
  let main_cst_3 : FVec F S_ .f32 := constant S_ .f32 0x7F800000#32
  let main_v14 : FVec F S8192x1024 .f32 := broadcastInDim S8192x1024 ![] bcast_S_S8192x1024 main_cst_3
  let main_v15 : IVec S8192x1024 1 := cmpf .olt main_v13 main_v14
  (main_v3, main_v6, main_v9, main_v12, main_v15)
-- ==== Pre_finite_fwd.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) : IVec S8192x512 1 × IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S1024 .f32) (main_arg3 : FVec F S8192x1024 .f32) : IVec S8192x1024 1 × IVec S1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_mixer.lean ====
abbrev S8192x1024 : Shape := ⟨2, ![8192, 1024]⟩
abbrev S8192x512 : Shape := ⟨2, ![8192, 512]⟩
abbrev S3x256 : Shape := ⟨2, ![3, 256]⟩
abbrev S4x64x64 : Shape := ⟨3, ![4, 64, 64]⟩
abbrev S256 : Shape := ⟨1, ![256]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S3x256 : S_.BroadcastsInDim S3x256 (![] : Fin 0 → Fin S3x256.rank)
  bcast_S_S4x64x64 : S_.BroadcastsInDim S4x64x64 (![] : Fin 0 → Fin S4x64x64.rank)
  bcast_S_S256 : S_.BroadcastsInDim S256 (![] : Fin 0 → Fin S256.rank)
  bcast_S_S1024 : S_.BroadcastsInDim S1024 (![] : Fin 0 → Fin S1024.rank)

variable [Facts]

def fn {F : FTy → Type} [FloatOps F] (main_arg0 : FVec F S8192x1024 .f32) (main_arg1 : FVec F S8192x512 .f32) (main_arg2 : FVec F S3x256 .f32) (main_arg3 : FVec F S4x64x64 .f32) (main_arg4 : FVec F S256 .f32) (main_arg5 : FVec F S1024 .f32) : IVec S8192x1024 1 × IVec S8192x512 1 × IVec S3x256 1 × IVec S4x64x64 1 × IVec S256 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S3x256 .f32 := Host.absf main_arg2
  let main_cst_1 : FVec F S_ .f32 := constant S_ .f32 0x7F800000#32
  let main_v7 : FVec F S3x256 .f32 := broadcastInDim S3x256 ![] bcast_S_S3x256 main_cst_1
  let main_v8 : IVec S3x256 1 := cmpf .olt main_v6 main_v7
  let main_v9 : FVec F S4x64x64 .f32 := Host.absf main_arg3
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_rms.lean ====
abbrev S8192x512 : Shape := ⟨2, ![8192, 512]⟩
abbrev S1024 : Shape := ⟨1, ![1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S1024 : S_.BroadcastsInDim S1024 (![] : Fin 0 → Fin S1024.rank)
  bcast_S_S8192x1024 : S_.BroadcastsInDim S8192x1024 (![] : Fin 0 → Fin S8192x1024.rank)

variable [Facts]

def fn {F : FTy → Type} [FloatOps F] (main_arg0 : FVec F S8192x512 .f32) (main_arg1 : FVec F S8192x512 .f32) (main_arg2 : FVec F S1024 .f32) (main_arg3 : FVec F S8192x1024 .f32) : IVec S8192x512 1 × IVec S8192x512 1 × IVec S1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Kernel.lean ====
abbrev S8192x512 : Shape := ⟨2, ![8192, 512]⟩
abbrev S_ : Shape := ⟨0, ![]⟩
abbrev S256x256 : Shape := ⟨2, ![256, 256]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x32x256 : Shape := ⟨4, ![8, 8192, 32, 256]⟩
abbrev S8x8192x32 : Shape := ⟨3, ![8, 8192, 32]⟩
abbrev S8x8192x31 : Shape := ⟨3, ![8, 8192, 31]⟩
abbrev S8x8192x1 : Shape := ⟨3, ![8, 8192, 1]⟩
abbrev S8x8192x96 : Shape := ⟨3, ![8, 8192, 96]⟩
abbrev S8x8192x128 : Shape := ⟨3, ![8, 8192, 128]⟩
abbrev S256x128 : Shape := ⟨2, ![256, 128]⟩
abbrev S8192x128 : Shape := ⟨2, ![8192, 128]⟩
abbrev S2x256x128 : Shape := ⟨3, ![2, 256, 128]⟩
abbrev S32x128x256 : Shape := ⟨3, ![32, 128, 256]⟩
abbrev S1x256x128 : Shape := ⟨3, ![1, 256, 128]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S256x1 : Shape := ⟨2, ![256, 1]⟩
abbrev S256 : Shape := ⟨1, ![256]⟩
abbrev S1x128x256 : Shape := ⟨3, ![1, 128, 256]⟩
abbrev S128x256 : Shape := ⟨2, ![128, 256]⟩

abbrev nBuf : Space → Nat
  | .hbm => 61
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S256x256, .bf16⟩
  | .hbm, ⟨14, _⟩ => ⟨S256x256, .i1⟩
  | .hbm, ⟨15, _⟩ => ⟨S256x256, .bf16⟩
  | .hbm, ⟨16, _⟩ => ⟨S8192x512, .f32⟩
  | .hbm, ⟨17, _⟩ => ⟨S8192x8x64, .f32⟩
  | .hbm, ⟨18, _⟩ => ⟨S8x8192x64, .f32⟩
  | .hbm, ⟨19, _⟩ => ⟨S8192x512, .f32⟩
  | .hbm, ⟨20, _⟩ => ⟨S8192x8x64, .f32⟩
  | .hbm, ⟨21, _⟩ => ⟨S8x8192x64, .f32⟩
  | .hbm, ⟨22, _⟩ => ⟨S8x8192x8192, .f32⟩
  | .hbm, ⟨23, _⟩ => ⟨S8192, .i32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S_, .f32⟩
  | .hbm, ⟨42, _⟩ => ⟨S8x8192x8192, .i1⟩
  | .hbm, ⟨43, _⟩ => ⟨S8x8192x8192, .f32⟩
  | .hbm, ⟨44, _⟩ => ⟨S8x8192x8192, .f32⟩
  | .hbm, ⟨45, _⟩ => ⟨S8x8192x32x256, .f32⟩
  | .hbm, ⟨46, _⟩ => ⟨S_, .f32⟩
  | .hbm, ⟨47, _⟩ => ⟨S8x8192x32, .f32⟩
  | .hbm, ⟨48, _⟩ => ⟨S_, .f32⟩
  | .hbm, ⟨49, _⟩ => ⟨S_, .f32⟩
  | .hbm, ⟨50, _⟩ => ⟨S8x8192x32, .f32⟩
  | .hbm, ⟨51, _⟩ => ⟨S8x8192x31, .f32⟩
  | .hbm, ⟨52, _⟩ => ⟨S_, .f32⟩
  | .hbm, ⟨53, _⟩ => ⟨S8x8192x1, .f32⟩
  | .hbm, ⟨54, _⟩ => ⟨S_, .f32⟩
  | .hbm, ⟨55, _⟩ => ⟨S8x8192x96, .f32⟩
  | .hbm, ⟨56, _⟩ => ⟨S8x8192x128, .f32⟩
  | .hbm, ⟨57, _⟩ => ⟨S8192x512, .bf16⟩
  | .hbm, ⟨58, _⟩ => ⟨S8192x512, .bf16⟩
  | .hbm, ⟨59, _⟩ => ⟨S8192x512, .bf16⟩
  | .hbm, ⟨60, _⟩ => ⟨S8192x512, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S2x256x128, .f32⟩
  | .local _ .vmem, ⟨9, _⟩ => ⟨S2x256x128, .f32⟩
  | .local _ .vmem, ⟨10, _⟩ => ⟨S256x256, .bf16⟩
  | .local _ .vmem, ⟨11, _⟩ => ⟨S256x256, .bf16⟩
  | .local _ .vmem, ⟨12, _⟩ => ⟨S256x128, .bf16⟩
  | .local _ .vmem, ⟨13, _⟩ => ⟨S256x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S32x128x256, .f32⟩
  | .local _ .vmem, ⟨19, _⟩ => ⟨S32x128x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_call1_cst : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev main_v42_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 32], ![false, false]⟩

@[reducible] def k0_t1_loop (i : grid0.Coords) (v80 : BitVec 32) : Scf.Loop 32 :=
  let arg1 : BitVec 32 := BitVec.ofNat 32 (i 1).val
  let c1_i32 : BitVec 32 := 1#32
  let v83 : BitVec 32 := Scalar.subi arg1 c1_i32
  let v84 : BitVec 32 := Scalar.subi v83 v80
  let c1_i32_34 : BitVec 32 := 1#32
  let v86 : BitVec 32 := Scalar.divsi v84 c1_i32_34
  let v87 : BitVec 32 := Scalar.muli v86 c1_i32_34
  let v88 : BitVec 32 := Scalar.addi v80 v87
  let c1_i32_35 : BitVec 32 := 1#32
  ⟨v80, v88, c1_i32_35⟩

def k0_mult1 (i : grid0.Coords) (v80 : BitVec 32) (k0_t1 : Fin (k0_t1_loop i v80).trips) : BitVec 32 :=
  let c1_i32_35 : BitVec 32 := 1#32
  let arg14 : BitVec 32 := Scf.iv v80 c1_i32_35 k0_t1
  let c256_i32_147 : BitVec 32 := 256#32
  let v375 : BitVec 32 := Scalar.muli arg14 c256_i32_147
  v375
def k0_off1 (i : grid0.Coords) (v80 : BitVec 32) (k0_t1 : Fin (k0_t1_loop i v80).trips) : Fin 2 → Nat :=
  let c1_i32_35 : BitVec 32 := 1#32
  let arg14 : BitVec 32 := Scf.iv v80 c1_i32_35 k0_t1
  let c256_i32_147 : BitVec 32 := 256#32
  let v375 : BitVec 32 := Scalar.muli arg14 c256_i32_147
  let v376 : BitVec 32 := v375
  let v377 : Index := Scalar.indexCast v376
  let c0_148 : Index := 0#32
  ![v377.toNat, 0]
def k0_off2 (i : grid0.Coords) (v80 : BitVec 32) (k0_t1 : Fin (k0_t1_loop i v80).trips) : Fin 3 → Nat :=
  let c1_i32_35 : BitVec 32 := 1#32
  let arg14 : BitVec 32 := Scf.iv v80 c1_i32_35 k0_t1
  let v484 : Index := Scalar.indexCast arg14
  let c0_185 : Index := 0#32
  let c0_186 : Index := 0#32
  ![v484.toNat, 0, 0]
@[reducible] def k0_t2_loop (i : grid0.Coords) (v80 : BitVec 32) : Scf.Loop 32 :=
  let arg1 : BitVec 32 := BitVec.ofNat 32 (i 1).val
  let c1_i32 : BitVec 32 := 1#32
  let v83 : BitVec 32 := Scalar.subi arg1 c1_i32
  let v84 : BitVec 32 := Scalar.subi v83 v80
  let c1_i32_34 : BitVec 32 := 1#32
  let v86 : BitVec 32 := Scalar.divsi v84 c1_i32_34
  let v87 : BitVec 32 := Scalar.muli v86 c1_i32_34
  let v88 : BitVec 32 := Scalar.addi v80 v87
  let v85 : BitVec 32 := Scalar.addi v80 v84
  let c1_i32_36 : BitVec 32 := 1#32
  ⟨v88, v85, c1_i32_36⟩
def k0_mult2 (i : grid0.Coords) (v80 : BitVec 32) (k0_t2 : Fin (k0_t2_loop i v80).trips) : BitVec 32 :=
  let arg1 : BitVec 32 := BitVec.ofNat 32 (i 1).val
  let c1_i32 : BitVec 32 := 1#32
  let v83 : BitVec 32 := Scalar.subi arg1 c1_i32
  let v84 : BitVec 32 := Scalar.subi v83 v80
  let c1_i32_34 : BitVec 32 := 1#32
  let v86 : BitVec 32 := Scalar.divsi v84 c1_i32_34
  let v87 : BitVec 32 := Scalar.muli v86 c1_i32_34
  let v88 : BitVec 32 := Scalar.addi v80 v87
  let c1_i32_36 : BitVec 32 := 1#32
  let arg14 : BitVec 32 := Scf.iv v88 c1_i32_36 k0_t2
  let c256_i32_147 : BitVec 32 := 256#32
  let v375 : BitVec 32 := Scalar.muli arg14 c256_i32_147
  v375
def k0_off3 (i : grid0.Coords) (v80 : BitVec 32) (k0_t2 : Fin (k0_t2_loop i v80).trips) : Fin 2 → Nat :=
  let arg1 : BitVec 32 := BitVec.ofNat 32 (i 1).val
  let c1_i32 : BitVec 32 := 1#32
  let v83 : BitVec 32 := Scalar.subi arg1 c1_i32
  let v84 : BitVec 32 := Scalar.subi v83 v80
  let c1_i32_34 : BitVec 32 := 1#32
  let v86 : BitVec 32 := Scalar.divsi v84 c1_i32_34
  let v87 : BitVec 32 := Scalar.muli v86 c1_i32_34
  let v88 : BitVec 32 := Scalar.addi v80 v87
  let c1_i32_36 : BitVec 32 := 1#32
  let arg14 : BitVec 32 := Scf.iv v88 c1_i32_36 k0_t2
  let c256_i32_147 : BitVec 32 := 256#32
  let v375 : BitVec 32 := Scalar.muli arg14 c256_i32_147
  let v376 : BitVec 32 := v375
  let v377 : Index := Scalar.indexCast v376
  let c0_148 : Index := 0#32
  ![v377.toNat, 0]
def k0_off4 (i : grid0.Coords) (v80 : BitVec 32) (k0_t2 : Fin (k0_t2_loop i v80).trips) : Fin 3 → Nat :=
  let arg1 : BitVec 32 := BitVec.ofNat 32 (i 1).val
  let c1_i32 : BitVec 32 := 1#32
  let v83 : BitVec 32 := Scalar.subi arg1 c1_i32
  let v84 : BitVec 32 := Scalar.subi v83 v80
  let c1_i32_34 : BitVec 32 := 1#32
  let v86 : BitVec 32 := Scalar.divsi v84 c1_i32_34
  let v87 : BitVec 32 := Scalar.muli v86 c1_i32_34
  let v88 : BitVec 32 := Scalar.addi v80 v87
  let c1_i32_36 : BitVec 32 := 1#32
  let arg14 : BitVec 32 := Scf.iv v88 c1_i32_36 k0_t2
  let v484 : Index := Scalar.indexCast arg14
  let c0_185 : Index := 0#32
  let c0_186 : Index := 0#32
  ![v484.toNat, 0, 0]

def k0_chk1 (i : grid0.Coords) (v80 : BitVec 32) : Prop :=
  ((k0_t1_loop i v80).OK) ∧
  (∀ k0_t1 : Fin (k0_t1_loop i v80).trips, 256 ∣ (k0_mult1 i v80 k0_t1).toNat) ∧
  (∀ k0_t1 : Fin (k0_t1_loop i v80).trips, ∀ a, (k0_off1 i v80 k0_t1) a + S256x128.size a ≤ S8192x128.size a) ∧
  (∀ k0_t1 : Fin (k0_t1_loop i v80).trips, ∀ a, (k0_off2 i v80 k0_t1) a + S1x128x256.size a ≤ S32x128x256.size a) ∧
  ((k0_t2_loop i v80).OK) ∧
  (∀ k0_t2 : Fin (k0_t2_loop i v80).trips, 256 ∣ (k0_mult2 i v80 k0_t2).toNat) ∧
  (∀ k0_t2 : Fin (k0_t2_loop i v80).trips, ∀ a, (k0_off3 i v80 k0_t2) a + S256x128.size a ≤ S8192x128.size a) ∧
  (∀ k0_t2 : Fin (k0_t2_loop i v80).trips, ∀ a, (k0_off4 i v80 k0_t2) a + S1x128x256.size a ≤ S32x128x256.size a)
theorem k0_t1_ok : ∀ (i : grid0.Coords) (v80 : BitVec 32) (k0_hw1 : k0_chk1 i v80), (k0_t1_loop i v80).OK := fun i v80 k0_hw1 => k0_hw1.1
theorem k0_mult1_dvd : ∀ (i : grid0.Coords) (v80 : BitVec 32) (k0_hw1 : k0_chk1 i v80) (k0_t1 : Fin (k0_t1_loop i v80).trips), 256 ∣ (k0_mult1 i v80 k0_t1).toNat := fun i v80 k0_hw1 k0_t1 => k0_hw1.2.1 k0_t1
theorem k0_off1_inb : ∀ (i : grid0.Coords) (v80 : BitVec 32) (k0_hw1 : k0_chk1 i v80) (k0_t1 : Fin (k0_t1_loop i v80).trips), ∀ a, (k0_off1 i v80 k0_t1) a + S256x128.size a ≤ S8192x128.size a := fun i v80 k0_hw1 k0_t1 => k0_hw1.2.2.1 k0_t1
theorem k0_off2_inb : ∀ (i : grid0.Coords) (v80 : BitVec 32) (k0_hw1 : k0_chk1 i v80) (k0_t1 : Fin (k0_t1_loop i v80).trips), ∀ a, (k0_off2 i v80 k0_t1) a + S1x128x256.size a ≤ S32x128x256.size a := fun i v80 k0_hw1 k0_t1 => k0_hw1.2.2.2.1 k0_t1
theorem k0_t2_ok : ∀ (i : grid0.Coords) (v80 : BitVec 32) (k0_hw1 : k0_chk1 i v80), (k0_t2_loop i v80).OK := fun i v80 k0_hw1 => k0_hw1.2.2.2.2.1
theorem k0_mult2_dvd : ∀ (i : grid0.Coords) (v80 : BitVec 32) (k0_hw1 : k0_chk1 i v80) (k0_t2 : Fin (k0_t2_loop i v80).trips), 256 ∣ (k0_mult2 i v80 k0_t2).toNat := fun i v80 k0_hw1 k0_t2 => k0_hw1.2.2.2.2.2.1 k0_t2
theorem k0_off3_inb : ∀ (i : grid0.Coords) (v80 : BitVec 32) (k0_hw1 : k0_chk1 i v80) (k0_t2 : Fin (k0_t2_loop i v80).trips), ∀ a, (k0_off3 i v80 k0_t2) a + S256x128.size a ≤ S8192x128.size a := fun i v80 k0_hw1 k0_t2 => k0_hw1.2.2.2.2.2.2.1 k0_t2
theorem k0_off4_inb : ∀ (i : grid0.Coords) (v80 : BitVec 32) (k0_hw1 : k0_chk1 i v80) (k0_t2 : Fin (k0_t2_loop i v80).trips), ∀ a, (k0_off4 i v80 k0_t2) a + S1x128x256.size a ≤ S32x128x256.size a := fun i v80 k0_hw1 k0_t2 => k0_hw1.2.2.2.2.2.2.2 k0_t2

def k0_mult3 (i : grid0.Coords) : BitVec 32 :=
  let arg1 : BitVec 32 := BitVec.ofNat 32 (i 1).val
  let c1_i32_38 : BitVec 32 := 1#32
  let v94 : BitVec 32 := Scalar.subi arg1 c1_i32_38
  let c0_i32_39 : BitVec 32 := 0#32
  let v95 : BitVec 32 := Scalar.maxsi v94 c0_i32_39
  let c256_i32 : BitVec 32 := 256#32
  let v96 : BitVec 32 := Scalar.muli v95 c256_i32
  v96
def k0_mult4 (i : grid0.Coords) : BitVec 32 :=
  let arg1 : BitVec 32 := BitVec.ofNat 32 (i 1).val
  let c256_i32_40 : BitVec 32 := 256#32
  let v98 : BitVec 32 := Scalar.muli arg1 c256_i32_40
  v98
def k0_off5 (i : grid0.Coords) : Fin 2 → Nat :=
  let arg1 : BitVec 32 := BitVec.ofNat 32 (i 1).val
  let c1_i32_38 : BitVec 32 := 1#32
  let v94 : BitVec 32 := Scalar.subi arg1 c1_i32_38
  let c0_i32_39 : BitVec 32 := 0#32
  let v95 : BitVec 32 := Scalar.maxsi v94 c0_i32_39
  let c256_i32 : BitVec 32 := 256#32
  let v96 : BitVec 32 := Scalar.muli v95 c256_i32
  let v97 : BitVec 32 := v96
  let v100 : Index := Scalar.indexCast v97
  let c0_41 : Index := 0#32
  ![v100.toNat, 0]
def k0_off6 (i : grid0.Coords) : Fin 2 → Nat :=
  let arg1 : BitVec 32 := BitVec.ofNat 32 (i 1).val
  let c256_i32_40 : BitVec 32 := 256#32
  let v98 : BitVec 32 := Scalar.muli arg1 c256_i32_40
  let v99 : BitVec 32 := v98
  let v103 : Index := Scalar.indexCast v99
  let c0_42 : Index := 0#32
  ![v103.toNat, 0]
def k0_off7 (i : grid0.Coords) : Fin 3 → Nat :=
  let arg1 : BitVec 32 := BitVec.ofNat 32 (i 1).val
  let c1_i32_38 : BitVec 32 := 1#32
  let v94 : BitVec 32 := Scalar.subi arg1 c1_i32_38
  let c0_i32_39 : BitVec 32 := 0#32
  let v95 : BitVec 32 := Scalar.maxsi v94 c0_i32_39
  let v317 : Index := Scalar.indexCast v95
  let c0_116 : Index := 0#32
  let c0_117 : Index := 0#32
  ![v317.toNat, 0, 0]
def k0_off8 (i : grid0.Coords) : Fin 3 → Nat :=
  let arg1 : BitVec 32 := BitVec.ofNat 32 (i 1).val
  let v346 : Index := Scalar.indexCast arg1
  let c0_131 : Index := 0#32
  let c0_132 : Index := 0#32
  ![v346.toNat, 0, 0]
def k0_cond2 (i : grid0.Coords) : BitVec 1 :=
  let arg1 : BitVec 32 := BitVec.ofNat 32 (i 1).val
  let c31_i32 : BitVec 32 := 31#32
  let v372 : BitVec 1 := Scalar.cmpi .eq arg1 c31_i32
  let v373 : BitVec 32 := Scalar.extui v372
  let c0_i32_146 : BitVec 32 := 0#32
  let v374 : BitVec 1 := Scalar.cmpi .ne v373 c0_i32_146
  v374

@[reducible] def k0_t3_loop : Scf.Loop 32 :=
  let c0_i32_147 : BitVec 32 := 0#32
  let c32_i32 : BitVec 32 := 32#32
  let v375 : BitVec 32 := Scalar.addi c0_i32_147 c32_i32
  let c1_i32_148 : BitVec 32 := 1#32
  ⟨c0_i32_147, v375, c1_i32_148⟩
def k0_mult5 (k0_t3 : Fin k0_t3_loop.trips) : BitVec 32 :=
  let c0_i32_147 : BitVec 32 := 0#32
  let c1_i32_148 : BitVec 32 := 1#32
  let arg14 : BitVec 32 := Scf.iv c0_i32_147 c1_i32_148 k0_t3
  let c256_i32_150 : BitVec 32 := 256#32
  let v376 : BitVec 32 := Scalar.muli arg14 c256_i32_150
  v376
def k0_off9 (k0_t3 : Fin k0_t3_loop.trips) : Fin 3 → Nat :=
  let c0_i32_147 : BitVec 32 := 0#32
  let c1_i32_148 : BitVec 32 := 1#32
  let arg14 : BitVec 32 := Scf.iv c0_i32_147 c1_i32_148 k0_t3
  let v378 : Index := Scalar.indexCast arg14
  let c0_151 : Index := 0#32
  let c0_152 : Index := 0#32
  ![v378.toNat, 0, 0]
def k0_off10 (k0_t3 : Fin k0_t3_loop.trips) : Fin 2 → Nat :=
  let c0_i32_147 : BitVec 32 := 0#32
  let c1_i32_148 : BitVec 32 := 1#32
  let arg14 : BitVec 32 := Scf.iv c0_i32_147 c1_i32_148 k0_t3
  let c256_i32_150 : BitVec 32 := 256#32
  let v376 : BitVec 32 := Scalar.muli arg14 c256_i32_150
  let v377 : BitVec 32 := v376
  let v383 : Index := Scalar.indexCast v377
  let c0_153 : Index := 0#32
  ![v383.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "dead" => some ⊤
  | _ => none
-- ==== ReferenceIdeal.lean ====
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x64x8192 : Shape := ⟨3, ![8, 64, 8192]⟩

abbrev nBuf : Space → Nat
  | .hbm => 180
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x8x64, .f32⟩
  | 5 => ⟨S8192x8x64, .f32⟩
  | 6 => ⟨S8192x8x64, .f32⟩
  | 7 => ⟨S8x8192x64, .f32⟩
  | 8 => ⟨S8x8192x64, .f32⟩
  | 9 => ⟨S8x8192x64, .f32⟩
  | 10 => ⟨S8x8192x8192, .f32⟩
  | 11 => ⟨S_, .f32⟩
  | 12 => ⟨S8x8192x8192, .f32⟩
  | 13 => ⟨S8x8192x8192, .f32⟩
  | 14 => ⟨S8192, .i32⟩
  | 15 => ⟨S8192x1, .i32⟩
  | 16 => ⟨S8192, .i32⟩
  | 17 => ⟨S1x8192, .i32⟩
  | 18 => ⟨S8192x8192, .i32⟩
  | 19 => ⟨S8192x8192, .i32⟩
  | 20 => ⟨S8192x8192, .i1⟩
  | 21 => ⟨S8x8192x8192, .f32⟩
  | 22 => ⟨S8x8192x8192, .f32⟩
  | 23 => ⟨S_, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .i1⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S_, .f32⟩
  | 38 => ⟨S8x8192x8192, .f32⟩
  | 39 => ⟨S8x8192x8192, .i1⟩
  | 40 => ⟨S_, .f32⟩
  | 41 => ⟨S8x8192x8192, .f32⟩
  | 42 => ⟨S8x8192x8192, .f32⟩
  | 43 => ⟨S_, .f32⟩
  | 44 => ⟨S8x8192x8192, .f32⟩
  | 45 => ⟨S8x8192x8192, .i1⟩
  | 46 => ⟨S_, .f32⟩
  | 47 => ⟨S8x8192x8192, .f32⟩
  | 48 => ⟨S8x8192x8192, .f32⟩
  | 49 => ⟨S8x8192x8192, .f32⟩
  | 50 => ⟨S8x8192x8192, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x8192x8192, .f32⟩
  | 59 => ⟨S8x8192x8192, .i1⟩
  | 60 => ⟨S_, .f32⟩
  | 61 => ⟨S8x8192x8192, .f32⟩
  | 62 => ⟨S8x8192x8192, .f32⟩
  | 63 => ⟨S8x8192x8192, .f32⟩
  | 64 => ⟨S8x8192x8192, .f32⟩
  | 65 => ⟨S8x8192x8192, .f32⟩
  | 66 => ⟨S_, .f32⟩
  | 67 => ⟨S8x8192x8192, .f32⟩
  | 68 => ⟨S8x8192x8192, .f32⟩
  | 69 => ⟨S8x8192x8192, .f32⟩
  | 70 => ⟨S_, .f32⟩
  | 71 => ⟨S_, .f32⟩
  | 72 => ⟨S8x8192x8192, .i1⟩
  | 73 => ⟨S8x8192x8192, .f32⟩
  | 74 => ⟨S8x8192x8192, .f32⟩
  | 75 => ⟨S_, .f32⟩
  | 76 => ⟨S8x8192x8192, .f32⟩
  | 77 => ⟨S_, .f32⟩
  | 78 => ⟨S_, .f32⟩
  | 79 => ⟨S8x8192x8192, .f32⟩
  | 80 => ⟨S8x8192x8192, .f32⟩
  | 81 => ⟨S8x8192x8192, .f32⟩
  | 82 => ⟨S_, .f32⟩
  | 83 => ⟨S8x8192x8192, .f32⟩
  | 84 => ⟨S8x8192x8192, .f32⟩
  | 85 => ⟨S8x8192x8192, .f32⟩
  | 86 => ⟨S8x8192x8192, .f32⟩
  | 87 => ⟨S8x8192x8192, .i1⟩
  | 88 => ⟨S8x8192x8192, .f32⟩
  | 89 => ⟨S8x8192x8192, .f32⟩
  | 90 => ⟨S8x8192x8192, .f32⟩
  | 91 => ⟨S8x8192x8192, .f32⟩
  | 92 => ⟨S8x8192x8192, .f32⟩
  | 93 => ⟨S8x8192x8192, .f32⟩
  | 94 => ⟨S8x8192x8192, .f32⟩
  | 95 => ⟨S8x8192x8192, .f32⟩
  | 96 => ⟨S_, .f32⟩
  | 97 => ⟨S8x8192x8192, .f32⟩
  | 98 => ⟨S8x8192x8192, .i1⟩
  | 99 => ⟨S_, .f32⟩
  | 100 => ⟨S8x8192x8192, .f32⟩
  | 101 => ⟨S8x8192x8192, .f32⟩
  | 102 => ⟨S_, .f32⟩
  | 103 => ⟨S8x8192x8192, .f32⟩
  | 104 => ⟨S8x8192x8192, .i1⟩
  | 105 => ⟨S_, .f32⟩
  | 106 => ⟨S8x8192x8192, .f32⟩
  | 107 => ⟨S8x8192x8192, .f32⟩
  | 108 => ⟨S8x8192x8192, .f32⟩
  | 109 => ⟨S8x8192x8192, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S8x8192x8192, .f32⟩
  | 118 => ⟨S8x8192x8192, .i1⟩
  | 119 => ⟨S_, .f32⟩
  | 120 => ⟨S8x8192x8192, .f32⟩
  | 121 => ⟨S8x8192x8192, .f32⟩
  | 122 => ⟨S8x8192x8192, .f32⟩
  | 123 => ⟨S8x8192x8192, .f32⟩
  | 124 => ⟨S8x8192x8192, .f32⟩
  | 125 => ⟨S_, .f32⟩
  | 126 => ⟨S8x8192x8192, .f32⟩
  | 127 => ⟨S8x8192x8192, .f32⟩
  | _ => ⟨S8192x512, .f32⟩

abbrev hbmTy0_1 (i : Nat) : BufTy := match i % 128 with
  | 0 => ⟨S8x8192x8192, .f32⟩
  | 1 => ⟨S8x8192x8192, .f32⟩
  | 2 => ⟨S8x8192x8192, .f32⟩
  | 3 => ⟨S_, .f32⟩
  | 4 => ⟨S_, .f32⟩
  | 5 => ⟨S8x8192x8192, .i1⟩
  | 6 => ⟨S8x8192x8192, .f32⟩
  | 7 => ⟨S8x8192x8192, .f32⟩
  | 8 => ⟨S_, .f32⟩
  | 9 => ⟨S8x8192x8192, .f32⟩
  | 10 => ⟨S8x8192x64, .f32⟩
  | 11 => ⟨S8192x8x64, .f32⟩
  | 12 => ⟨S8192x512, .f32⟩
  | 13 => ⟨S8192x8x64, .f32⟩
  | 14 => ⟨S8x8192x64, .f32⟩
  | 15 => ⟨S8x64x8192, .f32⟩
  | 16 => ⟨S8x8192x64, .f32⟩
  | 17 => ⟨S8x8192x8192, .f32⟩
  | 18 => ⟨S_, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .f32⟩
  | 26 => ⟨S_, .f32⟩
  | 27 => ⟨S_, .f32⟩
  | 28 => ⟨S8x8192x8192, .f32⟩
  | 29 => ⟨S8x8192x8192, .f32⟩
  | 30 => ⟨S_, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S_, .f32⟩
  | 39 => ⟨S8x8192x8192, .f32⟩
  | 40 => ⟨S8x8192x8192, .f32⟩
  | 41 => ⟨S8x8192x64, .f32⟩
  | 42 => ⟨S8x8192x64, .f32⟩
  | 43 => ⟨S8192x8x64, .f32⟩
  | 44 => ⟨S8192x8x64, .f32⟩
  | 45 => ⟨S8192x8x64, .f32⟩
  | 46 => ⟨S8192x512, .f32⟩
  | 47 => ⟨S8192x512, .f32⟩
  | 48 => ⟨S8192x512, .f32⟩
  | 49 => ⟨S8192x512, .bf16⟩
  | 50 => ⟨S8192x512, .bf16⟩
  | 51 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v17_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v17_2 : Ref sig .tc := ⟨.hbm, 68, rfl⟩
abbrev main_v17_0 : Ref sig .tc := ⟨.hbm, 69, rfl⟩
abbrev main_cst_0 : Ref sig .tc := ⟨.hbm, 70, rfl⟩
abbrev main_call1_v0 : Ref sig .tc := ⟨.hbm, 71, rfl⟩
abbrev main_v18_1 : Ref sig .tc := ⟨.hbm, 72, rfl⟩
abbrev main_call1_v2 : Ref sig .tc := ⟨.hbm, 73, rfl⟩
abbrev main_v18_0 : Ref sig .tc := ⟨.hbm, 74, rfl⟩
abbrev main_call1_cst : Ref sig .tc := ⟨.hbm, 75, rfl⟩
abbrev main_v18_2 : Ref sig .tc := ⟨.hbm, 76, rfl⟩
abbrev main_call2_cst : Ref sig .tc := ⟨.hbm, 77, rfl⟩
abbrev main_call2_v0 : Ref sig .tc := ⟨.hbm, 78, rfl⟩
abbrev main_v19 : Ref sig .tc := ⟨.hbm, 79, rfl⟩
abbrev main_v20 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v21_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v21_2 : Ref sig .tc := ⟨.hbm, 127, rfl⟩
abbrev main_v21_0 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_call4_v0 : Ref sig .tc := ⟨.hbm, 132, rfl⟩
abbrev main_v24_1 : Ref sig .tc := ⟨.hbm, 133, rfl⟩
abbrev main_call4_v2 : Ref sig .tc := ⟨.hbm, 134, rfl⟩
abbrev main_v24_0 : Ref sig .tc := ⟨.hbm, 135, rfl⟩
abbrev main_call4_cst : Ref sig .tc := ⟨.hbm, 136, rfl⟩
abbrev main_v24_2 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call5_cst : Ref sig .tc := ⟨.hbm, 146, rfl⟩
abbrev main_call5_v0 : Ref sig .tc := ⟨.hbm, 147, rfl⟩
abbrev main_v33 : Ref sig .tc := ⟨.hbm, 148, rfl⟩
abbrev main_v34 : Ref sig .tc := ⟨.hbm, 149, rfl⟩
abbrev main_call6_v0 : Ref sig .tc := ⟨.hbm, 150, rfl⟩
abbrev main_call6_v1 : Ref sig .tc := ⟨.hbm, 151, rfl⟩
abbrev main_v35 : Ref sig .tc := ⟨.hbm, 152, rfl⟩
abbrev main_v36 : Ref sig .tc := ⟨.hbm, 153, rfl⟩
abbrev main_call7_cst : Ref sig .tc := ⟨.hbm, 154, rfl⟩
abbrev main_call7_v0 : Ref sig .tc := ⟨.hbm, 155, rfl⟩
abbrev main_v37 : Ref sig .tc := ⟨.hbm, 156, rfl⟩
abbrev main_v38 : Ref sig .tc := ⟨.hbm, 157, rfl⟩
abbrev main_call8_cst : Ref sig .tc := ⟨.hbm, 158, rfl⟩
abbrev main_call8_v0 : Ref sig .tc := ⟨.hbm, 159, rfl⟩
abbrev main_v39 : Ref sig .tc := ⟨.hbm, 160, rfl⟩
abbrev main_call9_v0 : Ref sig .tc := ⟨.hbm, 161, rfl⟩
abbrev main_call9_v1 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_cst_2 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩

abbrev nD : Nat := 1
abbrev τ : Topo := Topo.v7x

variable {F : FTy → Type} [FloatOps F]
-- ==== DUp.lean ====
abbrev S8192x4096 : Shape := ⟨2, ![8192, 4096]⟩
abbrev S4096x1024 : Shape := ⟨2, ![4096, 1024]⟩
abbrev S8192x1024 : Shape := ⟨2, ![8192, 1024]⟩
abbrev S256x1024 : Shape := ⟨2, ![256, 1024]⟩
abbrev S256x4096 : Shape := ⟨2, ![256, 4096]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S8192x4096, .bf16⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DUpRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S1024x4096, .f32⟩
  | .hbm, ⟨18, _⟩ => ⟨S4096x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1, .f32⟩
  | .hbm, ⟨7, _⟩ => ⟨S8192x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v78 : BitVec 1 := Scalar.cmpi .eq arg0 c15_i32
  let v79 : BitVec 32 := Scalar.extui v78
  let c0_i32_29 : BitVec 32 := 0#32
  let v80 : BitVec 1 := Scalar.cmpi .ne v79 c0_i32_29
  v80

def k0_cond1 (i : grid0.Coords) : BitVec 1 :=
  let arg0 : BitVec 32 := BitVec.ofNat 32 (i 0).val
  let c0_i32 : BitVec 32 := 0#32
  let v72 : BitVec 1 := Scalar.cmpi .eq arg0 c0_i32
  let v73 : BitVec 32 := Scalar.extui v72
  let c0_i32_26 : BitVec 32 := 0#32
  let v74 : BitVec 1 := Scalar.cmpi .ne v73 c0_i32_26
  v74

def k0_cond2 (i : grid0.Coords) : BitVec 1 :=
  let arg0 : BitVec 32 := BitVec.ofNat 32 (i 0).val
  let c0_i32_27 : BitVec 32 := 0#32
  let v75 : BitVec 1 := Scalar.cmpi .sgt arg0 c0_i32_27
  let v76 : BitVec 32 := Scalar.extui v75
  let c0_i32_28 : BitVec 32 := 0#32
  let v77 : BitVec 1 := Scalar.cmpi .ne v76 c0_i32_28
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S1x1, .f32⟩
  | .hbm, ⟨100, _⟩ => ⟨S1x1024, .f32⟩
  | .hbm, ⟨101, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_cst_10 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_cst_15 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_cst_17 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_18 : Ref sig .tc := ⟨.hbm, 78, rfl⟩
abbrev main_v55 : Ref sig .tc := ⟨.hbm, 79, rfl⟩
abbrev main_v56 : Ref sig .tc := ⟨.hbm, 80, rfl⟩
abbrev main_cst_19 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_cst_21 : Ref sig .tc := ⟨.hbm, 92, rfl⟩
abbrev main_v66 : Ref sig .tc := ⟨.hbm, 93, rfl⟩
abbrev main_v67 : Ref sig .tc := ⟨.hbm, 94, rfl⟩
abbrev main_cst_22 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== DXMid.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S4096x1024 : Shape := ⟨2, ![4096, 1024]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S8192x4096, .bf16⟩
  | .hbm, ⟨5, _⟩ => ⟨S8192x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_23 : BitVec 32 := 0#32
  let v53 : BitVec 1 := Scalar.cmpi .ne v52 c0_i32_23
  v53

def k0_cond2 (i : grid0.Coords) : BitVec 1 :=
  let arg0 : BitVec 32 := BitVec.ofNat 32 (i 0).val
  let c0_i32_24 : BitVec 32 := 0#32
  let v54 : BitVec 1 := Scalar.cmpi .sgt arg0 c0_i32_24
  let v55 : BitVec 32 := Scalar.extui v54
  let c0_i32_25 : BitVec 32 := 0#32
  let v56 : BitVec 1 := Scalar.cmpi .ne v55 c0_i32_25
  v56

def k0_cond3 (i : grid0.Coords) : BitVec 1 :=
  let arg0 : BitVec 32 := BitVec.ofNat 32 (i 0).val
  let c0_i32_26 : BitVec 32 := 0#32
  let v57 : BitVec 1 := Scalar.cmpi .eq arg0 c0_i32_26
  let v58 : BitVec 32 := Scalar.extui v57
  let c0_i32_27 : BitVec 32 := 0#32
  let v59 : BitVec 1 := Scalar.cmpi .ne v58 c0_i32_27
  v59

def k0_cond4 (i : grid0.Coords) : BitVec 1 :=
  let arg0 : BitVec 32 := BitVec.ofNat 32 (i 0).val
  let c0_i32_28 : BitVec 32 := 0#32
  let v60 : BitVec 1 := Scalar.cmpi .sgt arg0 c0_i32_28
  let v61 : BitVec 32 := Scalar.extui v60
  let c0_i32_29 : BitVec 32 := 0#32
  let v62 : BitVec 1 := Scalar.cmpi .ne v61 c0_i32_29
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== DXMidRefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S8192x4096, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x4096, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S4096x1024, .f32⟩
  | .hbm, ⟨46, _⟩ => ⟨S1024x4096, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S1x1024, .f32⟩
  | .hbm, ⟨91, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== DXIn.lean ====
abbrev S8192x1024 : Shape := ⟨2, ![8192, 1024]⟩
abbrev S1024 : Shape := ⟨1, ![1024]⟩
abbrev S1024x2560 : Shape := ⟨2, ![1024, 2560]⟩
abbrev S8192x512 : Shape := ⟨2, ![8192, 512]⟩
abbrev S2560x1024 : Shape := ⟨2, ![2560, 1024]⟩
abbrev S1x1024 : Shape := ⟨2, ![1, 1024]⟩
abbrev S256x512 : Shape := ⟨2, ![256, 512]⟩
abbrev S256x1024 : Shape := ⟨2, ![256, 1024]⟩
abbrev S512x1024 : Shape := ⟨2, ![512, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 15
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2560, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x1024, .bf16⟩
  | .hbm, ⟨8, _⟩ => ⟨S8192x1024, .f32⟩
  | .hbm, ⟨9, _⟩ => ⟨S2560x1024, .f32⟩
  | .hbm, ⟨10, _⟩ => ⟨S2560x1024, .bf16⟩
  | .hbm, ⟨11, _⟩ => ⟨S1x1024, .f32⟩
  | .hbm, ⟨12, _⟩ => ⟨S8192x1024, .f32⟩
  | .hbm, ⟨13, _⟩ => ⟨S1x1024, .f32⟩
  | .hbm, ⟨14, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S2560x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_35 : BitVec 32 := 0#32
  let v68 : BitVec 1 := Scalar.cmpi .ne v67 c0_i32_35
  v68

def k0_cond2 (i : grid0.Coords) : BitVec 1 :=
  let arg0 : BitVec 32 := BitVec.ofNat 32 (i 0).val
  let c0_i32_36 : BitVec 32 := 0#32
  let v69 : BitVec 1 := Scalar.cmpi .sgt arg0 c0_i32_36
  let v70 : BitVec 32 := Scalar.extui v69
  let c0_i32_37 : BitVec 32 := 0#32
  let v71 : BitVec 1 := Scalar.cmpi .ne v70 c0_i32_37
  v71

def k0_cond3 (i : grid0.Coords) : BitVec 1 :=
  let arg0 : BitVec 32 := BitVec.ofNat 32 (i 0).val
  let c0_i32_38 : BitVec 32 := 0#32
  let v72 : BitVec 1 := Scalar.cmpi .eq arg0 c0_i32_38
  let v73 : BitVec 32 := Scalar.extui v72
  let c0_i32_39 : BitVec 32 := 0#32
  let v74 : BitVec 1 := Scalar.cmpi .ne v73 c0_i32_39
  v74

def k0_cond4 (i : grid0.Coords) : BitVec 1 :=
  let arg0 : BitVec 32 := BitVec.ofNat 32 (i 0).val
  let c0_i32_40 : BitVec 32 := 0#32
  let v75 : BitVec 1 := Scalar.cmpi .sgt arg0 c0_i32_40
  let v76 : BitVec 32 := Scalar.extui v75
  let c0_i32_41 : BitVec 32 := 0#32
  let v77 : BitVec 1 := Scalar.cmpi .ne v76 c0_i32_41
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]
-- ==== DXInRefIdeal.lean ====
abbrev S8192x1024 : Shape := ⟨2, ![8192, 1024]⟩
abbrev S1024 : Shape := ⟨1, ![1024]⟩
abbrev S1024x2560 : Shape := ⟨2, ![1024, 2560]⟩
abbrev S8192x512 : Shape := ⟨2, ![8192, 512]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2560x1024 : Shape := ⟨2, ![2560, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2560, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x1024, .bf16⟩
  | .hbm, ⟨8, _⟩ => ⟨S8192x1024, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x1024, .f32⟩
  | .hbm, ⟨13, _⟩ => ⟨S8192x2560, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x2560, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S2560x1024, .f32⟩
  | .hbm, ⟨53, _⟩ => ⟨S1024x2560, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S1x1024, .f32⟩
  | .hbm, ⟨98, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Rms.lean ====
abbrev S8192x512 : Shape := ⟨2, ![8192, 512]⟩
abbrev S1024 : Shape := ⟨1, ![1024]⟩
abbrev S8192x1024 : Shape := ⟨2, ![8192, 1024]⟩
abbrev S256x256 : Shape := ⟨2, ![256, 256]⟩
abbrev S1024x128 : Shape := ⟨2, ![1024, 128]⟩
abbrev S_ : Shape := ⟨0, ![]⟩
abbrev S128x1024 : Shape := ⟨2, ![128, 1024]⟩
abbrev S8192x16x64 : Shape := ⟨3, ![8192, 16, 64]⟩
abbrev S8192x16 : Shape := ⟨2, ![8192, 16]⟩
abbrev S8192x128 : Shape := ⟨2, ![8192, 128]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩

abbrev nBuf : Space → Nat
  | .hbm => 52
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024, .f32⟩
  | .hbm, ⟨3, _⟩ => ⟨S8192x1024, .f32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S256x256, .i1⟩
  | .hbm, ⟨9, _⟩ => ⟨S256x256, .bf16⟩
  | .hbm, ⟨10, _⟩ => ⟨S1024x128, .i32⟩
  | .hbm, ⟨11, _⟩ => ⟨S_, .i32⟩
  | .hbm, ⟨12, _⟩ => ⟨S_, .i32⟩
  | .hbm, ⟨13, _⟩ => ⟨S1024x128, .i32⟩
  | .hbm, ⟨14, _⟩ => ⟨S1024x128, .i32⟩
  | .hbm, ⟨15, _⟩ => ⟨S1024x128, .i32⟩
  | .hbm, ⟨16, _⟩ => ⟨S_, .i32⟩
  | .hbm, ⟨17, _⟩ => ⟨S1024x128, .i32⟩
  | .hbm, ⟨18, _⟩ => ⟨S1024x128, .i1⟩
  | .hbm, ⟨19, _⟩ => ⟨S1024x128, .i32⟩
  | .hbm, ⟨20, _⟩ => ⟨S1024x128, .i32⟩
  | .hbm, ⟨21, _⟩ => ⟨S_, .i32⟩
  | .hbm, ⟨22, _⟩ => ⟨S1024x128, .i32⟩
  | .hbm, ⟨23, _⟩ => ⟨S1024x128, .i1⟩
  | .hbm, ⟨24, _⟩ => ⟨S1024x128, .i1⟩
  | .hbm, ⟨25, _⟩ => ⟨S_, .i32⟩
  | .hbm, ⟨26, _⟩ => ⟨S1024x128, .i32⟩
  | .hbm, ⟨27, _⟩ => ⟨S1024x128, .i32⟩
  | .hbm, ⟨28, _⟩ => ⟨S1024x128, .i32⟩
  | .hbm, ⟨29, _⟩ => ⟨S1024x128, .i32⟩
  | .hbm, ⟨30, _⟩ => ⟨S1024x128, .i1⟩
  | .hbm, ⟨31, _⟩ => ⟨S1024x128, .bf16⟩
  | .hbm, ⟨32, _⟩ => ⟨S128x1024, .bf16⟩
  | .hbm, ⟨33, _⟩ => ⟨S8192x1024, .f32⟩
  | .hbm, ⟨34, _⟩ => ⟨S8192x1024, .f32⟩
  | .hbm, ⟨35, _⟩ => ⟨S8192x16x64, .f32⟩
  | .hbm, ⟨36, _⟩ => ⟨S_, .f32⟩
  | .hbm, ⟨37, _⟩ => ⟨S8192x16, .f32⟩
  | .hbm, ⟨38, _⟩ => ⟨S_, .i32⟩
  | .hbm, ⟨39, _⟩ => ⟨S_, .f32⟩
  | .hbm, ⟨40, _⟩ => ⟨S8192x128, .f32⟩
  | .hbm, ⟨41, _⟩ => ⟨S_, .f32⟩
  | .hbm, ⟨42, _⟩ => ⟨S8192x128, .f32⟩
  | .hbm, ⟨43, _⟩ => ⟨S8192x128, .f32⟩
  | .hbm, ⟨44, _⟩ => ⟨S_, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S1x1024, .f32⟩
  | .hbm, ⟨49, _⟩ => ⟨S8192x512, .bf16⟩
  | .hbm, ⟨50, _⟩ => ⟨S8192x512, .f32⟩
  | .hbm, ⟨51, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1024x128, .bf16⟩
  | .local _ .vmem, ⟨10, _⟩ => ⟨S128x1024, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_c_0 : Ref sig .tc := ⟨.hbm, 38, rfl⟩
abbrev main_call1_v0 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23_0 : Ref sig .tc := ⟨.hbm, 49, rfl⟩
abbrev main_v23_1 : Ref sig .tc := ⟨.hbm, 50, rfl⟩
abbrev main_v23_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_24 : BitVec 32 := 0#32
  let v55 : BitVec 1 := Scalar.cmpi .ne v54 c0_i32_24
  v55

def k0_cond2 (i : grid0.Coords) : BitVec 1 :=
  let arg0 : BitVec 32 := BitVec.ofNat 32 (i 0).val
  let c0_i32_25 : BitVec 32 := 0#32
  let v56 : BitVec 1 := Scalar.cmpi .sgt arg0 c0_i32_25
  let v57 : BitVec 32 := Scalar.extui v56
  let c0_i32_26 : BitVec 32 := 0#32
  let v58 : BitVec 1 := Scalar.cmpi .ne v57 c0_i32_26
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RmsRefIdeal.lean ====
abbrev S8192x512 : Shape := ⟨2, ![8192, 512]⟩
abbrev S1024 : Shape := ⟨1, ![1024]⟩
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x16x64, .f32⟩
  | .hbm, ⟨6, _⟩ => ⟨S8192x16x64, .f32⟩
  | .hbm, ⟨7, _⟩ => ⟨S_, .f32⟩
  | .hbm, ⟨8, _⟩ => ⟨S8192x16, .f32⟩
  | .hbm, ⟨9, _⟩ => ⟨S8192x16x1, .f32⟩
  | .hbm, ⟨10, _⟩ => ⟨S_, .f32⟩
  | .hbm, ⟨11, _⟩ => ⟨S8192x16x1, .f32⟩
  | .hbm, ⟨12, _⟩ => ⟨S8192x16x1, .f32⟩
  | .hbm, ⟨13, _⟩ => ⟨S_, .f32⟩
  | .hbm, ⟨14, _⟩ => ⟨S8192x16x1, .f32⟩
  | .hbm, ⟨15, _⟩ => ⟨S8192x16x1, .f32⟩
  | .hbm, ⟨16, _⟩ => ⟨S8192x16x1, .f32⟩
  | .hbm, ⟨17, _⟩ => ⟨S8192x16x1, .f32⟩
  | .hbm, ⟨18, _⟩ => ⟨S_, .f32⟩
  | .hbm, ⟨19, _⟩ => ⟨S8192x16x1, .f32⟩
  | .hbm, ⟨20, _⟩ => ⟨S8192x16x1, .f32⟩
  | .hbm, ⟨21, _⟩ => ⟨S8192x16x64, .f32⟩
  | .hbm, ⟨22, _⟩ => ⟨S8192x16x64, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x16x64, .f32⟩
  | .hbm, ⟨36, _⟩ => ⟨S8192x16x64, .f32⟩
  | .hbm, ⟨37, _⟩ => ⟨S_, .f32⟩
  | .hbm, ⟨38, _⟩ => ⟨S8192x16, .f32⟩
  | .hbm, ⟨39, _⟩ => ⟨S8192x16x1, .f32⟩
  | .hbm, ⟨40, _⟩ => ⟨S8192x16x64, .f32⟩
  | .hbm, ⟨41, _⟩ => ⟨S8192x16x64, .f32⟩
  | .hbm, ⟨42, _⟩ => ⟨S8192x16x1, .f32⟩
  | .hbm, ⟨43, _⟩ => ⟨S_, .f32⟩
  | .hbm, ⟨44, _⟩ => ⟨S8192x16x1, .f32⟩
  | .hbm, ⟨45, _⟩ => ⟨S8192x16x1, .f32⟩
  | .hbm, ⟨46, _⟩ => ⟨S_, .f32⟩
  | .hbm, ⟨47, _⟩ => ⟨S8192x16, .f32⟩
  | .hbm, ⟨48, _⟩ => ⟨S8192x16x64, .f32⟩
  | .hbm, ⟨49, _⟩ => ⟨S8192x16x64, .f32⟩
  | .hbm, ⟨50, _⟩ => ⟨S8192x16x64, .f32⟩
  | .hbm, ⟨51, _⟩ => ⟨S8192x16x64, .f32⟩
  | .hbm, ⟨52, _⟩ => ⟨S8192x16x64, .f32⟩
  | .hbm, ⟨53, _⟩ => ⟨S8192x1024, .f32⟩
  | .hbm, ⟨54, _⟩ => ⟨S8192x512, .f32⟩
  | .hbm, ⟨55, _⟩ => ⟨S8192x512, .f32⟩
  | .hbm, ⟨56, _⟩ => ⟨S8192x512, .bf16⟩
  | .hbm, ⟨57, _⟩ => ⟨S1x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== AttnF.lean ====
abbrev S8192x512 : Shape := ⟨2, ![8192, 512]⟩
abbrev S256x256 : Shape := ⟨2, ![256, 256]⟩
abbrev S_ : Shape := ⟨0, ![]⟩
abbrev S8x8192x128 : Shape := ⟨3, ![8, 8192, 128]⟩
abbrev S8192x256 : Shape := ⟨2, ![8192, 256]⟩
abbrev S4x256x128 : Shape := ⟨3, ![4, 256, 128]⟩
abbrev S256x128 : Shape := ⟨2, ![256, 128]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1x256x128 : Shape := ⟨3, ![1, 256, 128]⟩

abbrev nBuf : Space → Nat
  | .hbm => 15
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S256x256, .i32⟩
  | .hbm, ⟨4, _⟩ => ⟨S256x256, .i32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S256x256, .i1⟩
  | .hbm, ⟨12, _⟩ => ⟨S256x256, .bf16⟩
  | .hbm, ⟨13, _⟩ => ⟨S8192x512, .f32⟩
  | .hbm, ⟨14, _⟩ => ⟨S8x8192x128, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S256x256, .bf16⟩
  | .local _ .vmem, ⟨7, _⟩ => ⟨S256x256, .f32⟩
  | .local _ .vmem, ⟨8, _⟩ => ⟨S256x256, .f32⟩
  | .local _ .vmem, ⟨9, _⟩ => ⟨S4x256x128, .f32⟩
  | .local _ .vmem, ⟨10, _⟩ => ⟨S4x256x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c256_i32 : BitVec 32 := 256#32
  let v67 : BitVec 32 := Scalar.muli arg1 c256_i32
  v67
def k0_mult2 (i : grid0.Coords) : BitVec 32 :=
  let arg1 : BitVec 32 := BitVec.ofNat 32 (i 1).val
  let c1_i32 : BitVec 32 := 1#32
  let v64 : BitVec 32 := Scalar.subi arg1 c1_i32
  let c0_i32_23 : BitVec 32 := 0#32
  let v65 : BitVec 32 := Scalar.maxsi v64 c0_i32_23
  let c256_i32_25 : BitVec 32 := 256#32
  let v69 : BitVec 32 := Scalar.muli v65 c256_i32_25
  v69
def k0_off1 (i : grid0.Coords) : Fin 2 → Nat :=
  let arg1 : BitVec 32 := BitVec.ofNat 32 (i 1).val
  let c256_i32 : BitVec 32 := 256#32
  let v67 : BitVec 32 := Scalar.muli arg1 c256_i32
  let v68 : BitVec 32 := v67
  let v71 : Index := Scalar.indexCast v68
  let c0_26 : Index := 0#32
  ![v71.toNat, 0]
def k0_off2 (i : grid0.Coords) : Fin 2 → Nat :=
  let arg1 : BitVec 32 := BitVec.ofNat 32 (i 1).val
  let c256_i32 : BitVec 32 := 256#32
  let v67 : BitVec 32 := Scalar.muli arg1 c256_i32
  let v68 : BitVec 32 := v67
  let v74 : Index := Scalar.indexCast v68
  let c128_27 : Index := 128#32
  ![v74.toNat, 128]
def k0_off3 (i : grid0.Coords) : Fin 2 → Nat :=
  let arg1 : BitVec 32 := BitVec.ofNat 32 (i 1).val
  let c1_i32 : BitVec 32 := 1#32
  let v64 : BitVec 32 := Scalar.subi arg1 c1_i32
  let c0_i32_23 : BitVec 32 := 0#32
  let v65 : BitVec 32 := Scalar.maxsi v64 c0_i32_23
  let c256_i32_25 : BitVec 32 := 256#32
  let v69 : BitVec 32 := Scalar.muli v65 c256_i32_25
  let v70 : BitVec 32 := v69
  let v77 : Index := Scalar.indexCast v70
  let c0_28 : Index := 0#32
  ![v77.toNat, 0]
def k0_off4 (i : grid0.Coords) : Fin 2 → Nat :=
  let arg1 : BitVec 32 := BitVec.ofNat 32 (i 1).val
  let c1_i32 : BitVec 32 := 1#32
  let v64 : BitVec 32 := Scalar.subi arg1 c1_i32
  let c0_i32_23 : BitVec 32 := 0#32
  let v65 : BitVec 32 := Scalar.maxsi v64 c0_i32_23
  let c256_i32_25 : BitVec 32 := 256#32
  let v69 : BitVec 32 := Scalar.muli v65 c256_i32_25
  let v70 : BitVec 32 := v69
  let v80 : Index := Scalar.indexCast v70
  let c128_29 : Index := 128#32
  ![v80.toNat, 128]
def k0_mult3 (arg8 : BitVec 32) : BitVec 32 :=
  let c256_i32_116 : BitVec 32 := 256#32
  let v388 : BitVec 32 := Scalar.muli arg8 c256_i32_116
  v388

def k0_off5 (arg8 : BitVec 32) : Fin 2 → Nat :=
  let c256_i32_116 : BitVec 32 := 256#32
  let v388 : BitVec 32 := Scalar.muli arg8 c256_i32_116
  let v389 : BitVec 32 := v388
  let v390 : Index := Scalar.indexCast v389
  let c0_117 : Index := 0#32
  ![v390.toNat, 0]
def k0_off6 (arg8 : BitVec 32) : Fin 2 → Nat :=
  let c256_i32_116 : BitVec 32 := 256#32
  let v388 : BitVec 32 := Scalar.muli arg8 c256_i32_116
  let v389 : BitVec 32 := v388
  let v393 : Index := Scalar.indexCast v389
  let c128_118 : Index := 128#32
  ![v393.toNat, 128]

def k0_chk1 (arg8 : BitVec 32) : Prop :=
  (256 ∣ (k0_mult3 arg8).toNat) ∧
  (∀ a, (k0_off5 arg8) a + S256x128.size a ≤ S8192x256.size a) ∧
  (∀ a, (k0_off6 arg8) a + S256x128.size a ≤ S8192x256.size a)
theorem k0_mult3_dvd : ∀ (arg8 : BitVec 32) (k0_hw1 : k0_chk1 arg8), 256 ∣ (k0_mult3 arg8).toNat := fun arg8 k0_hw1 => k0_hw1.1
theorem k0_off5_inb : ∀ (arg8 : BitVec 32) (k0_hw1 : k0_chk1 arg8), ∀ a, (k0_off5 arg8) a + S256x128.size a ≤ S8192x256.size a := fun arg8 k0_hw1 => k0_hw1.2.1
theorem k0_off6_inb : ∀ (arg8 : BitVec 32) (k0_hw1 : k0_chk1 arg8), ∀ a, (k0_off6 arg8) a + S256x128.size a ≤ S8192x256.size a := fun arg8 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFIdeal.lean ====
variable {F : FTy → Type} [FloatOps F] [Named F]
def κ : String → Option EReal := fun
  | "alive" => some ⊤
  | _ => none
-- ==== AttnFRefIdeal.lean ====
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192x32 : Shape := ⟨3, ![8, 8192, 32]⟩
abbrev S32 : Shape := ⟨1, ![32]⟩
abbrev S1x32 : Shape := ⟨2, ![1, 32]⟩
abbrev S8192x32 : Shape := ⟨2, ![8192, 32]⟩
abbrev S8x8192x96 : Shape := ⟨3, ![8, 8192, 96]⟩
abbrev S8x8192x128 : Shape := ⟨3, ![8, 8192, 128]⟩

abbrev nBuf : Space → Nat
  | .hbm => 133
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8x64, .f32⟩
  | 4 => ⟨S8192x8x64, .f32⟩
  | 5 => ⟨S8x8192x64, .f32⟩
  | 6 => ⟨S8x8192x64, .f32⟩
  | 7 => ⟨S8x8192x8192, .f32⟩
  | 8 => ⟨S_, .f32⟩
  | 9 => ⟨S8x8192x8192, .f32⟩
  | 10 => ⟨S8x8192x8192, .f32⟩
  | 11 => ⟨S8192, .i32⟩
  | 12 => ⟨S8192x1, .i32⟩
  | 13 => ⟨S8192, .i32⟩
  | 14 => ⟨S1x8192, .i32⟩
  | 15 => ⟨S8192x8192, .i32⟩
  | 16 => ⟨S8192x8192, .i32⟩
  | 17 => ⟨S8192x8192, .i1⟩
  | 18 => ⟨S8x8192x8192, .f32⟩
  | 19 => ⟨S8x8192x8192, .f32⟩
  | 20 => ⟨S_, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .i1⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S_, .f32⟩
  | 36 => ⟨S_, .f32⟩
  | 37 => ⟨S8x8192x8192, .i1⟩
  | 38 => ⟨S8x8192x8192, .f32⟩
  | 39 => ⟨S8x8192x8192, .f32⟩
  | 40 => ⟨S_, .f32⟩
  | 41 => ⟨S_, .f32⟩
  | 42 => ⟨S8x8192x8192, .f32⟩
  | 43 => ⟨S8x8192x8192, .f32⟩
  | 44 => ⟨S8x8192x32, .f32⟩
  | 45 => ⟨S8x8192x32, .f32⟩
  | 46 => ⟨S8192, .i32⟩
  | 47 => ⟨S8192x1, .i32⟩
  | 48 => ⟨S32, .i32⟩
  | 49 => ⟨S1x32, .i32⟩
  | 50 => ⟨S_, .i32⟩
  | 51 => ⟨S1x32, .i32⟩
  | 52 => ⟨S1x32, .i32⟩
  | 53 => ⟨S8192x32, .i32⟩
  | 54 => ⟨S8192x32, .i32⟩
  | 55 => ⟨S8192x32, .i1⟩
  | 56 => ⟨S_, .f32⟩
  | 57 => ⟨S_, .f32⟩
  | 58 => ⟨S8x8192x32, .i1⟩
  | 59 => ⟨S8x8192x32, .f32⟩
  | 60 => ⟨S8x8192x32, .f32⟩
  | 61 => ⟨S8192x8x64, .f32⟩
  | 62 => ⟨S8192x8x64, .f32⟩
  | 63 => ⟨S8192x8x64, .f32⟩
  | 64 => ⟨S8x8192x64, .f32⟩
  | 65 => ⟨S8x8192x64, .f32⟩
  | 66 => ⟨S8x8192x64, .f32⟩
  | 67 => ⟨S8x8192x8192, .f32⟩
  | 68 => ⟨S_, .f32⟩
  | 69 => ⟨S8x8192x8192, .f32⟩
  | 70 => ⟨S8x8192x8192, .f32⟩
  | 71 => ⟨S8192, .i32⟩
  | 72 => ⟨S8192x1, .i32⟩
  | 73 => ⟨S8192, .i32⟩
  | 74 => ⟨S1x8192, .i32⟩
  | 75 => ⟨S8192x8192, .i32⟩
  | 76 => ⟨S8192x8192, .i32⟩
  | 77 => ⟨S8192x8192, .i1⟩
  | 78 => ⟨S8x8192x8192, .f32⟩
  | 79 => ⟨S8x8192x8192, .f32⟩
  | 80 => ⟨S_, .f32⟩
  | 81 => ⟨S8x8192x8192, .f32⟩
  | 82 => ⟨S8x8192x8192, .f32⟩
  | 83 => ⟨S8x8192x8192, .f32⟩
  | 84 => ⟨S8x8192x8192, .f32⟩
  | 85 => ⟨S8x8192x8192, .i1⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .f32⟩
  | 91 => ⟨S8x8192x8192, .f32⟩
  | 92 => ⟨S8x8192x8192, .f32⟩
  | 93 => ⟨S8x8192x8192, .f32⟩
  | 94 => ⟨S8x8192x8192, .f32⟩
  | 95 => ⟨S_, .f32⟩
  | 96 => ⟨S_, .f32⟩
  | 97 => ⟨S8x8192x8192, .i1⟩
  | 98 => ⟨S8x8192x8192, .f32⟩
  | 99 => ⟨S8x8192x8192, .f32⟩
  | 100 => ⟨S_, .f32⟩
  | 101 => ⟨S_, .f32⟩
  | 102 => ⟨S8x8192x8192, .f32⟩
  | 103 => ⟨S8x8192x8192, .f32⟩
  | 104 => ⟨S8x8192x8192, .f32⟩
  | 105 => ⟨S_, .f32⟩
  | 106 => ⟨S8x8192x8192, .f32⟩
  | 107 => ⟨S8x8192x8192, .f32⟩
  | 108 => ⟨S8x8192x8192, .f32⟩
  | 109 => ⟨S8x8192x8192, .f32⟩
  | 110 => ⟨S8x8192x8192, .i1⟩
  | 111 => ⟨S8x8192x8192, .f32⟩
  | 112 => ⟨S8x8192x8192, .f32⟩
  | 113 => ⟨S8x8192x8192, .f32⟩
  | 114 => ⟨S8x8192x8192, .f32⟩
  | 115 => ⟨S8x8192x8192, .f32⟩
  | 116 => ⟨S8x8192x8192, .f32⟩
  | 117 => ⟨S8x8192x8192, .f32⟩
  | 118 => ⟨S8x8192x8192, .f32⟩
  | 119 => ⟨S8x8192x8192, .f32⟩
  | 120 => ⟨S8x8192x8192, .f32⟩
  | 121 => ⟨S8x8192x8192, .f32⟩
  | 122 => ⟨S_, .f32⟩
  | 123 => ⟨S_, .f32⟩
  | 124 => ⟨S8x8192x8192, .i1⟩
  | 125 => ⟨S8x8192x8192, .f32⟩
  | 126 => ⟨S8x8192x8192, .f32⟩
  | 127 => ⟨S8x8192x64, .f32⟩
  | _ => ⟨S8192x512, .f32⟩

abbrev hbmTy0_1 (i : Nat) : BufTy := match i % 128 with
  | 0 => ⟨S8192x8x64, .f32⟩
  | 1 => ⟨S8192x512, .f32⟩
  | 2 => ⟨S_, .f32⟩
  | 3 => ⟨S8x8192x96, .f32⟩
  | 4 => ⟨S8x8192x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v16 : Ref sig .tc := ⟨.hbm, 39, rfl⟩
abbrev main_call2_cst : Ref sig .tc := ⟨.hbm, 40, rfl⟩
abbrev main_call2_v0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_1 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_2 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call4_v0 : Ref sig .tc := ⟨.hbm, 79, rfl⟩
abbrev main_call4_call0_cst : Ref sig .tc := ⟨.hbm, 80, rfl⟩
abbrev main_call4_call0_v0 : Ref sig .tc := ⟨.hbm, 81, rfl⟩
abbrev main_call4_call0_v1 : Ref sig .tc := ⟨.hbm, 82, rfl⟩
abbrev main_call4_call0_v2 : Ref sig .tc := ⟨.hbm, 83, rfl⟩
abbrev main_call4_call0_v3 : Ref sig .tc := ⟨.hbm, 84, rfl⟩
abbrev main_call4_call0_v4 : Ref sig .tc := ⟨.hbm, 85, rfl⟩
abbrev main_call4_call0_v5 : Ref sig .tc := ⟨.hbm, 86, rfl⟩
abbrev main_call4_call0_v6 : Ref sig .tc := ⟨.hbm, 87, rfl⟩
abbrev main_call4_call0_v7 : Ref sig .tc := ⟨.hbm, 88, rfl⟩
abbrev main_call4_call0_v8 : Ref sig .tc := ⟨.hbm, 89, rfl⟩
abbrev main_call4_call0_v9 : Ref sig .tc := ⟨.hbm, 90, rfl⟩
abbrev main_call4_call0_v10 : Ref sig .tc := ⟨.hbm, 91, rfl⟩
abbrev main_call4_call0_v11 : Ref sig .tc := ⟨.hbm, 92, rfl⟩
abbrev main_call4_v1 : Ref sig .tc := ⟨.hbm, 93, rfl⟩
abbrev main_v48 : Ref sig .tc := ⟨.hbm, 94, rfl⟩
abbrev main_cst_3 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_v49 : Ref sig .tc := ⟨.hbm, 99, rfl⟩
abbrev main_call6_cst : Ref sig .tc := ⟨.hbm, 100, rfl⟩
abbrev main_call6_v0 : Ref sig .tc := ⟨.hbm, 101, rfl⟩
abbrev main_v50 : Ref sig .tc := ⟨.hbm, 102, rfl⟩
abbrev main_v51 : Ref sig .tc := ⟨.hbm, 103, rfl⟩
abbrev main_call7_v0 : Ref sig .tc := ⟨.hbm, 104, rfl⟩
abbrev main_call7_call0_cst : Ref sig .tc := ⟨.hbm, 105, rfl⟩
abbrev main_call7_call0_v0 : Ref sig .tc := ⟨.hbm, 106, rfl⟩
abbrev main_call7_call0_v1 : Ref sig .tc := ⟨.hbm, 107, rfl⟩
abbrev main_call7_call0_v2 : Ref sig .tc := ⟨.hbm, 108, rfl⟩
abbrev main_call7_call0_v3 : Ref sig .tc := ⟨.hbm, 109, rfl⟩
abbrev main_call7_call0_v4 : Ref sig .tc := ⟨.hbm, 110, rfl⟩
abbrev main_call7_call0_v5 : Ref sig .tc := ⟨.hbm, 111, rfl⟩
abbrev main_call7_call0_v6 : Ref sig .tc := ⟨.hbm, 112, rfl⟩
abbrev main_call7_call0_v7 : Ref sig .tc := ⟨.hbm, 113, rfl⟩
abbrev main_call7_call0_v8 : Ref sig .tc := ⟨.hbm, 114, rfl⟩
abbrev main_call7_call0_v9 : Ref sig .tc := ⟨.hbm, 115, rfl⟩
abbrev main_call7_call0_v10 : Ref sig .tc := ⟨.hbm, 116, rfl⟩
abbrev main_call7_call0_v11 : Ref sig .tc := ⟨.hbm, 117, rfl⟩
abbrev main_call7_v1 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_cst_4 : Ref sig .tc := ⟨.hbm, 122, rfl⟩
abbrev main_call8_v0 : Ref sig .tc := ⟨.hbm, 123, rfl⟩
abbrev main_call8_v1 : Ref sig .tc := ⟨.hbm, 124, rfl⟩
abbrev main_call8_v2 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_cst_5 : Ref sig .tc := ⟨.hbm, 130, rfl⟩
abbrev main_v59 : Ref sig .tc := ⟨.hbm, 131, rfl⟩
abbrev main_v60 : Ref sig .tc := ⟨.hbm, 132, rfl⟩

abbrev nD : Nat := 1
abbrev τ : Topo := Topo.v7x

variable {F : FTy → Type} [FloatOps F]
-- ==== FfnDown.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnDownRefIdeal.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutProjRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Mixer.lean ====
abbrev S8192x1024 : Shape := ⟨2, ![8192, 1024]⟩
abbrev S8192x512 : Shape := ⟨2, ![8192, 512]⟩
abbrev S3x256 : Shape := ⟨2, ![3, 256]⟩
abbrev S4x64x64 : Shape := ⟨3, ![4, 64, 64]⟩
abbrev S256 : Shape := ⟨1, ![256]⟩
abbrev S1024 : Shape := ⟨1, ![1024]⟩
abbrev S256x256 : Shape := ⟨2, ![256, 256]⟩
abbrev S1024x128 : Shape := ⟨2, ![1024, 128]⟩
abbrev S_ : Shape := ⟨0, ![]⟩
abbrev S128x1024 : Shape := ⟨2, ![128, 1024]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x256 : Shape := ⟨2, ![1, 256]⟩
abbrev S1x1024 : Shape := ⟨2, ![1, 1024]⟩
abbrev S8192x128 : Shape := ⟨2, ![8192, 128]⟩
abbrev S512x256 : Shape := ⟨2, ![512, 256]⟩
abbrev S16x256 : Shape := ⟨2, ![16, 256]⟩
abbrev S512x512 : Shape := ⟨2, ![512, 512]⟩
abbrev S512x1024 : Shape := ⟨2, ![512, 1024]⟩
abbrev S512x128 : Shape := ⟨2, ![512, 128]⟩
abbrev S528x256 : Shape := ⟨2, ![528, 256]⟩

abbrev nBuf : Space → Nat
  | .hbm => 75
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S3x256, .f32⟩
  | .hbm, ⟨3, _⟩ => ⟨S4x64x64, .f32⟩
  | .hbm, ⟨4, _⟩ => ⟨S256, .f32⟩
  | .hbm, ⟨5, _⟩ => ⟨S1024, .f32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .bf16⟩
  | .hbm, ⟨10, _⟩ => ⟨S256x256, .i1⟩
  | .hbm, ⟨11, _⟩ => ⟨S256x256, .bf16⟩
  | .hbm, ⟨12, _⟩ => ⟨S1024x128, .i32⟩
  | .hbm, ⟨13, _⟩ => ⟨S_, .i32⟩
  | .hbm, ⟨14, _⟩ => ⟨S_, .i32⟩
  | .hbm, ⟨15, _⟩ => ⟨S1024x128, .i32⟩
  | .hbm, ⟨16, _⟩ => ⟨S1024x128, .i32⟩
  | .hbm, ⟨17, _⟩ => ⟨S1024x128, .i32⟩
  | .hbm, ⟨18, _⟩ => ⟨S_, .i32⟩
  | .hbm, ⟨19, _⟩ => ⟨S1024x128, .i32⟩
  | .hbm, ⟨20, _⟩ => ⟨S1024x128, .i1⟩
  | .hbm, ⟨21, _⟩ => ⟨S1024x128, .i32⟩
  | .hbm, ⟨22, _⟩ => ⟨S1024x128, .i32⟩
  | .hbm, ⟨23, _⟩ => ⟨S_, .i32⟩
  | .hbm, ⟨24, _⟩ => ⟨S1024x128, .i32⟩
  | .hbm, ⟨25, _⟩ => ⟨S1024x128, .i1⟩
  | .hbm, ⟨26, _⟩ => ⟨S1024x128, .i1⟩
  | .hbm, ⟨27, _⟩ => ⟨S_, .i32⟩
  | .hbm, ⟨28, _⟩ => ⟨S1024x128, .i32⟩
  | .hbm, ⟨29, _⟩ => ⟨S1024x128, .i32⟩
  | .hbm, ⟨30, _⟩ => ⟨S1024x128, .i32⟩
  | .hbm, ⟨31, _⟩ => ⟨S1024x128, .i32⟩
  | .hbm, ⟨32, _⟩ => ⟨S1024x128, .i1⟩
  | .hbm, ⟨33, _⟩ => ⟨S1024x128, .bf16⟩
  | .hbm, ⟨34, _⟩ => ⟨S128x1024, .bf16⟩
  | .hbm, ⟨35, _⟩ => ⟨S_, .f32⟩
  | .hbm, ⟨36, _⟩ => ⟨S256x256, .f32⟩
  | .hbm, ⟨37, _⟩ => ⟨S1x64x64, .f32⟩
  | .hbm, ⟨38, _⟩ => ⟨S64x64, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S256x256, .f32⟩
  | .hbm, ⟨45, _⟩ => ⟨S1x64x64, .f32⟩
  | .hbm, ⟨46, _⟩ => ⟨S64x64, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S256x256, .f32⟩
  | .hbm, ⟨53, _⟩ => ⟨S1x64x64, .f32⟩
  | .hbm, ⟨54, _⟩ => ⟨S64x64, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S256x256, .f32⟩
  | .hbm, ⟨61, _⟩ => ⟨S1x64x64, .f32⟩
  | .hbm, ⟨62, _⟩ => ⟨S64x64, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S256x256, .f32⟩
  | .hbm, ⟨69, _⟩ => ⟨S256x256, .bf16⟩
  | .hbm, ⟨70, _⟩ => ⟨S1x256, .f32⟩
  | .hbm, ⟨71, _⟩ => ⟨S1x1024, .f32⟩
  | .hbm, ⟨72, _⟩ => ⟨S8192x512, .f32⟩
  | .hbm, ⟨73, _⟩ => ⟨S8192x1024, .bf16⟩
  | .hbm, ⟨74, _⟩ => ⟨S8192x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S16x256, .f32⟩
  | .local _ .vmem, ⟨5, _⟩ => ⟨S16x256, .f32⟩
  | .local _ .vmem, ⟨6, _⟩ => ⟨S512x256, .f32⟩
  | .local _ .vmem, ⟨7, _⟩ => ⟨S512x256, .f32⟩
  | .local _ .vmem, ⟨8, _⟩ => ⟨S16x256, .f32⟩
  | .local _ .vmem, ⟨9, _⟩ => ⟨S16x256, .f32⟩
  | .local _ .vmem, ⟨10, _⟩ => ⟨S512x256, .f32⟩
  | .local _ .vmem, ⟨11, _⟩ => ⟨S512x256, .f32⟩
  | .local _ .vmem, ⟨12, _⟩ => ⟨S16x256, .f32⟩
  | .local _ .vmem, ⟨13, _⟩ => ⟨S16x256, .f32⟩
  | .local _ .vmem, ⟨14, _⟩ => ⟨S512x512, .f32⟩
  | .local _ .vmem, ⟨15, _⟩ => ⟨S512x512, .f32⟩
  | .local _ .vmem, ⟨16, _⟩ => ⟨S3x256, .f32⟩
  | .local _ .vmem, ⟨17, _⟩ => ⟨S256x256, .bf16⟩
  | .local _ .vmem, ⟨18, _⟩ => ⟨S1x256, .f32⟩
  | .local _ .vmem, ⟨19, _⟩ => ⟨S1x1024, .f32⟩
  | .local _ .vmem, ⟨20, _⟩ => ⟨S1024x128, .bf16⟩
  | .local _ .vmem, ⟨21, _⟩ => ⟨S128x1024, .bf16⟩
  | .local _ .vmem, ⟨22, _⟩ => ⟨S512x512, .f32⟩
  | .local _ .vmem, ⟨23, _⟩ => ⟨S512x512, .f32⟩
  | .local _ .vmem, ⟨24, _⟩ => ⟨S512x1024, .bf16⟩
  | .local _ .vmem, ⟨25, _⟩ => ⟨S512x1024, .bf16⟩
  | .local _ .vmem, ⟨26, _⟩ => ⟨S512x128, .f32⟩
  | .local _ .vmem, ⟨27, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_v15 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_2 : Ref sig .tc := ⟨.hbm, 47, rfl⟩
abbrev main_v21 : Ref sig .tc := ⟨.hbm, 48, rfl⟩
abbrev main_c_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_c_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40_0 : Ref sig .tc := ⟨.hbm, 72, rfl⟩
abbrev main_v40_1 : Ref sig .tc := ⟨.hbm, 73, rfl⟩
abbrev main_v40_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixerRefIdeal.lean ====
abbrev S8192x1024 : Shape := ⟨2, ![8192, 1024]⟩
abbrev S8192x512 : Shape := ⟨2, ![8192, 512]⟩
abbrev S3x256 : Shape := ⟨2, ![3, 256]⟩
abbrev S4x64x64 : Shape := ⟨3, ![4, 64, 64]⟩
abbrev S256 : Shape := ⟨1, ![256]⟩
abbrev S1024 : Shape := ⟨1, ![1024]⟩
abbrev S8192x256 : Shape := ⟨2, ![8192, 256]⟩
abbrev S_ : Shape := ⟨0, ![]⟩
abbrev S8194x256 : Shape := ⟨2, ![8194, 256]⟩
abbrev S1x256 : Shape := ⟨2, ![1, 256]⟩
abbrev S8192x4x64 : Shape := ⟨3, ![8192, 4, 64]⟩
abbrev S8193x4x64 : Shape := ⟨3, ![8193, 4, 64]⟩
abbrev S8192 : Shape := ⟨1, ![8192]⟩
abbrev S8192x1x64 : Shape := ⟨3, ![8192, 1, 64]⟩
abbrev S8192x64 : Shape := ⟨2, ![8192, 64]⟩
abbrev S8192x1 : Shape := ⟨2, ![8192, 1]⟩
abbrev S8192x2 : Shape := ⟨2, ![8192, 2]⟩
abbrev S4x64x8192 : Shape := ⟨3, ![4, 64, 8192]⟩
abbrev S8192x16x64 : Shape := ⟨3, ![8192, 16, 64]⟩
abbrev S8192x16 : Shape := ⟨2, ![8192, 16]⟩
abbrev S8192x112 : Shape := ⟨2, ![8192, 112]⟩
abbrev S8192x16x1 : Shape := ⟨3, ![8192, 16, 1]⟩
abbrev S1x1024 : Shape := ⟨2, ![1, 1024]⟩
abbrev S8192x128 : Shape := ⟨2, ![8192, 128]⟩

abbrev nBuf : Space → Nat
  | .hbm => 238
  | .vmem => 0
  | .smem => 0
  | _ => 0

abbrev hbmTy0_0 (i : Nat) : BufTy := match i % 128 with
  | 0 => ⟨S8192x1024, .f32⟩
  | 1 => ⟨S8192x512, .f32⟩
  | 2 => ⟨S3x256, .f32⟩
  | 3 => ⟨S4x64x64, .f32⟩
  | 4 => ⟨S256, .f32⟩
  | 5 => ⟨S1024, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S_, .i32⟩
  | 12 => ⟨S_, .f32⟩
  | 13 => ⟨S8194x256, .f32⟩
  | 14 => ⟨S8192x256, .f32⟩
  | 15 => ⟨S1x256, .f32⟩
  | 16 => ⟨S256, .f32⟩
  | 17 => ⟨S1x256, .f32⟩
  | 18 => ⟨S8192x256, .f32⟩
  | 19 => ⟨S8192x256, .f32⟩
  | 20 => ⟨S8192x256, .f32⟩
  | 21 => ⟨S1x256, .f32⟩
  | 22 => ⟨S256, .f32⟩
  | 23 => ⟨S1x256, .f32⟩
  | 24 => ⟨S8192x256, .f32⟩
  | 25 => ⟨S8192x256, .f32⟩
  | 26 => ⟨S8192x256, .f32⟩
  | 27 => ⟨S8192x256, .f32⟩
  | 28 => ⟨S1x256, .f32⟩
  | 29 => ⟨S256, .f32⟩
  | 30 => ⟨S1x256, .f32⟩
  | 31 => ⟨S8192x256, .f32⟩
  | 32 => ⟨S8192x256, .f32⟩
  | 33 => ⟨S8192x256, .f32⟩
  | 34 => ⟨S8192x256, .f32⟩
  | 35 => ⟨S8192x4x64, .f32⟩
  | 36 => ⟨S_, .f32⟩
  | 37 => ⟨S_, .f32⟩
  | 38 => ⟨S8192x4x64, .f32⟩
  | 39 => ⟨S_, .i32⟩
  | 40 => ⟨S_, .f32⟩
  | 41 => ⟨S8193x4x64, .f32⟩
  | 42 => ⟨S8192, .i32⟩
  | 43 => ⟨S_, .i32⟩
  | 44 => ⟨S8192, .i32⟩
  | 45 => ⟨S8192, .i32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S8192x1x64, .f32⟩
  | 53 => ⟨S8192x64, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192x1, .i32⟩
  | 65 => ⟨S8192x1, .i32⟩
  | 66 => ⟨S8192x2, .i32⟩
  | 67 => ⟨S8192x64, .f32⟩
  | 68 => ⟨S8192x64, .f32⟩
  | 69 => ⟨S_, .i32⟩
  | 70 => ⟨S8192, .i32⟩
  | 71 => ⟨S8192, .i32⟩
  | 72 => ⟨S8192, .i32⟩
  | 73 => ⟨S8192, .f32⟩
  | 74 => ⟨S8192x1, .f32⟩
  | 75 => ⟨S8192x64, .f32⟩
  | 76 => ⟨S8192x64, .f32⟩
  | 77 => ⟨S8192x1x64, .f32⟩
  | 78 => ⟨S8192x64, .f32⟩
  | 79 => ⟨S8192x64, .f32⟩
  | 80 => ⟨S_, .i32⟩
  | 81 => ⟨S8192, .i32⟩
  | 82 => ⟨S8192, .i32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S8192x1x64, .f32⟩
  | 90 => ⟨S8192x64, .f32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192x1, .i32⟩
  | 102 => ⟨S8192x1, .i32⟩
  | 103 => ⟨S8192x2, .i32⟩
  | 104 => ⟨S8192x64, .f32⟩
  | 105 => ⟨S8192x64, .f32⟩
  | 106 => ⟨S_, .i32⟩
  | 107 => ⟨S8192, .i32⟩
  | 108 => ⟨S8192, .i32⟩
  | 109 => ⟨S8192, .i32⟩
  | 110 => ⟨S8192, .f32⟩
  | 111 => ⟨S8192x1, .f32⟩
  | 112 => ⟨S8192x64, .f32⟩
  | 113 => ⟨S8192x64, .f32⟩
  | 114 => ⟨S8192x1x64, .f32⟩
  | 115 => ⟨S8192x64, .f32⟩
  | 116 => ⟨S8192x64, .f32⟩
  | 117 => ⟨S_, .i32⟩
  | 118 => ⟨S8192, .i32⟩
  | 119 => ⟨S8192, .i32⟩
  | 120 => ⟨S_, .i32⟩
  | 121 => ⟨S8192, .i32⟩
  | 122 => ⟨S8192, .i32⟩
  | 123 => ⟨S_, .i32⟩
  | 124 => ⟨S8192, .i32⟩
  | 125 => ⟨S8192, .i32⟩
  | 126 => ⟨S8192x1x64, .f32⟩
  | 127 => ⟨S8192x64, .f32⟩
  | _ => ⟨S8192x1024, .f32⟩

abbrev hbmTy0_1 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S_, .i32⟩
  | 8 => ⟨S8192, .i32⟩
  | 9 => ⟨S8192, .i32⟩
  | 10 => ⟨S8192x1, .i32⟩
  | 11 => ⟨S8192x1, .i32⟩
  | 12 => ⟨S8192x2, .i32⟩
  | 13 => ⟨S8192x64, .f32⟩
  | 14 => ⟨S8192x64, .f32⟩
  | 15 => ⟨S_, .i32⟩
  | 16 => ⟨S8192, .i32⟩
  | 17 => ⟨S8192, .i32⟩
  | 18 => ⟨S8192, .i32⟩
  | 19 => ⟨S8192, .f32⟩
  | 20 => ⟨S8192x1, .f32⟩
  | 21 => ⟨S8192x64, .f32⟩
  | 22 => ⟨S8192x64, .f32⟩
  | 23 => ⟨S8192x1x64, .f32⟩
  | 24 => ⟨S8192x64, .f32⟩
  | 25 => ⟨S8192x64, .f32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S8192x1x64, .f32⟩
  | 36 => ⟨S8192x64, .f32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192x1, .i32⟩
  | 48 => ⟨S8192x1, .i32⟩
  | 49 => ⟨S8192x2, .i32⟩
  | 50 => ⟨S8192x64, .f32⟩
  | 51 => ⟨S8192x64, .f32⟩
  | 52 => ⟨S_, .i32⟩
  | 53 => ⟨S8192, .i32⟩
  | 54 => ⟨S8192, .i32⟩
  | 55 => ⟨S8192, .i32⟩
  | 56 => ⟨S8192, .f32⟩
  | 57 => ⟨S8192x1, .f32⟩
  | 58 => ⟨S8192x64, .f32⟩
  | 59 => ⟨S8192x64, .f32⟩
  | 60 => ⟨S8192x1x64, .f32⟩
  | 61 => ⟨S8192x64, .f32⟩
  | 62 => ⟨S8192x64, .f32⟩
  | 63 => ⟨S8192x1x64, .f32⟩
  | 64 => ⟨S8192x1x64, .f32⟩
  | 65 => ⟨S8192x1x64, .f32⟩
  | 66 => ⟨S8192x1x64, .f32⟩
  | 67 => ⟨S8192x4x64, .f32⟩
  | 68 => ⟨S4x64x8192, .f32⟩
  | 69 => ⟨S8192x4x64, .f32⟩
  | 70 => ⟨S8192x256, .f32⟩
  | 71 => ⟨S1x256, .f32⟩
  | 72 => ⟨S8192x256, .f32⟩
  | 73 => ⟨S8192x256, .f32⟩
  | 74 => ⟨S8192x512, .f32⟩
  | 75 => ⟨S8192x1024, .f32⟩
  | 76 => ⟨S8192x16x64, .f32⟩
  | 77 => ⟨S8192x16x64, .f32⟩
  | 78 => ⟨S_, .f32⟩
  | 79 => ⟨S8192x16, .f32⟩
  | 80 => ⟨S_, .f32⟩
  | 81 => ⟨S8192x16, .f32⟩
  | 82 => ⟨S8192x16, .f32⟩
  | 83 => ⟨S_, .f32⟩
  | 84 => ⟨S8192x16, .f32⟩
  | 85 => ⟨S8192x16, .f32⟩
  | 86 => ⟨S8192x16, .f32⟩
  | 87 => ⟨S_, .f32⟩
  | 88 => ⟨S8192x112, .f32⟩
  | 89 => ⟨S8192x112, .f32⟩
  | 90 => ⟨S8192x16x64, .f32⟩
  | 91 => ⟨S8192x16x64, .f32⟩
  | 92 => ⟨S_, .f32⟩
  | 93 => ⟨S8192x16, .f32⟩
  | 94 => ⟨S8192x16x1, .f32⟩
  | 95 => ⟨S_, .f32⟩
  | 96 => ⟨S8192x16x1, .f32⟩
  | 97 => ⟨S8192x16x1, .f32⟩
  | 98 => ⟨S_, .f32⟩
  | 99 => ⟨S8192x16x1, .f32⟩
  | 100 => ⟨S8192x16x1, .f32⟩
  | 101 => ⟨S8192x16x1, .f32⟩
  | 102 => ⟨S8192x16x64, .f32⟩
  | 103 => ⟨S8192x16x64, .f32⟩
  | 104 => ⟨S8192x1024, .f32⟩
  | 105 => ⟨S1x1024, .f32⟩
  | 106 => ⟨S8192x1024, .f32⟩
  | 107 => ⟨S8192x1024, .f32⟩
  | 108 => ⟨S8192x1024, .bf16⟩
  | 109 => ⟨S8192x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call1_call0_cst : Ref sig .tc := ⟨.hbm, 36, rfl⟩
abbrev main_call1_call0_v0 : Ref sig .tc := ⟨.hbm, 37, rfl⟩
abbrev main_v28 : Ref sig .tc := ⟨.hbm, 38, rfl⟩
abbrev main_c_0 : Ref sig .tc := ⟨.hbm, 39, rfl⟩
abbrev main_call2_v0 : Ref sig .tc := ⟨.hbm, 40, rfl⟩
abbrev main_v29 : Ref sig .tc := ⟨.hbm, 41, rfl⟩
abbrev main_v30 : Ref sig .tc := ⟨.hbm, 42, rfl⟩
abbrev main_c_1 : Ref sig .tc := ⟨.hbm, 43, rfl⟩
abbrev main_v31 : Ref sig .tc := ⟨.hbm, 44, rfl⟩
abbrev main_v32 : Ref sig .tc := ⟨.hbm, 45, rfl⟩
abbrev main_c_2 : Ref sig .tc := ⟨.hbm, 46, rfl⟩
abbrev main_v33 : Ref sig .tc := ⟨.hbm, 47, rfl⟩
abbrev main_v34 : Ref sig .tc := ⟨.hbm, 48, rfl⟩
abbrev main_c_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_8 : Ref sig .tc := ⟨.hbm, 80, rfl⟩
abbrev main_v61 : Ref sig .tc := ⟨.hbm, 81, rfl⟩
abbrev main_v62 : Ref sig .tc := ⟨.hbm, 82, rfl⟩
abbrev main_c_9 : Ref sig .tc := ⟨.hbm, 83, rfl⟩
abbrev main_v63 : Ref sig .tc := ⟨.hbm, 84, rfl⟩
abbrev main_v64 : Ref sig .tc := ⟨.hbm, 85, rfl⟩
abbrev main_c_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_11 : Ref sig .tc := ⟨.hbm, 91, rfl⟩
abbrev main_v69 : Ref sig .tc := ⟨.hbm, 92, rfl⟩
abbrev main_v70 : Ref sig .tc := ⟨.hbm, 93, rfl⟩
abbrev main_c_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_14 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_15 : Ref sig .tc := ⟨.hbm, 117, rfl⟩
abbrev main_v91 : Ref sig .tc := ⟨.hbm, 118, rfl⟩
abbrev main_v92 : Ref sig .tc := ⟨.hbm, 119, rfl⟩
abbrev main_c_16 : Ref sig .tc := ⟨.hbm, 120, rfl⟩
abbrev main_v93 : Ref sig .tc := ⟨.hbm, 121, rfl⟩
abbrev main_v94 : Ref sig .tc := ⟨.hbm, 122, rfl⟩
abbrev main_c_17 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_18 : Ref sig .tc := ⟨.hbm, 128, rfl⟩
abbrev main_v99 : Ref sig .tc := ⟨.hbm, 129, rfl⟩
abbrev main_v100 : Ref sig .tc := ⟨.hbm, 130, rfl⟩
abbrev main_c_19 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_20 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_21 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_c_22 : Ref sig .tc := ⟨.hbm, 154, rfl⟩
abbrev main_v121 : Ref sig .tc := ⟨.hbm, 155, rfl⟩
abbrev main_v122 : Ref sig .tc := ⟨.hbm, 156, rfl⟩
abbrev main_c_23 : Ref sig .tc := ⟨.hbm, 157, rfl⟩
abbrev main_v123 : Ref sig .tc := ⟨.hbm, 158, rfl⟩
abbrev main_v124 : Ref sig .tc := ⟨.hbm, 159, rfl⟩
abbrev main_c_24 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_c_25 : Ref sig .tc := ⟨.hbm, 165, rfl⟩
abbrev main_v129 : Ref sig .tc := ⟨.hbm, 166, rfl⟩
abbrev main_v130 : Ref sig .tc := ⟨.hbm, 167, rfl⟩
abbrev main_c_26 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_c_27 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_c_28 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_cst : Ref sig .tc := ⟨.hbm, 206, rfl⟩
abbrev main_v166 : Ref sig .tc := ⟨.hbm, 207, rfl⟩
abbrev main_cst_29 : Ref sig .tc := ⟨.hbm, 208, rfl⟩
abbrev main_v167 : Ref sig .tc := ⟨.hbm, 209, rfl⟩
abbrev main_v168 : Ref sig .tc := ⟨.hbm, 210, rfl⟩
abbrev main_cst_30 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_31 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_cst_32 : Ref sig .tc := ⟨.hbm, 220, rfl⟩
abbrev main_v176 : Ref sig .tc := ⟨.hbm, 221, rfl⟩
abbrev main_v177 : Ref sig .tc := ⟨.hbm, 222, rfl⟩
abbrev main_cst_33 : Ref sig .tc := ⟨.hbm, 223, rfl⟩
abbrev main_v178 : Ref sig .tc := ⟨.hbm, 224, rfl⟩
abbrev main_v179 : Ref sig .tc := ⟨.hbm, 225, rfl⟩
abbrev main_cst_34 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩

abbrev nD : Nat := 1
abbrev τ : Topo := Topo.v7x

variable {F : FTy → Type} [FloatOps F]
-- ==== Proof.Finite.lean ====
module

public import Idealize.ShloMosaic.PureOps.Ideal
public import Idealize.ShloMosaic.Lib.WordCmp

/-! A value whose absolute value is below infinity is a real number. -/

@[expose] public section

noncomputable section

namespace Cert.Fin

open Idealize.ShloMosaic

/-- The comparison `|x| < ∞` holds of real numbers only. -/
theorem real_of_lt {x : EReal} (h : (FloatOps.cmpf (F := Ideal) (φ := .f32) .olt (FloatOps.absf (F := Ideal) (φ := .f32) x) (Ideal.ofBits .f32 0x7F800000#32)) = 1#1) :
    x = (x.toReal : EReal) := by
  have e : Ideal.ofBits .f32 0x7F800000#32 = ⊤ := by simp [Ideal.ofBits, Ideal.ieee]
  rw [e] at h
  induction x using EReal.rec with
  | coe r => simp
  | top => exfalso; revert h; simp [FloatOps.cmpf, FloatOps.absf, Ideal.cmp]
  | bot => exfalso; revert h; simp [FloatOps.cmpf, FloatOps.absf, Ideal.cmp]

end Cert.Fin

end
-- ==== Proof.Bwd.Cond.lean ====
module

public import proofs.«01_k».proof.Proof.Gen.KernelIdeal.Frame

@[expose] public section

set_option maxRecDepth 16384

noncomputable section

namespace Cert.KernelIdeal.Bwd

open Idealize.ShloMosaic Cert.KernelIdeal.Gen

/-- The grid coordinates of head pair 0, query tile `x`. -/
def atTile (x : Fin 32) : grid0.Coords := fun a => match a with
  | ⟨0, _⟩ => (⟨0, by decide⟩ : Fin 4)
  | ⟨1, _⟩ => x

/-- The side conditions at every query tile and every number of skipped tiles up to the tile's own. -/
theorem chk_tile : ∀ x : Fin 32, ∀ n : Fin 32, n.val ≤ x.val → k0_chk1 (atTile x) (BitVec.ofNat 32 n.val) := by
  decide +kernel

/-- A count of dead tiles that is at most the tile's own number passes every side condition: the loops stay inside the arrays. -/
theorem chk_of_le (i : grid0.Coords) (n : ℕ) (hn : n ≤ (i 1).val) : k0_chk1 i (BitVec.ofNat 32 n) :=
  chk_tile (i 1) ⟨n, Nat.lt_of_le_of_lt hn (i 1).isLt⟩ hn

end Cert.KernelIdeal.Bwd
-- ==== Proof.Bwd.Count.lean ====
module

public import proofs.«01_k».proof.Proof.Gen.KernelIdeal.Loops
public import proofs.«01_k».proof.Proof.Bwd.Cond
public import Idealize.ShloMosaic.Lib.WordSum
public import Idealize.ShloMosaic.Lib.Pointwise

@[expose] public section

set_option maxRecDepth 16384

noncomputable section

namespace Cert.KernelIdeal.Bwd

open Idealize.ShloMosaic Cert.KernelIdeal.Gen

variable {F : FTy → Type} [FloatOps F] [Named F]

/-- The lane numbers of a block of running sums. -/
abbrev lanes : IVec S256x128 32 := iota .tc S256x128 32 [1] iota_S256x128_d1_w32

/-- The number of tiles the kernel skips, from the two heads' running sums. -/
abbrev firstOf (w : BitVec 32) (a b : Vec F S1x256x128 .f32) : BitVec 32 :=
  extractAt ![0, 0, 0] (k0_pay69 (k0_pay68 w lanes a b)) inpos_S1x1x1_p0_0_0

/-- A lane of the skip mask counts nothing from the query tile's own number on. -/
theorem lane_zero (x : ℕ) (a b : Vec F S1x256x128 .f32) (j0 j1 : Fin 1) (j2 : Fin 128) (hx : x < 32) (h : ¬ j2.val < x) :
    (k0_pay68 (BitVec.ofNat 32 x) lanes a b (ix3 j0 j1 j2)).toNat = 0 := by
  pointwise [k0_pay68]
  have hb : ∀ c d : BitVec 1, d = 0#1 → (BitVec.setWidth 32 (IntOp.andi c d)).toNat = 0 := by decide
  refine hb _ _ ?_
  have hlt : ¬ (BitVec.ofNat 32 (j2 : ℕ)).toInt < (BitVec.ofNat 32 x).toInt := by
    have := j2.isLt
    rw [BitVec.toInt_eq_toNat_bmod, BitVec.toInt_eq_toNat_bmod, BitVec.toNat_ofNat, BitVec.toNat_ofNat]
    unfold Int.bmod
    dsimp only
    split_ifs <;> omega
  show BitVec.ofBool (BitVec.slt _ _) = 0#1
  rw [BitVec.slt, decide_eq_false hlt]; rfl

/-- A lane of the skip mask counts one at most. -/
theorem lane_one (x : ℕ) (a b : Vec F S1x256x128 .f32) (j0 j1 : Fin 1) (j2 : Fin 128) :
    (k0_pay68 (BitVec.ofNat 32 x) lanes a b (ix3 j0 j1 j2)).toNat ≤ 1 := by
  pointwise [k0_pay68]
  have h1 : ∀ c : BitVec 1, (BitVec.setWidth 32 c).toNat ≤ 1 := by decide
  exact h1 _

theorem lane_le (x : ℕ) (hx : x < 32) (a b : Vec F S1x256x128 .f32) (j : S1x1x128.Idx) :
    (k0_pay68 (BitVec.ofNat 32 x) lanes a b j).toNat ≤ if (j 2).val < x then 1 else 0 := by
  rw [eq_ix3 j]
  by_cases h : (j 2).val < x
  · exact (lane_one x a b _ _ _).trans_eq (if_pos h).symm
  · exact ((lane_zero x a b _ _ _ hx h).trans (if_neg h).symm).le

theorem card_lanes (x : ℕ) : (Finset.univ.filter fun j : S1x1x128.Idx => (j 2).val < x).card ≤ x := by
  refine (Finset.card_le_card_of_injOn (t := Finset.range x) (fun j => (j 2).val) (fun j hj => ?_) fun j _ k _ h => ?_).trans_eq (Finset.card_range x)
  · exact Finset.mem_coe.2 (Finset.mem_range.2 (Finset.mem_filter.1 (Finset.mem_coe.1 hj)).2)
  · funext e
    have h0 := (j 0).isLt; have h1 := (j 1).isLt; have k0 := (k 0).isLt; have k1 := (k 1).isLt
    fin_cases e
    · exact Fin.ext (by have : S1x1x128.size 0 = 1 := rfl; simp only [this] at *; change (j 0).val = (k 0).val; omega)
    · exact Fin.ext (by have : S1x1x128.size 1 = 1 := rfl; simp only [this] at *; change (j 1).val = (k 1).val; omega)
    · exact Fin.ext h

theorem firstOf_le (x : ℕ) (hx : x < 32) (a b : Vec F S1x256x128 .f32) : (firstOf (BitVec.ofNat 32 x) a b).toNat ≤ x := by
  have hs : ∀ P : S1x1x128.Idx → Prop, [DecidablePred P] → ∑ j ∈ Finset.univ.filter P, (k0_pay68 (BitVec.ofNat 32 x) lanes a b j).toNat ≤ x := fun P _ => by
    refine (Finset.sum_le_sum_of_subset (Finset.filter_subset P _)).trans ?_
    refine (Finset.sum_le_sum fun j _ => lane_le x hx a b j).trans ?_
    rw [Finset.sum_boole]
    exact card_lanes x
  unfold firstOf k0_pay69
  simp only [extractAt, shapeCast]
  refine (WordSum.toNat_multiReductionI_add _ _ rfl _ (lt_of_le_of_lt (hs _) (by omega))).trans_le ?_
  exact hs _

/-- The count of skipped tiles passes the side conditions at every grid point. -/
theorem chk_first (i : grid0.Coords) (a b : Vec F S1x256x128 .f32) : k0_chk1 i (firstOf (BitVec.ofNat 32 (i 1).val) a b) := by
  have h := chk_of_le i _ (firstOf_le (i 1).val (i 1).isLt a b)
  rwa [BitVec.ofNat_toNat, BitVec.setWidth_eq] at h

end Cert.KernelIdeal.Bwd
-- ==== Proof.Bwd.Cases.lean ====
module

public import proofs.«01_k».proof.Proof.Bwd.Count

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The first query tile of a head pair: the accumulators are cleared. -/
abbrev isFirst (i : grid0.Coords) : Prop := Scalar.cmpi .ne (Scalar.extui (Scalar.cmpi .eq (BitVec.ofNat 32 (i 1).val) 0#32)) 0#32 = 1#1

/-- The last query tile of a head pair: the accumulators are stored. -/
abbrev isLast (i : grid0.Coords) : Prop := k0_cond2 i = 1#1

theorem off7_tile : ∀ x : Fin 32, k0_off7 (atTile x) = ![x.val - 1, 0, 0] := by decide +kernel
theorem off8_tile : ∀ x : Fin 32, k0_off8 (atTile x) = ![x.val, 0, 0] := by decide +kernel

/-- The block of keys before the query tile's own (block 0 at the first tile). -/
instance closedOff7 (i : grid0.Coords) : ClosedOff (k0_off7 i) := ⟨![(i 1).val - 1, 0, 0], off7_tile (i 1)⟩
/-- The block of keys of the query tile itself. -/
instance closedOff8 (i : grid0.Coords) : ClosedOff (k0_off8 i) := ⟨![(i 1).val, 0, 0], off8_tile (i 1)⟩

theorem isFirst_tile : ∀ x : Fin 32, isFirst (atTile x) ↔ x.val = 0 := by decide +kernel
theorem isLast_tile : ∀ x : Fin 32, isLast (atTile x) ↔ x.val = 31 := by decide +kernel

theorem isFirst_iff (i : grid0.Coords) : isFirst i ↔ (i 1).val = 0 := isFirst_tile (i 1)
theorem isLast_iff (i : grid0.Coords) : isLast i ↔ (i 1).val = 31 := isLast_tile (i 1)

end Cert.KernelIdeal.Bwd
-- ==== Proof.Bwd.RunFirst.lean ====
module

public import proofs.«01_k».proof.Proof.Bwd.Cases

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 4000000 in
/-- The body at the first query tile of a head pair. -/
def runFirst (c : Dev nD) (i : grid0.Coords)
    (arg2 : Memref sig .tc .vmem S256x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S256x128 .bf16) (harg5 : arg5.IsWhole)
    (arg6 : Memref sig .tc .vmem S2x256x128 .f32) (harg6 : arg6.IsWhole) (arg7 : Memref sig .tc .vmem S256x256 .bf16) (harg7 : arg7.IsWhole)
    (arg8 : Memref sig .tc .vmem S256x256 .bf16) (harg8 : arg8.IsWhole) (arg9 : Memref sig .tc .vmem S256x128 .bf16) (harg9 : arg9.IsWhole)
    (arg10 : Memref sig .tc .vmem S8192x128 .bf16) (harg10 : arg10.IsWhole) (arg11 : Memref sig .tc .vmem S8192x128 .bf16) (harg11 : arg11.IsWhole)
    (arg12 : Memref sig .tc .vmem S32x128x256 .f32) (harg12 : arg12.IsWhole) (arg13 : Memref sig .tc .vmem S32x128x256 .f32) (harg13 : arg13.IsWhole)
    (hf : isFirst i) (hl : ¬ isLast i)
    (x0 : Vec F S256x128 .bf16) (x1 x2 : Vec F S8192x128 .bf16) (x3 : Vec F S256x128 .bf16) (x4 : Vec F S2x256x128 .f32) (x5 x6 : Vec F S256x256 .bf16) :
    Σ' (L9 : List (View.Piece (Elt F) S256x128 .bf16)) (L12 : List (View.Piece (Elt F) S32x128x256 .f32)),
    { L13 : List (View.Piece (Elt F) S32x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L9)
                ∗ (arg12.view.loc (c : Thread nD τ) ↦[arg12.view.set]{fullShare} arg12.view.writes (Elt F) arg12.view.junk L12)
                ∗ (arg13.view.loc (c : Thread nD τ) ↦[arg13.view.set]{fullShare} arg13.view.writes (Elt F) arg13.view.junk L13)) -∗ K ⟨⟩))
          ⊢ wp frame (wpE (defs₀ (F := F)) Variants.none c none) E (cc0_attn_bwd1 i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    have hpos : (i 1).val = 0 := (isFirst_iff i).1 hf
    simp only [cc0_attn_bwd1_eq_skeleton]; unfold cc0_attn_bwd1_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | sl_exact hf | sl_exact hl | exact chk_first _ _ _)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]; · iexact HS0
    iexact HS1

end Cert.KernelIdeal.Bwd
-- ==== Proof.Bwd.RunMid.lean ====
module

public import proofs.«01_k».proof.Proof.Bwd.Cases

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 4000000 in
/-- The body at a query tile that is neither the first nor the last of its head pair. -/
def runMid (c : Dev nD) (i : grid0.Coords)
    (arg2 : Memref sig .tc .vmem S256x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S256x128 .bf16) (harg5 : arg5.IsWhole)
    (arg6 : Memref sig .tc .vmem S2x256x128 .f32) (harg6 : arg6.IsWhole) (arg7 : Memref sig .tc .vmem S256x256 .bf16) (harg7 : arg7.IsWhole)
    (arg8 : Memref sig .tc .vmem S256x256 .bf16) (harg8 : arg8.IsWhole) (arg9 : Memref sig .tc .vmem S256x128 .bf16) (harg9 : arg9.IsWhole)
    (arg10 : Memref sig .tc .vmem S8192x128 .bf16) (harg10 : arg10.IsWhole) (arg11 : Memref sig .tc .vmem S8192x128 .bf16) (harg11 : arg11.IsWhole)
    (arg12 : Memref sig .tc .vmem S32x128x256 .f32) (harg12 : arg12.IsWhole) (arg13 : Memref sig .tc .vmem S32x128x256 .f32) (harg13 : arg13.IsWhole)
    (hf : ¬ isFirst i) (hl : ¬ isLast i)
    (x0 : Vec F S256x128 .bf16) (x1 x2 : Vec F S8192x128 .bf16) (x3 : Vec F S256x128 .bf16) (x4 : Vec F S2x256x128 .f32) (x5 x6 : Vec F S256x256 .bf16)
    (s0 s1 : Vec F S32x128x256 .f32) :
    Σ' (L9 : List (View.Piece (Elt F) S256x128 .bf16)) (L12 : List (View.Piece (Elt F) S32x128x256 .f32)),
    { L13 : List (View.Piece (Elt F) S32x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg12 fullShare s0 ∗ owns (c : Thread nD τ) arg13 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L9)
                ∗ (arg12.view.loc (c : Thread nD τ) ↦[arg12.view.set]{fullShare} arg12.view.writes (Elt F) (harg12.unread s0) L12)
                ∗ (arg13.view.loc (c : Thread nD τ) ↦[arg13.view.set]{fullShare} arg13.view.writes (Elt F) (harg13.unread s1) L13)) -∗ K ⟨⟩))
          ⊢ wp frame (wpE (defs₀ (F := F)) Variants.none c none) E (cc0_attn_bwd1 i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    have hpos : 1 ≤ (i 1).val := Nat.one_le_iff_ne_zero.2 fun h => hf ((isFirst_iff i).2 h)
    simp only [cc0_attn_bwd1_eq_skeleton]; unfold cc0_attn_bwd1_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg12.eq_unread hs0; obtain rfl := harg13.eq_unread hs1
    sl_exec (disch := first | sl_exact hf | sl_exact hl | exact chk_first _ _ _)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]; · iexact HS0
    iexact HS1

end Cert.KernelIdeal.Bwd
-- ==== Proof.Bwd.RunLast.lean ====
module

public import proofs.«01_k».proof.Proof.Bwd.Cases

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 4000000 in
/-- The body at the last query tile of a head pair. -/
def runLast (c : Dev nD) (i : grid0.Coords)
    (arg2 : Memref sig .tc .vmem S256x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S256x128 .bf16) (harg5 : arg5.IsWhole)
    (arg6 : Memref sig .tc .vmem S2x256x128 .f32) (harg6 : arg6.IsWhole) (arg7 : Memref sig .tc .vmem S256x256 .bf16) (harg7 : arg7.IsWhole)
    (arg8 : Memref sig .tc .vmem S256x256 .bf16) (harg8 : arg8.IsWhole) (arg9 : Memref sig .tc .vmem S256x128 .bf16) (harg9 : arg9.IsWhole)
    (arg10 : Memref sig .tc .vmem S8192x128 .bf16) (harg10 : arg10.IsWhole) (arg11 : Memref sig .tc .vmem S8192x128 .bf16) (harg11 : arg11.IsWhole)
    (arg12 : Memref sig .tc .vmem S32x128x256 .f32) (harg12 : arg12.IsWhole) (arg13 : Memref sig .tc .vmem S32x128x256 .f32) (harg13 : arg13.IsWhole)
    (hf : ¬ isFirst i) (hl : isLast i)
    (x0 : Vec F S256x128 .bf16) (x1 x2 : Vec F S8192x128 .bf16) (x3 : Vec F S256x128 .bf16) (x4 : Vec F S2x256x128 .f32) (x5 x6 : Vec F S256x256 .bf16)
    (s0 s1 : Vec F S32x128x256 .f32) :
    Σ' (L9 : List (View.Piece (Elt F) S256x128 .bf16)) (L10 L11 : List (View.Piece (Elt F) S8192x128 .bf16)) (L12 : List (View.Piece (Elt F) S32x128x256 .f32)),
    { L13 : List (View.Piece (Elt F) S32x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (arg12.view.loc (c : Thread nD τ) ↦[arg12.view.set]{fullShare} arg12.view.writes (Elt F) (harg12.unread s0) L12)
                ∗ (arg13.view.loc (c : Thread nD τ) ↦[arg13.view.set]{fullShare} arg13.view.writes (Elt F) (harg13.unread s1) L13)) -∗ K ⟨⟩))
          ⊢ wp frame (wpE (defs₀ (F := F)) Variants.none c none) E (cc0_attn_bwd1 i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    have hpos : 1 ≤ (i 1).val := Nat.one_le_iff_ne_zero.2 fun h => hf ((isFirst_iff i).2 h)
    simp only [cc0_attn_bwd1_eq_skeleton]; unfold cc0_attn_bwd1_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg12.eq_unread hs0; obtain rfl := harg13.eq_unread hs1
    sl_exec (disch := first | sl_exact hf | sl_exact hl | exact chk_first _ _ _)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    isplitl [HS0]; · iexact HS0
    iexact HS1

end Cert.KernelIdeal.Bwd
-- ==== Proof.Bwd.Frame.lean ====
module

public import proofs.«01_k».proof.Proof.Bwd.RunFirst
public import proofs.«01_k».proof.Proof.Bwd.RunMid
public import proofs.«01_k».proof.Proof.Bwd.RunLast
public import proofs.«01_k».proof.Proof.Gen.KernelIdeal.Frame
public import Idealize.ShloMosaic.Lib.Claim

/-! What every grid point of the attention backward leaves, named: the query gradient of its tile, the two accumulators
after it and, at the last tile of a head pair, the key and value gradients; then the run of the whole program. -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window 0's current staging memref, whole. -/
abbrev sg0 (t : Fin cfg0.N) : Memref sig .tc .vmem S256x128 .bf16 := win0_0.stage (cfg0.slots t 0)
abbrev hw0 (t : Fin cfg0.N) : (sg0 t).IsWhole := hstage0_0 ((cfg0.slots t 0).cast nbuf0_0)
/-- Window 1's current staging memref, whole. -/
abbrev sg1 (t : Fin cfg0.N) : Memref sig .tc .vmem S8192x128 .bf16 := win0_1.stage (cfg0.slots t 1)
abbrev hw1 (t : Fin cfg0.N) : (sg1 t).IsWhole := hstage0_1 ((cfg0.slots t 1).cast nbuf0_1)
/-- Window 2's current staging memref, whole. -/
abbrev sg2 (t : Fin cfg0.N) : Memref sig .tc .vmem S8192x128 .bf16 := win0_2.stage (cfg0.slots t 2)
abbrev hw2 (t : Fin cfg0.N) : (sg2 t).IsWhole := hstage0_2 ((cfg0.slots t 2).cast nbuf0_2)
/-- Window 3's current staging memref, whole. -/
abbrev sg3 (t : Fin cfg0.N) : Memref sig .tc .vmem S256x128 .bf16 := win0_3.stage (cfg0.slots t 3)
abbrev hw3 (t : Fin cfg0.N) : (sg3 t).IsWhole := hstage0_3 ((cfg0.slots t 3).cast nbuf0_3)
/-- Window 4's current staging memref, whole. -/
abbrev sg4 (t : Fin cfg0.N) : Memref sig .tc .vmem S2x256x128 .f32 := win0_4.stage (cfg0.slots t 4)
abbrev hw4 (t : Fin cfg0.N) : (sg4 t).IsWhole := hstage0_4 ((cfg0.slots t 4).cast nbuf0_4)
/-- Window 5's current staging memref, whole. -/
abbrev sg5 (t : Fin cfg0.N) : Memref sig .tc .vmem S256x256 .bf16 := win0_5.stage (cfg0.slots t 5)
abbrev hw5 (t : Fin cfg0.N) : (sg5 t).IsWhole := hstage0_5 ((cfg0.slots t 5).cast nbuf0_5)
/-- Window 6's current staging memref, whole. -/
abbrev sg6 (t : Fin cfg0.N) : Memref sig .tc .vmem S256x256 .bf16 := win0_6.stage (cfg0.slots t 6)
abbrev hw6 (t : Fin cfg0.N) : (sg6 t).IsWhole := hstage0_6 ((cfg0.slots t 6).cast nbuf0_6)
/-- Window 7's current staging memref, whole. -/
abbrev sg7 (t : Fin cfg0.N) : Memref sig .tc .vmem S256x128 .bf16 := win0_7.stage (cfg0.slots t 7)
abbrev hw7 (t : Fin cfg0.N) : (sg7 t).IsWhole := hstage0_7 ((cfg0.slots t 7).cast nbuf0_7)
/-- Window 8's current staging memref, whole. -/
abbrev sg8 (t : Fin cfg0.N) : Memref sig .tc .vmem S8192x128 .bf16 := win0_8.stage (cfg0.slots t 8)
abbrev hw8 (t : Fin cfg0.N) : (sg8 t).IsWhole := hstage0_8 ((cfg0.slots t 8).cast nbuf0_8)
/-- Window 9's current staging memref, whole. -/
abbrev sg9 (t : Fin cfg0.N) : Memref sig .tc .vmem S8192x128 .bf16 := win0_9.stage (cfg0.slots t 9)
abbrev hw9 (t : Fin cfg0.N) : (sg9 t).IsWhole := hstage0_9 ((cfg0.slots t 9).cast nbuf0_9)
/-- The two accumulators, whole: the key gradients and the value gradients of the head pair, by block of keys. -/
abbrev acc0 : Memref sig .tc .vmem S32x128x256 .f32 := Memref.whole cc0_scratch0
abbrev acc1 : Memref sig .tc .vmem S32x128x256 .f32 := Memref.whole cc0_scratch1

/-- The query tile of a grid point. -/
theorem tile_of_point : ∀ t : Fin cfg0.N, (grid0.coords t 1).val = t.val % 32 := by decide +kernel

theorem not_both {i : grid0.Coords} (hf : isFirst i) (hl : isLast i) : False := by
  have h := (isFirst_iff i).1 hf; have h' := (isLast_iff i).1 hl; omega

/-- What a grid point leaves: its tile's query gradient, the key and value gradients (of meaning at a last tile) and the two
    accumulators. -/
structure Left (F : FTy → Type) where
  dq : Vec F S256x128 .bf16
  dk : Vec F S8192x128 .bf16
  dv : Vec F S8192x128 .bf16
  s0 : Vec F S32x128x256 .f32
  s1 : Vec F S32x128x256 .f32

/-- Contents nothing is said of. -/
abbrev anyDk : Vec F S8192x128 .bf16 := View.read (Elt F) (sg8 ⟨0, by decide⟩).view (sg8 ⟨0, by decide⟩).view.junk
abbrev anyAcc : Vec F S32x128x256 .f32 := acc0.view.read (Elt F) acc0.view.junk

/-- The three runs at a grid point's own buffers and blocks. -/
abbrev atFirst (c : Dev nD) (t : Fin cfg0.N) (hf : isFirst (grid0.coords t)) (hl : ¬ isLast (grid0.coords t)) :=
  runFirst c (grid0.coords t) (sg0 t) (hw0 t) (sg1 t) (hw1 t) (sg2 t) (hw2 t) (sg3 t) (hw3 t) (sg4 t) (hw4 t) (sg5 t) (hw5 t) (sg6 t) (hw6 t) (sg7 t) (hw7 t) (sg8 t) (hw8 t) (sg9 t) (hw9 t) acc0 (Memref.isWhole_whole _) acc1 (Memref.isWhole_whole _) hf hl (iblk m c 0 t) (iblk m c 1 t) (iblk m c 2 t) (iblk m c 3 t) (iblk m c 4 t) (iblk m c 5 t) (iblk m c 6 t)
abbrev atMid (c : Dev nD) (t : Fin cfg0.N) (hf : ¬ isFirst (grid0.coords t)) (hl : ¬ isLast (grid0.coords t)) (s0 s1 : Vec F S32x128x256 .f32) :=
  runMid c (grid0.coords t) (sg0 t) (hw0 t) (sg1 t) (hw1 t) (sg2 t) (hw2 t) (sg3 t) (hw3 t) (sg4 t) (hw4 t) (sg5 t) (hw5 t) (sg6 t) (hw6 t) (sg7 t) (hw7 t) (sg8 t) (hw8 t) (sg9 t) (hw9 t) acc0 (Memref.isWhole_whole _) acc1 (Memref.isWhole_whole _) hf hl (iblk m c 0 t) (iblk m c 1 t) (iblk m c 2 t) (iblk m c 3 t) (iblk m c 4 t) (iblk m c 5 t) (iblk m c 6 t) s0 s1
abbrev atLast (c : Dev nD) (t : Fin cfg0.N) (hf : ¬ isFirst (grid0.coords t)) (hl : isLast (grid0.coords t)) (s0 s1 : Vec F S32x128x256 .f32) :=
  runLast c (grid0.coords t) (sg0 t) (hw0 t) (sg1 t) (hw1 t) (sg2 t) (hw2 t) (sg3 t) (hw3 t) (sg4 t) (hw4 t) (sg5 t) (hw5 t) (sg6 t) (hw6 t) (sg7 t) (hw7 t) (sg8 t) (hw8 t) (sg9 t) (hw9 t) acc0 (Memref.isWhole_whole _) acc1 (Memref.isWhole_whole _) hf hl (iblk m c 0 t) (iblk m c 1 t) (iblk m c 2 t) (iblk m c 3 t) (iblk m c 4 t) (iblk m c 5 t) (iblk m c 6 t) s0 s1

/-- The pieces written into a buffer found at `s`, read back. -/
abbrev onto {S : Shape} {e : EltTy} (a : Memref sig .tc .vmem S e) (h : a.IsWhole) (s : Vec F S e) (L : List (View.Piece (Elt F) S e)) : Vec F S e :=
  a.view.read (Elt F) (a.view.writes (Elt F) (h.unread s) L)
/-- The pieces written into a buffer they cover, read back. -/
abbrev over {S : Shape} {e : EltTy} (a : Memref sig .tc .vmem S e) (L : List (View.Piece (Elt F) S e)) : Vec F S e :=
  a.view.read (Elt F) (a.view.writes (Elt F) a.view.junk L)

def left (c : Dev nD) (t : Fin cfg0.N) (s0 s1 : Vec F S32x128x256 .f32) : Left F :=
  if hf : isFirst (grid0.coords t) then
    if hl : isLast (grid0.coords t) then (not_both hf hl).elim
    else ⟨over (sg7 t) (atFirst m c t hf hl).1, anyDk, anyDk, over acc0 (atFirst m c t hf hl).2.1, over acc1 (atFirst m c t hf hl).2.2.1⟩
  else if hl : isLast (grid0.coords t) then
    ⟨over (sg7 t) (atLast m c t hf hl s0 s1).1, over (sg8 t) (atLast m c t hf hl s0 s1).2.1, over (sg9 t) (atLast m c t hf hl s0 s1).2.2.1,
      onto acc0 (Memref.isWhole_whole _) s0 (atLast m c t hf hl s0 s1).2.2.2.1, onto acc1 (Memref.isWhole_whole _) s1 (atLast m c t hf hl s0 s1).2.2.2.2.1⟩
  else
    ⟨over (sg7 t) (atMid m c t hf hl s0 s1).1, anyDk, anyDk,
      onto acc0 (Memref.isWhole_whole _) s0 (atMid m c t hf hl s0 s1).2.1, onto acc1 (Memref.isWhole_whole _) s1 (atMid m c t hf hl s0 s1).2.2.1⟩

theorem left_first (c : Dev nD) (t : Fin cfg0.N) (s0 s1 : Vec F S32x128x256 .f32) (hf : isFirst (grid0.coords t)) (hl : ¬ isLast (grid0.coords t)) :
    left m c t s0 s1 = ⟨over (sg7 t) (atFirst m c t hf hl).1, anyDk, anyDk, over acc0 (atFirst m c t hf hl).2.1, over acc1 (atFirst m c t hf hl).2.2.1⟩ :=
  (dif_pos hf).trans (dif_neg hl)

theorem left_last (c : Dev nD) (t : Fin cfg0.N) (s0 s1 : Vec F S32x128x256 .f32) (hf : ¬ isFirst (grid0.coords t)) (hl : isLast (grid0.coords t)) :
    left m c t s0 s1 = ⟨over (sg7 t) (atLast m c t hf hl s0 s1).1, over (sg8 t) (atLast m c t hf hl s0 s1).2.1, over (sg9 t) (atLast m c t hf hl s0 s1).2.2.1,
      onto acc0 (Memref.isWhole_whole _) s0 (atLast m c t hf hl s0 s1).2.2.2.1, onto acc1 (Memref.isWhole_whole _) s1 (atLast m c t hf hl s0 s1).2.2.2.2.1⟩ :=
  (dif_neg hf).trans (dif_pos hl)

theorem left_mid (c : Dev nD) (t : Fin cfg0.N) (s0 s1 : Vec F S32x128x256 .f32) (hf : ¬ isFirst (grid0.coords t)) (hl : ¬ isLast (grid0.coords t)) :
    left m c t s0 s1 = ⟨over (sg7 t) (atMid m c t hf hl s0 s1).1, anyDk, anyDk,
      onto acc0 (Memref.isWhole_whole _) s0 (atMid m c t hf hl s0 s1).2.1, onto acc1 (Memref.isWhole_whole _) s1 (atMid m c t hf hl s0 s1).2.2.1⟩ :=
  (dif_neg hf).trans (dif_neg hl)

/-- The accumulators as point `n` finds them (nothing said before the first). -/
def found (c : Dev nD) : (n : ℕ) → n ≤ cfg0.N → Vec F S32x128x256 .f32 × Vec F S32x128x256 .f32
  | 0, _ => (anyAcc, anyAcc)
  | n + 1, hn => ((left m c ⟨n, hn⟩ (found c n (Nat.le_of_succ_le hn)).1 (found c n (Nat.le_of_succ_le hn)).2).s0,
      (left m c ⟨n, hn⟩ (found c n (Nat.le_of_succ_le hn)).1 (found c n (Nat.le_of_succ_le hn)).2).s1)

/-- What point `t` leaves, at the accumulators it finds. -/
abbrev here (c : Dev nD) (t : Fin cfg0.N) : Left F := left m c t (found m c t.val (Nat.le_of_lt t.isLt)).1 (found m c t.val (Nat.le_of_lt t.isLt)).2

/-- The class's invariant with the accumulators as memrefs at some contents. -/
theorem launched_eq (c : Dev nD) :
    (Pipeline.ΦA spec0 c : sProp 𝕄)
      = iprop(iprop((∃ d, owns (c : Thread nD τ) acc0 fullShare d) ∗ (∃ d, owns (c : Thread nD τ) acc1 fullShare d)) ∗ (∃ r, prngReg c r)) := by
  unfold Pipeline.ΦA; rw [scopedRest0_eq]; simp only [acc0, acc1, owns_whole]; try rfl

/-- The invariant before point `n`: after the first point the accumulators hold what the point before left. -/
def PhiS (c : Dev nD) : (n : ℕ) → n ≤ cfg0.N → sProp 𝕄
  | 0, _ => Pipeline.ΦA spec0 c
  | n + 1, hn => iprop(iprop(owns (c : Thread nD τ) acc0 fullShare (found m c (n + 1) hn).1 ∗ owns (c : Thread nD τ) acc1 fullShare (found m c (n + 1) hn).2) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) acc0 fullShare (found m c n h).1 ∗ owns (c : Thread nD τ) acc1 fullShare (found m c n h).2) ∗ (∃ r, prngReg c r)) := by
  cases n with
  | zero => exact absurd rfl hz
  | succ n => rfl

/-- After point `t`. -/
theorem PhiS_after (c : Dev nD) (t : Fin cfg0.N) :
    PhiS m c (t.val + 1) t.isLt = iprop(iprop(owns (c : Thread nD τ) acc0 fullShare (here m c t).s0 ∗ owns (c : Thread nD τ) acc1 fullShare (here m c t).s1) ∗ (∃ r, prngReg c r)) := rfl

/-- The accumulators' contents forgotten. -/
theorem PhiS_forget (c : Dev nD) (n : ℕ) (h : n ≤ cfg0.N) : PhiS m c n h ⊢ Pipeline.ΦA spec0 c := by
  by_cases hz : n = 0
  · rw [PhiS_zero m c n h hz]
  · rw [PhiS_pos m c n h hz, launched_eq]
    iintro ⟨⟨HS0, HS1⟩, Hg⟩
    isplitl [HS0 HS1]
    · isplitl [HS0]
      · iexists _; iexact HS0
      iexists _; iexact HS1
    iexact Hg

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (here m c t).dq
    | ⟨8, _⟩ => (here m c t).dk
    | ⟨9, _⟩ => (here m c t).dv
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (here m c t).dq := by dsimp only [dats]
theorem after_8 (c : Dev nD) (t : Fin cfg0.N) : (dats m 0 c).after 8 t = (here m c t).dk := by dsimp only [dats]
theorem after_9 (c : Dev nD) (t : Fin cfg0.N) : (dats m 0 c).after 9 t = (here m c t).dv := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem leaves_0 (c : Dev nD) (t : Fin cfg0.N) : (dats m 0 c).leavesExact 0 t = owns (c : Thread nD τ) (sg0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (sg1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (sg2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (sg3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (sg4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (sg5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (sg6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (sg7 t) fullShare ((here m c t).dq) := by
  unfold Dat.leavesExact; rw [show cfg0.idle 7 (grid0.coords t) = false from rfl, after_7]
theorem leaves_8_last (c : Dev nD) (t : Fin cfg0.N) (hl : isLast (grid0.coords t)) : (dats m 0 c).leavesExact 8 t = owns (c : Thread nD τ) (sg8 t) fullShare ((here m c t).dk) := by
  unfold Dat.leavesExact
  rw [show cfg0.idle 8 (grid0.coords t) = false from by show (!(k0_cond2 (grid0.coords t) == 1#1)) = false; rw [hl]; rfl, after_8]
theorem leaves_8_idle (c : Dev nD) (t : Fin cfg0.N) (hl : ¬ isLast (grid0.coords t)) :
    (dats m 0 c).leavesExact 8 t = iprop(∃ d, owns (c : Thread nD τ) (sg8 t) fullShare ((dats m 0 c).before 8 t d)) := by
  refine Dat.leavesExact_idle (dats m 0 c) 8 t ?_ ?_
  · show (!(k0_cond2 (grid0.coords t) == 1#1)) = true
    rw [Bool.not_eq_true', beq_eq_false_iff_ne]; exact hl
  · rw [← Bool.not_eq_true]; intro h
    exact hl ((isLast_iff _).2 ((tile_of_point t).trans ((flush0_8 t).1 h)))
theorem leaves_9_last (c : Dev nD) (t : Fin cfg0.N) (hl : isLast (grid0.coords t)) : (dats m 0 c).leavesExact 9 t = owns (c : Thread nD τ) (sg9 t) fullShare ((here m c t).dv) := by
  unfold Dat.leavesExact
  rw [show cfg0.idle 9 (grid0.coords t) = false from by show (!(k0_cond2 (grid0.coords t) == 1#1)) = false; rw [hl]; rfl, after_9]
theorem leaves_9_idle (c : Dev nD) (t : Fin cfg0.N) (hl : ¬ isLast (grid0.coords t)) :
    (dats m 0 c).leavesExact 9 t = iprop(∃ d, owns (c : Thread nD τ) (sg9 t) fullShare ((dats m 0 c).before 9 t d)) := by
  refine Dat.leavesExact_idle (dats m 0 c) 9 t ?_ ?_
  · show (!(k0_cond2 (grid0.coords t) == 1#1)) = true
    rw [Bool.not_eq_true', beq_eq_false_iff_ne]; exact hl
  · rw [← Bool.not_eq_true]; intro h
    exact hl ((isLast_iff _).2 ((tile_of_point t).trans ((flush0_9 t).1 h)))

theorem whole_first (c : Dev nD) (t : Fin cfg0.N) (hf : isFirst (grid0.coords t)) (hl : ¬ isLast (grid0.coords t)) (y : S256x128.Idx) :
    ∃ p ∈ (atFirst m c t hf hl).1, y ∈ p.1.set := View.cover_of_tiledL _ S256x128.size (by sl_kernel_rfl) y
theorem whole_mid (c : Dev nD) (t : Fin cfg0.N) (hf : ¬ isFirst (grid0.coords t)) (hl : ¬ isLast (grid0.coords t)) (s0 s1) (y : S256x128.Idx) :
    ∃ p ∈ (atMid m c t hf hl s0 s1).1, y ∈ p.1.set := View.cover_of_tiledL _ S256x128.size (by sl_kernel_rfl) y
theorem whole_last (c : Dev nD) (t : Fin cfg0.N) (hf : ¬ isFirst (grid0.coords t)) (hl : isLast (grid0.coords t)) (s0 s1) (y : S256x128.Idx) :
    ∃ p ∈ (atLast m c t hf hl s0 s1).1, y ∈ p.1.set := View.cover_of_tiledL _ S256x128.size (by sl_kernel_rfl) y
theorem whole_dk (c : Dev nD) (t : Fin cfg0.N) (hf : ¬ isFirst (grid0.coords t)) (hl : isLast (grid0.coords t)) (s0 s1) (y : S8192x128.Idx) :
    ∃ p ∈ (atLast m c t hf hl s0 s1).2.1, y ∈ p.1.set := View.cover_of_tiledL _ ![256, 128] (by sl_kernel_rfl) y
theorem whole_dv (c : Dev nD) (t : Fin cfg0.N) (hf : ¬ isFirst (grid0.coords t)) (hl : isLast (grid0.coords t)) (s0 s1) (y : S8192x128.Idx) :
    ∃ p ∈ (atLast m c t hf hl s0 s1).2.2.1, y ∈ p.1.set := View.cover_of_tiledL _ ![256, 128] (by sl_kernel_rfl) y

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (sg0 t) fullShare ((dats m 0 c).before 0 t d))
    ∗ (∃ d, owns (c : Thread nD τ) (sg1 t) fullShare ((dats m 0 c).before 1 t d))
    ∗ (∃ d, owns (c : Thread nD τ) (sg2 t) fullShare ((dats m 0 c).before 2 t d))
    ∗ (∃ d, owns (c : Thread nD τ) (sg3 t) fullShare ((dats m 0 c).before 3 t d))
    ∗ (∃ d, owns (c : Thread nD τ) (sg4 t) fullShare ((dats m 0 c).before 4 t d))
    ∗ (∃ d, owns (c : Thread nD τ) (sg5 t) fullShare ((dats m 0 c).before 5 t d))
    ∗ (∃ d, owns (c : Thread nD τ) (sg6 t) fullShare ((dats m 0 c).before 6 t d))
    ∗ (∃ d, owns (c : Thread nD τ) (sg7 t) fullShare ((dats m 0 c).before 7 t d))
    ∗ (∃ d, owns (c : Thread nD τ) (sg8 t) fullShare ((dats m 0 c).before 8 t d))
    ∗ (∃ d, owns (c : Thread nD τ) (sg9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
theorem sound_first (c : Dev nD) (t : Fin cfg0.N) (hf : isFirst (grid0.coords t)) (hl : ¬ isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_after, PhiS_castSucc]
  rw [leaves_0, leaves_1, leaves_2, leaves_3, leaves_4, leaves_5, leaves_6, leaves_7, leaves_8_idle m c t hl, leaves_9_idle m c t hl]
  simp only [here, left_first m c t _ _ hf hl]
  refine (Idealize.SL.BI.Laws.sep_mono ((PhiS_forget m c _ _).trans (Entails.of_eq (launched_eq c))) .rfl).trans ?_
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((atFirst m c t hf hl).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, HS0, HS1⟩
  isplitl [HS0 HS1 Hg]
  · isplitl [HS0 HS1]
    · isplitl [HS0]
      · unfold owns; iexists _; isplitr
        swap; · iexact HS0
        ipureintro; rfl
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (whole_first m c t hf hl)
  isplitl [H8]; · iexists _; iexact H8
  iexists _; iexact H9

set_option maxHeartbeats 4000000 in
theorem sound_mid (c : Dev nD) (t : Fin cfg0.N) (hf : ¬ isFirst (grid0.coords t)) (hl : ¬ isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_after, PhiS_castSucc]
  rw [leaves_0, leaves_1, leaves_2, leaves_3, leaves_4, leaves_5, leaves_6, leaves_7, leaves_8_idle m c t hl, leaves_9_idle m c t hl]
  simp only [here, left_mid m c t _ _ hf hl]
  have hz : t.val ≠ 0 := fun h => hf ((isFirst_iff _).2 ((tile_of_point t).trans (by rw [h])))
  rw [PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((atMid m c t hf hl _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, HS0, HS1⟩
  isplitl [HS0 HS1 Hg]
  · isplitl [HS0 HS1]
    · isplitl [HS0]
      · unfold owns; iexists _; isplitr
        swap; · iexact HS0
        ipureintro; rfl
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (whole_mid m c t hf hl _ _)
  isplitl [H8]; · iexists _; iexact H8
  iexists _; iexact H9

set_option maxHeartbeats 4000000 in
theorem sound_last (c : Dev nD) (t : Fin cfg0.N) (hf : ¬ isFirst (grid0.coords t)) (hl : isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_after, PhiS_castSucc]
  rw [leaves_0, leaves_1, leaves_2, leaves_3, leaves_4, leaves_5, leaves_6, leaves_7, leaves_8_last m c t hl, leaves_9_last m c t hl]
  simp only [here, left_last m c t _ _ hf hl]
  have hz : t.val ≠ 0 := fun h => hf ((isFirst_iff _).2 ((tile_of_point t).trans (by rw [h])))
  rw [PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((atLast m c t hf hl _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, ⟨%e7, H7⟩, ⟨%e8, H8⟩, ⟨%e9, H9⟩, HS0, HS1⟩
  isplitl [HS0 HS1 Hg]
  · isplitl [HS0 HS1]
    · isplitl [HS0]
      · unfold owns; iexists _; isplitr
        swap; · iexact HS0
        ipureintro; rfl
      · unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (whole_last m c t hf hl _ _)
  isplitl [H8]
  · unfold owns; iexists _; isplitr
    swap; · iexact H8
    ipureintro; exact View.read_writes_of_cover _ _ _ _ _ (whole_dk m c t hf hl _ _)
  unfold owns; iexists _; isplitr
  swap; · iexact H9
  ipureintro; exact View.read_writes_of_cover _ _ _ _ _ (whole_dv m c t hf hl _ _)

theorem sound_body (c : Dev nD) (t : Fin cfg0.N) :
    bodyPre m c t ⊢ wp frame (wpE (defs₀ (F := F)) Variants.none c none) Set.univ (bodyAt0 t) (fun _ => bodyPost m c t) := by
  by_cases hf : isFirst (grid0.coords t)
  · exact sound_first m c t hf fun hl => not_both hf hl
  · by_cases hl : isLast (grid0.coords t)
    · exact sound_last m c t hf hl
    · exact sound_mid m c t hf hl

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_forget m c _ _

set_option backward.isDefEq.respectTransparency.types false in
/-- The run: every array of the pipeline ends at what the proof data say, and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame at any values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Bwd

end
-- ==== Proof.Bwd.Row.lean ====
module

public import Idealize.ShloMosaic.Lib.Pointwise

@[expose] public section

noncomputable section

namespace Cert.Row

open Idealize.ShloMosaic

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) := EReal.coe_strictMono.monotone.map_max

/-- Softplus and the logistic function, the second as it is computed. -/
def soft (x : ℝ) : ℝ := Real.log (1 + Real.exp x)
def logi (x : ℝ) : ℝ := 1 / 2 * Real.tanh (1 / 2 * x) + 1 / 2

/-- Key `s` of block `b`. -/
def pos (b : Fin 32) (s : Fin 256) : Fin 8192 := ⟨b.val * 256 + s.val, by omega⟩

/-! One query row: `z` its logits, `e` the products of its output gradient with the values, `n` the number of keys it sees. -/

/-- The sum of the softplus after key `s`; after block `b`. -/
def tail (z : Fin 8192 → ℝ) (n : ℕ) (s : Fin 8192) : ℝ := ∑ c : Fin 8192, if s < c ∧ c.val < n then soft (z c) else 0
def after (z : Fin 8192 → ℝ) (n : ℕ) (b : Fin 32) : ℝ := ∑ c : Fin 8192, if (b.val + 1) * 256 ≤ c.val ∧ c.val < n then soft (z c) else 0
/-- The weight of key `s`, and the weight times the gradient that reaches it. -/
def wt (z : Fin 8192 → ℝ) (n : ℕ) (s : Fin 8192) : ℝ := if s.val < n then Real.exp (z s - soft (z s) - tail z n s) else 0
def gr (z e : Fin 8192 → ℝ) (n : ℕ) (s : Fin 8192) : ℝ := wt z n s * e s
/-- The sum of those before block `k`. -/
def before (z e : Fin 8192 → ℝ) (n k : ℕ) : ℝ := ∑ c : Fin 8192, if c.val < k * 256 then gr z e n c else 0
/-- The gradient of logit `s`. -/
def dz (z e : Fin 8192 → ℝ) (n : ℕ) (s : Fin 8192) : ℝ :=
  if s.val < n then gr z e n s - logi (z s) * ∑ c : Fin 8192, (if c ≤ s then gr z e n c else 0) else 0

theorem sum_pos (f : Fin 8192 → ℝ) : ∑ c, f c = ∑ b, ∑ s, f (pos b s) := Fin.sum_univ_tiles 32 256 rfl f

/-- A sum over the keys, block `b` apart. -/
theorem sum_apart (f : Fin 8192 → ℝ) (b : Fin 32) :
    ∑ c, f c = ∑ s, f (pos b s) + ∑ c : Fin 8192, if c.val / 256 = b.val then 0 else f c := by
  have h : ∑ s, f (pos b s) = ∑ c : Fin 8192, if c.val / 256 = b.val then f c else 0 := by
    rw [sum_pos, Finset.sum_eq_single b]
    · refine Finset.sum_congr rfl fun s _ => (if_pos ?_).symm
      simp only [pos]; omega
    · intro b' _ hb
      refine Finset.sum_eq_zero fun s _ => if_neg ?_
      have := fun h : b'.val = b.val => hb (Fin.ext h)
      simp only [pos]; omega
    · simp
  rw [h, ← Finset.sum_add_distrib]
  refine Finset.sum_congr rfl fun c _ => ?_
  split <;> simp

theorem tail_pos (z : Fin 8192 → ℝ) (n : ℕ) (b : Fin 32) (s : Fin 256) :
    tail z n (pos b s) = (∑ c : Fin 256, if s < c ∧ (pos b c).val < n then soft (z (pos b c)) else 0) + after z n b := by
  rw [tail, sum_apart _ b]
  refine congrArg₂ (· + ·) (Finset.sum_congr rfl fun c _ => ?_) (Finset.sum_congr rfl fun c _ => ?_)
  · refine if_congr ?_ rfl rfl
    rw [Fin.lt_def, Fin.lt_def]; simp only [pos]; omega
  · simp only [Fin.lt_def, pos]
    have := c.isLt; have := s.isLt
    by_cases h : c.val / 256 = b.val
    · rw [if_pos h, if_neg]; omega
    · rw [if_neg h]
      refine if_congr ?_ rfl rfl
      omega

theorem upto_pos (z e : Fin 8192 → ℝ) (n : ℕ) (b : Fin 32) (s : Fin 256) :
    ∑ c : Fin 8192, (if c ≤ pos b s then gr z e n c else 0)
      = (∑ c : Fin 256, if c ≤ s then gr z e n (pos b c) else 0) + before z e n b := by
  rw [before, sum_apart _ b]
  refine congrArg₂ (· + ·) (Finset.sum_congr rfl fun c _ => ?_) (Finset.sum_congr rfl fun c _ => ?_)
  · refine if_congr ?_ rfl rfl
    rw [Fin.le_def, Fin.le_def]; simp only [pos]; omega
  · simp only [Fin.le_def, pos]
    have := c.isLt; have := s.isLt
    by_cases h : c.val / 256 = b.val
    · rw [if_pos h, if_neg]; omega
    · rw [if_neg h]
      refine if_congr ?_ rfl rfl
      omega

theorem before_zero (z e : Fin 8192 → ℝ) (n : ℕ) : before z e n 0 = 0 :=
  Finset.sum_eq_zero fun c _ => if_neg (by omega)

/-- A sum over the keys of the first blocks grows by a block's own sum. -/
theorem first_succ (f : Fin 8192 → ℝ) (b : Fin 32) :
    (∑ c : Fin 8192, if c.val < (b.val + 1) * 256 then f c else 0) = (∑ c : Fin 8192, if c.val < b.val * 256 then f c else 0) + ∑ s, f (pos b s) := by
  rw [sum_apart _ b, add_comm]
  refine congrArg₂ (· + ·) (Finset.sum_congr rfl fun c _ => ?_) (Finset.sum_congr rfl fun s _ => if_pos ?_)
  · by_cases h : c.val / 256 = b.val
    · rw [if_pos h, if_neg]; omega
    · rw [if_neg h]; refine if_congr ?_ rfl rfl; omega
  · simp only [pos]; omega

theorem before_succ (z e : Fin 8192 → ℝ) (n : ℕ) (b : Fin 32) :
    before z e n (b.val + 1) = before z e n b + ∑ s, gr z e n (pos b s) := first_succ _ b

theorem sum_upto (g : Fin 256 → ℝ) (k : Fin 256) : g k + ∑ j, g j * (if j < k then 1 else 0) = ∑ j, if j ≤ k then g j else 0 := by
  have h : g k = ∑ j, if j = k then g j else 0 := by simp
  conv_lhs => rw [h]
  rw [← Finset.sum_add_distrib]
  refine Finset.sum_congr rfl fun j _ => ?_
  rcases lt_trichotomy j k with h | h | h
  · simp [h, h.ne, h.le]
  · simp [h]
  · simp [h.not_ge, h.ne', h.not_gt]

theorem soft_max (x : ℝ) : max x 0 + Real.log (1 + Real.exp (0 - |x|)) = soft x := by
  unfold soft
  rcases le_total 0 x with h | h
  · rw [max_eq_left h, abs_of_nonneg h]
    have : 1 + Real.exp x = Real.exp x * (1 + Real.exp (0 - x)) := by
      rw [mul_add, mul_one, ← Real.exp_add]; simp [add_comm]
    rw [this, Real.log_mul (Real.exp_ne_zero _) (by positivity), Real.log_exp]
  · rw [max_eq_right h, abs_of_nonpos h]; simp

end Cert.Row
end
-- ==== Proof.Bwd.Tile.lean ====
module

public import Idealize.ShloMosaic.Lib.Pointwise
public import Idealize.ShloMosaic.Lib.WordCmp
public import proofs.«01_k».proof.Proof.Gen.KernelIdeal.Skeleton
public import proofs.«01_k».proof.Proof.Bwd.Row

@[expose] public section

set_option maxRecDepth 16384

noncomputable section

namespace Cert.KernelIdeal.Bwd

open Idealize.ShloMosaic
open Cert.KernelIdeal.Gen Cert.Row

section Ops
variable {F : FTy → Type} [FloatOps F] [Named F]

/-! One block of keys, its vectors as the body forms them. -/

/-- The weights before a mask, from the logits `z`, the softplus `p` that counts, and the column `c` of the blocks after. -/
def expo (z : FVec F S256x256 .f32) (p : FVec F S256x256 .f32) (v4 : FVec F S256x256 .bf16) (c : FVec F S256x1 .f32) : FVec F S256x256 .f32 :=
  exp (subf (subf (subf z (k0_pay87 z)) (k0_pay101 v4 (truncf .bf16 p bitsLt_bf16_f32))) (broadcastTo S256x256 c broadcasts_S256x1_S256x256))
/-- The weights at a mask `μ` of the logits and a mask `ν` of the weights, -/
def tA (μ ν : FVec F S256x256 .f32 → FVec F S256x256 .f32) (v4 : FVec F S256x256 .bf16) (z : FVec F S256x256 .f32) (c : FVec F S256x1 .f32) : FVec F S256x256 .f32 :=
  ν (expo z (μ (k0_pay87 z)) v4 c)
/-- times the gradient that reaches them, -/
def tG (μ ν : FVec F S256x256 .f32 → FVec F S256x256 .f32) (v4 : FVec F S256x256 .bf16) (z e : FVec F S256x256 .f32) (c : FVec F S256x1 .f32) : FVec F S256x256 .f32 :=
  mulf (tA μ ν v4 z c) e
/-- their row sums, -/
def tS (g : FVec F S256x256 .f32) : FVec F S256x1 .f32 :=
  shapeCast S256x1 (multiReduction .add [1] S256 g 0x00000000#32 reduces_S256x256_S256 (.inl rfl) rfl) shapeCasts_S256_S256x1
/-- and the gradient of the logits, `s` the row sums of the blocks before. -/
def tD (μ ν : FVec F S256x256 .f32 → FVec F S256x256 .f32) (v4 v6 : FVec F S256x256 .bf16) (z e : FVec F S256x256 .f32) (c s : FVec F S256x1 .f32) : FVec F S256x256 .bf16 :=
  truncf .bf16 (μ (subf (tG μ ν v4 z e c) (mulf (addf (mulf (broadcast S256x256 (Scalar.ofBits .f32 0x3F000000#32)) (tanh (mulf (broadcast S256x256 (Scalar.ofBits .f32 0x3F000000#32)) z))) (broadcast S256x256 (Scalar.ofBits .f32 0x3F000000#32)))
    (addf (addf (tG μ ν v4 z e c) (k0_pay127 v6 (truncf .bf16 (tG μ ν v4 z e c) bitsLt_bf16_f32))) (broadcastTo S256x256 s broadcasts_S256x1_S256x256))))) bitsLt_bf16_f32
/-- What a block adds to the query gradient, -/
def addQ (d0 d1 : FVec F S256x256 .bf16) (k : FVec F S256x128 .bf16) : FVec F S256x128 .f32 :=
  select (cmpi .slt (iota .tc S256x128 32 [1] iota_S256x128_d1_w32) (broadcast S256x128 64#32))
    (matmul dot_S256x256_S256x128_S256x128_1_0_0_1_n_n none d0 k (constant S256x128 .f32 0x00000000#32))
    (matmul dot_S256x256_S256x128_S256x128_1_0_0_1_n_n none d1 k (constant S256x128 .f32 0x00000000#32))
/-- and what the accumulators hold after it. -/
def addK (q0 q1 : FVec F S256x128 .bf16) (d0 d1 : FVec F S256x256 .bf16) (o : Vec F S1x128x256 .f32) : FVec F S1x128x256 .f32 := k0_pay138 q0 q1 d0 d1 o

end Ops

theorem half_f32 : Ideal.ofBits .f32 0x3F000000#32 = ((1 / 2 : ℝ) : EReal) := by
  simp [Ideal.ofBits, Ideal.ieee]; norm_num [← EReal.coe_mul]

theorem abs_real (x : ℝ) : FloatOps.absf (F := Ideal) (φ := .f32) (x : EReal) = ((|x| : ℝ) : EReal) := by
  rw [abs_eq_max_neg, coe_max, EReal.coe_neg]; rfl

theorem soft_at (z : FVec Ideal S256x256 .f32) (X : Fin 256 → Fin 256 → ℝ) (hz : ∀ r s, z (ix2 r s) = (X r s : EReal)) (r s : Fin 256) :
    k0_pay87 z (ix2 r s) = (soft (X r s) : EReal) := by
  pointwise [k0_pay87, hz]
  rw [abs_real, ← EReal.coe_zero, ← EReal.coe_one, ← EReal.coe_sub, Ideal.exp_coe, ← EReal.coe_add, Ideal.log_coe,
    if_neg (not_le.2 (by positivity)), ← coe_max, ← EReal.coe_add, soft_max]

/-- A row's mask: zero at the keys it does not see. -/
def Masks (μ : FVec Ideal S256x256 .f32 → FVec Ideal S256x256 .f32) (n : Fin 256 → ℕ) (b : Fin 32) : Prop :=
  ∀ (x : FVec Ideal S256x256 .f32) (X : Fin 256 → Fin 256 → ℝ), (∀ r s, x (ix2 r s) = (X r s : EReal)) →
    ∀ r s, μ x (ix2 r s) = ((if (pos b s).val < n r then X r s else 0 : ℝ) : EReal)

/-- The two triangles of ones. -/
def IsSuffix (v : FVec Ideal S256x256 .bf16) : Prop := ∀ r c : Fin 256, v (ix2 r c) = ((if c < r then 1 else 0 : ℝ) : EReal)
def IsPrefix (v : FVec Ideal S256x256 .bf16) : Prop := ∀ r c : Fin 256, v (ix2 r c) = ((if r < c then 1 else 0 : ℝ) : EReal)

section
variable {μ ν : FVec Ideal S256x256 .f32 → FVec Ideal S256x256 .f32} {n : Fin 256 → ℕ} {b : Fin 32} (hμ : Masks μ n b) (hν : Masks ν n b)
  {v4 v6 : FVec Ideal S256x256 .bf16} (h4 : IsSuffix v4) (h6 : IsPrefix v6)
  {z e : FVec Ideal S256x256 .f32} {Z E : Fin 256 → Fin 8192 → ℝ}
  (hz : ∀ r s, z (ix2 r s) = (Z r (pos b s) : EReal)) (he : ∀ r s, e (ix2 r s) = (E r (pos b s) : EReal))
  {c s : FVec Ideal S256x1 .f32} (hc : ∀ r, c (ix2 r 0) = (after (Z r) (n r) b : EReal)) (hs : ∀ r, s (ix2 r 0) = (before (Z r) (E r) (n r) b : EReal))

include hμ hν h4 hz hc in
theorem tA_at (r k : Fin 256) : tA μ ν v4 z c (ix2 r k) = (wt (Z r) (n r) (pos b k) : EReal) := by
  refine (hν _ (fun r k => Real.exp (Z r (pos b k) - soft (Z r (pos b k)) - tail (Z r) (n r) (pos b k))) (fun r k => ?_) r k).trans rfl
  have hp := hμ _ _ (soft_at z (fun r s => Z r (pos b s)) hz)
  have hq := soft_at z (fun r s => Z r (pos b s)) hz
  pointwise [expo, k0_pay101, hp, hq, hz, hc, h4 _ _]
  simp only [zero_add, ← EReal.coe_mul, ← coe_sum, ← EReal.coe_sub, Ideal.exp_coe]
  rw [tail_pos, ← sub_sub]
  refine congrArg (fun x : ℝ => ((Real.exp (_ - _ - x - _) : ℝ) : EReal)) (Finset.sum_congr rfl fun j _ => ?_)
  by_cases h1 : k < j <;> by_cases h2 : (pos b j).val < n r <;> simp [h1, h2]

include hμ hν h4 hz he hc in
theorem tG_at (r k : Fin 256) : tG μ ν v4 z e c (ix2 r k) = (gr (Z r) (E r) (n r) (pos b k) : EReal) := by
  have ha := tA_at hμ hν h4 hz hc
  pointwise [tG, ha, he]
  rw [← EReal.coe_mul]; rfl

theorem tS_at (g : FVec Ideal S256x256 .f32) (X : Fin 256 → Fin 256 → ℝ) (hg : ∀ r k, g (ix2 r k) = (X r k : EReal)) (r : Fin 256) :
    tS g (ix2 r 0) = ((∑ k, X r k : ℝ) : EReal) := by
  pointwise [tS, hg]
  rw [coe_sum]

include hμ hν h4 h6 hz he hc hs in
theorem tD_at (r k : Fin 256) : tD μ ν v4 v6 z e c s (ix2 r k) = (dz (Z r) (E r) (n r) (pos b k) : EReal) := by
  have hg := tG_at hμ hν h4 hz he hc
  refine (hμ _ (fun r k => gr (Z r) (E r) (n r) (pos b k) - logi (Z r (pos b k)) * ∑ c : Fin 8192, (if c ≤ pos b k then gr (Z r) (E r) (n r) c else 0)) (fun r k => ?_) r k).trans rfl
  pointwise [k0_pay127, hg, hz, hs, h6 _ _]
  simp only [half_f32, zero_add, ← EReal.coe_mul, ← coe_sum, ← EReal.coe_sub, ← EReal.coe_add, Ideal.tanh_coe]
  rw [upto_pos]
  rw [sum_upto (fun j => gr (Z r) (E r) (n r) (pos b j)) k]
  rfl

end

/-! A block whose weights all count for nothing. -/
section
variable {ν : FVec Ideal S256x256 .f32 → FVec Ideal S256x256 .f32} (hν : ∀ x r s, ν x (ix2 r s) = 0)
  (v4 v6 : FVec Ideal S256x256 .bf16) (z e : FVec Ideal S256x256 .f32) (c : FVec Ideal S256x1 .f32)

include hν in
theorem tA_none (r k : Fin 256) : tA (fun x => x) ν v4 z c (ix2 r k) = 0 := hν _ r k

include hν in
theorem tG_none (r k : Fin 256) : tG (fun x => x) ν v4 z e c (ix2 r k) = 0 := by
  have ha := tA_none hν v4 z c
  pointwise [tG, ha]
  rw [zero_mul]

include hν in
theorem tD_none (s : FVec Ideal S256x1 .f32) (hs : ∀ r, s (ix2 r 0) = 0) (r k : Fin 256) : tD (fun x => x) ν v4 v6 z e c s (ix2 r k) = 0 := by
  have hg := tG_none hν v4 z e c
  pointwise [tD, k0_pay127, hg, hs]
  simp

end

theorem mask_full (n : Fin 256 → ℕ) (b : Fin 32) (h : ∀ r s, (pos b s).val < n r) : Masks (fun x => x) n b :=
  fun x X hx r s => (hx r s).trans (by rw [if_pos (h r s)])

/-- The mask of the block on the diagonal. -/
def cut {F : FTy → Type} [FloatOps F] (x : FVec F S256x256 .f32) : FVec F S256x256 .f32 := select k0_pay63 x (broadcast S256x256 (Scalar.ofBits .f32 0x00000000#32))

theorem mask_cut (b : Fin 32) : Masks cut (fun r => (pos b r).val) b := by
  intro x X hx r s
  pointwise [cut, k0_pay63, hx]
  have := r.isLt; have := s.isLt
  simp (disch := omega) only [hlo_ix]
  by_cases h : s.val < r.val
  · have h' : (pos b s).val < (pos b r).val := Nat.add_lt_add_left h _
    rw [if_pos (by simpa using h), if_pos h']
  · have h' : ¬ (pos b s).val < (pos b r).val := fun k => h (Nat.lt_of_add_lt_add_left k)
    rw [if_neg (by simpa using h), if_neg h']; rfl

theorem run_at (w : Fin 32) (x : Vec Ideal S1x256x128 .f32) (r : Fin 256) :
    k0_pay105 (F := Ideal) (iota .tc S256x128 32 [1] iota_S256x128_d1_w32) (BitVec.ofNat 32 w.val) x (ix2 r 0) = x (ix3 0 r ⟨w.val, by omega⟩) := by
  pointwise [k0_pay105]
  have := w.isLt
  rw [Finset.sum_eq_single (⟨w.val, by omega⟩ : Fin 128)]
  · simp (disch := omega) only [hlo_ix, if_true, decide_true]
  · intro l _ hl
    have := l.isLt
    simp (disch := omega) only [hlo_ix]
    exact if_neg (by simpa using fun h => hl (Fin.ext h))
  · simp

theorem dot_at (q k : FVec Ideal S256x128 .bf16) (Q K : Fin 256 → Fin 128 → ℝ) (hq : ∀ r l, q (ix2 r l) = (Q r l : EReal)) (hk : ∀ r l, k (ix2 r l) = (K r l : EReal)) (r s : Fin 256) :
    k0_pay85 (F := Ideal) q k (ix2 r s) = ((∑ l, Q r l * K s l : ℝ) : EReal) := by
  pointwise [k0_pay85, hq, hk]
  simp only [zero_add, ← EReal.coe_mul, ← coe_sum]

theorem addQ_at (d0 d1 : FVec Ideal S256x256 .bf16) (k : FVec Ideal S256x128 .bf16) (D0 D1 : Fin 256 → Fin 256 → ℝ) (K : Fin 256 → Fin 128 → ℝ)
    (h0 : ∀ r s, d0 (ix2 r s) = (D0 r s : EReal)) (h1 : ∀ r s, d1 (ix2 r s) = (D1 r s : EReal)) (hk : ∀ r l, k (ix2 r l) = (K r l : EReal)) (r : Fin 256) (l : Fin 128) :
    addQ d0 d1 k (ix2 r l) = ((∑ s, (if l.val < 64 then D0 r s else D1 r s) * K s l : ℝ) : EReal) := by
  pointwise [addQ, h0, h1, hk]
  simp only [zero_add, ← EReal.coe_mul, ← coe_sum]
  have := l.isLt
  simp (disch := omega) only [hlo_ix]
  by_cases h : l.val < 64 <;> simp [h]

theorem addK_at (q0 q1 : FVec Ideal S256x128 .bf16) (d0 d1 : FVec Ideal S256x256 .bf16) (o : Vec Ideal S1x128x256 .f32)
    (Q0 Q1 : Fin 256 → Fin 128 → ℝ) (D0 D1 : Fin 256 → Fin 256 → ℝ) (O : Fin 128 → Fin 256 → ℝ)
    (hq0 : ∀ r l, q0 (ix2 r l) = (Q0 r l : EReal)) (hq1 : ∀ r l, q1 (ix2 r l) = (Q1 r l : EReal))
    (h0 : ∀ r s, d0 (ix2 r s) = (D0 r s : EReal)) (h1 : ∀ r s, d1 (ix2 r s) = (D1 r s : EReal)) (ho : ∀ l s, o (ix3 0 l s) = (O l s : EReal)) (l : Fin 128) (s : Fin 256) :
    addK (F := Ideal) q0 q1 d0 d1 o (ix3 0 l s) = ((O l s + ∑ r, (Q0 r l * D0 r s + Q1 r l * D1 r s) : ℝ) : EReal) := by
  pointwise [addK, k0_pay138, h0, h1, hq0, hq1, ho]
  simp only [zero_add, ← EReal.coe_mul, ← coe_sum, ← EReal.coe_add, Finset.sum_add_distrib]

/-- The lanes of the first head, and of the second. -/
theorem head0_at (x : Vec Ideal S256x128 .bf16) (X : Fin 256 → Fin 128 → ℝ) (hx : ∀ r l, x (ix2 r l) = (X r l : EReal)) (r : Fin 256) (l : Fin 128) :
    k0_pay64 (F := Ideal) x (ix2 r l) = ((if l.val < 64 then X r l else 0 : ℝ) : EReal) := by
  pointwise [k0_pay64, hx]
  have := l.isLt
  simp (disch := omega) only [hlo_ix]
  by_cases h : l.val < 64 <;> simp [h, IntOp.xori, Scalar.select]
theorem head1_at (x : Vec Ideal S256x128 .bf16) (X : Fin 256 → Fin 128 → ℝ) (hx : ∀ r l, x (ix2 r l) = (X r l : EReal)) (r : Fin 256) (l : Fin 128) :
    k0_pay65 (F := Ideal) x (ix2 r l) = ((if l.val < 64 then 0 else X r l : ℝ) : EReal) := by
  pointwise [k0_pay65, hx]
  have := l.isLt
  simp (disch := omega) only [hlo_ix]
  by_cases h : l.val < 64 <;> simp [h, IntOp.xori, Scalar.select]

end Cert.KernelIdeal.Bwd
end
-- ==== Proof.Bwd.Trip.lean ====
module

public import proofs.«01_k».proof.Proof.Gen.KernelIdeal.Loops
public import proofs.«01_k».proof.Proof.Bwd.Tile

@[expose] public section

set_option maxRecDepth 16384

noncomputable section

namespace Cert.KernelIdeal.Bwd

open Idealize.ShloMosaic
open Cert.KernelIdeal.Gen Cert.Row

variable {F : FTy → Type} [FloatOps F] [Named F]

/-- What is carried through the blocks: the query gradient and the two heads' row sums. -/
abbrev Carry (F : FTy → Type) := FVec F S256x128 .f32 × FVec F S256x1 .f32 × FVec F S256x1 .f32

section
variable (v4 v6 : FVec F S256x256 .bf16) (v7 : IVec S256x128 32) (q0 q1 d0 d1 : FVec F S256x128 .bf16) (μ ν : FVec F S256x256 .f32 → FVec F S256x256 .f32)
  (w : BitVec 32) (k v : FVec F S256x128 .bf16) (r0 r1 : Vec F S1x256x128 .f32) (a : Carry F)

/-- The gradients of the logits in the two heads, at a block of keys, -/
def grad0 : FVec F S256x256 .bf16 := tD μ ν v4 v6 (k0_pay85 q0 k) (k0_pay85 d0 v) (k0_pay105 v7 w r0) a.2.1
def grad1 : FVec F S256x256 .bf16 := tD μ ν v4 v6 (k0_pay85 q1 k) (k0_pay85 d1 v) (k0_pay105 v7 w r1) a.2.2
/-- and the weights, -/
def wts (q : FVec F S256x128 .bf16) (r : Vec F S1x256x128 .f32) : FVec F S256x256 .bf16 := truncf .bf16 (tA μ ν v4 (k0_pay85 q k) (k0_pay105 v7 w r)) bitsLt_bf16_f32
/-- what is carried on, -/
def next : Carry F :=
  (addf a.1 (addQ (grad0 v4 v6 v7 q0 d0 μ ν w k v r0 a) (grad1 v4 v6 v7 q1 d1 μ ν w k v r1 a) k),
    addf a.2.1 (tS (tG μ ν v4 (k0_pay85 q0 k) (k0_pay85 d0 v) (k0_pay105 v7 w r0))),
    addf a.2.2 (tS (tG μ ν v4 (k0_pay85 q1 k) (k0_pay85 d1 v) (k0_pay105 v7 w r1))))
/-- and the block's two accumulators after it. -/
def nextK (o : Vec F S1x128x256 .f32) : FVec F S1x128x256 .f32 := addK q0 q1 (grad0 v4 v6 v7 q0 d0 μ ν w k v r0 a) (grad1 v4 v6 v7 q1 d1 μ ν w k v r1 a) o
def nextV (o : Vec F S1x128x256 .f32) : FVec F S1x128x256 .f32 := addK d0 d1 (wts v4 v7 μ ν w k q0 r0) (wts v4 v7 μ ν w k q1 r1) o
end

section
variable (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (arg1 : BitVec 32) (v4 : FVec F S256x256 .bf16) (v6 : FVec F S256x256 .bf16) (v7 : IVec S256x128 32) (v23 : FVec F S256x128 .bf16) (v36 : FVec F S256x128 .bf16) (v49 : FVec F S256x128 .bf16) (v62 : FVec F S256x128 .bf16) (v77 : IVec S1x1x128 32) (v80 : BitVec 32) (k0_hw1 : k0_chk1 i v80) (X_arg3 : BufTy.Contents (Elt F) arg3.view.ty) (X_arg4 : BufTy.Contents (Elt F) arg4.view.ty) (X_arg6 : BufTy.Contents (Elt F) arg6.view.ty) (k : Fin (k0_t1_loop i v80).trips) (a : Carry F) (f12 : BufTy.Contents (Elt F) arg12.view.ty) (f13 : BufTy.Contents (Elt F) arg13.view.ty)

/-- One trip of the loop over the blocks: what it carries on, -/
theorem trip_carry : (trip_k0_t1 (F := F) 𝒱 c bd i arg2 harg2 arg3 harg3 arg4 harg4 arg5 harg5 arg6 harg6 arg7 harg7 arg8 harg8 arg9 harg9 arg10 harg10 arg11 harg11 arg12 harg12 arg13 harg13 arg1 v4 v6 v7 v23 v36 v49 v62 v77 v80 k0_hw1 X_arg3 X_arg4 X_arg6 k).1 a f12 f13 = next v4 v6 v7 v23 v36 v49 v62 (fun x => x) (fun x => x) (Scf.iv v80 1#32 k) (k0_pay75 (View.readAt (Elt F) arg3.view (Rect.unit (s := S8192x128) (k0_off1 i v80 k) S256x128.size (k0_off1_inb i v80 k0_hw1 k)).toLoadRect X_arg3)) (k0_pay75 (View.readAt (Elt F) arg4.view (Rect.unit (s := S8192x128) (k0_off1 i v80 k) S256x128.size (k0_off1_inb i v80 k0_hw1 k)).toLoadRect X_arg4)) (View.readAt (Elt F) arg6.view (Rect.unit (s := S2x256x128) ![0, 0, 0] S1x256x128.size inb_S2x256x128_S1x256x128_0_0_0).toLoadRect X_arg6) (View.readAt (Elt F) arg6.view (Rect.unit (s := S2x256x128) ![1, 0, 0] S1x256x128.size inb_S2x256x128_S1x256x128_1_0_0).toLoadRect X_arg6) a := by
  unfold trip_k0_t1; sl_kernel_rfl
/-- and the piece it writes into each accumulator. -/
theorem trip_pieceK : (trip_k0_t1 (F := F) 𝒱 c bd i arg2 harg2 arg3 harg3 arg4 harg4 arg5 harg5 arg6 harg6 arg7 harg7 arg8 harg8 arg9 harg9 arg10 harg10 arg11 harg11 arg12 harg12 arg13 harg13 arg1 v4 v6 v7 v23 v36 v49 v62 v77 v80 k0_hw1 X_arg3 X_arg4 X_arg6 k).2.1 a f12 f13
    = [⟨Rect.unit (s := S32x128x256) (k0_off2 i v80 k) S1x128x256.size (k0_off2_inb i v80 k0_hw1 k), nextK v4 v6 v7 v23 v36 v49 v62 (fun x => x) (fun x => x) (Scf.iv v80 1#32 k) (k0_pay75 (View.readAt (Elt F) arg3.view (Rect.unit (s := S8192x128) (k0_off1 i v80 k) S256x128.size (k0_off1_inb i v80 k0_hw1 k)).toLoadRect X_arg3)) (k0_pay75 (View.readAt (Elt F) arg4.view (Rect.unit (s := S8192x128) (k0_off1 i v80 k) S256x128.size (k0_off1_inb i v80 k0_hw1 k)).toLoadRect X_arg4)) (View.readAt (Elt F) arg6.view (Rect.unit (s := S2x256x128) ![0, 0, 0] S1x256x128.size inb_S2x256x128_S1x256x128_0_0_0).toLoadRect X_arg6) (View.readAt (Elt F) arg6.view (Rect.unit (s := S2x256x128) ![1, 0, 0] S1x256x128.size inb_S2x256x128_S1x256x128_1_0_0).toLoadRect X_arg6) a (View.readAt (Elt F) arg12.view (Rect.unit (s := S32x128x256) (k0_off2 i v80 k) S1x128x256.size (k0_off2_inb i v80 k0_hw1 k)).toLoadRect f12)⟩] := by
  unfold trip_k0_t1; sl_kernel_rfl
theorem trip_pieceV : (trip_k0_t1 (F := F) 𝒱 c bd i arg2 harg2 arg3 harg3 arg4 harg4 arg5 harg5 arg6 harg6 arg7 harg7 arg8 harg8 arg9 harg9 arg10 harg10 arg11 harg11 arg12 harg12 arg13 harg13 arg1 v4 v6 v7 v23 v36 v49 v62 v77 v80 k0_hw1 X_arg3 X_arg4 X_arg6 k).2.2.1 a f12 f13
    = [⟨Rect.unit (s := S32x128x256) (k0_off2 i v80 k) S1x128x256.size (k0_off2_inb i v80 k0_hw1 k), nextV v4 v7 v23 v36 v49 v62 (fun x => x) (fun x => x) (Scf.iv v80 1#32 k) (k0_pay75 (View.readAt (Elt F) arg3.view (Rect.unit (s := S8192x128) (k0_off1 i v80 k) S256x128.size (k0_off1_inb i v80 k0_hw1 k)).toLoadRect X_arg3)) (View.readAt (Elt F) arg6.view (Rect.unit (s := S2x256x128) ![0, 0, 0] S1x256x128.size inb_S2x256x128_S1x256x128_0_0_0).toLoadRect X_arg6) (View.readAt (Elt F) arg6.view (Rect.unit (s := S2x256x128) ![1, 0, 0] S1x256x128.size inb_S2x256x128_S1x256x128_1_0_0).toLoadRect X_arg6) (View.readAt (Elt F) arg13.view (Rect.unit (s := S32x128x256) (k0_off2 i v80 k) S1x128x256.size (k0_off2_inb i v80 k0_hw1 k)).toLoadRect f13)⟩] := by
  unfold trip_k0_t1; sl_kernel_rfl
end

end Cert.KernelIdeal.Bwd
end
-- ==== Proof.Bwd.Step.lean ====
module

public import proofs.«01_k».proof.Proof.Bwd.Trip

@[expose] public section

set_option maxRecDepth 16384

noncomputable section

namespace Cert.KernelIdeal.Bwd

open Idealize.ShloMosaic
open Cert.KernelIdeal.Gen Cert.Row

/-- What a tile of queries works on: the queries and the gradients of its rows in each of the two heads, the keys and the values,
    and the number of keys each row sees. -/
structure Query where
  q0 : Fin 256 → Fin 128 → ℝ
  q1 : Fin 256 → Fin 128 → ℝ
  d0 : Fin 256 → Fin 128 → ℝ
  d1 : Fin 256 → Fin 128 → ℝ
  k : Fin 8192 → Fin 128 → ℝ
  v : Fin 8192 → Fin 128 → ℝ
  n : Fin 256 → ℕ

namespace Query
variable (T : Query)

/-- The logits of the two heads, -/
def z0 (r : Fin 256) (c : Fin 8192) : ℝ := ∑ l, T.q0 r l * T.k c l
def z1 (r : Fin 256) (c : Fin 8192) : ℝ := ∑ l, T.q1 r l * T.k c l
/-- the gradients that reach their weights, -/
def e0 (r : Fin 256) (c : Fin 8192) : ℝ := ∑ l, T.d0 r l * T.v c l
def e1 (r : Fin 256) (c : Fin 8192) : ℝ := ∑ l, T.d1 r l * T.v c l
/-- the logits' gradients, -/
def g0 (r : Fin 256) (c : Fin 8192) : ℝ := dz (T.z0 r) (T.e0 r) (T.n r) c
def g1 (r : Fin 256) (c : Fin 8192) : ℝ := dz (T.z1 r) (T.e1 r) (T.n r) c
/-- the query gradient from the first `m` blocks of keys, -/
def dq (m : ℕ) (r : Fin 256) (l : Fin 128) : ℝ :=
  ∑ c : Fin 8192, if c.val < m * 256 then (if l.val < 64 then T.g0 r c else T.g1 r c) * T.k c l else 0
/-- and what the tile adds to the gradients of a key and of a value. -/
def dk (b : Fin 32) (l : Fin 128) (s : Fin 256) : ℝ := ∑ r, (T.q0 r l * T.g0 r (pos b s) + T.q1 r l * T.g1 r (pos b s))
def dv (b : Fin 32) (l : Fin 128) (s : Fin 256) : ℝ :=
  ∑ r, (T.d0 r l * wt (T.z0 r) (T.n r) (pos b s) + T.d1 r l * wt (T.z1 r) (T.n r) (pos b s))

/-- The tile's own vectors hold it, -/
structure Given (q0 q1 d0 d1 : FVec Ideal S256x128 .bf16) (v4 v6 : FVec Ideal S256x256 .bf16) : Prop where
  q0 : ∀ r l, q0 (ix2 r l) = (T.q0 r l : EReal)
  q1 : ∀ r l, q1 (ix2 r l) = (T.q1 r l : EReal)
  d0 : ∀ r l, d0 (ix2 r l) = (T.d0 r l : EReal)
  d1 : ∀ r l, d1 (ix2 r l) = (T.d1 r l : EReal)
  suffix : IsSuffix v4
  prefix' : IsPrefix v6

/-- and so do those of a block of keys. -/
structure Loaded (b : Fin 32) (k v : FVec Ideal S256x128 .bf16) (r0 r1 : Vec Ideal S1x256x128 .f32) : Prop where
  k : ∀ s l, k (ix2 s l) = (T.k (pos b s) l : EReal)
  v : ∀ s l, v (ix2 s l) = (T.v (pos b s) l : EReal)
  r0 : ∀ r, r0 (ix3 0 r ⟨b.val, by omega⟩) = (after (T.z0 r) (T.n r) b : EReal)
  r1 : ∀ r, r1 (ix3 0 r ⟨b.val, by omega⟩) = (after (T.z1 r) (T.n r) b : EReal)

/-- After the first `m` blocks: what is carried, and the accumulators, which held `O` and `P` before. -/
structure Holds (O P : Fin 32 → Fin 128 → Fin 256 → ℝ) (m : ℕ) (a : Carry Ideal) (s0 s1 : Vec Ideal S32x128x256 .f32) : Prop where
  dq : ∀ r l, a.1 (ix2 r l) = (T.dq m r l : EReal)
  run0 : ∀ r, a.2.1 (ix2 r 0) = (before (T.z0 r) (T.e0 r) (T.n r) m : EReal)
  run1 : ∀ r, a.2.2 (ix2 r 0) = (before (T.z1 r) (T.e1 r) (T.n r) m : EReal)
  dk : ∀ b l s, s0 (ix3 b l s) = ((O b l s + if b.val < m then T.dk b l s else 0 : ℝ) : EReal)
  dv : ∀ b l s, s1 (ix3 b l s) = ((P b l s + if b.val < m then T.dv b l s else 0 : ℝ) : EReal)

end Query

/-- `s'` is `s` with block `b` replaced by `w` of it. -/
def Put (b : Fin 32) (w : Vec Ideal S1x128x256 .f32 → FVec Ideal S1x128x256 .f32) (s s' : Vec Ideal S32x128x256 .f32) : Prop :=
  ∃ o : Vec Ideal S1x128x256 .f32, (∀ l j, o (ix3 0 l j) = s (ix3 b l j)) ∧ (∀ l j, s' (ix3 b l j) = w o (ix3 0 l j)) ∧
    ∀ b' l j, b' ≠ b → s' (ix3 b' l j) = s (ix3 b' l j)

theorem put_add {b : Fin 32} {w : Vec Ideal S1x128x256 .f32 → FVec Ideal S1x128x256 .f32} {s s' : Vec Ideal S32x128x256 .f32} (hp : Put b w s s')
    (O X : Fin 32 → Fin 128 → Fin 256 → ℝ) (hs : ∀ b' l j, s (ix3 b' l j) = ((O b' l j + if b'.val < b.val then X b' l j else 0 : ℝ) : EReal))
    (hw : ∀ (o : Vec Ideal S1x128x256 .f32) (Y : Fin 128 → Fin 256 → ℝ), (∀ l j, o (ix3 0 l j) = (Y l j : EReal)) →
      ∀ l j, w o (ix3 0 l j) = ((Y l j + X b l j : ℝ) : EReal)) (b' : Fin 32) (l : Fin 128) (j : Fin 256) :
    s' (ix3 b' l j) = ((O b' l j + if b'.val < b.val + 1 then X b' l j else 0 : ℝ) : EReal) := by
  obtain ⟨o, ho, h1, h2⟩ := hp
  by_cases hb : b' = b
  · subst hb
    rw [h1, hw o (fun l j => O b' l j) (fun l j => by rw [ho, hs, if_neg (lt_irrefl _), add_zero]), if_pos (Nat.lt_succ_self _)]
  · rw [h2 _ _ _ hb, hs]
    have : b'.val ≠ b.val := fun h => hb (Fin.ext h)
    by_cases h : b'.val < b.val
    · rw [if_pos h, if_pos (by omega)]
    · rw [if_neg h, if_neg (by omega)]

section
variable {T : Query} {q0 q1 d0 d1 : FVec Ideal S256x128 .bf16} {v4 v6 : FVec Ideal S256x256 .bf16} (hg : T.Given q0 q1 d0 d1 v4 v6)
  {b : Fin 32} {k v : FVec Ideal S256x128 .bf16} {r0 r1 : Vec Ideal S1x256x128 .f32} (hb : T.Loaded b k v r0 r1)
  {μ ν : FVec Ideal S256x256 .f32 → FVec Ideal S256x256 .f32} (hμ : Masks μ T.n b) (hν : Masks ν T.n b)
  {O P : Fin 32 → Fin 128 → Fin 256 → ℝ} {a : Carry Ideal} {s0 s1 s0' s1' : Vec Ideal S32x128x256 .f32}

include hg hb hμ hν in
/-- One block of keys. -/
theorem Query.Holds.step (h : T.Holds O P b a s0 s1)
    (hk : Put b (nextK v4 v6 (iota .tc S256x128 32 [1] iota_S256x128_d1_w32) q0 q1 d0 d1 μ ν (BitVec.ofNat 32 b.val) k v r0 r1 a) s0 s0')
    (hv : Put b (nextV v4 (iota .tc S256x128 32 [1] iota_S256x128_d1_w32) q0 q1 d0 d1 μ ν (BitVec.ofNat 32 b.val) k r0 r1) s1 s1') :
    T.Holds O P (b.val + 1) (next v4 v6 (iota .tc S256x128 32 [1] iota_S256x128_d1_w32) q0 q1 d0 d1 μ ν (BitVec.ofNat 32 b.val) k v r0 r1 a) s0' s1' := by
  have z0 := dot_at q0 k T.q0 (fun s l => T.k (pos b s) l) hg.q0 hb.k
  have z1 := dot_at q1 k T.q1 (fun s l => T.k (pos b s) l) hg.q1 hb.k
  have e0 := dot_at d0 v T.d0 (fun s l => T.v (pos b s) l) hg.d0 hb.v
  have e1 := dot_at d1 v T.d1 (fun s l => T.v (pos b s) l) hg.d1 hb.v
  have c0 := fun r => (run_at b r0 r).trans (hb.r0 r)
  have c1 := fun r => (run_at b r1 r).trans (hb.r1 r)
  have D0 := tD_at (Z := T.z0) (E := T.e0) hμ hν hg.suffix hg.prefix' z0 e0 c0 h.run0
  have D1 := tD_at (Z := T.z1) (E := T.e1) hμ hν hg.suffix hg.prefix' z1 e1 c1 h.run1
  have A0 := tA_at (Z := T.z0) hμ hν hg.suffix z0 c0
  have A1 := tA_at (Z := T.z1) hμ hν hg.suffix z1 c1
  have S0 := tS_at _ _ (tG_at (Z := T.z0) (E := T.e0) hμ hν hg.suffix z0 e0 c0)
  have S1 := tS_at _ _ (tG_at (Z := T.z1) (E := T.e1) hμ hν hg.suffix z1 e1 c1)
  refine ⟨fun r l => ?_, fun r => ?_, fun r => ?_, put_add hk O T.dk h.dk ?_, put_add hv P T.dv h.dv ?_⟩
  · have Q := addQ_at _ _ k _ _ (fun s l => T.k (pos b s) l) D0 D1 hb.k r l
    refine (congrArg₂ (fun x y : EReal => x + y) (h.dq r l) Q).trans ?_
    rw [← EReal.coe_add, Query.dq, Query.dq, first_succ]; rfl
  · refine (congrArg₂ (fun x y : EReal => x + y) (h.run0 r) (S0 r)).trans ?_
    rw [← EReal.coe_add, before_succ]
  · refine (congrArg₂ (fun x y : EReal => x + y) (h.run1 r) (S1 r)).trans ?_
    rw [← EReal.coe_add, before_succ]
  · exact fun o Y ho => addK_at q0 q1 _ _ o T.q0 T.q1 _ _ Y hg.q0 hg.q1 D0 D1 ho
  · exact fun o Y ho => addK_at d0 d1 _ _ o T.d0 T.d1 _ _ Y hg.d0 hg.d1 A0 A1 ho

include hg hb in
/-- A block whose weights all count for nothing leaves what is there before any block. -/
theorem Query.Holds.idle (hν : ∀ x r s, ν x (ix2 r s) = 0) (h : T.Holds O P 0 a s0 s1)
    (hk : Put b (nextK v4 v6 (iota .tc S256x128 32 [1] iota_S256x128_d1_w32) q0 q1 d0 d1 (fun x => x) ν (BitVec.ofNat 32 b.val) k v r0 r1 a) s0 s0')
    (hv : Put b (nextV v4 (iota .tc S256x128 32 [1] iota_S256x128_d1_w32) q0 q1 d0 d1 (fun x => x) ν (BitVec.ofNat 32 b.val) k r0 r1) s1 s1') :
    T.Holds O P 0 (next v4 v6 (iota .tc S256x128 32 [1] iota_S256x128_d1_w32) q0 q1 d0 d1 (fun x => x) ν (BitVec.ofNat 32 b.val) k v r0 r1 a) s0' s1' := by
  have b0 : ∀ r, a.2.1 (ix2 r 0) = 0 := fun r => (h.run0 r).trans (by rw [before_zero, EReal.coe_zero])
  have b1 : ∀ r, a.2.2 (ix2 r 0) = 0 := fun r => (h.run1 r).trans (by rw [before_zero, EReal.coe_zero])
  have D0 : ∀ v7 w r s, grad0 v4 v6 v7 q0 d0 (fun x => x) ν w k v r0 a (ix2 r s) = ((0 : ℝ) : EReal) := fun v7 w r s => (tD_none hν v4 v6 _ _ _ _ b0 r s).trans EReal.coe_zero.symm
  have D1 : ∀ v7 w r s, grad1 v4 v6 v7 q1 d1 (fun x => x) ν w k v r1 a (ix2 r s) = ((0 : ℝ) : EReal) := fun v7 w r s => (tD_none hν v4 v6 _ _ _ _ b1 r s).trans EReal.coe_zero.symm
  have A0 : ∀ v7 w r s, wts v4 v7 (fun x => x) ν w k q0 r0 (ix2 r s) = ((0 : ℝ) : EReal) := fun v7 w r s => (tA_none hν v4 _ _ r s).trans EReal.coe_zero.symm
  have A1 : ∀ v7 w r s, wts v4 v7 (fun x => x) ν w k q1 r1 (ix2 r s) = ((0 : ℝ) : EReal) := fun v7 w r s => (tA_none hν v4 _ _ r s).trans EReal.coe_zero.symm
  have G0 : ∀ z e c r s, tG (fun x => x) ν v4 z e c (ix2 r s) = ((0 : ℝ) : EReal) := fun z e c r s => (tG_none hν v4 z e c r s).trans EReal.coe_zero.symm
  have zero : ∀ x y : EReal, y = ((0 : ℝ) : EReal) → x + y = x := fun x y hy => by rw [hy, EReal.coe_zero, add_zero]
  have same : ∀ {w : Vec Ideal S1x128x256 .f32 → FVec Ideal S1x128x256 .f32} {s s' : Vec Ideal S32x128x256 .f32} (O X : Fin 32 → Fin 128 → Fin 256 → ℝ),
      Put b w s s' → (∀ b l j, s (ix3 b l j) = ((O b l j + if b.val < 0 then X b l j else 0 : ℝ) : EReal)) →
      (∀ (o : Vec Ideal S1x128x256 .f32) (Y : Fin 128 → Fin 256 → ℝ), (∀ l j, o (ix3 0 l j) = (Y l j : EReal)) → ∀ l j, w o (ix3 0 l j) = (Y l j : EReal)) →
      ∀ b l j, s' (ix3 b l j) = ((O b l j + if b.val < 0 then X b l j else 0 : ℝ) : EReal) := fun {w s s'} O X hp hs hw b' l j => by
    obtain ⟨o, ho, h1, h2⟩ := hp
    by_cases hbb : b' = b
    · rw [hbb, h1, hw o _ (fun l j => (ho l j).trans (hs b l j))]
    · rw [h2 _ _ _ hbb, hs]
  refine ⟨fun r l => ?_, fun r => ?_, fun r => ?_, same O T.dk hk h.dk ?_, same P T.dv hv h.dv ?_⟩
  · refine (zero _ _ ((addQ_at _ _ k _ _ (fun s l => T.k (pos b s) l) (D0 _ _) (D1 _ _) hb.k r l).trans ?_)).trans (h.dq r l)
    simp
  · exact (zero _ _ ((tS_at _ _ (G0 _ _ _) r).trans (by simp))).trans (h.run0 r)
  · exact (zero _ _ ((tS_at _ _ (G0 _ _ _) r).trans (by simp))).trans (h.run1 r)
  · exact fun o Y ho l j => (addK_at q0 q1 _ _ o T.q0 T.q1 _ _ Y hg.q0 hg.q1 (D0 _ _) (D1 _ _) ho l j).trans (by simp)
  · exact fun o Y ho l j => (addK_at d0 d1 _ _ o T.d0 T.d1 _ _ Y hg.d0 hg.d1 (A0 _ _) (A1 _ _) ho l j).trans (by simp)

end

end Cert.KernelIdeal.Bwd
end
-- ==== Proof.Bwd.Block.lean ====
module

public import Idealize.ShloMosaic.Lib.WritesUnit
public import Idealize.ShloMosaic.Lib.VecWindow
public import proofs.«01_k».proof.Proof.Bwd.Cases
public import proofs.«01_k».proof.Proof.Bwd.Step

@[expose] public section

set_option maxRecDepth 16384

noncomputable section

namespace Cert.KernelIdeal.Bwd

open Idealize.ShloMosaic
open Cert.KernelIdeal.Gen Cert.Row

/-! Where a block of keys lies. -/

theorem word_block (b : ℕ) (hb : b < 32) : (BitVec.ofNat 32 b * 256#32).toNat = b * 256 := by
  rw [BitVec.toNat_mul, BitVec.toNat_ofNat, BitVec.toNat_ofNat]; omega

theorem word_small (b : ℕ) (hb : b < 32) : (BitVec.ofNat 32 b).toNat = b := by
  rw [BitVec.toNat_ofNat]; omega

theorem trips_tile : ∀ x : Fin 32, (k0_t1_loop (atTile x) 0#32).trips = x.val - 1 := by decide +kernel
theorem trips_zero (i : grid0.Coords) : (k0_t1_loop i 0#32).trips = (i 1).val - 1 := trips_tile (i 1)
theorem rest_tile : ∀ x : Fin 32, (k0_t2_loop (atTile x) 0#32).trips = 0 := by decide +kernel
theorem rest_zero (i : grid0.Coords) : (k0_t2_loop i 0#32).trips = 0 := rest_tile (i 1)

/-- A block that the loop comes to is before the tile's last two. -/
theorem trip_lt {i : grid0.Coords} (k : Fin (k0_t1_loop i 0#32).trips) : k.val + 1 < (i 1).val := by
  have := Nat.lt_of_lt_of_eq k.isLt (trips_zero i); omega

theorem trip_lt_32 {i : grid0.Coords} (k : Fin (k0_t1_loop i 0#32).trips) : k.val < 32 := by
  have := trip_lt k; have h : (i 1).val < 32 := (i 1).isLt; omega

theorem iv_zero (k : ℕ) : Scf.iv 0#32 1#32 k = BitVec.ofNat 32 k := by
  simp [Scf.iv]

theorem off1_zero (i : grid0.Coords) (k : Fin (k0_t1_loop i 0#32).trips) : k0_off1 i 0#32 k = ![k.val * 256, 0] := by
  have h := word_block k.val (trip_lt_32 k)
  simp only [k0_off1, iv_zero, Scalar.muli, Scalar.indexCast, IntOp.muli]
  exact congrArg (fun n => ![n, 0]) h

theorem off2_zero (i : grid0.Coords) (k : Fin (k0_t1_loop i 0#32).trips) : k0_off2 i 0#32 k = ![k.val, 0, 0] := by
  have h := word_small k.val (trip_lt_32 k)
  simp only [k0_off2, iv_zero, Scalar.indexCast]
  exact congrArg (fun n => ![n, 0, 0]) h

/-! Loads of a block and of a head. -/

theorem rows_at (v : View sig .tc .vmem S8192x128 .bf16) (f : v.ty.Contents (Elt Ideal)) {off : Fin 2 → ℕ} (b : Fin 32) (h : off = ![b.val * 256, 0])
    (inb : ∀ a, off a + S256x128.size a ≤ S8192x128.size a) (s : Fin 256) (l : Fin 128) :
    v.readAt (Elt Ideal) (Rect.unit (s := S8192x128) off S256x128.size inb).toLoadRect f (ix2 s l) = v.read (Elt Ideal) f (ix2 (pos b s) l) := by
  subst h
  refine congrArg (v.read (Elt Ideal) f) (funext fun a => Fin.ext ?_)
  fin_cases a <;> simp [Rect.unit, Rect.emb, pos]

theorem block_at (v : View sig .tc .vmem S32x128x256 .f32) (f : v.ty.Contents (Elt Ideal)) {off : Fin 3 → ℕ} (b : Fin 32) (h : off = ![b.val, 0, 0])
    (inb : ∀ a, off a + S1x128x256.size a ≤ S32x128x256.size a) (l : Fin 128) (s : Fin 256) :
    v.readAt (Elt Ideal) (Rect.unit (s := S32x128x256) off S1x128x256.size inb).toLoadRect f (ix3 0 l s) = v.read (Elt Ideal) f (ix3 b l s) := by
  subst h
  refine congrArg (v.read (Elt Ideal) f) (funext fun a => Fin.ext ?_)
  fin_cases a <;> simp [Rect.unit, Rect.emb]

theorem head_at (v : View sig .tc .vmem S2x256x128 .f32) (f : v.ty.Contents (Elt Ideal)) {off : Fin 3 → ℕ} (p : Fin 2) (h : off = ![p.val, 0, 0])
    (inb : ∀ a, off a + S1x256x128.size a ≤ S2x256x128.size a) (r : Fin 256) (l : Fin 128) :
    v.readAt (Elt Ideal) (Rect.unit (s := S2x256x128) off S1x256x128.size inb).toLoadRect f (ix3 0 r l) = v.read (Elt Ideal) f (ix3 p r l) := by
  subst h
  refine congrArg (v.read (Elt Ideal) f) (funext fun a => Fin.ext ?_)
  fin_cases a <;> simp [Rect.unit, Rect.emb]

/-- A store of a block computed from what the block held. -/
theorem put_block (v : View sig .tc .vmem S32x128x256 .f32) (f : v.ty.Contents (Elt Ideal)) (L : List (View.Piece (Elt Ideal) S32x128x256 .f32))
    {off off' : Fin 3 → ℕ} (b : Fin 32) (h : off = ![b.val, 0, 0]) (h' : off' = ![b.val, 0, 0])
    (inb : ∀ a, off a + S1x128x256.size a ≤ S32x128x256.size a) (inb' : ∀ a, off' a + S1x128x256.size a ≤ S32x128x256.size a)
    (w : Vec Ideal S1x128x256 .f32 → FVec Ideal S1x128x256 .f32) :
    Put b w (v.read (Elt Ideal) (v.writes (Elt Ideal) f L))
      (v.read (Elt Ideal) (v.writes (Elt Ideal) f (⟨Rect.unit (s := S32x128x256) off S1x128x256.size inb,
        w (v.readAt (Elt Ideal) (Rect.unit (s := S32x128x256) off' S1x128x256.size inb').toLoadRect (v.writes (Elt Ideal) f L))⟩ :: L))) := by
  refine ⟨_, fun l j => block_at v _ b h' inb' l j, fun l j => ?_, fun b' l j hb => ?_⟩
  · exact View.read_writes_cons_unit_of_mem v f inb _ L (ix3 b l j) (ix3 0 l j) h (fun a => by fin_cases a <;> simp)
  · refine View.read_writes_cons_unit_of_not_mem v f inb _ L (ix3 b' l j) h 0 ?_
    have : b'.val ≠ b.val := fun h => hb (Fin.ext h)
    show b'.val < b.val ∨ b.val + 1 ≤ b'.val
    omega

end Cert.KernelIdeal.Bwd
end
-- ==== Proof.Bwd.Loop.lean ====
module

public import proofs.«01_k».proof.Proof.Bwd.Block

@[expose] public section

set_option maxRecDepth 16384

noncomputable section

namespace Cert.KernelIdeal.Bwd

open Idealize.ShloMosaic
open Cert.KernelIdeal.Gen Cert.Row

/-- The lane numbers. -/
abbrev laneNo : IVec S256x128 32 := iota .tc S256x128 32 [1] iota_S256x128_d1_w32

/-- Whole memory a view reads as `x`, staged as the keys, the values and the sums after each block: a block of it is the block's own. -/
theorem Query.loaded_of (T : Query) (b : Fin 32) (v3 v4 : View sig .tc .vmem S8192x128 .bf16) (v6 : View sig .tc .vmem S2x256x128 .f32)
    (f3 : v3.ty.Contents (Elt Ideal)) (f4 : v4.ty.Contents (Elt Ideal)) (f6 : v6.ty.Contents (Elt Ideal))
    (h3 : ∀ c l, v3.read (Elt Ideal) f3 (ix2 c l) = (T.k c l : EReal)) (h4 : ∀ c l, v4.read (Elt Ideal) f4 (ix2 c l) = (T.v c l : EReal))
    (h60 : ∀ r, v6.read (Elt Ideal) f6 (ix3 0 r ⟨b.val, by omega⟩) = (after (T.z0 r) (T.n r) b : EReal))
    (h61 : ∀ r, v6.read (Elt Ideal) f6 (ix3 1 r ⟨b.val, by omega⟩) = (after (T.z1 r) (T.n r) b : EReal))
    {off off' : Fin 2 → ℕ} (ho : off = ![b.val * 256, 0]) (ho' : off' = ![b.val * 256, 0])
    (i3 : ∀ a, off a + S256x128.size a ≤ S8192x128.size a) (i4 : ∀ a, off' a + S256x128.size a ≤ S8192x128.size a)
    (i6 : ∀ a, (![0, 0, 0] : Fin 3 → ℕ) a + S1x256x128.size a ≤ S2x256x128.size a) (i6' : ∀ a, (![1, 0, 0] : Fin 3 → ℕ) a + S1x256x128.size a ≤ S2x256x128.size a) :
    T.Loaded b (k0_pay75 (v3.readAt (Elt Ideal) (Rect.unit (s := S8192x128) off S256x128.size i3).toLoadRect f3))
      (k0_pay75 (v4.readAt (Elt Ideal) (Rect.unit (s := S8192x128) off' S256x128.size i4).toLoadRect f4))
      (v6.readAt (Elt Ideal) (Rect.unit (s := S2x256x128) ![0, 0, 0] S1x256x128.size i6).toLoadRect f6)
      (v6.readAt (Elt Ideal) (Rect.unit (s := S2x256x128) ![1, 0, 0] S1x256x128.size i6').toLoadRect f6) := by
  have same : ∀ (x : Vec Ideal S256x128 .bf16) s l, k0_pay75 (F := Ideal) x (ix2 s l) = x (ix2 s l) := fun x s l => by
    pointwise [k0_pay75]
  constructor
  · intro s l; rw [same]; exact (rows_at v3 f3 b ho i3 s l).trans (h3 _ _)
  · intro s l; rw [same]; exact (rows_at v4 f4 b ho' i4 s l).trans (h4 _ _)
  · intro r; exact (head_at v6 f6 0 rfl i6 r _).trans (h60 r)
  · intro r; exact (head_at v6 f6 1 rfl i6' r _).trans (h61 r)

section
variable (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (arg1 : BitVec 32) (v4 : FVec Ideal S256x256 .bf16) (v6 : FVec Ideal S256x256 .bf16) (v23 : FVec Ideal S256x128 .bf16) (v36 : FVec Ideal S256x128 .bf16) (v49 : FVec Ideal S256x128 .bf16) (v62 : FVec Ideal S256x128 .bf16) (v77 : IVec S1x1x128 32) (k0_hw1 : k0_chk1 i 0#32) (X_arg3 : BufTy.Contents (Elt Ideal) arg3.view.ty) (X_arg4 : BufTy.Contents (Elt Ideal) arg4.view.ty) (X_arg6 : BufTy.Contents (Elt Ideal) arg6.view.ty)
  (G12 : BufTy.Contents (Elt Ideal) arg12.view.ty) (G13 : BufTy.Contents (Elt Ideal) arg13.view.ty) (init : Carry Ideal)
  (T : Query) (hg : T.Given v23 v36 v49 v62 v4 v6) (hn : ∀ r, T.n r = (i 1).val * 256 + r.val)
  (h3 : ∀ c l, arg3.view.read (Elt Ideal) X_arg3 (ix2 c l) = (T.k c l : EReal)) (h4 : ∀ c l, arg4.view.read (Elt Ideal) X_arg4 (ix2 c l) = (T.v c l : EReal))
  (h60 : ∀ (b : Fin 32) r, arg6.view.read (Elt Ideal) X_arg6 (ix3 0 r ⟨b.val, by omega⟩) = (after (T.z0 r) (T.n r) b : EReal))
  (h61 : ∀ (b : Fin 32) r, arg6.view.read (Elt Ideal) X_arg6 (ix3 1 r ⟨b.val, by omega⟩) = (after (T.z1 r) (T.n r) b : EReal))
  (O P : Fin 32 → Fin 128 → Fin 256 → ℝ) (h0 : T.Holds O P 0 init (arg12.view.read (Elt Ideal) G12) (arg13.view.read (Elt Ideal) G13))

/- What the loop carries after its first trips. -/
local notation "states" => st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v4 v6 laneNo v23 v36 v49 v62 v77 0#32 k0_hw1 X_arg3 X_arg4 X_arg6 G12 G13 init

include hg hn h3 h4 h60 h61 h0 in
/-- Before each trip of the loop, the blocks before it are done. -/
theorem loop_holds (n : ℕ) (hle : n ≤ (k0_t1_loop i 0#32).trips) :
    T.Holds O P n (states n).1
      (arg12.view.read (Elt Ideal) (arg12.view.writes (Elt Ideal) G12 (states n).2.1))
      (arg13.view.read (Elt Ideal) (arg13.view.writes (Elt Ideal) G13 (states n).2.2)) := by
  induction n with
  | zero => exact h0
  | succ n ih =>
    have hk : n < (k0_t1_loop i 0#32).trips := hle
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 v4 v6 laneNo v23 v36 v49 v62 v77 0#32 k0_hw1 X_arg3 X_arg4 X_arg6 G12 G13 init ⟨n, hk⟩
    specialize ih (Nat.le_of_lt hk)
    dsimp only at hs
    rw [hs]; clear hs
    generalize (states n) = S at ih ⊢
    dsimp only
    have ht := trip_lt ⟨n, hk⟩
    have h32 := trip_lt_32 ⟨n, hk⟩
    dsimp only at ht h32
    have hb := T.loaded_of ⟨n, h32⟩ arg3.view arg4.view arg6.view X_arg3 X_arg4 X_arg6 h3 h4 (h60 ⟨n, h32⟩) (h61 ⟨n, h32⟩)
      (off1_zero i ⟨n, hk⟩) (off1_zero i ⟨n, hk⟩) (k0_off1_inb i 0#32 k0_hw1 ⟨n, hk⟩) (k0_off1_inb i 0#32 k0_hw1 ⟨n, hk⟩)
      inb_S2x256x128_S1x256x128_0_0_0 inb_S2x256x128_S1x256x128_1_0_0
    have hm : Masks (fun x => x) T.n ⟨n, h32⟩ := mask_full _ _ fun r s => by
      rw [hn]; simp only [pos]; have := s.isLt; omega
    unfold tripR_k0_t1
    rw [trip_carry, trip_pieceK, trip_pieceV]
    simp only [List.cons_append, List.nil_append, iv_zero]
    exact Query.Holds.step hg hb hm hm ih
      (put_block arg12.view G12 S.2.1 ⟨n, h32⟩ (off2_zero i ⟨n, hk⟩) (off2_zero i ⟨n, hk⟩) _ _ _)
      (put_block arg13.view G13 S.2.2 ⟨n, h32⟩ (off2_zero i ⟨n, hk⟩) (off2_zero i ⟨n, hk⟩) _ _ _)

end

end Cert.KernelIdeal.Bwd
end
-- ==== Proof.Bwd.Point.lean ====
module

public import proofs.«01_k».proof.Proof.Bwd.Frame
public import proofs.«01_k».proof.Proof.Bwd.Loop

@[expose] public section

set_option maxRecDepth 16384

noncomputable section

namespace Cert.KernelIdeal.Bwd

open Idealize.ShloMosaic Idealize.ShloMosaic.Tactic
open Cert.KernelIdeal.Gen Cert.Row

variable {F : FTy → Type} [FloatOps F] [Named F]

/-! A grid point's vectors, from the blocks `x0 … x6` it finds. -/
section
variable (c : Dev nD) (t : Fin cfg0.N) (x0 : Vec F S256x128 .bf16) (x1 x2 : Vec F S8192x128 .bf16) (x3 : Vec F S256x128 .bf16) (x4 : Vec F S2x256x128 .f32)
  (x5 x6 : Vec F S256x256 .bf16) (v80 : BitVec 32) (hw : k0_chk1 (grid0.coords t) v80) (G12 G13 : BufTy.Contents (Elt F) acc0.view.ty)

abbrev vq : Vec F S256x128 .bf16 := (sg0 t).view.readAt (Elt F) (Rect.unit (s := S256x128) ![0, 0] S256x128.size inb_S256x128_S256x128_0_0).toLoadRect ((hw0 t).unread x0)
abbrev vd : Vec F S256x128 .bf16 := (sg3 t).view.readAt (Elt F) (Rect.unit (s := S256x128) ![0, 0] S256x128.size inb_S256x128_S256x128_0_0).toLoadRect ((hw3 t).unread x3)
abbrev vr0 : Vec F S1x256x128 .f32 := (sg4 t).view.readAt (Elt F) (Rect.unit (s := S2x256x128) ![0, 0, 0] S1x256x128.size inb_S2x256x128_S1x256x128_0_0_0).toLoadRect ((hw4 t).unread x4)
abbrev vr1 : Vec F S1x256x128 .f32 := (sg4 t).view.readAt (Elt F) (Rect.unit (s := S2x256x128) ![1, 0, 0] S1x256x128.size inb_S2x256x128_S1x256x128_1_0_0).toLoadRect ((hw4 t).unread x4)
abbrev vsuf : FVec F S256x256 .bf16 := k0_pay61 ((sg5 t).view.readAt (Elt F) (Rect.unit (s := S256x256) ![0, 0] S256x256.size inb_S256x256_S256x256_0_0).toLoadRect ((hw5 t).unread x5))
abbrev vpre : FVec F S256x256 .bf16 := k0_pay62 ((sg6 t).view.readAt (Elt F) (Rect.unit (s := S256x256) ![0, 0] S256x256.size inb_S256x256_S256x256_0_0).toLoadRect ((hw6 t).unread x6))
/-- The keys and the values of the block before the tile's own, and of its own. -/
abbrev kPrev : FVec F S256x128 .bf16 := k0_pay75 ((sg1 t).view.readAt (Elt F) (Rect.unit (s := S8192x128) (k0_off5 (grid0.coords t)) S256x128.size (k0_off5_inb (grid0.coords t))).toLoadRect ((hw1 t).unread x1))
abbrev vPrev : FVec F S256x128 .bf16 := k0_pay75 ((sg2 t).view.readAt (Elt F) (Rect.unit (s := S8192x128) (k0_off5 (grid0.coords t)) S256x128.size (k0_off5_inb (grid0.coords t))).toLoadRect ((hw2 t).unread x2))
abbrev kOwn : FVec F S256x128 .bf16 := k0_pay75 ((sg1 t).view.readAt (Elt F) (Rect.unit (s := S8192x128) (k0_off6 (grid0.coords t)) S256x128.size (k0_off6_inb (grid0.coords t))).toLoadRect ((hw1 t).unread x1))
abbrev vOwn : FVec F S256x128 .bf16 := k0_pay75 ((sg2 t).view.readAt (Elt F) (Rect.unit (s := S8192x128) (k0_off6 (grid0.coords t)) S256x128.size (k0_off6_inb (grid0.coords t))).toLoadRect ((hw2 t).unread x2))
/-- The weights of the block before count unless the tile is the first. -/
abbrev ifAny (x : FVec F S256x256 .f32) : FVec F S256x256 .f32 := mulf x (broadcast S256x256 (k0_pay74 (F := F) (BitVec.ofNat 32 (grid0.coords t 1).val)))
abbrev wPrev : BitVec 32 := Scalar.maxsi (Scalar.subi (BitVec.ofNat 32 (grid0.coords t 1).val) 1#32) 0#32
abbrev wOwn : BitVec 32 := BitVec.ofNat 32 (grid0.coords t 1).val

/-- The first loop and the second, -/
def loopA : Carry F × List (View.Piece (Elt F) S32x128x256 .f32) × List (View.Piece (Elt F) S32x128x256 .f32) :=
  st_k0_t1 (F := F) Variants.none c none (grid0.coords t) (sg0 t) (hw0 t) (sg1 t) (hw1 t) (sg2 t) (hw2 t) (sg3 t) (hw3 t) (sg4 t) (hw4 t) (sg5 t) (hw5 t) (sg6 t) (hw6 t) (sg7 t) (hw7 t) (sg8 t) (hw8 t) (sg9 t) (hw9 t) acc0 (Memref.isWhole_whole _) acc1 (Memref.isWhole_whole _)
    (BitVec.ofNat 32 (grid0.coords t 1).val) (vsuf t x5) (vpre t x6) laneNo (k0_pay64 (vq t x0)) (k0_pay65 (vq t x0)) (k0_pay66 (vd t x3)) (k0_pay67 (vd t x3))
    (k0_pay68 (BitVec.ofNat 32 (grid0.coords t 1).val) laneNo (vr0 t x4) (vr1 t x4)) v80 hw ((hw1 t).unread x1) ((hw2 t).unread x2) ((hw4 t).unread x4) G12 G13 (k0_pay70, k0_pay71, k0_pay71)
    (k0_t1_loop (grid0.coords t) v80).trips
def loopB (H12 H13 : BufTy.Contents (Elt F) acc0.view.ty) : Carry F × List (View.Piece (Elt F) S32x128x256 .f32) × List (View.Piece (Elt F) S32x128x256 .f32) :=
  st_k0_t2 (F := F) Variants.none c none (grid0.coords t) (sg0 t) (hw0 t) (sg1 t) (hw1 t) (sg2 t) (hw2 t) (sg3 t) (hw3 t) (sg4 t) (hw4 t) (sg5 t) (hw5 t) (sg6 t) (hw6 t) (sg7 t) (hw7 t) (sg8 t) (hw8 t) (sg9 t) (hw9 t) acc0 (Memref.isWhole_whole _) acc1 (Memref.isWhole_whole _)
    (BitVec.ofNat 32 (grid0.coords t 1).val) (vsuf t x5) (vpre t x6) laneNo (k0_pay64 (vq t x0)) (k0_pay65 (vq t x0)) (k0_pay66 (vd t x3)) (k0_pay67 (vd t x3))
    (k0_pay68 (BitVec.ofNat 32 (grid0.coords t 1).val) laneNo (vr0 t x4) (vr1 t x4)) v80 hw (k0_t1_loop (grid0.coords t) v80).ub ((hw1 t).unread x1) ((hw2 t).unread x2) ((hw4 t).unread x4)
    H12 H13
    (loopA c t x0 x1 x2 x3 x4 x5 x6 v80 hw G12 G13).1
    (k0_t2_loop (grid0.coords t) v80).trips

/-- the block before the tile's own, at what is carried and written so far, -/
def stepPrev (a : Carry F) (LK LV : List (View.Piece (Elt F) S32x128x256 .f32)) :
    Carry F × List (View.Piece (Elt F) S32x128x256 .f32) × List (View.Piece (Elt F) S32x128x256 .f32) :=
  (next (vsuf t x5) (vpre t x6) laneNo (k0_pay64 (vq t x0)) (k0_pay65 (vq t x0)) (k0_pay66 (vd t x3)) (k0_pay67 (vd t x3)) (fun x => x) (ifAny t) (wPrev t) (kPrev t x1) (vPrev t x2) (vr0 t x4) (vr1 t x4) a,
    ⟨Rect.unit (s := S32x128x256) (k0_off7 (grid0.coords t)) S1x128x256.size (k0_off7_inb (grid0.coords t)),
      nextK (vsuf t x5) (vpre t x6) laneNo (k0_pay64 (vq t x0)) (k0_pay65 (vq t x0)) (k0_pay66 (vd t x3)) (k0_pay67 (vd t x3)) (fun x => x) (ifAny t) (wPrev t) (kPrev t x1) (vPrev t x2) (vr0 t x4) (vr1 t x4) a
        (acc0.view.readAt (Elt F) (Rect.unit (s := S32x128x256) (k0_off7 (grid0.coords t)) S1x128x256.size (k0_off7_inb (grid0.coords t))).toLoadRect (acc0.view.writes (Elt F) G12 LK))⟩ :: LK,
    ⟨Rect.unit (s := S32x128x256) (k0_off7 (grid0.coords t)) S1x128x256.size (k0_off7_inb (grid0.coords t)),
      nextV (vsuf t x5) laneNo (k0_pay64 (vq t x0)) (k0_pay65 (vq t x0)) (k0_pay66 (vd t x3)) (k0_pay67 (vd t x3)) (fun x => x) (ifAny t) (wPrev t) (kPrev t x1) (vr0 t x4) (vr1 t x4)
        (acc1.view.readAt (Elt F) (Rect.unit (s := S32x128x256) (k0_off7 (grid0.coords t)) S1x128x256.size (k0_off7_inb (grid0.coords t))).toLoadRect (acc1.view.writes (Elt F) G13 LV))⟩ :: LV)
/-- the tile's own block, -/
def stepOwn (a : Carry F) (LK LV : List (View.Piece (Elt F) S32x128x256 .f32)) :
    Carry F × List (View.Piece (Elt F) S32x128x256 .f32) × List (View.Piece (Elt F) S32x128x256 .f32) :=
  (next (vsuf t x5) (vpre t x6) laneNo (k0_pay64 (vq t x0)) (k0_pay65 (vq t x0)) (k0_pay66 (vd t x3)) (k0_pay67 (vd t x3)) cut cut (wOwn t) (kOwn t x1) (vOwn t x2) (vr0 t x4) (vr1 t x4) a,
    ⟨Rect.unit (s := S32x128x256) (k0_off8 (grid0.coords t)) S1x128x256.size (k0_off8_inb (grid0.coords t)),
      nextK (vsuf t x5) (vpre t x6) laneNo (k0_pay64 (vq t x0)) (k0_pay65 (vq t x0)) (k0_pay66 (vd t x3)) (k0_pay67 (vd t x3)) cut cut (wOwn t) (kOwn t x1) (vOwn t x2) (vr0 t x4) (vr1 t x4) a
        (acc0.view.readAt (Elt F) (Rect.unit (s := S32x128x256) (k0_off8 (grid0.coords t)) S1x128x256.size (k0_off8_inb (grid0.coords t))).toLoadRect (acc0.view.writes (Elt F) G12 LK))⟩ :: LK,
    ⟨Rect.unit (s := S32x128x256) (k0_off8 (grid0.coords t)) S1x128x256.size (k0_off8_inb (grid0.coords t)),
      nextV (vsuf t x5) laneNo (k0_pay64 (vq t x0)) (k0_pay65 (vq t x0)) (k0_pay66 (vd t x3)) (k0_pay67 (vd t x3)) cut cut (wOwn t) (kOwn t x1) (vr0 t x4) (vr1 t x4)
        (acc1.view.readAt (Elt F) (Rect.unit (s := S32x128x256) (k0_off8 (grid0.coords t)) S1x128x256.size (k0_off8_inb (grid0.coords t))).toLoadRect (acc1.view.writes (Elt F) G13 LV))⟩ :: LV)

/-- and the whole tile: what is carried in the end and the pieces written into the accumulators, from contents `G12`, `G13`, -/
def tile : Carry F × List (View.Piece (Elt F) S32x128x256 .f32) × List (View.Piece (Elt F) S32x128x256 .f32) :=
  let A := loopA c t x0 x1 x2 x3 x4 x5 x6 v80 hw G12 G13
  let B := loopB c t x0 x1 x2 x3 x4 x5 x6 v80 hw G12 G13 (acc0.view.writes (Elt F) G12 A.2.1) (acc1.view.writes (Elt F) G13 A.2.2)
  let P := stepPrev t x0 x1 x2 x3 x4 x5 x6 G12 G13 B.1 (B.2.1 ++ A.2.1) (B.2.2 ++ A.2.2)
  stepOwn t x0 x1 x2 x3 x4 x5 x6 G12 G13 P.1 P.2.1 P.2.2
/-- or from contents with the pieces `Z0`, `Z1` written first. -/
def tileFrom (Z0 Z1 : List (View.Piece (Elt F) S32x128x256 .f32)) :
    Carry F × List (View.Piece (Elt F) S32x128x256 .f32) × List (View.Piece (Elt F) S32x128x256 .f32) :=
  let A := loopA c t x0 x1 x2 x3 x4 x5 x6 v80 hw (acc0.view.writes (Elt F) G12 Z0) (acc1.view.writes (Elt F) G13 Z1)
  let B := loopB c t x0 x1 x2 x3 x4 x5 x6 v80 hw (acc0.view.writes (Elt F) G12 Z0) (acc1.view.writes (Elt F) G13 Z1)
    (acc0.view.writes (Elt F) G12 (A.2.1 ++ Z0)) (acc1.view.writes (Elt F) G13 (A.2.2 ++ Z1))
  let P := stepPrev t x0 x1 x2 x3 x4 x5 x6 G12 G13 B.1 (B.2.1 ++ (A.2.1 ++ Z0)) (B.2.2 ++ (A.2.2 ++ Z1))
  stepOwn t x0 x1 x2 x3 x4 x5 x6 G12 G13 P.1 P.2.1 P.2.2
end

/-- The query gradient that is written. -/
def scaled (a : FVec F S256x128 .f32) : FVec F S256x128 .bf16 := truncf .bf16 (mulf a (broadcast S256x128 (Scalar.ofBits .f32 0x3E000000#32))) bitsLt_bf16_f32

section
variable (m : (ℓ : Loc nD τ sig) → Buf (Elt F) ℓ) (c : Dev nD) (t : Fin cfg0.N)

/-- The number of skipped blocks at a point, and its side conditions. -/
abbrev skipped : BitVec 32 := firstOf (BitVec.ofNat 32 (grid0.coords t 1).val) (vr0 t (iblk m c 4 t)) (vr1 t (iblk m c 4 t))
abbrev tileAt (G12 G13 : BufTy.Contents (Elt F) acc0.view.ty) :=
  tile c t (iblk m c 0 t) (iblk m c 1 t) (iblk m c 2 t) (iblk m c 3 t) (iblk m c 4 t) (iblk m c 5 t) (iblk m c 6 t) (skipped m c t) (chk_first _ _ _) G12 G13

theorem mid_K (hf : ¬ isFirst (grid0.coords t)) (hl : ¬ isLast (grid0.coords t)) (s0 s1 : Vec F S32x128x256 .f32) :
    (atMid m c t hf hl s0 s1).2.1 = (tileAt m c t ((Memref.isWhole_whole _).unread s0) ((Memref.isWhole_whole _).unread s1)).2.1 := by
  unfold atMid runMid tileAt tile; sl_kernel_rfl
theorem mid_V (hf : ¬ isFirst (grid0.coords t)) (hl : ¬ isLast (grid0.coords t)) (s0 s1 : Vec F S32x128x256 .f32) :
    (atMid m c t hf hl s0 s1).2.2.1 = (tileAt m c t ((Memref.isWhole_whole _).unread s0) ((Memref.isWhole_whole _).unread s1)).2.2 := by
  unfold atMid runMid tileAt tile; sl_kernel_rfl
theorem mid_Q (hf : ¬ isFirst (grid0.coords t)) (hl : ¬ isLast (grid0.coords t)) (s0 s1 : Vec F S32x128x256 .f32) :
    (atMid m c t hf hl s0 s1).1 = [⟨Rect.unit (s := S256x128) ![0, 0] S256x128.size inb_S256x128_S256x128_0_0,
      scaled (tileAt m c t ((Memref.isWhole_whole _).unread s0) ((Memref.isWhole_whole _).unread s1)).1.1⟩] := by
  unfold atMid runMid tileAt tile; sl_kernel_rfl

/-- The accumulators cleared. -/
abbrev clear0 : List (View.Piece (Elt F) S32x128x256 .f32) := [⟨Rect.unit (s := S32x128x256) ![0, 0, 0] S32x128x256.size inb_S32x128x256_S32x128x256_0_0_0, k0_pay59⟩]
abbrev clear1 : List (View.Piece (Elt F) S32x128x256 .f32) := [⟨Rect.unit (s := S32x128x256) ![0, 0, 0] S32x128x256.size inb_S32x128x256_S32x128x256_0_0_0, k0_pay60⟩]
abbrev tileFirst :=
  tileFrom c t (iblk m c 0 t) (iblk m c 1 t) (iblk m c 2 t) (iblk m c 3 t) (iblk m c 4 t) (iblk m c 5 t) (iblk m c 6 t) (skipped m c t) (chk_first _ _ _)
    acc0.view.junk acc1.view.junk clear0 clear1

theorem first_K (hf : isFirst (grid0.coords t)) (hl : ¬ isLast (grid0.coords t)) : (atFirst m c t hf hl).2.1 = (tileFirst m c t).2.1 := by
  unfold atFirst runFirst tileFirst tileFrom; sl_kernel_rfl
theorem first_V (hf : isFirst (grid0.coords t)) (hl : ¬ isLast (grid0.coords t)) : (atFirst m c t hf hl).2.2.1 = (tileFirst m c t).2.2 := by
  unfold atFirst runFirst tileFirst tileFrom; sl_kernel_rfl
theorem first_Q (hf : isFirst (grid0.coords t)) (hl : ¬ isLast (grid0.coords t)) :
    (atFirst m c t hf hl).1 = [⟨Rect.unit (s := S256x128) ![0, 0] S256x128.size inb_S256x128_S256x128_0_0, scaled (tileFirst m c t).1.1⟩] := by
  unfold atFirst runFirst tileFirst tileFrom; sl_kernel_rfl

theorem last_K (hf : ¬ isFirst (grid0.coords t)) (hl : isLast (grid0.coords t)) (s0 s1 : Vec F S32x128x256 .f32) :
    (atLast m c t hf hl s0 s1).2.2.2.1 = (tileAt m c t ((Memref.isWhole_whole _).unread s0) ((Memref.isWhole_whole _).unread s1)).2.1 := by
  unfold atLast runLast tileAt tile; sl_kernel_rfl
theorem last_V (hf : ¬ isFirst (grid0.coords t)) (hl : isLast (grid0.coords t)) (s0 s1 : Vec F S32x128x256 .f32) :
    (atLast m c t hf hl s0 s1).2.2.2.2.1 = (tileAt m c t ((Memref.isWhole_whole _).unread s0) ((Memref.isWhole_whole _).unread s1)).2.2 := by
  unfold atLast runLast tileAt tile; sl_kernel_rfl
theorem last_Q (hf : ¬ isFirst (grid0.coords t)) (hl : isLast (grid0.coords t)) (s0 s1 : Vec F S32x128x256 .f32) :
    (atLast m c t hf hl s0 s1).1 = [⟨Rect.unit (s := S256x128) ![0, 0] S256x128.size inb_S256x128_S256x128_0_0,
      scaled (tileAt m c t ((Memref.isWhole_whole _).unread s0) ((Memref.isWhole_whole _).unread s1)).1.1⟩] := by
  unfold atLast runLast tileAt tile; sl_kernel_rfl
end

end Cert.KernelIdeal.Bwd
end
-- ==== Proof.Bwd.Whole.lean ====
module

public import proofs.«01_k».proof.Proof.Bwd.Point

@[expose] public section

set_option maxRecDepth 16384

noncomputable section

namespace Cert.KernelIdeal.Bwd

open Idealize.ShloMosaic
open Cert.KernelIdeal.Gen Cert.Row

/-- The tile's work, from its queries and output gradients in both heads side by side. -/
def queryOf (Q D : Fin 256 → Fin 128 → ℝ) (K V : Fin 8192 → Fin 128 → ℝ) (b : ℕ) : Query where
  q0 r l := if l.val < 64 then Q r l else 0
  q1 r l := if l.val < 64 then 0 else Q r l
  d0 r l := if l.val < 64 then D r l else 0
  d1 r l := if l.val < 64 then 0 else D r l
  k := K
  v := V
  n r := b * 256 + r.val

/-- The blocks a point finds are the tile's. -/
structure Staged (T : Query) (Q D : Fin 256 → Fin 128 → ℝ) (K V : Fin 8192 → Fin 128 → ℝ) (x0 : Vec Ideal S256x128 .bf16) (x1 x2 : Vec Ideal S8192x128 .bf16)
    (x3 : Vec Ideal S256x128 .bf16) (x4 : Vec Ideal S2x256x128 .f32) (x5 x6 : Vec Ideal S256x256 .bf16) : Prop where
  q : ∀ r l, x0 (ix2 r l) = (Q r l : EReal)
  k : ∀ c l, x1 (ix2 c l) = (K c l : EReal)
  v : ∀ c l, x2 (ix2 c l) = (V c l : EReal)
  d : ∀ r l, x3 (ix2 r l) = (D r l : EReal)
  run0 : ∀ (b : Fin 32) r, x4 (ix3 0 r ⟨b.val, by omega⟩) = (after (T.z0 r) (T.n r) b : EReal)
  run1 : ∀ (b : Fin 32) r, x4 (ix3 1 r ⟨b.val, by omega⟩) = (after (T.z1 r) (T.n r) b : EReal)
  suffix : IsSuffix x5
  prefix' : IsPrefix x6

theorem off5_tile : ∀ x : Fin 32, k0_off5 (atTile x) = ![(x.val - 1) * 256, 0] := by decide +kernel
theorem off6_tile : ∀ x : Fin 32, k0_off6 (atTile x) = ![x.val * 256, 0] := by decide +kernel
theorem prev_tile : ∀ x : Fin 32, Scalar.maxsi (Scalar.subi (BitVec.ofNat 32 x.val) 1#32) 0#32 = BitVec.ofNat 32 (x.val - 1) := by decide +kernel
theorem any_tile : ∀ x : Fin 32, (Scalar.extui (Scalar.cmpi .sgt (BitVec.ofNat 32 x.val) 0#32) : BitVec 32) = if x.val = 0 then 0#32 else 1#32 := by decide +kernel

theorem any_none : k0_pay74 (F := Ideal) (BitVec.ofNat 32 0) = 0 :=
  (congrArg (Scalar.sitofp (F := Ideal) .f32) (any_tile 0)).trans (by simp [Scalar.sitofp, FloatOps.sitofp, FloatOps.scalar, Ideal.scalarOps])
theorem any_some (x : Fin 32) (h : x.val ≠ 0) : k0_pay74 (F := Ideal) (BitVec.ofNat 32 x.val) = 1 :=
  (congrArg (Scalar.sitofp (F := Ideal) .f32) ((any_tile x).trans (if_neg h))).trans (by simp [Scalar.sitofp, FloatOps.sitofp, FloatOps.scalar, Ideal.scalarOps])

/-! The blocks a point reads whole. -/
section
variable (t : Fin cfg0.N)
theorem vq_eq (x : Vec Ideal S256x128 .bf16) : vq t x = x :=
  (View.readAt_full (off := ![0, 0]) (sg0 t).view _ inb_S256x128_S256x128_0_0).trans ((hw0 t).read_unread x)
theorem vd_eq (x : Vec Ideal S256x128 .bf16) : vd t x = x :=
  (View.readAt_full (off := ![0, 0]) (sg3 t).view _ inb_S256x128_S256x128_0_0).trans ((hw3 t).read_unread x)
theorem vsuf_at (x : Vec Ideal S256x256 .bf16) (j : S256x256.Idx) : vsuf t x j = x j := by
  have h := (View.readAt_full (off := ![0, 0]) (sg5 t).view ((hw5 t).unread x) inb_S256x256_S256x256_0_0).trans ((hw5 t).read_unread x)
  unfold vsuf; rw [h, eq_ix2 j]; pointwise [k0_pay61]
theorem vpre_at (x : Vec Ideal S256x256 .bf16) (j : S256x256.Idx) : vpre t x j = x j := by
  have h := (View.readAt_full (off := ![0, 0]) (sg6 t).view ((hw6 t).unread x) inb_S256x256_S256x256_0_0).trans ((hw6 t).read_unread x)
  unfold vpre; rw [h, eq_ix2 j]; pointwise [k0_pay62]
end

theorem head0d_at (x : Vec Ideal S256x128 .bf16) (X : Fin 256 → Fin 128 → ℝ) (hx : ∀ r l, x (ix2 r l) = (X r l : EReal)) (r : Fin 256) (l : Fin 128) :
    k0_pay66 (F := Ideal) x (ix2 r l) = ((if l.val < 64 then X r l else 0 : ℝ) : EReal) := head0_at x X hx r l
theorem head1d_at (x : Vec Ideal S256x128 .bf16) (X : Fin 256 → Fin 128 → ℝ) (hx : ∀ r l, x (ix2 r l) = (X r l : EReal)) (r : Fin 256) (l : Fin 128) :
    k0_pay67 (F := Ideal) x (ix2 r l) = ((if l.val < 64 then 0 else X r l : ℝ) : EReal) := head1_at x X hx r l

section
variable (c : Dev nD) (t : Fin cfg0.N) {x0 : Vec Ideal S256x128 .bf16} {x1 x2 : Vec Ideal S8192x128 .bf16} {x3 : Vec Ideal S256x128 .bf16} {x4 : Vec Ideal S2x256x128 .f32}
  {x5 x6 : Vec Ideal S256x256 .bf16} {Q D : Fin 256 → Fin 128 → ℝ} {K V : Fin 8192 → Fin 128 → ℝ} {T : Query} (hT : T = queryOf Q D K V (grid0.coords t 1).val)
  (hs : Staged T Q D K V x0 x1 x2 x3 x4 x5 x6)
  {O P : Fin 32 → Fin 128 → Fin 256 → ℝ}

include hT hs in
theorem given : T.Given (k0_pay64 (vq t x0)) (k0_pay65 (vq t x0)) (k0_pay66 (vd t x3)) (k0_pay67 (vd t x3)) (vsuf t x5) (vpre t x6) := by
  rw [vq_eq, vd_eq]
  subst hT
  exact ⟨head0_at x0 Q hs.q, head1_at x0 Q hs.q, head0d_at x3 D hs.d, head1d_at x3 D hs.d,
    fun r k => (vsuf_at t x5 _).trans (hs.suffix r k), fun r k => (vpre_at t x6 _).trans (hs.prefix' r k)⟩

include hT hs in
/-- The block of keys at offset `b`, as the point reads it. -/
theorem loaded (b : Fin 32) {off : Fin 2 → ℕ} (ho : off = ![b.val * 256, 0]) (i3 : ∀ a, off a + S256x128.size a ≤ S8192x128.size a) :
    T.Loaded b (k0_pay75 ((sg1 t).view.readAt (Elt Ideal) (Rect.unit (s := S8192x128) off S256x128.size i3).toLoadRect ((hw1 t).unread x1)))
      (k0_pay75 ((sg2 t).view.readAt (Elt Ideal) (Rect.unit (s := S8192x128) off S256x128.size i3).toLoadRect ((hw2 t).unread x2))) (vr0 t x4) (vr1 t x4) :=
  T.loaded_of b _ _ (sg4 t).view _ _ ((hw4 t).unread x4)
    (fun c l => (congrFun ((hw1 t).read_unread x1) _).trans (by subst hT; exact hs.k c l)) (fun c l => (congrFun ((hw2 t).read_unread x2) _).trans (by subst hT; exact hs.v c l))
    (fun r => (congrFun ((hw4 t).read_unread x4) _).trans (hs.run0 b r)) (fun r => (congrFun ((hw4 t).read_unread x4) _).trans (hs.run1 b r)) ho ho _ _ _ _

variable {G12 G13 : BufTy.Contents (Elt Ideal) acc0.view.ty} {a : Carry Ideal} {LK LV : List (View.Piece (Elt Ideal) S32x128x256 .f32)}

include hT hs in
/-- The block before the tile's own. -/
theorem prev_holds (h : T.Holds O P ((grid0.coords t 1).val - 1) a (acc0.view.read (Elt Ideal) (acc0.view.writes (Elt Ideal) G12 LK)) (acc1.view.read (Elt Ideal) (acc1.view.writes (Elt Ideal) G13 LV))) :
    T.Holds O P (grid0.coords t 1).val (stepPrev t x0 x1 x2 x3 x4 x5 x6 G12 G13 a LK LV).1
      (acc0.view.read (Elt Ideal) (acc0.view.writes (Elt Ideal) G12 (stepPrev t x0 x1 x2 x3 x4 x5 x6 G12 G13 a LK LV).2.1))
      (acc1.view.read (Elt Ideal) (acc1.view.writes (Elt Ideal) G13 (stepPrev t x0 x1 x2 x3 x4 x5 x6 G12 G13 a LK LV).2.2)) := by
  have hlt : (grid0.coords t 1).val < 32 := (grid0.coords t 1).isLt
  let b : Fin 32 := ⟨(grid0.coords t 1).val - 1, by omega⟩
  have hw : wPrev t = BitVec.ofNat 32 b.val := prev_tile (grid0.coords t 1)
  have ho7 : k0_off7 (grid0.coords t) = ![b.val, 0, 0] := off7_tile (grid0.coords t 1)
  have hg := given t hT hs
  have hb := loaded t hT hs b (off5_tile (grid0.coords t 1)) (k0_off5_inb (grid0.coords t))
  unfold stepPrev
  rw [hw]
  have pk := put_block acc0.view G12 LK b ho7 ho7 (k0_off7_inb (grid0.coords t)) (k0_off7_inb (grid0.coords t))
    (nextK (vsuf t x5) (vpre t x6) laneNo (k0_pay64 (vq t x0)) (k0_pay65 (vq t x0)) (k0_pay66 (vd t x3)) (k0_pay67 (vd t x3)) (fun x => x) (ifAny t) (BitVec.ofNat 32 b.val) (kPrev t x1) (vPrev t x2) (vr0 t x4) (vr1 t x4) a)
  have pv := put_block acc1.view G13 LV b ho7 ho7 (k0_off7_inb (grid0.coords t)) (k0_off7_inb (grid0.coords t))
    (nextV (vsuf t x5) laneNo (k0_pay64 (vq t x0)) (k0_pay65 (vq t x0)) (k0_pay66 (vd t x3)) (k0_pay67 (vd t x3)) (fun x => x) (ifAny t) (BitVec.ofNat 32 b.val) (kPrev t x1) (vr0 t x4) (vr1 t x4))
  by_cases h0 : (grid0.coords t 1).val = 0
  · rw [h0] at h ⊢
    refine Query.Holds.idle hg hb (fun x r s => ?_) h pk pv
    have hn : k0_pay74 (F := Ideal) (BitVec.ofNat 32 (grid0.coords t 1).val) = 0 := by rw [h0]; exact any_none
    unfold ifAny; pointwise []; rw [hn, mul_zero]
  · have hid : ∀ x r s, ifAny (F := Ideal) t x (ix2 r s) = x (ix2 r s) := fun x r s => by
      have hn := any_some (grid0.coords t 1) h0
      unfold ifAny; pointwise []; rw [hn, mul_one]
    have hm : Masks (fun x => x) T.n b := mask_full _ _ fun r s => by
      subst hT; simp only [queryOf, pos, b]; have := s.isLt; omega
    have := Query.Holds.step hg hb hm (fun x X hx r s => (hid x r s).trans (hm x X hx r s)) (h : T.Holds O P b.val _ _ _) pk pv
    rwa [show b.val + 1 = (grid0.coords t 1).val by simp only [b]; omega] at this

include hT hs in
/-- The tile's own block. -/
theorem own_holds (h : T.Holds O P (grid0.coords t 1).val a (acc0.view.read (Elt Ideal) (acc0.view.writes (Elt Ideal) G12 LK)) (acc1.view.read (Elt Ideal) (acc1.view.writes (Elt Ideal) G13 LV))) :
    T.Holds O P ((grid0.coords t 1).val + 1) (stepOwn t x0 x1 x2 x3 x4 x5 x6 G12 G13 a LK LV).1
      (acc0.view.read (Elt Ideal) (acc0.view.writes (Elt Ideal) G12 (stepOwn t x0 x1 x2 x3 x4 x5 x6 G12 G13 a LK LV).2.1))
      (acc1.view.read (Elt Ideal) (acc1.view.writes (Elt Ideal) G13 (stepOwn t x0 x1 x2 x3 x4 x5 x6 G12 G13 a LK LV).2.2)) := by
  let b : Fin 32 := grid0.coords t 1
  have ho8 : k0_off8 (grid0.coords t) = ![b.val, 0, 0] := off8_tile (grid0.coords t 1)
  have hg := given t hT hs
  have hb := loaded t hT hs b (off6_tile (grid0.coords t 1)) (k0_off6_inb (grid0.coords t))
  have hm : Masks cut T.n b := by subst hT; exact mask_cut b
  exact Query.Holds.step hg hb hm hm h
    (put_block acc0.view G12 LK b ho8 ho8 (k0_off8_inb (grid0.coords t)) (k0_off8_inb (grid0.coords t)) _)
    (put_block acc1.view G13 LV b ho8 ho8 (k0_off8_inb (grid0.coords t)) (k0_off8_inb (grid0.coords t)) _)

/-- Nothing is carried into the first block. -/
theorem start_holds {s0 s1 : Vec Ideal S32x128x256 .f32} (h0 : ∀ b l s, s0 (ix3 b l s) = (O b l s : EReal)) (h1 : ∀ b l s, s1 (ix3 b l s) = (P b l s : EReal)) :
    T.Holds O P 0 (k0_pay70, k0_pay71, k0_pay71) s0 s1 := by
  refine ⟨fun r l => ?_, fun r => ?_, fun r => ?_, fun b l s => ?_, fun b l s => ?_⟩
  · pointwise [k0_pay70]; simp [Query.dq]
  · pointwise [k0_pay71]; simp [before]
  · pointwise [k0_pay71]; simp [before]
  · rw [h0, if_neg (Nat.not_lt_zero _), add_zero]
  · rw [h1, if_neg (Nat.not_lt_zero _), add_zero]

include hT hs in
/-- The first loop, when nothing is skipped, at what it starts from. -/
theorem loopA_holds (hw : k0_chk1 (grid0.coords t) 0#32)
    (h0 : ∀ b l s, acc0.view.read (Elt Ideal) G12 (ix3 b l s) = (O b l s : EReal)) (h1 : ∀ b l s, acc1.view.read (Elt Ideal) G13 (ix3 b l s) = (P b l s : EReal)) :
    T.Holds O P ((grid0.coords t 1).val - 1) (loopA c t x0 x1 x2 x3 x4 x5 x6 0#32 hw G12 G13).1
      (acc0.view.read (Elt Ideal) (acc0.view.writes (Elt Ideal) G12 (loopA c t x0 x1 x2 x3 x4 x5 x6 0#32 hw G12 G13).2.1))
      (acc1.view.read (Elt Ideal) (acc1.view.writes (Elt Ideal) G13 (loopA c t x0 x1 x2 x3 x4 x5 x6 0#32 hw G12 G13).2.2)) := by
  have hg := given t hT hs
  have := loop_holds Variants.none c none (grid0.coords t) (sg0 t) (hw0 t) (sg1 t) (hw1 t) (sg2 t) (hw2 t) (sg3 t) (hw3 t) (sg4 t) (hw4 t) (sg5 t) (hw5 t) (sg6 t) (hw6 t) (sg7 t) (hw7 t) (sg8 t) (hw8 t) (sg9 t) (hw9 t) acc0 (Memref.isWhole_whole _) acc1 (Memref.isWhole_whole _)
    (BitVec.ofNat 32 (grid0.coords t 1).val) (vsuf t x5) (vpre t x6) (k0_pay64 (vq t x0)) (k0_pay65 (vq t x0)) (k0_pay66 (vd t x3)) (k0_pay67 (vd t x3))
    (k0_pay68 (BitVec.ofNat 32 (grid0.coords t 1).val) laneNo (vr0 t x4) (vr1 t x4)) hw ((hw1 t).unread x1) ((hw2 t).unread x2) ((hw4 t).unread x4) G12 G13 (k0_pay70, k0_pay71, k0_pay71)
    T hg (fun r => by subst hT; rfl)
    (fun c l => (congrFun ((hw1 t).read_unread x1) _).trans (by subst hT; exact hs.k c l)) (fun c l => (congrFun ((hw2 t).read_unread x2) _).trans (by subst hT; exact hs.v c l))
    (fun b r => (congrFun ((hw4 t).read_unread x4) _).trans (hs.run0 b r)) (fun b r => (congrFun ((hw4 t).read_unread x4) _).trans (hs.run1 b r))
    O P (start_holds h0 h1) _ le_rfl
  rw [trips_zero] at this
  unfold loopA
  rw [trips_zero]
  exact this

/-- The second loop has no trip then. -/
theorem loopB_none (hw : k0_chk1 (grid0.coords t) 0#32) (H12 H13 : BufTy.Contents (Elt Ideal) acc0.view.ty) :
    loopB c t x0 x1 x2 x3 x4 x5 x6 0#32 hw G12 G13 H12 H13 = ((loopA c t x0 x1 x2 x3 x4 x5 x6 0#32 hw G12 G13).1, [], []) := by
  unfold loopB
  rw [rest_zero]; rfl

include hT hs in
/-- A whole tile, when nothing is skipped. -/
theorem tile_holds (v80 : BitVec 32) (hv : v80 = 0#32) (hw : k0_chk1 (grid0.coords t) v80)
    (h0 : ∀ b l s, acc0.view.read (Elt Ideal) G12 (ix3 b l s) = (O b l s : EReal)) (h1 : ∀ b l s, acc1.view.read (Elt Ideal) G13 (ix3 b l s) = (P b l s : EReal)) :
    T.Holds O P ((grid0.coords t 1).val + 1) (tile c t x0 x1 x2 x3 x4 x5 x6 v80 hw G12 G13).1
      (acc0.view.read (Elt Ideal) (acc0.view.writes (Elt Ideal) G12 (tile c t x0 x1 x2 x3 x4 x5 x6 v80 hw G12 G13).2.1))
      (acc1.view.read (Elt Ideal) (acc1.view.writes (Elt Ideal) G13 (tile c t x0 x1 x2 x3 x4 x5 x6 v80 hw G12 G13).2.2)) := by
  subst hv
  unfold tile
  dsimp only
  rw [loopB_none]
  exact own_holds t hT hs (prev_holds t hT hs (loopA_holds c t hT hs hw h0 h1))

include hT hs in
theorem tileFrom_holds (v80 : BitVec 32) (hv : v80 = 0#32) (hw : k0_chk1 (grid0.coords t) v80) (Z0 Z1 : List (View.Piece (Elt Ideal) S32x128x256 .f32))
    (h0 : ∀ b l s, acc0.view.read (Elt Ideal) (acc0.view.writes (Elt Ideal) G12 Z0) (ix3 b l s) = (O b l s : EReal))
    (h1 : ∀ b l s, acc1.view.read (Elt Ideal) (acc1.view.writes (Elt Ideal) G13 Z1) (ix3 b l s) = (P b l s : EReal)) :
    T.Holds O P ((grid0.coords t 1).val + 1) (tileFrom c t x0 x1 x2 x3 x4 x5 x6 v80 hw G12 G13 Z0 Z1).1
      (acc0.view.read (Elt Ideal) (acc0.view.writes (Elt Ideal) G12 (tileFrom c t x0 x1 x2 x3 x4 x5 x6 v80 hw G12 G13 Z0 Z1).2.1))
      (acc1.view.read (Elt Ideal) (acc1.view.writes (Elt Ideal) G13 (tileFrom c t x0 x1 x2 x3 x4 x5 x6 v80 hw G12 G13 Z0 Z1).2.2)) := by
  subst hv
  unfold tileFrom
  dsimp only
  rw [loopB_none]
  refine own_holds t hT hs (prev_holds t hT hs ?_)
  have := loopA_holds c t hT hs hw h0 h1
  rwa [← View.writes_append, ← View.writes_append] at this

end

end Cert.KernelIdeal.Bwd
end
-- ==== Proof.Bwd.Alive.lean ====
module

public import proofs.«01_k».proof.Proof.Bwd.Whole

public import Idealize.ShloMosaic.Lib.WordSum

@[expose] public section

set_option maxRecDepth 16384

noncomputable section

namespace Cert.KernelIdeal.Bwd

open Idealize.ShloMosaic
open Cert.KernelIdeal.Gen Cert.Row

/-- Below a threshold of +∞ no block is dead: a lane of the skip mask whose running sum is a number counts nothing. -/
theorem lane_alive (x : ℕ) (a b : Vec Ideal S1x256x128 .f32) (j0 j1 : Fin 1) (j2 : Fin 128) (A : ℝ) (ha : a (ix3 0 0 j2) = (A : EReal)) :
    (k0_pay68 (BitVec.ofNat 32 x) laneNo a b (ix3 j0 j1 j2)).toNat = 0 := by
  pointwise [k0_pay68]
  have hn : Named.named (F := Ideal) κ "dead" (φ := .f32) 1124073472#32 = (⊤ : EReal) := IdealRules.named_const.ideal_named_scalar _ _ _ _ rfl
  have hlt : ¬ Named.named (F := Ideal) κ "dead" (φ := .f32) 1124073472#32 ≤
      Finset.fold min (Ideal.ofBits FTy.f32 2139095040#32) (fun x : Fin 256 => min (a (ix3 0 x j2)) (b (ix3 0 x j2))) Finset.univ := fun h => by
    rw [hn] at h
    have h' : Finset.fold min (Ideal.ofBits FTy.f32 2139095040#32) (fun x : Fin 256 => min (a (ix3 0 x j2)) (b (ix3 0 x j2))) Finset.univ ≤ (A : EReal) :=
      (Finset.fold_min_le _).2 (Or.inr ⟨0, Finset.mem_univ _, (min_le_left _ _).trans ha.le⟩)
    exact absurd (h.trans h') (not_le.2 (EReal.coe_lt_top A))
  rw [decide_eq_false hlt]
  have hb : ∀ d : BitVec 1, (BitVec.setWidth 32 (IntOp.andi (BitVec.ofBool false) d)).toNat = 0 := by decide
  exact hb _

/-- Nothing is skipped where the running sums of the blocks before the tile are numbers. -/
theorem firstOf_zero (x : ℕ) (hx : x < 32) (a b : Vec Ideal S1x256x128 .f32) (A : Fin 128 → ℝ) (ha : ∀ j : Fin 128, j.val < 32 → a (ix3 0 0 j) = (A j : EReal)) :
    firstOf (BitVec.ofNat 32 x) a b = 0#32 := by
  have hz : ∀ j : S1x1x128.Idx, (k0_pay68 (BitVec.ofNat 32 x) lanes a b j).toNat = 0 := fun j => by
    rw [eq_ix3 j]
    by_cases h : (j 2).val < x
    · exact lane_alive x a b _ _ _ _ (ha (j 2) (by omega))
    · exact lane_zero x a b _ _ _ hx h
  have hs : ∀ P : S1x1x128.Idx → Prop, [DecidablePred P] → ∑ j ∈ Finset.univ.filter P, (k0_pay68 (BitVec.ofNat 32 x) lanes a b j).toNat = 0 := fun P _ =>
    Finset.sum_eq_zero fun j _ => hz j
  apply BitVec.eq_of_toNat_eq
  unfold firstOf k0_pay69
  simp only [extractAt, shapeCast]
  refine (WordSum.toNat_multiReductionI_add _ _ rfl _ (by rw [hs]; decide)).trans ?_
  exact hs _

end Cert.KernelIdeal.Bwd
end
-- ==== Proof.Bwd.Store.lean ====
module

public import proofs.«01_k».proof.Proof.Bwd.Whole

@[expose] public section

set_option maxRecDepth 16384

noncomputable section

namespace Cert.KernelIdeal.Bwd

open Idealize.ShloMosaic
open Cert.KernelIdeal.Gen Cert.Row

theorem trips_t3 : k0_t3_loop.trips = 32 := by decide +kernel
theorem t3_lt (k : Fin k0_t3_loop.trips) : k.val < 32 := Nat.lt_of_lt_of_eq k.isLt trips_t3
theorem off9_at (k : Fin k0_t3_loop.trips) : k0_off9 k = ![k.val, 0, 0] := by
  have h := word_small k.val (t3_lt k)
  simp only [k0_off9, iv_zero, Scalar.indexCast]
  exact congrArg (fun n => ![n, 0, 0]) h
theorem off10_at (k : Fin k0_t3_loop.trips) : k0_off10 k = ![k.val * 256, 0] := by
  have h := word_block k.val (t3_lt k)
  simp only [k0_off10, iv_zero, Scalar.muli, Scalar.indexCast, IntOp.muli]
  exact congrArg (fun n => ![n, 0]) h

theorem turn_at (o : Vec Ideal S1x128x256 .f32) (s : Fin 256) (l : Fin 128) : k0_pay1 (F := Ideal) o (ix2 s l) = o (ix3 0 l s) := by
  pointwise [k0_pay1]
theorem turn_at' (o : Vec Ideal S1x128x256 .f32) (s : Fin 256) (l : Fin 128) : k0_pay2 (F := Ideal) o (ix2 s l) = o (ix3 0 l s) := by
  pointwise [k0_pay2]

/-- One more block stored, the blocks before it already there. -/
theorem store_block (v : View sig .tc .vmem S8192x128 .bf16) (f : v.ty.Contents (Elt Ideal)) (L : List (View.Piece (Elt Ideal) S8192x128 .bf16))
    (R : Fin 8192 → Fin 128 → EReal) (k : ℕ) (hk : k < 32) {off : Fin 2 → ℕ} (ho : off = ![k * 256, 0]) (inb : ∀ a, off a + S256x128.size a ≤ S8192x128.size a)
    (w : Vec Ideal S256x128 .bf16) (hw : ∀ s l, w (ix2 s l) = R (pos ⟨k, hk⟩ s) l)
    (ih : ∀ b : Fin 32, b.val < k → ∀ s l, v.read (Elt Ideal) (v.writes (Elt Ideal) f L) (ix2 (pos b s) l) = R (pos b s) l)
    (b : Fin 32) (hb : b.val < k + 1) (s : Fin 256) (l : Fin 128) :
    v.read (Elt Ideal) (v.writes (Elt Ideal) f (⟨Rect.unit (s := S8192x128) off S256x128.size inb, w⟩ :: L)) (ix2 (pos b s) l) = R (pos b s) l := by
  by_cases h : b.val = k
  · subst h
    refine (View.read_writes_cons_unit_of_mem v f inb _ L (ix2 (pos b s) l) (ix2 s l) ho (fun a => ?_)).trans (hw s l)
    fin_cases a <;> simp [pos]
  · refine (View.read_writes_cons_unit_of_not_mem v f inb _ L (ix2 (pos b s) l) ho 0 (Or.inl ?_)).trans (ih b (by omega) s l)
    show b.val * 256 + s.val < k * 256
    have := s.isLt; omega

section
variable (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (k0_h2 : k0_cond2 i = 1#1) (X_arg12 : BufTy.Contents (Elt Ideal) arg12.view.ty) (X_arg13 : BufTy.Contents (Elt Ideal) arg13.view.ty) (k : Fin k0_t3_loop.trips)

/- The loop that stores the two accumulators: one trip, and the pieces of the trips before one. -/
local notation "trip" => trip_k0_t3 (F := Ideal) 𝒱 c bd i arg2 harg2 arg3 harg3 arg4 harg4 arg5 harg5 arg6 harg6 arg7 harg7 arg8 harg8 arg9 harg9 arg10 harg10 arg11 harg11 arg12 harg12 arg13 harg13 k0_h2 X_arg12 X_arg13
local notation "stores" => pb_k0_t3 (F := Ideal) 𝒱 c bd i arg2 harg2 arg3 harg3 arg4 harg4 arg5 harg5 arg6 harg6 arg7 harg7 arg8 harg8 arg9 harg9 arg10 harg10 arg11 harg11 arg12 harg12 arg13 harg13 k0_h2 X_arg12 X_arg13

theorem trip_rowsK : (trip k).1 = [⟨Rect.unit (s := S8192x128) (k0_off10 k) S256x128.size (k0_off10_inb i k k0_h2),
    k0_pay1 (arg12.view.readAt (Elt Ideal) (Rect.unit (s := S32x128x256) (k0_off9 k) S1x128x256.size (k0_off9_inb i k k0_h2)).toLoadRect X_arg12)⟩] := by
  unfold trip_k0_t3; sl_kernel_rfl
theorem trip_rowsV : (trip k).2.1 = [⟨Rect.unit (s := S8192x128) (k0_off10 k) S256x128.size (k0_off10_inb i k k0_h2),
    k0_pay2 (arg13.view.readAt (Elt Ideal) (Rect.unit (s := S32x128x256) (k0_off9 k) S1x128x256.size (k0_off9_inb i k k0_h2)).toLoadRect X_arg13)⟩] := by
  unfold trip_k0_t3; sl_kernel_rfl

/-- One more trip, its two pieces in front. -/
theorem rows_succ : stores (k.val + 1)
    = (⟨Rect.unit (s := S8192x128) (k0_off10 k) S256x128.size (k0_off10_inb i k k0_h2),
        k0_pay1 (arg12.view.readAt (Elt Ideal) (Rect.unit (s := S32x128x256) (k0_off9 k) S1x128x256.size (k0_off9_inb i k k0_h2)).toLoadRect X_arg12)⟩
        :: (stores k.val).1,
      ⟨Rect.unit (s := S8192x128) (k0_off10 k) S256x128.size (k0_off10_inb i k k0_h2),
        k0_pay2 (arg13.view.readAt (Elt Ideal) (Rect.unit (s := S32x128x256) (k0_off9 k) S1x128x256.size (k0_off9_inb i k k0_h2)).toLoadRect X_arg13)⟩
        :: (stores k.val).2) := by
  exact (pb_k0_t3_succ ..).trans
    (congrArg₂ Prod.mk (congrArg (fun L => L ++ (stores k.val).1) (trip_rowsK ..))
      (congrArg (fun L => L ++ (stores k.val).2) (trip_rowsV ..)))

/-- After `n` trips the first `n` blocks are stored, turned. -/
theorem stored (n : ℕ) (hn : n ≤ k0_t3_loop.trips) (f10 : arg10.view.ty.Contents (Elt Ideal)) (f11 : arg11.view.ty.Contents (Elt Ideal)) :
    (∀ b : Fin 32, b.val < n → ∀ s l, arg10.view.read (Elt Ideal) (arg10.view.writes (Elt Ideal) f10 (stores n).1) (ix2 (pos b s) l)
      = arg12.view.read (Elt Ideal) X_arg12 (ix3 b l s)) ∧
    (∀ b : Fin 32, b.val < n → ∀ s l, arg11.view.read (Elt Ideal) (arg11.view.writes (Elt Ideal) f11 (stores n).2) (ix2 (pos b s) l)
      = arg13.view.read (Elt Ideal) X_arg13 (ix3 b l s)) := by
  have split : ∀ (b : Fin 32) (s : Fin 256), (⟨(pos b s).val / 256, by simp only [pos]; omega⟩ : Fin 32) = b ∧ (⟨(pos b s).val % 256, by omega⟩ : Fin 256) = s := fun b s =>
    ⟨Fin.ext (by simp only [pos]; omega), Fin.ext (by simp only [pos]; omega)⟩
  induction n with
  | zero => exact ⟨fun b hb => absurd hb (Nat.not_lt_zero _), fun b hb => absurd hb (Nat.not_lt_zero _)⟩
  | succ n ih =>
    have hk : n < k0_t3_loop.trips := hn
    have h32 := t3_lt ⟨n, hk⟩
    obtain ⟨ihK, ihV⟩ := ih (Nat.le_of_lt hk) split
    rw [rows_succ (k := ⟨n, hk⟩) ..]
    change n < 32 at h32
    change (∀ b : Fin 32, b.val < n + 1 → _) ∧ (∀ b : Fin 32, b.val < n + 1 → _)
    dsimp only
    generalize (stores n) = S at ihK ihV ⊢
    constructor
    · intro b hb s l
      refine (store_block arg10.view f10 S.1 (fun c l => arg12.view.read (Elt Ideal) X_arg12 (ix3 (⟨c.val / 256, by omega⟩ : Fin 32) l (⟨c.val % 256, by omega⟩ : Fin 256))) n h32 (off10_at ⟨n, hk⟩) (k0_off10_inb i ⟨n, hk⟩ k0_h2)
        _ (fun s l => ?_) (fun b hb s l => ?_) b hb s l).trans ?_
      · rw [(split _ s).1, (split _ s).2]; exact (turn_at _ s l).trans (block_at arg12.view X_arg12 ⟨n, h32⟩ (off9_at ⟨n, hk⟩) _ l s)
      · rw [(split b s).1, (split b s).2]; exact ihK b hb s l
      · rw [(split b s).1, (split b s).2]
    · intro b hb s l
      refine (store_block arg11.view f11 S.2 (fun c l => arg13.view.read (Elt Ideal) X_arg13 (ix3 (⟨c.val / 256, by omega⟩ : Fin 32) l (⟨c.val % 256, by omega⟩ : Fin 256))) n h32 (off10_at ⟨n, hk⟩) (k0_off10_inb i ⟨n, hk⟩ k0_h2)
        _ (fun s l => ?_) (fun b hb s l => ?_) b hb s l).trans ?_
      · rw [(split _ s).1, (split _ s).2]; exact (turn_at' _ s l).trans (block_at arg13.view X_arg13 ⟨n, h32⟩ (off9_at ⟨n, hk⟩) _ l s)
      · rw [(split b s).1, (split b s).2]; exact ihV b hb s l
      · rw [(split b s).1, (split b s).2]
end

end Cert.KernelIdeal.Bwd
end
-- ==== Proof.Bwd.Blocks.lean ====
module

public import proofs.«01_k».proof.Proof.Bwd.Alive
public import proofs.«01_k».proof.Proof.Bwd.Store
public import Idealize.ShloMosaic.Lib.Pipeline.ValueKit

@[expose] public section

set_option maxRecDepth 16384

noncomputable section

namespace Cert.KernelIdeal.Bwd

open Idealize.ShloMosaic Idealize.ShloMosaic.TcCoe
open Cert.KernelIdeal.Gen Cert.Row

/-- A point's head pair and query tile. -/
def pairAt (t : Fin cfg0.N) : Fin 4 := grid0.coords t 0
def tileNo (t : Fin cfg0.N) : Fin 32 := grid0.coords t 1
/-- Column `l` of head pair `p`; column `d` of head `h`. -/
def col (p : Fin 4) (l : Fin 128) : Fin 512 := ⟨p.val * 128 + l.val, by omega⟩
def headCol (h : Fin 8) (d : Fin 64) : Fin 512 := ⟨h.val * 64 + d.val, by omega⟩

theorem places : ∀ t : Fin cfg0.N, win0_0.index t = ![(grid0.coords t 1).val, (grid0.coords t 0).val] ∧ win0_1.index t = ![0, (grid0.coords t 0).val]
    ∧ win0_2.index t = ![0, (grid0.coords t 0).val] ∧ win0_3.index t = ![(grid0.coords t 1).val, (grid0.coords t 0).val]
    ∧ win0_4.index t = ![(grid0.coords t 0).val, (grid0.coords t 1).val, 0] ∧ win0_5.index t = ![0, 0] ∧ win0_6.index t = ![0, 0]
    ∧ win0_7.index t = ![(grid0.coords t 1).val, (grid0.coords t 0).val] ∧ win0_8.index t = ![0, (grid0.coords t 0).val] ∧ win0_9.index t = ![0, (grid0.coords t 0).val] :=
  (by decide +kernel : ∀ t : Fin grid0.N, _)

section
variable (m : (ℓ : Loc nD τ sig) → Buf (Elt Ideal) ℓ) (c : Dev nD) (t : Fin cfg0.N)

theorem blk0_at (r : Fin 256) (l : Fin 128) : iblk m c 0 t (ix2 r l) = V m c main_v2 (ix2 (pos (tileNo t) r) (col (pairAt t) l)) := by
  blk_simp [iblk]
  refine congrArg (V m c main_v2) ?_
  blk_ext [places t, pos, col, tileNo, pairAt]
theorem blk1_at (k : Fin 8192) (l : Fin 128) : iblk m c 1 t (ix2 k l) = V m c main_v3 (ix2 k (col (pairAt t) l)) := by
  blk_simp [iblk]
  refine congrArg (V m c main_v3) ?_
  blk_ext [places t, pos, col, tileNo, pairAt]
theorem blk2_at (k : Fin 8192) (l : Fin 128) : iblk m c 2 t (ix2 k l) = V m c main_v4 (ix2 k (col (pairAt t) l)) := by
  blk_simp [iblk]
  refine congrArg (V m c main_v4) ?_
  blk_ext [places t, pos, col, tileNo, pairAt]
theorem blk3_at (r : Fin 256) (l : Fin 128) : iblk m c 3 t (ix2 r l) = V m c main_v41 (ix2 (pos (tileNo t) r) (col (pairAt t) l)) := by
  blk_simp [iblk]
  refine congrArg (V m c main_v41) ?_
  blk_ext [places t, pos, col, tileNo, pairAt]
theorem blk4_at (e : Fin 2) (r : Fin 256) (l : Fin 128) : iblk m c 4 t (ix3 e r l) = V m c main_v40 (ix3 (⟨(pairAt t).val * 2 + e.val, by have := (pairAt t).isLt; omega⟩ : Fin 8) (pos (tileNo t) r) l) := by
  blk_simp [iblk]
  refine congrArg (V m c main_v40) ?_
  blk_ext [places t, pos, col, tileNo, pairAt]
theorem blk5_at (r : Fin 256) (l : Fin 256) : iblk m c 5 t (ix2 r l) = V m c main_v8 (ix2 r l) := by
  blk_simp [iblk]
  refine congrArg (V m c main_v8) ?_
  blk_ext [places t, pos, col, tileNo, pairAt]
theorem blk6_at (r : Fin 256) (l : Fin 256) : iblk m c 6 t (ix2 r l) = V m c main_v10 (ix2 r l) := by
  blk_simp [iblk]
  refine congrArg (V m c main_v10) ?_
  blk_ext [places t, pos, col, tileNo, pairAt]
end

section
variable {F : FTy → Type} [FloatOps F] [Named F]
variable (m : (ℓ : Loc nD τ sig) → Buf (Elt F) ℓ) (c : Dev nD) (t : Fin cfg0.N)

/-- The blocks of the accumulators stored, at the last tile of a head pair. -/
abbrev rowsAt (hl : isLast (grid0.coords t)) (X12 X13 : BufTy.Contents (Elt F) acc0.view.ty) :=
  pb_k0_t3 (F := F) Variants.none c none (grid0.coords t) (sg0 t) (hw0 t) (sg1 t) (hw1 t) (sg2 t) (hw2 t) (sg3 t) (hw3 t) (sg4 t) (hw4 t) (sg5 t) (hw5 t) (sg6 t) (hw6 t) (sg7 t) (hw7 t) (sg8 t) (hw8 t) (sg9 t) (hw9 t) acc0 (Memref.isWhole_whole _) acc1 (Memref.isWhole_whole _)
    hl X12 X13 k0_t3_loop.trips
theorem last_rowsK (hf : ¬ isFirst (grid0.coords t)) (hl : isLast (grid0.coords t)) (s0 s1 : Vec F S32x128x256 .f32) :
    (atLast m c t hf hl s0 s1).2.1 = (rowsAt c t hl
      (acc0.view.writes (Elt F) ((Memref.isWhole_whole _).unread s0) (tileAt m c t ((Memref.isWhole_whole _).unread s0) ((Memref.isWhole_whole _).unread s1)).2.1)
      (acc1.view.writes (Elt F) ((Memref.isWhole_whole _).unread s1) (tileAt m c t ((Memref.isWhole_whole _).unread s0) ((Memref.isWhole_whole _).unread s1)).2.2)).1 := by
  unfold atLast runLast tileAt tile; sl_kernel_rfl
theorem last_rowsV (hf : ¬ isFirst (grid0.coords t)) (hl : isLast (grid0.coords t)) (s0 s1 : Vec F S32x128x256 .f32) :
    (atLast m c t hf hl s0 s1).2.2.1 = (rowsAt c t hl
      (acc0.view.writes (Elt F) ((Memref.isWhole_whole _).unread s0) (tileAt m c t ((Memref.isWhole_whole _).unread s0) ((Memref.isWhole_whole _).unread s1)).2.1)
      (acc1.view.writes (Elt F) ((Memref.isWhole_whole _).unread s1) (tileAt m c t ((Memref.isWhole_whole _).unread s0) ((Memref.isWhole_whole _).unread s1)).2.2)).2 := by
  unfold atLast runLast tileAt tile; sl_kernel_rfl
end

/-! The arrays of the call, as numbers: the scaled queries, the output gradients, the keys and the values. -/

/-- The logits of head `h` at query `t`. -/
def zr (Qr Kr : Fin 8192 → Fin 512 → ℝ) (h : Fin 8) (t : Fin 8192) (k : Fin 8192) : ℝ := ∑ d : Fin 64, Qr t (headCol h d) * Kr k (headCol h d)

structure Arrays (m : (ℓ : Loc nD τ sig) → Buf (Elt Ideal) ℓ) (c : Dev nD) (Qr Dr Kr Vr : Fin 8192 → Fin 512 → ℝ) : Prop where
  q : ∀ i j, V m c main_v2 (ix2 i j) = (Qr i j : EReal)
  k : ∀ i j, V m c main_v3 (ix2 i j) = (Kr i j : EReal)
  v : ∀ i j, V m c main_v4 (ix2 i j) = (Vr i j : EReal)
  d : ∀ i j, V m c main_v41 (ix2 i j) = (Dr i j : EReal)
  run : ∀ (h : Fin 8) (t : Fin 8192) (b : Fin 32), V m c main_v40 (ix3 h t (⟨b.val, by omega⟩ : Fin 128)) = (after (zr Qr Kr h t) t.val b : EReal)
  suffix : IsSuffix (V m c main_v8)
  prefix' : IsPrefix (V m c main_v10)

section
variable (Qr Dr Kr Vr : Fin 8192 → Fin 512 → ℝ)

/-- The work of query tile `b` of head pair `p`. -/
def work (p : Fin 4) (b : Fin 32) : Query :=
  queryOf (fun r l => Qr (pos b r) (col p l)) (fun r l => Dr (pos b r) (col p l)) (fun k l => Kr k (col p l)) (fun k l => Vr k (col p l)) b.val

/-- The two heads of a pair. -/
def head0 (p : Fin 4) : Fin 8 := ⟨p.val * 2 + (0 : Fin 2).val, by simp; omega⟩
def head1 (p : Fin 4) : Fin 8 := ⟨p.val * 2 + (1 : Fin 2).val, by simp; omega⟩

theorem half0 (f g : Fin 128 → ℝ) : ∑ l : Fin 128, (if l.val < 64 then f l else 0) * g l = ∑ d : Fin 64, f ⟨d.val, by omega⟩ * g ⟨d.val, by omega⟩ := by
  rw [Fin.sum_univ_tiles 2 64 rfl, Fin.sum_univ_two]
  rw [Finset.sum_eq_zero (s := Finset.univ) (f := fun t : Fin 64 => (if ((1 : Fin 2).val * 64 + t.val) < 64 then f ⟨(1 : Fin 2).val * 64 + t.val, _⟩ else 0) * g ⟨(1 : Fin 2).val * 64 + t.val, _⟩) (fun t _ => by rw [if_neg (by simp), zero_mul]), add_zero]
  refine Finset.sum_congr rfl fun d _ => ?_
  have : (0 : Fin 2).val * 64 + d.val = d.val := by simp
  simp only [this, d.isLt, if_true]
theorem half1 (f g : Fin 128 → ℝ) : ∑ l : Fin 128, (if l.val < 64 then 0 else f l) * g l = ∑ d : Fin 64, f ⟨64 + d.val, by omega⟩ * g ⟨64 + d.val, by omega⟩ := by
  rw [Fin.sum_univ_tiles 2 64 rfl, Fin.sum_univ_two]
  rw [Finset.sum_eq_zero (s := Finset.univ) (f := fun t : Fin 64 => (if ((0 : Fin 2).val * 64 + t.val) < 64 then 0 else f ⟨(0 : Fin 2).val * 64 + t.val, _⟩) * g ⟨(0 : Fin 2).val * 64 + t.val, _⟩) (fun t _ => by rw [if_pos (by simp), zero_mul]), zero_add]
  refine Finset.sum_congr rfl fun d _ => ?_
  have : (1 : Fin 2).val * 64 + d.val = 64 + d.val := by simp
  have h : ¬ 64 + d.val < 64 := by omega
  simp only [this, h, if_false]

theorem col_head0 (p : Fin 4) (d : Fin 64) : col p ⟨d.val, by omega⟩ = headCol (head0 p) d := Fin.ext (by simp [col, headCol, head0]; omega)
theorem col_head1 (p : Fin 4) (d : Fin 64) : col p ⟨64 + d.val, by omega⟩ = headCol (head1 p) d := Fin.ext (by simp [col, headCol, head1]; omega)

theorem work_z0 (p : Fin 4) (b : Fin 32) (r : Fin 256) : (work Qr Dr Kr Vr p b).z0 r = zr Qr Kr (head0 p) (pos b r) := by
  funext k
  refine (half0 (fun l => Qr (pos b r) (col p l)) (fun l => Kr k (col p l))).trans ?_
  simp only [zr, col_head0]
theorem work_z1 (p : Fin 4) (b : Fin 32) (r : Fin 256) : (work Qr Dr Kr Vr p b).z1 r = zr Qr Kr (head1 p) (pos b r) := by
  funext k
  refine (half1 (fun l => Qr (pos b r) (col p l)) (fun l => Kr k (col p l))).trans ?_
  simp only [zr, col_head1]
theorem work_e0 (p : Fin 4) (b : Fin 32) (r : Fin 256) : (work Qr Dr Kr Vr p b).e0 r = zr Dr Vr (head0 p) (pos b r) := by
  funext k
  refine (half0 (fun l => Dr (pos b r) (col p l)) (fun l => Vr k (col p l))).trans ?_
  simp only [zr, col_head0]
theorem work_e1 (p : Fin 4) (b : Fin 32) (r : Fin 256) : (work Qr Dr Kr Vr p b).e1 r = zr Dr Vr (head1 p) (pos b r) := by
  funext k
  refine (half1 (fun l => Dr (pos b r) (col p l)) (fun l => Vr k (col p l))).trans ?_
  simp only [zr, col_head1]
end

section
variable {m : (ℓ : Loc nD τ sig) → Buf (Elt Ideal) ℓ} {c : Dev nD} {Qr Dr Kr Vr : Fin 8192 → Fin 512 → ℝ} (hA : Arrays m c Qr Dr Kr Vr) (t : Fin cfg0.N)

include hA in
/-- Every point finds its tile's work. -/
theorem staged_at : Staged (work Qr Dr Kr Vr (pairAt t) (tileNo t)) (fun r l => Qr (pos (tileNo t) r) (col (pairAt t) l)) (fun r l => Dr (pos (tileNo t) r) (col (pairAt t) l))
    (fun k l => Kr k (col (pairAt t) l)) (fun k l => Vr k (col (pairAt t) l)) (iblk m c 0 t) (iblk m c 1 t) (iblk m c 2 t) (iblk m c 3 t) (iblk m c 4 t) (iblk m c 5 t) (iblk m c 6 t) where
  q r l := (blk0_at m c t r l).trans (hA.q _ _)
  k k l := (blk1_at m c t k l).trans (hA.k _ _)
  v k l := (blk2_at m c t k l).trans (hA.v _ _)
  d r l := (blk3_at m c t r l).trans (hA.d _ _)
  run0 b r := by
    rw [work_z0]
    exact (blk4_at m c t 0 r _).trans (hA.run (head0 (pairAt t)) (pos (tileNo t) r) b)
  run1 b r := by
    rw [work_z1]
    exact (blk4_at m c t 1 r _).trans (hA.run (head1 (pairAt t)) (pos (tileNo t) r) b)
  suffix r k := (blk5_at m c t r k).trans (hA.suffix r k)
  prefix' r k := (blk6_at m c t r k).trans (hA.prefix' r k)

include hA in
/-- Nothing is skipped at any point. -/
theorem skipped_zero : skipped m c t = 0#32 := by
  have hs := staged_at hA t
  refine firstOf_zero (grid0.coords t 1).val (grid0.coords t 1).isLt _ _ (fun j => after ((work Qr Dr Kr Vr (pairAt t) (tileNo t)).z0 0) ((work Qr Dr Kr Vr (pairAt t) (tileNo t)).n 0) ⟨j.val % 32, by omega⟩) fun j hj => ?_
  have h := (head_at (sg4 t).view ((hw4 t).unread (iblk m c 4 t)) 0 rfl inb_S2x256x128_S1x256x128_0_0_0 0 j).trans (congrFun ((hw4 t).read_unread (iblk m c 4 t)) _)
  refine h.trans ?_
  have := hs.run0 ⟨j.val % 32, by omega⟩ 0
  simp only [Nat.mod_eq_of_lt hj] at this ⊢
  exact this
end

end Cert.KernelIdeal.Bwd
end
-- ==== Proof.Bwd.Acc.lean ====
module

public import proofs.«01_k».proof.Proof.Bwd.Blocks
public import Idealize.ShloMosaic.Lib.VecWindow

/-! The accumulators of the key and value gradients over the query tiles of a head pair, and what every tile leaves in its blocks of the results. -/

@[expose] public section

set_option maxRecDepth 16384
noncomputable section

namespace Cert.KernelIdeal.Bwd

open Idealize.ShloMosaic Idealize.ShloMosaic.Tactic
open Cert.KernelIdeal.Gen Cert.Row

theorem eighth_f32 : Ideal.ofBits .f32 0x3E000000#32 = ((1 / 8 : ℝ) : EReal) := by
  simp [Ideal.ofBits, Ideal.ieee]; norm_num [← EReal.coe_mul]

/-! A key after its query gets nothing. -/

theorem dz_after (z e : Fin 8192 → ℝ) (n : ℕ) (s : Fin 8192) (h : n ≤ s.val) : dz z e n s = 0 := if_neg (Nat.not_lt.mpr h)
theorem wt_after (z : Fin 8192 → ℝ) (n : ℕ) (s : Fin 8192) (h : n ≤ s.val) : wt z n s = 0 := if_neg (Nat.not_lt.mpr h)

section
variable (Qr Dr Kr Vr : Fin 8192 → Fin 512 → ℝ) (p : Fin 4) (i : Fin 32)

theorem late (b : Fin 32) (s r : Fin 256) (h : i.val < b.val) : (work Qr Dr Kr Vr p i).n r ≤ (pos b s).val := by
  show i.val * 256 + r.val ≤ b.val * 256 + s.val
  have := r.isLt; omega

theorem dk_late (b : Fin 32) (l : Fin 128) (s : Fin 256) (h : i.val < b.val) : (work Qr Dr Kr Vr p i).dk b l s = 0 :=
  Finset.sum_eq_zero fun r _ => by
    rw [Query.g0, Query.g1, dz_after _ _ _ _ (late Qr Dr Kr Vr p i b s r h), dz_after _ _ _ _ (late Qr Dr Kr Vr p i b s r h), mul_zero, mul_zero, add_zero]
theorem dv_late (b : Fin 32) (l : Fin 128) (s : Fin 256) (h : i.val < b.val) : (work Qr Dr Kr Vr p i).dv b l s = 0 :=
  Finset.sum_eq_zero fun r _ => by
    rw [wt_after _ _ _ (late Qr Dr Kr Vr p i b s r h), wt_after _ _ _ (late Qr Dr Kr Vr p i b s r h), mul_zero, mul_zero, add_zero]

/-- The query gradient over all the keys. -/
def dqAll (r : Fin 256) (l : Fin 128) : ℝ :=
  ∑ k : Fin 8192, (if l.val < 64 then (work Qr Dr Kr Vr p i).g0 r k else (work Qr Dr Kr Vr p i).g1 r k) * Kr k (col p l)
theorem dq_all (r : Fin 256) (l : Fin 128) : (work Qr Dr Kr Vr p i).dq (i.val + 1) r l = dqAll Qr Dr Kr Vr p i r l := by
  refine Finset.sum_congr rfl fun k _ => ?_
  split
  · rfl
  · rename_i h
    have hn : (work Qr Dr Kr Vr p i).n r ≤ k.val := by
      show i.val * 256 + r.val ≤ k.val
      have := r.isLt; omega
    rw [Query.g0, Query.g1, dz_after _ _ _ _ hn, dz_after _ _ _ _ hn, ite_self, zero_mul]

/-- The first `n` query tiles' part of the gradients of the keys and of the values. -/
def sumK (n : ℕ) (b : Fin 32) (l : Fin 128) (s : Fin 256) : ℝ := ∑ x : Fin 32, if x.val < n then (work Qr Dr Kr Vr p x).dk b l s else 0
def sumV (n : ℕ) (b : Fin 32) (l : Fin 128) (s : Fin 256) : ℝ := ∑ x : Fin 32, if x.val < n then (work Qr Dr Kr Vr p x).dv b l s else 0

theorem first_next (f : Fin 32 → ℝ) : (∑ x : Fin 32, if x.val < i.val then f x else 0) + f i = ∑ x : Fin 32, if x.val < i.val + 1 then f x else 0 := by
  rw [← Finset.sum_ite_eq' Finset.univ i f |>.trans (if_pos (Finset.mem_univ i)), ← Finset.sum_add_distrib]
  refine Finset.sum_congr rfl fun x _ => ?_
  by_cases h : x = i
  · subst h; simp
  · have : x.val ≠ i.val := fun hv => h (Fin.ext hv)
    by_cases hx : x.val < i.val
    · rw [if_pos hx, if_neg h, if_pos (by omega), add_zero]
    · rw [if_neg hx, if_neg h, if_neg (by omega), add_zero]
theorem sumK_next (b : Fin 32) (l : Fin 128) (s : Fin 256) :
    (sumK Qr Dr Kr Vr p i.val b l s + if b.val < i.val + 1 then (work Qr Dr Kr Vr p i).dk b l s else 0) = sumK Qr Dr Kr Vr p (i.val + 1) b l s := by
  refine Eq.trans ?_ (first_next i fun x => (work Qr Dr Kr Vr p x).dk b l s)
  split
  · rfl
  · rw [dk_late Qr Dr Kr Vr p i b l s (by omega)]; rfl
theorem sumV_next (b : Fin 32) (l : Fin 128) (s : Fin 256) :
    (sumV Qr Dr Kr Vr p i.val b l s + if b.val < i.val + 1 then (work Qr Dr Kr Vr p i).dv b l s else 0) = sumV Qr Dr Kr Vr p (i.val + 1) b l s := by
  refine Eq.trans ?_ (first_next i fun x => (work Qr Dr Kr Vr p x).dv b l s)
  split
  · rfl
  · rw [dv_late Qr Dr Kr Vr p i b l s (by omega)]; rfl
end

/-! What a point leaves. -/

section
variable {m : (ℓ : Loc nD τ sig) → Buf (Elt Ideal) ℓ} {c : Dev nD} {Qr Dr Kr Vr : Fin 8192 → Fin 512 → ℝ} (hA : Arrays m c Qr Dr Kr Vr) (t : Fin cfg0.N)

/-- The results of a tile: its rows of the query gradient, the accumulators, and at the last tile the gradients of the keys and of the values. -/
structure Done (Qr Dr Kr Vr : Fin 8192 → Fin 512 → ℝ) (p : Fin 4) (i : Fin 32) (L : Left Ideal) : Prop where
  dq : ∀ r l, L.dq (ix2 r l) = ((dqAll Qr Dr Kr Vr p i r l * (1 / 8) : ℝ) : EReal)
  s0 : ∀ b l s, L.s0 (ix3 b l s) = (sumK Qr Dr Kr Vr p (i.val + 1) b l s : EReal)
  s1 : ∀ b l s, L.s1 (ix3 b l s) = (sumV Qr Dr Kr Vr p (i.val + 1) b l s : EReal)
  dk : i.val = 31 → ∀ b l s, L.dk (ix2 (pos b s) l) = (sumK Qr Dr Kr Vr p 32 b l s : EReal)
  dv : i.val = 31 → ∀ b l s, L.dv (ix2 (pos b s) l) = (sumV Qr Dr Kr Vr p 32 b l s : EReal)

theorem scaled_at (a : FVec Ideal S256x128 .f32) (A : Fin 256 → Fin 128 → ℝ) (h : ∀ r l, a (ix2 r l) = (A r l : EReal)) (r : Fin 256) (l : Fin 128) :
    scaled a (ix2 r l) = ((A r l * (1 / 8) : ℝ) : EReal) := by
  pointwise [scaled, h]
  simp only [eighth_f32, ← EReal.coe_mul]

theorem held {p : Fin 4} {i : Fin 32} {a : Carry Ideal} {s0 s1 : Vec Ideal S32x128x256 .f32}
    (h : (work Qr Dr Kr Vr p i).Holds (sumK Qr Dr Kr Vr p i.val) (sumV Qr Dr Kr Vr p i.val) (i.val + 1) a s0 s1) :
    (∀ r l, scaled a.1 (ix2 r l) = ((dqAll Qr Dr Kr Vr p i r l * (1 / 8) : ℝ) : EReal)) ∧
    (∀ b l s, s0 (ix3 b l s) = (sumK Qr Dr Kr Vr p (i.val + 1) b l s : EReal)) ∧ (∀ b l s, s1 (ix3 b l s) = (sumV Qr Dr Kr Vr p (i.val + 1) b l s : EReal)) :=
  ⟨scaled_at _ _ fun r l => (h.dq r l).trans (congrArg _ (dq_all Qr Dr Kr Vr p i r l)),
    fun b l s => (h.dk b l s).trans (congrArg _ (sumK_next Qr Dr Kr Vr p i b l s)), fun b l s => (h.dv b l s).trans (congrArg _ (sumV_next Qr Dr Kr Vr p i b l s))⟩

/-- A tile's rows, written whole. -/
theorem over_whole (a : Memref sig .tc .vmem S256x128 .bf16) (w : Vec Ideal S256x128 .bf16) :
    over (F := Ideal) a [⟨Rect.unit (s := S256x128) ![0, 0] S256x128.size inb_S256x128_S256x128_0_0, w⟩] = w := by
  rw [over, View.read_writes_full]

include hA in
theorem first_holds {O P : Fin 32 → Fin 128 → Fin 256 → ℝ}
    (h0 : ∀ b l s, acc0.view.read (Elt Ideal) (acc0.view.writes (Elt Ideal) acc0.view.junk clear0) (ix3 b l s) = (O b l s : EReal))
    (h1 : ∀ b l s, acc1.view.read (Elt Ideal) (acc1.view.writes (Elt Ideal) acc1.view.junk clear1) (ix3 b l s) = (P b l s : EReal)) :
    (work Qr Dr Kr Vr (pairAt t) (tileNo t)).Holds O P ((tileNo t).val + 1) (tileFirst m c t).1 (over acc0 (tileFirst m c t).2.1) (over acc1 (tileFirst m c t).2.2) :=
  tileFrom_holds c t rfl (staged_at hA t) (skipped m c t) (skipped_zero hA t) (chk_first _ _ _) clear0 clear1 h0 h1

/-- The tile walked from given accumulators. -/
abbrev walked (m : (ℓ : Loc nD τ sig) → Buf (Elt Ideal) ℓ) (c : Dev nD) (t : Fin cfg0.N) (s0 s1 : Vec Ideal S32x128x256 .f32) :=
  tileAt m c t ((Memref.isWhole_whole _).unread s0) ((Memref.isWhole_whole _).unread s1)

include hA in
theorem at_holds {O P : Fin 32 → Fin 128 → Fin 256 → ℝ} (s0 s1 : Vec Ideal S32x128x256 .f32)
    (h0 : ∀ b l s, s0 (ix3 b l s) = (O b l s : EReal)) (h1 : ∀ b l s, s1 (ix3 b l s) = (P b l s : EReal)) :
    (work Qr Dr Kr Vr (pairAt t) (tileNo t)).Holds O P ((tileNo t).val + 1) (walked m c t s0 s1).1
      (onto acc0 (Memref.isWhole_whole _) s0 (walked m c t s0 s1).2.1)
      (onto acc1 (Memref.isWhole_whole _) s1 (walked m c t s0 s1).2.2) :=
  tile_holds c t rfl (staged_at hA t) (skipped m c t) (skipped_zero hA t) (chk_first _ _ _)
    (fun b l s => (congrFun (Memref.IsWhole.read_unread (m := acc0) (Memref.isWhole_whole _) s0) _).trans (h0 b l s)) (fun b l s => (congrFun (Memref.IsWhole.read_unread (m := acc1) (Memref.isWhole_whole _) s1) _).trans (h1 b l s))

theorem first_dq (hf : isFirst (grid0.coords t)) (hl : ¬ isLast (grid0.coords t)) (s0 s1 : Vec Ideal S32x128x256 .f32) : (left m c t s0 s1).dq = scaled (tileFirst m c t).1.1 := by
  rw [left_first m c t s0 s1 hf hl]
  exact (congrArg (over (F := Ideal) (sg7 t)) (first_Q m c t hf hl)).trans (over_whole (sg7 t) _)
theorem first_s0 (hf : isFirst (grid0.coords t)) (hl : ¬ isLast (grid0.coords t)) (s0 s1 : Vec Ideal S32x128x256 .f32) : (left m c t s0 s1).s0 = over acc0 (tileFirst m c t).2.1 := by
  have h : (left m c t s0 s1).s0 = over acc0 (atFirst m c t hf hl).2.1 := by rw [left_first m c t s0 s1 hf hl]
  rw [h]
  exact congrArg (over (F := Ideal) acc0) (first_K m c t hf hl)
theorem first_s1 (hf : isFirst (grid0.coords t)) (hl : ¬ isLast (grid0.coords t)) (s0 s1 : Vec Ideal S32x128x256 .f32) : (left m c t s0 s1).s1 = over acc1 (tileFirst m c t).2.2 := by
  have h : (left m c t s0 s1).s1 = over acc1 (atFirst m c t hf hl).2.2.1 := by rw [left_first m c t s0 s1 hf hl]
  rw [h]
  exact congrArg (over (F := Ideal) acc1) (first_V m c t hf hl)
theorem mid_dq (hf : ¬ isFirst (grid0.coords t)) (hl : ¬ isLast (grid0.coords t)) (s0 s1 : Vec Ideal S32x128x256 .f32) : (left m c t s0 s1).dq = scaled (walked m c t s0 s1).1.1 := by
  rw [left_mid m c t s0 s1 hf hl]
  exact (congrArg (over (F := Ideal) (sg7 t)) (mid_Q m c t hf hl s0 s1)).trans (over_whole (sg7 t) _)
theorem mid_s0 (hf : ¬ isFirst (grid0.coords t)) (hl : ¬ isLast (grid0.coords t)) (s0 s1 : Vec Ideal S32x128x256 .f32) : (left m c t s0 s1).s0 = onto acc0 (Memref.isWhole_whole _) s0 (walked m c t s0 s1).2.1 := by
  have h : (left m c t s0 s1).s0 = onto acc0 (Memref.isWhole_whole _) s0 (atMid m c t hf hl s0 s1).2.1 := by rw [left_mid m c t s0 s1 hf hl]
  rw [h]
  exact congrArg (onto (F := Ideal) acc0 (Memref.isWhole_whole _) s0) (mid_K m c t hf hl s0 s1)
theorem mid_s1 (hf : ¬ isFirst (grid0.coords t)) (hl : ¬ isLast (grid0.coords t)) (s0 s1 : Vec Ideal S32x128x256 .f32) : (left m c t s0 s1).s1 = onto acc1 (Memref.isWhole_whole _) s1 (walked m c t s0 s1).2.2 := by
  have h : (left m c t s0 s1).s1 = onto acc1 (Memref.isWhole_whole _) s1 (atMid m c t hf hl s0 s1).2.2.1 := by rw [left_mid m c t s0 s1 hf hl]
  rw [h]
  exact congrArg (onto (F := Ideal) acc1 (Memref.isWhole_whole _) s1) (mid_V m c t hf hl s0 s1)
theorem last_dq (hf : ¬ isFirst (grid0.coords t)) (hl : isLast (grid0.coords t)) (s0 s1 : Vec Ideal S32x128x256 .f32) : (left m c t s0 s1).dq = scaled (walked m c t s0 s1).1.1 := by
  rw [left_last m c t s0 s1 hf hl]
  exact (congrArg (over (F := Ideal) (sg7 t)) (last_Q m c t hf hl s0 s1)).trans (over_whole (sg7 t) _)
theorem last_s0 (hf : ¬ isFirst (grid0.coords t)) (hl : isLast (grid0.coords t)) (s0 s1 : Vec Ideal S32x128x256 .f32) : (left m c t s0 s1).s0 = onto acc0 (Memref.isWhole_whole _) s0 (walked m c t s0 s1).2.1 := by
  have h : (left m c t s0 s1).s0 = onto acc0 (Memref.isWhole_whole _) s0 (atLast m c t hf hl s0 s1).2.2.2.1 := by rw [left_last m c t s0 s1 hf hl]
  rw [h]
  exact congrArg (onto (F := Ideal) acc0 (Memref.isWhole_whole _) s0) (last_K m c t hf hl s0 s1)
theorem last_s1 (hf : ¬ isFirst (grid0.coords t)) (hl : isLast (grid0.coords t)) (s0 s1 : Vec Ideal S32x128x256 .f32) : (left m c t s0 s1).s1 = onto acc1 (Memref.isWhole_whole _) s1 (walked m c t s0 s1).2.2 := by
  have h : (left m c t s0 s1).s1 = onto acc1 (Memref.isWhole_whole _) s1 (atLast m c t hf hl s0 s1).2.2.2.2.1 := by rw [left_last m c t s0 s1 hf hl]
  rw [h]
  exact congrArg (onto (F := Ideal) acc1 (Memref.isWhole_whole _) s1) (last_V m c t hf hl s0 s1)
theorem last_dk (hf : ¬ isFirst (grid0.coords t)) (hl : isLast (grid0.coords t)) (s0 s1 : Vec Ideal S32x128x256 .f32) (b : Fin 32) (s : Fin 256) (l : Fin 128) :
    (left m c t s0 s1).dk (ix2 (pos b s) l) = onto acc0 (Memref.isWhole_whole _) s0 (walked m c t s0 s1).2.1 (ix3 b l s) := by
  have h : (left m c t s0 s1).dk = over (sg8 t) (atLast m c t hf hl s0 s1).2.1 := by rw [left_last m c t s0 s1 hf hl]
  rw [h, last_rowsK m c t hf hl s0 s1]
  exact (stored Variants.none c none (grid0.coords t) (sg0 t) (hw0 t) (sg1 t) (hw1 t) (sg2 t) (hw2 t) (sg3 t) (hw3 t) (sg4 t) (hw4 t) (sg5 t) (hw5 t) (sg6 t) (hw6 t) (sg7 t) (hw7 t) (sg8 t) (hw8 t) (sg9 t) (hw9 t) acc0 (Memref.isWhole_whole _) acc1 (Memref.isWhole_whole _) hl
      (acc0.view.writes (Elt Ideal) ((Memref.isWhole_whole _).unread s0) (walked m c t s0 s1).2.1)
      (acc1.view.writes (Elt Ideal) ((Memref.isWhole_whole _).unread s1) (walked m c t s0 s1).2.2)
      k0_t3_loop.trips (Nat.le_refl _) (sg8 t).view.junk (sg9 t).view.junk).1 b (Nat.lt_of_lt_of_eq b.isLt trips_t3.symm) s l
theorem last_dv (hf : ¬ isFirst (grid0.coords t)) (hl : isLast (grid0.coords t)) (s0 s1 : Vec Ideal S32x128x256 .f32) (b : Fin 32) (s : Fin 256) (l : Fin 128) :
    (left m c t s0 s1).dv (ix2 (pos b s) l) = onto acc1 (Memref.isWhole_whole _) s1 (walked m c t s0 s1).2.2 (ix3 b l s) := by
  have h : (left m c t s0 s1).dv = over (sg9 t) (atLast m c t hf hl s0 s1).2.2.1 := by rw [left_last m c t s0 s1 hf hl]
  rw [h, last_rowsV m c t hf hl s0 s1]
  exact (stored Variants.none c none (grid0.coords t) (sg0 t) (hw0 t) (sg1 t) (hw1 t) (sg2 t) (hw2 t) (sg3 t) (hw3 t) (sg4 t) (hw4 t) (sg5 t) (hw5 t) (sg6 t) (hw6 t) (sg7 t) (hw7 t) (sg8 t) (hw8 t) (sg9 t) (hw9 t) acc0 (Memref.isWhole_whole _) acc1 (Memref.isWhole_whole _) hl
      (acc0.view.writes (Elt Ideal) ((Memref.isWhole_whole _).unread s0) (walked m c t s0 s1).2.1)
      (acc1.view.writes (Elt Ideal) ((Memref.isWhole_whole _).unread s1) (walked m c t s0 s1).2.2)
      k0_t3_loop.trips (Nat.le_refl _) (sg8 t).view.junk (sg9 t).view.junk).2 b (Nat.lt_of_lt_of_eq b.isLt trips_t3.symm) s l

include hA in
theorem done_first (hf : isFirst (grid0.coords t)) (s0 s1 : Vec Ideal S32x128x256 .f32) : Done Qr Dr Kr Vr (pairAt t) (tileNo t) (left m c t s0 s1) := by
  have h0 : (tileNo t).val = 0 := (isFirst_iff _).mp hf
  have hl : ¬ isLast (grid0.coords t) := fun h => by have h1 : (tileNo t).val = 31 := (isLast_iff _).mp h; omega
  have hz0 : ∀ b l s, acc0.view.read (Elt Ideal) (acc0.view.writes (Elt Ideal) acc0.view.junk clear0) (ix3 b l s) = (sumK Qr Dr Kr Vr (pairAt t) (tileNo t).val b l s : EReal) := fun b l s => by
    rw [View.read_writes_full]
    pointwise [k0_pay59]
    simp [sumK, h0]
  have hz1 : ∀ b l s, acc1.view.read (Elt Ideal) (acc1.view.writes (Elt Ideal) acc1.view.junk clear1) (ix3 b l s) = (sumV Qr Dr Kr Vr (pairAt t) (tileNo t).val b l s : EReal) := fun b l s => by
    rw [View.read_writes_full]
    pointwise [k0_pay60]
    simp [sumV, h0]
  obtain ⟨hq, hk, hv⟩ := held (first_holds hA t hz0 hz1)
  rw [← first_dq t hf hl s0 s1] at hq
  rw [← first_s0 t hf hl s0 s1] at hk
  rw [← first_s1 t hf hl s0 s1] at hv
  exact ⟨hq, hk, hv, fun h => by omega, fun h => by omega⟩

section
variable {s0 s1 : Vec Ideal S32x128x256 .f32} (h0 : ∀ b l s, s0 (ix3 b l s) = (sumK Qr Dr Kr Vr (pairAt t) (tileNo t).val b l s : EReal))
    (h1 : ∀ b l s, s1 (ix3 b l s) = (sumV Qr Dr Kr Vr (pairAt t) (tileNo t).val b l s : EReal))

include hA h0 h1 in
theorem done_mid (hf : ¬ isFirst (grid0.coords t)) (hl : ¬ isLast (grid0.coords t)) : Done Qr Dr Kr Vr (pairAt t) (tileNo t) (left m c t s0 s1) := by
  have hn : (tileNo t).val ≠ 31 := fun h => hl ((isLast_iff _).mpr h)
  obtain ⟨hq, hk, hv⟩ := held (at_holds hA t s0 s1 h0 h1)
  rw [← mid_dq t hf hl s0 s1] at hq
  rw [← mid_s0 t hf hl s0 s1] at hk
  rw [← mid_s1 t hf hl s0 s1] at hv
  exact ⟨hq, hk, hv, fun h => absurd h hn, fun h => absurd h hn⟩

include hA h0 h1 in
theorem done_last (hf : ¬ isFirst (grid0.coords t)) (hl : isLast (grid0.coords t)) : Done Qr Dr Kr Vr (pairAt t) (tileNo t) (left m c t s0 s1) := by
  have hn : (tileNo t).val + 1 = 32 := congrArg (· + 1) ((isLast_iff _).mp hl)
  obtain ⟨hq, hk, hv⟩ := held (at_holds hA t s0 s1 h0 h1)
  have gk := fun b l s => (last_dk t hf hl s0 s1 b s l).trans (hk b l s)
  have gv := fun b l s => (last_dv t hf hl s0 s1 b s l).trans (hv b l s)
  rw [← last_dq t hf hl s0 s1] at hq
  rw [← last_s0 t hf hl s0 s1] at hk
  rw [← last_s1 t hf hl s0 s1] at hv
  rw [hn] at gk gv
  exact ⟨hq, hk, hv, fun _ => gk, fun _ => gv⟩
end

theorem pair_coord : ∀ t : Fin cfg0.N, (grid0.coords t 0).val = t.val / 32 := (by decide +kernel : ∀ t : Fin grid0.N, _)

include hA in
/-- Every point's tile is done. -/
theorem done_at : ∀ (n : ℕ) (hn : n < cfg0.N), Done Qr Dr Kr Vr (pairAt ⟨n, hn⟩) (tileNo ⟨n, hn⟩) (here m c ⟨n, hn⟩) := by
  intro n
  induction n with
  | zero =>
    intro hn
    exact done_first hA ⟨0, hn⟩ ((isFirst_iff _).mpr ((tile_of_point ⟨0, hn⟩).trans rfl)) _ _
  | succ n ih =>
    intro hn
    by_cases hf : isFirst (grid0.coords ⟨n + 1, hn⟩)
    · exact done_first hA _ hf _ _
    have hd := ih (Nat.lt_of_succ_lt hn)
    have ht : (tileNo ⟨n + 1, hn⟩).val = (n + 1) % 32 := tile_of_point _
    have ht' : (tileNo ⟨n, Nat.lt_of_succ_lt hn⟩).val = n % 32 := tile_of_point _
    have h0 : (tileNo ⟨n + 1, hn⟩).val ≠ 0 := fun h => hf ((isFirst_iff _).mpr h)
    have hp : pairAt ⟨n, Nat.lt_of_succ_lt hn⟩ = pairAt ⟨n + 1, hn⟩ :=
      Fin.ext (((pair_coord ⟨n, Nat.lt_of_succ_lt hn⟩).trans (by show n / 32 = (n + 1) / 32; omega)).trans (pair_coord ⟨n + 1, hn⟩).symm)
    have hs : (tileNo ⟨n, Nat.lt_of_succ_lt hn⟩).val + 1 = (tileNo ⟨n + 1, hn⟩).val := by omega
    have k0 := hd.s0
    have k1 := hd.s1
    rw [hp, hs] at k0 k1
    by_cases hl : isLast (grid0.coords ⟨n + 1, hn⟩)
    · exact done_last hA _ k0 k1 hf hl
    · exact done_mid hA _ k0 k1 hf hl
end

end Cert.KernelIdeal.Bwd
end
-- ==== Proof.Bwd.Arr.lean ====
module

public import proofs.«01_k».proof.Proof.Bwd.Acc

/-! The three results of the call as sums over the keys and over the queries. -/

@[expose] public section

set_option maxRecDepth 16384
noncomputable section

namespace Cert.KernelIdeal.Bwd

open Idealize.ShloMosaic Idealize.ShloMosaic.TcCoe
open Cert.KernelIdeal.Gen Cert.Row

/-- The head of a column. -/
def headOf (j : Fin 512) : Fin 8 := ⟨j.val / 64, by omega⟩

section
variable (Qr Dr Kr Vr : Fin 8192 → Fin 512 → ℝ)

/-- The logits' gradients, -/
def dzR (h : Fin 8) (t k : Fin 8192) : ℝ := dz (zr Qr Kr h t) (zr Dr Vr h t) t.val k
/-- and the gradients of the queries, the keys and the values. -/
def dqR (t : Fin 8192) (j : Fin 512) : ℝ := (∑ k, dzR Qr Dr Kr Vr (headOf j) t k * Kr k j) * (1 / 8)
def dkR (k : Fin 8192) (j : Fin 512) : ℝ := ∑ t, Qr t j * dzR Qr Dr Kr Vr (headOf j) t k
def dvR (k : Fin 8192) (j : Fin 512) : ℝ := ∑ t : Fin 8192, Dr t j * wt (zr Qr Kr (headOf j) t) t.val k

theorem head_low (p : Fin 4) (l : Fin 128) (h : l.val < 64) : headOf (col p l) = head0 p := Fin.ext (by simp [headOf, col, head0]; omega)
theorem head_high (p : Fin 4) (l : Fin 128) (h : ¬ l.val < 64) : headOf (col p l) = head1 p := Fin.ext (by simp [headOf, col, head1]; have := l.isLt; omega)

theorem g0_eq (p : Fin 4) (i : Fin 32) (r : Fin 256) (k : Fin 8192) : (work Qr Dr Kr Vr p i).g0 r k = dzR Qr Dr Kr Vr (head0 p) (pos i r) k := by
  rw [Query.g0, work_z0, work_e0]; rfl
theorem g1_eq (p : Fin 4) (i : Fin 32) (r : Fin 256) (k : Fin 8192) : (work Qr Dr Kr Vr p i).g1 r k = dzR Qr Dr Kr Vr (head1 p) (pos i r) k := by
  rw [Query.g1, work_z1, work_e1]; rfl

theorem dq_eq (p : Fin 4) (i : Fin 32) (r : Fin 256) (l : Fin 128) : dqAll Qr Dr Kr Vr p i r l * (1 / 8) = dqR Qr Dr Kr Vr (pos i r) (col p l) := by
  refine congrArg (· * (1 / 8)) (Finset.sum_congr rfl fun k _ => ?_)
  rw [g0_eq, g1_eq]
  by_cases h : l.val < 64
  · rw [if_pos h, head_low p l h]
  · rw [if_neg h, head_high p l h]

theorem dk_eq (p : Fin 4) (b : Fin 32) (l : Fin 128) (s : Fin 256) : sumK Qr Dr Kr Vr p 32 b l s = dkR Qr Dr Kr Vr (pos b s) (col p l) := by
  rw [dkR, sum_pos]
  refine Finset.sum_congr rfl fun x _ => (if_pos x.isLt).trans (Finset.sum_congr rfl fun r _ => ?_)
  rw [g0_eq, g1_eq]
  by_cases h : l.val < 64
  · rw [head_low p l h]; simp [work, queryOf, h]
  · rw [head_high p l h]; simp [work, queryOf, h]

theorem dv_eq (p : Fin 4) (b : Fin 32) (l : Fin 128) (s : Fin 256) : sumV Qr Dr Kr Vr p 32 b l s = dvR Qr Dr Kr (pos b s) (col p l) := by
  rw [dvR, sum_pos]
  refine Finset.sum_congr rfl fun x _ => (if_pos x.isLt).trans (Finset.sum_congr rfl fun r _ => ?_)
  rw [work_z0, work_z1]
  by_cases h : l.val < 64
  · rw [head_low p l h]; simp [work, queryOf, h, pos]
  · rw [head_high p l h]; simp [work, queryOf, h, pos]
end

section
variable {m : (ℓ : Loc nD τ sig) → Buf (Elt Ideal) ℓ} {c : Dev nD} {Qr Dr Kr Vr : Fin 8192 → Fin 512 → ℝ} (hA : Arrays m c Qr Dr Kr Vr)

theorem split_pos (y : Fin 8192) : ∃ (b : Fin 32) (s : Fin 256), y = pos b s :=
  ⟨⟨y.val / 256, by omega⟩, ⟨y.val % 256, by omega⟩, Fin.ext (by simp only [pos]; omega)⟩

include hA in
theorem here_q (t : Fin cfg0.N) (y : S256x128.Idx) : (here m c t).dq y = (dqR Qr Dr Kr Vr (pos (tileNo t) (y 0)) (col (pairAt t) (y 1)) : EReal) := by
  rw [show y = ix2 (y 0) (y 1) from funext fun a => by fin_cases a <;> rfl]
  exact ((done_at hA t.val t.isLt).dq (y 0) (y 1)).trans (congrArg _ (dq_eq Qr Dr Kr Vr _ _ _ _))
include hA in
theorem here_k (t : Fin cfg0.N) (hl : (tileNo t).val = 31) (y : S8192x128.Idx) : (here m c t).dk y = (dkR Qr Dr Kr Vr (y 0) (col (pairAt t) (y 1)) : EReal) := by
  obtain ⟨b, s, hy⟩ := split_pos (y 0)
  rw [show y = ix2 (pos b s) (y 1) from funext fun a => by fin_cases a <;> [exact hy; rfl]]
  exact ((done_at hA t.val t.isLt).dk hl b (y 1) s).trans (congrArg _ (dk_eq Qr Dr Kr Vr _ _ _ _))
include hA in
theorem here_v (t : Fin cfg0.N) (hl : (tileNo t).val = 31) (y : S8192x128.Idx) : (here m c t).dv y = (dvR Qr Dr Kr (y 0) (col (pairAt t) (y 1)) : EReal) := by
  obtain ⟨b, s, hy⟩ := split_pos (y 0)
  rw [show y = ix2 (pos b s) (y 1) from funext fun a => by fin_cases a <;> [exact hy; rfl]]
  exact ((done_at hA t.val t.isLt).dv hl b (y 1) s).trans (congrArg _ (dv_eq Qr Dr Kr Vr _ _ _ _))

/-- Equal coordinates, equal values. -/
theorem at_eq (f : Fin 8192 → Fin 512 → ℝ) {a a' : Fin 8192} {b b' : Fin 512} (ha : a.val = a'.val) (hb : b.val = b'.val) : (f a b : EReal) = (f a' b' : EReal) := by
  rw [Fin.ext ha, Fin.ext hb]

include hA in
theorem array_q : (dats m 0 c).arrAt 7 (cfgs 0).N = fun y : S8192x512.Idx => (dqR Qr Dr Kr Vr (y 0) (y 1) : EReal) := by
  refine (dats m 0 c).arrAt_eq_of_covers 7 _ (by decide +kernel) fun t hf y => ?_
  blk_simp
  rw [after_7]
  refine (here_q hA t y).trans (at_eq (dqR Qr Dr Kr Vr) ?_ ?_)
  all_goals blk_simp [places t, pos, col, tileNo, pairAt]
include hA in
theorem array_k : (dats m 0 c).arrAt 8 (cfgs 0).N = fun y : S8192x512.Idx => (dkR Qr Dr Kr Vr (y 0) (y 1) : EReal) := by
  refine (dats m 0 c).arrAt_eq_of_covers 8 _ (by decide +kernel) fun t hf y => ?_
  blk_simp
  rw [after_8]
  refine (here_k hA t ((tile_of_point t).trans ((flush0_8 t).mp hf)) y).trans (at_eq (dkR Qr Dr Kr Vr) ?_ ?_)
  all_goals blk_simp [places t, pos, col, tileNo, pairAt]
include hA in
theorem array_v : (dats m 0 c).arrAt 9 (cfgs 0).N = fun y : S8192x512.Idx => (dvR Qr Dr Kr (y 0) (y 1) : EReal) := by
  refine (dats m 0 c).arrAt_eq_of_covers 9 _ (by decide +kernel) fun t hf y => ?_
  blk_simp
  rw [after_9]
  refine (here_v hA t ((tile_of_point t).trans ((flush0_9 t).mp hf)) y).trans (at_eq (dvR Qr Dr Kr) ?_ ?_)
  all_goals blk_simp [places t, pos, col, tileNo, pairAt]
end

end Cert.KernelIdeal.Bwd
end
-- ==== Proof.Bwd.Scan.lean ====
module

public import Idealize.ShloMosaic.Lib.Pointwise
public import Idealize.ShloMosaic.Lib.Claim

/-! Running sums along the last axis, at an index. -/

@[expose] public section

set_option maxRecDepth 16384
noncomputable section

namespace Cert.Row

open Idealize.ShloMosaic

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

variable {a b N : ℕ}

/-- A window's sum, position by position. -/
theorem window_sum (lo hi : ℕ) (x : (⟨3, ![a, b, N]⟩ : Shape).Idx → EReal) (v : EReal)
    (hw : (⟨3, ![a, b, N]⟩ : Shape).ReduceWindows ![1, 1, N] ![1, 1, 1] ![0, 0, lo] ![0, 0, hi] ⟨3, ![a, b, N]⟩) (h : Fin a) (t : Fin b) (j : Fin N) :
    Ideal.hostReduceWindowAdd ![1, 1, N] ![1, 1, 1] ![0, 0, lo] ![0, 0, hi] hw x v (ix3 h t j)
      = v + ∑ n : Fin N, if hn : lo ≤ j.val + n.val ∧ j.val + n.val - lo < N then x (ix3 h t ⟨j.val + n.val - lo, hn.2⟩) else v := by
  unfold Ideal.hostReduceWindowAdd Host.reduceWindow
  dsimp only
  rw [foldl_sum]
  refine congrArg (v + ·) ?_
  rw [← Fin.sum_univ_def]
  refine Eq.trans (Finset.sum_congr rfl fun n _ => ?_) ((Equiv.sum_comp (⟨3, ![1, 1, N]⟩ : Shape).rowMajor.symm (fun w : (⟨3, ![1, 1, N]⟩ : Shape).Idx =>
    if hn : lo ≤ j.val + (w 2).val ∧ j.val + (w 2).val - lo < N then x (ix3 h t ⟨j.val + (w 2).val - lo, hn.2⟩) else v)).trans ?_)
  · let w : (⟨3, ![1, 1, N]⟩ : Shape).Idx := (⟨3, ![1, 1, N]⟩ : Shape).rowMajor.symm n
    have w0 : (w 0).val = 0 := Nat.lt_one_iff.mp (w 0).isLt
    have w1 : (w 1).val = 0 := Nat.lt_one_iff.mp (w 1).isLt
    by_cases hn : lo ≤ j.val + (w 2).val ∧ j.val + (w 2).val - lo < N
    · refine (dif_pos fun i => ?_).trans (Eq.trans ?_ (dif_pos hn).symm)
      · fin_cases i
        · exact ⟨Nat.zero_le _, by show h.val * 1 + (w 0).val - 0 < a; omega⟩
        · exact ⟨Nat.zero_le _, by show t.val * 1 + (w 1).val - 0 < b; omega⟩
        · exact ⟨by show lo ≤ j.val * 1 + (w 2).val; omega, by show j.val * 1 + (w 2).val - lo < N; omega⟩
      · refine congrArg x (funext fun i => Fin.ext ?_)
        fin_cases i
        · show h.val * 1 + (w 0).val - 0 = h.val; omega
        · show t.val * 1 + (w 1).val - 0 = t.val; omega
        · show j.val * 1 + (w 2).val - lo = j.val + (w 2).val - lo; omega
    · have hr : (if hn : lo ≤ j.val + (w 2).val ∧ j.val + (w 2).val - lo < N then x (ix3 h t ⟨j.val + (w 2).val - lo, hn.2⟩) else v) = v := dif_neg hn
      refine (dif_neg fun hin => hn ?_).trans hr.symm
      have h2 := hin 2
      change lo ≤ j.val * 1 + (w 2).val ∧ j.val * 1 + (w 2).val - lo < N at h2
      omega
  · rw [sum_idx3, Fin.sum_univ_one, Fin.sum_univ_one]
    rfl

/-- The sum from an index on. -/
theorem scan_from {hi : ℕ} (x : (⟨3, ![a, b, N]⟩ : Shape).Idx → EReal)
    (hw : (⟨3, ![a, b, N]⟩ : Shape).ReduceWindows ![1, 1, N] ![1, 1, 1] ![0, 0, 0] ![0, 0, hi] ⟨3, ![a, b, N]⟩) (h : Fin a) (t : Fin b) (j : Fin N) :
    Ideal.hostReduceWindowAdd ![1, 1, N] ![1, 1, 1] ![0, 0, 0] ![0, 0, hi] hw x 0 (ix3 h t j) = ∑ k : Fin N, if j ≤ k then x (ix3 h t k) else 0 := by
  rw [window_sum, zero_add]
  refine Finset.sum_bij_ne_zero (fun n _ hn => ⟨(j.val + n.val) % N, Nat.mod_lt _ (by have := j.isLt; omega)⟩) (fun _ _ _ => Finset.mem_univ _) ?_ ?_ ?_
  · intro n _ hn n' _ hn' he
    have hl : 0 ≤ j.val + n.val ∧ j.val + n.val - 0 < N := by by_contra hc; exact hn (dif_neg hc)
    have hl' : 0 ≤ j.val + n'.val ∧ j.val + n'.val - 0 < N := by by_contra hc; exact hn' (dif_neg hc)
    have := congrArg Fin.val he
    simp only at this
    rw [Nat.mod_eq_of_lt (by omega), Nat.mod_eq_of_lt (by omega)] at this
    exact Fin.ext (by omega)
  · intro k _ hk
    have hjk : j ≤ k := by by_contra hc; exact hk (if_neg hc)
    have hv : j.val ≤ k.val := hjk
    have := k.isLt
    have hlt : j.val + (k.val - j.val) - 0 < N := by omega
    refine ⟨⟨k.val - j.val, by omega⟩, Finset.mem_univ _, ?_, Fin.ext ?_⟩
    · rw [dif_pos ⟨Nat.zero_le _, hlt⟩]
      rw [if_pos hjk] at hk
      convert hk using 3
      exact Fin.ext (by show j.val + (k.val - j.val) - 0 = k.val; omega)
    · show (j.val + (k.val - j.val)) % N = k.val
      rw [Nat.mod_eq_of_lt (by omega)]; omega
  · intro n _ hn
    have hl : 0 ≤ j.val + n.val ∧ j.val + n.val - 0 < N := by by_contra hc; exact hn (dif_neg hc)
    rw [dif_pos hl]
    refine Eq.trans ?_ (if_pos (by show j.val ≤ (j.val + n.val) % N; rw [Nat.mod_eq_of_lt (by omega)]; omega)).symm
    exact congrArg (fun k => x (ix3 h t k)) (Fin.ext (by show j.val + n.val - 0 = (j.val + n.val) % N; rw [Nat.mod_eq_of_lt (by omega)]; omega))

/-- The sum up to an index. -/
theorem scan_to {lo hi : ℕ} (hlo : lo + 1 = N) (x : (⟨3, ![a, b, N]⟩ : Shape).Idx → EReal)
    (hw : (⟨3, ![a, b, N]⟩ : Shape).ReduceWindows ![1, 1, N] ![1, 1, 1] ![0, 0, lo] ![0, 0, hi] ⟨3, ![a, b, N]⟩) (h : Fin a) (t : Fin b) (j : Fin N) :
    Ideal.hostReduceWindowAdd ![1, 1, N] ![1, 1, 1] ![0, 0, lo] ![0, 0, hi] hw x 0 (ix3 h t j) = ∑ k : Fin N, if k ≤ j then x (ix3 h t k) else 0 := by
  rw [window_sum, zero_add]
  refine Finset.sum_bij_ne_zero (fun n _ hn => ⟨j.val + n.val - lo, by have := j.isLt; have := n.isLt; omega⟩) (fun _ _ _ => Finset.mem_univ _) ?_ ?_ ?_
  · intro n _ hn n' _ hn' he
    have hl : lo ≤ j.val + n.val ∧ j.val + n.val - lo < N := by by_contra hc; exact hn (dif_neg hc)
    have hl' : lo ≤ j.val + n'.val ∧ j.val + n'.val - lo < N := by by_contra hc; exact hn' (dif_neg hc)
    have := congrArg Fin.val he
    simp only at this
    exact Fin.ext (by omega)
  · intro k _ hk
    have hjk : k ≤ j := by by_contra hc; exact hk (if_neg hc)
    have hv : k.val ≤ j.val := hjk
    have := j.isLt
    refine ⟨⟨k.val + lo - j.val, by omega⟩, Finset.mem_univ _, ?_, Fin.ext (by show j.val + (k.val + lo - j.val) - lo = k.val; omega)⟩
    rw [dif_pos ⟨by show lo ≤ j.val + (k.val + lo - j.val); omega, by show j.val + (k.val + lo - j.val) - lo < N; omega⟩]
    rw [if_pos hjk] at hk
    convert hk using 3
    exact Fin.ext (by show j.val + (k.val + lo - j.val) - lo = k.val; omega)
  · intro n _ hn
    have hl : lo ≤ j.val + n.val ∧ j.val + n.val - lo < N := by by_contra hc; exact hn (dif_neg hc)
    rw [dif_pos hl]
    exact (if_pos (by show j.val + n.val - lo ≤ j.val; have := n.isLt; omega)).symm

end Cert.Row
end
-- ==== Proof.Bwd.Host.lean ====
module

public import proofs.«01_k».proof.Proof.Bwd.Arr
public import proofs.«01_k».proof.Proof.Bwd.Scan
public import Idealize.ShloMosaic.Lib.Claim
public import Idealize.ShloMosaic.Lib.WordCmp

/-! The arrays the kernel's region finds: the host's part of the kernel program, read at an index in real numbers. -/

@[expose] public section

set_option maxRecDepth 16384
noncomputable section

namespace Cert.KernelIdeal.Bwd

open Idealize.ShloMosaic Idealize.ShloMosaic.TcCoe
open Cert.KernelIdeal.Gen Cert.Row

variable (σ : Valuation τ sig (Elt Ideal))

/-- Arrays of the host's part, as a valuation has them. -/
abbrev w17 (σ : Valuation τ sig (Elt Ideal)) : S8x8192x8192.Idx → EReal := σ (Proc.devRef .tc main_v17)
abbrev w32 (σ : Valuation τ sig (Elt Ideal)) : S8x8192x8192.Idx → EReal := σ (Proc.devRef .tc main_v32)
abbrev w33 (σ : Valuation τ sig (Elt Ideal)) : S8x8192x8192.Idx → EReal := σ (Proc.devRef .tc main_v33)
abbrev w35 (σ : Valuation τ sig (Elt Ideal)) : S8x8192x32.Idx → EReal := σ (Proc.devRef .tc main_v35)
abbrev w36 (σ : Valuation τ sig (Elt Ideal)) : S8x8192x32.Idx → EReal := σ (Proc.devRef .tc main_v36)
abbrev w40 (σ : Valuation τ sig (Elt Ideal)) : S8x8192x128.Idx → EReal := σ (Proc.devRef .tc main_v40)
abbrev w23 (σ : Valuation τ sig (Elt Ideal)) : S8192x8192.Idx → BitVec 1 := σ (Proc.devRef .tc main_v23)
abbrev w2 (σ : Valuation τ sig (Elt Ideal)) : S_.Idx → EReal := σ (Proc.devRef .tc main_cst_2)

theorem host_score (Q K : Fin 8192 → Fin 512 → ℝ)
    (hq : ∀ i j, (σ (Proc.devRef .tc main_arg0) : Vec Ideal S8192x512 .f32) (ix2 i j) = (Q i j : EReal))
    (hk : ∀ i j, (σ (Proc.devRef .tc main_arg1) : Vec Ideal S8192x512 .f32) (ix2 i j) = (K i j : EReal))
    (h : Fin 8) (t k : Fin 8192) :
    w17 (StableHlo.after hostOps0 σ) (ix3 h t k)
      = (zr (fun i j => Q i j * (1/8)) K h t k : EReal) := by
  unfold w17
  entry_read
  pointwise [hq, hk]
  simp only [eighth_f32, ← EReal.coe_mul, ← coe_sum]
  rfl

theorem host_soft (h : Fin 8) (t k : Fin 8192) (z : ℝ)
   (hz : w17 (StableHlo.after hostOps0 σ) (ix3 h t k) = (z : EReal)) :
    w32 (StableHlo.after hostOps0 σ) (ix3 h t k)
      = (soft z : EReal) := by
  have e : w32 (StableHlo.after hostOps0 σ)
     = addf (F := Ideal) (maximumf (F := Ideal) (w17 (StableHlo.after hostOps0 σ))
        (broadcastInDim S8x8192x8192 ![] bcast_S_S8x8192x8192 (constant (F := Ideal) S_ FTy.f32 0#32)))
      (Host.log (addf (broadcastInDim S8x8192x8192 ![] bcast_S_S8x8192x8192 (constant (F := Ideal) S_ FTy.f32 1065353216#32))
          (Host.exp (Host.negf (Host.absf (w17 (StableHlo.after hostOps0 σ))))))) := by
    unfold w32 w17
    entry_read
    rfl
  rw [e]
  generalize w17 (StableHlo.after hostOps0 σ) = x at hz
  pointwise [hz]
  rw [show FloatOps.absf (F := Ideal) (φ := .f32) (z : EReal) = ((|z| : ℝ) : EReal) from abs_real z, ← EReal.coe_neg, Ideal.exp_coe, ← EReal.coe_one, ← EReal.coe_add, Ideal.log_coe,
    if_neg (not_le.mpr (by positivity)), ← EReal.coe_zero, ← coe_max, ← EReal.coe_add, ← soft_max, zero_sub]

theorem host_mask (t k : Fin 8192) :
    w23 (StableHlo.after hostOps0 σ) (ix2 t k)
      = BitVec.ofBool (decide (k.val < t.val)) := by
  unfold w23
  entry_read
  pointwise
  have := t.isLt
  have := k.isLt
  simp (disch := omega) only [hlo_ix]

theorem host_zero :
    w2 (StableHlo.after hostOps0 σ) ix0 = 0 := by
  unfold w2
  entry_read
  pointwise

theorem host_where (h : Fin 8) (t k : Fin 8192) :
    w33 (StableHlo.after hostOps0_1 σ) (ix3 h t k)
      = if w23 σ (ix2 t k) = 1#1 then
         w32 σ (ix3 h t k)
        else w2 σ ix0 := by
  have e : w33 (StableHlo.after hostOps0_1 σ)
      = select (broadcastInDim S8x8192x8192 ![1, 2] bcast_S8192x8192_S8x8192x8192_1_2 (w23 σ))
          (w32 σ)
          (broadcastInDim S8x8192x8192 ![] bcast_S_S8x8192x8192 (w2 σ)) := by
    unfold w33
    entry_read
    rfl
  rw [e]
  pointwise
  rfl

theorem host_tile (h : Fin 8) (t : Fin 8192) (b : Fin 32) :
    w35 (StableHlo.after hostOps0_2 σ) (ix3 h t b)
      = ∑ s : Fin 256, w33 σ (ix3 h t (pos b s)) := by
  unfold w35
  entry_read
  pointwise
  rfl

theorem host_scan (h : Fin 8) (t : Fin 8192) (b : Fin 32) :
    w36 (StableHlo.after hostOps0_3 σ) (ix3 h t b)
      = ∑ k : Fin 32, if b ≤ k then w35 σ (ix3 h t k) else 0 := by
  have e : w36 (StableHlo.after hostOps0_3 σ)
      = Host.reduceWindowAdd (F := Ideal) (φ := .f32) ![1, 1, 32] ![1, 1, 1] ![0, 0, 0] ![0, 0, 31] (w35 σ)
          (broadcastInDim S_ ![] bcast_S_S_ (constant (F := Ideal) S_ FTy.f32 0#32) : Vec Ideal S_ .f32)
          reduceWindows_S8x8192x32_S8x8192x32_w1s1p0_0_w1s1p0_0_w32s1p0_31 h_S_ := by
    unfold w36
    entry_read
    rfl
  rw [e]
  have z : (broadcastInDim S_ ![] bcast_S_S_ (constant (F := Ideal) S_ FTy.f32 0#32) : S_.Idx → EReal) = fun _ => 0 := by
    funext i
    pointwise
  rw [z]
  exact scan_from (hi := 31) (w35 σ) reduceWindows_S8x8192x32_S8x8192x32_w1s1p0_0_w1s1p0_0_w32s1p0_31 h t b

theorem host_run (h : Fin 8) (t : Fin 8192) (b : Fin 32) :
    w40 (StableHlo.after hostOps0_4 σ) (ix3 h t (⟨b.val, by omega⟩ : Fin 128))
      = if hb : b.val < 31 then w36 σ (ix3 h t (⟨b.val + 1, by omega⟩ : Fin 32)) else 0 := by
  have e : w40 (StableHlo.after hostOps0_4 σ)
      = concatenate S8x8192x128 2 [⟨S8x8192x31, extractStridedSlice S8x8192x31 ![0, 0, 1] (w36 σ) slices_S8x8192x32_S8x8192x31_0_0_1⟩,
          ⟨S8x8192x1, (broadcastInDim S8x8192x1 ![] bcast_S_S8x8192x1 (constant (F := Ideal) S_ FTy.f32 0#32) : Vec Ideal S8x8192x1 .f32)⟩,
          ⟨S8x8192x96, (broadcastInDim S8x8192x96 ![] bcast_S_S8x8192x96 (constant (F := Ideal) S_ FTy.f32 0x7149F2CA#32) : Vec Ideal S8x8192x96 .f32)⟩]
          concatenates_S8x8192x31_S8x8192x1_S8x8192x96_S8x8192x128_d2 := by
    unfold w40
    simp only [StableHlo.after_cons, StableHlo.after_nil]
    rw [StableHlo.unary_result_ne' (h := by decide)]
    rw [StableHlo.nary_result']
    have e0 : ∀ (x x' : S8x8192x31.Idx → EReal) (y y' : S8x8192x1.Idx → EReal) (z z' : S8x8192x96.Idx → EReal), x = x' → y = y' → z = z' →
      concatenate S8x8192x128 2 [⟨S8x8192x31, x⟩, ⟨S8x8192x1, y⟩, ⟨S8x8192x96, z⟩] concatenates_S8x8192x31_S8x8192x1_S8x8192x96_S8x8192x128_d2
       = concatenate S8x8192x128 2 [⟨S8x8192x31, x'⟩, ⟨S8x8192x1, y'⟩, ⟨S8x8192x96, z'⟩] concatenates_S8x8192x31_S8x8192x1_S8x8192x96_S8x8192x128_d2 := by
      rintro x _ y _ z _ rfl rfl rfl; rfl
    refine e0 _ _ _ _ _ _ ?_ ?_ ?_
    · show (StableHlo.unary main_cst_5 main_v39 _ _ _).result _ (Proc.devRef .tc main_v37) = _
      simp (disch := decide) only [StableHlo.unary_result_ne', StableHlo.nullary_result_ne', StableHlo.unary_result']
    · show (StableHlo.unary main_cst_5 main_v39 _ _ _).result _ (Proc.devRef .tc main_v38) = _
      simp (disch := decide) only [StableHlo.unary_result_ne', StableHlo.nullary_result_ne', StableHlo.unary_result', StableHlo.nullary_result']
    · show (StableHlo.unary main_cst_5 main_v39 _ _ _).result _ (Proc.devRef .tc main_v39) = _
      simp (disch := decide) only [StableHlo.unary_result_ne', StableHlo.nullary_result_ne', StableHlo.unary_result', StableHlo.nullary_result']
  rw [e]
  generalize w36 σ = x
  pointwise
  by_cases hb : b.val < 31
  · rw [dif_pos hb, dif_pos hb]
    exact congrArg (fun k => x (ix3 h t k)) (Fin.ext (Nat.add_comm _ _))
  · rw [dif_neg hb, dif_neg hb, dif_pos (by omega)]

theorem after_append {τ : Topo} {sig : RefSig} {Val : EltTy → Type} (l l' : List (HloOp τ sig Val)) (σ : Valuation τ sig Val) :
    StableHlo.after (l ++ l') σ = StableHlo.after l' (StableHlo.after l σ) := by
  induction l generalizing σ with
  | nil => rfl
  | cons o l ih => exact ih _

/-- The softplus of the scores of the keys the query sees, zero past them. -/
theorem host_seen (Q K : Fin 8192 → Fin 512 → ℝ)
    (hq : ∀ i j, (σ (Proc.devRef .tc main_arg0) : Vec Ideal S8192x512 .f32) (ix2 i j) = (Q i j : EReal))
    (hk : ∀ i j, (σ (Proc.devRef .tc main_arg1) : Vec Ideal S8192x512 .f32) (ix2 i j) = (K i j : EReal))
    (h : Fin 8) (t k : Fin 8192) :
    w33 (StableHlo.after hostOps0_1 (StableHlo.after hostOps0 σ)) (ix3 h t k)
      = ((if k.val < t.val then soft (zr (fun i j => Q i j * (1/8)) K h t k) else 0 : ℝ) : EReal) := by
  rw [host_where, host_mask, host_zero, host_soft σ h t k _ (host_score σ Q K hq hk h t k)]
  by_cases c : k.val < t.val
  · rw [if_pos c, if_pos (by simp [c])]
  · rw [if_neg c, if_neg (by simp [c]), EReal.coe_zero]

/-- The sum of the softplus after each tile of keys. -/
theorem host_after (Q K : Fin 8192 → Fin 512 → ℝ)
    (hq : ∀ i j, (σ (Proc.devRef .tc main_arg0) : Vec Ideal S8192x512 .f32) (ix2 i j) = (Q i j : EReal))
    (hk : ∀ i j, (σ (Proc.devRef .tc main_arg1) : Vec Ideal S8192x512 .f32) (ix2 i j) = (K i j : EReal))
    (h : Fin 8) (t : Fin 8192) (b : Fin 32) :
    w40 (StableHlo.after hostOps0_4 (StableHlo.after hostOps0_3 (StableHlo.after hostOps0_2 (StableHlo.after hostOps0_1 (StableHlo.after hostOps0 σ)))))
        (ix3 h t (⟨b.val, by omega⟩ : Fin 128))
      = (after (zr (fun i j => Q i j * (1/8)) K h t) t.val b : EReal) := by
  rw [host_run, after, sum_pos, coe_sum]
  by_cases hb : b.val < 31
  · rw [dif_pos hb, host_scan]
    refine Finset.sum_congr rfl fun k _ => ?_
    rw [coe_sum]
    by_cases c : b.val + 1 ≤ k.val
    · rw [if_pos (by exact c), host_tile]
      refine Finset.sum_congr rfl fun s _ => ?_
      rw [host_seen σ Q K hq hk]
      refine congrArg _ (if_congr ?_ rfl rfl)
      simp only [pos]
      omega
    · rw [if_neg (by exact c)]
      refine (Finset.sum_eq_zero fun s _ => ?_).symm
      rw [if_neg (by simp only [pos]; omega), EReal.coe_zero]
  · rw [dif_neg hb]
    refine (Finset.sum_eq_zero fun k _ => ?_).symm
    rw [Finset.sum_eq_zero fun s _ => if_neg (by simp only [pos]; omega), EReal.coe_zero]

theorem bit_real (p : Prop) [Decidable p] : FloatOps.uitofp (F := Ideal) FTy.bf16 (BitVec.ofBool (decide p)) = ((if p then 1 else 0 : ℝ) : EReal) := by
  by_cases h : p <;> simp [h, FloatOps.uitofp, FloatOps.scalar, Ideal.scalarOps]

variable (m : (ℓ : Loc nD τ sig) → Buf (Elt Ideal) ℓ) (c : Dev nD)

theorem arrays (Q K V' D : Fin 8192 → Fin 512 → ℝ)
    (hq : ∀ i j, (m (c, Proc.devRef .tc main_arg0) : Vec Ideal S8192x512 .f32) (ix2 i j) = (Q i j : EReal))
    (hk : ∀ i j, (m (c, Proc.devRef .tc main_arg1) : Vec Ideal S8192x512 .f32) (ix2 i j) = (K i j : EReal))
    (hv : ∀ i j, (m (c, Proc.devRef .tc main_arg2) : Vec Ideal S8192x512 .f32) (ix2 i j) = (V' i j : EReal))
    (hd : ∀ i j, (m (c, Proc.devRef .tc main_arg3) : Vec Ideal S8192x512 .f32) (ix2 i j) = (D i j : EReal)) :
    Arrays m c (fun i j => Q i j * (1/8)) D K V' where
  q i j := by
    simp only [V, hostOps0, hostOps0_1, hostOps0_2, hostOps0_3, hostOps0_4, List.flatten_cons, List.flatten_nil, List.append_nil, List.cons_append, List.nil_append]
    entry_read
    pointwise [hq]
    rw [eighth_f32, ← EReal.coe_mul]
  k i j := by
    simp only [V, hostOps0, hostOps0_1, hostOps0_2, hostOps0_3, hostOps0_4, List.flatten_cons, List.flatten_nil, List.append_nil, List.cons_append, List.nil_append]
    entry_read
    pointwise [hk]
  v i j := by
    simp only [V, hostOps0, hostOps0_1, hostOps0_2, hostOps0_3, hostOps0_4, List.flatten_cons, List.flatten_nil, List.append_nil, List.cons_append, List.nil_append]
    entry_read
    pointwise [hv]
  d i j := by
    simp only [V, hostOps0, hostOps0_1, hostOps0_2, hostOps0_3, hostOps0_4, List.flatten_cons, List.flatten_nil, List.append_nil, List.cons_append, List.nil_append]
    entry_read
    pointwise [hd]
  run h t b := by
    simp only [V, List.flatten_cons, List.flatten_nil, List.append_nil]
    rw [after_append, after_append, after_append, after_append]
    exact host_after _ Q K hq hk h t b
  suffix r k := by
    simp only [V, hostOps0, hostOps0_1, hostOps0_2, hostOps0_3, hostOps0_4, List.flatten_cons, List.flatten_nil, List.append_nil, List.cons_append, List.nil_append]
    entry_read
    pointwise
    have := r.isLt
    have := k.isLt
    simp (disch := omega) only [hlo_ix]
    exact bit_real _
  prefix' r k := by
    simp only [V, hostOps0, hostOps0_1, hostOps0_2, hostOps0_3, hostOps0_4, List.flatten_cons, List.flatten_nil, List.append_nil, List.cons_append, List.nil_append]
    entry_read
    pointwise
    have := r.isLt
    have := k.isLt
    simp (disch := omega) only [hlo_ix]
    exact bit_real _

end Cert.KernelIdeal.Bwd
end
-- ==== Proof.Ref.Vals.lean ====
module

public import proofs.«01_k».proof.Proof.Gen.ReferenceIdeal.Run
public import proofs.«01_k».proof.Proof.Gen.ReferenceIdeal.Read
public import proofs.«01_k».proof.Proof.Bwd.Arr
public import proofs.«01_k».proof.Proof.Bwd.Scan
public import Idealize.ShloMosaic.Lib.WordCmp

/-! The reference's arrays of the attention, read at an index in real numbers. -/

@[expose] public section

set_option maxRecDepth 16384
noncomputable section

namespace Cert.ReferenceIdeal.Back

open Idealize.ShloMosaic Idealize.ShloMosaic.TcCoe
open Cert.ReferenceIdeal.Read Cert.Row
open Cert.KernelIdeal.Bwd (headCol zr eighth_f32 abs_real headOf dzR dqR dkR dvR)

/-- Of finite arrays: the arguments `x`, in real numbers `X`. -/
def Reals (x : Vec Ideal S8192x512 .f32) (X : Fin 8192 → Fin 512 → ℝ) : Prop := ∀ i j, x (ix2 i j) = (X i j : EReal)

abbrev scaled (Q : Fin 8192 → Fin 512 → ℝ) : Fin 8192 → Fin 512 → ℝ := fun i j => Q i j * (1 / 8)

theorem inf_word : Ideal.ofBits .f32 0x7F800000#32 = ⊤ := by simp [Ideal.ofBits, Ideal.ieee]
theorem real_ne_inf (x : ℝ) : ¬ (x : EReal) = Ideal.ofBits .f32 0x7F800000#32 := by rw [inf_word]; exact EReal.coe_ne_top x

theorem soft_word (z : ℝ) : (if (z : EReal) ≠ (z : EReal) then (z : EReal) else max (z : EReal) 0 + Ideal.log1p (Ideal.exp (-FloatOps.absf (F := Ideal) (φ := .f32) (z : EReal)))) = (soft z : EReal) := by
  rw [if_neg (by simp), abs_real, ← EReal.coe_neg, Ideal.exp_coe, Ideal.log1p, ← EReal.coe_one, ← EReal.coe_add, Ideal.log_coe,
    if_neg (not_le.mpr (by positivity)), ← EReal.coe_zero, ← coe_max, ← EReal.coe_add, ← soft_max, zero_sub]

theorem logi_soft (z : ℝ) : Real.exp (z - soft z) = logi z := by
  unfold soft logi
  have h : 0 < 1 + Real.exp z := by positivity
  rw [Real.exp_sub, Real.exp_log h, Real.tanh_eq_sinh_div_cosh, Real.sinh_eq, Real.cosh_eq]
  have e : Real.exp z = Real.exp (1 / 2 * z) * Real.exp (1 / 2 * z) := by rw [← Real.exp_add]; ring_nf
  have i : Real.exp (-(1 / 2 * z)) = (Real.exp (1 / 2 * z))⁻¹ := Real.exp_neg _
  have p : 0 < Real.exp (1 / 2 * z) := Real.exp_pos _
  rw [e, i]
  field_simp
  ring

theorem soft_neg (z : ℝ) : soft (-z) = soft z - z := by
  unfold soft
  have h : 1 + Real.exp z = Real.exp z * (1 + Real.exp (-z)) := by rw [mul_add, mul_one, ← Real.exp_add]; simp [add_comm]
  rw [h, Real.log_mul (Real.exp_ne_zero _) (by positivity), Real.log_exp]
  ring

theorem logi_neg (z : ℝ) : logi (-z) = 1 - logi z := by
  unfold logi
  rw [show (1 / 2 * -z : ℝ) = -(1 / 2 * z) by ring, Real.tanh_neg]
  ring

theorem logi_word (z s : ℝ) (h : s = soft z) : Ideal.exp ((if (z : EReal) = Ideal.ofBits .f32 0x7F800000#32 then 0 else (z : EReal)) - if (s : EReal) = Ideal.ofBits .f32 0x7F800000#32 then 0 else (s : EReal))
    = (logi z : EReal) := by
  rw [if_neg (real_ne_inf z), if_neg (real_ne_inf s), ← EReal.coe_sub, Ideal.exp_coe, h, logi_soft]

section
variable {x0 x1 x2 x3 : Vec Ideal S8192x512 .f32} {Q K V' D : Fin 8192 → Fin 512 → ℝ}

theorem score (hq : Reals x0 Q) (hk : Reals x1 K) (h : Fin 8) (t k : Fin 8192) :
    val_main_v8 (F := Ideal) x0 x1 (ix3 h t k) = (zr (scaled Q) K h t k : EReal) := by
  unfold Reals at hq hk
  unfold val_main_v8 val_main_v7 val_main_cst val_main_v6 val_main_v4 val_main_v3 val_main_v1 val_main_v0
  pointwise [hq, hk]
  simp only [eighth_f32, ← EReal.coe_mul, ← coe_sum]
  rw [Finset.sum_mul]
  refine congrArg _ (Finset.sum_congr rfl fun d _ => ?_)
  show _ = Q t (headCol h d) * (1 / 8) * K k (headCol h d)
  simp only [headCol]
  ring

theorem mask (h : Fin 8) (t k : Fin 8192) : val_main_v18_1 (F := Ideal) (ix3 h t k) = BitVec.ofBool (decide (k.val < t.val)) := by
  unfold val_main_v18_1 val_main_v15 val_main_v14 val_main_v13 val_main_v12 val_main_v11 val_main_v10 val_main_v9
  pointwise
  have := t.isLt
  have := k.isLt
  simp (disch := omega) only [hlo_ix]

theorem mask' (h : Fin 8) (t k : Fin 8192) : val_main_v24_1 (F := Ideal) (ix3 h t k) = BitVec.ofBool (decide (k.val < t.val)) := mask h t k

theorem soft0 {h : Fin 8} {t k : Fin 8192} {z : ℝ} (hz : val_main_v8 (F := Ideal) x0 x1 (ix3 h t k) = (z : EReal)) :
    val_main_call0_v1_0 (F := Ideal) x0 x1 (ix3 h t k) = (soft z : EReal) := by
  unfold val_main_call0_v1_0 val_main_call0_call0_v4 val_main_call0_call0_v6 val_main_call0_call0_v11 val_main_call0_call0_v1 val_main_call0_call0_v10 val_main_call0_call0_v9 val_main_call0_call0_v8 val_main_call0_call0_v7 val_main_call0_call0_v5 val_main_call0_call0_v3 val_main_call0_call0_v2 val_main_call0_call0_v0
    val_main_call0_call0_cst val_main_call0_v0 val_main_v16
  pointwise [hz]
  simp only [neg_neg]
  exact soft_word _

theorem logi0 {h : Fin 8} {t k : Fin 8192} {z : ℝ} (hz : val_main_v8 (F := Ideal) x0 x1 (ix3 h t k) = (z : EReal)) :
    val_main_v17_1 (F := Ideal) x0 x1 (ix3 h t k) = (logi z : EReal) := by
  have hs := soft0 hz
  unfold val_main_v17_1 val_main_call0_call0_v21 val_main_call0_call0_v20 val_main_call0_call0_v19 val_main_call0_call0_v18 val_main_call0_call0_v17 val_main_call0_call0_v16 val_main_call0_call0_v15 val_main_call0_call0_v14 val_main_call0_call0_v13
    val_main_call0_call0_cst_0 val_main_call0_call0_cst_1 val_main_call0_call0_cst_2 val_main_call0_call0_cst_3 val_main_call0_v0 val_main_v16
  pointwise [hz, hs]
  simp only [neg_neg]
  exact logi_word _ _ rfl

theorem soft3 {h : Fin 8} {t k : Fin 8192} {z : ℝ} (hz : val_main_v8 (F := Ideal) x0 x1 (ix3 h t k) = (z : EReal)) :
    val_main_call3_v1_0 (F := Ideal) x0 x1 (ix3 h t k) = (soft (-z) : EReal) := by
  unfold val_main_call3_v1_0 val_main_call3_call0_v4 val_main_call3_call0_v6 val_main_call3_call0_v11 val_main_call3_call0_v1 val_main_call3_call0_v10 val_main_call3_call0_v9 val_main_call3_call0_v8 val_main_call3_call0_v7 val_main_call3_call0_v5 val_main_call3_call0_v3 val_main_call3_call0_v2 val_main_call3_call0_v0
    val_main_call3_call0_cst val_main_call3_v0
  pointwise [hz]
  simp only [← EReal.coe_neg]
  exact soft_word _

theorem logi3 {h : Fin 8} {t k : Fin 8192} {z : ℝ} (hz : val_main_v8 (F := Ideal) x0 x1 (ix3 h t k) = (z : EReal)) :
    val_main_v21_1 (F := Ideal) x0 x1 (ix3 h t k) = (logi (-z) : EReal) := by
  have hs := soft3 hz
  unfold val_main_v21_1 val_main_call3_call0_v21 val_main_call3_call0_v20 val_main_call3_call0_v19 val_main_call3_call0_v18 val_main_call3_call0_v17 val_main_call3_call0_v16 val_main_call3_call0_v15 val_main_call3_call0_v14 val_main_call3_call0_v13
    val_main_call3_call0_cst_0 val_main_call3_call0_cst_1 val_main_call3_call0_cst_2 val_main_call3_call0_cst_3 val_main_call3_v0
  pointwise [hz, hs]
  simp only [← EReal.coe_neg]
  exact logi_word _ _ rfl

theorem picked (p : Prop) [Decidable p] (x y : EReal) : (if BitVec.ofBool (decide p) = 1#1 then x else y) = if p then x else y := by
  by_cases h : p <;> simp [h]

theorem zero_word : (id (constant (F := Ideal) S_ FTy.f32 0#32) : S_.Idx → EReal) ix0 = ((0 : ℝ) : EReal) := by
  show (constant (F := Ideal) S_ FTy.f32 0#32 : S_.Idx → EReal) ix0 = _
  pointwise
  rfl

variable (hq : Reals x0 Q) (hk : Reals x1 K) (hv : Reals x2 V') (hd : Reals x3 D)
include hq hk

/-- Minus the softplus of the keys a query sees. -/
theorem seen (h : Fin 8) (t k : Fin 8192) :
    val_main_v18_0 (F := Ideal) x0 x1 (ix3 h t k) = ((if k.val < t.val then -soft (zr (scaled Q) K h t k) else 0 : ℝ) : EReal) := by
  have hs := soft0 (score hq hk h t k)
  have hm := mask h t k
  unfold val_main_v18_0 val_main_v17_0 val_main_call1_v2 val_main_call1_v0 val_main_cst_0
  pointwise [hs, hm]
  by_cases c : k.val < t.val
  · rw [if_pos c, if_pos c, EReal.coe_neg]
  · rw [if_neg c, if_neg c]
    exact zero_word

theorem sums (h : Fin 8) (t k : Fin 8192) :
    val_main_v20 (F := Ideal) x0 x1 (ix3 h t k) = ((-tail (zr (scaled Q) K h t) t.val k : ℝ) : EReal) := by
  have z : (val_main_call2_v0 (F := Ideal) : S_.Idx → EReal) = fun _ => 0 := by
    funext i
    unfold val_main_call2_v0 val_main_call2_cst
    pointwise
  have e : val_main_v19 (F := Ideal) x0 x1 (ix3 h t k) = ∑ k' : Fin 8192, if k ≤ k' then val_main_v18_0 (F := Ideal) x0 x1 (ix3 h t k') else 0 := by
    unfold val_main_v19
    rw [z]
    generalize val_main_v18_0 (F := Ideal) x0 x1 = x
    have g := scan_from (a := 8) (b := 8192) (N := 8192) (hi := 8191) x Cert.ReferenceIdeal.Gen.reduceWindows_S8x8192x8192_S8x8192x8192_w1s1p0_0_w1s1p0_0_w8192s1p0_8191 h t k
    unfold Host.reduceWindowAdd
    rw [Ideal.hostReduceWindowAdd_def]
    exact g
  rw [val_main_v20_apply, e]
  show (∑ k' : Fin 8192, if k ≤ k' then val_main_v18_0 (F := Ideal) x0 x1 (ix3 h t k') else 0) - val_main_v18_0 (F := Ideal) x0 x1 (ix3 h t k) = _
  have f : ∀ k' : Fin 8192, (if k ≤ k' then val_main_v18_0 (F := Ideal) x0 x1 (ix3 h t k') else 0 : EReal)
      = ((if k ≤ k' then (if k'.val < t.val then -soft (zr (scaled Q) K h t k') else 0) else 0 : ℝ) : EReal) := by
    intro k'
    rw [seen hq hk]
    split_ifs <;> simp
  rw [Finset.sum_congr rfl fun k' _ => f k', ← coe_sum, seen hq hk, ← EReal.coe_sub]
  refine congrArg _ ?_
  unfold tail
  rw [← Finset.sum_neg_distrib, sub_eq_iff_eq_add]
  have g : (if k.val < t.val then -soft (zr (scaled Q) K h t k) else 0 : ℝ) = ∑ k' : Fin 8192, if k' = k then (if k'.val < t.val then -soft (zr (scaled Q) K h t k') else 0) else 0 := by
    simp
  rw [g, ← Finset.sum_add_distrib]
  refine Finset.sum_congr rfl fun k' _ => ?_
  rcases lt_trichotomy k k' with c | c | c
  · simp only [c.le, c, c.ne', if_true, if_false, true_and, add_zero]
    split_ifs <;> simp
  · subst c; simp
  · simp [c.not_ge, c.not_gt, c.ne]

theorem weight (h : Fin 8) (t k : Fin 8192) :
    val_main_v23 (F := Ideal) x0 x1 (ix3 h t k)
      = (Real.exp (zr (scaled Q) K h t k - soft (zr (scaled Q) K h t k) - tail (zr (scaled Q) K h t) t.val k) : EReal) := by
  have hs := soft3 (score hq hk h t k)
  have hu := sums hq hk h t k
  unfold val_main_v23 val_main_v22 val_main_v21_0
  pointwise [hs, hu]
  rw [← EReal.coe_neg, ← EReal.coe_add, Ideal.exp_coe, soft_neg]
  ring_nf

theorem attn (h : Fin 8) (t k : Fin 8192) :
    val_main_v24_0 (F := Ideal) x0 x1 (ix3 h t k) = (wt (zr (scaled Q) K h t) t.val k : EReal) := by
  have hw := weight hq hk h t k
  have hm := mask' h t k
  unfold val_main_v24_0 val_main_call4_v2 val_main_call4_v0 val_main_cst_1
  pointwise [hw, hm]
  unfold wt
  by_cases c : k.val < t.val
  · rw [if_pos c, if_pos c]
  · rw [if_neg c, if_neg c]
    exact zero_word

include hv hd
theorem grad (h : Fin 8) (t k : Fin 8192) :
    val_main_v34 (F := Ideal) x0 x1 x2 x3 (ix3 h t k) = (gr (zr (scaled Q) K h t) (zr D V' h t) t.val k : EReal) := by
  have hw := weight hq hk h t k
  have hm := mask' h t k
  unfold Reals at hv hd
  unfold val_main_v34 val_main_v33 val_main_call5_v0 val_main_call5_cst val_main_v32 val_main_v29 val_main_v28 val_main_v5 val_main_v2
  pointwise [hw, hm, hv, hd]
  unfold gr wt
  by_cases c : k.val < t.val
  · rw [if_pos c, if_pos c]
    simp only [← EReal.coe_mul, ← coe_sum]
    refine congrArg _ ?_
    rw [mul_comm]
    rfl
  · rw [if_neg c, if_neg c, zero_mul, zero_mul, EReal.coe_zero]

theorem dscore (h : Fin 8) (t k : Fin 8192) :
    val_main_v44 (F := Ideal) x0 x1 x2 x3 (ix3 h t k) = ((dz (zr (scaled Q) K h t) (zr D V' h t) t.val k * (1 / 8) : ℝ) : EReal) := by
  have z : (val_main_call7_v0 (F := Ideal) : S_.Idx → EReal) = fun _ => 0 := by
    funext i
    unfold val_main_call7_v0 val_main_call7_cst
    pointwise
  have e : val_main_v37 (F := Ideal) x0 x1 x2 x3 (ix3 h t k) = ((∑ k' : Fin 8192, if k' ≤ k then gr (zr (scaled Q) K h t) (zr D V' h t) t.val k' else 0 : ℝ) : EReal) := by
    unfold val_main_v37
    rw [z]
    have g := scan_to (a := 8) (b := 8192) (N := 8192) (lo := 8191) (hi := 0) rfl (val_main_v34 (F := Ideal) x0 x1 x2 x3)
      Cert.ReferenceIdeal.Gen.reduceWindows_S8x8192x8192_S8x8192x8192_w1s1p0_0_w1s1p0_0_w8192s1p8191_0 h t k
    unfold Host.reduceWindowAdd
    rw [Ideal.hostReduceWindowAdd_def]
    refine Eq.trans g ?_
    rw [coe_sum]
    refine Finset.sum_congr rfl fun k' _ => ?_
    rw [grad hq hk hv hd]
    split_ifs <;> simp
  have hg := grad hq hk hv hd h t k
  have hl := logi0 (score hq hk h t k)
  have hr := logi3 (score hq hk h t k)
  have hm := mask h t k
  unfold val_main_v44 val_main_v43 val_main_cst_2 val_main_v42 val_main_v41 val_main_v40 val_main_call9_v1 val_main_call9_v0 val_main_v39 val_main_call8_v0 val_main_call8_cst
    val_main_v38 val_main_v36 val_main_v35 val_main_call6_v1 val_main_call6_v0
  pointwise [hg, hl, hr, hm, e]
  rw [eighth_f32, logi_neg]
  unfold dz
  by_cases c : k.val < t.val
  · rw [if_pos c, if_pos c]
    simp only [← EReal.coe_mul, ← EReal.coe_neg, ← EReal.coe_add]
    refine congrArg _ ?_
    ring
  · rw [if_neg c, if_neg c, show gr (zr (scaled Q) K h t) (zr D V' h t) t.val k = 0 by simp [gr, wt, c]]
    simp

theorem ref_q (t : Fin 8192) (j : Fin 512) :
    val_main_v53 (F := Ideal) x0 x1 x2 x3 (ix2 t j) = (dqR (scaled Q) D K V' t j : EReal) := by
  have hs := dscore hq hk hv hd
  unfold val_main_v53 val_main_v52 val_main_v49 val_main_v46
  unfold Reals at hk
  unfold val_main_v4 val_main_v1
  pointwise [hs, hk]
  simp only [← EReal.coe_mul, ← coe_sum]
  refine congrArg _ ?_
  unfold dqR
  rw [Finset.sum_mul]
  refine Finset.sum_congr rfl fun k _ => ?_
  show dzR (scaled Q) D K V' (headOf j) t k * (1 / 8) * K k j = _
  ring

theorem ref_k (t : Fin 8192) (j : Fin 512) :
    val_main_v54 (F := Ideal) x0 x1 x2 x3 (ix2 t j) = (dkR (scaled Q) D K V' t j : EReal) := by
  have hs := dscore hq hk hv hd
  unfold val_main_v54 val_main_v51 val_main_v48 val_main_v45
  unfold Reals at hq
  unfold val_main_v3 val_main_v0
  pointwise [hs, hq]
  simp only [← EReal.coe_mul, ← coe_sum]
  refine congrArg _ ?_
  unfold dkR
  refine Finset.sum_congr rfl fun k _ => ?_
  show dzR (scaled Q) D K V' (headOf j) k t * (1 / 8) * Q k j = Q k j * (1 / 8) * _
  ring

omit hv
theorem ref_v (t : Fin 8192) (j : Fin 512) :
    val_main_v55 (F := Ideal) x0 x1 x3 (ix2 t j) = (dvR (scaled Q) D K t j : EReal) := by
  have hs := attn hq hk
  unfold val_main_v55 val_main_v50 val_main_v47 val_main_v31 val_main_v30
  unfold Reals at hd
  unfold val_main_v29 val_main_v28
  pointwise [hs, hd]
  simp only [← EReal.coe_mul, ← coe_sum]
  rfl

end
end Cert.ReferenceIdeal.Back
end
-- ==== Proof.AttnEq.lean ====
module

public import proofs.«01_k».proof.Defs
public import proofs.«01_k».proof.Proof.Gen.Pre_finite
public import proofs.«01_k».proof.Proof.Finite
public import Idealize.ShloMosaic.Lib.Pipeline.ValueKit
public import proofs.«01_k».proof.Proof.Gen.Kernel
public import proofs.«01_k».proof.Proof.Bwd.Frame
public import proofs.«01_k».proof.Proof.Bwd.Arr
public import proofs.«01_k».proof.Proof.Bwd.Host
public import proofs.«01_k».proof.Proof.Ref.Vals
public import Idealize.ShloMosaic.Lib.Claim

/-! The attention's gradient: kernel and reference end with the same three arrays. -/

@[expose] public section

set_option maxRecDepth 16384
noncomputable section

namespace Cert.Attn

open Idealize.ShloMosaic Idealize.ShloMosaic.TcCoe Idealize.SL Idealize.SL.Sem
open Cert.KernelIdeal.Bwd (dqR dkR dvR)
open Cert.ReferenceIdeal.Back (Reals scaled)

/-- The real numbers of a finite array. -/
abbrev reals (x : Vec Ideal Cert.Pre_finite.S8192x512 .f32) : Fin 8192 → Fin 512 → ℝ := fun i j => (x (ix2 i j)).toReal

/-- The arguments of a device. -/
abbrev arg (m : (ℓ : Loc Cert.KernelIdeal.nD Cert.KernelIdeal.τ Cert.KernelIdeal.sig) → Buf (Elt Ideal) ℓ) (c : Dev Cert.KernelIdeal.nD) :
    Fin 4 → Vec Ideal Cert.Pre_finite.S8192x512 .f32
  | 0 => m ((c.tc : Thread Cert.KernelIdeal.nD Cert.KernelIdeal.τ).loc Cert.KernelIdeal.main_arg0)
  | 1 => m ((c.tc : Thread Cert.KernelIdeal.nD Cert.KernelIdeal.τ).loc Cert.KernelIdeal.main_arg1)
  | 2 => m ((c.tc : Thread Cert.KernelIdeal.nD Cert.KernelIdeal.τ).loc Cert.KernelIdeal.main_arg2)
  | 3 => m ((c.tc : Thread Cert.KernelIdeal.nD Cert.KernelIdeal.τ).loc Cert.KernelIdeal.main_arg3)

variable (m : (ℓ : Loc Cert.KernelIdeal.nD Cert.KernelIdeal.τ Cert.KernelIdeal.sig) → Buf (Elt Ideal) ℓ) (c : Dev Cert.KernelIdeal.nD)

theorem arg_reals (h : Cert.Pre_KernelIdeal_finite m (hPre_finite := Cert.Pre_finite.Gen.facts)) (n : Fin 4) (i : Fin 8192) (j : Fin 512) :
    arg m c n (ix2 i j) = (reals (arg m c n) i j : EReal) := by
  obtain ⟨h0, h1, h2, h3⟩ := h c
  refine Cert.Fin.real_of_lt ?_
  match n with
  | 0 => exact congrFun h0 (ix2 i j)
  | 1 => exact congrFun h1 (ix2 i j)
  | 2 => exact congrFun h2 (ix2 i j)
  | 3 => exact congrFun h3 (ix2 i j)

/-- The three gradients, index by index. -/
abbrev outQ : Vec Ideal Cert.KernelIdeal.S8192x512 .bf16 := fun y => (dqR (scaled (reals (arg m c 0))) (reals (arg m c 3)) (reals (arg m c 1)) (reals (arg m c 2)) (y 0) (y 1) : EReal)
abbrev outK : Vec Ideal Cert.KernelIdeal.S8192x512 .bf16 := fun y => (dkR (scaled (reals (arg m c 0))) (reals (arg m c 3)) (reals (arg m c 1)) (reals (arg m c 2)) (y 0) (y 1) : EReal)
abbrev outV : Vec Ideal Cert.KernelIdeal.S8192x512 .bf16 := fun y => (dvR (scaled (reals (arg m c 0))) (reals (arg m c 3)) (reals (arg m c 1)) (y 0) (y 1) : EReal)

theorem kernel_run (ρ : Dev Cert.KernelIdeal.nD → PrngReg) (h : Cert.Pre_KernelIdeal_finite m (hPre_finite := Cert.Pre_finite.Gen.facts)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v42_0) = outQ m c
      ∧ r.2.mem ((c.tc : Thread Cert.KernelIdeal.nD Cert.KernelIdeal.τ).loc Cert.KernelIdeal.main_v42_1) = outK m c
      ∧ r.2.mem ((c.tc : Thread Cert.KernelIdeal.nD Cert.KernelIdeal.τ).loc Cert.KernelIdeal.main_v42_2) = outV m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run (Cert.KernelIdeal.defs (F := Ideal)) _ _).mono (fun r hr c => ?_)
    (θ_run_and (Cert.KernelIdeal.Bwd.run_main (F := Ideal) m ρ) (Cert.KernelIdeal.Bwd.frame_any (F := Ideal) m ρ))
  have hA := Cert.KernelIdeal.Bwd.arrays m c (reals (arg m c 0)) (reals (arg m c 1)) (reals (arg m c 2)) (reals (arg m c 3))
    (arg_reals m c h 0) (arg_reals m c h 1) (arg_reals m c h 2) (arg_reals m c h 3)
  obtain ⟨⟨hp, _⟩, ⟨hf, _⟩⟩ := hr
  exact ⟨(Pipeline.FramePost.out_eq hp c 7).trans (Cert.KernelIdeal.Bwd.array_q hA),
    (Pipeline.FramePost.out_eq hp c 8).trans (Cert.KernelIdeal.Bwd.array_k hA),
    (Pipeline.FramePost.out_eq hp c 9).trans (Cert.KernelIdeal.Bwd.array_v hA), hf c⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨outQ m, outK m, outV m, kernel_run m g hpre, ?_⟩
  refine (θ_run (Cert.ReferenceIdeal.defs (F := Ideal)) _ _).mono (fun r h c => ?_)
    (Cert.ReferenceIdeal.Value.run (F := Ideal) m' g')
  obtain ⟨hq, hk, hv, h0, h1, h2, h3⟩ := h c
  obtain ⟨e0, e1, e2, e3⟩ := hargs c
  have r0 : Reals (m' ((c.tc : Thread Cert.ReferenceIdeal.nD Cert.ReferenceIdeal.τ).loc Cert.ReferenceIdeal.main_arg0)) (reals (arg m c 0)) := fun i j => by rw [e0]; exact arg_reals m c hpre 0 i j
  have r1 : Reals (m' ((c.tc : Thread Cert.ReferenceIdeal.nD Cert.ReferenceIdeal.τ).loc Cert.ReferenceIdeal.main_arg1)) (reals (arg m c 1)) := fun i j => by rw [e1]; exact arg_reals m c hpre 1 i j
  have r2 : Reals (m' ((c.tc : Thread Cert.ReferenceIdeal.nD Cert.ReferenceIdeal.τ).loc Cert.ReferenceIdeal.main_arg2)) (reals (arg m c 2)) := fun i j => by rw [e2]; exact arg_reals m c hpre 2 i j
  have r3 : Reals (m' ((c.tc : Thread Cert.ReferenceIdeal.nD Cert.ReferenceIdeal.τ).loc Cert.ReferenceIdeal.main_arg3)) (reals (arg m c 3)) := fun i j => by rw [e3]; exact arg_reals m c hpre 3 i j
  refine ⟨hq.trans ?_, hk.trans ?_, hv.trans ?_, h0, h1, h2, h3⟩
  · refine Eq.trans (Cert.ReferenceIdeal.Read.val_main_v53_eq ..).symm ?_
    funext y
    rw [show y = ix2 (y 0) (y 1) from (ix2_eta y).symm]
    exact Cert.ReferenceIdeal.Back.ref_q r0 r1 r2 r3 _ _
  · refine Eq.trans (Cert.ReferenceIdeal.Read.val_main_v54_eq ..).symm ?_
    funext y
    rw [show y = ix2 (y 0) (y 1) from (ix2_eta y).symm]
    exact Cert.ReferenceIdeal.Back.ref_k r0 r1 r2 r3 _ _
  · refine Eq.trans (Cert.ReferenceIdeal.Read.val_main_v55_eq ..).symm ?_
    funext y
    rw [show y = ix2 (y 0) (y 1) from (ix2_eta y).symm]
    exact Cert.ReferenceIdeal.Back.ref_v r0 r1 r3 _ _

/-- A named constant at bit patterns is its literal. -/
@[instance_reducible] def literal : Named Bits := ⟨fun _ _ {φ} b => Scalar.ofBits φ b⟩

theorem frame_kernel : Cert.quiescent_Kernel (hKernel := Cert.Kernel.Gen.facts) := fun m g _ =>
  Eq.mp (by sl_kernel_rfl) (@Cert.KernelIdeal.Bwd.frame_any Bits _ literal m g)

theorem frame_ideal : Cert.quiescent_KernelIdeal (hKernelIdeal := Cert.KernelIdeal.Gen.facts) :=
  fun m g _ => Cert.KernelIdeal.Bwd.frame_any (F := Ideal) m g

theorem frame_ideal_finite : Cert.quiescent_KernelIdeal_pre_finite (hKernelIdeal := Cert.KernelIdeal.Gen.facts) (hPre_finite := Cert.Pre_finite.Gen.facts) :=
  fun m g _ => Cert.KernelIdeal.Bwd.frame_any (F := Ideal) m g

theorem frame_reference : Cert.quiescent_ReferenceIdeal (hReferenceIdeal := Cert.ReferenceIdeal.Gen.facts) :=
  fun m g _ => (θ_run (Cert.ReferenceIdeal.defs (F := Ideal)) _ _).mono
      (fun r h => ⟨fun c => (h c).2.2.2, sem_eq_zero_of_no_sems (by decide) r.2⟩) (Cert.ReferenceIdeal.Value.run (F := Ideal) m g)

theorem frame_reference_finite : Cert.quiescent_ReferenceIdeal_pre_finite (hReferenceIdeal := Cert.ReferenceIdeal.Gen.facts) (hPre_finite := Cert.Pre_finite.Gen.facts) :=
  fun m g _ => frame_reference m g trivial

theorem preserves : Cert.preserves_Kernel_KernelIdeal := IdealRules.named_const.statement Cert.KernelIdeal.κ "dead" .f32 0x43000000#32 ⊤ rfl

end Cert.Attn

end
-- ==== Proof.Fwd.Loop.lean ====
module

public import proofs.«01_k».proof.Proof.Gen.AttnFIdeal.Launch
public import proofs.«01_k».proof.Proof.Gen.AttnFIdeal.Points
public import proofs.«01_k».proof.Proof.Gen.AttnFIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pointwise

/-! The walk over the earlier key blocks: what it carries from block to block, one block of it, and the specification of
the loop, met by its body. -/

@[expose] public section

set_option maxRecDepth 16384

noncomputable section

namespace Cert.AttnFIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnFIdeal Cert.AttnFIdeal.Gen

variable {F : FTy → Type} [FloatOps F] [Named F]

local notation "𝕄" => MT nD τ sig Unit (Elt F) ℕ (UR sig nD τ) ℕ

/-- The variants: the loop's label is entered at the number of blocks left. -/
abbrev 𝒱₀ : Variants := Variants.nat

/-- Key or value block `b` of the head pair in columns `128 p` to `128 p + 127`. -/
def tile (x : Vec F S8192x256 .bf16) (b p : ℕ) : FVec F S256x128 .bf16 := fun j =>
  x (ix2 ⟨(b * 256 + (j 0).val) % 8192, Nat.mod_lt _ (by decide)⟩ ⟨(p * 128 + (j 1).val) % 256, Nat.mod_lt _ (by decide)⟩)

theorem read_tile (a : Memref sig .tc .vmem S8192x256 .bf16) (ha : a.IsWhole) (x : Vec F S8192x256 .bf16) (off : Fin 2 → ℕ)
    (h : ∀ k, off k + S256x128.size k ≤ S8192x256.size k) (b p : ℕ) (ho : off = ![b * 256, p * 128]) :
    View.readAt (Elt F) a.view (Rect.unit (s := S8192x256) off S256x128.size h).toLoadRect (ha.unread x) = tile x b p := by
  subst ho
  funext j
  have h0 := h 0; have h1 := h 1
  have e0 : b * 256 + 256 ≤ 8192 := h0
  have e1 : p * 128 + 128 ≤ 256 := h1
  have l0 : (j 0).val < 256 := (j 0).isLt
  have l1 : (j 1).val < 128 := (j 1).isLt
  refine (ha.readAt_unread x _ j).trans ?_
  unfold tile
  refine congrArg x (funext fun k => Fin.ext ?_)
  match k with
  | ⟨0, _⟩ =>
    show b * 256 + 1 * (j 0).val = (b * 256 + (j 0).val) % 8192
    rw [Nat.mod_eq_of_lt (by omega), Nat.one_mul]
  | ⟨1, _⟩ =>
    show p * 128 + 1 * (j 1).val = (p * 128 + (j 1).val) % 256
    rw [Nat.mod_eq_of_lt (by omega), Nat.one_mul]

/-- What the walk carries: the two head pairs' accumulators and, per head, the running sum and the table of running sums. -/
structure State (F : FTy → Type) where
  o0 : FVec F S256x128 .f32
  o1 : FVec F S256x128 .f32
  r0 : FVec F S256x1 .f32
  t0 : FVec F S256x128 .f32
  r1 : FVec F S256x1 .f32
  t1 : FVec F S256x128 .f32
  r2 : FVec F S256x1 .f32
  t2 : FVec F S256x128 .f32
  r3 : FVec F S256x1 .f32
  t3 : FVec F S256x128 .f32

/-- The four heads' queries, each with the other head of its pair blanked out. -/
structure Queries (F : FTy → Type) where
  q0 : FVec F S256x128 .bf16
  q1 : FVec F S256x128 .bf16
  q2 : FVec F S256x128 .bf16
  q3 : FVec F S256x128 .bf16

/-- One block: the keys of the two pairs `ka kb`, the values `va vb`, the block's number as a word. -/
def next (q : Queries F) (u : FVec F S256x256 .bf16) (ln : IVec S256x128 32) (w : BitVec 32) (ka kb va vb : FVec F S256x128 .bf16) (s : State F) : State F where
  o0 := k0_pay7 s.o0 s.r1 (k0_pay113 va) (k0_pay136 u s.r0 (k0_pay120 q.q0 ka) (k0_pay121 q.q0 ka)) (k0_pay137 u (k0_pay116 q.q1 ka) (k0_pay123 q.q1 ka) (k0_pay124 q.q1 ka))
  o1 := k0_pay8 s.o1 s.r2 s.r3 (k0_pay114 vb) (k0_pay127 (k0_pay117 q.q2 kb)) (k0_pay129 (k0_pay118 q.q3 kb)) (k0_pay130 u (k0_pay117 q.q2 kb)) (k0_pay131 u (k0_pay118 q.q3 kb))
  r0 := k0_pay132 s.r0 (k0_pay122 q.q0 ka)
  t0 := k0_pay9 ln w s.r0 s.t0
  r1 := k0_pay133 s.r1 (k0_pay123 q.q1 ka) (k0_pay124 q.q1 ka)
  t1 := k0_pay10 ln w s.r1 s.t1
  r2 := k0_pay134 s.r2 (k0_pay117 q.q2 kb)
  t2 := k0_pay11 ln w s.r2 s.t2
  r3 := k0_pay135 s.r3 (k0_pay118 q.q3 kb)
  t3 := k0_pay12 ln w s.r3 s.t3

/-- The walk goes on at block `w`: there is such a block and some row's weight is not yet below what counts. -/
def Open (w : BitVec 32) (s : State F) : Prop :=
  Scalar.andi (Scalar.cmpi .sge w 0#32) (Scalar.cmpf .olt (k0_pay6 s.r0 s.r1 s.r2 s.r3) (Named.named κ "alive" 0x43000000#32 : F .f32)) = 1#1

instance (w : BitVec 32) (s : State F) : Decidable (Open w s) := by unfold Open; infer_instance

/-- The walk with `k` blocks left, the last first. -/
def walk (q : Queries F) (u : FVec F S256x256 .bf16) (ln : IVec S256x128 32) (x1 x2 : Vec F S8192x256 .bf16) : ℕ → State F → State F
  | 0, s => s
  | k + 1, s => if Open (BitVec.ofNat 32 k) s then
      walk q u ln x1 x2 k (next q u ln (BitVec.ofNat 32 k) (tile x1 k 0) (tile x1 k 1) (tile x2 k 0) (tile x2 k 1) s)
    else s

/-- The counter with `k` blocks left. -/
def Counts : ℕ → BitVec 32 → Prop
  | 0, w => ¬ Scalar.cmpi .sge w 0#32 = 1#1
  | k + 1, w => w = BitVec.ofNat 32 k ∧ k < 32

theorem chk_at : ∀ b : Fin 32, k0_chk1 (BitVec.ofNat 32 b.val) := by decide +kernel
theorem off5_at : ∀ b : Fin 32, k0_off5 (BitVec.ofNat 32 b.val) = ![b.val * 256, 0 * 128] := by decide +kernel
theorem off6_at : ∀ b : Fin 32, k0_off6 (BitVec.ofNat 32 b.val) = ![b.val * 256, 1 * 128] := by decide +kernel
theorem counts_pred : ∀ k : Fin 32, Counts k.val (Scalar.subi (BitVec.ofNat 32 k.val) 1#32)
  | ⟨0, _⟩ => by
      show ¬ Scalar.cmpi .sge (Scalar.subi (BitVec.ofNat 32 0) 1#32) 0#32 = 1#1
      decide
  | ⟨k + 1, h⟩ => ⟨by
      show BitVec.ofNat 32 (k + 1) - 1#32 = BitVec.ofNat 32 k
      rw [BitVec.ofNat_add]; exact BitVec.add_sub_cancel _ _, by omega⟩

theorem closed_of_neg {w : BitVec 32} (s : State F) (h : ¬ Scalar.cmpi .sge w 0#32 = 1#1) : ¬ Open w s := by
  unfold Open
  rcases (by decide : ∀ b : BitVec 1, b = 0#1 ∨ b = 1#1) (Scalar.cmpi .sge w 0#32) with e | e
  · rw [e]
    rcases (by decide : ∀ b : BitVec 1, b = 0#1 ∨ b = 1#1) (Scalar.cmpf .olt (k0_pay6 s.r0 s.r1 s.r2 s.r3) (Named.named κ "alive" 0x43000000#32 : F .f32)) with e' | e' <;> rw [e'] <;> decide
  · exact absurd e h

section Label

variable (c : Dev nD) (i : grid0.Coords) (a3 : Memref sig .tc .vmem S8192x256 .bf16) (h3 : a3.IsWhole)
  (a4 : Memref sig .tc .vmem S8192x256 .bf16) (h4 : a4.IsWhole) (q : Queries F) (u : FVec F S256x256 .bf16) (ln : IVec S256x128 32)
  (x1 x2 : Vec F S8192x256 .bf16)

/-- The keys and values, held whole. -/
def held : sProp 𝕄 :=
  iprop((a3.view.loc (c : Thread nD τ) ↦[a3.view.set]{fullShare} h3.unread x1) ∗ (a4.view.loc (c : Thread nD τ) ↦[a4.view.set]{fullShare} h4.unread x2))

abbrev Res (F : FTy → Type) : Type :=
  BitVec 32 × FVec F S256x128 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32

/-- The walk's results, some counter first. -/
def res (w : BitVec 32) (s : State F) : Res F := (w, s.o0, s.o1, s.r0, s.t0, s.r1, s.t1, s.r2, s.t2, s.r3, s.t3)

/-- With `k` blocks left: holding the keys and the values it returns some counter and the walk's end, the two as they were. -/
def spec (k : ℕ) (s : State F) : sWPT 𝕄 (Res F) := do
  sWPT.consume (held c a3 h3 a4 h4 x1 x2)
  let w : BitVec 32 ← sWPT.arbitrary
  sWPT.produce (held c a3 h3 a4 h4 x1 x2)
  pure (res w (walk q u ln x1 x2 k s))

theorem spec_apply (k : ℕ) (s : State F) (K : Res F → sProp 𝕄) :
    spec c a3 h3 a4 h4 q u ln x1 x2 k s K
      = iprop(held c a3 h3 a4 h4 x1 x2 ∗ ∀ w : BitVec 32, (held c a3 h3 a4 h4 x1 x2 -∗ K (res w (walk q u ln x1 x2 k s)))) := rfl

/-- The record the loop is called on. -/
abbrev args (w : BitVec 32) (s : State F) : Cc0While1 F :=
  ⟨i, a3, h3, a4, h4, q.q0, q.q1, q.q2, q.q3, u, ln, w, s.o0, s.o1, s.r0, s.t0, s.r1, s.t1, s.r2, s.t2, s.r3, s.t3⟩

set_option maxHeartbeats 4000000 in
theorem spec_le (E : Set ℕ) :
    ∀ (k : ℕ) (w : BitVec 32), Counts k w → ∀ (s : State F) (K : Res F → sProp 𝕄), spec c a3 h3 a4 h4 q u ln x1 x2 k s K
      ⊢ wp frame (wpE (defs₀ (F := F)) 𝒱₀ (c : Thread nD τ) (some k)) E (defs₀ (F := F) .tc 1 (args i a3 h3 a4 h4 q u ln w s)) K := by
  intro k
  induction k with
  | zero =>
    intro w hw s K
    rw [spec_apply]
    show _ ⊢ wp frame (wpE (defs₀ (F := F)) 𝒱₀ (c : Thread nD τ) (some 0)) E
      (cc0_while1 i a3 h3 a4 h4 q.q0 q.q1 q.q2 q.q3 u ln w s.o0 s.o1 s.r0 s.t0 s.r1 s.t1 s.r2 s.t2 s.r3 s.t3) K
    simp only [cc0_while1_eq_skeleton]; unfold cc0_while1_skel
    have htest := closed_of_neg s hw
    unfold Open at htest
    simp only [htest, ↓reduceIte, Prog.pure_eq_ret]
    rw [show ((w, s.o0, s.o1, s.r0, s.t0, s.r1, s.t1, s.r2, s.t2, s.r3, s.t3) : Res F) = res w (walk q u ln x1 x2 0 s) from rfl]
    iintro ⟨H, Hk⟩
    rw [wp_ret]; imodintro
    iapply Hk
    iexact H
  | succ k ih =>
    intro w hw s K
    obtain ⟨rfl, hk⟩ := hw
    rw [spec_apply]
    show _ ⊢ wp frame (wpE (defs₀ (F := F)) 𝒱₀ (c : Thread nD τ) (some (k + 1))) E
      (cc0_while1 i a3 h3 a4 h4 q.q0 q.q1 q.q2 q.q3 u ln (BitVec.ofNat 32 k) s.o0 s.o1 s.r0 s.t0 s.r1 s.t1 s.r2 s.t2 s.r3 s.t3) K
    simp only [cc0_while1_eq_skeleton]; unfold cc0_while1_skel
    by_cases htest : Open (BitVec.ofNat 32 k) s
    · have hwalk : walk q u ln x1 x2 (k + 1) s = walk q u ln x1 x2 k (next q u ln (BitVec.ofNat 32 k) (tile x1 k 0) (tile x1 k 1) (tile x2 k 0) (tile x2 k 1) s) := by
        rw [walk, if_pos htest]
      rw [hwalk]
      have ht := htest
      unfold Open at ht
      simp only [k0_part9_eq_skeleton, k0_part10_eq_skeleton]; unfold k0_part9_skel k0_part10_skel
      simp only [ht, ↓reduceIte, Prog.lift, Prog.bind_op, Prog.bind_ret, Prog.pure_eq_ret]
      unfold held
      iintro ⟨⟨H1, H2⟩, Hk⟩
      iapply (wp_assume 𝒱₀ (c : Thread nD τ) (some (k + 1)) E (chk_at ⟨k, hk⟩))
      iapply (wp_load 𝒱₀ (c : Thread nD τ) (some (k + 1)) E (m := a3) (View.setOn_subset_set _ _)) $$ H1; iintro H1
      iapply (wp_load 𝒱₀ (c : Thread nD τ) (some (k + 1)) E (m := a3) (View.setOn_subset_set _ _)) $$ H1; iintro H1
      iapply (wp_load 𝒱₀ (c : Thread nD τ) (some (k + 1)) E (m := a4) (View.setOn_subset_set _ _)) $$ H2; iintro H2
      iapply (wp_load 𝒱₀ (c : Thread nD τ) (some (k + 1)) E (m := a4) (View.setOn_subset_set _ _)) $$ H2; iintro H2
      rw [read_tile a3 h3 x1 _ _ k 0 (off5_at ⟨k, hk⟩), read_tile a3 h3 x1 _ _ k 1 (off6_at ⟨k, hk⟩), read_tile a4 h4 x2 _ _ k 0 (off5_at ⟨k, hk⟩), read_tile a4 h4 x2 _ _ k 1 (off6_at ⟨k, hk⟩)]
      iapply (wp_call_spec 𝒱₀ (c : Thread nD τ) (some (k + 1)) E
        (spec c a3 h3 a4 h4 q u ln x1 x2 k (next q u ln (BitVec.ofNat 32 k) (tile x1 k 0) (tile x1 k 1) (tile x2 k 0) (tile x2 k 1) s)) k
        (fun u hu => by cases hu; exact Nat.lt_succ_self k)
        (ih _ (counts_pred ⟨k, hk⟩) (next q u ln (BitVec.ofNat 32 k) (tile x1 k 0) (tile x1 k 1) (tile x2 k 0) (tile x2 k 1) s)))
      rw [spec_apply]; unfold held
      isplitl [H1 H2]
      · isplitl [H1]; · iexact H1
        iexact H2
      iintro %r ⟨H1, H2⟩
      rw [wp_ret]; imodintro
      iapply Hk
      isplitl [H1]; · iexact H1
      iexact H2
    · have hwalk : walk q u ln x1 x2 (k + 1) s = s := by rw [walk, if_neg htest]
      rw [hwalk]
      unfold Open at htest
      simp only [htest, ↓reduceIte, Prog.pure_eq_ret]
      rw [show ((BitVec.ofNat 32 k, s.o0, s.o1, s.r0, s.t0, s.r1, s.t1, s.r2, s.t2, s.r3, s.t3) : Res F) = res (BitVec.ofNat 32 k) s from rfl]
      iintro ⟨H, Hk⟩
      rw [wp_ret]; imodintro
      iapply Hk
      iexact H

end Label

end Cert.AttnFIdeal.Fwd

end
-- ==== Proof.Fwd.Head.lean ====
module

public import proofs.«01_k».proof.Proof.Fwd.Loop

/-! One head of the forward attention: a key block's logits, the softplus of them, what the block adds to the head's
output and running sum; the two blocks every query tile starts with and one block of the walk, by these. -/

@[expose] public section

set_option maxRecDepth 16384

noncomputable section

namespace Cert.AttnFIdeal.Fwd

open Idealize.ShloMosaic Idealize.ShloMosaic.TcCoe
open Cert.AttnFIdeal Cert.AttnFIdeal.Gen

variable {F : FTy → Type} [FloatOps F] [Named F]

/-- The logits of a query tile against a key block. -/
def logits (q k : FVec F S256x128 .bf16) : FVec F S256x256 .f32 :=
  matmul dot_S256x128_S256x128_S256x256_1_1_0_0_n_n none q k (constant S256x256 .f32 0x00000000#32)

/-- Softplus, elementwise. -/
abbrev splus (z : FVec F S256x256 .f32) : FVec F S256x256 .f32 := k0_pay126 z

def rowsum (z : FVec F S256x256 .f32) : FVec F S256x1 .f32 :=
  shapeCast S256x1 (multiReduction .add [1] S256 z 0x00000000#32 reduces_S256x256_S256 (.inl rfl) rfl) shapeCasts_S256_S256x1

/-- The weights before masking: the softplus sums inside the block come from `s` times the strictly lower ones. -/
def expo (z s : FVec F S256x256 .f32) (u : FVec F S256x256 .bf16) (r : FVec F S256x1 .f32) : FVec F S256x256 .f32 :=
  exp (subf (subf (subf z (splus z)) (matmul dot_S256x256_S256x256_S256x256_1_0_0_1_n_n none (truncf .bf16 s bitsLt_bf16_f32) u (constant S256x256 .f32 0x00000000#32)))
    (broadcastTo S256x256 r broadcasts_S256x1_S256x256))

/-- The block's part of the output. -/
def part (a : FVec F S256x256 .f32) (v : FVec F S256x128 .bf16) : FVec F S256x128 .f32 :=
  matmul dot_S256x256_S256x128_S256x128_1_0_0_1_n_n none (truncf .bf16 a bitsLt_bf16_f32) v (constant S256x128 .f32 0x00000000#32)

/-- Two heads' parts in their own columns. -/
def side (x y : FVec F S256x128 .f32) : FVec F S256x128 .f32 :=
  select (cmpi .slt (iota .tc S256x128 32 [1] iota_S256x128_d1_w32) (broadcast S256x128 64#32)) x y

/-- The table of running sums with lane `w` set. -/
def put (ln : IVec S256x128 32) (w : BitVec 32) (r : FVec F S256x1 .f32) (t : FVec F S256x128 .f32) : FVec F S256x128 .f32 :=
  select (cmpi .eq ln (broadcast S256x128 w)) (broadcastTo S256x128 (shapeCast S256x1 r shapeCasts_S256x1_S256x1) broadcasts_S256x1_S256x128) t

/-- Where the causal mask lets a key of the diagonal block through. -/
abbrev low : IVec S256x256 1 := k0_pay14
/-- The diagonal block's softplus, masked. -/
def cut (x : FVec F S256x256 .f32) : FVec F S256x256 .f32 := select low x (broadcast S256x256 (Scalar.ofBits .f32 0x00000000#32 : F .f32))
/-- The second block's, taken only where there is one. -/
def times (e : F .f32) (x : FVec F S256x256 .f32) : FVec F S256x256 .f32 := mulf x (broadcast S256x256 e)

abbrev lanes : IVec S256x128 32 := iota .tc S256x128 32 [1] iota_S256x128_d1_w32
/-- One where there is a block before the diagonal one, zero otherwise. -/
abbrev there (n : BitVec 32) : F .f32 := k0_pay24 n

/-- A head's running sum before the second block. -/
def first (q k : FVec F S256x128 .bf16) : FVec F S256x1 .f32 := addf (k0_pay22) (rowsum (cut (splus (logits q k))))
/-- A head's running sum after the two blocks. -/
def second (n : BitVec 32) (q k k' : FVec F S256x128 .bf16) : FVec F S256x1 .f32 := addf (first q k) (rowsum (times (there n) (splus (logits q k'))))
/-- A head's output from the diagonal block. -/
def diag (u : FVec F S256x256 .bf16) (q k v : FVec F S256x128 .bf16) : FVec F S256x128 .f32 :=
  part (cut (expo (logits q k) (cut (splus (logits q k))) u k0_pay22)) v
/-- A head's output from the second block. -/
def off (n : BitVec 32) (u : FVec F S256x256 .bf16) (q k k' v' : FVec F S256x128 .bf16) : FVec F S256x128 .f32 :=
  part (times (there n) (expo (logits q k') (times (there n) (splus (logits q k'))) u (first q k))) v'
/-- A head's table after the two blocks. -/
def table (n : BitVec 32) (q k : FVec F S256x128 .bf16) : FVec F S256x128 .f32 :=
  put lanes (Scalar.subi n 1#32) (first q k) (put lanes n k0_pay22 k0_pay23)

/-- The walk's start: the diagonal block and the one before it. -/
def start (n : BitVec 32) (q : Queries F) (u : FVec F S256x256 .bf16) (ka kb ka' kb' va vb va' vb' : FVec F S256x128 .bf16) : State F where
  o0 := addf k0_pay21 (addf (side (diag u q.q0 ka va) (diag u q.q1 ka va)) (side (off n u q.q0 ka ka' va') (off n u q.q1 ka ka' va')))
  o1 := addf k0_pay21 (addf (side (diag u q.q2 kb vb) (diag u q.q3 kb vb)) (side (off n u q.q2 kb kb' vb') (off n u q.q3 kb kb' vb')))
  r0 := second n q.q0 ka ka'
  t0 := table n q.q0 ka
  r1 := second n q.q1 ka ka'
  t1 := table n q.q1 ka
  r2 := second n q.q2 kb kb'
  t2 := table n q.q2 kb
  r3 := second n q.q3 kb kb'
  t3 := table n q.q3 kb

/-- A head's output from one block of the walk. -/
def more (u : FVec F S256x256 .bf16) (q k v : FVec F S256x128 .bf16) (r : FVec F S256x1 .f32) : FVec F S256x128 .f32 :=
  part (expo (logits q k) (splus (logits q k)) u r) v

/-- A block loaded is the block. -/
theorem cast_tile (x : FVec F S256x128 .bf16) : shapeCast S256x128 x shapeCasts_S256x128_S256x128 = x := shapeCast_self _ _

/-- One block of the walk, by the heads. -/
theorem next_eq (q : Queries F) (u : FVec F S256x256 .bf16) (ln : IVec S256x128 32) (w : BitVec 32) (ka kb va vb : FVec F S256x128 .bf16) (s : State F) :
    next q u ln w ka kb va vb s =
      ⟨addf s.o0 (side (more u q.q0 ka va s.r0) (more u q.q1 ka va s.r1)), addf s.o1 (side (more u q.q2 kb vb s.r2) (more u q.q3 kb vb s.r3)),
        addf s.r0 (rowsum (splus (logits q.q0 ka))), put ln w s.r0 s.t0, addf s.r1 (rowsum (splus (logits q.q1 ka))), put ln w s.r1 s.t1,
        addf s.r2 (rowsum (splus (logits q.q2 kb))), put ln w s.r2 s.t2, addf s.r3 (rowsum (splus (logits q.q3 kb))), put ln w s.r3 s.t3⟩ := by
  simp only [next, k0_pay113, k0_pay114, k0_pay115, k0_pay116, k0_pay117, k0_pay118, k0_pay119, k0_pay120, k0_pay121, k0_pay122, k0_pay123, k0_pay124,
    k0_pay111, k0_pay112, cast_tile]
  rfl

end Cert.AttnFIdeal.Fwd

end
-- ==== Proof.Fwd.Run.lean ====
module

public import proofs.«01_k».proof.Proof.Fwd.Head

/-! The body at one grid point: the two first blocks, the walk over the earlier ones, and what it writes. -/

@[expose] public section

set_option maxRecDepth 16384

noncomputable section

namespace Cert.AttnFIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnFIdeal Cert.AttnFIdeal.Gen

variable {F : FTy → Type} [FloatOps F] [Named F]

local notation "𝕄" => MT nD τ sig Unit (Elt F) ℕ (UR sig nD τ) ℕ

/-- A query tile's columns `128 p` to `128 p + 127`: the pair `p`'s heads. -/
def qtile (x : Vec F S256x256 .bf16) (p : ℕ) : FVec F S256x128 .bf16 := fun j =>
  x (ix2 (j 0) ⟨(p * 128 + (j 1).val) % 256, Nat.mod_lt _ (by decide)⟩)

theorem read_qtile (a : Memref sig .tc .vmem S256x256 .bf16) (ha : a.IsWhole) (x : Vec F S256x256 .bf16) (off : Fin 2 → ℕ)
    (h : ∀ k, off k + S256x128.size k ≤ S256x256.size k) (p : ℕ) (ho : off = ![0, p * 128]) :
    View.readAt (Elt F) a.view (Rect.unit (s := S256x256) off S256x128.size h).toLoadRect (ha.unread x) = qtile x p := by
  subst ho
  funext j
  have e1 : p * 128 + 128 ≤ 256 := h 1
  have l1 : (j 1).val < 128 := (j 1).isLt
  refine (ha.readAt_unread x _ j).trans ?_
  unfold qtile
  refine congrArg x (funext fun k => Fin.ext ?_)
  match k with
  | ⟨0, _⟩ => show 0 + 1 * (j 0).val = (j 0).val; omega
  | ⟨1, _⟩ =>
    show p * 128 + 1 * (j 1).val = (p * 128 + (j 1).val) % 256
    rw [Nat.mod_eq_of_lt (by omega), Nat.one_mul]

theorem read_all (a : Memref sig .tc .vmem S256x256 .bf16) (ha : a.IsWhole) (x : Vec F S256x256 .bf16)
    (h : ∀ k, (![0, 0] : Fin 2 → ℕ) k + S256x256.size k ≤ S256x256.size k) :
    View.readAt (Elt F) a.view (Rect.unit (s := S256x256) ![0, 0] S256x256.size h).toLoadRect (ha.unread x) = x := by
  funext j
  refine (ha.readAt_unread x _ j).trans ?_
  refine congrArg x (funext fun k => Fin.ext ?_)
  match k with
  | ⟨0, _⟩ => show 0 + 1 * (j 0).val = (j 0).val; omega
  | ⟨1, _⟩ => show 0 + 1 * (j 1).val = (j 1).val; omega

/-- The four heads' queries of a tile. -/
def queries (x : Vec F S256x256 .bf16) : Queries F :=
  ⟨k0_pay15 (qtile x 0), k0_pay16 (qtile x 0), k0_pay19 (k0_pay17 (qtile x 1)) k0_pay18, k0_pay20 (qtile x 1)⟩

/-- The walk's start at query tile `n`. -/
def startAt (n : ℕ) (x0 : Vec F S256x256 .bf16) (x1 x2 : Vec F S8192x256 .bf16) (x3 : Vec F S256x256 .bf16) : State F :=
  start (BitVec.ofNat 32 n) (queries x0) x3 (tile x1 n 0) (tile x1 n 1) (tile x1 (n - 1) 0) (tile x1 (n - 1) 1)
    (tile x2 n 0) (tile x2 n 1) (tile x2 (n - 1) 0) (tile x2 (n - 1) 1)

/-- Its end: the blocks before the two walked. -/
def endAt (n : ℕ) (x0 : Vec F S256x256 .bf16) (x1 x2 : Vec F S8192x256 .bf16) (x3 : Vec F S256x256 .bf16) : State F :=
  walk (queries x0) x3 lanes x1 x2 (n - 1) (startAt n x0 x1 x2 x3)

theorem off1_at : ∀ i : grid0.Coords, k0_off1 i = ![(i 1).val * 256, 0 * 128] := by decide +kernel
theorem off2_at : ∀ i : grid0.Coords, k0_off2 i = ![(i 1).val * 256, 1 * 128] := by decide +kernel
theorem off3_at : ∀ i : grid0.Coords, k0_off3 i = ![((i 1).val - 1) * 256, 0 * 128] := by decide +kernel
theorem off4_at : ∀ i : grid0.Coords, k0_off4 i = ![((i 1).val - 1) * 256, 1 * 128] := by decide +kernel

theorem logits_39 (q k : FVec F S256x128 .bf16) : k0_pay39 q k = logits q k := by
  unfold k0_pay39 k0_pay28; rw [cast_tile]; rfl
theorem logits_40 (q k : FVec F S256x128 .bf16) : k0_pay40 q k = logits q k := by
  unfold k0_pay40 k0_pay28; rw [cast_tile]; rfl

theorem counts_first : ∀ n : ℕ, n < 32 → Counts (n - 1) (Scalar.subi (BitVec.ofNat 32 n) 2#32)
  | 0, _ => by
      show ¬ Scalar.cmpi .sge (Scalar.subi (BitVec.ofNat 32 0) 2#32) 0#32 = 1#1
      decide
  | 1, _ => by
      show ¬ Scalar.cmpi .sge (Scalar.subi (BitVec.ofNat 32 1) 2#32) 0#32 = 1#1
      decide
  | k + 2, h => ⟨by
      show BitVec.ofNat 32 (k + 2) - 2#32 = BitVec.ofNat 32 k
      rw [BitVec.ofNat_add]; exact BitVec.add_sub_cancel _ _, by omega⟩

set_option maxHeartbeats 4000000 in
/-- The body at a query tile. -/
def run (c : Dev nD) (i : grid0.Coords)
    (a2 : Memref sig .tc .vmem S256x256 .bf16) (h2 : a2.IsWhole) (a3 : Memref sig .tc .vmem S8192x256 .bf16) (h3 : a3.IsWhole)
    (a4 : Memref sig .tc .vmem S8192x256 .bf16) (h4 : a4.IsWhole) (a5 : Memref sig .tc .vmem S256x256 .bf16) (h5 : a5.IsWhole)
    (a6 : Memref sig .tc .vmem S256x256 .f32) (h6 : a6.IsWhole) (a7 : Memref sig .tc .vmem S4x256x128 .f32) (h7 : a7.IsWhole)
    (x0 : Vec F S256x256 .bf16) (x1 x2 : Vec F S8192x256 .bf16) (x3 : Vec F S256x256 .bf16) :
    Σ' (L6 : List (View.Piece (Elt F) S256x256 .f32)),
    { L7 : List (View.Piece (Elt F) S4x256x128 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3
            ∗ (∃ d, owns (c : Thread nD τ) a6 fullShare d) ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)) -∗ K ⟨⟩))
          ⊢ wp frame (wpE (defs₀ (F := F)) 𝒱₀ c none) E (cc0_attn_fwd1 i a2 h2 a3 h3 a4 h4 a5 h5 a6 h6 a7 h7) K } := by
  refine ⟨?_, ?_, fun E K => ?run⟩
  case run =>
    have hi : (i 1).val < 32 := (i 1).isLt
    simp only [cc0_attn_fwd1_eq_skeleton]; unfold cc0_attn_fwd1_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold k0_part1_skel k0_part2_skel k0_part3_skel k0_part4_skel k0_part5_skel k0_part6_skel k0_part7_skel k0_part8_skel
    simp only [Prog.lift, Prog.bind_op, Prog.bind_ret, Prog.pure_eq_ret]
    unfold owns
    iintro ⟨⟨%f2, %e2, H2⟩, ⟨%f3, %e3, H3⟩, ⟨%f4, %e4, H4⟩, ⟨%f5, %e5, H5⟩, ⟨%d6, %f6, -, H6⟩, ⟨%d7, %f7, -, H7⟩, Hk⟩
    obtain rfl := h2.eq_unread e2; obtain rfl := h3.eq_unread e3; obtain rfl := h4.eq_unread e4; obtain rfl := h5.eq_unread e5
    iapply (wp_load 𝒱₀ (c : Thread nD τ) none E (m := a5) (View.setOn_subset_set _ _)) $$ H5; iintro H5
    iapply (wp_load 𝒱₀ (c : Thread nD τ) none E (m := a2) (View.setOn_subset_set _ _)) $$ H2; iintro H2
    iapply (wp_load 𝒱₀ (c : Thread nD τ) none E (m := a2) (View.setOn_subset_set _ _)) $$ H2; iintro H2
    iapply (wp_load 𝒱₀ (c : Thread nD τ) none E (m := a2) (View.setOn_subset_set _ _)) $$ H2; iintro H2
    iapply (wp_load 𝒱₀ (c : Thread nD τ) none E (m := a2) (View.setOn_subset_set _ _)) $$ H2; iintro H2
    iapply (wp_load 𝒱₀ (c : Thread nD τ) none E (m := a3) (View.setOn_subset_set _ _)) $$ H3; iintro H3
    iapply (wp_load 𝒱₀ (c : Thread nD τ) none E (m := a3) (View.setOn_subset_set _ _)) $$ H3; iintro H3
    iapply (wp_load 𝒱₀ (c : Thread nD τ) none E (m := a3) (View.setOn_subset_set _ _)) $$ H3; iintro H3
    iapply (wp_load 𝒱₀ (c : Thread nD τ) none E (m := a3) (View.setOn_subset_set _ _)) $$ H3; iintro H3
    iapply (wp_load 𝒱₀ (c : Thread nD τ) none E (m := a4) (View.setOn_subset_set _ _)) $$ H4; iintro H4
    iapply (wp_load 𝒱₀ (c : Thread nD τ) none E (m := a4) (View.setOn_subset_set _ _)) $$ H4; iintro H4
    iapply (wp_load 𝒱₀ (c : Thread nD τ) none E (m := a4) (View.setOn_subset_set _ _)) $$ H4; iintro H4
    iapply (wp_load 𝒱₀ (c : Thread nD τ) none E (m := a4) (View.setOn_subset_set _ _)) $$ H4; iintro H4
    rw [read_all a5 h5 x3, read_qtile a2 h2 x0 ![0, 0] _ 0 rfl, read_qtile a2 h2 x0 ![0, 128] _ 1 rfl,
      read_tile a3 h3 x1 _ _ _ 0 (off1_at i), read_tile a3 h3 x1 _ _ _ 1 (off2_at i), read_tile a3 h3 x1 _ _ _ 0 (off3_at i), read_tile a3 h3 x1 _ _ _ 1 (off4_at i),
      read_tile a4 h4 x2 _ _ _ 0 (off1_at i), read_tile a4 h4 x2 _ _ _ 1 (off2_at i), read_tile a4 h4 x2 _ _ _ 0 (off3_at i), read_tile a4 h4 x2 _ _ _ 1 (off4_at i)]
    simp only [show k0_pay13 x3 = x3 from shapeCast_self _ _, show ∀ v : Vec F S256x128 .bf16, k0_pay25 v = v from cast_tile, show ∀ v : Vec F S256x128 .bf16, k0_pay26 v = v from cast_tile, show ∀ v : Vec F S256x128 .bf16, k0_pay27 v = v from cast_tile,
      show ∀ v : Vec F S256x128 .bf16, k0_pay29 v = v from cast_tile, show ∀ v : Vec F S256x128 .bf16, k0_pay30 v = v from cast_tile,
      show ∀ v : Vec F S256x128 .bf16, k0_pay31 v = v from cast_tile, show ∀ v : Vec F S256x128 .bf16, k0_pay32 v = v from cast_tile, logits_39, logits_40]
    iapply (wp_call_spec 𝒱₀ (c : Thread nD τ) none E (spec c a3 h3 a4 h4 (queries x0) x3 lanes x1 x2 ((i 1).val - 1) (startAt (i 1).val x0 x1 x2 x3))
      ((i 1).val - 1) (fun u hu => nomatch hu) (spec_le c i a3 h3 a4 h4 (queries x0) x3 lanes x1 x2 E _ _ (counts_first (i 1).val hi) (startAt (i 1).val x0 x1 x2 x3)))
    rw [spec_apply]; unfold held
    isplitl [H3 H4]
    · isplitl [H3]; · iexact H3
      iexact H4
    iintro %w ⟨H3, H4⟩
    simp only [res]
    rw [show walk (queries x0) x3 lanes x1 x2 ((i 1).val - 1) (startAt (i 1).val x0 x1 x2 x3) = endAt (i 1).val x0 x1 x2 x3 from rfl]
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    iexists _; iexact H7

end Cert.AttnFIdeal.Fwd

end
-- ==== Proof.Fwd.Frame.lean ====
module

public import proofs.«01_k».proof.Proof.Fwd.Run
public import Idealize.ShloMosaic.Lib.Claim

/-! What every grid point of the forward attention leaves, and the run of the whole program. -/

@[expose] public section

set_option maxRecDepth 16384

noncomputable section

namespace Cert.AttnFIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnFIdeal Cert.AttnFIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the region starts: the host's lines applied. -/
abbrev V (c : Dev nD) (b : Ref sig .tc) : Buf (Elt F) ((c : Thread nD τ).loc b) :=
  StableHlo.after (List.flatten [hostOps0]) (fun b => m (c, b)) b

theorem lines_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact lines_fresh) main_chain

/-- No line of the host's writes an argument. -/
theorem lines_keep (c : Dev nD) (b : Ref sig .tc) (hb : b = main_arg0 ∨ b = main_arg1 ∨ b = main_arg2) : V m c b = m ((c : Thread nD τ).loc b) := by
  refine StableHlo.after_of_forall_not_mem (b := Proc.devRef .tc b) _ _ (List.forall_iff_forall_mem.mp ?_)
  rcases hb with rfl | rfl | rfl
  all_goals
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)

/-- A window's block at a grid point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Window 0's current staging memref, whole. -/
abbrev sg0 (t : Fin (cfg0 (F := F)).N) : Memref sig .tc .vmem S256x256 .bf16 := win0_0.stage ((cfg0 (F := F)).slots t 0)
abbrev hw0 (t : Fin (cfg0 (F := F)).N) : (sg0 t).IsWhole := hstage0_0 (((cfg0 (F := F)).slots t 0).cast nbuf0_0)

/-- Window 1's current staging memref, whole. -/
abbrev sg1 (t : Fin (cfg0 (F := F)).N) : Memref sig .tc .vmem S8192x256 .bf16 := win0_1.stage ((cfg0 (F := F)).slots t 1)
abbrev hw1 (t : Fin (cfg0 (F := F)).N) : (sg1 t).IsWhole := hstage0_1 (((cfg0 (F := F)).slots t 1).cast nbuf0_1)

/-- Window 2's current staging memref, whole. -/
abbrev sg2 (t : Fin (cfg0 (F := F)).N) : Memref sig .tc .vmem S8192x256 .bf16 := win0_2.stage ((cfg0 (F := F)).slots t 2)
abbrev hw2 (t : Fin (cfg0 (F := F)).N) : (sg2 t).IsWhole := hstage0_2 (((cfg0 (F := F)).slots t 2).cast nbuf0_2)

/-- Window 3's current staging memref, whole. -/
abbrev sg3 (t : Fin (cfg0 (F := F)).N) : Memref sig .tc .vmem S256x256 .bf16 := win0_3.stage ((cfg0 (F := F)).slots t 3)
abbrev hw3 (t : Fin (cfg0 (F := F)).N) : (sg3 t).IsWhole := hstage0_3 (((cfg0 (F := F)).slots t 3).cast nbuf0_3)

/-- Window 4's current staging memref, whole. -/
abbrev sg4 (t : Fin (cfg0 (F := F)).N) : Memref sig .tc .vmem S256x256 .f32 := win0_4.stage ((cfg0 (F := F)).slots t 4)
abbrev hw4 (t : Fin (cfg0 (F := F)).N) : (sg4 t).IsWhole := hstage0_4 (((cfg0 (F := F)).slots t 4).cast nbuf0_4)

/-- Window 5's current staging memref, whole. -/
abbrev sg5 (t : Fin (cfg0 (F := F)).N) : Memref sig .tc .vmem S4x256x128 .f32 := win0_5.stage ((cfg0 (F := F)).slots t 5)
abbrev hw5 (t : Fin (cfg0 (F := F)).N) : (sg5 t).IsWhole := hstage0_5 (((cfg0 (F := F)).slots t 5).cast nbuf0_5)

/-- The body's run at a grid point's own buffers and blocks. -/
abbrev here (c : Dev nD) (t : Fin (cfg0 (F := F)).N) :=
  run c (grid0.coords t) (sg0 t) (hw0 t) (sg1 t) (hw1 t) (sg2 t) (hw2 t) (sg3 t) (hw3 t) (sg4 t) (hw4 t) (sg5 t) (hw5 t) (iblk m c 0 t) (iblk m c 1 t) (iblk m c 2 t) (iblk m c 3 t)

/-- The pieces written into a buffer they cover, read back. -/
abbrev over {S : Shape} {e : EltTy} (a : Memref sig .tc .vmem S e) (L : List (View.Piece (Elt F) S e)) : Vec F S e :=
  a.view.read (Elt F) (a.view.writes (Elt F) a.view.junk L)

/-- The proof data of the one pipeline. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => over (sg4 t) (here m c t).1
    | ⟨5, _⟩ => over (sg5 t) (here m c t).2.1
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = over (sg4 t) (here m c t).1 := by dsimp only [dats]; rfl
theorem after_5 (c : Dev nD) (t : Fin (cfg0 (F := F)).N) : (dats m 0 c).after 5 t = over (sg5 t) (here m c t).2.1 := by dsimp only [dats]; rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem leaves_0 (c : Dev nD) (t : Fin (cfg0 (F := F)).N) : (dats m 0 c).leavesExact 0 t = owns (c : Thread nD τ) (sg0 t) fullShare (iblk m c 0 t) := by
  unfold Dat.leavesExact; rw [show (cfg0 (F := F)).idle 0 (grid0.coords t) = false from rfl, after_0]; rfl
theorem leaves_1 (c : Dev nD) (t : Fin (cfg0 (F := F)).N) : (dats m 0 c).leavesExact 1 t = owns (c : Thread nD τ) (sg1 t) fullShare (iblk m c 1 t) := by
  unfold Dat.leavesExact; rw [show (cfg0 (F := F)).idle 1 (grid0.coords t) = false from rfl, after_1]; rfl
theorem leaves_2 (c : Dev nD) (t : Fin (cfg0 (F := F)).N) : (dats m 0 c).leavesExact 2 t = owns (c : Thread nD τ) (sg2 t) fullShare (iblk m c 2 t) := by
  unfold Dat.leavesExact; rw [show (cfg0 (F := F)).idle 2 (grid0.coords t) = false from rfl, after_2]; rfl
theorem leaves_3 (c : Dev nD) (t : Fin (cfg0 (F := F)).N) : (dats m 0 c).leavesExact 3 t = owns (c : Thread nD τ) (sg3 t) fullShare (iblk m c 3 t) := by
  unfold Dat.leavesExact; rw [show (cfg0 (F := F)).idle 3 (grid0.coords t) = false from rfl, after_3]; rfl
theorem leaves_4 (c : Dev nD) (t : Fin (cfg0 (F := F)).N) : (dats m 0 c).leavesExact 4 t = owns (c : Thread nD τ) (sg4 t) fullShare (over (sg4 t) (here m c t).1) := by
  unfold Dat.leavesExact; rw [show (cfg0 (F := F)).idle 4 (grid0.coords t) = false from rfl, after_4]; rfl
theorem leaves_5 (c : Dev nD) (t : Fin (cfg0 (F := F)).N) : (dats m 0 c).leavesExact 5 t = owns (c : Thread nD τ) (sg5 t) fullShare (over (sg5 t) (here m c t).2.1) := by
  unfold Dat.leavesExact; rw [show (cfg0 (F := F)).idle 5 (grid0.coords t) = false from rfl, after_5]; rfl

theorem whole_o (c : Dev nD) (t : Fin (cfg0 (F := F)).N) (y : S256x256.Idx) : ∃ p ∈ (here m c t).1, y ∈ p.1.set :=
  View.cover_of_tiledL _ ![256, 128] (by sl_kernel_rfl) y
theorem whole_s (c : Dev nD) (t : Fin (cfg0 (F := F)).N) (y : S4x256x128.Idx) : ∃ p ∈ (here m c t).2.1, y ∈ p.1.set :=
  View.cover_of_tiledL _ ![1, 256, 128] (by sl_kernel_rfl) y

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (sg0 t) fullShare ((dats m 0 c).before 0 t d))
    ∗ (∃ d, owns (c : Thread nD τ) (sg1 t) fullShare ((dats m 0 c).before 1 t d))
    ∗ (∃ d, owns (c : Thread nD τ) (sg2 t) fullShare ((dats m 0 c).before 2 t d))
    ∗ (∃ d, owns (c : Thread nD τ) (sg3 t) fullShare ((dats m 0 c).before 3 t d))
    ∗ (∃ d, owns (c : Thread nD τ) (sg4 t) fullShare ((dats m 0 c).before 4 t d))
    ∗ (∃ d, owns (c : Thread nD τ) (sg5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = (dats m 0 c).Φ t.castSucc from rfl]
  rw [leaves_0, leaves_1, leaves_2, leaves_3, leaves_4, leaves_5]
  iintro ⟨HΦ, Ho, ⟨%d0, H0⟩, ⟨%d1, H1⟩, ⟨%d2, H2⟩, ⟨%d3, H3⟩, ⟨%d4, H4⟩, ⟨%d5, H5⟩⟩
  iapply ((here m c t).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (whole_o m c t)
  unfold owns; iexists _; isplitr
  swap; · iexact H5
  ipureintro; exact View.read_writes_of_cover _ _ _ _ _ (whole_s m c t)

theorem body_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  exact triple_restated (sound_body m c t) rfl .rfl fun _ => .rfl

set_option backward.isDefEq.respectTransparency.types false in
/-- The run: every array of the pipeline ends at what the proof data say, and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hin := fun _ => Idealize.SL.BI.Entails.refl _) (hout := fun _ => Idealize.SL.BI.Entails.refl _)

/-- The frame at any values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (show ∀ w : Fin 6, (spec0 w).arr.view.ref ≠ main_arg0 by decide))).trans (lines_keep m c _ (.inl rfl)),
        ((h.1 c).2 main_arg1 (Pipeline.mem_restRefs_of main_arg1 (by decide) (show ∀ w : Fin 6, (spec0 w).arr.view.ref ≠ main_arg1 by decide))).trans (lines_keep m c _ (.inr (.inl rfl))),
        ((h.1 c).2 main_arg2 (Pipeline.mem_restRefs_of main_arg2 (by decide) (show ∀ w : Fin 6, (spec0 w).arr.view.ref ≠ main_arg2 by decide))).trans (lines_keep m c _ (.inr (.inr rfl)))⟩, h.2⟩) (run_main m ρ)

end Cert.AttnFIdeal.Fwd

end
-- ==== Proof.Fwd.Tile.lean ====
module

public import proofs.«01_k».proof.Proof.Fwd.Head
public import proofs.«01_k».proof.Proof.Bwd.Blocks

/-! One block of keys of the forward attention, in real numbers. -/

@[expose] public section

set_option maxRecDepth 16384

noncomputable section

namespace Cert.AttnFIdeal.Fwd

open Idealize.ShloMosaic Idealize.ShloMosaic.TcCoe
open Cert.AttnFIdeal Cert.AttnFIdeal.Gen Cert.Row
open Cert.KernelIdeal.Bwd (abs_real)

/-! A sum over the keys of the blocks from `k` on. -/

def onward (f : Fin 8192 → ℝ) (k : ℕ) : ℝ := ∑ c : Fin 8192, if k * 256 ≤ c.val then f c else 0

theorem onward_all (f : Fin 8192 → ℝ) : onward f 0 = ∑ c, f c := Finset.sum_congr rfl fun c _ => if_pos (by omega)

theorem onward_none (f : Fin 8192 → ℝ) (k : ℕ) (h : ∀ c : Fin 8192, k * 256 ≤ c.val → f c = 0) : onward f k = 0 :=
  Finset.sum_eq_zero fun c _ => by
    split
    · exact h c ‹_›
    · rfl

theorem onward_succ (f : Fin 8192 → ℝ) (b : Fin 32) : onward f b.val = onward f (b.val + 1) + ∑ s, f (pos b s) := by
  unfold onward
  rw [sum_apart _ b, add_comm]
  refine congrArg₂ (· + ·) (Finset.sum_congr rfl fun c _ => ?_) (Finset.sum_congr rfl fun s _ => if_pos ?_)
  · by_cases h : c.val / 256 = b.val
    · rw [if_pos h, if_neg]; omega
    · rw [if_neg h]; refine if_congr ?_ rfl rfl; omega
  · simp only [pos]; omega

/-- The softplus of a key, where the query sees it. -/
def seen (z : Fin 8192 → ℝ) (n : ℕ) (c : Fin 8192) : ℝ := if c.val < n then soft (z c) else 0

theorem onward_seen (z : Fin 8192 → ℝ) (n : ℕ) (b : Fin 32) : onward (seen z n) (b.val + 1) = after z n b :=
  Finset.sum_congr rfl fun c _ => (ite_and ..).symm

/-- What no block has written of the table of running sums. -/
abbrev unset : EReal := Ideal.ofBits .f32 0x7149F2CA#32

/-! The body's vectors, elementwise. -/

theorem soft_at (z : FVec Ideal S256x256 .f32) (X : Fin 256 → Fin 256 → ℝ) (hz : ∀ r s, z (ix2 r s) = (X r s : EReal)) (r s : Fin 256) :
    splus z (ix2 r s) = (soft (X r s) : EReal) := by
  pointwise [k0_pay126, hz]
  rw [abs_real, ← EReal.coe_zero, ← EReal.coe_one, ← EReal.coe_sub, Ideal.exp_coe, ← EReal.coe_add, Ideal.log_coe,
    if_neg (not_le.2 (by positivity)), ← coe_max, ← EReal.coe_add, soft_max]

theorem rowsum_at (g : FVec Ideal S256x256 .f32) (X : Fin 256 → Fin 256 → ℝ) (hg : ∀ r k, g (ix2 r k) = (X r k : EReal)) (r : Fin 256) :
    rowsum g (ix2 r 0) = ((∑ k, X r k : ℝ) : EReal) := by
  pointwise [rowsum, hg]
  rw [coe_sum]

theorem logits_at (q k : FVec Ideal S256x128 .bf16) (Q K : Fin 256 → Fin 128 → ℝ) (hq : ∀ r l, q (ix2 r l) = (Q r l : EReal)) (hk : ∀ r l, k (ix2 r l) = (K r l : EReal)) (r s : Fin 256) :
    logits q k (ix2 r s) = ((∑ l, Q r l * K s l : ℝ) : EReal) := by
  pointwise [logits, hq, hk]
  simp only [zero_add, ← EReal.coe_mul, ← coe_sum]

theorem part_at (a : FVec Ideal S256x256 .f32) (v : FVec Ideal S256x128 .bf16) (A : Fin 256 → Fin 256 → ℝ) (W : Fin 256 → Fin 128 → ℝ)
    (ha : ∀ r k, a (ix2 r k) = (A r k : EReal)) (hv : ∀ k l, v (ix2 k l) = (W k l : EReal)) (r : Fin 256) (l : Fin 128) :
    part a v (ix2 r l) = ((∑ k, A r k * W k l : ℝ) : EReal) := by
  pointwise [part, ha, hv]
  simp only [zero_add, ← EReal.coe_mul, ← coe_sum]

theorem side_at (x y : FVec Ideal S256x128 .f32) (r : Fin 256) (l : Fin 128) : side x y (ix2 r l) = if l.val < 64 then x (ix2 r l) else y (ix2 r l) := by
  pointwise [side]
  have := l.isLt
  simp (disch := omega) only [hlo_ix]

theorem put_at (w : ℕ) (hw : w < 4294967296) (x : FVec Ideal S256x1 .f32) (t : FVec Ideal S256x128 .f32) (r : Fin 256) (l : Fin 128) :
    put lanes (BitVec.ofNat 32 w) x t (ix2 r l) = if l.val = w then x (ix2 r 0) else t (ix2 r l) := by
  pointwise [put]
  have := l.isLt
  simp (disch := omega) only [hlo_ix]

theorem cut_at (x : FVec Ideal S256x256 .f32) (r s : Fin 256) : cut x (ix2 r s) = if s.val < r.val then x (ix2 r s) else 0 := by
  pointwise [cut, k0_pay14]
  have := r.isLt; have := s.isLt
  simp (disch := omega) only [hlo_ix]

theorem times_at (e : EReal) (x : FVec Ideal S256x256 .f32) (r s : Fin 256) : times (F := Ideal) e x (ix2 r s) = x (ix2 r s) * e := by
  pointwise [times]

theorem there_word : ∀ n : Fin 32, Scalar.extui (Scalar.cmpi .sgt (BitVec.ofNat 32 n.val) 0#32) = if 0 < n.val then 1#32 else 0#32 := by decide

theorem there_at (n : Fin 32) : there (F := Ideal) (BitVec.ofNat 32 n.val) = if 0 < n.val then (1 : EReal) else 0 := by
  unfold there k0_pay24
  simp only [there_word]
  by_cases h : 0 < n.val <;> simp [h, Scalar.sitofp, FloatOps.sitofp, FloatOps.scalar, Ideal.scalarOps]

theorem expo_at (z s : FVec Ideal S256x256 .f32) (u : FVec Ideal S256x256 .bf16) (c : FVec Ideal S256x1 .f32) (Z : Fin 256 → Fin 8192 → ℝ) (n : Fin 256 → ℕ) (b : Fin 32)
    (hz : ∀ r k, z (ix2 r k) = (Z r (pos b k) : EReal)) (hs : ∀ r k, s (ix2 r k) = (seen (Z r) (n r) (pos b k) : EReal))
    (hu : ∀ r c : Fin 256, u (ix2 r c) = ((if c < r then 1 else 0 : ℝ) : EReal)) (hc : ∀ r, c (ix2 r 0) = (onward (seen (Z r) (n r)) (b.val + 1) : EReal)) (r k : Fin 256) :
    expo z s u c (ix2 r k) = (Real.exp (Z r (pos b k) - soft (Z r (pos b k)) - tail (Z r) (n r) (pos b k)) : EReal) := by
  have hq := soft_at z (fun r s => Z r (pos b s)) hz
  pointwise [expo, hq, hz, hc, hs, hu _ _]
  simp only [zero_add, ← EReal.coe_mul, ← coe_sum, ← EReal.coe_sub, Ideal.exp_coe]
  rw [tail_pos, ← sub_sub, onward_seen]
  refine congrArg (fun x : ℝ => ((Real.exp (_ - _ - x - _) : ℝ) : EReal)) (Finset.sum_congr rfl fun j _ => ?_)
  unfold seen
  by_cases h1 : k < j <;> by_cases h2 : (pos b j).val < n r <;> simp [h1, h2]

theorem head0_at (x : Vec Ideal S256x128 .bf16) (X : Fin 256 → Fin 128 → ℝ) (hx : ∀ r l, x (ix2 r l) = (X r l : EReal)) (r : Fin 256) (l : Fin 128) :
    k0_pay15 (F := Ideal) x (ix2 r l) = ((if l.val < 64 then X r l else 0 : ℝ) : EReal) := by
  pointwise [k0_pay15, hx]
  have := l.isLt
  simp (disch := omega) only [hlo_ix]
  by_cases h : l.val < 64 <;> simp [h, IntOp.xori, Scalar.select]
theorem head1_at (x : Vec Ideal S256x128 .bf16) (X : Fin 256 → Fin 128 → ℝ) (hx : ∀ r l, x (ix2 r l) = (X r l : EReal)) (r : Fin 256) (l : Fin 128) :
    k0_pay16 (F := Ideal) x (ix2 r l) = ((if l.val < 64 then 0 else X r l : ℝ) : EReal) := by
  pointwise [k0_pay16, hx]
  have := l.isLt
  simp (disch := omega) only [hlo_ix]
  by_cases h : l.val < 64 <;> simp [h, IntOp.xori, Scalar.select]

end Cert.AttnFIdeal.Fwd

end
-- ==== Proof.Fwd.Step.lean ====
module

public import proofs.«01_k».proof.Proof.Fwd.Tile
public import proofs.«01_k».proof.Proof.Fwd.Run

/-! The walk of a query tile, in real numbers: what the heads hold with `k` blocks left, and what they end with. -/

@[expose] public section

set_option maxRecDepth 16384

noncomputable section

namespace Cert.AttnFIdeal.Fwd

open Idealize.ShloMosaic Idealize.ShloMosaic.TcCoe
open Cert.AttnFIdeal Cert.AttnFIdeal.Gen Cert.Row

/-! A tile's row `r` is query `pos n r`; it sees the keys before it. -/

/-- One head with the blocks from `k` on behind it: its running sum and its table. -/
structure HeadAt (Z : Fin 256 → Fin 8192 → ℝ) (n : Fin 32) (k : ℕ) (x : FVec Ideal S256x1 .f32) (t : FVec Ideal S256x128 .f32) : Prop where
  run : ∀ r, x (ix2 r 0) = (onward (seen (Z r) (pos n r).val) k : EReal)
  table : ∀ r l, t (ix2 r l) = if k ≤ l.val ∧ l.val ≤ n.val then (onward (seen (Z r) (pos n r).val) (l.val + 1) : EReal) else unset

/-- A pair's weights times values, summed over the blocks from `k` on: column `l` is of the first head below 64. -/
def outs (Z0 Z1 : Fin 256 → Fin 8192 → ℝ) (W : Fin 8192 → Fin 128 → ℝ) (n : Fin 32) (r : Fin 256) (l : Fin 128) (c : Fin 8192) : ℝ :=
  wt (if l.val < 64 then Z0 r else Z1 r) (pos n r).val c * W c l

def PairAt (Z0 Z1 : Fin 256 → Fin 8192 → ℝ) (W : Fin 8192 → Fin 128 → ℝ) (n : Fin 32) (k : ℕ) (o : FVec Ideal S256x128 .f32) : Prop :=
  ∀ r l, o (ix2 r l) = (onward (outs Z0 Z1 W n r l) k : EReal)

/-- The triangle of ones the softplus sums inside a block come from. -/
def Tri (u : FVec Ideal S256x256 .bf16) : Prop := ∀ r c : Fin 256, u (ix2 r c) = ((if c < r then 1 else 0 : ℝ) : EReal)

/-- A block's logits. -/
def Scores (Z : Fin 256 → Fin 8192 → ℝ) (b : Fin 32) (q k : FVec Ideal S256x128 .bf16) : Prop := ∀ r s, logits q k (ix2 r s) = (Z r (pos b s) : EReal)

theorem seen_before {Z : Fin 8192 → ℝ} {n b : Fin 32} (h : b.val < n.val) (r s : Fin 256) : seen Z (pos n r).val (pos b s) = soft (Z (pos b s)) :=
  if_pos (by simp only [pos]; have := s.isLt; omega)
theorem wt_before {Z : Fin 8192 → ℝ} {n b : Fin 32} (h : b.val < n.val) (r s : Fin 256) :
    wt Z (pos n r).val (pos b s) = Real.exp (Z (pos b s) - soft (Z (pos b s)) - tail Z (pos n r).val (pos b s)) :=
  if_pos (by simp only [pos]; have := s.isLt; omega)
theorem pos_lt {n : Fin 32} {r s : Fin 256} : (pos n s).val < (pos n r).val ↔ s.val < r.val := by simp only [pos]; omega

theorem seen_past (Z : Fin 8192 → ℝ) (n : Fin 32) (r : Fin 256) (k : ℕ) (hk : n.val < k) : onward (seen Z (pos n r).val) k = 0 :=
  onward_none _ _ fun c hc => if_neg (by
    have : (n.val + 1) * 256 ≤ k * 256 := Nat.mul_le_mul_right _ hk
    simp only [pos]; have := r.isLt; omega)
theorem outs_past (Z0 Z1 : Fin 256 → Fin 8192 → ℝ) (W : Fin 8192 → Fin 128 → ℝ) (n : Fin 32) (r : Fin 256) (l : Fin 128) (k : ℕ) (hk : n.val < k) : onward (outs Z0 Z1 W n r l) k = 0 :=
  onward_none _ _ fun c hc => by
    have : (n.val + 1) * 256 ≤ k * 256 := Nat.mul_le_mul_right _ hk
    unfold outs wt
    rw [if_neg (by simp only [pos]; have := r.isLt; omega), zero_mul]

section Head
variable {Z : Fin 256 → Fin 8192 → ℝ} {n b : Fin 32} {q k : FVec Ideal S256x128 .bf16} {u : FVec Ideal S256x256 .bf16} (hu : Tri u)

/-- The diagonal block's softplus, -/
theorem cut_soft (hz : Scores Z n q k) (r s : Fin 256) : cut (splus (logits q k)) (ix2 r s) = (seen (Z r) (pos n r).val (pos n s) : EReal) := by
  rw [cut_at, soft_at _ _ hz]
  unfold seen
  by_cases h : s.val < r.val
  · rw [if_pos h, if_pos (pos_lt.2 h)]
  · rw [if_neg h, if_neg (fun h' => h (pos_lt.1 h')), EReal.coe_zero]

/-- the running sum it leaves, -/
theorem first_at (hz : Scores Z n q k) (r : Fin 256) : first q k (ix2 r 0) = (onward (seen (Z r) (pos n r).val) n.val : EReal) := by
  have h := rowsum_at _ (fun r s => seen (Z r) (pos n r).val (pos n s)) (cut_soft hz) r
  pointwise [first, k0_pay22, h]
  rw [onward_succ, seen_past _ _ _ _ (Nat.lt_succ_self _), zero_add]

include hu in
/-- and its weights. -/
theorem diag_wt (hz : Scores Z n q k) (r s : Fin 256) :
    cut (expo (logits q k) (cut (splus (logits q k))) u k0_pay22) (ix2 r s) = (wt (Z r) (pos n r).val (pos n s) : EReal) := by
  rw [cut_at, expo_at _ _ u _ Z (fun r => (pos n r).val) n hz (cut_soft hz) hu (fun r => by
    rw [seen_past _ _ _ _ (Nat.lt_succ_self _)]; pointwise [k0_pay22]; rfl)]
  unfold wt
  by_cases h : s.val < r.val
  · rw [if_pos h, if_pos (pos_lt.2 h)]
  · rw [if_neg h, if_neg (fun h' => h (pos_lt.1 h')), EReal.coe_zero]

include hu in
/-- A block before the diagonal one: its weights, -/
theorem more_wt (hb : b.val < n.val) (hz : Scores Z b q k) {x : FVec Ideal S256x1 .f32} (hx : ∀ r, x (ix2 r 0) = (onward (seen (Z r) (pos n r).val) (b.val + 1) : EReal)) (r s : Fin 256) :
    expo (logits q k) (splus (logits q k)) u x (ix2 r s) = (wt (Z r) (pos n r).val (pos b s) : EReal) := by
  rw [expo_at _ _ u _ Z (fun r => (pos n r).val) b hz (fun r k' => by rw [soft_at _ _ hz, seen_before hb]) hu hx, wt_before hb]

/-- and the running sum after it. -/
theorem more_run (hb : b.val < n.val) (hz : Scores Z b q k) {x : FVec Ideal S256x1 .f32} (hx : ∀ r, x (ix2 r 0) = (onward (seen (Z r) (pos n r).val) (b.val + 1) : EReal)) (r : Fin 256) :
    addf x (rowsum (splus (logits q k))) (ix2 r 0) = (onward (seen (Z r) (pos n r).val) b.val : EReal) := by
  have h := rowsum_at _ (fun r s => soft (Z r (pos b s))) (soft_at _ _ hz) r
  pointwise [hx, h]
  rw [onward_succ, ← EReal.coe_add, Finset.sum_congr rfl fun s _ => (seen_before hb r s).symm]

/-- The table with block `b`'s lane set. -/
theorem put_table (hb : b.val ≤ n.val) {x : FVec Ideal S256x1 .f32} {t : FVec Ideal S256x128 .f32} (hx : ∀ r, x (ix2 r 0) = (onward (seen (Z r) (pos n r).val) (b.val + 1) : EReal))
    (ht : ∀ r l, t (ix2 r l) = if b.val + 1 ≤ l.val ∧ l.val ≤ n.val then (onward (seen (Z r) (pos n r).val) (l.val + 1) : EReal) else unset) (r : Fin 256) (l : Fin 128) :
    put lanes (BitVec.ofNat 32 b.val) x t (ix2 r l) = if b.val ≤ l.val ∧ l.val ≤ n.val then (onward (seen (Z r) (pos n r).val) (l.val + 1) : EReal) else unset := by
  rw [put_at _ (by have := b.isLt; omega), hx, ht]
  by_cases h : l.val = b.val
  · rw [if_pos h, if_pos (by omega), h]
  · rw [if_neg h]; exact if_congr (by omega) rfl rfl

theorem head_next (hb : b.val < n.val) (hz : Scores Z b q k) {x : FVec Ideal S256x1 .f32} {t : FVec Ideal S256x128 .f32} (h : HeadAt Z n (b.val + 1) x t) :
    HeadAt Z n b.val (addf x (rowsum (splus (logits q k)))) (put lanes (BitVec.ofNat 32 b.val) x t) :=
  ⟨more_run hb hz h.run, put_table hb.le h.run h.table⟩

/-- The diagonal block's lane of the table. -/
theorem own_table (r : Fin 256) (l : Fin 128) :
    put (F := Ideal) lanes (BitVec.ofNat 32 n.val) k0_pay22 k0_pay23 (ix2 r l) = if n.val ≤ l.val ∧ l.val ≤ n.val then (onward (seen (Z r) (pos n r).val) (l.val + 1) : EReal) else unset :=
  put_table le_rfl (fun r => by rw [seen_past _ _ _ _ (Nat.lt_succ_self _)]; pointwise [k0_pay22]; rfl)
    (fun r l => by rw [if_neg (by omega)]; pointwise [k0_pay23]) r l

theorem times_one (hn : 0 < n.val) (x : FVec Ideal S256x256 .f32) : times (F := Ideal) (there (BitVec.ofNat 32 n.val)) x = x := by
  have h : ∀ r s, times (F := Ideal) (there (BitVec.ofNat 32 n.val)) x (ix2 r s) = x (ix2 r s) := fun r s => by rw [times_at, there_at, if_pos hn, mul_one]
  funext y
  rw [eq_ix2 y]
  exact h _ _
theorem times_none (hn : n.val = 0) (x : FVec Ideal S256x256 .f32) (r s : Fin 256) : times (F := Ideal) (there (BitVec.ofNat 32 n.val)) x (ix2 r s) = ((0 : ℝ) : EReal) := by
  rw [times_at, there_at, if_neg (by omega), mul_zero, EReal.coe_zero]

/-- What the two first blocks leave, where there is a block before the diagonal one, -/
theorem head_start {k' : FVec Ideal S256x128 .bf16} (hb : b.val + 1 = n.val) (hz : Scores Z n q k) (hz' : Scores Z b q k') :
    HeadAt Z n b.val (second (BitVec.ofNat 32 n.val) q k k') (table (BitVec.ofNat 32 n.val) q k) := by
  have h1 := times_one (n := n) (by omega)
  have hw : Scalar.subi (BitVec.ofNat 32 n.val) 1#32 = BitVec.ofNat 32 b.val := by
    show BitVec.ofNat 32 n.val - 1#32 = BitVec.ofNat 32 b.val
    rw [← hb, BitVec.ofNat_add]; exact BitVec.add_sub_cancel _ _
  unfold second table
  rw [h1, hw]
  have hf : ∀ r, first q k (ix2 r 0) = (onward (seen (Z r) (pos n r).val) (b.val + 1) : EReal) := fun r => by rw [hb]; exact first_at hz r
  exact ⟨more_run (by omega) hz' hf, put_table (by omega) hf (fun r l => by rw [hb]; exact own_table r l)⟩

/-- and where there is none. -/
theorem head_alone {k' : FVec Ideal S256x128 .bf16} (hn : n.val = 0) (hz : Scores Z n q k) :
    HeadAt Z n 0 (second (BitVec.ofNat 32 n.val) q k k') (table (BitVec.ofNat 32 n.val) q k) where
  run r := by
    have h := rowsum_at (times (F := Ideal) (there (BitVec.ofNat 32 n.val)) (splus (logits q k'))) (fun _ _ => 0) (times_none hn _) r
    have hf := first_at hz
    pointwise [second, hf, h]
    rw [hn]; simp
  table r l := by
    have e := own_table (Z := Z) (n := n) r l
    unfold table
    rw [hn] at e ⊢
    rw [show Scalar.subi (BitVec.ofNat 32 0) 1#32 = BitVec.ofNat 32 4294967295 from by decide, put_at _ (by decide), if_neg (by have := l.isLt; omega)]
    exact e

end Head

section Pair
variable {Z0 Z1 : Fin 256 → Fin 8192 → ℝ} {W : Fin 8192 → Fin 128 → ℝ} {n b : Fin 32}

/-- A block's part of a pair's output. -/
theorem block_at (a0 a1 : FVec Ideal S256x256 .f32) (v : FVec Ideal S256x128 .bf16) (h0 : ∀ r s, a0 (ix2 r s) = (wt (Z0 r) (pos n r).val (pos b s) : EReal))
    (h1 : ∀ r s, a1 (ix2 r s) = (wt (Z1 r) (pos n r).val (pos b s) : EReal)) (hv : ∀ s l, v (ix2 s l) = (W (pos b s) l : EReal)) (r : Fin 256) (l : Fin 128) :
    side (part a0 v) (part a1 v) (ix2 r l) = ((∑ s, outs Z0 Z1 W n r l (pos b s) : ℝ) : EReal) := by
  rw [side_at, part_at a0 v _ _ h0 hv, part_at a1 v _ _ h1 hv]
  unfold outs
  by_cases h : l.val < 64
  · simp only [if_pos h]
  · simp only [if_neg h]

theorem pair_next {o x : FVec Ideal S256x128 .f32} (ho : PairAt Z0 Z1 W n (b.val + 1) o) (hx : ∀ r l, x (ix2 r l) = ((∑ s, outs Z0 Z1 W n r l (pos b s) : ℝ) : EReal)) :
    PairAt Z0 Z1 W n b.val (addf o x) := fun r l => by
  have := ho r l
  pointwise [this, hx]
  rw [onward_succ, ← EReal.coe_add]

theorem pair_start {A B : FVec Ideal S256x128 .f32} (hb : b.val + 1 = n.val) (hA : ∀ r l, A (ix2 r l) = ((∑ s, outs Z0 Z1 W n r l (pos n s) : ℝ) : EReal))
    (hB : ∀ r l, B (ix2 r l) = ((∑ s, outs Z0 Z1 W n r l (pos b s) : ℝ) : EReal)) : PairAt Z0 Z1 W n b.val (addf k0_pay21 (addf A B)) := fun r l => by
  pointwise [k0_pay21, hA, hB]
  rw [onward_succ, hb, onward_succ, outs_past _ _ _ _ _ _ _ (Nat.lt_succ_self _), zero_add, ← EReal.coe_add]

theorem pair_alone {A B : FVec Ideal S256x128 .f32} (hn : n.val = 0) (hA : ∀ r l, A (ix2 r l) = ((∑ s, outs Z0 Z1 W n r l (pos n s) : ℝ) : EReal))
    (hB : ∀ r l, B (ix2 r l) = 0) : PairAt Z0 Z1 W n 0 (addf k0_pay21 (addf A B)) := fun r l => by
  pointwise [k0_pay21, hA, hB]
  rw [← hn, onward_succ, outs_past _ _ _ _ _ _ _ (Nat.lt_succ_self _), zero_add]

end Pair

/-! The two pairs together. -/

structure Rows where
  z0 : Fin 256 → Fin 8192 → ℝ
  z1 : Fin 256 → Fin 8192 → ℝ
  z2 : Fin 256 → Fin 8192 → ℝ
  z3 : Fin 256 → Fin 8192 → ℝ
  w0 : Fin 8192 → Fin 128 → ℝ
  w1 : Fin 8192 → Fin 128 → ℝ

structure StateAt (R : Rows) (n : Fin 32) (k : ℕ) (s : State Ideal) : Prop where
  o0 : PairAt R.z0 R.z1 R.w0 n k s.o0
  o1 : PairAt R.z2 R.z3 R.w1 n k s.o1
  h0 : HeadAt R.z0 n k s.r0 s.t0
  h1 : HeadAt R.z1 n k s.r1 s.t1
  h2 : HeadAt R.z2 n k s.r2 s.t2
  h3 : HeadAt R.z3 n k s.r3 s.t3

/-- The queries, the keys and the values of a tile are those of the rows. -/
structure Given (R : Rows) (q : Queries Ideal) (u : FVec Ideal S256x256 .bf16) (x1 x2 : Vec Ideal S8192x256 .bf16) : Prop where
  tri : Tri u
  z0 : ∀ b : Fin 32, Scores R.z0 b q.q0 (tile x1 b.val 0)
  z1 : ∀ b : Fin 32, Scores R.z1 b q.q1 (tile x1 b.val 0)
  z2 : ∀ b : Fin 32, Scores R.z2 b q.q2 (tile x1 b.val 1)
  z3 : ∀ b : Fin 32, Scores R.z3 b q.q3 (tile x1 b.val 1)
  v0 : ∀ (b : Fin 32) s l, tile x2 b.val 0 (ix2 s l) = (R.w0 (pos b s) l : EReal)
  v1 : ∀ (b : Fin 32) s l, tile x2 b.val 1 (ix2 s l) = (R.w1 (pos b s) l : EReal)

section Walk
variable {R : Rows} {q : Queries Ideal} {u : FVec Ideal S256x256 .bf16} {x1 x2 : Vec Ideal S8192x256 .bf16} (hg : Given R q u x1 x2) {n : Fin 32}

/-- Below a threshold of +∞ the walk never stops early: the running sums are numbers. -/
theorem open_at {k : ℕ} (b : Fin 32) {s : State Ideal} (h : StateAt R n k s) : Open (BitVec.ofNat 32 b.val) s := by
  have hn : Named.named (F := Ideal) κ "alive" (φ := .f32) 0x43000000#32 = (⊤ : EReal) := IdealRules.named_const.ideal_named_scalar _ _ _ _ rfl
  have hm : (k0_pay6 s.r0 s.r1 s.r2 s.r3 : EReal) < ⊤ := by
    have hr := h.h0.run 0
    pointwise [k0_pay6]
    exact lt_of_le_of_lt ((Finset.fold_min_le _).2 (Or.inr ⟨(0, 0), Finset.mem_univ _, (((min_le_left _ _).trans (min_le_left _ _)).trans (min_le_left _ _)).trans hr.le⟩)) (EReal.coe_lt_top _)
  unfold Open
  rw [hn, (by decide : ∀ b : Fin 32, Scalar.cmpi .sge (BitVec.ofNat 32 b.val) 0#32 = 1#1) b]
  have hc : Scalar.cmpf (F := Ideal) (φ := .f32) .olt (k0_pay6 s.r0 s.r1 s.r2 s.r3) (⊤ : EReal) = BitVec.ofBool (decide ((k0_pay6 s.r0 s.r1 s.r2 s.r3 : EReal) < ⊤)) := rfl
  rw [hc, decide_eq_true hm]
  decide

include hg in
theorem next_at (b : Fin 32) (hb : b.val < n.val) {s : State Ideal} (h : StateAt R n (b.val + 1) s) :
    StateAt R n b.val (next q u lanes (BitVec.ofNat 32 b.val) (tile x1 b.val 0) (tile x1 b.val 1) (tile x2 b.val 0) (tile x2 b.val 1) s) := by
  rw [next_eq]
  exact ⟨pair_next h.o0 (block_at _ _ _ (more_wt hg.tri hb (hg.z0 b) h.h0.run) (more_wt hg.tri hb (hg.z1 b) h.h1.run) (hg.v0 b)),
    pair_next h.o1 (block_at _ _ _ (more_wt hg.tri hb (hg.z2 b) h.h2.run) (more_wt hg.tri hb (hg.z3 b) h.h3.run) (hg.v1 b)),
    head_next hb (hg.z0 b) h.h0, head_next hb (hg.z1 b) h.h1, head_next hb (hg.z2 b) h.h2, head_next hb (hg.z3 b) h.h3⟩

include hg in
theorem walk_at : ∀ (k : ℕ), k ≤ n.val → ∀ s : State Ideal, StateAt R n k s → StateAt R n 0 (walk q u lanes x1 x2 k s)
  | 0, _, s, h => h
  | k + 1, hk, s, h => by
      have hk' : k < 32 := by have := n.isLt; omega
      unfold walk
      rw [if_pos (open_at (⟨k, hk'⟩ : Fin 32) h)]
      exact walk_at k (by omega) _ (next_at hg ⟨k, hk'⟩ (by show k < n.val; omega) h)

end Walk

section Start
variable {R : Rows} {x0 : Vec Ideal S256x256 .bf16} {u : FVec Ideal S256x256 .bf16} {x1 x2 : Vec Ideal S8192x256 .bf16} (hg : Given R (queries x0) u x1 x2) (n : Fin 32)

theorem off_none (hn : n.val = 0) (q k k' v' : FVec Ideal S256x128 .bf16) (W : Fin 256 → Fin 128 → ℝ) (hv : ∀ s l, v' (ix2 s l) = (W s l : EReal)) (r : Fin 256) (l : Fin 128) :
    off (BitVec.ofNat 32 n.val) u q k k' v' (ix2 r l) = 0 := by
  unfold off
  rw [part_at _ _ (fun _ _ => 0) W (times_none hn _) hv]
  simp

include hg in
theorem diags : (∀ r l, side (diag u (queries x0).q0 (tile x1 n.val 0) (tile x2 n.val 0)) (diag u (queries x0).q1 (tile x1 n.val 0) (tile x2 n.val 0)) (ix2 r l) = ((∑ s, outs R.z0 R.z1 R.w0 n r l (pos n s) : ℝ) : EReal))
    ∧ (∀ r l, side (diag u (queries x0).q2 (tile x1 n.val 1) (tile x2 n.val 1)) (diag u (queries x0).q3 (tile x1 n.val 1) (tile x2 n.val 1)) (ix2 r l) = ((∑ s, outs R.z2 R.z3 R.w1 n r l (pos n s) : ℝ) : EReal)) :=
  ⟨block_at _ _ _ (diag_wt hg.tri (hg.z0 n)) (diag_wt hg.tri (hg.z1 n)) (hg.v0 n), block_at _ _ _ (diag_wt hg.tri (hg.z2 n)) (diag_wt hg.tri (hg.z3 n)) (hg.v1 n)⟩

include hg in
theorem off_wt (b : Fin 32) (hb : b.val + 1 = n.val) {Z : Fin 256 → Fin 8192 → ℝ} {q : FVec Ideal S256x128 .bf16} {p : ℕ} (hz : ∀ b : Fin 32, Scores Z b q (tile x1 b.val p)) (v : FVec Ideal S256x128 .bf16) :
    ∃ a, off (BitVec.ofNat 32 n.val) u q (tile x1 n.val p) (tile x1 b.val p) v = part a v ∧ ∀ r s, a (ix2 r s) = (wt (Z r) (pos n r).val (pos b s) : EReal) := by
  refine ⟨_, rfl, fun r s => ?_⟩
  rw [times_one (by omega), times_one (by omega)]
  exact more_wt hg.tri (by omega) (hz b) (fun r => by rw [hb]; exact first_at (hz n) r) r s

include hg in
theorem start_at : StateAt R n (n.val - 1) (startAt n.val x0 x1 x2 u) := by
  have hd := diags hg n
  unfold startAt start
  by_cases hn : n.val = 0
  · have h0 : n.val - 1 = 0 := by omega
    rw [h0]
    have hz : ∀ (x y : FVec Ideal S256x128 .f32), (∀ r l, x (ix2 r l) = 0) → (∀ r l, y (ix2 r l) = 0) → ∀ r l, side x y (ix2 r l) = 0 := fun x y hx hy r l => by
      rw [side_at, hx, hy, ite_self]
    exact ⟨pair_alone hn hd.1 (hz _ _ (off_none n hn _ _ _ _ _ (hg.v0 0)) (off_none n hn _ _ _ _ _ (hg.v0 0))),
      pair_alone hn hd.2 (hz _ _ (off_none n hn _ _ _ _ _ (hg.v1 0)) (off_none n hn _ _ _ _ _ (hg.v1 0))),
      head_alone hn (hg.z0 n), head_alone hn (hg.z1 n), head_alone hn (hg.z2 n), head_alone hn (hg.z3 n)⟩
  · obtain ⟨b, hb⟩ : ∃ b : Fin 32, b.val + 1 = n.val := ⟨⟨n.val - 1, by omega⟩, by show n.val - 1 + 1 = n.val; omega⟩
    rw [show n.val - 1 = b.val by omega]
    obtain ⟨a0, e0, w0⟩ := off_wt hg n b hb hg.z0 (tile x2 b.val 0)
    obtain ⟨a1, e1, w1⟩ := off_wt hg n b hb hg.z1 (tile x2 b.val 0)
    obtain ⟨a2, e2, w2⟩ := off_wt hg n b hb hg.z2 (tile x2 b.val 1)
    obtain ⟨a3, e3, w3⟩ := off_wt hg n b hb hg.z3 (tile x2 b.val 1)
    rw [e0, e1, e2, e3]
    exact ⟨pair_start hb hd.1 (block_at _ _ _ w0 w1 (hg.v0 b)), pair_start hb hd.2 (block_at _ _ _ w2 w3 (hg.v1 b)),
      head_start hb (hg.z0 n) (hg.z0 b), head_start hb (hg.z1 n) (hg.z1 b), head_start hb (hg.z2 n) (hg.z2 b), head_start hb (hg.z3 n) (hg.z3 b)⟩

include hg in
/-- What a tile ends with. -/
theorem end_at : StateAt R n 0 (endAt n.val x0 x1 x2 u) := walk_at hg _ (by omega) _ (start_at hg n)

end Start

end Cert.AttnFIdeal.Fwd

end
-- ==== Proof.Fwd.Arr.lean ====
module

public import proofs.«01_k».proof.Proof.Fwd.Frame
public import proofs.«01_k».proof.Proof.Fwd.Step
public import proofs.«01_k».proof.Proof.Bwd.Host
public import Idealize.ShloMosaic.Lib.Pipeline.ValueKit
public import Idealize.ShloMosaic.Lib.WritesUnit

/-! The two results of the forward attention: the heads' outputs, and each query's sums after the blocks of keys it sees. -/

@[expose] public section

set_option maxRecDepth 16384

noncomputable section

namespace Cert.AttnFIdeal.Fwd

open Idealize.ShloMosaic Idealize.ShloMosaic.TcCoe
open Cert.AttnFIdeal Cert.AttnFIdeal.Gen Cert.Row
open Cert.KernelIdeal.Bwd (zr col headCol head0 head1 half0 half1 col_head0 col_head1 headOf head_low head_high at_eq split_pos eighth_f32 bit_real)

/-- A point's group of heads and query tile. -/
def groupAt (t : Fin (cfg0 (F := Ideal)).N) : Fin 2 := grid0.coords t 0
def tileNo (t : Fin (cfg0 (F := Ideal)).N) : Fin 32 := grid0.coords t 1
/-- A group's two pairs of heads. -/
def pairOf (g : Fin 2) (e : Fin 2) : Fin 4 := ⟨g.val * 2 + e.val, by omega⟩

theorem places : ∀ t : Fin (cfg0 (F := Ideal)).N, win0_0.index t = ![(grid0.coords t 1).val, (grid0.coords t 0).val] ∧ win0_1.index t = ![0, (grid0.coords t 0).val]
    ∧ win0_2.index t = ![0, (grid0.coords t 0).val] ∧ win0_3.index t = ![0, 0]
    ∧ win0_4.index t = ![(grid0.coords t 1).val, (grid0.coords t 0).val] ∧ win0_5.index t = ![(grid0.coords t 0).val, (grid0.coords t 1).val, 0] :=
  (by decide +kernel : ∀ t : Fin grid0.N, _)

section
variable (m : (ℓ : Loc nD τ sig) → Buf (Elt Ideal) ℓ) (c : Dev nD) (t : Fin (cfg0 (F := Ideal)).N)

/-- Column `l` of a group's pair, inside the group. -/
def inGroup (e : Fin 2) (l : Fin 128) : Fin 256 := ⟨e.val * 128 + l.val, by omega⟩

theorem blk0_at (r : Fin 256) (e : Fin 2) (l : Fin 128) : iblk m c 0 t (ix2 r (inGroup e l)) = V m c main_v4 (ix2 (pos (tileNo t) r) (col (pairOf (groupAt t) e) l)) := by
  blk_simp [iblk]
  refine congrArg (V m c main_v4) ?_
  blk_ext [places t, pos, col, tileNo, groupAt, pairOf, inGroup]
theorem blk1_at (k : Fin 8192) (e : Fin 2) (l : Fin 128) : iblk m c 1 t (ix2 k (inGroup e l)) = V m c main_v5 (ix2 k (col (pairOf (groupAt t) e) l)) := by
  blk_simp [iblk]
  refine congrArg (V m c main_v5) ?_
  blk_ext [places t, pos, col, tileNo, groupAt, pairOf, inGroup]
theorem blk2_at (k : Fin 8192) (e : Fin 2) (l : Fin 128) : iblk m c 2 t (ix2 k (inGroup e l)) = V m c main_v6 (ix2 k (col (pairOf (groupAt t) e) l)) := by
  blk_simp [iblk]
  refine congrArg (V m c main_v6) ?_
  blk_ext [places t, pos, col, tileNo, groupAt, pairOf, inGroup]
theorem blk3_at (r s : Fin 256) : iblk m c 3 t (ix2 r s) = V m c main_v8 (ix2 r s) := by
  blk_simp [iblk]
  refine congrArg (V m c main_v8) ?_
  blk_ext [places t]
end

theorem qtile_at (x : Vec Ideal S256x256 .bf16) (e : Fin 2) (r : Fin 256) (l : Fin 128) : qtile x e.val (ix2 r l) = x (ix2 r (inGroup e l)) := by
  unfold qtile
  refine congrArg x (congrArg (ix2 r) (Fin.ext ?_))
  show (e.val * 128 + l.val) % 256 = e.val * 128 + l.val
  omega
theorem tile_at (x : Vec Ideal S8192x256 .bf16) (b : Fin 32) (e : Fin 2) (s : Fin 256) (l : Fin 128) : tile x b.val e.val (ix2 s l) = x (ix2 (pos b s) (inGroup e l)) := by
  unfold tile
  refine congrArg x (congrArg₂ ix2 (Fin.ext ?_) (Fin.ext ?_))
  · show (b.val * 256 + s.val) % 8192 = b.val * 256 + s.val
    omega
  · show (e.val * 128 + l.val) % 256 = e.val * 128 + l.val
    omega

/-- The arrays of the call, as numbers: the scaled queries, the keys, the values, the triangle. -/
structure Arrays (m : (ℓ : Loc nD τ sig) → Buf (Elt Ideal) ℓ) (c : Dev nD) (Q K W : Fin 8192 → Fin 512 → ℝ) : Prop where
  q : ∀ i j, V m c main_v4 (ix2 i j) = (Q i j : EReal)
  k : ∀ i j, V m c main_v5 (ix2 i j) = (K i j : EReal)
  v : ∀ i j, V m c main_v6 (ix2 i j) = (W i j : EReal)
  tri : Tri (V m c main_v8)

theorem arrays (m : (ℓ : Loc nD τ sig) → Buf (Elt Ideal) ℓ) (c : Dev nD) (Q K W : Fin 8192 → Fin 512 → ℝ)
    (hq : ∀ i j, (m (c, Proc.devRef .tc main_arg0) : Vec Ideal S8192x512 .f32) (ix2 i j) = (Q i j : EReal))
    (hk : ∀ i j, (m (c, Proc.devRef .tc main_arg1) : Vec Ideal S8192x512 .f32) (ix2 i j) = (K i j : EReal))
    (hv : ∀ i j, (m (c, Proc.devRef .tc main_arg2) : Vec Ideal S8192x512 .f32) (ix2 i j) = (W i j : EReal)) :
    Arrays m c (fun i j => Q i j * (1 / 8)) K W where
  q i j := by
    simp only [V, hostOps0, List.flatten_cons, List.flatten_nil, List.append_nil]
    entry_read
    pointwise [hq]
    rw [eighth_f32, ← EReal.coe_mul]
  k i j := by
    simp only [V, hostOps0, List.flatten_cons, List.flatten_nil, List.append_nil]
    entry_read
    pointwise [hk]
  v i j := by
    simp only [V, hostOps0, List.flatten_cons, List.flatten_nil, List.append_nil]
    entry_read
    pointwise [hv]
  tri r s := by
    simp only [V, hostOps0, List.flatten_cons, List.flatten_nil, List.append_nil]
    entry_read
    pointwise
    have := r.isLt
    have := s.isLt
    simp (disch := omega) only [hlo_ix]
    exact bit_real _

section
variable (Q K W : Fin 8192 → Fin 512 → ℝ)

/-- The rows of query tile `n` of group `g`. -/
def rowsAt (g : Fin 2) (n : Fin 32) : Rows where
  z0 r := zr Q K (head0 (pairOf g 0)) (pos n r)
  z1 r := zr Q K (head1 (pairOf g 0)) (pos n r)
  z2 r := zr Q K (head0 (pairOf g 1)) (pos n r)
  z3 r := zr Q K (head1 (pairOf g 1)) (pos n r)
  w0 k l := W k (col (pairOf g 0) l)
  w1 k l := W k (col (pairOf g 1) l)

/-- The outputs, -/
def outR (t : Fin 8192) (j : Fin 512) : ℝ := ∑ k, wt (zr Q K (headOf j) t) t.val k * W k j
/-- and the sums after each block of keys a query sees. -/
def sumR (h : Fin 8) (t : Fin 8192) (l : Fin 128) : EReal := if l.val ≤ t.val / 256 then (onward (seen (zr Q K h t) t.val) (l.val + 1) : EReal) else unset

theorem low_scores {x : Vec Ideal S256x128 .bf16} {k : FVec Ideal S256x128 .bf16} (p : Fin 4) (n b : Fin 32)
    (hx : ∀ r l, x (ix2 r l) = (Q (pos n r) (col p l) : EReal)) (hk : ∀ s l, k (ix2 s l) = (K (pos b s) (col p l) : EReal)) :
    Scores (fun r => zr Q K (head0 p) (pos n r)) b (k0_pay15 (F := Ideal) x) k := by
  intro r s
  rw [logits_at _ _ _ _ (head0_at x _ hx) hk]
  refine congrArg _ ((half0 (fun l => Q (pos n r) (col p l)) (fun l => K (pos b s) (col p l))).trans ?_)
  simp only [zr, col_head0]
theorem high_scores {x : Vec Ideal S256x128 .bf16} {k : FVec Ideal S256x128 .bf16} (p : Fin 4) (n b : Fin 32)
    (hx : ∀ r l, x (ix2 r l) = (Q (pos n r) (col p l) : EReal)) (hk : ∀ s l, k (ix2 s l) = (K (pos b s) (col p l) : EReal)) :
    Scores (fun r => zr Q K (head1 p) (pos n r)) b (k0_pay16 (F := Ideal) x) k := by
  intro r s
  rw [logits_at _ _ _ _ (head1_at x _ hx) hk]
  refine congrArg _ ((half1 (fun l => Q (pos n r) (col p l)) (fun l => K (pos b s) (col p l))).trans ?_)
  simp only [zr, col_head1]

theorem outs_eq (p : Fin 4) (n : Fin 32) (r : Fin 256) (l : Fin 128) :
    onward (outs (fun r => zr Q K (head0 p) (pos n r)) (fun r => zr Q K (head1 p) (pos n r)) (fun k l => W k (col p l)) n r l) 0 = outR Q K W (pos n r) (col p l) := by
  rw [onward_all]
  refine Finset.sum_congr rfl fun k _ => ?_
  unfold outs
  by_cases h : l.val < 64
  · rw [if_pos h, head_low p l h]
  · rw [if_neg h, head_high p l h]

theorem table_eq {h : Fin 8} {n : Fin 32} {x : FVec Ideal S256x1 .f32} {t : FVec Ideal S256x128 .f32} (hh : HeadAt (fun r => zr Q K h (pos n r)) n 0 x t) (r : Fin 256) (l : Fin 128) :
    t (ix2 r l) = sumR Q K h (pos n r) l := by
  rw [hh.table]
  exact if_congr (by simp only [pos]; have := r.isLt; omega) rfl rfl
end

section
variable {m : (ℓ : Loc nD τ sig) → Buf (Elt Ideal) ℓ} {c : Dev nD} {Q K W : Fin 8192 → Fin 512 → ℝ} (hA : Arrays m c Q K W)
include hA

theorem given (t : Fin (cfg0 (F := Ideal)).N) :
    Given (rowsAt Q K W (groupAt t) (tileNo t)) (queries (iblk m c 0 t)) (iblk m c 3 t) (iblk m c 1 t) (iblk m c 2 t) := by
  have q (e : Fin 2) (r : Fin 256) (l : Fin 128) : qtile (iblk m c 0 t) e.val (ix2 r l) = (Q (pos (tileNo t) r) (col (pairOf (groupAt t) e) l) : EReal) :=
    (qtile_at _ e r l).trans ((blk0_at m c t r e l).trans (hA.q _ _))
  have k (b : Fin 32) (e : Fin 2) (s : Fin 256) (l : Fin 128) : tile (iblk m c 1 t) b.val e.val (ix2 s l) = (K (pos b s) (col (pairOf (groupAt t) e) l) : EReal) :=
    (tile_at _ b e s l).trans ((blk1_at m c t _ e l).trans (hA.k _ _))
  have v (b : Fin 32) (e : Fin 2) (s : Fin 256) (l : Fin 128) : tile (iblk m c 2 t) b.val e.val (ix2 s l) = (W (pos b s) (col (pairOf (groupAt t) e) l) : EReal) :=
    (tile_at _ b e s l).trans ((blk2_at m c t _ e l).trans (hA.v _ _))
  exact ⟨fun r s => (blk3_at m c t r s).trans (hA.tri r s),
    fun b => low_scores Q K (pairOf (groupAt t) 0) (tileNo t) b (q 0) (k b 0),
    fun b => high_scores Q K (pairOf (groupAt t) 0) (tileNo t) b (q 0) (k b 0),
    fun b => low_scores Q K (pairOf (groupAt t) 1) (tileNo t) b (q 1) (k b 1),
    fun b => high_scores Q K (pairOf (groupAt t) 1) (tileNo t) b (q 1) (k b 1),
    fun b => v b 0, fun b => v b 1⟩

theorem done_at (t : Fin (cfg0 (F := Ideal)).N) :
    StateAt (rowsAt Q K W (groupAt t) (tileNo t)) (tileNo t) 0 (endAt (tileNo t).val (iblk m c 0 t) (iblk m c 1 t) (iblk m c 2 t) (iblk m c 3 t)) :=
  end_at (given hA t) (tileNo t)
end

/-- The tile's end at a point. -/
abbrev endOf (m : (ℓ : Loc nD τ sig) → Buf (Elt Ideal) ℓ) (c : Dev nD) (t : Fin (cfg0 (F := Ideal)).N) : State Ideal :=
  endAt (tileNo t).val (iblk m c 0 t) (iblk m c 1 t) (iblk m c 2 t) (iblk m c 3 t)

theorem pieces_o (m : (ℓ : Loc nD τ sig) → Buf (Elt Ideal) ℓ) (c : Dev nD) (t : Fin (cfg0 (F := Ideal)).N) : (here m c t).1
    = [⟨Rect.unit (s := S256x256) ![0, 128] S256x128.size inb_S256x256_S256x128_0_128, (endOf m c t).o1⟩,
       ⟨Rect.unit (s := S256x256) ![0, 0] S256x128.size inb_S256x256_S256x128_0_0, (endOf m c t).o0⟩] := rfl

theorem pieces_s (m : (ℓ : Loc nD τ sig) → Buf (Elt Ideal) ℓ) (c : Dev nD) (t : Fin (cfg0 (F := Ideal)).N) : (here m c t).2.1
    = [⟨Rect.unit (s := S4x256x128) ![3, 0, 0] S1x256x128.size inb_S4x256x128_S1x256x128_3_0_0, k0_pay5 (endOf m c t).t3⟩,
       ⟨Rect.unit (s := S4x256x128) ![2, 0, 0] S1x256x128.size inb_S4x256x128_S1x256x128_2_0_0, k0_pay4 (endOf m c t).t2⟩,
       ⟨Rect.unit (s := S4x256x128) ![1, 0, 0] S1x256x128.size inb_S4x256x128_S1x256x128_1_0_0, k0_pay3 (endOf m c t).t1⟩,
       ⟨Rect.unit (s := S4x256x128) ![0, 0, 0] S1x256x128.size inb_S4x256x128_S1x256x128_0_0_0, k0_pay2 (endOf m c t).t0⟩] := rfl

section
variable {m : (ℓ : Loc nD τ sig) → Buf (Elt Ideal) ℓ} {c : Dev nD} {Q K W : Fin 8192 → Fin 512 → ℝ} (hA : Arrays m c Q K W)
include hA

/-- The output block of a point. -/
theorem over_o (t : Fin (cfg0 (F := Ideal)).N) (r : Fin 256) (e : Fin 2) (l : Fin 128) :
    over (sg4 t) (here m c t).1 (ix2 r (inGroup e l)) = (outR Q K W (pos (tileNo t) r) (col (pairOf (groupAt t) e) l) : EReal) := by
  have h := done_at hA t
  rw [pieces_o]
  unfold over
  match e with
  | 0 =>
    refine (View.read_writes_cons_unit_of_not_mem _ _ _ _ _ (ix2 r (inGroup 0 l)) rfl 1 ?_).trans
      ((View.read_writes_cons_unit_of_mem _ _ _ _ [] (ix2 r (inGroup 0 l)) (ix2 r l) rfl fun a => by fin_cases a <;> simp [inGroup]).trans ?_)
    · refine Or.inl ?_
      show (0 : Fin 2).val * 128 + l.val < 128
      have := l.isLt
      simp
    · exact (h.o0 r l).trans (congrArg _ (outs_eq Q K W _ _ _ _))
  | 1 =>
    refine (View.read_writes_cons_unit_of_mem _ _ _ _ _ (ix2 r (inGroup 1 l)) (ix2 r l) rfl fun a => by fin_cases a <;> simp [inGroup]).trans ?_
    exact (h.o1 r l).trans (congrArg _ (outs_eq Q K W _ _ _ _))

/-- Head `e` of a group. -/
def headIn (g : Fin 2) (e : Fin 4) : Fin 8 := ⟨g.val * 4 + e.val, by omega⟩

omit hA in
theorem head_cases (g : Fin 2) : headIn g 0 = head0 (pairOf g 0) ∧ headIn g 1 = head1 (pairOf g 0) ∧ headIn g 2 = head0 (pairOf g 1) ∧ headIn g 3 = head1 (pairOf g 1) := by
  revert g; decide

/-- The block of sums of a point. -/
theorem over_s (t : Fin (cfg0 (F := Ideal)).N) (e : Fin 4) (r : Fin 256) (l : Fin 128) :
    over (sg5 t) (here m c t).2.1 (ix3 e r l) = sumR Q K (headIn (groupAt t) e) (pos (tileNo t) r) l := by
  have h := done_at hA t
  obtain ⟨c0, c1, c2, c3⟩ := head_cases (groupAt t)
  have miss (L : List (View.Piece (Elt Ideal) S4x256x128 .f32)) (f) (a b : Fin 4) (hab : a ≠ b) (inb) (w) :
      (sg5 t).view.read (Elt Ideal) ((sg5 t).view.writes (Elt Ideal) f (⟨Rect.unit (s := S4x256x128) ![b.val, 0, 0] S1x256x128.size inb, w⟩ :: L)) (ix3 a r l)
        = (sg5 t).view.read (Elt Ideal) ((sg5 t).view.writes (Elt Ideal) f L) (ix3 a r l) := by
    refine View.read_writes_cons_unit_of_not_mem _ f inb _ L (ix3 a r l) rfl 0 ?_
    have : a.val ≠ b.val := fun h => hab (Fin.ext h)
    show a.val < b.val ∨ b.val + 1 ≤ a.val
    omega
  have hit (L : List (View.Piece (Elt Ideal) S4x256x128 .f32)) (f) (b : Fin 4) (inb) (w) :
      (sg5 t).view.read (Elt Ideal) ((sg5 t).view.writes (Elt Ideal) f (⟨Rect.unit (s := S4x256x128) ![b.val, 0, 0] S1x256x128.size inb, w⟩ :: L)) (ix3 b r l) = w (ix3 0 r l) :=
    View.read_writes_cons_unit_of_mem _ f inb _ L (ix3 b r l) (ix3 0 r l) rfl fun a => by fin_cases a <;> simp
  rw [pieces_s]
  unfold over
  match e with
  | 0 =>
    refine (miss _ _ 0 3 (by decide) _ _).trans ((miss _ _ 0 2 (by decide) _ _).trans ((miss _ _ 0 1 (by decide) _ _).trans ((hit _ _ 0 _ _).trans ?_)))
    rw [c0]; refine Eq.trans ?_ (table_eq Q K h.h0 r l); pointwise [k0_pay2]
  | 1 =>
    refine (miss _ _ 1 3 (by decide) _ _).trans ((miss _ _ 1 2 (by decide) _ _).trans ((hit _ _ 1 _ _).trans ?_))
    rw [c1]; refine Eq.trans ?_ (table_eq Q K h.h1 r l); pointwise [k0_pay3]
  | 2 =>
    refine (miss _ _ 2 3 (by decide) _ _).trans ((hit _ _ 2 _ _).trans ?_)
    rw [c2]; refine Eq.trans ?_ (table_eq Q K h.h2 r l); pointwise [k0_pay4]
  | 3 =>
    refine (hit _ _ 3 _ _).trans ?_
    rw [c3]; refine Eq.trans ?_ (table_eq Q K h.h3 r l); pointwise [k0_pay5]

theorem here_o (t : Fin (cfg0 (F := Ideal)).N) (y : S256x256.Idx) :
    over (sg4 t) (here m c t).1 y = (outR Q K W (pos (tileNo t) (y 0)) (⟨(groupAt t).val * 256 + (y 1).val, by have h : (y 1).val < 256 := (y 1).isLt; omega⟩ : Fin 512) : EReal) := by
  have hy : (y 1).val < 256 := (y 1).isLt
  have e1 : y 1 = inGroup ⟨(y 1).val / 128, by omega⟩ ⟨(y 1).val % 128, by omega⟩ := Fin.ext (by simp only [inGroup]; omega)
  rw [show y = ix2 (y 0) (inGroup ⟨(y 1).val / 128, by omega⟩ ⟨(y 1).val % 128, by omega⟩) from funext fun a => by fin_cases a <;> [rfl; exact e1]]
  refine (over_o hA t _ _ _).trans (at_eq (outR Q K W) rfl ?_)
  simp only [col, pairOf, inGroup, ix2_1]
  omega

theorem here_s (t : Fin (cfg0 (F := Ideal)).N) (y : S4x256x128.Idx) :
    over (sg5 t) (here m c t).2.1 y = sumR Q K (headIn (groupAt t) (y 0)) (pos (tileNo t) (y 1)) (y 2) := by
  rw [show y = ix3 (y 0) (y 1) (y 2) from funext fun a => by fin_cases a <;> rfl]
  exact over_s hA t _ _ _

theorem array_o : (dats m 0 c).arrAt 4 (cfgs (F := Ideal) 0).N = fun y : S8192x512.Idx => (outR Q K W (y 0) (y 1) : EReal) := by
  refine (dats m 0 c).arrAt_eq_of_covers 4 _ (by decide +kernel) fun t hf y => ?_
  blk_simp
  rw [after_4]
  refine (here_o hA t y).trans (at_eq (outR Q K W) ?_ ?_)
  all_goals blk_simp [places t, pos, tileNo, groupAt]

omit hA in
/-- Equal coordinates, equal sums. -/
theorem sum_eq {h h' : Fin 8} {t t' : Fin 8192} {l l' : Fin 128} (e0 : h.val = h'.val) (e1 : t.val = t'.val) (e2 : l.val = l'.val) : sumR Q K h t l = sumR Q K h' t' l' := by
  rw [Fin.ext e0, Fin.ext e1, Fin.ext e2]

theorem array_s : (dats m 0 c).arrAt 5 (cfgs (F := Ideal) 0).N = fun y : S8x8192x128.Idx => sumR Q K (y 0) (y 1) (y 2) := by
  refine (dats m 0 c).arrAt_eq_of_covers 5 _ (by decide +kernel) fun t hf y => ?_
  blk_simp
  rw [after_5]
  refine (here_s hA t y).trans (sum_eq ?_ ?_ ?_)
  all_goals blk_simp [places t, pos, tileNo, groupAt, headIn]
end

end Cert.AttnFIdeal.Fwd
end
-- ==== Proof.Fwd.Ref.lean ====
module

public import proofs.«01_k».proof.Proof.Gen.AttnFRefIdeal.Run
public import proofs.«01_k».proof.Proof.Gen.AttnFRefIdeal.Read
public import proofs.«01_k».proof.Proof.Fwd.Arr
public import proofs.«01_k».proof.Proof.Ref.Vals
public import Idealize.ShloMosaic.Lib.WordCmp

/-! The reference's two arrays of the forward attention, read at an index in real numbers. -/

@[expose] public section

set_option maxRecDepth 16384
noncomputable section

namespace Cert.AttnFRefIdeal.Front

open Idealize.ShloMosaic Idealize.ShloMosaic.TcCoe
open Cert.AttnFRefIdeal.Read Cert.Row
open Cert.KernelIdeal.Bwd (headCol zr eighth_f32 abs_real headOf)
open Cert.ReferenceIdeal.Back (Reals scaled soft_word soft_neg picked zero_word)
open Cert.AttnFIdeal.Fwd (outR sumR unset onward)

section
variable {x0 x1 x2 : Vec Ideal S8192x512 .f32} {Q K W : Fin 8192 → Fin 512 → ℝ}

theorem score (hq : Reals x0 Q) (hk : Reals x1 K) (h : Fin 8) (t k : Fin 8192) :
    val_main_v6 (F := Ideal) x0 x1 (ix3 h t k) = (zr (scaled Q) K h t k : EReal) := by
  unfold Reals at hq hk
  unfold val_main_v6 val_main_v5 val_main_cst val_main_v4 val_main_v3 val_main_v2 val_main_v1 val_main_v0
  pointwise [hq, hk]
  simp only [eighth_f32, ← EReal.coe_mul, ← coe_sum]
  rw [Finset.sum_mul]
  refine congrArg _ (Finset.sum_congr rfl fun d _ => ?_)
  show _ = Q t (headCol h d) * (1 / 8) * K k (headCol h d)
  simp only [headCol]
  ring

theorem mask (t k : Fin 8192) : val_main_v13 (F := Ideal) (ix2 t k) = BitVec.ofBool (decide (k.val < t.val)) := by
  unfold val_main_v13 val_main_v12 val_main_v11 val_main_v10 val_main_v9 val_main_v8 val_main_v7
  pointwise
  have := t.isLt
  have := k.isLt
  simp (disch := omega) only [hlo_ix]

theorem soft0 {h : Fin 8} {t k : Fin 8192} {z : ℝ} (hz : val_main_v6 (F := Ideal) x0 x1 (ix3 h t k) = (z : EReal)) :
    val_main_call0_v1 (F := Ideal) x0 x1 (ix3 h t k) = (soft z : EReal) := by
  unfold val_main_call0_v1 val_main_call0_call0_v4 val_main_call0_call0_v6 val_main_call0_call0_v11 val_main_call0_call0_v1 val_main_call0_call0_v10 val_main_call0_call0_v9 val_main_call0_call0_v8 val_main_call0_call0_v7 val_main_call0_call0_v5 val_main_call0_call0_v3 val_main_call0_call0_v2 val_main_call0_call0_v0
    val_main_call0_call0_cst val_main_call0_v0 val_main_v14
  pointwise [hz]
  simp only [neg_neg]
  exact soft_word _

theorem soft7 {h : Fin 8} {t k : Fin 8192} {z : ℝ} (hz : val_main_v6 (F := Ideal) x0 x1 (ix3 h t k) = (z : EReal)) :
    val_main_call7_v1 (F := Ideal) x0 x1 (ix3 h t k) = (soft (-z) : EReal) := by
  have hz' : val_main_v39 (F := Ideal) x0 x1 (ix3 h t k) = (z : EReal) := hz
  unfold val_main_call7_v1 val_main_call7_call0_v4 val_main_call7_call0_v6 val_main_call7_call0_v11 val_main_call7_call0_v1 val_main_call7_call0_v10 val_main_call7_call0_v9 val_main_call7_call0_v8 val_main_call7_call0_v7 val_main_call7_call0_v5 val_main_call7_call0_v3 val_main_call7_call0_v2 val_main_call7_call0_v0
    val_main_call7_call0_cst val_main_call7_v0
  pointwise [hz']
  simp only [← EReal.coe_neg]
  exact soft_word _

variable (hq : Reals x0 Q) (hk : Reals x1 K) (hv : Reals x2 W)
include hq hk

/-- Minus the softplus of the keys a query sees. -/
theorem seen (h : Fin 8) (t k : Fin 8192) :
    val_main_v16 (F := Ideal) x0 x1 (ix3 h t k) = ((if k.val < t.val then -soft (zr (scaled Q) K h t k) else 0 : ℝ) : EReal) := by
  have hs := soft0 (score hq hk h t k)
  have hm := mask t k
  unfold val_main_v16 val_main_v15 val_main_call1_v2 val_main_call1_v1 val_main_call1_v0 val_main_cst_0
  pointwise [hs, hm]
  by_cases c : k.val < t.val
  · rw [if_pos c, if_pos c, EReal.coe_neg]
  · rw [if_neg c, if_neg c]
    exact zero_word

theorem sums (h : Fin 8) (t k : Fin 8192) :
    val_main_v18 (F := Ideal) x0 x1 (ix3 h t k) = ((-tail (zr (scaled Q) K h t) t.val k : ℝ) : EReal) := by
  have z : (val_main_call2_v0 (F := Ideal) : S_.Idx → EReal) = fun _ => 0 := by
    funext i
    unfold val_main_call2_v0 val_main_call2_cst
    pointwise
  have e : val_main_v17 (F := Ideal) x0 x1 (ix3 h t k) = ∑ k' : Fin 8192, if k ≤ k' then val_main_v16 (F := Ideal) x0 x1 (ix3 h t k') else 0 := by
    unfold val_main_v17
    rw [z]
    generalize val_main_v16 (F := Ideal) x0 x1 = x
    have g := scan_from (a := 8) (b := 8192) (N := 8192) (hi := 8191) x Cert.AttnFRefIdeal.Gen.reduceWindows_S8x8192x8192_S8x8192x8192_w1s1p0_0_w1s1p0_0_w8192s1p0_8191 h t k
    unfold Host.reduceWindowAdd
    rw [Ideal.hostReduceWindowAdd_def]
    exact g
  rw [val_main_v18_apply, e]
  show (∑ k' : Fin 8192, if k ≤ k' then val_main_v16 (F := Ideal) x0 x1 (ix3 h t k') else 0) - val_main_v16 (F := Ideal) x0 x1 (ix3 h t k) = _
  have f : ∀ k' : Fin 8192, (if k ≤ k' then val_main_v16 (F := Ideal) x0 x1 (ix3 h t k') else 0 : EReal)
      = ((if k ≤ k' then (if k'.val < t.val then -soft (zr (scaled Q) K h t k') else 0) else 0 : ℝ) : EReal) := by
    intro k'
    rw [seen hq hk]
    split_ifs <;> simp
  rw [Finset.sum_congr rfl fun k' _ => f k', ← coe_sum, seen hq hk, ← EReal.coe_sub]
  refine congrArg _ ?_
  unfold tail
  rw [← Finset.sum_neg_distrib, sub_eq_iff_eq_add]
  have g : (if k.val < t.val then -soft (zr (scaled Q) K h t k) else 0 : ℝ) = ∑ k' : Fin 8192, if k' = k then (if k'.val < t.val then -soft (zr (scaled Q) K h t k') else 0) else 0 := by
    simp
  rw [g, ← Finset.sum_add_distrib]
  refine Finset.sum_congr rfl fun k' _ => ?_
  rcases lt_trichotomy k k' with c | c | c
  · simp only [c.le, c, c.ne', if_true, if_false, true_and, add_zero]
    split_ifs <;> simp
  · subst c; simp
  · simp [c.not_ge, c.not_gt, c.ne]

theorem weight (h : Fin 8) (t k : Fin 8192) :
    val_main_v54 (F := Ideal) x0 x1 (ix3 h t k)
      = (Real.exp (zr (scaled Q) K h t k - soft (zr (scaled Q) K h t k) - tail (zr (scaled Q) K h t) t.val k) : EReal) := by
  have hs := soft7 (score hq hk h t k)
  have hu : val_main_v51 (F := Ideal) x0 x1 (ix3 h t k) = _ := sums hq hk h t k
  unfold val_main_v54 val_main_v53 val_main_v52
  pointwise [hs, hu]
  rw [← EReal.coe_neg, ← EReal.coe_add, Ideal.exp_coe, soft_neg]
  ring_nf

theorem attn (h : Fin 8) (t k : Fin 8192) :
    val_main_v55 (F := Ideal) x0 x1 (ix3 h t k) = (wt (zr (scaled Q) K h t) t.val k : EReal) := by
  have hw := weight hq hk h t k
  have hm : val_main_v46 (F := Ideal) (ix2 t k) = _ := mask t k
  unfold val_main_v55 val_main_call8_v2 val_main_call8_v1 val_main_call8_v0 val_main_cst_4
  pointwise [hw, hm]
  unfold wt
  by_cases c : k.val < t.val
  · rw [if_pos c, if_pos c]
  · rw [if_neg c, if_neg c]
    exact zero_word

include hv in
theorem ref_o (t : Fin 8192) (j : Fin 512) :
    val_main_v58 (F := Ideal) x0 x1 x2 (ix2 t j) = (outR (scaled Q) K W t j : EReal) := by
  have hs := attn hq hk
  unfold val_main_v58 val_main_v57 val_main_v56
  unfold Reals at hv
  unfold val_main_v36 val_main_v33
  pointwise [hs, hv]
  simp only [← EReal.coe_mul, ← coe_sum]
  rfl

omit hq hk in
theorem behind (t : Fin 8192) (l : Fin 32) : val_main_v29 (F := Ideal) (ix2 t l) = BitVec.ofBool (decide (t.val < l.val * 256)) := by
  unfold val_main_v29 val_main_v28 val_main_v27 val_main_v26 val_main_v25 val_main_v24 val_main_v23 val_main_v22 val_main_v21 val_main_c
  pointwise
  have := t.isLt
  have := l.isLt
  rw [show IntOp.muli (BitVec.ofNat 32 l.val) 256#32 = BitVec.ofNat 32 (l.val * 256) from (BitVec.ofNat_mul ..).symm]
  simp (disch := omega) only [hlo_ix]

omit hq hk in
theorem tail_after (z : Fin 8192 → ℝ) (n : ℕ) (l : Fin 32) (h : 255 + 256 * l.val < 8192) : tail z n ⟨255 + 256 * l.val, h⟩ = onward (Cert.AttnFIdeal.Fwd.seen z n) (l.val + 1) := by
  rw [Cert.AttnFIdeal.Fwd.onward_seen]
  unfold tail after
  refine Finset.sum_congr rfl fun k _ => if_congr ?_ rfl rfl
  rw [Fin.lt_def]
  show 255 + 256 * l.val < k.val ∧ _ ↔ (l.val + 1) * 256 ≤ k.val ∧ _
  omega

/-- Minus the sums after the blocks of keys, unset past the query's own. -/
theorem ref_sums (h : Fin 8) (t : Fin 8192) (l : Fin 32) :
    val_main_v30 (F := Ideal) x0 x1 (ix3 h t l) = sumR (scaled Q) K h t (⟨l.val, by omega⟩ : Fin 128) := by
  have hu := sums hq hk h t
  have hb := behind t l
  have ht := tail_after (zr (scaled Q) K h t) t.val l
  unfold val_main_v30 val_main_call3_v2 val_main_call3_v1 val_main_call3_v0 val_main_cst_1 val_main_v20 val_main_v19
  pointwise [hu, hb, ht]
  unfold sumR
  rw [← EReal.coe_neg, neg_neg]
  by_cases c : t.val < l.val * 256
  · rw [if_pos c, if_neg (show ¬ l.val ≤ t.val / 256 by omega)]
    rfl
  · rw [if_neg c, if_pos (show l.val ≤ t.val / 256 by omega)]

theorem ref_s (h : Fin 8) (t : Fin 8192) (l : Fin 128) :
    val_main_v60 (F := Ideal) x0 x1 (ix3 h t l) = sumR (scaled Q) K h t l := by
  have hs := ref_sums hq hk h t
  unfold val_main_v60 val_main_v59 val_main_cst_5
  pointwise [hs]
  by_cases hl : l.val < 32
  · exact dif_pos hl
  · refine (dif_neg hl).trans (if_neg ?_).symm
    have := t.isLt
    omega

end
end Cert.AttnFRefIdeal.Front
end
-- ==== Proof.Fwd.Eq.lean ====
module

public import proofs.«01_k».proof.Defs
public import proofs.«01_k».proof.Proof.Gen.Pre_finite_fwd
public import proofs.«01_k».proof.Proof.Finite
public import Idealize.ShloMosaic.Lib.Pipeline.ValueKit
public import proofs.«01_k».proof.Proof.Gen.AttnF
public import proofs.«01_k».proof.Proof.Fwd.Printed.Frame
public import proofs.«01_k».proof.Proof.Fwd.Arr
public import proofs.«01_k».proof.Proof.Fwd.Ref
public import Idealize.ShloMosaic.Lib.Claim

/-! The forward attention: kernel and reference end with the same two arrays. -/

@[expose] public section

set_option maxRecDepth 16384
noncomputable section

namespace Cert.AttnFIdeal.Eq

open Idealize.ShloMosaic Idealize.ShloMosaic.TcCoe Idealize.SL Idealize.SL.Sem
open Cert.AttnFIdeal.Fwd (outR sumR)
open Cert.ReferenceIdeal.Back (Reals scaled)

/-- The real numbers of a finite array. -/
abbrev reals (x : Vec Ideal Cert.Pre_finite_fwd.S8192x512 .f32) : Fin 8192 → Fin 512 → ℝ := fun i j => (x (ix2 i j)).toReal

/-- The arguments of a device. -/
abbrev arg (m : (ℓ : Loc Cert.AttnFIdeal.nD Cert.AttnFIdeal.τ Cert.AttnFIdeal.sig) → Buf (Elt Ideal) ℓ) (c : Dev Cert.AttnFIdeal.nD) :
    Fin 3 → Vec Ideal Cert.Pre_finite_fwd.S8192x512 .f32
  | 0 => m ((c.tc : Thread Cert.AttnFIdeal.nD Cert.AttnFIdeal.τ).loc Cert.AttnFIdeal.main_arg0)
  | 1 => m ((c.tc : Thread Cert.AttnFIdeal.nD Cert.AttnFIdeal.τ).loc Cert.AttnFIdeal.main_arg1)
  | 2 => m ((c.tc : Thread Cert.AttnFIdeal.nD Cert.AttnFIdeal.τ).loc Cert.AttnFIdeal.main_arg2)

variable (m : (ℓ : Loc Cert.AttnFIdeal.nD Cert.AttnFIdeal.τ Cert.AttnFIdeal.sig) → Buf (Elt Ideal) ℓ) (c : Dev Cert.AttnFIdeal.nD)

theorem arg_reals (h : Cert.Pre_AttnFIdeal_finite_fwd m (hPre_finite_fwd := Cert.Pre_finite_fwd.Gen.facts)) (n : Fin 3) (i : Fin 8192) (j : Fin 512) :
    arg m c n (ix2 i j) = (reals (arg m c n) i j : EReal) := by
  obtain ⟨h0, h1, h2⟩ := h c
  refine Cert.Fin.real_of_lt ?_
  match n with
  | 0 => exact congrFun h0 (ix2 i j)
  | 1 => exact congrFun h1 (ix2 i j)
  | 2 => exact congrFun h2 (ix2 i j)

/-- The outputs and the sums, index by index. -/
abbrev outO : Vec Ideal Cert.AttnFIdeal.S8192x512 .f32 := fun y => (outR (scaled (reals (arg m c 0))) (reals (arg m c 1)) (reals (arg m c 2)) (y 0) (y 1) : EReal)
abbrev outS : Vec Ideal Cert.AttnFIdeal.S8x8192x128 .f32 := fun y => sumR (scaled (reals (arg m c 0))) (reals (arg m c 1)) (y 0) (y 1) (y 2)

theorem kernel_run (ρ : Dev Cert.AttnFIdeal.nD → PrngReg) (h : Cert.Pre_AttnFIdeal_finite_fwd m (hPre_finite_fwd := Cert.Pre_finite_fwd.Gen.facts)) :
    θ_run (Cert.AttnFIdeal.defs (F := Ideal)) (onTc (τ := Cert.AttnFIdeal.τ) (Cert.AttnFIdeal.main (F := Ideal))) ⟨m, fun _ => 0, ρ⟩ (fun r => ∀ c : Dev Cert.AttnFIdeal.nD,
      r.2.mem ((c.tc : Thread Cert.AttnFIdeal.nD Cert.AttnFIdeal.τ).loc Cert.AttnFIdeal.main_v9_0) = outO m c
      ∧ r.2.mem ((c.tc : Thread Cert.AttnFIdeal.nD Cert.AttnFIdeal.τ).loc Cert.AttnFIdeal.main_v9_1) = outS m c
      ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)) := by
  refine (θ_run (Cert.AttnFIdeal.defs (F := Ideal)) _ _).mono (fun r hr c => ?_)
    (θ_run_and (Cert.AttnFIdeal.Fwd.run_main (F := Ideal) m ρ) (Cert.AttnFIdeal.Fwd.frame_any (F := Ideal) m ρ))
  have hA := Cert.AttnFIdeal.Fwd.arrays m c (reals (arg m c 0)) (reals (arg m c 1)) (reals (arg m c 2))
    (arg_reals m c h 0) (arg_reals m c h 1) (arg_reals m c h 2)
  obtain ⟨⟨hp, _⟩, ⟨hf, _⟩⟩ := hr
  exact ⟨(Pipeline.FramePost.out_eq hp c 4).trans (Cert.AttnFIdeal.Fwd.array_o hA),
    (Pipeline.FramePost.out_eq hp c 5).trans (Cert.AttnFIdeal.Fwd.array_s hA), hf c⟩

theorem algebraic : Cert.algebraic_AttnFIdeal_AttnFRefIdeal_pre_finite_fwd (hAttnFIdeal := Cert.AttnFIdeal.Gen.facts)
    (hAttnFRefIdeal := Cert.AttnFRefIdeal.Gen.facts) (hPre_finite_fwd := Cert.Pre_finite_fwd.Gen.facts) := by
  intro m g m' g' hpre hargs
  refine ⟨outO m, outS m, kernel_run m g hpre, ?_⟩
  refine (θ_run (Cert.AttnFRefIdeal.defs (F := Ideal)) _ _).mono (fun r h c => ?_)
    (Cert.AttnFRefIdeal.Value.run (F := Ideal) m' g')
  obtain ⟨ho, hs, h0, h1, h2⟩ := h c
  obtain ⟨e0, e1, e2⟩ := hargs c
  have r0 : Reals (m' ((c.tc : Thread Cert.AttnFRefIdeal.nD Cert.AttnFRefIdeal.τ).loc Cert.AttnFRefIdeal.main_arg0)) (reals (arg m c 0)) := fun i j => by rw [e0]; exact arg_reals m c hpre 0 i j
  have r1 : Reals (m' ((c.tc : Thread Cert.AttnFRefIdeal.nD Cert.AttnFRefIdeal.τ).loc Cert.AttnFRefIdeal.main_arg1)) (reals (arg m c 1)) := fun i j => by rw [e1]; exact arg_reals m c hpre 1 i j
  have r2 : Reals (m' ((c.tc : Thread Cert.AttnFRefIdeal.nD Cert.AttnFRefIdeal.τ).loc Cert.AttnFRefIdeal.main_arg2)) (reals (arg m c 2)) := fun i j => by rw [e2]; exact arg_reals m c hpre 2 i j
  refine ⟨ho.trans ?_, hs.trans ?_, h0, h1, h2⟩
  · refine Eq.trans (Cert.AttnFRefIdeal.Read.val_main_v58_eq ..).symm ?_
    funext y
    rw [show y = ix2 (y 0) (y 1) from (ix2_eta y).symm]
    exact Cert.AttnFRefIdeal.Front.ref_o r0 r1 r2 _ _
  · refine Eq.trans (Cert.AttnFRefIdeal.Read.val_main_v60_eq ..).symm ?_
    funext y
    rw [show y = ix3 (y 0) (y 1) (y 2) from funext fun a => by fin_cases a <;> rfl]
    exact Cert.AttnFRefIdeal.Front.ref_s r0 r1 _ _ _

/-- The frame of the program as printed: its loop's record and its threshold are its own. -/
theorem frame_kernel : Cert.quiescent_AttnF (hAttnF := Cert.AttnF.Gen.facts) :=
  fun m g _ => Cert.AttnF.Fwd.frame_any (F := Bits) m g

theorem frame_ideal : Cert.quiescent_AttnFIdeal (hAttnFIdeal := Cert.AttnFIdeal.Gen.facts) :=
  fun m g _ => Cert.AttnFIdeal.Fwd.frame_any (F := Ideal) m g

theorem frame_ideal_finite : Cert.quiescent_AttnFIdeal_pre_finite_fwd (hAttnFIdeal := Cert.AttnFIdeal.Gen.facts) (hPre_finite_fwd := Cert.Pre_finite_fwd.Gen.facts) :=
  fun m g _ => Cert.AttnFIdeal.Fwd.frame_any (F := Ideal) m g

theorem frame_reference : Cert.quiescent_AttnFRefIdeal (hAttnFRefIdeal := Cert.AttnFRefIdeal.Gen.facts) :=
  fun m g _ => (θ_run (Cert.AttnFRefIdeal.defs (F := Ideal)) _ _).mono
      (fun r h => ⟨fun c => (h c).2.2, sem_eq_zero_of_no_sems (by decide) r.2⟩) (Cert.AttnFRefIdeal.Value.run (F := Ideal) m g)

theorem frame_reference_finite : Cert.quiescent_AttnFRefIdeal_pre_finite_fwd (hAttnFRefIdeal := Cert.AttnFRefIdeal.Gen.facts) (hPre_finite_fwd := Cert.Pre_finite_fwd.Gen.facts) :=
  fun m g _ => frame_reference m g trivial

theorem preserves : Cert.preserves_AttnF_AttnFIdeal := IdealRules.named_const.statement Cert.AttnFIdeal.κ "alive" .f32 0x43000000#32 ⊤ rfl

end Cert.AttnFIdeal.Eq

end
-- ==== Proof.Norm.Real.lean ====
module

public import Idealize.ShloMosaic.PureOps.Ideal
public import Idealize.ShloMosaic.Lib.Pointwise
public import Mathlib.Tactic.FieldSimp

/-! A layer norm over 1024 columns and its derivative, in real numbers. -/

@[expose] public section

noncomputable section

namespace Cert.Norm

open Idealize.ShloMosaic

/-- The norm's small constant, as its single-precision literal. -/
def eps : ℝ := 10995116 / 1099511627776

theorem eps_pos : 0 < eps := by unfold eps; norm_num

def mean (x : Fin 1024 → ℝ) : ℝ := (∑ j, x j) / 1024
def cen (s : Fin 1024 → ℝ) (j : Fin 1024) : ℝ := s j - mean s
def var (s : Fin 1024 → ℝ) : ℝ := mean fun j => cen s j * cen s j
def rstd (s : Fin 1024 → ℝ) : ℝ := (Real.sqrt (var s + eps))⁻¹
def hat (s : Fin 1024 → ℝ) (j : Fin 1024) : ℝ := cen s j * rstd s
/-- The derivative with respect to the row `s`, of the derivative `w` with respect to the normalised row. -/
def back (s w : Fin 1024 → ℝ) (j : Fin 1024) : ℝ :=
  rstd s * (w j - mean w - hat s j * mean fun i => w i * hat s i)

theorem var_nonneg (s : Fin 1024 → ℝ) : 0 ≤ var s :=
  div_nonneg (Finset.sum_nonneg fun j _ => mul_self_nonneg _) (by norm_num)

theorem var_eps_pos (s : Fin 1024 → ℝ) : 0 < var s + eps := add_pos_of_nonneg_of_pos (var_nonneg s) eps_pos

theorem sum_cen (s : Fin 1024 → ℝ) : ∑ j, cen s j = 0 := by
  unfold cen mean
  rw [Finset.sum_sub_distrib, Finset.sum_const, Finset.card_univ, Fintype.card_fin]
  simp; ring

/-- The derivative as the chain of operations gives it. -/
def chainQ (s w : Fin 1024 → ℝ) : ℝ := (∑ i, cen s i * w i) * (-(1 / 2) * (rstd s / (var s + eps))) / 1024
def chainT (s w : Fin 1024 → ℝ) (j : Fin 1024) : ℝ := w j * rstd s + cen s j * chainQ s w + chainQ s w * cen s j
def chain (s w : Fin 1024 → ℝ) (j : Fin 1024) : ℝ := chainT s w j + (∑ i, -chainT s w i) / 1024

theorem rstd_sq (s : Fin 1024 → ℝ) : rstd s / (var s + eps) = rstd s * rstd s * rstd s := by
  have h := var_eps_pos s
  unfold rstd
  have e : var s + eps = Real.sqrt (var s + eps) * Real.sqrt (var s + eps) := (Real.mul_self_sqrt h.le).symm
  have p : Real.sqrt (var s + eps) ≠ 0 := (Real.sqrt_pos.mpr h).ne'
  conv_lhs => rw [div_eq_mul_inv]; right; rw [e]
  rw [mul_inv]; ring

theorem chain_eq (s w : Fin 1024 → ℝ) (j : Fin 1024) : chain s w j = back s w j := by
  have hT : ∑ i, chainT s w i = (∑ i, w i) * rstd s := by
    unfold chainT
    rw [Finset.sum_add_distrib, Finset.sum_add_distrib, ← Finset.sum_mul, ← Finset.sum_mul, ← Finset.mul_sum, sum_cen]
    ring
  have hQ : ∑ i, w i * hat s i = (∑ i, cen s i * w i) * rstd s := by
    unfold hat; rw [Finset.sum_mul]; exact Finset.sum_congr rfl fun i _ => by ring
  unfold chain back
  rw [Finset.sum_neg_distrib, hT]
  unfold mean
  rw [hQ]
  unfold chainT chainQ hat
  rw [rstd_sq]
  ring

/-- Real sums as extended ones. -/
theorem coe_sum {n : ℕ} (f : Fin n → ℝ) : ∑ i, (f i : EReal) = ((∑ i, f i : ℝ) : EReal) :=
  (map_sum (⟨⟨fun x : ℝ => (x : EReal), EReal.coe_zero⟩, EReal.coe_add⟩ : ℝ →+ EReal) f Finset.univ).symm

theorem lit1024 : Ideal.ofBits .f32 0x44800000#32 = ((1024 : ℝ) : EReal) := by simp [Ideal.ofBits, Ideal.ieee]; norm_num [← EReal.coe_mul]
theorem litInv1024 : Ideal.ofBits .f32 0x3A800000#32 = ((1 / 1024 : ℝ) : EReal) := by simp [Ideal.ofBits, Ideal.ieee]; norm_num [← EReal.coe_mul]
theorem litEps : Ideal.ofBits .f32 0x3727C5AC#32 = (eps : EReal) := by simp [Ideal.ofBits, Ideal.ieee, eps]; norm_num [← EReal.coe_mul]
theorem litNegHalf : Ideal.ofBits .f32 0xBF000000#32 = ((-(1 / 2) : ℝ) : EReal) := by simp [Ideal.ofBits, Ideal.ieee]; norm_num [← EReal.coe_mul]
theorem litHalf : Ideal.ofBits .f32 0x3F000000#32 = ((1 / 2 : ℝ) : EReal) := by simp [Ideal.ofBits, Ideal.ieee]; norm_num [← EReal.coe_mul]
theorem litTwo : Ideal.ofBits .f32 0x40000000#32 = ((2 : ℝ) : EReal) := by simp [Ideal.ofBits, Ideal.ieee]; norm_num [← EReal.coe_mul]
theorem litOne : Ideal.ofBits .f32 0x3F800000#32 = ((1 : ℝ) : EReal) := by simp [Ideal.ofBits, Ideal.ieee]; norm_num [← EReal.coe_mul]
theorem litHalfInv : Ideal.ofBits .f32 0x3A000000#32 = ((1 / 2048 : ℝ) : EReal) := by simp [Ideal.ofBits, Ideal.ieee]; norm_num [← EReal.coe_mul]

theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem div_real {y : ℝ} (h : y ≠ 0) (x : ℝ) : Ideal.div (x : EReal) (y : EReal) = ((x / y : ℝ) : EReal) := by
  rw [Ideal.div_coe h, ← EReal.coe_mul]; congr 1; ring

theorem div1024 (x : ℝ) : Ideal.div (x : EReal) ((1024 : ℝ) : EReal) = ((x / 1024 : ℝ) : EReal) := div_real (by norm_num) x

end Cert.Norm

end
-- ==== Proof.Norm.Blocks.lean ====
module

public import proofs.«01_k».proof.Proof.Norm.Real

/-! Sums over the rows taken block by block. -/

@[expose] public section

noncomputable section

namespace Cert.Norm

open Idealize.ShloMosaic

/-- A value that starts as the first block's part and adds each later block's is the sum of the parts. -/
theorem carried {N : ℕ} (a : (n : ℕ) → n < N → EReal) (p : (n : ℕ) → n < N → ℝ) (h0 : ∀ h : 0 < N, a 0 h = (p 0 h : EReal))
    (hs : ∀ (n : ℕ) (h : n + 1 < N), a (n + 1) h = a n (by omega) + (p (n + 1) h : EReal)) (n : ℕ) (h : n < N) :
    a n h = ((∑ k : Fin (n + 1), p k.val (by have := k.isLt; omega) : ℝ) : EReal) := by
  induction n with
  | zero => simp [h0]
  | succ n ih => rw [hs, ih (by omega), Fin.sum_univ_castSucc (n := n + 1), EReal.coe_add]; rfl

/-- The rows of all blocks are all the rows. -/
theorem sum_rows {N R M : ℕ} (hM : N * R = M) (f : Fin M → ℝ) (row : Fin N → Fin R → Fin M) (hr : ∀ k i, (row k i).val = k.val * R + i.val) :
    (∑ k, ∑ i, f (row k i)) = ∑ r, f r := by
  subst hM
  rw [← Fintype.sum_prod_type' (f := fun k i => f (row k i)), ← finProdFinEquiv.sum_comp]
  refine Finset.sum_congr rfl fun x _ => congrArg f (Fin.ext ?_)
  rw [hr, finProdFinEquiv_apply_val]; ring

/-- Both: the carried value after the last block is the sum over the rows. -/
theorem carried_rows {N R M : ℕ} (hM : N * R = M) (a : (n : ℕ) → n < N → EReal) (f : Fin M → ℝ) (row : Fin N → Fin R → Fin M)
    (hr : ∀ k i, (row k i).val = k.val * R + i.val) (h0 : ∀ h : 0 < N, a 0 h = ((∑ i, f (row ⟨0, h⟩ i) : ℝ) : EReal))
    (hs : ∀ (n : ℕ) (h : n + 1 < N), a (n + 1) h = a n (by omega) + ((∑ i, f (row ⟨n + 1, h⟩ i) : ℝ) : EReal))
    (n : ℕ) (h : n < N) (hn : n + 1 = N) : a n h = ((∑ r, f r : ℝ) : EReal) := by
  rw [carried a (fun n h => ∑ i, f (row ⟨n, h⟩ i)) h0 hs n h, ← sum_rows hM f row hr]
  subst hn
  rfl

end Cert.Norm

end
-- ==== Proof.Norm.Head.lean ====
module

public import proofs.«01_k».proof.Proof.Norm.Blocks

/-! The norm over heads of 64 columns, and its derivative, in real numbers. -/

@[expose] public section

noncomputable section

namespace Cert.Head

open Cert.Norm Idealize.ShloMosaic

/-- The number added to the mean square. -/
def eps6 : ℝ := 8796093 / 8796093022208

/-- The head of a column. -/
def hd (j : Fin 1024) : Fin 16 := ⟨j.val / 64, by omega⟩
/-- The lane of a column's head. -/
def lane (j : Fin 1024) : Fin 128 := ⟨j.val / 64, by omega⟩
/-- Column `p` of head `h`. -/
def col (h : Fin 16) (p : Fin 64) : Fin 1024 := ⟨h.val * 64 + p.val, by omega⟩

theorem hd_col (h : Fin 16) (p : Fin 64) : hd (col h p) = h := by
  ext; simp only [hd, col]; omega

/-- The place of a column in its head. -/
def off (j : Fin 1024) : Fin 64 := ⟨j.val % 64, Nat.mod_lt _ (by decide)⟩
theorem col_hd (j : Fin 1024) : col (hd j) (off j) = j := by
  ext; simp only [hd, col, off]; omega

/-- Two halves of a row side by side. -/
def cat (A C : Fin 512 → ℝ) (j : Fin 1024) : ℝ := if h : j.val < 512 then A ⟨j.val, h⟩ else C ⟨j.val - 512, by omega⟩

variable (O : Fin 1024 → ℝ)

/-- The mean square of a head. -/
def ms (h : Fin 16) : ℝ := (∑ p, O (col h p) * O (col h p)) * (1 / 64)
/-- The reciprocal of its root. -/
def rr (h : Fin 16) : ℝ := (Real.sqrt (ms O h + eps6))⁻¹
/-- The same on 128 lanes, the mean square of the lanes without a head being zero. -/
def rr128 (h : Fin 128) : ℝ := if hh : h.val < 16 then rr O ⟨h.val, hh⟩ else (Real.sqrt eps6)⁻¹
/-- The product of a head with its cotangent. -/
def along (Gh : Fin 1024 → ℝ) (h : Fin 16) : ℝ := (∑ p, Gh (col h p) * O (col h p)) * (1 / 64) * rr O h * rr O h * rr O h
/-- The cotangent of a row. -/
def backS (Gh : Fin 1024 → ℝ) (j : Fin 1024) : ℝ := rr O (hd j) * Gh j - O j * along O Gh (hd j)

theorem eps6_pos : 0 < eps6 := by norm_num [eps6]
theorem ms_nonneg (h : Fin 16) : 0 ≤ ms O h := mul_nonneg (Finset.sum_nonneg fun p _ => mul_self_nonneg _) (by norm_num)
theorem ms_pos (h : Fin 16) : 0 < ms O h + eps6 := add_pos_of_nonneg_of_pos (ms_nonneg O h) eps6_pos

theorem rr128_lane (j : Fin 1024) : rr128 O (lane j) = rr O (hd j) := dif_pos (hd j).isLt

/-- One entry of a column of ones picks one lane. -/
theorem sum_lane (f : Fin 128 → ℝ) (j : Fin 1024) : (∑ h : Fin 128, f h * (if j.val / 64 = h.val then 1 else 0)) = f (lane j) := by
  rw [Finset.sum_eq_single (lane j)]
  · rw [if_pos (show j.val / 64 = (lane j).val from rfl), mul_one]
  · intro h _ e
    rw [if_neg fun k => e (Fin.ext k.symm), mul_zero]
  · exact fun k => absurd (Finset.mem_univ _) k

/-- The ones of a lane add up the columns of its head. -/
theorem sum_head (f : Fin 1024 → ℝ) (k : Fin 1024) : (∑ j : Fin 1024, f j * (if j.val / 64 = (lane k).val then 1 else 0)) = ∑ p, f (col (hd k) p) := by
  have e : (∑ j : Fin 1024, f j * (if j.val / 64 = (lane k).val then 1 else 0)) = ∑ h : Fin 16, ∑ p : Fin 64, f (col h p) * (if h = hd k then 1 else 0) := by
    rw [← Fintype.sum_prod_type', ← (finProdFinEquiv (m := 16) (n := 64)).sum_comp]
    refine Finset.sum_congr rfl fun x _ => ?_
    have a : (finProdFinEquiv (m := 16) (n := 64) x : Fin 1024) = col x.1 x.2 := Fin.ext (by simp [finProdFinEquiv, col]; omega)
    rw [show (finProdFinEquiv x : Fin (16 * 64)) = col x.1 x.2 from a]
    congr 2
    have : (col x.1 x.2).val / 64 = x.1.val := congrArg Fin.val (hd_col x.1 x.2)
    simp only [Fin.ext_iff, hd, lane] at this ⊢
    rw [this]
  rw [e, Finset.sum_eq_single (hd k)]
  · simp
  · intro h _ n
    simp [n]
  · exact fun n => absurd (Finset.mem_univ _) n

theorem lit64 : Ideal.ofBits .f32 0x3C800000#32 = ((1 / 64 : ℝ) : EReal) := by simp [Ideal.ofBits, Ideal.ieee]; norm_num [← EReal.coe_mul]
theorem lit64' : Ideal.ofBits .f32 0x42800000#32 = ((64 : ℝ) : EReal) := by simp [Ideal.ofBits, Ideal.ieee]; norm_num [← EReal.coe_mul]
theorem litEps6 : Ideal.ofBits .f32 0x358637BD#32 = (eps6 : EReal) := by simp [Ideal.ofBits, Ideal.ieee, eps6]; norm_num [← EReal.coe_mul]

end Cert.Head
end
-- ==== Proof.Mix.Real.lean ====
module

public import proofs.«01_k».proof.Proof.Norm.Head

/-! The short convolution, the windowed means and their mixture, in real numbers. -/

@[expose] public section

noncomputable section

namespace Cert.Mix

open Cert.Norm Cert.Head

/-- The entry `k` rows back, zero before the first row. -/
def bk (f : Fin 8192 → ℝ) (i : Fin 8192) (k : ℕ) : ℝ := if k ≤ i.val then f ⟨i.val - k, by omega⟩ else 0

/-- The sum of the last `w` entries. -/
def win (f : Fin 8192 → ℝ) (i : Fin 8192) (w : ℕ) : ℝ := ∑ k ∈ Finset.range w, bk f i k

/-- The sum of the entries before row `k`. -/
def pre (f : Fin 8192 → ℝ) (k : ℕ) : ℝ := ∑ r : Fin 8192, if r.val < k then f r else 0

theorem pre_zero (f : Fin 8192 → ℝ) : pre f 0 = 0 := by simp [pre]

theorem pre_succ (f : Fin 8192 → ℝ) (k : ℕ) (h : k < 8192) : pre f (k + 1) = pre f k + f ⟨k, h⟩ := by
  have e : f ⟨k, h⟩ = ∑ r : Fin 8192, if r = ⟨k, h⟩ then f r else 0 := by simp
  rw [e]
  unfold pre
  rw [← Finset.sum_add_distrib]
  refine Finset.sum_congr rfl fun r _ => ?_
  by_cases h1 : r.val < k
  · have h2 : r ≠ ⟨k, h⟩ := fun c => by rw [c] at h1; simp at h1
    rw [if_pos (by omega), if_pos h1, if_neg h2, add_zero]
  · by_cases h2 : r = ⟨k, h⟩
    · rw [if_pos (by rw [h2]; simp), if_neg h1, if_pos h2, zero_add]
    · have : r.val ≠ k := fun c => h2 (Fin.ext c)
      rw [if_neg (by omega), if_neg h1, if_neg h2, zero_add]

/-- A difference of running sums is the sum of the last entries. -/
theorem pre_win (f : Fin 8192 → ℝ) (i : Fin 8192) (w : ℕ) : pre f (i.val + 1) - pre f (i.val + 1 - w) = win f i w := by
  induction w with
  | zero => simp [win]
  | succ w ih =>
    unfold win at ih ⊢
    rw [Finset.sum_range_succ, ← ih]
    unfold bk
    split
    · rename_i h
      have p := pre_succ f (i.val + 1 - (w + 1)) (by omega)
      rw [show i.val + 1 - (w + 1) + 1 = i.val + 1 - w by omega] at p
      rw [p, show (⟨i.val + 1 - (w + 1), by omega⟩ : Fin 8192) = ⟨i.val - w, by omega⟩ from Fin.ext (by simp)]
      ring
    · rw [show i.val + 1 - w = 0 by omega, show i.val + 1 - (w + 1) = 0 by omega]
      ring

/-- The window of a column's group. -/
def size (j : Fin 256) : ℕ := if j.val < 64 then 2 else if j.val < 128 then 4 else if j.val < 192 then 8 else 16

theorem size_pos (j : Fin 256) : 0 < size j := by unfold size; split <;> [skip; split <;> [skip; split]] <;> norm_num

/-- How many rows a window holds. -/
def cnt (i : Fin 8192) (w : ℕ) : ℝ := ((min (i.val + 1) w : ℕ) : ℝ)

theorem cnt_ne (i : Fin 8192) {w : ℕ} (h : 0 < w) : cnt i w ≠ 0 := by
  unfold cnt
  exact_mod_cast (by omega : min (i.val + 1) w ≠ 0)

variable (X : Fin 8192 → Fin 1024 → ℝ) (A : Fin 8192 → Fin 512 → ℝ) (W : Fin 3 → Fin 256 → ℝ) (P : Fin 4 → Fin 64 → Fin 64 → ℝ) (S : Fin 256 → ℝ) (G : Fin 1024 → ℝ)

/-- Column `j` of quarter `q`. -/
def quarter (q : Fin 4) (j : Fin 256) : Fin 1024 := ⟨q.val * 256 + j.val, by omega⟩

/-- The product the convolution runs over. -/
def prod2 (j : Fin 256) : Fin 8192 → ℝ := fun i => X i (quarter 1 j) * X i (quarter 2 j)
/-- The gated short convolution. -/
def conv (i : Fin 8192) (j : Fin 256) : ℝ :=
  X i (quarter 0 j) * (bk (prod2 X j) i 2 * W 0 j + bk (prod2 X j) i 1 * W 1 j + bk (prod2 X j) i 0 * W 2 j)
/-- The windowed mean less the entry itself. -/
def pooled (i : Fin 8192) (j : Fin 256) : ℝ := win (fun r => X r (quarter 3 j)) i (size j) / cnt i (size j) - X i (quarter 3 j)

/-- The group of a column, its place there, and back. -/
def grp (j : Fin 256) : Fin 4 := ⟨j.val / 64, by omega⟩
def plc (j : Fin 256) : Fin 64 := ⟨j.val % 64, Nat.mod_lt _ (by decide)⟩
def gcol (g : Fin 4) (p : Fin 64) : Fin 256 := ⟨g.val * 64 + p.val, by omega⟩

theorem grp_gcol (g : Fin 4) (p : Fin 64) : grp (gcol g p) = g := by
  ext; simp only [grp, gcol]; omega
theorem plc_gcol (g : Fin 4) (p : Fin 64) : plc (gcol g p) = p := by
  ext; simp only [plc, gcol]; omega

/-- The mixture of a group's means, scaled. -/
def mix (i : Fin 8192) (j : Fin 256) : ℝ := (∑ k : Fin 64, pooled X i (gcol (grp j) k) * P (grp j) k (plc j)) * S j

/-- The two results side by side. -/
def ocp (i : Fin 8192) (j : Fin 512) : ℝ := if h : j.val < 256 then conv X W i ⟨j.val, h⟩ else mix X P S i ⟨j.val - 256, by omega⟩

/-- The row the norm runs over. -/
def full (i : Fin 8192) : Fin 1024 → ℝ := cat (A i) (ocp X W P S i)

/-- A matrix that is zero off the groups, summed over a column. -/
def wbd (k j : Fin 256) : ℝ := if grp k = grp j then P (grp k) (plc k) (plc j) else 0

theorem sum_wbd (f : Fin 256 → ℝ) (j : Fin 256) : (∑ k : Fin 256, f k * wbd P k j) = ∑ p : Fin 64, f (gcol (grp j) p) * P (grp j) p (plc j) := by
  have e : (∑ k : Fin 256, f k * wbd P k j) = ∑ g : Fin 4, ∑ p : Fin 64, f (gcol g p) * wbd P (gcol g p) j := by
    rw [← Fintype.sum_prod_type', ← (finProdFinEquiv (m := 4) (n := 64)).sum_comp]
    refine Finset.sum_congr rfl fun x _ => ?_
    have a : (finProdFinEquiv (m := 4) (n := 64) x : Fin 256) = gcol x.1 x.2 := Fin.ext (by simp [finProdFinEquiv, gcol]; omega)
    rw [show (finProdFinEquiv x : Fin (4 * 64)) = gcol x.1 x.2 from a]
  rw [e, Finset.sum_eq_single (grp j)]
  · refine Finset.sum_congr rfl fun p _ => ?_
    unfold wbd
    rw [grp_gcol, plc_gcol, if_pos rfl]
  · intro g _ n
    refine Finset.sum_eq_zero fun p _ => ?_
    unfold wbd
    rw [grp_gcol, if_neg n, mul_zero]
  · exact fun n => absurd (Finset.mem_univ _) n

end Cert.Mix
end
-- ==== Proof.Mix.Ops.lean ====
module

public import Idealize.ShloMosaic.Lib.Pointwise
public import Idealize.ShloMosaic.Lib.ValueIdx
public import Idealize.ShloMosaic.Lib.Routing.OpsSet
public import Idealize.ShloMosaic.Lib.Routing.OpsOne
public import Idealize.ShloMosaic.Lib.Routing.OpsPair
public import Idealize.ShloMosaic.PureOps.Ideal.Laws
public import proofs.«01_k».proof.Proof.Mix.Real

/-! A running sum, a gather of one row and group for each entry, and a square written into a matrix, each read at an index. -/

@[expose] public section

set_option maxRecDepth 16384
noncomputable section

namespace Cert.Mix

open Idealize.ShloMosaic Cert.Norm

theorem foldl_add {α : Type} (c : α → EReal) (l : List α) (v : EReal) : l.foldl (fun r n => r + c n) v = v + (l.map c).sum := by
  induction l generalizing v with
  | nil => simp
  | cons a l ih => rw [List.foldl_cons, ih, List.map_cons, List.sum_cons, add_assoc]

/-- The positions of a window one row deep. -/
def pos (N : ℕ) : Fin N ≃ (⟨3, ![N, 1, 1]⟩ : Shape).Idx where
  toFun k := ix3 k 0 0
  invFun q := q 0
  left_inv k := rfl
  right_inv q := by
    funext a
    match a with
    | ⟨0, _⟩ => rfl
    | ⟨1, _⟩ => exact Fin.ext (by have := (q 1).isLt; show 0 = (q 1).val; simp at this; omega)
    | ⟨2, _⟩ => exact Fin.ext (by have := (q 2).isLt; show 0 = (q 2).val; simp at this; omega)

theorem running {N L : ℕ} (hN : L + 1 = N) (x : (⟨3, ![N, 4, 64]⟩ : Shape).Idx → EReal) (f : Fin N → ℝ) (g : Fin 4) (d : Fin 64)
    (h : (⟨3, ![N, 4, 64]⟩ : Shape).ReduceWindows ![N, 1, 1] ![1, 1, 1] ![L, 0, 0] ![0, 0, 0] ⟨3, ![N, 4, 64]⟩)
    (hx : ∀ r, x (ix3 r g d) = (f r : EReal)) (i : Fin N) :
    Ideal.hostReduceWindowAdd ![N, 1, 1] ![1, 1, 1] ![L, 0, 0] ![0, 0, 0] h x 0 (ix3 i g d) = ((∑ r : Fin N, if r.val < i.val + 1 then f r else 0 : ℝ) : EReal) := by
  let W : Shape := ⟨3, ![N, 1, 1]⟩
  let c : W.Idx → EReal := fun q =>
    if hin : ∀ a : Fin 3, (![L, 0, 0] : Fin 3 → ℕ) a ≤ ((ix3 i g d : (⟨3, ![N, 4, 64]⟩ : Shape).Idx) a).val * (![1, 1, 1] : Fin 3 → ℕ) a + (q a).val
        ∧ ((ix3 i g d : (⟨3, ![N, 4, 64]⟩ : Shape).Idx) a).val * (![1, 1, 1] : Fin 3 → ℕ) a + (q a).val - (![L, 0, 0] : Fin 3 → ℕ) a < (⟨3, ![N, 4, 64]⟩ : Shape).size a
      then x (fun a => ⟨_, (hin a).2⟩) else 0
  have hc : ∀ k : Fin N, c (pos N k) = ((if L ≤ i.val + k.val then f ⟨i.val + k.val - L, by omega⟩ else 0 : ℝ) : EReal) := by
    intro k
    have ti := i.isLt
    have tk := k.isLt
    by_cases hk : L ≤ i.val + k.val
    · rw [if_pos hk, ← hx]
      refine (dif_pos ?_).trans (congrArg x ?_)
      · intro a
        match a with
        | ⟨0, _⟩ => show L ≤ i.val * 1 + k.val ∧ i.val * 1 + k.val - L < N; omega
        | ⟨1, _⟩ => show 0 ≤ g.val * 1 + 0 ∧ g.val * 1 + 0 - 0 < 4; omega
        | ⟨2, _⟩ => show 0 ≤ d.val * 1 + 0 ∧ d.val * 1 + 0 - 0 < 64; omega
      · funext a
        match a with
        | ⟨0, _⟩ => exact Fin.ext (by show i.val * 1 + k.val - L = i.val + k.val - L; omega)
        | ⟨1, _⟩ => exact Fin.ext (by show g.val * 1 + 0 - 0 = g.val; omega)
        | ⟨2, _⟩ => exact Fin.ext (by show d.val * 1 + 0 - 0 = d.val; omega)
    · rw [if_neg hk]
      refine (dif_neg fun hin => hk ?_).trans EReal.coe_zero.symm
      have := (hin 0).1
      have e : L ≤ i.val * 1 + k.val := this
      omega
  unfold Ideal.hostReduceWindowAdd Host.reduceWindow
  refine (congrArg (fun F => List.foldl F (0 : EReal) (List.finRange W.numel)) (funext fun r => funext fun n => ?_ : _ = fun (r : EReal) n => r + c (W.rowMajor.symm n))).trans ?_
  · refine congrArg (r + ·) ?_
    split
    · next hin => exact (dif_pos hin : c (W.rowMajor.symm n) = _).symm
    · next hin => exact (dif_neg hin : c (W.rowMajor.symm n) = _).symm
  rw [foldl_add (fun n => c (W.rowMajor.symm n)), zero_add, ← Fin.sum_univ_def, Equiv.sum_comp W.rowMajor.symm c, ← Equiv.sum_comp (pos N) c,
    Finset.sum_congr rfl fun k _ => hc k, coe_sum]
  refine congrArg _ ?_
  rw [← Finset.sum_filter, ← Finset.sum_filter]
  refine Finset.sum_bij' (fun k _ => (⟨(i.val + k.val) - L, by omega⟩ : Fin N)) (fun r _ => (⟨if r.val ≤ i.val then r.val + L - i.val else 0, by split <;> omega⟩ : Fin N)) ?_ ?_ ?_ ?_ ?_
  · intro k hk
    have := (Finset.mem_filter.1 hk).2
    exact Finset.mem_filter.2 ⟨Finset.mem_univ _, by show i.val + k.val - L < i.val + 1; omega⟩
  · intro r hr
    have := (Finset.mem_filter.1 hr).2
    exact Finset.mem_filter.2 ⟨Finset.mem_univ _, by show L ≤ i.val + (if r.val ≤ i.val then r.val + L - i.val else 0); split <;> omega⟩
  · intro k hk
    have := (Finset.mem_filter.1 hk).2
    exact Fin.ext (by show (if i.val + k.val - L ≤ i.val then i.val + k.val - L + L - i.val else 0) = k.val; split <;> omega)
  · intro r hr
    have := (Finset.mem_filter.1 hr).2
    exact Fin.ext (by show i.val + (if r.val ≤ i.val then r.val + L - i.val else 0) - L = r.val; split <;> omega)
  · intro k hk
    rfl

/-- A gather of one row of one group for each entry, its two starts read as words. -/
theorem gather_pair {α : Type} (d : GatherDims ⟨3, ![8193, 4, 64]⟩ ⟨2, ![8192, 2]⟩ ⟨2, ![8192, 64]⟩) (hoff : d.offsetDims = [1])
    (hcoll : d.collapsedSliceDims = [0, 1]) (hob : d.operandBatchingDims = []) (hsim : d.startIndexMap = [0, 1]) (hivd : d.indexVectorDim = 1)
    (x : (⟨3, ![8193, 4, 64]⟩ : Shape).Idx → α) (idx : IVec ⟨2, ![8192, 2]⟩ 32) (i : Fin 8192) (y : Fin 64) (r : Fin 8193) (g : Fin 4)
    (h0 : idx (ix2 i (0 : Fin 2)) = BitVec.ofNat 32 r.val) (h1 : idx (ix2 i (1 : Fin 2)) = BitVec.ofNat 32 g.val) :
    Host.gather d x idx (ix2 i y) = x (ix3 r g y) := by
  unfold Host.gather
  refine congrArg x (funext fun a => Fin.ext ?_)
  have hbN : ∀ a', a' ∉ d.operandBatchingDims := fun a' => by rw [hob]; exact List.not_mem_nil
  have hk0 : ∀ k ∈ d.batchDims, k = (0 : Fin 2) := fun k hk => by
    have hk' : k ∉ d.offsetDims := of_decide_eq_true (List.mem_filter.1 hk).2
    rw [hoff] at hk'
    have h1 : k.val ≠ 1 := fun e => hk' (List.mem_singleton.2 (Fin.ext e))
    have h2 : k.val < 2 := k.isLt
    exact Fin.ext (by show k.val = 0; omega)
  have hk1 : ∀ k ∈ d.offsetDims, k = (1 : Fin 2) := fun k hk => by rw [hoff] at hk; exact List.mem_singleton.1 hk
  have e0 : ∀ X : Fin 2, X = 0 → ((ix2 i y : (⟨2, ![8192, 64]⟩ : Shape).Idx) X).val = i.val := fun X h => by subst h; rfl
  have e1 : ∀ X : Fin 2, X = 1 → ((ix2 i y : (⟨2, ![8192, 64]⟩ : Shape).Idx) X).val = y.val := fun X h => by subst h; rfl
  have hsi : ∀ (q : Fin 2) (hm : (⟨q.val, by omega⟩ : Fin 3) ∈ d.startIndexMap),
      d.siIdx (ix2 i y) ⟨d.startIndexMap.idxOf (⟨q.val, by omega⟩ : Fin 3), List.idxOf_lt_length_iff.2 hm⟩ = ix2 i q := by
    intro q hm
    funext b
    apply Fin.ext
    match b with
    | ⟨0, _⟩ =>
      unfold GatherDims.siIdx
      rw [dif_neg (by rw [hivd]; simp)]
      unfold GatherDims.siCoord
      simp only [Fin.val_cast]
      exact e0 _ (hk0 _ (List.getElem_mem _))
    | ⟨1, _⟩ =>
      unfold GatherDims.siIdx
      rw [dif_pos (by rw [hivd])]
      show List.idxOf (⟨q.val, by omega⟩ : Fin 3) d.startIndexMap = q.val
      rw [hsim]
      fin_cases q <;> rfl
  have lr := r.isLt
  have lg := g.isLt
  show d.start (ix2 i y) idx a + d.batchCoord (ix2 i y) a + d.offCoord (ix2 i y) a = _
  rw [d.batchCoord_eq_zero _ _ (hbN _)]
  match a with
  | ⟨0, _⟩ =>
    have hk : (0 : Fin 3) ∉ d.sKept := fun h => ((d.mem_sKept 0).1 h).1 (by rw [hcoll]; simp)
    have hm : (0 : Fin 3) ∈ d.startIndexMap := by rw [hsim]; simp
    have hsl : d.sliceSizes 0 = 1 := d.slice_collapsed 0 (by rw [hcoll]; simp)
    show d.start (ix2 i y) idx 0 + 0 + d.offCoord (ix2 i y) 0 = r.val
    rw [d.offCoord_eq_zero _ _ hk]
    unfold GatherDims.start
    rw [dif_pos hm, show d.siIdx (ix2 i y) ⟨d.startIndexMap.idxOf (0 : Fin 3), List.idxOf_lt_length_iff.2 hm⟩ = ix2 i (0 : Fin 2) from hsi 0 hm, h0, hsl, BitVec.toInt_eq_toNat_of_lt (by rw [BitVec.toNat_ofNat]; omega), BitVec.toNat_ofNat]
    show min ((r.val % 2 ^ 32 : ℕ) : ℤ).toNat (8193 - 1) + 0 + 0 = r.val
    omega
  | ⟨1, _⟩ =>
    have hk : (1 : Fin 3) ∉ d.sKept := fun h => ((d.mem_sKept 1).1 h).1 (by rw [hcoll]; simp)
    have hm : (1 : Fin 3) ∈ d.startIndexMap := by rw [hsim]; simp
    have hsl : d.sliceSizes 1 = 1 := d.slice_collapsed 1 (by rw [hcoll]; simp)
    show d.start (ix2 i y) idx 1 + 0 + d.offCoord (ix2 i y) 1 = g.val
    rw [d.offCoord_eq_zero _ _ hk]
    unfold GatherDims.start
    rw [dif_pos hm, show d.siIdx (ix2 i y) ⟨d.startIndexMap.idxOf (1 : Fin 3), List.idxOf_lt_length_iff.2 hm⟩ = ix2 i (1 : Fin 2) from hsi 1 hm, h1, hsl, BitVec.toInt_eq_toNat_of_lt (by rw [BitVec.toNat_ofNat]; omega), BitVec.toNat_ofNat]
    show min ((g.val % 2 ^ 32 : ℕ) : ℤ).toNat (4 - 1) + 0 + 0 = g.val
    omega
  | ⟨2, _⟩ =>
    have hm : (2 : Fin 3) ∉ d.startIndexMap := by rw [hsim]; decide
    have hk : (2 : Fin 3) ∈ d.sKept := (d.mem_sKept 2).2 ⟨by rw [hcoll]; decide, hbN _⟩
    show d.start (ix2 i y) idx 2 + 0 + d.offCoord (ix2 i y) 2 = y.val
    unfold GatherDims.start GatherDims.offCoord
    rw [dif_neg hm, dif_pos hk]
    rw [e1 _ (hk1 _ (List.getElem_mem _))]
    omega

/-- A square of 64 columns written into a matrix at a place of its diagonal. -/
theorem scatter_square {α : Type} (d : ScatterDims ⟨2, ![256, 256]⟩ ⟨1, ![2]⟩ ⟨2, ![64, 64]⟩) (hu : d.updateWindowDims = [0, 1]) (hiw : d.insertedWindowDims = [])
    (hsd : d.scatterDimsToOperandDims = [0, 1]) (hivd : d.indexVectorDim = 0) (x : (⟨2, ![256, 256]⟩ : Shape).Idx → α) (idx : IVec ⟨1, ![2]⟩ 32)
    (upd : (⟨2, ![64, 64]⟩ : Shape).Idx → α) (g : Fin 4) (h0 : idx (ix1 (0 : Fin 2)) = BitVec.ofNat 32 (64 * g.val)) (h1 : idx (ix1 (1 : Fin 2)) = BitVec.ofNat 32 (64 * g.val))
    (r c : Fin 256) :
    Host.scatter d (fun _ b => b) x idx upd (ix2 r c) = if grp r = g ∧ grp c = g then upd (ix2 (plc r) (plc c)) else x (ix2 r c) := by
  have lg := g.isLt
  have lr := r.isLt
  have lc := c.isLt
  have hi : ∀ q : Fin 2, (idx (ix1 q)).toInt = ((64 * g.val : ℕ) : ℤ) := by
    intro q
    have e : idx (ix1 q) = BitVec.ofNat 32 (64 * g.val) := by fin_cases q; exacts [h0, h1]
    rw [e, BitVec.toInt_eq_toNat_of_lt (by rw [BitVec.toNat_ofNat]; omega), BitVec.toNat_ofNat]
    omega
  have hkept : d.sKept = [0, 1] := by
    show (⟨2, ![256, 256]⟩ : Shape).kept d.insertedWindowDims = _
    rw [hiw]
    rfl
  have hw : ∀ (k : (⟨2, ![64, 64]⟩ : Shape).Idx) (q : Fin 2), d.window k q = (k q).val := by
    intro k q
    unfold ScatterDims.window
    rw [dif_pos (by rw [hkept]; fin_cases q <;> simp)]
    have e : ∀ X : Fin 2, X = q → (k X).val = (k q).val := fun X h => by rw [h]
    refine e _ ?_
    have : ∀ (l1 l2 : List (Fin 2)) (h1 : l1 = [0, 1]) (h2 : l2 = [0, 1]) (hh : l1.idxOf q < l2.length), l2[l1.idxOf q] = q := by
      intro l1 l2 h1 h2 hh
      subst h1 h2
      fin_cases q <;> rfl
    exact this _ _ hkept hu _
  have lands : ∀ k : (⟨2, ![64, 64]⟩ : Shape).Idx, d.resultIdx? k idx = some (ix2 r c) ↔ 64 * g.val + (k 0).val = r.val ∧ 64 * g.val + (k 1).val = c.val := by
    intro k
    rw [Routing.resultIdx?_eq_some]
    have hs : ∀ q : Fin 2, d.start k idx q = ((64 * g.val : ℕ) : ℤ) := fun q => (Routing.start_pair d hsd hivd idx k q).trans (hi q)
    constructor
    · intro h
      have a0 := h 0
      have a1 := h 1
      rw [hs, hw] at a0 a1
      have b0 : ((64 * g.val : ℕ) : ℤ) + ((k 0).val : ℤ) = (r.val : ℤ) := a0
      have b1 : ((64 * g.val : ℕ) : ℤ) + ((k 1).val : ℤ) = (c.val : ℤ) := a1
      omega
    · intro h a
      rw [hs, hw]
      match a with
      | ⟨0, _⟩ => show ((64 * g.val : ℕ) : ℤ) + ((k 0).val : ℤ) = (r.val : ℤ); omega
      | ⟨1, _⟩ => show ((64 * g.val : ℕ) : ℤ) + ((k 1).val : ℤ) = (c.val : ℤ); omega
  have k0 : ∀ k : (⟨2, ![64, 64]⟩ : Shape).Idx, (k 0).val < 64 := fun k => (k 0).isLt
  have k1 : ∀ k : (⟨2, ![64, 64]⟩ : Shape).Idx, (k 1).val < 64 := fun k => (k 1).isLt
  by_cases hg : grp r = g ∧ grp c = g
  · rw [if_pos hg]
    obtain ⟨g0, g1⟩ := hg
    have g0' : r.val / 64 = g.val := congrArg Fin.val g0
    have g1' : c.val / 64 = g.val := congrArg Fin.val g1
    refine Routing.scatter_set_hit d x idx upd _ _ (fun k hk => ?_) (ix2 (plc r) (plc c)) ((lands _).2 ⟨?_, ?_⟩)
    · obtain ⟨a, b⟩ := (lands k).1 hk
      refine congrArg upd ((ix2_eta k).symm.trans ?_)
      have ta := k0 k
      have tb := k1 k
      rw [show k 0 = plc r from Fin.ext (by show (k 0).val = r.val % 64; omega), show k 1 = plc c from Fin.ext (by show (k 1).val = c.val % 64; omega)]
    · show 64 * g.val + r.val % 64 = r.val
      omega
    · show 64 * g.val + c.val % 64 = c.val
      omega
  · rw [if_neg hg]
    refine Routing.scatter_set_miss d x idx upd _ fun k hk => hg ?_
    obtain ⟨a, b⟩ := (lands k).1 hk
    have ta := k0 k
    have tb := k1 k
    exact ⟨Fin.ext (by show r.val / 64 = g.val; omega), Fin.ext (by show c.val / 64 = g.val; omega)⟩

end Cert.Mix
end
-- ==== Proof.Mix.Tile.lean ====
module

public import proofs.«01_k».proof.Proof.Gen.MixerIdeal.Value
public import proofs.«01_k».proof.Proof.Mix.Real
public import Idealize.ShloMosaic.Lib.Claim
public import Idealize.ShloMosaic.Lib.WordCmp
public import Idealize.ShloMosaic.Lib.KernelVsHost
public import Idealize.ShloMosaic.Lib.Pipeline.ValueKit
public import Idealize.ShloMosaic.Lib.Pointwise

/-! One block of rows of the mixer, in real numbers. -/

@[expose] public section

set_option maxRecDepth 16384
noncomputable section

namespace Cert.MixerIdeal.Tile

open Cert.MixerIdeal Cert.MixerIdeal.Gen Idealize.ShloMosaic Idealize.ShloMosaic.TcCoe Cert.Norm Cert.Head Cert.Mix

/-! ## Rows with the 16 before them -/

/-- Row `r` of block `T` with the 16 rows before it, zero before the first row. -/
def ext (g : Fin 8192 → ℝ) (T r : ℕ) : ℝ := if h : 16 ≤ T * 512 + r ∧ T * 512 + r - 16 < 8192 then g ⟨T * 512 + r - 16, h.2⟩ else 0

theorem ext_bk (g : Fin 8192 → ℝ) (T i k : ℕ) (p : Fin 8192) (hp : p.val = T * 512 + i) (hk : k ≤ 16 + i) : ext g T (16 + i - k) = bk g p k := by
  have := p.isLt
  unfold ext bk
  by_cases h : k ≤ p.val
  · rw [dif_pos (by omega), if_pos h]
    exact congrArg g (Fin.ext (by show T * 512 + (16 + i - k) - 16 = p.val - k; omega))
  · rw [dif_neg (by omega), if_neg h]

def s2 (e : ℕ → ℝ) (r : ℕ) : ℝ := e r + e (r - 1)
def s4 (e : ℕ → ℝ) (r : ℕ) : ℝ := s2 e r + s2 e (r - 2)
def s8 (e : ℕ → ℝ) (r : ℕ) : ℝ := s4 e r + s4 e (r - 4)
def s16 (e : ℕ → ℝ) (r : ℕ) : ℝ := s8 e r + s8 e (r - 8)

section
variable (g : Fin 8192 → ℝ) (T i : ℕ) (p : Fin 8192) (hp : p.val = T * 512 + i)
include hp

theorem s2_win (k : ℕ) (hk : k + 1 ≤ 16 + i) : s2 (ext g T) (16 + i - k) = bk g p k + bk g p (k + 1) := by
  unfold s2
  rw [Nat.sub_sub, ext_bk g T i k p hp (by omega), ext_bk g T i (k + 1) p hp hk]
theorem s4_win (k : ℕ) (hk : k + 3 ≤ 16 + i) : s4 (ext g T) (16 + i - k) = ∑ q ∈ Finset.range 4, bk g p (k + q) := by
  unfold s4
  rw [Nat.sub_sub, s2_win g T i p hp k (by omega), s2_win g T i p hp (k + 2) hk]
  simp only [Finset.sum_range_succ, Finset.sum_range_zero, add_zero, zero_add, add_assoc]
theorem s8_win (k : ℕ) (hk : k + 7 ≤ 16 + i) : s8 (ext g T) (16 + i - k) = ∑ q ∈ Finset.range 8, bk g p (k + q) := by
  unfold s8
  rw [Nat.sub_sub, s4_win g T i p hp k (by omega), s4_win g T i p hp (k + 4) hk]
  simp only [Finset.sum_range_succ, Finset.sum_range_zero, add_zero, zero_add, add_assoc]
theorem s16_win (k : ℕ) (hk : k + 15 ≤ 16 + i) : s16 (ext g T) (16 + i - k) = ∑ q ∈ Finset.range 16, bk g p (k + q) := by
  unfold s16
  rw [Nat.sub_sub, s8_win g T i p hp k (by omega), s8_win g T i p hp (k + 8) hk]
  simp only [Finset.sum_range_succ, Finset.sum_range_zero, add_zero, zero_add, add_assoc]
end

/-! ## One block -/

theorem turn (n k : ℕ) (hk : k ≤ n) (h0 : 0 < k) (hn : n < 528) : (n + 528 - k) % 528 = n - k := by omega

theorem bk_mul (f h : Fin 8192 → ℝ) (p : Fin 8192) (k : ℕ) : bk (fun r => f r * h r) p k = bk f p k * bk h p k := by
  unfold bk
  split
  · rfl
  · rw [mul_zero]

/-- The word of a small number, as a real. -/
theorem word_real (n : ℕ) (h : n < 2 ^ 31) : FloatOps.sitofp (F := Ideal) FTy.f32 (BitVec.ofNat 32 n) = ((n : ℝ) : EReal) := by
  have e : (BitVec.ofNat 32 n).toInt = (n : ℤ) := by
    rw [BitVec.toInt_eq_toNat_of_lt (by rw [BitVec.toNat_ofNat]; omega), BitVec.toNat_ofNat, Nat.mod_eq_of_lt (by omega)]
  simp [FloatOps.sitofp, FloatOps.scalar, Ideal.scalarOps, e]

theorem word_min (a b : ℕ) (ha : a < 2 ^ 31) (hb : b < 2 ^ 31) : IntOp.minsi (BitVec.ofNat 32 a) (BitVec.ofNat 32 b) = BitVec.ofNat 32 (min a b) := by
  have e : ∀ n : ℕ, n < 2 ^ 31 → (BitVec.ofNat 32 n).toInt = (n : ℤ) := fun n h => by
    rw [BitVec.toInt_eq_toNat_of_lt (by rw [BitVec.toNat_ofNat]; omega), BitVec.toNat_ofNat, Nat.mod_eq_of_lt (by omega)]
  unfold IntOp.minsi
  simp only [BitVec.sle, BitVec.slt, e a ha, e b hb]
  by_cases h : a < b
  · rw [min_eq_left (by omega), if_pos (by simpa using h)]
  · rw [min_eq_right (by omega), if_neg (by simpa using h)]

theorem keep_at (c : grid0.Coords) (hT : (c 0).val < 16) : k0_pay2 (F := Ideal) c = ((if 0 < (c 0).val then 1 else 0 : ℝ) : EReal) := by
  unfold k0_pay2
  generalize (c 0).val = T at hT
  have e : (Scalar.extui (Scalar.cmpi .sgt (BitVec.ofNat 32 T) 0#32) : BitVec 32) = BitVec.ofNat 32 (if 0 < T then 1 else 0) := by
    interval_cases T <;> rfl
  show FloatOps.sitofp (F := Ideal) FTy.f32 (Scalar.extui (Scalar.cmpi .sgt (BitVec.ofNat 32 T) 0#32) : BitVec 32) = _
  rw [e, word_real _ (by split <;> norm_num)]
  split <;> simp

section tile
variable {c : grid0.Coords} {T : ℕ} (hc : (c 0).val = T) (hT : T < 16)
variable {v3 v8 v13 : Vec Ideal S16x256 .f32} {v6 v11 v16 v89 : Vec Ideal S512x256 .f32} {v18 : Vec Ideal S3x256 .f32} {v92 : Vec Ideal S256x256 .bf16}
  {v95 : Vec Ideal S1x256 .f32} {v101 : Vec Ideal S512x512 .f32} {v103 : Vec Ideal S1024x128 .bf16} {v105 : Vec Ideal S128x1024 .bf16} {v129 : Vec Ideal S1x1024 .f32}
variable {U V Q B : Fin 256 → Fin 8192 → ℝ}

/-- What a block of rows and the 16 before it hold. -/
structure Rows (T : ℕ) (v : Vec Ideal S16x256 .f32) (w : Vec Ideal S512x256 .f32) (Q : Fin 256 → Fin 8192 → ℝ) : Prop where
  halo : ∀ r j, 0 < T → v (ix2 r j) = (ext (Q j) T r.val : EReal)
  real : ∀ r j, ∃ x : ℝ, v (ix2 r j) = (x : EReal)
  main : ∀ i j, w (ix2 i j) = (ext (Q j) T (16 + i.val) : EReal)

include hc hT in
theorem pay3_at (h : Rows T v13 v16 Q) (r : Fin 528) (j : Fin 256) : k0_pay3 (F := Ideal) c v13 v16 (ix2 r j) = (ext (Q j) T r.val : EReal) := by
  obtain ⟨x, hx, hk⟩ : ∃ x : ℝ, x = (if 0 < T then 1 else 0) ∧ k0_pay2 (F := Ideal) c = (x : EReal) := ⟨_, rfl, hc ▸ keep_at c (by omega)⟩
  unfold k0_pay3
  pointwise [hk]
  by_cases hr : r.val < 16
  · rw [dif_pos hr]
    by_cases h0 : 0 < T
    · refine (congrArg (· * (x : EReal)) (h.halo ⟨r.val, hr⟩ j h0)).trans ?_
      rw [hx, if_pos h0]
      exact mul_one _
    · obtain ⟨y, hy⟩ := h.real ⟨r.val, hr⟩ j
      refine (congrArg (· * (x : EReal)) hy).trans ?_
      rw [hx, if_neg h0]
      refine (mul_zero _).trans ?_
      unfold ext
      rw [dif_neg (by omega)]
      exact EReal.coe_zero.symm
  · rw [dif_neg hr, h.main]
    refine congrArg (fun n => ((ext (Q j) T n : ℝ) : EReal)) ?_
    show 16 + (r.val - 16) = r.val
    omega

include hc hT in
theorem pay4_at {W : Fin 3 → Fin 256 → ℝ} (hu : Rows T v3 v6 U) (hv : Rows T v8 v11 V) (hw : ∀ k j, v18 (ix2 k j) = (W k j : EReal)) (i : Fin 512) (j : Fin 256)
    (p : Fin 8192) (hp : p.val = T * 512 + i.val) :
    k0_pay4 (F := Ideal) c v3 v6 v8 v11 v18 (ix2 i j)
      = ((bk (fun r => U j r * V j r) p 2 * W 0 j + bk (fun r => U j r * V j r) p 1 * W 1 j + bk (fun r => U j r * V j r) p 0 * W 2 j : ℝ) : EReal) := by
  have e1 := pay3_at hc hT hu
  have e2 := pay3_at hc hT hv
  unfold k0_pay3 at e1 e2
  unfold k0_pay4
  generalize concatenate S528x256 0 [⟨S16x256, mulf v3 (broadcast S16x256 (k0_pay2 (F := Ideal) c))⟩, ⟨S512x256, v6⟩] concatenates_S16x256_S512x256_S528x256_d0 = a at e1 ⊢
  generalize concatenate S528x256 0 [⟨S16x256, mulf v8 (broadcast S16x256 (k0_pay2 (F := Ideal) c))⟩, ⟨S512x256, v11⟩] concatenates_S16x256_S512x256_S528x256_d0 = b at e2 ⊢
  have := i.isLt
  pointwise [e1, e2, hw]
  simp (disch := omega) only [turn]
  rw [ext_bk (U j) T i.val 2 p hp (by omega), ext_bk (V j) T i.val 2 p hp (by omega), ext_bk (U j) T i.val 1 p hp (by omega), ext_bk (V j) T i.val 1 p hp (by omega),
    show 16 + i.val = 16 + i.val - 0 from rfl, ext_bk (U j) T i.val 0 p hp (by omega), ext_bk (V j) T i.val 0 p hp (by omega)]
  simp only [← EReal.coe_mul, ← EReal.coe_add]
  rw [bk_mul, bk_mul, bk_mul]

theorem pay6_at (hT : T < 16) (i : Fin 512) (j : Fin 256) (p : Fin 8192) (hp : p.val = T * 512 + i.val) :
    k0_pay6 (F := Ideal) (Scalar.muli (BitVec.ofNat 32 T) 512#32) (ix2 i j) = (cnt p (size j) : EReal) := by
  have ti := i.isLt
  have tj := j.isLt
  unfold k0_pay6
  pointwise
  simp (disch := omega) only [hlo_ix]
  have e : (if j.val < 64 then 2#32 else if j.val < 128 then 4#32 else if j.val < 192 then 8#32 else 16#32) = BitVec.ofNat 32 (size j) := by
    unfold size
    split <;> [rfl; split <;> [rfl; split <;> rfl]]
  have e' : IntOp.addi (IntOp.addi (Scalar.muli (BitVec.ofNat 32 T) 512#32) (BitVec.ofNat 32 i.val)) 1#32 = BitVec.ofNat 32 (p.val + 1) := by
    rw [hp]
    show BitVec.ofNat 32 T * 512#32 + BitVec.ofNat 32 i.val + 1#32 = _
    apply BitVec.eq_of_toNat_eq
    simp
  have sl : size j ≤ 16 := by unfold size; split <;> [skip; split <;> [skip; split]] <;> norm_num
  have tp := p.isLt
  rw [e, e', word_min _ _ (by omega) (by omega), word_real _ (by omega)]
  rfl

include hc hT in
theorem pay7_at (h : Rows T v13 v16 Q) (i : Fin 512) (j : Fin 256) (p : Fin 8192) (hp : p.val = T * 512 + i.val) :
    k0_pay7 (F := Ideal) (k0_pay5 c v13 v16) 2#32 (ix2 i j) = (win (Q j) p (size j) : EReal) := by
  have ti := i.isLt
  have tj := j.isLt
  have e5 : ∀ (n : ℕ) (hn : n < 528), 1 ≤ n → k0_pay5 (F := Ideal) c v13 v16 (ix2 (⟨n, hn⟩ : Fin 528) j) = (s2 (ext (Q j) T) n : EReal) := by
    intro n hn h1
    have e3 := pay3_at hc hT h
    unfold k0_pay5
    pointwise [e3]
    simp (disch := omega) only [turn]
    rw [← EReal.coe_add]
    rfl
  unfold k0_pay7
  pointwise
  simp (disch := omega) only [hlo_ix, e5, turn, ← EReal.coe_add]
  have a2 : s2 (ext (Q j) T) (16 + i.val) = win (Q j) p 2 := by
    refine (s2_win (Q j) T i.val p hp 0 (by omega)).trans ?_
    simp [win, Finset.sum_range_succ]
  have a4 : s4 (ext (Q j) T) (16 + i.val) = win (Q j) p 4 := by
    refine (s4_win (Q j) T i.val p hp 0 (by omega)).trans ?_
    simp [win]
  have a8 : s8 (ext (Q j) T) (16 + i.val) = win (Q j) p 8 := by
    refine (s8_win (Q j) T i.val p hp 0 (by omega)).trans ?_
    simp [win]
  have a16 : s16 (ext (Q j) T) (16 + i.val) = win (Q j) p 16 := by
    refine (s16_win (Q j) T i.val p hp 0 (by omega)).trans ?_
    simp [win]
  unfold size
  split
  · rw [a2]
  split
  · exact congrArg _ a4
  split
  · exact congrArg _ a8
  · exact congrArg _ a16

variable {X : Fin 8192 → Fin 1024 → ℝ} {A : Fin 8192 → Fin 512 → ℝ} {W : Fin 3 → Fin 256 → ℝ} {P : Fin 4 → Fin 64 → Fin 64 → ℝ} {S : Fin 256 → ℝ} {G : Fin 1024 → ℝ}
variable {ρ : Fin 512 → Fin 8192} (hρ : ∀ i, (ρ i).val = T * 512 + i.val)
variable {v17 : FVec Ideal S528x256 .f32} {v36 v66 v85 : FVec Ideal S512x256 .f32}

/-- What the four vectors read from the rows hold. -/
structure Read (X : Fin 8192 → Fin 1024 → ℝ) (A : Fin 8192 → Fin 512 → ℝ) (W : Fin 3 → Fin 256 → ℝ) (P : Fin 4 → Fin 64 → Fin 64 → ℝ) (S : Fin 256 → ℝ)
    (ρ : Fin 512 → Fin 8192) (T : ℕ) (v17 : FVec Ideal S528x256 .f32) (v36 v66 v85 : FVec Ideal S512x256 .f32)
    (v89 : Vec Ideal S512x256 .f32) (v92 : Vec Ideal S256x256 .bf16) (v95 : Vec Ideal S1x256 .f32) (v101 : Vec Ideal S512x512 .f32) : Prop where
  p : ∀ r j, v17 (ix2 r j) = (ext (fun r => X r (quarter 3 j)) T r.val : EReal)
  y : ∀ i j, v36 (ix2 i j) = ((bk (prod2 X j) (ρ i) 2 * W 0 j + bk (prod2 X j) (ρ i) 1 * W 1 j + bk (prod2 X j) (ρ i) 0 * W 2 j : ℝ) : EReal)
  n : ∀ i j, v66 (ix2 i j) = (cnt (ρ i) (size j) : EReal)
  s : ∀ i j, v85 (ix2 i j) = (win (fun r => X r (quarter 3 j)) (ρ i) (size j) : EReal)
  b : ∀ i j, v89 (ix2 i j) = (X (ρ i) (quarter 0 j) : EReal)
  m : ∀ k j, v92 (ix2 k j) = (wbd P k j : EReal)
  q : ∀ j, v95 (ix2 0 j) = (S j : EReal)
  a : ∀ i j, v101 (ix2 i j) = (A (ρ i) j : EReal)

theorem pay8_at (h : Read X A W P S ρ T v17 v36 v66 v85 v89 v92 v95 v101) (i j) : k0_pay8 (F := Ideal) v36 v89 (ix2 i j) = (conv X W (ρ i) j : EReal) := by
  have e := h.y
  have e' := h.b
  unfold k0_pay8
  pointwise [e, e']
  rw [← EReal.coe_mul]
  rfl

include hρ in
theorem pay9_at (h : Read X A W P S ρ T v17 v36 v66 v85 v89 v92 v95 v101) (i j) : k0_pay9 (F := Ideal) v17 v66 v85 v92 v95 (ix2 i j) = (mix X P S (ρ i) j : EReal) := by
  have e1 := h.p
  have e2 := h.n
  have e3 := h.s
  have e4 := h.m
  have e5 := h.q
  unfold k0_pay9
  pointwise [e1, e2, e3, e4, e5]
  simp only [div_real (cnt_ne _ (size_pos _)), ← EReal.coe_sub, ← EReal.coe_mul, coe_sum]
  refine congrArg _ (congrArg (· * S j) ?_)
  refine Eq.trans ?_ (sum_wbd P (fun k => pooled X (ρ i) k) j)
  refine Finset.sum_congr rfl fun k _ => congrArg (· * wbd P k j) ?_
  unfold pooled
  refine congrArg (win (fun r => X r (quarter 3 k)) (ρ i) (size k) / cnt (ρ i) (size k) - ·) ?_
  exact (ext_bk (fun r => X r (quarter 3 k)) T i.val 0 (ρ i) (hρ i) (by omega)).trans (if_pos (Nat.zero_le _))

include hρ in
theorem pay10_at (h : Read X A W P S ρ T v17 v36 v66 v85 v89 v92 v95 v101) (i j) :
    k0_pay10 (F := Ideal) v17 v36 v66 v85 v89 v92 v95 (ix2 i j) = (ocp X W P S (ρ i) j : EReal) := by
  have e8 := pay8_at h
  have e9 := pay9_at hρ h
  unfold k0_pay10
  pointwise [e8, e9]
  unfold ocp
  split <;> rfl

include hρ in
theorem pay11_at (h : Read X A W P S ρ T v17 v36 v66 v85 v89 v92 v95 v101) (i j) :
    k0_pay11 (F := Ideal) v17 v36 v66 v85 v89 v92 v95 v101 (ix2 i j) = (full X A W P S (ρ i) j : EReal) := by
  have e8 := pay8_at h
  have e9 := pay9_at hρ h
  have ea := h.a
  unfold k0_pay11
  pointwise [e8, e9, ea]
  unfold full cat ocp
  by_cases h1 : j.val < 512
  · exact (dif_pos h1).trans (congrArg Real.toEReal (by rw [dif_pos h1]))
  by_cases h2 : j.val - 512 < 256
  · exact (dif_neg h1).trans ((dif_pos h2).trans (congrArg Real.toEReal ((dif_neg h1).trans (dif_pos h2)).symm))
  · exact (dif_neg h1).trans ((dif_neg h2).trans (congrArg Real.toEReal ((dif_neg h1).trans (dif_neg h2)).symm))

/-- The lanes' reciprocal roots from the ones of each head. -/
theorem rr128_ones (O : Fin 1024 → ℝ) (h : Fin 128) :
    rr128 O h = (Real.sqrt ((∑ j, O j * O j * (if j.val / 64 = h.val then 1 else 0)) * (1 / 64) + eps6))⁻¹ := by
  unfold rr128
  split
  · rename_i hh
    unfold rr ms
    have e : (lane (col ⟨h.val, hh⟩ 0)).val = h.val := by
      show (h.val * 64 + 0) / 64 = h.val
      omega
    have s := sum_head (fun j => O j * O j) (col ⟨h.val, hh⟩ 0)
    rw [e, hd_col] at s
    rw [s]
  · rename_i hh
    rw [Finset.sum_eq_zero fun j _ => by rw [if_neg (by omega), mul_zero], zero_mul, zero_add]

include hρ in
theorem pay13_at (h : Read X A W P S ρ T v17 v36 v66 v85 v89 v92 v95 v101) (he : ∀ j h, v103 (ix2 j h) = ((if j.val / 64 = h.val then 1 else 0 : ℝ) : EReal)) (i k) :
    k0_pay13 (F := Ideal) v17 v36 v66 v85 v89 v92 v95 v101 v103 (ix2 i k) = (rr128 (full X A W P S (ρ i)) k : EReal) := by
  have e11 := pay11_at hρ h
  unfold k0_pay13
  pointwise [e11, he]
  simp only [← EReal.coe_sub, ← EReal.coe_mul, coe_sum, ← EReal.coe_add, sub_self, zero_mul, Finset.sum_const_zero, add_zero, lit64, litEps6]
  rw [rr128_ones]
  refine rsqrt_pos (add_pos_of_nonneg_of_pos (mul_nonneg (Finset.sum_nonneg fun j _ => mul_nonneg (mul_self_nonneg _) ?_) (by norm_num)) eps6_pos)
  split <;> norm_num

include hρ in
theorem pay1_at (h : Read X A W P S ρ T v17 v36 v66 v85 v89 v92 v95 v101) (he : ∀ j h, v103 (ix2 j h) = ((if j.val / 64 = h.val then 1 else 0 : ℝ) : EReal))
    (ht : ∀ h j, v105 (ix2 h j) = ((if j.val / 64 = h.val then 1 else 0 : ℝ) : EReal)) (hg : ∀ j, v129 (ix2 0 j) = (G j : EReal)) (i j) :
    k0_pay1 (F := Ideal) (k0_pay11 v17 v36 v66 v85 v89 v92 v95 v101) (k0_pay12 v105) (k0_pay15 v17 v36 v66 v85 v89 v92 v95 v101 v103)
      (k0_pay16 v17 v36 v66 v85 v89 v92 v95 v101 v103 v105) v129 (ix2 i j)
      = ((full X A W P S (ρ i) j * rr (full X A W P S (ρ i)) (hd j) * G j : ℝ) : EReal) := by
  have e11 := pay11_at hρ h
  have e13 := pay13_at hρ h he
  unfold k0_pay1 k0_pay12 k0_pay15 k0_pay16 k0_pay14
  unfold k0_pay12
  pointwise [e11, e13, ht, hg]
  simp only [← EReal.coe_sub, ← EReal.coe_mul, coe_sum, ← EReal.coe_add, sub_self, zero_mul, Finset.sum_const_zero, add_zero, sum_lane, rr128_lane]

end tile
end Cert.MixerIdeal.Tile
end
-- ==== Proof.Mix.Ref.lean ====
module

public import proofs.«01_k».proof.Proof.Gen.MixerRefIdeal.Run
public import proofs.«01_k».proof.Proof.Gen.MixerRefIdeal.Read
public import proofs.«01_k».proof.Proof.Mix.Ops
public import proofs.«01_k».proof.Proof.Mix.Tile
public import Idealize.ShloMosaic.Lib.Pointwise
public import Idealize.ShloMosaic.Lib.WordCmp

/-! The reference's mixer: the short convolution, the windowed means from a running sum, their mixture and the norm over heads, in real numbers. -/

@[expose] public section

set_option maxRecDepth 16384
noncomputable section

namespace Cert.MixerRefIdeal.At

open Idealize.ShloMosaic Idealize.ShloMosaic.TcCoe Cert.Norm Cert.Head Cert.Mix
open Cert.MixerRefIdeal Cert.MixerRefIdeal.Gen Cert.MixerRefIdeal.Read

variable {x0 : Vec Ideal S8192x1024 .f32} {x1 : Vec Ideal S8192x512 .f32} {x2 : Vec Ideal S3x256 .f32} {x3 : Vec Ideal S4x64x64 .f32}
  {x4 : Vec Ideal S256 .f32} {x5 : Vec Ideal S1024 .f32}
variable {X : Fin 8192 → Fin 1024 → ℝ} {A : Fin 8192 → Fin 512 → ℝ} {W : Fin 3 → Fin 256 → ℝ} {P : Fin 4 → Fin 64 → Fin 64 → ℝ} {S : Fin 256 → ℝ} {G : Fin 1024 → ℝ}

/-- The padding value: the integer zero converted. -/
theorem zero_word : (FloatOps.sitofp FTy.f32 (0#32) : Ideal .f32) = ((0 : ℝ) : EReal) := by
  show ((((0#32 : BitVec 32).toInt : ℤ) : ℝ) : EReal) = ((0 : ℝ) : EReal)
  norm_num

variable (h0 : ∀ i j, x0 (ix2 i j) = (X i j : EReal))

/-! ## The short convolution -/

include h0 in
theorem v5_at (i : Fin 8192) (k : Fin 3) (j : Fin 256) :
    val_main_v5 (F := Ideal) x0 (ix2 (⟨2 - k.val + i.val, by omega⟩ : Fin 8194) j) = (bk (prod2 X j) i k.val : EReal) := by
  have tk := k.isLt
  unfold val_main_v5 val_main_v4 val_main_v1 val_main_v2 val_main_call0_v0 val_main_c
  pointwise [h0]
  unfold bk prod2
  by_cases h : k.val ≤ i.val
  · rw [dif_pos (by omega), if_pos h, EReal.coe_mul]
    have e : (⟨2 - k.val + i.val - 2, by omega⟩ : Fin 8192) = ⟨i.val - k.val, by omega⟩ := Fin.ext (by show 2 - k.val + i.val - 2 = i.val - k.val; omega)
    rw [e]
    rfl
  · rw [dif_neg (by omega), if_neg h]
    exact zero_word

include h0 in
theorem v26_at (h2 : ∀ k j, x2 (ix2 k j) = (W k j : EReal)) (i j) :
    val_main_v26 (F := Ideal) x0 x2 (ix2 i j) = (conv X W i j : EReal) := by
  have a : ∀ (k : Fin 3) (r : Fin 8194), r.val = 2 - k.val + i.val → val_main_v5 (F := Ideal) x0 (ix2 r j) = (bk (prod2 X j) i k.val : EReal) :=
    fun k r hr => (congrArg (fun r : Fin 8194 => val_main_v5 (F := Ideal) x0 (ix2 r j)) (Fin.ext hr)).trans (v5_at h0 i k j)
  unfold val_main_v26 val_main_v25 val_main_v24 val_main_v23 val_main_v22 val_main_v21 val_main_v20 val_main_v19 val_main_v18 val_main_v17 val_main_v16 val_main_v15
    val_main_v14 val_main_v13 val_main_v12 val_main_v11 val_main_v10 val_main_v9 val_main_v8 val_main_v7 val_main_v6 val_main_v0
  pointwise [h0, h2]
  have q : (⟨j.val, by omega⟩ : Fin 1024) = quarter 0 j := Fin.ext (by show j.val = 0 * 256 + j.val; omega)
  refine (congrArg₂ (fun u v => ((X i u : ℝ) : EReal) * v) q (congrArg₂ (· + ·) (congrArg₂ (· + ·) (congrArg (· * ((W 0 j : ℝ) : EReal)) (a 2 ⟨i.val, by omega⟩ (Nat.zero_add i.val).symm)) (congrArg (· * ((W 1 j : ℝ) : EReal)) (a 1 ⟨1 + i.val, by omega⟩ rfl)))
    (congrArg (· * ((W 2 j : ℝ) : EReal)) (a 0 ⟨2 + i.val, by omega⟩ rfl)))).trans ?_
  simp only [← EReal.coe_mul, ← EReal.coe_add]
  rfl

/-! ## The windowed means -/

include h0 in
theorem v27_at (i : Fin 8192) (g : Fin 4) (d : Fin 64) :
    val_main_v27 (F := Ideal) x0 (ix3 i g d) = (X i (quarter 3 (gcol g d)) : EReal) := by
  unfold val_main_v27 val_main_v3
  pointwise [h0]
  rfl

include h0 in
theorem v29_at (r : Fin 8193) (g : Fin 4) (d : Fin 64) :
    val_main_v29 (F := Ideal) x0 (ix3 r g d) = (pre (fun s => X s (quarter 3 (gcol g d))) r.val : EReal) := by
  have e30 : ∀ i : Fin 8192, val_main_v28 (F := Ideal) x0 (ix3 i g d) = (pre (fun s => X s (quarter 3 (gcol g d))) (i.val + 1) : EReal) := by
    intro i
    have z : (val_main_call1_call0_v0 (F := Ideal)) (Shape.Idx.first h_S_) = 0 := by
      unfold val_main_call1_call0_v0 val_main_call1_call0_cst
      pointwise
    have r := running (N := 8192) (L := 8191) rfl (val_main_v27 (F := Ideal) x0) (fun s => X s (quarter 3 (gcol g d))) g d
      reduceWindows_S8192x4x64_S8192x4x64_w8192s1p8191_0_w1s1p0_0_w1s1p0_0 (fun r => v27_at h0 r g d) i
    have u : val_main_v28 (F := Ideal) x0 (ix3 i g d) = Ideal.hostReduceWindowAdd ![8192, 1, 1] ![1, 1, 1] ![8191, 0, 0] ![0, 0, 0]
        reduceWindows_S8192x4x64_S8192x4x64_w8192s1p8191_0_w1s1p0_0_w1s1p0_0 (val_main_v27 (F := Ideal) x0) ((val_main_call1_call0_v0 (F := Ideal)) (Shape.Idx.first h_S_)) (ix3 i g d) := by
      unfold val_main_v28 Host.reduceWindowAdd
      rw [Ideal.hostReduceWindowAdd_def]
    rw [u, z]
    exact r
  unfold val_main_v29  val_main_call2_v0 val_main_c_0
  pointwise [e30]
  by_cases h : r.val < 1
  · rw [dif_neg (by omega), show r.val = 0 by omega, pre_zero]
    exact zero_word
  · rw [dif_pos (by omega), show r.val - 1 + 1 = r.val by omega]

/-- The first row of a window. -/
def loOf (w : BitVec 32) : IVec S8192 32 :=
  maxsi (subi (addi (iotaInDim S8192 32 0) (broadcastInDim S8192 ![] bcast_S_S8192 (constantI S_ 32 1#32))) (broadcastInDim S8192 ![] bcast_S_S8192 (constantI S_ 32 w)))
    (broadcastInDim S8192 ![] bcast_S_S8192 (constantI S_ 32 0#32))
/-- The row and the group a window's first running sum is read at. -/
def idxOf (w b : BitVec 32) : IVec S8192x2 32 :=
  concatenate S8192x2 1 [⟨S8192x1, broadcastInDim S8192x1 ![0] bcast_S8192_S8192x1_0
      (select (cmpi .slt (loOf w) (broadcastInDim S8192 ![] bcast_S_S8192 (constantI S_ 32 0#32))) (addi (loOf w) (broadcastInDim S8192 ![] bcast_S_S8192 (constantI S_ 32 8193#32))) (loOf w))⟩,
    ⟨S8192x1, broadcastInDim S8192x1 ![0] bcast_S8192_S8192x1_0 (id (broadcastInDim S8192 ![] bcast_S_S8192 (constantI S_ 32 b)))⟩] concatenates_S8192x1_S8192x1_S8192x2_d1
/-- A window's number of rows, on the columns of a group. -/
def cntOf (w : BitVec 32) : FVec Ideal S8192x64 .f32 :=
  broadcastInDim S8192x64 ![0, 1] bcast_S8192x1_S8192x64_0_1 (broadcastInDim S8192x1 ![0] bcast_S8192_S8192x1_0
    (sitofp .f32 (subi (addi (iotaInDim S8192 32 0) (broadcastInDim S8192 ![] bcast_S_S8192 (constantI S_ 32 1#32))) (loOf w))))

theorem word_nat (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

theorem lo_at (w : ℕ) (hw : w ≤ 16) (i : Fin 8192) : loOf (BitVec.ofNat 32 w) (ix1 i) = BitVec.ofNat 32 (i.val + 1 - w) := by
  have ti := i.isLt
  unfold loOf
  pointwise
  show IntOp.maxsi (BitVec.ofNat 32 i.val + 1#32 - BitVec.ofNat 32 w) 0#32 = _
  by_cases h : w ≤ i.val + 1
  · have e : BitVec.ofNat 32 i.val + 1#32 - BitVec.ofNat 32 w = BitVec.ofNat 32 (i.val + 1 - w) := by
      apply BitVec.eq_of_toNat_eq
      simp [BitVec.toNat_sub]
      omega
    have p := word_nat (i.val + 1 - w) (by omega)
    rw [e]
    unfold IntOp.maxsi
    simp only [BitVec.slt, BitVec.sle, p]
    split
    · rfl
    · rename_i q
      have q' : i.val + 1 - w = 0 := by
        simp only [BitVec.toInt_zero, decide_eq_true_eq] at q
        omega
      rw [q']
  · have e : (BitVec.ofNat 32 i.val + 1#32 - BitVec.ofNat 32 w).toInt < 0 := by
      have e' : (BitVec.ofNat 32 i.val + 1#32 - BitVec.ofNat 32 w).toNat = 2 ^ 32 - (w - (i.val + 1)) := by
        simp [BitVec.toNat_sub]
        omega
      rw [BitVec.toInt_eq_toNat_cond, e']
      split <;> omega
    rw [show i.val + 1 - w = 0 by omega]
    unfold IntOp.maxsi
    simp only [BitVec.slt, BitVec.sle, BitVec.toInt_zero]
    split
    · rename_i q
      simp only [decide_eq_true_eq] at q
      omega
    · rfl

theorem idx_row (w : ℕ) (hw : w ≤ 16) (b : BitVec 32) (i : Fin 8192) : idxOf (BitVec.ofNat 32 w) b (ix2 i 0) = BitVec.ofNat 32 (i.val + 1 - w) := by
  have e := lo_at w hw
  unfold idxOf
  pointwise [e]
  simp (disch := omega) only [hlo_ix]
  exact if_neg (Nat.not_lt_zero _)
theorem idx_grp (w b : BitVec 32) (i : Fin 8192) : idxOf w b (ix2 i 1) = b := by
  unfold idxOf
  simp only [id]
  pointwise
theorem cnt_at (w : ℕ) (hw : w ≤ 16) (i : Fin 8192) (d : Fin 64) : cntOf (BitVec.ofNat 32 w) (ix2 i d) = (cnt i w : EReal) := by
  have e := lo_at w hw
  have ti := i.isLt
  unfold cntOf
  pointwise [e]
  show FloatOps.sitofp FTy.f32 (BitVec.ofNat 32 i.val + 1#32 - BitVec.ofNat 32 (i.val + 1 - w)) = _
  have e' : BitVec.ofNat 32 i.val + 1#32 - BitVec.ofNat 32 (i.val + 1 - w) = BitVec.ofNat 32 (min (i.val + 1) w) := by
    apply BitVec.eq_of_toNat_eq
    simp [BitVec.toNat_sub]
    omega
  rw [e']
  exact Cert.MixerIdeal.Tile.word_real _ (by omega)

/-- A group's windowed mean less the entry itself. -/
def poolOf (w b : BitVec 32) (g : ℕ) (s : S8193x4x64.Slices ![1, g, 0] S8192x1x64) (s' : S8192x4x64.Slices ![0, g, 0] S8192x1x64)
    (x0 : Vec Ideal S8192x1024 .f32) : FVec Ideal S8192x64 .f32 :=
  subf (Host.divf (subf (shapeCast S8192x64 (extractStridedSlice S8192x1x64 ![1, g, 0] (val_main_v29 (F := Ideal) x0) s) shapeCasts_S8192x1x64_S8192x64)
      (Host.gather gather_S8193x4x64_S8192x2_S8192x64_1_01_n_n_01_1_1164 (val_main_v29 (F := Ideal) x0) (idxOf w b))) (cntOf w))
    (shapeCast S8192x64 (extractStridedSlice S8192x1x64 ![0, g, 0] (val_main_v27 (F := Ideal) x0) s') shapeCasts_S8192x1x64_S8192x64)

include h0 in
theorem pool_at (w : ℕ) (hw : w ≤ 16) (h1 : 0 < w) (g : Fin 4) (s s') (hs : ∀ d, size (gcol g d) = w) (i : Fin 8192) (d : Fin 64) :
    poolOf (BitVec.ofNat 32 w) (BitVec.ofNat 32 g.val) g.val s s' x0 (ix2 i d) = (pooled X i (gcol g d) : EReal) := by
  have e31 := v29_at h0
  have e28 := v27_at h0
  have ec := cnt_at w hw i d
  have eg : Host.gather gather_S8193x4x64_S8192x2_S8192x64_1_01_n_n_01_1_1164 (val_main_v29 (F := Ideal) x0) (idxOf (BitVec.ofNat 32 w) (BitVec.ofNat 32 g.val)) (ix2 i d)
      = (pre (fun s => X s (quarter 3 (gcol g d))) (i.val + 1 - w) : EReal) :=
    (gather_pair _ rfl rfl rfl rfl rfl _ _ i d ⟨i.val + 1 - w, by omega⟩ g (idx_row w hw _ i) (idx_grp _ _ i)).trans (e31 _ g d)
  unfold poolOf
  pointwise [e31, e28, ec, eg]
  rw [← EReal.coe_sub, div_real (cnt_ne i h1), ← EReal.coe_sub, Nat.add_comm 1 i.val, pre_win]
  unfold pooled
  rw [hs]

include h0 in
theorem v60_at (i d) : val_main_v60 (F := Ideal) x0 (ix2 i d) = (pooled X i (gcol 0 d) : EReal) :=
  pool_at h0 2 (by decide) (by decide) 0 slices_S8193x4x64_S8192x1x64_1_0_0 slices_S8192x4x64_S8192x1x64_0_0_0 (by decide) i d
include h0 in
theorem v90_at (i d) : val_main_v90 (F := Ideal) x0 (ix2 i d) = (pooled X i (gcol 1 d) : EReal) :=
  pool_at h0 4 (by decide) (by decide) 1 slices_S8193x4x64_S8192x1x64_1_1_0 slices_S8192x4x64_S8192x1x64_0_1_0 (by decide) i d
include h0 in
theorem v120_at (i d) : val_main_v120 (F := Ideal) x0 (ix2 i d) = (pooled X i (gcol 2 d) : EReal) :=
  pool_at h0 8 (by decide) (by decide) 2 slices_S8193x4x64_S8192x1x64_1_2_0 slices_S8192x4x64_S8192x1x64_0_2_0 (by decide) i d
include h0 in
theorem v150_at (i d) : val_main_v150 (F := Ideal) x0 (ix2 i d) = (pooled X i (gcol 3 d) : EReal) :=
  pool_at h0 16 (by decide) (by decide) 3 slices_S8193x4x64_S8192x1x64_1_3_0 slices_S8192x4x64_S8192x1x64_0_3_0 (by decide) i d

include h0 in
theorem v155_at (i : Fin 8192) (g : Fin 4) (d : Fin 64) :
    val_main_v155 (F := Ideal) x0 (ix3 i g d) = (pooled X i (gcol g d) : EReal) := by
  have e0 := v60_at h0
  have e1 := v90_at h0
  have e2 := v120_at h0
  have e3 := v150_at h0
  unfold val_main_v155 val_main_v151 val_main_v152 val_main_v153 val_main_v154
  pointwise [e0, e1, e2, e3]
  fin_cases g <;> rfl

include h0 in
theorem v161_at (h3 : ∀ g k d, x3 (ix3 g k d) = (P g k d : EReal)) (h4 : ∀ j, x4 (ix1 j) = (S j : EReal)) (i j) :
    val_main_v161 (F := Ideal) x0 x3 x4 (ix2 i j) = (mix X P S i j : EReal) := by
  have e := v155_at h0
  unfold val_main_v161 val_main_v160 val_main_v159 val_main_v158 val_main_v157 val_main_v156
  pointwise [e, h3, h4]
  unfold mix
  simp only [← EReal.coe_mul, coe_sum]
  exact congrArg (fun x : ℝ => ((x * S j : ℝ) : EReal)) (Finset.sum_congr rfl fun k _ => mul_comm _ _)

include h0 in
theorem v162_at (h2 : ∀ k j, x2 (ix2 k j) = (W k j : EReal)) (h3 : ∀ g k d, x3 (ix3 g k d) = (P g k d : EReal))
    (h4 : ∀ j, x4 (ix1 j) = (S j : EReal)) (i j) : val_main_v162 (F := Ideal) x0 x2 x3 x4 (ix2 i j) = (ocp X W P S i j : EReal) := by
  have e := v26_at h0 h2
  have e' := v161_at h0 h3 h4
  unfold val_main_v162
  pointwise [e, e']
  unfold ocp
  split <;> rfl

/-! ## The norm over heads -/

section norm
variable (h1 : ∀ i j, x1 (ix2 i j) = (A i j : EReal)) (h2 : ∀ k j, x2 (ix2 k j) = (W k j : EReal))
  (h3 : ∀ g k d, x3 (ix3 g k d) = (P g k d : EReal)) (h4 : ∀ j, x4 (ix1 j) = (S j : EReal)) (h5 : ∀ j, x5 (ix1 j) = (G j : EReal))
include h0 h1 h2 h3 h4

theorem v163_at (i j) : val_main_v163 (F := Ideal) x0 x1 x2 x3 x4 (ix2 i j) = (full X A W P S i j : EReal) := by
  have e := v162_at h0 h2 h3 h4
  unfold val_main_v163
  pointwise [e, h1]
  unfold full cat
  split <;> rfl

theorem v171_at (i h) : val_main_v171 (F := Ideal) x0 x1 x2 x3 x4 (ix2 i h) = (rr (full X A W P S i) h : EReal) := by
  have e := v163_at h0 h1 h2 h3 h4
  unfold val_main_v171 val_main_v170 val_main_v169 val_main_v168 val_main_v167 val_main_v166 val_main_v165 val_main_v164 val_main_cst val_main_cst_29 val_main_cst_30
  pointwise [e]
  simp only [← EReal.coe_mul, coe_sum, lit64', div_real (by norm_num : (64 : ℝ) ≠ 0), litEps6, ← EReal.coe_add]
  refine (congrArg Ideal.rsqrt (congrArg (fun x : ℝ => ((x + eps6 : ℝ) : EReal)) (div_eq_mul_one_div _ _))).trans ?_
  exact rsqrt_pos (ms_pos _ _)

theorem v190_at (i h) : val_main_v190 (F := Ideal) x0 x1 x2 x3 x4 (ix2 i h) = (rr128 (full X A W P S i) h : EReal) := by
  have e := v171_at h0 h1 h2 h3 h4
  unfold val_main_v190 val_main_v173 val_main_v172 val_main_cst_31
  pointwise [e]
  unfold rr128
  split
  · rfl
  · rw [litEps6]
    exact rsqrt_pos eps6_pos

theorem v182_at (i h k) : val_main_v182 (F := Ideal) x0 x1 x2 x3 x4 (ix3 i h k) = (rr (full X A W P S i) h : EReal) := by
  have e := v163_at h0 h1 h2 h3 h4
  unfold val_main_v182 val_main_v181 val_main_v180 val_main_v179 val_main_v178 val_main_v177 val_main_v176 val_main_v175 val_main_v174 val_main_cst_32 val_main_cst_33 val_main_cst_34
  pointwise [e]
  simp only [← EReal.coe_mul, coe_sum, lit64', div_real (by norm_num : (64 : ℝ) ≠ 0), litEps6, ← EReal.coe_add]
  refine (congrArg Ideal.rsqrt (congrArg (fun x : ℝ => ((x + eps6 : ℝ) : EReal)) (div_eq_mul_one_div _ _))).trans ?_
  exact rsqrt_pos (ms_pos _ _)

include h5 in
theorem v189_at (i j) : val_main_v189 (F := Ideal) x0 x1 x2 x3 x4 x5 (ix2 i j) = ((full X A W P S i j * rr (full X A W P S i) (hd j) * G j : ℝ) : EReal) := by
  have e := v163_at h0 h1 h2 h3 h4
  have e' := v182_at h0 h1 h2 h3 h4
  unfold val_main_v189 val_main_v188 val_main_v187 val_main_v186 val_main_v185 val_main_v184 val_main_v183 val_main_v174
  pointwise [e, e', h5]
  rw [← EReal.coe_mul, ← EReal.coe_mul]
  exact congrArg (fun k => ((full X A W P S i k * rr (full X A W P S i) (hd j) * G j : ℝ) : EReal)) (Fin.ext rfl : _ = j)

end norm

end Cert.MixerRefIdeal.At
end
-- ==== Proof.RmsHost.lean ====
module

public import proofs.«01_k».proof.Proof.Gen.RmsIdeal.Value
public import proofs.«01_k».proof.Proof.Norm.Head
public import Idealize.ShloMosaic.Lib.Pipeline.ValueKit
public import Idealize.ShloMosaic.Lib.Pointwise
public import Idealize.ShloMosaic.Lib.Claim
public import Idealize.ShloMosaic.Lib.WordCmp

/-! The arrays the head norm's region finds: the host's part of the program, in real numbers. -/

@[expose] public section

set_option maxRecDepth 16384
noncomputable section

namespace Cert.RmsIdeal.Arr

open Cert.RmsIdeal Cert.RmsIdeal.Gen Idealize.ShloMosaic Idealize.ShloMosaic.TcCoe Cert.Norm Cert.Head

variable (σ : Valuation τ sig (Elt Ideal))

/-- Arrays of the host's part, as a valuation has them. -/
abbrev w6 (σ : Valuation τ sig (Elt Ideal)) : S1024x128.Idx → BitVec 32 := σ (Proc.devRef .tc main_v6)
abbrev wc (σ : Valuation τ sig (Elt Ideal)) : S_.Idx → BitVec 32 := σ (Proc.devRef .tc main_c)
abbrev wc0 (σ : Valuation τ sig (Elt Ideal)) : S_.Idx → BitVec 32 := σ (Proc.devRef .tc main_c_0)
abbrev w7 (σ : Valuation τ sig (Elt Ideal)) : S1024x128.Idx → BitVec 32 := σ (Proc.devRef .tc main_v7)
abbrev w10 (σ : Valuation τ sig (Elt Ideal)) : S1024x128.Idx → EReal := σ (Proc.devRef .tc main_v10)
abbrev w11 (σ : Valuation τ sig (Elt Ideal)) : S128x1024.Idx → EReal := σ (Proc.devRef .tc main_v11)
abbrev w15 (σ : Valuation τ sig (Elt Ideal)) : S8192x16.Idx → EReal := σ (Proc.devRef .tc main_v15)
abbrev w16 (σ : Valuation τ sig (Elt Ideal)) : S8192x128.Idx → EReal := σ (Proc.devRef .tc main_v16)
abbrev w21 (σ : Valuation τ sig (Elt Ideal)) : S8192x128.Idx → EReal := σ (Proc.devRef .tc main_v21)

theorem host_row (i j) : w6 (StableHlo.after hostOps0 σ) (ix2 i j) = BitVec.ofNat 32 i.val := by
  unfold w6
  entry_read
  pointwise
theorem host_64 : wc (StableHlo.after hostOps0 σ) ix0 = 64#32 := by
  unfold wc
  entry_read
  pointwise
theorem host_0 : wc0 (StableHlo.after hostOps0_2 σ) ix0 = 0#32 := by
  unfold wc0
  entry_read
  pointwise

/-- The sign of a word. -/
def sgn (a : BitVec 32) : BitVec 32 := if a = 0 then 0 else if a.msb = true then -1 else 1

/-- Division of a row number by 64, rounded down, as the words compute it. -/
def quot (a b : BitVec 32) : BitVec 32 :=
  Scalar.select
    (IntOp.andi (IntOp.cmpi .ne (sgn a) (sgn b))
      (IntOp.cmpi .ne (IntOp.remsi .host a b) 0#32))
    (IntOp.subi (IntOp.divsi .host a b) 1#32) (IntOp.divsi .host a b)

theorem host_div (i j) : w7 (StableHlo.after hostOps0_1 σ) (ix2 i j) = quot (w6 σ (ix2 i j)) (wc σ ix0) := by
  have e : w7 (StableHlo.after hostOps0_1 σ)
      = select (andi (cmpi .ne (signi (w6 σ)) (broadcastInDim S1024x128 ![] bcast_S_S1024x128 (signi (wc σ))))
           (cmpi .ne (Host.remsi (w6 σ) (broadcastInDim S1024x128 ![] bcast_S_S1024x128 (wc σ))) (broadcastInDim S1024x128 ![] bcast_S_S1024x128 (constantI S_ 32 0#32))))
         (subi (Host.divsi (w6 σ) (broadcastInDim S1024x128 ![] bcast_S_S1024x128 (wc σ))) (broadcastInDim S1024x128 ![] bcast_S_S1024x128 (constantI S_ 32 1#32)))
         (Host.divsi (w6 σ) (broadcastInDim S1024x128 ![] bcast_S_S1024x128 (wc σ))) := by
    unfold w7
    entry_read
    rfl
  rw [e]
  generalize w6 σ = x
  generalize wc σ = y
  pointwise
  rfl

theorem quot_64 : ∀ i : Fin 1024, quot (BitVec.ofNat 32 i.val) 64#32 = BitVec.ofNat 32 (i.val / 64) := by
  decide +kernel

theorem bit_real (p : Prop) [Decidable p] : FloatOps.uitofp (F := Ideal) FTy.bf16 (BitVec.ofBool (decide p)) = ((if p then 1 else 0 : ℝ) : EReal) := by
  by_cases h : p <;> simp [h, FloatOps.uitofp, FloatOps.scalar, Ideal.scalarOps]

theorem host_e (i : Fin 1024) (j : Fin 128) (h : w7 σ (ix2 i j) = BitVec.ofNat 32 (i.val / 64)) :
   w10 (StableHlo.after hostOps0_2 σ) (ix2 i j) = ((if i.val / 64 = j.val then 1 else 0 : ℝ) : EReal) := by
  unfold w10
  entry_read
  pointwise
  rw [show (σ (Proc.devRef .tc main_v7) : S1024x128.Idx → BitVec 32) (ix2 i j) = BitVec.ofNat 32 (i.val / 64) from h]
  have := i.isLt
  have := j.isLt
  simp (disch := omega) only [hlo_ix]
  exact bit_real _

theorem host_et (i j) : w11 (StableHlo.after hostOps0_2 σ) (ix2 i j) = w10 (StableHlo.after hostOps0_2 σ) (ix2 j i) := by
  unfold w11 w10
  entry_read
  pointwise

theorem host_sq (A C : Fin 8192 → Fin 512 → ℝ)
    (ha : ∀ i j, (σ (Proc.devRef .tc main_arg0) : Vec Ideal S8192x512 .f32) (ix2 i j) = (A i j : EReal))
    (hc : ∀ i j, (σ (Proc.devRef .tc main_arg1) : Vec Ideal S8192x512 .f32) (ix2 i j) = (C i j : EReal)) (i j) :
    w15 (StableHlo.after hostOps0_2 σ) (ix2 i j) = ((∑ p, cat (A i) (C i) (col j p) * cat (A i) (C i) (col j p) : ℝ) : EReal) := by
  unfold w15
  entry_read
  pointwise [ha, hc]
  rw [← coe_sum]
  refine Finset.sum_congr rfl fun p _ => ?_
  rw [EReal.coe_mul]
  have e : (cat (A i) (C i) (col j p) : EReal) = if h : j.val * 64 + p.val < 512 then ((A i ⟨j.val * 64 + p.val, h⟩ : ℝ) : EReal) else ((C i ⟨j.val * 64 + p.val - 512, by omega⟩ : ℝ) : EReal) := by
    unfold cat col
    split <;> rfl
  rw [e]

theorem host_pad (i : Fin 8192) (j : Fin 128) :
    w16 (StableHlo.after hostOps0_3 σ) (ix2 i j) = if h : j.val < 16 then w15 σ (ix2 i ⟨j.val, h⟩) else FloatOps.sitofp (F := Ideal) FTy.f32 (wc0 σ ix0) := by
  have e : w16 (StableHlo.after hostOps0_3 σ)
      = pad S8192x128 ![0, 0] ![0, 112] ![0, 0] (w15 σ) (sitofp (F := Ideal) FTy.f32 (wc0 σ)) pads_S8192x16_S8192x128_000_01120 h_S_ := by
    unfold w16
    entry_read
    rfl
  rw [e]
  generalize w15 σ = x
  pointwise
  rw [show Shape.Idx.first h_S_ = ix0 from funext fun a => a.elim0]

theorem host_rsqrt (i : Fin 8192) (j : Fin 128) (x : ℝ) (hx : w16 σ (ix2 i j) = (x : EReal)) (h0 : 0 ≤ x) :
    w21 (StableHlo.after hostOps0_4 σ) (ix2 i j) = (((Real.sqrt (x * (1 / 64) + eps6))⁻¹ : ℝ) : EReal) := by
  unfold w21
  entry_read
  pointwise
  rw [show (σ (Proc.devRef .tc main_v16) : S8192x128.Idx → EReal) (ix2 i j) = (x : EReal) from hx, lit64, litEps6, ← EReal.coe_mul, ← EReal.coe_add]
  exact rsqrt_pos (add_pos_of_nonneg_of_pos (mul_nonneg h0 (by norm_num)) eps6_pos)

theorem keep_10 : w10 (StableHlo.after hostOps0_4 (StableHlo.after hostOps0_3 σ)) = w10 σ := by
  unfold w10
  entry_read
  rfl
theorem keep_11 : w11 (StableHlo.after hostOps0_4 (StableHlo.after hostOps0_3 σ)) = w11 σ := by
  unfold w11
  entry_read
  rfl
theorem keep_a : (StableHlo.after hostOps0_1 (StableHlo.after hostOps0 σ) (Proc.devRef .tc main_arg0) : Vec Ideal S8192x512 .f32) = σ (Proc.devRef .tc main_arg0) := by
  entry_read
  rfl
theorem keep_c : (StableHlo.after hostOps0_1 (StableHlo.after hostOps0 σ) (Proc.devRef .tc main_arg1) : Vec Ideal S8192x512 .f32) = σ (Proc.devRef .tc main_arg1) := by
  entry_read
  rfl

variable (A C : Fin 8192 → Fin 512 → ℝ)
    (ha : ∀ i j, (σ (Proc.devRef .tc main_arg0) : Vec Ideal S8192x512 .f32) (ix2 i j) = (A i j : EReal))
    (hc : ∀ i j, (σ (Proc.devRef .tc main_arg1) : Vec Ideal S8192x512 .f32) (ix2 i j) = (C i j : EReal))

include ha hc in
/-- The reciprocal roots, on 128 lanes. -/
theorem host_r (i : Fin 8192) (j : Fin 128) :
    w21 (StableHlo.after hostOps0_4 (StableHlo.after hostOps0_3 (StableHlo.after hostOps0_2 σ))) (ix2 i j) = (rr128 (cat (A i) (C i)) j : EReal) := by
  unfold rr128
  split
  · rename_i h
    refine host_rsqrt _ i j (∑ p, cat (A i) (C i) (col ⟨j.val, h⟩ p) * cat (A i) (C i) (col ⟨j.val, h⟩ p)) ?_ (Finset.sum_nonneg fun p _ => mul_self_nonneg _)
    rw [host_pad, dif_pos h, host_sq σ A C ha hc]
  · rename_i h
    refine (host_rsqrt _ i j 0 ?_ le_rfl).trans ?_
    · rw [host_pad, dif_neg h, host_0]
      simp [FloatOps.sitofp, FloatOps.scalar, Ideal.scalarOps]
    · rw [zero_mul, zero_add]

/-- The ones of the columns of a head. -/
theorem host_ones (i : Fin 1024) (j : Fin 128) :
    w10 (StableHlo.after hostOps0_2 (StableHlo.after hostOps0_1 (StableHlo.after hostOps0 σ))) (ix2 i j) = ((if i.val / 64 = j.val then 1 else 0 : ℝ) : EReal) := by
  refine host_e _ i j ?_
  rw [host_div, host_row, host_64]
  exact quot_64 i

end Cert.RmsIdeal.Arr

end
-- ==== Proof.Mix.Host.lean ====
module

public import proofs.«01_k».proof.Proof.Gen.MixerIdeal.Value
public import proofs.«01_k».proof.Proof.RmsHost
public import proofs.«01_k».proof.Proof.Mix.Ops
public import Idealize.ShloMosaic.Lib.Pipeline.ValueKit
public import Idealize.ShloMosaic.Lib.Pointwise
public import Idealize.ShloMosaic.Lib.Claim
public import Idealize.ShloMosaic.Lib.WordCmp

/-! The arrays the mixer's region finds: the ones of the heads, and the groups' matrices on the diagonal of one matrix. -/

@[expose] public section

set_option maxRecDepth 16384
noncomputable section

namespace Cert.MixerIdeal.Host

open Cert.MixerIdeal Cert.MixerIdeal.Gen Idealize.ShloMosaic Idealize.ShloMosaic.TcCoe Cert.Norm Cert.Head Cert.Mix

variable (σ : Valuation τ sig (Elt Ideal))

/-! ## The ones of the heads -/

/-- Arrays of the host's part, as a valuation has them. -/
abbrev rows (σ : Valuation τ sig (Elt Ideal)) : S1024x128.Idx → BitVec 32 := σ (Proc.devRef .tc main_v6)
abbrev width (σ : Valuation τ sig (Elt Ideal)) : S_.Idx → BitVec 32 := σ (Proc.devRef .tc main_c)
abbrev heads (σ : Valuation τ sig (Elt Ideal)) : S1024x128.Idx → BitVec 32 := σ (Proc.devRef .tc main_v7)
abbrev ones (σ : Valuation τ sig (Elt Ideal)) : S1024x128.Idx → EReal := σ (Proc.devRef .tc main_v10)
abbrev onesT (σ : Valuation τ sig (Elt Ideal)) : S128x1024.Idx → EReal := σ (Proc.devRef .tc main_v11)
abbrev diag (σ : Valuation τ sig (Elt Ideal)) : S256x256.Idx → EReal := σ (Proc.devRef .tc main_v37)
abbrev mats (σ : Valuation τ sig (Elt Ideal)) : S4x64x64.Idx → EReal := σ (Proc.devRef .tc main_arg3)

theorem rows_at (i j) : rows (StableHlo.after hostOps0 σ) (ix2 i j) = BitVec.ofNat 32 i.val := by
  unfold rows
  entry_read
  pointwise
theorem width_at : width (StableHlo.after hostOps0 σ) ix0 = 64#32 := by
  unfold width
  entry_read
  pointwise

theorem heads_at (i j) : heads (StableHlo.after hostOps0_1 σ) (ix2 i j) = Cert.RmsIdeal.Arr.quot (rows σ (ix2 i j)) (width σ ix0) := by
  have e : heads (StableHlo.after hostOps0_1 σ)
      = select (andi (cmpi .ne (signi (rows σ)) (broadcastInDim S1024x128 ![] bcast_S_S1024x128 (signi (width σ))))
           (cmpi .ne (Host.remsi (rows σ) (broadcastInDim S1024x128 ![] bcast_S_S1024x128 (width σ))) (broadcastInDim S1024x128 ![] bcast_S_S1024x128 (constantI S_ 32 0#32))))
         (subi (Host.divsi (rows σ) (broadcastInDim S1024x128 ![] bcast_S_S1024x128 (width σ))) (broadcastInDim S1024x128 ![] bcast_S_S1024x128 (constantI S_ 32 1#32)))
         (Host.divsi (rows σ) (broadcastInDim S1024x128 ![] bcast_S_S1024x128 (width σ))) := by
    unfold heads
    entry_read
    rfl
  rw [e]
  generalize rows σ = x
  generalize width σ = y
  pointwise
  rfl

theorem ones_at (i : Fin 1024) (j : Fin 128) :
    ones (StableHlo.after hostOps0_2 (StableHlo.after hostOps0_1 (StableHlo.after hostOps0 σ))) (ix2 i j) = ((if i.val / 64 = j.val then 1 else 0 : ℝ) : EReal) := by
  have h : heads (StableHlo.after hostOps0_1 (StableHlo.after hostOps0 σ)) (ix2 i j) = BitVec.ofNat 32 (i.val / 64) := by
    rw [heads_at, rows_at, width_at]
    exact Cert.RmsIdeal.Arr.quot_64 i
  generalize StableHlo.after hostOps0_1 (StableHlo.after hostOps0 σ) = σ' at h ⊢
  unfold ones
  entry_read
  pointwise
  rw [show (σ' (Proc.devRef .tc main_v7) : S1024x128.Idx → BitVec 32) (ix2 i j) = BitVec.ofNat 32 (i.val / 64) from h]
  have := i.isLt
  have := j.isLt
  simp (disch := omega) only [hlo_ix]
  exact Cert.RmsIdeal.Arr.bit_real _

theorem onesT_at (i j) : onesT (StableHlo.after hostOps0_2 σ) (ix2 i j) = ones (StableHlo.after hostOps0_2 σ) (ix2 j i) := by
  unfold onesT ones
  entry_read
  pointwise

/-! ## The groups' matrices -/

/-- Where a square is written. -/
def starts (n : BitVec 32) : S2.Idx → BitVec 32 :=
  concatenate S2 0 [⟨S1, broadcastInDim S1 ![] bcast_S_S1 (constantI S_ 32 n)⟩, ⟨S1, broadcastInDim S1 ![] bcast_S_S1 (constantI S_ 32 n)⟩] concatenates_S1_S1_S2_d0

theorem starts_at (n : BitVec 32) (q : Fin 2) : starts n (ix1 q) = n := by
  unfold starts
  pointwise
  exact ite_self n

/-- A square written over a matrix, at the place of group `g`. -/
def put (g : ℕ) (n : BitVec 32) (h : S4x64x64.Slices ![g, 0, 0] S1x64x64) (w : S4x64x64.Idx → EReal) (x : S256x256.Idx → EReal) : S256x256.Idx → EReal :=
  Host.scatter scatter_S256x256_S2_S64x64_01_n_01_0 (fun _ b => b) x (starts n)
    (shapeCast S64x64 (extractStridedSlice S1x64x64 ![g, 0, 0] w h) shapeCasts_S1x64x64_S64x64)

theorem put_at (g : Fin 4) (n : BitVec 32) (hn : n = BitVec.ofNat 32 (64 * g.val)) (h) (w : S4x64x64.Idx → EReal) (x : S256x256.Idx → EReal) (r c : Fin 256) :
    put g.val n h w x (ix2 r c) = if grp r = g ∧ grp c = g then w (ix3 g (plc r) (plc c)) else x (ix2 r c) := by
  refine (scatter_square _ rfl rfl rfl rfl x _ _ g ((starts_at _ 0).trans hn) ((starts_at _ 1).trans hn) r c).trans ?_
  have e : ∀ a b : Fin 64, shapeCast S64x64 (extractStridedSlice S1x64x64 ![g.val, 0, 0] w h) shapeCasts_S1x64x64_S64x64 (ix2 a b) = w (ix3 g a b) := by
    intro a b
    pointwise
  rw [e]

theorem diag_put : diag (StableHlo.after hostOps0_2 σ)
    = truncf (F := Ideal) .bf16 (put 3 192#32 slices_S4x64x64_S1x64x64_3_0_0 (mats σ) (put 2 128#32 slices_S4x64x64_S1x64x64_2_0_0 (mats σ) (put 1 64#32 slices_S4x64x64_S1x64x64_1_0_0 (mats σ)
        (put 0 0#32 slices_S4x64x64_S1x64x64_0_0_0 (mats σ) (broadcastInDim S256x256 ![] bcast_S_S256x256 (constant (F := Ideal) S_ .f32 0x00000000#32)))))) bitsLt_bf16_f32 := by
  unfold diag
  entry_read
  unfold put starts
  rfl

theorem puts_at (w : S4x64x64.Idx → EReal) (x : S256x256.Idx → EReal) (r c : Fin 256) :
    put 3 192#32 slices_S4x64x64_S1x64x64_3_0_0 w (put 2 128#32 slices_S4x64x64_S1x64x64_2_0_0 w (put 1 64#32 slices_S4x64x64_S1x64x64_1_0_0 w
        (put 0 0#32 slices_S4x64x64_S1x64x64_0_0_0 w x))) (ix2 r c)
      = if grp r = grp c then w (ix3 (grp r) (plc r) (plc c)) else x (ix2 r c) := by
  refine (put_at 3 _ rfl _ w _ r c).trans ?_
  refine (congrArg (fun y => if grp r = 3 ∧ grp c = 3 then w (ix3 3 (plc r) (plc c)) else y) ((put_at 2 _ rfl _ w _ r c).trans
    (congrArg (fun y => if grp r = 2 ∧ grp c = 2 then w (ix3 2 (plc r) (plc c)) else y) ((put_at 1 _ rfl _ w _ r c).trans
      (congrArg (fun y => if grp r = 1 ∧ grp c = 1 then w (ix3 1 (plc r) (plc c)) else y) (put_at 0 _ rfl _ w x r c)))))).trans ?_
  generalize grp r = a
  generalize grp c = b
  fin_cases a <;> fin_cases b <;> simp

theorem diag_at (P : Fin 4 → Fin 64 → Fin 64 → ℝ) (hP : ∀ g a b, mats σ (ix3 g a b) = (P g a b : EReal)) (r c : Fin 256) :
    diag (StableHlo.after hostOps0_2 σ) (ix2 r c) = (wbd P r c : EReal) := by
  rw [diag_put]
  refine (show ∀ x : FVec Ideal S256x256 .f32, truncf (F := Ideal) .bf16 x bitsLt_bf16_f32 (ix2 r c) = x (ix2 r c) from fun x => by pointwise) _ |>.trans ?_
  refine (puts_at _ _ r c).trans ?_
  have z : broadcastInDim S256x256 ![] bcast_S_S256x256 (constant (F := Ideal) S_ .f32 0x00000000#32) (ix2 r c) = ((0 : ℝ) : EReal) := by
    pointwise
    exact EReal.coe_zero.symm
  rw [z, hP]
  unfold wbd
  by_cases h : grp r = grp c
  · rw [if_pos h, if_pos h, h]
  · rw [if_neg h, if_neg h]

end Cert.MixerIdeal.Host
end
-- ==== Proof.RmsArr.lean ====
module

public import proofs.«01_k».proof.Proof.Gen.RmsIdeal.Value
public import proofs.«01_k».proof.Proof.Norm.Head
public import proofs.«01_k».proof.Proof.RmsHost
public import Idealize.ShloMosaic.Lib.Claim
public import Idealize.ShloMosaic.Lib.WordCmp
public import Idealize.ShloMosaic.Lib.Pipeline.ValueKit
public import Idealize.ShloMosaic.Lib.Pointwise

/-! The kernel's arrays of the head norm's derivative, in real numbers. -/

@[expose] public section

set_option maxRecDepth 16384
noncomputable section

namespace Cert.RmsIdeal.Arr

open Cert.RmsIdeal Cert.RmsIdeal.Gen Idealize.ShloMosaic Idealize.ShloMosaic.TcCoe Cert.Norm Cert.Head
open Idealize.ShloMosaic.Pipeline (Dat)

/-! ## One block of rows -/

section tile
variable {v0 v1 : Vec Ideal S512x512 .f32} {v3 : Vec Ideal S512x1024 .f32} {v4 : Vec Ideal S1024x128 .bf16} {v6 : Vec Ideal S128x1024 .bf16}
  {v8 : Vec Ideal S512x128 .f32} {v17 : Vec Ideal S1x1024 .f32}
variable {A C : Fin 512 → Fin 512 → ℝ} {D : Fin 512 → Fin 1024 → ℝ} {G : Fin 1024 → ℝ} {R : Fin 512 → Fin 128 → ℝ}

theorem pay6_at (h0 : ∀ i j, v0 (ix2 i j) = (A i j : EReal)) (h1 : ∀ i j, v1 (ix2 i j) = (C i j : EReal)) (i j) :
    k0_pay6 (F := Ideal) v0 v1 (ix2 i j) = (cat (A i) (C i) j : EReal) := by
  unfold k0_pay6
  pointwise [h0, h1]
  unfold cat
  split <;> rfl

theorem pay9_at (h6 : ∀ h j, v6 (ix2 h j) = ((if j.val / 64 = h.val then 1 else 0 : ℝ) : EReal)) (h8 : ∀ i h, v8 (ix2 i h) = (R i h : EReal)) (i j) :
    k0_pay9 (F := Ideal) v6 v8 (ix2 i j) = (R i (lane j) : EReal) := by
  unfold k0_pay9 k0_pay7 k0_pay8
  pointwise [h6, h8]
  simp only [← EReal.coe_sub, ← EReal.coe_mul, coe_sum, ← EReal.coe_add, sum_lane, sub_self, zero_mul, Finset.sum_const_zero, add_zero]

theorem pay10_at (h3 : ∀ i j, v3 (ix2 i j) = (D i j : EReal)) (h17 : ∀ j, v17 (ix2 0 j) = (G j : EReal)) (i j) :
    k0_pay10 (F := Ideal) v3 v17 (ix2 i j) = ((D i j * G j : ℝ) : EReal) := by
  unfold k0_pay10
  pointwise [h3, h17]
  simp only [← EReal.coe_mul]

theorem pay11_at (h0 : ∀ i j, v0 (ix2 i j) = (A i j : EReal)) (h1 : ∀ i j, v1 (ix2 i j) = (C i j : EReal))
    (h3 : ∀ i j, v3 (ix2 i j) = (D i j : EReal)) (h17 : ∀ j, v17 (ix2 0 j) = (G j : EReal))
    (h4 : ∀ j h, v4 (ix2 j h) = ((if j.val / 64 = h.val then 1 else 0 : ℝ) : EReal)) (h8 : ∀ i h, v8 (ix2 i h) = (R i h : EReal)) (i h) :
    k0_pay11 (F := Ideal) v0 v1 v3 v4 v8 v17 (ix2 i h)
      = (((∑ j : Fin 1024, D i j * G j * cat (A i) (C i) j * (if j.val / 64 = h.val then 1 else 0)) * (1 / 64) * R i h * R i h * R i h : ℝ) : EReal) := by
  have h6 := pay6_at h0 h1
  have h10 := pay10_at h3 h17
  unfold k0_pay11 k0_pay8
  pointwise [h6, h10, h4, h8]
  simp only [← EReal.coe_sub, ← EReal.coe_mul, coe_sum, ← EReal.coe_add, sub_self, zero_mul, Finset.sum_const_zero, add_zero, lit64]

theorem pay1_at {v34 : Vec Ideal S512x1024 .f32} {v35 v38 : Vec Ideal S512x128 .bf16} {v2 : Vec Ideal S512x1024 .f32} {O B : Fin 512 → Fin 1024 → ℝ} {T : Fin 512 → Fin 128 → ℝ}
    (h2 : ∀ i j, v2 (ix2 i j) = (O i j : EReal)) (h6 : ∀ h j, v6 (ix2 h j) = ((if j.val / 64 = h.val then 1 else 0 : ℝ) : EReal))
    (h34 : ∀ i j, v34 (ix2 i j) = (B i j : EReal)) (h35 : ∀ i h, v35 (ix2 i h) = (T i h : EReal)) (h38 : ∀ i h, v38 (ix2 i h) = 0) (i j) :
    k0_pay1 (F := Ideal) v2 v6 v34 v35 v38 (constant S512x1024 .f32 0x00000000#32) (ix2 i j) = ((B i j - O i j * T i (lane j) : ℝ) : EReal) := by
  unfold k0_pay1
  pointwise [h2, h6, h34, h35, h38]
  simp only [← EReal.coe_sub, ← EReal.coe_mul, coe_sum, ← EReal.coe_add, sum_lane, zero_mul, Finset.sum_const_zero, add_zero]

theorem pay14_at (h0 : ∀ i j, v0 (ix2 i j) = (A i j : EReal)) (h1 : ∀ i j, v1 (ix2 i j) = (C i j : EReal))
    (h3 : ∀ i j, v3 (ix2 i j) = (D i j : EReal)) (h17 : ∀ j, v17 (ix2 0 j) = (G j : EReal))
    (h4 : ∀ j h, v4 (ix2 j h) = ((if j.val / 64 = h.val then 1 else 0 : ℝ) : EReal)) (h8 : ∀ i h, v8 (ix2 i h) = (R i h : EReal)) (i h) :
    k0_pay14 (F := Ideal) v0 v1 v3 v4 v8 v17 (ix2 i h) = 0 := by
  have h11 := pay11_at h0 h1 h3 h17 h4 h8
  unfold k0_pay14 k0_pay13
  pointwise [h11]
  rw [← EReal.coe_sub, sub_self, EReal.coe_zero]

/-- The row's cotangent, from the lanes the block carries. -/
theorem do_at (h0 : ∀ i j, v0 (ix2 i j) = (A i j : EReal)) (h1 : ∀ i j, v1 (ix2 i j) = (C i j : EReal))
    (h3 : ∀ i j, v3 (ix2 i j) = (D i j : EReal)) (h17 : ∀ j, v17 (ix2 0 j) = (G j : EReal))
    (h4 : ∀ j h, v4 (ix2 j h) = ((if j.val / 64 = h.val then 1 else 0 : ℝ) : EReal)) (h6 : ∀ h j, v6 (ix2 h j) = ((if j.val / 64 = h.val then 1 else 0 : ℝ) : EReal))
    (h8 : ∀ i h, v8 (ix2 i h) = (rr128 (cat (A i) (C i)) h : EReal)) (i j) :
    k0_pay1 (F := Ideal) (k0_pay6 v0 v1) (k0_pay7 v6) (k0_pay12 v3 v6 v8 v17) (k0_pay13 v0 v1 v3 v4 v8 v17) (k0_pay14 v0 v1 v3 v4 v8 v17)
      (constant S512x1024 .f32 0x00000000#32) (ix2 i j) = (backS (cat (A i) (C i)) (fun j => D i j * G j) j : EReal) := by
  have h9 := pay9_at h6 h8
  have h10 := pay10_at h3 h17
  have h11 := pay11_at h0 h1 h3 h17 h4 h8
  refine (pay1_at (pay6_at h0 h1) (v6 := k0_pay7 v6) ?_ (B := fun i j => rr (cat (A i) (C i)) (hd j) * (D i j * G j)) ?_
    (T := fun i h => (∑ j : Fin 1024, D i j * G j * cat (A i) (C i) j * (if j.val / 64 = h.val then 1 else 0)) * (1 / 64) * rr128 (cat (A i) (C i)) h * rr128 (cat (A i) (C i)) h * rr128 (cat (A i) (C i)) h)
    ?_ (pay14_at h0 h1 h3 h17 h4 h8) i j).trans ?_
  · intro h j
    unfold k0_pay7
    pointwise [h6]
  · intro i j
    unfold k0_pay12
    pointwise [h9, h10]
    rw [← EReal.coe_mul, rr128_lane]
  · intro i h
    unfold k0_pay13
    pointwise [h11]
  · simp only [rr128_lane, sum_head]
    rfl

theorem dg_at (h0 : ∀ i j, v0 (ix2 i j) = (A i j : EReal)) (h1 : ∀ i j, v1 (ix2 i j) = (C i j : EReal))
    (h3 : ∀ i j, v3 (ix2 i j) = (D i j : EReal)) (h6 : ∀ h j, v6 (ix2 h j) = ((if j.val / 64 = h.val then 1 else 0 : ℝ) : EReal))
    (h8 : ∀ i h, v8 (ix2 i h) = (rr128 (cat (A i) (C i)) h : EReal)) (k j) :
    k0_pay4 (F := Ideal) (k0_pay6 v0 v1) v3 (k0_pay9 v6 v8) (ix2 k j) = ((∑ i, D i j * cat (A i) (C i) j * rr (cat (A i) (C i)) (hd j) : ℝ) : EReal) := by
  have h6' := pay6_at h0 h1
  have h9 := pay9_at h6 h8
  unfold k0_pay4
  pointwise [h3, h6', h9]
  simp only [← EReal.coe_mul, coe_sum, rr128_lane]

theorem pay2_at (v2 : Vec Ideal S512x1024 .f32) (v7 : Vec Ideal S128x1024 .bf16) (v34 : Vec Ideal S512x1024 .f32) (v35 v38 : Vec Ideal S512x128 .bf16) (z : Vec Ideal S512x1024 .f32) (i j : Fin 512) :
    k0_pay2 (F := Ideal) v2 v7 v34 v35 v38 z (ix2 i j) = k0_pay1 (F := Ideal) v2 v7 v34 v35 v38 z (ix2 i (⟨j.val, by omega⟩ : Fin 1024)) := by
  unfold k0_pay2; pointwise
theorem pay3_at (v2 : Vec Ideal S512x1024 .f32) (v7 : Vec Ideal S128x1024 .bf16) (v34 : Vec Ideal S512x1024 .f32) (v35 v38 : Vec Ideal S512x128 .bf16) (z : Vec Ideal S512x1024 .f32) (i j : Fin 512) :
    k0_pay3 (F := Ideal) v2 v7 v34 v35 v38 z (ix2 i j) = k0_pay1 (F := Ideal) v2 v7 v34 v35 v38 z (ix2 i (⟨512 + j.val, by omega⟩ : Fin 1024)) := by
  unfold k0_pay3; pointwise
theorem pay5_at (v2 v3 v16 : Vec Ideal S512x1024 .f32) (a : Vec Ideal S1x1024 .f32) (i j) :
    k0_pay5 (F := Ideal) v2 v3 v16 a (ix2 i j) = a (ix2 i j) + k0_pay4 (F := Ideal) v2 v3 v16 (ix2 i j) := by
  unfold k0_pay5; pointwise
end tile

/-! ## The blocks -/

section blocks
variable {m : (ℓ : Loc nD τ sig) → Buf (Elt Ideal) ℓ} {c : Dev nD}
variable {A C : Fin 8192 → Fin 512 → ℝ} {G : Fin 1024 → ℝ} {D : Fin 8192 → Fin 1024 → ℝ}

/-- The arguments in real numbers. -/
structure Args (m : (ℓ : Loc nD τ sig) → Buf (Elt Ideal) ℓ) (c : Dev nD) (A C : Fin 8192 → Fin 512 → ℝ) (G : Fin 1024 → ℝ)
    (D : Fin 8192 → Fin 1024 → ℝ) : Prop where
  a : ∀ i j, (m ((c : Thread nD τ).loc main_arg0) : Vec Ideal S8192x512 .f32) (ix2 i j) = (A i j : EReal)
  o : ∀ i j, (m ((c : Thread nD τ).loc main_arg1) : Vec Ideal S8192x512 .f32) (ix2 i j) = (C i j : EReal)
  g : ∀ j, (m ((c : Thread nD τ).loc main_arg2) : Vec Ideal S1024 .f32) (ix1 j) = (G j : EReal)
  d : ∀ i j, (m ((c : Thread nD τ).loc main_arg3) : Vec Ideal S8192x1024 .f32) (ix2 i j) = (D i j : EReal)

theorem places : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

theorem lt16 (t : Fin cfg0.N) : t.val < 16 := Nat.lt_of_lt_of_eq t.isLt N_0

/-- Row `i` of block `t`. -/
def row (t : Fin cfg0.N) (i : Fin 512) : Fin 8192 := ⟨t.val * 512 + i.val, by have := lt16 t; omega⟩

theorem after_append {τ : Topo} {sig : RefSig} {Val : EltTy → Type} (l l' : List (HloOp τ sig Val)) (σ : Valuation τ sig Val) :
    StableHlo.after (l ++ l') σ = StableHlo.after l' (StableHlo.after l σ) := by
  induction l generalizing σ with
  | nil => rfl
  | cons o l ih => exact ih _

theorem v_e (i : Fin 1024) (j : Fin 128) : (V m c main_v10 : S1024x128.Idx → EReal) (ix2 i j) = ((if i.val / 64 = j.val then 1 else 0 : ℝ) : EReal) := by
  refine Eq.trans ?_ (host_ones (fun b => m (c, b)) i j)
  simp only [V, List.flatten_cons, List.flatten_nil, List.append_nil]
  rw [after_append, after_append, after_append, after_append]
  exact congrFun (keep_10 _) _
theorem v_et (i : Fin 128) (j : Fin 1024) : (V m c main_v11 : S128x1024.Idx → EReal) (ix2 i j) = ((if j.val / 64 = i.val then 1 else 0 : ℝ) : EReal) := by
  refine Eq.trans ?_ ((host_et _ i j).trans (host_ones (fun b => m (c, b)) j i))
  simp only [V, List.flatten_cons, List.flatten_nil, List.append_nil]
  rw [after_append, after_append, after_append, after_append]
  exact congrFun (keep_11 _) _
theorem v_r (h : Args m c A C G D) (i : Fin 8192) (j : Fin 128) : (V m c main_v21 : S8192x128.Idx → EReal) (ix2 i j) = (rr128 (cat (A i) (C i)) j : EReal) := by
  refine Eq.trans ?_ (host_r (StableHlo.after hostOps0_1 (StableHlo.after hostOps0 fun b => m (c, b))) A C ?_ ?_ i j)
  · simp only [V, List.flatten_cons, List.flatten_nil, List.append_nil]
    rw [after_append, after_append, after_append, after_append]
  · exact fun i j => (congrFun (keep_a _) _).trans (h.a i j)
  · exact fun i j => (congrFun (keep_c _) _).trans (h.o i j)
theorem v_g (h : Args m c A C G D) (i : Fin 1) (j : Fin 1024) : (V m c main_v22 : S1x1024.Idx → EReal) (ix2 i j) = (G j : EReal) := by
  simp only [V, hostOps0, hostOps0_1, hostOps0_2, hostOps0_3, hostOps0_4, List.flatten_cons, List.flatten_nil, List.append_nil, List.cons_append, List.nil_append]
  entry_read
  pointwise
  exact h.g j

theorem blk_e (t : Fin cfg0.N) (i : Fin 1024) (j : Fin 128) : (iblk m c 5 t : Vec Ideal S1024x128 .bf16) (ix2 i j) = ((if i.val / 64 = j.val then 1 else 0 : ℝ) : EReal) := by
  refine Eq.trans (congrArg (V m c main_v10 : S1024x128.Idx → EReal) (?_ : ((win0_5.blk t).view.emb (ix2 i j) : S1024x128.Idx) = ix2 i j)) (v_e i j)
  blk_ext [places t]
theorem blk_et (t : Fin cfg0.N) (i : Fin 128) (j : Fin 1024) : (iblk m c 6 t : Vec Ideal S128x1024 .bf16) (ix2 i j) = ((if j.val / 64 = i.val then 1 else 0 : ℝ) : EReal) := by
  refine Eq.trans (congrArg (V m c main_v11 : S128x1024.Idx → EReal) (?_ : ((win0_6.blk t).view.emb (ix2 i j) : S128x1024.Idx) = ix2 i j)) (v_et i j)
  blk_ext [places t]
theorem blk_r (h : Args m c A C G D) (t : Fin cfg0.N) (i : Fin 512) (j : Fin 128) :
    (iblk m c 3 t : Vec Ideal S512x128 .f32) (ix2 i j) = (rr128 (cat (A (row t i)) (C (row t i))) j : EReal) := by
  refine Eq.trans (congrArg (V m c main_v21 : S8192x128.Idx → EReal) (?_ : ((win0_3.blk t).view.emb (ix2 i j) : S8192x128.Idx) = ix2 (row t i) j)) (v_r h _ j)
  unfold row
  blk_ext [places t]
theorem blk_g (h : Args m c A C G D) (t : Fin cfg0.N) (j : Fin 1024) : (iblk m c 4 t : Vec Ideal S1x1024 .f32) (ix2 0 j) = (G j : EReal) := by
  refine Eq.trans (congrArg (V m c main_v22 : S1x1024.Idx → EReal) (?_ : ((win0_4.blk t).view.emb (ix2 0 j) : S1x1024.Idx) = ix2 0 j)) (v_g h 0 j)
  blk_ext [places t]

theorem blk_a (h : Args m c A C G D) (t : Fin cfg0.N) (i : Fin 512) (j : Fin 512) : (iblk m c 1 t : Vec Ideal S512x512 .f32) (ix2 i j) = (A (row t i) j : EReal) := by
  refine Eq.trans ?_ (h.a _ _)
  unfold row
  blk_point [iblk, V, places t]
theorem blk_c (h : Args m c A C G D) (t : Fin cfg0.N) (i : Fin 512) (j : Fin 512) : (iblk m c 2 t : Vec Ideal S512x512 .f32) (ix2 i j) = (C (row t i) j : EReal) := by
  refine Eq.trans ?_ (h.o _ _)
  unfold row
  blk_point [iblk, V, places t]
theorem blk_d (h : Args m c A C G D) (t : Fin cfg0.N) (i : Fin 512) (j : Fin 1024) : (iblk m c 0 t : Vec Ideal S512x1024 .f32) (ix2 i j) = (D (row t i) j : EReal) := by
  refine Eq.trans ?_ (h.d _ _)
  unfold row
  blk_point [iblk, V, places t]

/-- The cotangent of a row. -/
def dO (A C : Fin 8192 → Fin 512 → ℝ) (G : Fin 1024 → ℝ) (D : Fin 8192 → Fin 1024 → ℝ) (i : Fin 8192) (j : Fin 1024) : ℝ :=
  backS (cat (A i) (C i)) (fun j => D i j * G j) j
/-- A row's part of the gain's cotangent. -/
def gS (A C : Fin 8192 → Fin 512 → ℝ) (D : Fin 8192 → Fin 1024 → ℝ) (i : Fin 8192) (j : Fin 1024) : ℝ :=
  D i j * cat (A i) (C i) j * rr (cat (A i) (C i)) (hd j)

theorem pt_do (h : Args m c A C G D) (t : Fin cfg0.N) (i : Fin 512) (j : Fin 1024) :
    k0_pay1 (F := Ideal) (k0_pay6 (iblk m c 1 t) (iblk m c 2 t)) (k0_pay7 (iblk m c 6 t)) (k0_pay12 (iblk m c 0 t) (iblk m c 6 t) (iblk m c 3 t) (iblk m c 4 t))
      (k0_pay13 (iblk m c 1 t) (iblk m c 2 t) (iblk m c 0 t) (iblk m c 5 t) (iblk m c 3 t) (iblk m c 4 t))
      (k0_pay14 (iblk m c 1 t) (iblk m c 2 t) (iblk m c 0 t) (iblk m c 5 t) (iblk m c 3 t) (iblk m c 4 t))
      (constant S512x1024 .f32 0x00000000#32) (ix2 i j) = (dO A C G D (row t i) j : EReal) :=
  do_at (blk_a h t) (blk_c h t) (blk_d h t) (blk_g h t) (blk_e t) (blk_et t) (blk_r h t) i j

theorem pt_a (h : Args m c A C G D) (t : Fin cfg0.N) (i j : Fin 512) :
    (outsAt0 m c t.val t.isLt).1 (ix2 i j) = (dO A C G D (row t i) ⟨j.val, by omega⟩ : EReal) := by
  by_cases h0 : t.val = 0
  · rw [outsAt0_A m c t (by omega) (by omega)]; frame_out
    exact (pay2_at ..).trans (pt_do h t i _)
  · have := lt16 t
    rw [outsAt0_B m c t (by omega) (by omega)]; frame_out
    exact (pay2_at ..).trans (pt_do h t i _)
theorem pt_c (h : Args m c A C G D) (t : Fin cfg0.N) (i j : Fin 512) :
    (outsAt0 m c t.val t.isLt).2.1 (ix2 i j) = (dO A C G D (row t i) ⟨512 + j.val, by omega⟩ : EReal) := by
  by_cases h0 : t.val = 0
  · rw [outsAt0_A m c t (by omega) (by omega)]; frame_out
    exact (pay3_at ..).trans (pt_do h t i _)
  · have := lt16 t
    rw [outsAt0_B m c t (by omega) (by omega)]; frame_out
    exact (pay3_at ..).trans (pt_do h t i _)

theorem first (h : Args m c A C G D) (t : Fin cfg0.N) (h0 : t.val = 0) (j : Fin 1024) :
    (outsAt0 m c t.val t.isLt).2.2 (ix2 0 j) = ((∑ i, gS A C D (row t i) j : ℝ) : EReal) := by
  rw [outsAt0_A m c t (by omega) (by omega)]; frame_out
  exact dg_at (blk_a h t) (blk_c h t) (blk_d h t) (blk_et t) (blk_r h t) 0 j
theorem later (h : Args m c A C G D) (t : Fin cfg0.N) (h0 : 1 ≤ t.val) (j : Fin 1024) :
    (outsAt0 m c t.val t.isLt).2.2 (ix2 0 j) = (outsAt0 m c (t.val - 1) (by have := t.isLt; omega)).2.2 (ix2 0 j) + ((∑ i, gS A C D (row t i) j : ℝ) : EReal) := by
  have := lt16 t
  rw [outsAt0_B m c t (by omega) (by omega)]; frame_out
  rw [pay5_at]
  exact congrArg _ (dg_at (blk_a h t) (blk_c h t) (blk_d h t) (blk_et t) (blk_r h t) 0 j)

theorem row_at (k : Fin cfg0.N) (i : Fin 512) : (row k i).val = k.val * 512 + i.val := rfl

/-- The last point. -/
def last : Fin cfg0.N := ⟨15, by show 15 < grid0.N; rw [N_0]; decide⟩

theorem last_g (h : Args m c A C G D) (j : Fin 1024) : (outsAt0 m c last.val last.isLt).2.2 (ix2 0 j) = ((∑ i, gS A C D i j : ℝ) : EReal) :=
  carried_rows (congrArg (· * 512) N_0) (fun n hn => (outsAt0 m c n hn).2.2 (ix2 0 j)) (fun r => gS A C D r j) row row_at
    (fun h0 => first h ⟨0, h0⟩ rfl j) (fun n hn => later h ⟨n + 1, hn⟩ (Nat.le_add_left 1 n) j) 15 last.isLt N_0.symm

/-! ## The result arrays -/

theorem at_a (t : Fin cfg0.N) (y : S512x512.Idx) : (((cfg0.win 7).blk t).view.emb y : S8192x512.Idx) = ix2 (row t (y 0)) (y 1) := by
  unfold row
  blk_ext [places t]
theorem at_c (t : Fin cfg0.N) (y : S512x512.Idx) : (((cfg0.win 8).blk t).view.emb y : S8192x512.Idx) = ix2 (row t (y 0)) (y 1) := by
  unfold row
  blk_ext [places t]
theorem fin1 (a b : Fin 1) : a = b := Subsingleton.elim a b
theorem row1 (y : S1x1024.Idx) : y = ix2 0 (y 1) := (ix2_eta y).symm.trans (congrArg (fun a => ix2 a (y 1)) (fin1 (y 0) 0))

theorem arr_a (h : Args m c A C G D) (i : Fin 8192) (j : Fin 512) :
    ((dats m 0 c).arrAt 7 cfg0.N : Vec Ideal S8192x512 .bf16) (ix2 i j) = (dO A C G D i ⟨j.val, by omega⟩ : EReal) := by
  refine congrFun ((dats m 0 c).arrAt_eq_of_covers 7 (fun y : S8192x512.Idx => ((dO A C G D (y 0) ⟨(y 1).val, by have : (y 1).val < 512 := (y 1).isLt; omega⟩ : ℝ) : EReal)) (by decide +kernel) fun t hf y => ?_) (ix2 i j)
  refine Eq.trans ?_ (congrArg (fun y : S8192x512.Idx => ((dO A C G D (y 0) ⟨(y 1).val, by have : (y 1).val < 512 := (y 1).isLt; omega⟩ : ℝ) : EReal)) (at_a t y).symm)
  blk_simp
  rw [after0_7, show y = ix2 (y 0) (y 1) from (ix2_eta y).symm]
  exact pt_a h t (y 0) (y 1)
theorem arr_c (h : Args m c A C G D) (i : Fin 8192) (j : Fin 512) :
    ((dats m 0 c).arrAt 8 cfg0.N : Vec Ideal S8192x512 .f32) (ix2 i j) = (dO A C G D i ⟨512 + j.val, by omega⟩ : EReal) := by
  refine congrFun ((dats m 0 c).arrAt_eq_of_covers 8 (fun y : S8192x512.Idx => ((dO A C G D (y 0) ⟨512 + (y 1).val, by have : (y 1).val < 512 := (y 1).isLt; omega⟩ : ℝ) : EReal)) (by decide +kernel) fun t hf y => ?_) (ix2 i j)
  refine Eq.trans ?_ (congrArg (fun y : S8192x512.Idx => ((dO A C G D (y 0) ⟨512 + (y 1).val, by have : (y 1).val < 512 := (y 1).isLt; omega⟩ : ℝ) : EReal)) (at_c t y).symm)
  blk_simp
  rw [after0_8, show y = ix2 (y 0) (y 1) from (ix2_eta y).symm]
  exact pt_c h t (y 0) (y 1)
theorem arr_g (h : Args m c A C G D) (j : Fin 1024) : ((dats m 0 c).arrAt 9 cfg0.N : Vec Ideal S1x1024 .f32) (ix2 0 j) = ((∑ i, gS A C D i j : ℝ) : EReal) := by
  refine congrFun ((dats m 0 c).arrAt_eq_of_after_last 9 last (by decide +kernel) (fun y : S1x1024.Idx => ((∑ i, gS A C D i (y 1) : ℝ) : EReal)) fun (y : S1x1024.Idx) => ?_) (ix2 0 j)
  blk_simp
  rw [after0_9, row1 y]
  exact last_g h (y 1)
end blocks

end Cert.RmsIdeal.Arr

end
-- ==== Proof.Mix.Arr.lean ====
module

public import proofs.«01_k».proof.Proof.Mix.Tile
public import proofs.«01_k».proof.Proof.Mix.Host
public import proofs.«01_k».proof.Proof.RmsArr

/-! The mixer kernel's result arrays, in real numbers. -/

@[expose] public section

set_option maxRecDepth 16384
noncomputable section

namespace Cert.MixerIdeal.Arr

open Cert.MixerIdeal Cert.MixerIdeal.Gen Idealize.ShloMosaic Idealize.ShloMosaic.TcCoe Cert.Norm Cert.Head Cert.Mix Cert.MixerIdeal.Tile
open Idealize.ShloMosaic.Pipeline (Dat)

variable {m : (ℓ : Loc nD τ sig) → Buf (Elt Ideal) ℓ} {c : Dev nD}
variable {X : Fin 8192 → Fin 1024 → ℝ} {A : Fin 8192 → Fin 512 → ℝ} {W : Fin 3 → Fin 256 → ℝ} {P : Fin 4 → Fin 64 → Fin 64 → ℝ} {S : Fin 256 → ℝ} {G : Fin 1024 → ℝ}

/-- The arguments in real numbers. -/
structure Args (m : (ℓ : Loc nD τ sig) → Buf (Elt Ideal) ℓ) (c : Dev nD) (X : Fin 8192 → Fin 1024 → ℝ) (A : Fin 8192 → Fin 512 → ℝ) (W : Fin 3 → Fin 256 → ℝ)
    (P : Fin 4 → Fin 64 → Fin 64 → ℝ) (S : Fin 256 → ℝ) (G : Fin 1024 → ℝ) : Prop where
  x : ∀ i j, (m ((c : Thread nD τ).loc main_arg0) : Vec Ideal S8192x1024 .f32) (ix2 i j) = (X i j : EReal)
  a : ∀ i j, (m ((c : Thread nD τ).loc main_arg1) : Vec Ideal S8192x512 .f32) (ix2 i j) = (A i j : EReal)
  w : ∀ k j, (m ((c : Thread nD τ).loc main_arg2) : Vec Ideal S3x256 .f32) (ix2 k j) = (W k j : EReal)
  p : ∀ g k d, (m ((c : Thread nD τ).loc main_arg3) : Vec Ideal S4x64x64 .f32) (ix3 g k d) = (P g k d : EReal)
  s : ∀ j, (m ((c : Thread nD τ).loc main_arg4) : Vec Ideal S256 .f32) (ix1 j) = (S j : EReal)
  g : ∀ j, (m ((c : Thread nD τ).loc main_arg5) : Vec Ideal S1024 .f32) (ix1 j) = (G j : EReal)

theorem places : ∀ t : Fin cfg0.N, win0_0.index t = ![t.val, 0] ∧ win0_1.index t = ![t.val, 1] ∧ win0_2.index t = ![t.val * 32 - 1, 1]
    ∧ win0_3.index t = ![t.val, 2] ∧ win0_4.index t = ![t.val * 32 - 1, 2] ∧ win0_5.index t = ![t.val, 3] ∧ win0_6.index t = ![t.val * 32 - 1, 3]
    ∧ win0_7.index t = ![t.val, 0] ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![t.val, 0] ∧ win0_15.index t = ![t.val, 0] ∧ win0_16.index t = ![t.val, 0] :=
  (by decide +kernel : ∀ t : Fin grid0.N, _)
theorem coord : ∀ t : Fin cfg0.N, (grid0.coords t 0).val = t.val := (by decide +kernel : ∀ t : Fin grid0.N, _)

theorem lt16 (t : Fin cfg0.N) : t.val < 16 := Nat.lt_of_lt_of_eq t.isLt N_0

/-- Row `i` of block `t`, and row `r` of the sixteen before it. -/
def row (t : Fin cfg0.N) (i : Fin 512) : Fin 8192 := ⟨t.val * 512 + i.val, by have := lt16 t; omega⟩
def edge (t : Fin cfg0.N) (r : Fin 16) : Fin 8192 := ⟨(t.val * 32 - 1) * 16 + r.val, by have := lt16 t; omega⟩

/-! ## The arrays the host's part leaves -/

theorem v_e (i : Fin 1024) (j : Fin 128) : (V m c main_v10 : S1024x128.Idx → EReal) (ix2 i j) = ((if i.val / 64 = j.val then 1 else 0 : ℝ) : EReal) := by
  refine Eq.trans ?_ (Host.ones_at (fun b => m (c, b)) i j)
  simp only [V, List.flatten_cons, List.flatten_nil, List.append_nil]
  rw [Cert.RmsIdeal.Arr.after_append, Cert.RmsIdeal.Arr.after_append]
theorem v_et (i : Fin 128) (j : Fin 1024) : (V m c main_v11 : S128x1024.Idx → EReal) (ix2 i j) = ((if j.val / 64 = i.val then 1 else 0 : ℝ) : EReal) := by
  refine Eq.trans ?_ ((Host.onesT_at _ i j).trans (Host.ones_at (fun b => m (c, b)) j i))
  simp only [V, List.flatten_cons, List.flatten_nil, List.append_nil]
  rw [Cert.RmsIdeal.Arr.after_append, Cert.RmsIdeal.Arr.after_append]
theorem v_m (h : Args m c X A W P S G) (i j : Fin 256) : (V m c main_v37 : S256x256.Idx → EReal) (ix2 i j) = (wbd P i j : EReal) := by
  refine Eq.trans ?_ (Host.diag_at (StableHlo.after hostOps0_1 (StableHlo.after hostOps0 fun b => m (c, b))) P ?_ i j)
  · simp only [V, List.flatten_cons, List.flatten_nil, List.append_nil]
    rw [Cert.RmsIdeal.Arr.after_append, Cert.RmsIdeal.Arr.after_append]
  · intro g a b
    refine Eq.trans ?_ (h.p g a b)
    unfold Host.mats
    entry_read
    rfl
theorem v_s (h : Args m c X A W P S G) (i : Fin 1) (j : Fin 256) : (V m c main_v38 : S1x256.Idx → EReal) (ix2 i j) = (S j : EReal) := by
  simp only [V, hostOps0, hostOps0_1, hostOps0_2, List.flatten_cons, List.flatten_nil, List.append_nil, List.cons_append, List.nil_append]
  entry_read
  pointwise
  exact h.s j
theorem v_g (h : Args m c X A W P S G) (i : Fin 1) (j : Fin 1024) : (V m c main_v39 : S1x1024.Idx → EReal) (ix2 i j) = (G j : EReal) := by
  simp only [V, hostOps0, hostOps0_1, hostOps0_2, List.flatten_cons, List.flatten_nil, List.append_nil, List.cons_append, List.nil_append]
  entry_read
  pointwise
  exact h.g j

/-! ## The blocks -/

theorem blk_b (h : Args m c X A W P S G) (t : Fin cfg0.N) (i : Fin 512) (j : Fin 256) : (iblk m c 0 t : Vec Ideal S512x256 .f32) (ix2 i j) = (X (row t i) (quarter 0 j) : EReal) := by
  refine Eq.trans ?_ (h.x _ _)
  unfold row quarter
  blk_point [iblk, V, places t]
theorem blk_c (h : Args m c X A W P S G) (t : Fin cfg0.N) (i : Fin 512) (j : Fin 256) : (iblk m c 1 t : Vec Ideal S512x256 .f32) (ix2 i j) = (X (row t i) (quarter 1 j) : EReal) := by
  refine Eq.trans ?_ (h.x _ _)
  unfold row quarter
  blk_point [iblk, V, places t]
theorem blk_ce (h : Args m c X A W P S G) (t : Fin cfg0.N) (r : Fin 16) (j : Fin 256) : (iblk m c 2 t : Vec Ideal S16x256 .f32) (ix2 r j) = (X (edge t r) (quarter 1 j) : EReal) := by
  refine Eq.trans ?_ (h.x _ _)
  unfold edge quarter
  blk_point [iblk, V, places t]
theorem blk_h (h : Args m c X A W P S G) (t : Fin cfg0.N) (i : Fin 512) (j : Fin 256) : (iblk m c 3 t : Vec Ideal S512x256 .f32) (ix2 i j) = (X (row t i) (quarter 2 j) : EReal) := by
  refine Eq.trans ?_ (h.x _ _)
  unfold row quarter
  blk_point [iblk, V, places t]
theorem blk_he (h : Args m c X A W P S G) (t : Fin cfg0.N) (r : Fin 16) (j : Fin 256) : (iblk m c 4 t : Vec Ideal S16x256 .f32) (ix2 r j) = (X (edge t r) (quarter 2 j) : EReal) := by
  refine Eq.trans ?_ (h.x _ _)
  unfold edge quarter
  blk_point [iblk, V, places t]
theorem blk_p (h : Args m c X A W P S G) (t : Fin cfg0.N) (i : Fin 512) (j : Fin 256) : (iblk m c 5 t : Vec Ideal S512x256 .f32) (ix2 i j) = (X (row t i) (quarter 3 j) : EReal) := by
  refine Eq.trans ?_ (h.x _ _)
  unfold row quarter
  blk_point [iblk, V, places t]
theorem blk_pe (h : Args m c X A W P S G) (t : Fin cfg0.N) (r : Fin 16) (j : Fin 256) : (iblk m c 6 t : Vec Ideal S16x256 .f32) (ix2 r j) = (X (edge t r) (quarter 3 j) : EReal) := by
  refine Eq.trans ?_ (h.x _ _)
  unfold edge quarter
  blk_point [iblk, V, places t]
theorem blk_a (h : Args m c X A W P S G) (t : Fin cfg0.N) (i : Fin 512) (j : Fin 512) : (iblk m c 7 t : Vec Ideal S512x512 .f32) (ix2 i j) = (A (row t i) j : EReal) := by
  refine Eq.trans ?_ (h.a _ _)
  unfold row
  blk_point [iblk, V, places t]
theorem blk_w (h : Args m c X A W P S G) (t : Fin cfg0.N) (k : Fin 3) (j : Fin 256) : (iblk m c 8 t : Vec Ideal S3x256 .f32) (ix2 k j) = (W k j : EReal) := by
  refine Eq.trans ?_ (h.w _ _)
  blk_point [iblk, V, places t]
theorem blk_m (h : Args m c X A W P S G) (t : Fin cfg0.N) (i j : Fin 256) : (iblk m c 9 t : Vec Ideal S256x256 .bf16) (ix2 i j) = (wbd P i j : EReal) := by
  refine Eq.trans (congrArg (V m c main_v37 : S256x256.Idx → EReal) (?_ : ((win0_9.blk t).view.emb (ix2 i j) : S256x256.Idx) = ix2 i j)) (v_m h i j)
  blk_ext [places t]
theorem blk_s (h : Args m c X A W P S G) (t : Fin cfg0.N) (j : Fin 256) : (iblk m c 10 t : Vec Ideal S1x256 .f32) (ix2 0 j) = (S j : EReal) := by
  refine Eq.trans (congrArg (V m c main_v38 : S1x256.Idx → EReal) (?_ : ((win0_10.blk t).view.emb (ix2 0 j) : S1x256.Idx) = ix2 0 j)) (v_s h 0 j)
  blk_ext [places t]
theorem blk_g (h : Args m c X A W P S G) (t : Fin cfg0.N) (j : Fin 1024) : (iblk m c 11 t : Vec Ideal S1x1024 .f32) (ix2 0 j) = (G j : EReal) := by
  refine Eq.trans (congrArg (V m c main_v39 : S1x1024.Idx → EReal) (?_ : ((win0_11.blk t).view.emb (ix2 0 j) : S1x1024.Idx) = ix2 0 j)) (v_g h 0 j)
  blk_ext [places t]
theorem blk_e (t : Fin cfg0.N) (i : Fin 1024) (j : Fin 128) : (iblk m c 12 t : Vec Ideal S1024x128 .bf16) (ix2 i j) = ((if i.val / 64 = j.val then 1 else 0 : ℝ) : EReal) := by
  refine Eq.trans (congrArg (V m c main_v10 : S1024x128.Idx → EReal) (?_ : ((win0_12.blk t).view.emb (ix2 i j) : S1024x128.Idx) = ix2 i j)) (v_e i j)
  blk_ext [places t]
theorem blk_et (t : Fin cfg0.N) (i : Fin 128) (j : Fin 1024) : (iblk m c 13 t : Vec Ideal S128x1024 .bf16) (ix2 i j) = ((if j.val / 64 = i.val then 1 else 0 : ℝ) : EReal) := by
  refine Eq.trans (congrArg (V m c main_v11 : S128x1024.Idx → EReal) (?_ : ((win0_13.blk t).view.emb (ix2 i j) : S128x1024.Idx) = ix2 i j)) (v_et i j)
  blk_ext [places t]

/-! ## One block of rows -/

/-- A slab with the rows before it. -/
theorem rows_of (t : Fin cfg0.N) (q : Fin 4) {v : Vec Ideal S16x256 .f32} {w : Vec Ideal S512x256 .f32} (hv : ∀ r j, v (ix2 r j) = (X (edge t r) (quarter q j) : EReal))
    (hw : ∀ i j, w (ix2 i j) = (X (row t i) (quarter q j) : EReal)) : Rows t.val v w (fun j r => X r (quarter q j)) := by
  have := lt16 t
  refine ⟨fun r j h0 => (hv r j).trans ?_, fun r j => ⟨_, hv r j⟩, fun i j => (hw i j).trans ?_⟩
  · unfold ext
    have tr := r.isLt
    rw [dif_pos (by omega)]
    exact congrArg (fun r => ((X r (quarter q j) : ℝ) : EReal)) (Fin.ext (by show (t.val * 32 - 1) * 16 + r.val = t.val * 512 + r.val - 16; omega))
  · unfold ext
    have ti := i.isLt
    rw [dif_pos (by omega)]
    exact congrArg (fun r => ((X r (quarter q j) : ℝ) : EReal)) (Fin.ext (by show t.val * 512 + i.val = t.val * 512 + (16 + i.val) - 16; omega))

theorem read_of (h : Args m c X A W P S G) (t : Fin cfg0.N) :
    Read X A W P S (row t) t.val (k0_pay3 (F := Ideal) (grid0.coords t) (iblk m c 6 t) (iblk m c 5 t))
      (k0_pay4 (grid0.coords t) (iblk m c 2 t) (iblk m c 1 t) (iblk m c 4 t) (iblk m c 3 t) (iblk m c 8 t))
      (k0_pay6 (Scalar.muli (BitVec.ofNat 32 (grid0.coords t 0).val) 512#32)) (k0_pay7 (k0_pay5 (grid0.coords t) (iblk m c 6 t) (iblk m c 5 t)) 2#32)
      (iblk m c 0 t) (iblk m c 9 t) (iblk m c 10 t) (iblk m c 7 t) := by
  have hp := rows_of (X := X) t 3 (blk_pe h t) (blk_p h t)
  refine ⟨pay3_at (coord t) (lt16 t) hp, fun i j => ?_, fun i j => ?_, fun i j => ?_, blk_b h t, blk_m h t, blk_s h t, blk_a h t⟩
  · exact pay4_at (coord t) (lt16 t) (rows_of (X := X) t 1 (blk_ce h t) (blk_c h t)) (rows_of (X := X) t 2 (blk_he h t) (blk_h h t)) (blk_w h t) i j (row t i) rfl
  · rw [coord t]
    exact pay6_at (lt16 t) i j (row t i) rfl
  · exact pay7_at (coord t) (lt16 t) hp i j (row t i) rfl

end Cert.MixerIdeal.Arr
end
-- ==== Proof.Mix.Out.lean ====
module

public import proofs.«01_k».proof.Proof.Mix.Arr

/-! The mixer kernel's result arrays, in real numbers. -/

@[expose] public section

set_option maxRecDepth 16384
noncomputable section

namespace Cert.MixerIdeal.Arr

open Cert.MixerIdeal Cert.MixerIdeal.Gen Idealize.ShloMosaic Idealize.ShloMosaic.TcCoe Cert.Norm Cert.Head Cert.Mix Cert.MixerIdeal.Tile
open Idealize.ShloMosaic.Pipeline (Dat)

variable {m : (ℓ : Loc nD τ sig) → Buf (Elt Ideal) ℓ} {c : Dev nD}
variable {X : Fin 8192 → Fin 1024 → ℝ} {A : Fin 8192 → Fin 512 → ℝ} {W : Fin 3 → Fin 256 → ℝ} {P : Fin 4 → Fin 64 → Fin 64 → ℝ} {S : Fin 256 → ℝ} {G : Fin 1024 → ℝ}

/-! ## What a block ends with -/

theorem row_at (t : Fin cfg0.N) (i : Fin 512) : (row t i).val = t.val * 512 + i.val := rfl

/-- The normed rows. -/
def normed (X : Fin 8192 → Fin 1024 → ℝ) (A : Fin 8192 → Fin 512 → ℝ) (W : Fin 3 → Fin 256 → ℝ) (P : Fin 4 → Fin 64 → Fin 64 → ℝ) (S : Fin 256 → ℝ) (G : Fin 1024 → ℝ)
    (i : Fin 8192) (j : Fin 1024) : ℝ := full X A W P S i j * rr (full X A W P S i) (hd j) * G j

theorem pt_o (h : Args m c X A W P S G) (t : Fin cfg0.N) (i j : Fin 512) : ((dats m 0 c).after 14 t : Vec Ideal S512x512 .f32) (ix2 i j) = (ocp X W P S (row t i) j : EReal) := by
  have r := pay10_at (row_at t) (read_of h t) i j
  rw [after0_14]
  unfold_out out0_14
  frame_out
  exact r
theorem pt_n (h : Args m c X A W P S G) (t : Fin cfg0.N) (i : Fin 512) (j : Fin 1024) :
    ((dats m 0 c).after 15 t : Vec Ideal S512x1024 .bf16) (ix2 i j) = (normed X A W P S G (row t i) j : EReal) := by
  have r := pay1_at (row_at t) (read_of h t) (blk_e (m := m) (c := c) t) (blk_et (m := m) (c := c) t) (blk_g h t) i j
  rw [after0_15]
  unfold_out out0_15
  frame_out
  exact r
theorem pt_r (h : Args m c X A W P S G) (t : Fin cfg0.N) (i : Fin 512) (j : Fin 128) :
    ((dats m 0 c).after 16 t : Vec Ideal S512x128 .f32) (ix2 i j) = (rr128 (full X A W P S (row t i)) j : EReal) := by
  have r := pay13_at (row_at t) (read_of h t) (blk_e (m := m) (c := c) t) i j
  rw [after0_16]
  unfold_out out0_16
  frame_out
  exact r

/-! ## The result arrays -/

theorem at_o (t : Fin cfg0.N) (y : S512x512.Idx) : (((cfg0.win 14).blk t).view.emb y : S8192x512.Idx) = ix2 (row t (y 0)) (y 1) := by
  unfold row
  blk_ext [places t]
theorem at_n (t : Fin cfg0.N) (y : S512x1024.Idx) : (((cfg0.win 15).blk t).view.emb y : S8192x1024.Idx) = ix2 (row t (y 0)) (y 1) := by
  unfold row
  blk_ext [places t]
theorem at_r (t : Fin cfg0.N) (y : S512x128.Idx) : (((cfg0.win 16).blk t).view.emb y : S8192x128.Idx) = ix2 (row t (y 0)) (y 1) := by
  unfold row
  blk_ext [places t]

theorem arr_o (h : Args m c X A W P S G) (i : Fin 8192) (j : Fin 512) : ((dats m 0 c).arrAt 14 cfg0.N : Vec Ideal S8192x512 .f32) (ix2 i j) = (ocp X W P S i j : EReal) := by
  refine congrFun ((dats m 0 c).arrAt_eq_of_covers 14 (fun y : S8192x512.Idx => ((ocp X W P S (y 0) (y 1) : ℝ) : EReal)) (by decide +kernel) fun t hf y => ?_) (ix2 i j)
  refine Eq.trans ?_ (congrArg (fun y : S8192x512.Idx => ((ocp X W P S (y 0) (y 1) : ℝ) : EReal)) (at_o t y).symm)
  blk_simp
  rw [show y = ix2 (y 0) (y 1) from (ix2_eta y).symm]
  exact pt_o h t (y 0) (y 1)
theorem arr_n (h : Args m c X A W P S G) (i : Fin 8192) (j : Fin 1024) : ((dats m 0 c).arrAt 15 cfg0.N : Vec Ideal S8192x1024 .bf16) (ix2 i j) = (normed X A W P S G i j : EReal) := by
  refine congrFun ((dats m 0 c).arrAt_eq_of_covers 15 (fun y : S8192x1024.Idx => ((normed X A W P S G (y 0) (y 1) : ℝ) : EReal)) (by decide +kernel) fun t hf y => ?_) (ix2 i j)
  refine Eq.trans ?_ (congrArg (fun y : S8192x1024.Idx => ((normed X A W P S G (y 0) (y 1) : ℝ) : EReal)) (at_n t y).symm)
  blk_simp
  rw [show y = ix2 (y 0) (y 1) from (ix2_eta y).symm]
  exact pt_n h t (y 0) (y 1)
theorem arr_r (h : Args m c X A W P S G) (i : Fin 8192) (j : Fin 128) : ((dats m 0 c).arrAt 16 cfg0.N : Vec Ideal S8192x128 .f32) (ix2 i j) = (rr128 (full X A W P S i) j : EReal) := by
  refine congrFun ((dats m 0 c).arrAt_eq_of_covers 16 (fun y : S8192x128.Idx => ((rr128 (full X A W P S (y 0)) (y 1) : ℝ) : EReal)) (by decide +kernel) fun t hf y => ?_) (ix2 i j)
  refine Eq.trans ?_ (congrArg (fun y : S8192x128.Idx => ((rr128 (full X A W P S (y 0)) (y 1) : ℝ) : EReal)) (at_r t y).symm)
  blk_simp
  rw [show y = ix2 (y 0) (y 1) from (ix2_eta y).symm]
  exact pt_r h t (y 0) (y 1)

end Cert.MixerIdeal.Arr
end
-- ==== Proof.Mix.Eq.lean ====
module

public import proofs.«01_k».proof.Defs
public import proofs.«01_k».proof.Proof.Gen.Pre_finite_mixer
public import proofs.«01_k».proof.Proof.Gen.Mixer
public import proofs.«01_k».proof.Proof.Gen.Mixer.Frame
public import proofs.«01_k».proof.Proof.Gen.MixerIdeal
public import proofs.«01_k».proof.Proof.Gen.MixerRefIdeal
public import proofs.«01_k».proof.Proof.Finite
public import proofs.«01_k».proof.Proof.Mix.Ref
public import proofs.«01_k».proof.Proof.Mix.Out
public import Idealize.ShloMosaic.Lib.Claim

/-! The mixer's forward call: kernel and reference end with the same three arrays. -/

@[expose] public section

set_option maxRecDepth 16384
noncomputable section

namespace Cert.MixerIdeal.Eq

open Idealize.ShloMosaic Idealize.ShloMosaic.TcCoe Idealize.SL Idealize.SL.Sem
open Cert.Norm Cert.Head Cert.Mix Cert.MixerIdeal Cert.MixerIdeal.Arr Cert.MixerRefIdeal.At

variable (m : (ℓ : Loc nD τ sig) → Buf (Elt Ideal) ℓ) (c : Dev nD)

/-- The arguments' real numbers. -/
abbrev rX : Fin 8192 → Fin 1024 → ℝ := fun i j => ((m ((c : Thread nD τ).loc main_arg0) : Vec Ideal S8192x1024 .f32) (ix2 i j)).toReal
abbrev rA : Fin 8192 → Fin 512 → ℝ := fun i j => ((m ((c : Thread nD τ).loc main_arg1) : Vec Ideal S8192x512 .f32) (ix2 i j)).toReal
abbrev rW : Fin 3 → Fin 256 → ℝ := fun k j => ((m ((c : Thread nD τ).loc main_arg2) : Vec Ideal S3x256 .f32) (ix2 k j)).toReal
abbrev rP : Fin 4 → Fin 64 → Fin 64 → ℝ := fun g k d => ((m ((c : Thread nD τ).loc main_arg3) : Vec Ideal S4x64x64 .f32) (ix3 g k d)).toReal
abbrev rS : Fin 256 → ℝ := fun j => ((m ((c : Thread nD τ).loc main_arg4) : Vec Ideal S256 .f32) (ix1 j)).toReal
abbrev rG : Fin 1024 → ℝ := fun j => ((m ((c : Thread nD τ).loc main_arg5) : Vec Ideal S1024 .f32) (ix1 j)).toReal

theorem args (h : Cert.Pre_MixerIdeal_finite_mixer m (hPre_finite_mixer := Cert.Pre_finite_mixer.Gen.facts)) :
    Args m c (rX m c) (rA m c) (rW m c) (rP m c) (rS m c) (rG m c) := by
  obtain ⟨h0, h1, h2, h3, h4, h5⟩ := h c
  exact ⟨fun i j => Cert.Fin.real_of_lt (congrFun h0 (ix2 i j)), fun i j => Cert.Fin.real_of_lt (congrFun h1 (ix2 i j)),
    fun k j => Cert.Fin.real_of_lt (congrFun h2 (ix2 k j)), fun g k d => Cert.Fin.real_of_lt (congrFun h3 (ix3 g k d)),
    fun j => Cert.Fin.real_of_lt (congrFun h4 (ix1 j)), fun j => Cert.Fin.real_of_lt (congrFun h5 (ix1 j))⟩

abbrev outO : Vec Ideal S8192x512 .f32 := fun y => ((ocp (rX m c) (rW m c) (rP m c) (rS m c) (y 0) (y 1) : ℝ) : EReal)
abbrev outN : Vec Ideal S8192x1024 .bf16 := fun y => ((normed (rX m c) (rA m c) (rW m c) (rP m c) (rS m c) (rG m c) (y 0) (y 1) : ℝ) : EReal)
abbrev outR : Vec Ideal S8192x128 .f32 := fun y => ((rr128 (full (rX m c) (rA m c) (rW m c) (rP m c) (rS m c) (y 0)) (y 1) : ℝ) : EReal)

theorem algebraic : Cert.algebraic_MixerIdeal_MixerRefIdeal_pre_finite_mixer (hMixerIdeal := Cert.MixerIdeal.Gen.facts)
    (hMixerRefIdeal := Cert.MixerRefIdeal.Gen.facts) (hPre_finite_mixer := Cert.Pre_finite_mixer.Gen.facts) := by
  intro m g m' g' hpre hargs
  refine ⟨outO m, outN m, outR m, ?_, ?_⟩
  · refine (θ_run (Cert.MixerIdeal.defs (F := Ideal)) _ _).mono (fun r h c => ?_) (Cert.MixerIdeal.Value.run_blocks (F := Ideal) m g)
    obtain ⟨e0, e1, e2, hm⟩ := h c
    have a := args m c hpre
    refine ⟨e0.trans ?_, e1.trans ?_, e2.trans ?_, hm⟩
    · funext (y : S8192x512.Idx)
      rw [show y = ix2 (y 0) (y 1) from (ix2_eta y).symm]; exact arr_o a _ _
    · funext (y : S8192x1024.Idx)
      rw [show y = ix2 (y 0) (y 1) from (ix2_eta y).symm]; exact arr_n a _ _
    · funext (y : S8192x128.Idx)
      rw [show y = ix2 (y 0) (y 1) from (ix2_eta y).symm]; exact arr_r a _ _
  · refine (θ_run (Cert.MixerRefIdeal.defs (F := Ideal)) _ _).mono (fun r h c => ?_) (Cert.MixerRefIdeal.Value.run (F := Ideal) m' g')
    obtain ⟨e0, e1, e2, hm⟩ := h c
    obtain ⟨a0, a1, a2, a3, a4, a5⟩ := hargs c
    have a := args m c hpre
    have h0 := fun i j => (congrFun a0 (ix2 i j)).trans (a.x i j)
    have h1 := fun i j => (congrFun a1 (ix2 i j)).trans (a.a i j)
    have h2 := fun k j => (congrFun a2 (ix2 k j)).trans (a.w k j)
    have h3 := fun g k d => (congrFun a3 (ix3 g k d)).trans (a.p g k d)
    have h4 := fun j => (congrFun a4 (ix1 j)).trans (a.s j)
    have h5 := fun j => (congrFun a5 (ix1 j)).trans (a.g j)
    refine ⟨e0.trans ?_, e1.trans ?_, e2.trans ?_, hm⟩
    · refine (Cert.MixerRefIdeal.Read.val_main_v162_eq ..).trans ?_
      funext (y : S8192x512.Idx)
      rw [show y = ix2 (y 0) (y 1) from (ix2_eta y).symm]; exact v162_at h0 h2 h3 h4 _ _
    · refine (Cert.MixerRefIdeal.Read.val_main_v189_eq ..).trans ?_
      funext (y : S8192x1024.Idx)
      rw [show y = ix2 (y 0) (y 1) from (ix2_eta y).symm]; exact v189_at h0 h1 h2 h3 h4 h5 _ _
    · refine (Cert.MixerRefIdeal.Read.val_main_v190_eq ..).trans ?_
      funext (y : S8192x128.Idx)
      rw [show y = ix2 (y 0) (y 1) from (ix2_eta y).symm]; exact v190_at h0 h1 h2 h3 h4 _ _

theorem frame_kernel : Cert.quiescent_Mixer (hMixer := Cert.Mixer.Gen.facts) := fun m g _ => Cert.Mixer.Gen.frame m g
theorem frame_ideal : Cert.quiescent_MixerIdeal (hMixerIdeal := Cert.MixerIdeal.Gen.facts) := fun m g _ => Cert.MixerIdeal.Gen.frame m g
theorem frame_ideal_finite : Cert.quiescent_MixerIdeal_pre_finite_mixer (hMixerIdeal := Cert.MixerIdeal.Gen.facts) (hPre_finite_mixer := Cert.Pre_finite_mixer.Gen.facts) :=
  fun m g _ => Cert.MixerIdeal.Gen.frame m g
theorem frame_reference : Cert.quiescent_MixerRefIdeal (hMixerRefIdeal := Cert.MixerRefIdeal.Gen.facts) := fun m g _ =>
  (θ_run (Cert.MixerRefIdeal.defs (F := Ideal)) _ _).mono (fun r h => ⟨fun c => (h c).2.2.2, sem_eq_zero_of_no_sems (by decide) r.2⟩)
    (Cert.MixerRefIdeal.Value.run (F := Ideal) m g)
theorem frame_reference_finite : Cert.quiescent_MixerRefIdeal_pre_finite_mixer (hMixerRefIdeal := Cert.MixerRefIdeal.Gen.facts) (hPre_finite_mixer := Cert.Pre_finite_mixer.Gen.facts) :=
  fun m g _ => frame_reference m g trivial

end Cert.MixerIdeal.Eq

end
-- ==== Proof.Norm.Forward.lean ====
module

public import Idealize.ShloMosaic.Lib.Pointwise

/-! A row's layer norm, over the extended reals. -/

@[expose] public section

noncomputable section

namespace Cert.Norm

open Idealize.ShloMosaic

/-- A row's entry less the row's mean. -/
def lnCen (s : Fin 1024 → EReal) (j : Fin 1024) : EReal := s j - Ideal.div (∑ x, s x) (Ideal.ofBits .f32 0x44800000#32)

/-- The norm of the row `s` at `j`, with the gain and the bias there. -/
def ln (s : Fin 1024 → EReal) (g b : EReal) (j : Fin 1024) : EReal :=
  lnCen s j * Ideal.rsqrt (Ideal.div (∑ x, lnCen s x * lnCen s x) (Ideal.ofBits .f32 0x44800000#32) + Ideal.ofBits .f32 0x3727C5AC#32) * g + b

end Cert.Norm

end
-- ==== Proof.Out.Ffn.lean ====
module

public import proofs.«01_k».proof.Defs
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Norm.Forward
public import Idealize.ShloMosaic.Lib.Pipeline.ValueKit
public import Idealize.ShloMosaic.Lib.Claim

/-! The channel mixer's last product, its residual sum and their norm: kernel and reference end with the same two arrays. -/

@[expose] public section

set_option maxRecDepth 16384

noncomputable section

namespace Cert.FfnDownIdeal.Out

open Cert.FfnDownIdeal Cert.FfnDownIdeal.Gen Idealize.ShloMosaic Idealize.ShloMosaic.TcCoe Idealize.SL Idealize.SL.Sem Cert.Norm
open Idealize.ShloMosaic.Pipeline (Dat)
open Cert.FfnDownRefIdeal.Read

variable (m : (ℓ : Loc nD τ sig) → Buf (Elt Ideal) ℓ) (c : Dev nD)

theorem places : ∀ t : Fin cfg0.N, win0_0.index t = ![t.val, 0] ∧ win0_1.index t = ![0, 0]
    ∧ win0_2.index t = ![t.val, 0] ∧ win0_5.index t = ![t.val, 0] ∧ win0_6.index t = ![t.val, 0] :=
  (by decide +kernel : ∀ t : Fin grid0.N, _)

theorem places' : ∀ t : Fin cfg0.N, win0_3.index t = ![0, 0] ∧ win0_4.index t = ![0, 0] :=
  (by decide +kernel : ∀ t : Fin grid0.N, _)

/-- Row `i` of block `t`. -/
def row (t : Fin cfg0.N) (i : Fin 256) : Fin 8192 :=
  ⟨t.val * 256 + i.val, by have := Nat.lt_of_lt_of_eq t.isLt N_0; omega⟩

/-- The residual sum at an index, in the kernel's block and in the reference. -/
def res (r : Fin 4096 → EReal) (x : EReal) (w : Fin 4096 → EReal) : EReal :=
  Ideal.ofBits .f32 0x3FB504F3#32 * x + ∑ k, (max (r k) 0 * max (r k) 0) * w k

theorem pay1_at (u : Vec Ideal S256x4096 .bf16) (w : Vec Ideal S4096x1024 .bf16) (x : Vec Ideal S256x1024 .f32) (i : Fin 256) (j : Fin 1024) :
    k0_pay1 (F := Ideal) u w x (ix2 i j) = res (fun k => u (ix2 i k)) (x (ix2 i j)) (fun k => w (ix2 k j)) := by
  pointwise [k0_pay1]
  rfl

theorem pay2_at {u : Vec Ideal S256x4096 .bf16} {w : Vec Ideal S4096x1024 .bf16} {x : Vec Ideal S256x1024 .f32} {g b : Vec Ideal S1x1024 .f32}
    {S : Fin 256 → Fin 1024 → EReal} (h : ∀ i j, k0_pay1 (F := Ideal) u w x (ix2 i j) = S i j) (i : Fin 256) (j : Fin 1024) :
    k0_pay2 (F := Ideal) u w x g b (ix2 i j) = ln (S i) (g (ix2 0 j)) (b (ix2 0 j)) j := by
  unfold k0_pay2
  pointwise [h]
  rfl

section Reference
variable (x0 : Vec Ideal Cert.FfnDownRefIdeal.S8192x4096 .bf16) (x1 : Vec Ideal Cert.FfnDownRefIdeal.S8192x1024 .f32)
variable (x2 : Vec Ideal Cert.FfnDownRefIdeal.S4096x1024 .f32) (x3 x4 : Vec Ideal Cert.FfnDownRefIdeal.S1024 .f32)

theorem res_at (i : Fin 8192) (j : Fin 1024) :
    val_main_v6 (F := Ideal) x0 x1 x2 (ix2 i j) = res (fun k => x0 (ix2 i k)) (x1 (ix2 i j)) (fun k => x2 (ix2 k j)) := by
  rw [← val_main_v6_eq]
  pointwise
  rfl

theorem norm_at (i : Fin 8192) (j : Fin 1024) :
    val_main_v28 (F := Ideal) x0 x1 x2 x3 x4 (ix2 i j)
      = ln (fun k => val_main_v6 (F := Ideal) x0 x1 x2 (ix2 i k)) (x3 (ix1 j)) (x4 (ix1 j)) j := by
  generalize hs : val_main_v6 (F := Ideal) x0 x1 x2 = s
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_cst_0 val_main_cst_1 val_main_cst_2 val_main_cst_3 val_main_cst_4
  simp only [hs]
  pointwise
  rfl

end Reference

/-- The two results of the reference on the kernel's arguments. -/
abbrev outS : Vec Ideal S8192x1024 .f32 :=
  val_main_v6 (F := Ideal) (m ((c : Thread nD τ).loc main_arg0)) (m ((c : Thread nD τ).loc main_arg1)) (m ((c : Thread nD τ).loc main_arg2))
abbrev outY : Vec Ideal S8192x1024 .f32 :=
  val_main_v28 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

theorem blk_u (t : Fin cfg0.N) (i : Fin 256) (k : Fin 4096) :
    (iblk m c 0 t : Vec Ideal S256x4096 .bf16) (ix2 i k) = (m ((c : Thread nD τ).loc main_arg0) : Vec Ideal S8192x4096 .bf16) (ix2 (row t i) k) := by
  unfold row
  blk_point [iblk, V, places t]

theorem blk_w (t : Fin cfg0.N) (k : Fin 4096) (j : Fin 1024) :
    (iblk m c 1 t : Vec Ideal S4096x1024 .bf16) (ix2 k j) = (m ((c : Thread nD τ).loc main_arg2) : Vec Ideal S4096x1024 .f32) (ix2 k j) := by
  blk_point [iblk, V, places t]

theorem blk_x (t : Fin cfg0.N) (i : Fin 256) (j : Fin 1024) :
    (iblk m c 2 t : Vec Ideal S256x1024 .f32) (ix2 i j) = (m ((c : Thread nD τ).loc main_arg1) : Vec Ideal S8192x1024 .f32) (ix2 (row t i) j) := by
  unfold row
  blk_point [iblk, V, places t]

theorem blk_res (t : Fin cfg0.N) (i : Fin 256) (j : Fin 1024) :
    k0_pay1 (F := Ideal) (iblk m c 0 t) (iblk m c 1 t) (iblk m c 2 t) (ix2 i j) = outS m c (ix2 (row t i) j) :=
  (pay1_at _ _ _ _ _).trans ((congr (congrArg₂ res (funext fun k => blk_u m c t i k) (blk_x m c t i j)) (funext fun k => blk_w m c t k j)).trans
    (res_at _ _ _ _ _).symm)

theorem blk_g (t : Fin cfg0.N) (j : Fin 1024) :
    (iblk m c 3 t : Vec Ideal S1x1024 .f32) (ix2 0 j) = (m ((c : Thread nD τ).loc main_arg3) : Vec Ideal S1024 .f32) (ix1 j) := by
  blk_point [iblk, V, places' t]

theorem blk_b (t : Fin cfg0.N) (j : Fin 1024) :
    (iblk m c 4 t : Vec Ideal S1x1024 .f32) (ix2 0 j) = (m ((c : Thread nD τ).loc main_arg4) : Vec Ideal S1024 .f32) (ix1 j) := by
  blk_point [iblk, V, places' t]

theorem at_s (t : Fin cfg0.N) (y : S256x1024.Idx) : (((cfg0.win 5).blk t).view.emb y : S8192x1024.Idx) = ix2 (row t (y 0)) (y 1) := by
  unfold row
  blk_ext [places t]

theorem at_y (t : Fin cfg0.N) (y : S256x1024.Idx) : (((cfg0.win 6).blk t).view.emb y : S8192x1024.Idx) = ix2 (row t (y 0)) (y 1) := by
  unfold row
  blk_ext [places t]

theorem arr_s : (dats m 0 c).arrAt 5 (cfgs 0).N = outS m c := by
  refine (dats m 0 c).arrAt_eq_of_covers 5 _ (by decide +kernel) fun t _ y => ?_
  refine Eq.trans ?_ (congrArg (outS m c) (at_s t y).symm)
  blk_simp
  rw [after0_5]; frame_out
  rw [show y = ix2 (y 0) (y 1) from (ix2_eta y).symm]
  exact blk_res m c t (y 0) (y 1)

theorem arr_y : (dats m 0 c).arrAt 6 (cfgs 0).N = outY m c := by
  refine (dats m 0 c).arrAt_eq_of_covers 6 _ (by decide +kernel) fun t _ y => ?_
  refine Eq.trans ?_ (congrArg (outY m c) (at_y t y).symm)
  blk_simp
  rw [after0_6]; frame_out
  rw [show y = ix2 (y 0) (y 1) from (ix2_eta y).symm]
  refine (pay2_at (blk_res m c t) (y 0) (y 1)).trans (Eq.trans ?_ (norm_at _ _ _ _ _ _ _).symm)
  exact congrArg₂ (fun g b => ln (fun j => outS m c (ix2 (row t (y 0)) j)) g b (y 1)) (blk_g m c t (y 1)) (blk_b m c t (y 1))

theorem algebraic : Cert.algebraic_FfnDownIdeal_FfnDownRefIdeal (hFfnDownIdeal := Cert.FfnDownIdeal.Gen.facts)
    (hFfnDownRefIdeal := Cert.FfnDownRefIdeal.Gen.facts) := by
  intro m g m' g' _ hargs
  refine ⟨outS m, outY m, ?_, ?_⟩
  · refine (θ_run (Cert.FfnDownIdeal.defs (F := Ideal)) _ _).mono (fun r h c => ?_) (Cert.FfnDownIdeal.Value.run_blocks (F := Ideal) m g)
    obtain ⟨e0, e1, hm⟩ := h c
    exact ⟨e0.trans (arr_s m c), e1.trans (arr_y m c), hm⟩
  · refine (θ_run (Cert.FfnDownRefIdeal.defs (F := Ideal)) _ _).mono (fun r h c => ?_) (Cert.FfnDownRefIdeal.Value.run (F := Ideal) m' g')
    obtain ⟨e0, e1, hm⟩ := h c
    obtain ⟨a0, a1, a2, a3, a4⟩ := hargs c
    refine ⟨e0.trans ((val_main_v6_eq ..).trans ?_), e1.trans ((val_main_v28_eq ..).trans ?_), hm⟩
    · unfold outS; rw [← a0, ← a1, ← a2]
    · unfold outY; rw [← a0, ← a1, ← a2, ← a3, ← a4]

theorem frame_kernel : Cert.quiescent_FfnDown (hFfnDown := Cert.FfnDown.Gen.facts) := fun m g _ => Cert.FfnDown.Gen.frame m g
theorem frame_ideal : Cert.quiescent_FfnDownIdeal (hFfnDownIdeal := Cert.FfnDownIdeal.Gen.facts) := fun m g _ => Cert.FfnDownIdeal.Gen.frame m g
theorem frame_reference : Cert.quiescent_FfnDownRefIdeal (hFfnDownRefIdeal := Cert.FfnDownRefIdeal.Gen.facts) := fun m g _ =>
  (θ_run (Cert.FfnDownRefIdeal.defs (F := Ideal)) _ _).mono (fun r h => ⟨fun c => (h c).2.2, sem_eq_zero_of_no_sems (by decide) r.2⟩)
    (Cert.FfnDownRefIdeal.Value.run (F := Ideal) m g)

end Cert.FfnDownIdeal.Out

end
-- ==== Proof.Out.Proj.lean ====
module

public import proofs.«01_k».proof.Defs
public import proofs.«01_k».proof.Proof.Gen.OutProj
public import proofs.«01_k».proof.Proof.Gen.OutProj.Frame
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Norm.Forward
public import Idealize.ShloMosaic.Lib.Pipeline.ValueKit
public import Idealize.ShloMosaic.Lib.Claim

/-! The mixer's last product, its residual sum and their norm: kernel and reference end with the same two arrays. -/

@[expose] public section

set_option maxRecDepth 16384

noncomputable section

namespace Cert.OutProjIdeal.Out

open Cert.OutProjIdeal Cert.OutProjIdeal.Gen Idealize.ShloMosaic Idealize.ShloMosaic.TcCoe Idealize.SL Idealize.SL.Sem Cert.Norm
open Idealize.ShloMosaic.Pipeline (Dat)
open Cert.OutProjRefIdeal.Read

variable (m : (ℓ : Loc nD τ sig) → Buf (Elt Ideal) ℓ) (c : Dev nD)

theorem places : ∀ t : Fin cfg0.N, win0_0.index t = ![t.val, 0] ∧ win0_1.index t = ![0, 0]
    ∧ win0_2.index t = ![t.val, 0] ∧ win0_5.index t = ![t.val, 0] ∧ win0_6.index t = ![t.val, 0] :=
  (by decide +kernel : ∀ t : Fin grid0.N, _)

theorem places' : ∀ t : Fin cfg0.N, win0_3.index t = ![0, 0] ∧ win0_4.index t = ![0, 0] :=
  (by decide +kernel : ∀ t : Fin grid0.N, _)

/-- Row `i` of block `t`. -/
def row (t : Fin cfg0.N) (i : Fin 512) : Fin 8192 :=
  ⟨t.val * 512 + i.val, by have := Nat.lt_of_lt_of_eq t.isLt N_0; omega⟩

/-- The residual sum at an index, in the kernel's block and in the reference. -/
def res (r : Fin 1024 → EReal) (x : EReal) (w : Fin 1024 → EReal) : EReal :=
  Ideal.ofBits .f32 0x3FB504F3#32 * x + ∑ k, r k * w k

theorem pay1_at (u : Vec Ideal S512x1024 .bf16) (w : Vec Ideal S1024x1024 .bf16) (x : Vec Ideal S512x1024 .f32) (i : Fin 512) (j : Fin 1024) :
    k0_pay1 (F := Ideal) u w x (ix2 i j) = res (fun k => u (ix2 i k)) (x (ix2 i j)) (fun k => w (ix2 k j)) := by
  pointwise [k0_pay1]
  rfl

theorem pay2_at {u : Vec Ideal S512x1024 .bf16} {w : Vec Ideal S1024x1024 .bf16} {x : Vec Ideal S512x1024 .f32} {g b : Vec Ideal S1x1024 .f32}
    {S : Fin 512 → Fin 1024 → EReal} (h : ∀ i j, k0_pay1 (F := Ideal) u w x (ix2 i j) = S i j) (i : Fin 512) (j : Fin 1024) :
    k0_pay2 (F := Ideal) u w x g b (ix2 i j) = ln (S i) (g (ix2 0 j)) (b (ix2 0 j)) j := by
  unfold k0_pay2
  pointwise [h]
  rfl

section Reference
variable (x0 : Vec Ideal Cert.OutProjRefIdeal.S8192x1024 .bf16) (x1 : Vec Ideal Cert.OutProjRefIdeal.S8192x1024 .f32)
variable (x2 : Vec Ideal Cert.OutProjRefIdeal.S1024x1024 .f32) (x3 x4 : Vec Ideal Cert.OutProjRefIdeal.S1024 .f32)

theorem res_at (i : Fin 8192) (j : Fin 1024) :
    val_main_v4 (F := Ideal) x0 x1 x2 (ix2 i j) = res (fun k => x0 (ix2 i k)) (x1 (ix2 i j)) (fun k => x2 (ix2 k j)) := by
  rw [← val_main_v4_eq]
  pointwise
  rfl

theorem norm_at (i : Fin 8192) (j : Fin 1024) :
    val_main_v26 (F := Ideal) x0 x1 x2 x3 x4 (ix2 i j)
      = ln (fun k => val_main_v4 (F := Ideal) x0 x1 x2 (ix2 i k)) (x3 (ix1 j)) (x4 (ix1 j)) j := by
  generalize hs : val_main_v4 (F := Ideal) x0 x1 x2 = s
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_cst_0 val_main_cst_1 val_main_cst_2 val_main_cst_3 val_main_cst_4
  simp only [hs]
  pointwise
  rfl

end Reference

/-- The two results of the reference on the kernel's arguments. -/
abbrev outS : Vec Ideal S8192x1024 .f32 :=
  val_main_v4 (F := Ideal) (m ((c : Thread nD τ).loc main_arg0)) (m ((c : Thread nD τ).loc main_arg1)) (m ((c : Thread nD τ).loc main_arg2))
abbrev outY : Vec Ideal S8192x1024 .f32 :=
  val_main_v26 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

theorem blk_u (t : Fin cfg0.N) (i : Fin 512) (k : Fin 1024) :
    (iblk m c 0 t : Vec Ideal S512x1024 .bf16) (ix2 i k) = (m ((c : Thread nD τ).loc main_arg0) : Vec Ideal S8192x1024 .bf16) (ix2 (row t i) k) := by
  unfold row
  blk_point [iblk, V, places t]

theorem blk_w (t : Fin cfg0.N) (k : Fin 1024) (j : Fin 1024) :
    (iblk m c 1 t : Vec Ideal S1024x1024 .bf16) (ix2 k j) = (m ((c : Thread nD τ).loc main_arg2) : Vec Ideal S1024x1024 .f32) (ix2 k j) := by
  blk_point [iblk, V, places t]

theorem blk_x (t : Fin cfg0.N) (i : Fin 512) (j : Fin 1024) :
    (iblk m c 2 t : Vec Ideal S512x1024 .f32) (ix2 i j) = (m ((c : Thread nD τ).loc main_arg1) : Vec Ideal S8192x1024 .f32) (ix2 (row t i) j) := by
  unfold row
  blk_point [iblk, V, places t]

theorem blk_res (t : Fin cfg0.N) (i : Fin 512) (j : Fin 1024) :
    k0_pay1 (F := Ideal) (iblk m c 0 t) (iblk m c 1 t) (iblk m c 2 t) (ix2 i j) = outS m c (ix2 (row t i) j) :=
  (pay1_at _ _ _ _ _).trans ((congr (congrArg₂ res (funext fun k => blk_u m c t i k) (blk_x m c t i j)) (funext fun k => blk_w m c t k j)).trans
    (res_at _ _ _ _ _).symm)

theorem blk_g (t : Fin cfg0.N) (j : Fin 1024) :
    (iblk m c 3 t : Vec Ideal S1x1024 .f32) (ix2 0 j) = (m ((c : Thread nD τ).loc main_arg3) : Vec Ideal S1024 .f32) (ix1 j) := by
  blk_point [iblk, V, places' t]

theorem blk_b (t : Fin cfg0.N) (j : Fin 1024) :
    (iblk m c 4 t : Vec Ideal S1x1024 .f32) (ix2 0 j) = (m ((c : Thread nD τ).loc main_arg4) : Vec Ideal S1024 .f32) (ix1 j) := by
  blk_point [iblk, V, places' t]

theorem at_s (t : Fin cfg0.N) (y : S512x1024.Idx) : (((cfg0.win 5).blk t).view.emb y : S8192x1024.Idx) = ix2 (row t (y 0)) (y 1) := by
  unfold row
  blk_ext [places t]

theorem at_y (t : Fin cfg0.N) (y : S512x1024.Idx) : (((cfg0.win 6).blk t).view.emb y : S8192x1024.Idx) = ix2 (row t (y 0)) (y 1) := by
  unfold row
  blk_ext [places t]

theorem arr_s : (dats m 0 c).arrAt 5 (cfgs 0).N = outS m c := by
  refine (dats m 0 c).arrAt_eq_of_covers 5 _ (by decide +kernel) fun t _ y => ?_
  refine Eq.trans ?_ (congrArg (outS m c) (at_s t y).symm)
  blk_simp
  rw [after0_5]; frame_out
  rw [show y = ix2 (y 0) (y 1) from (ix2_eta y).symm]
  exact blk_res m c t (y 0) (y 1)

theorem arr_y : (dats m 0 c).arrAt 6 (cfgs 0).N = outY m c := by
  refine (dats m 0 c).arrAt_eq_of_covers 6 _ (by decide +kernel) fun t _ y => ?_
  refine Eq.trans ?_ (congrArg (outY m c) (at_y t y).symm)
  blk_simp
  rw [after0_6]; frame_out
  rw [show y = ix2 (y 0) (y 1) from (ix2_eta y).symm]
  refine (pay2_at (blk_res m c t) (y 0) (y 1)).trans (Eq.trans ?_ (norm_at _ _ _ _ _ _ _).symm)
  exact congrArg₂ (fun g b => ln (fun j => outS m c (ix2 (row t (y 0)) j)) g b (y 1)) (blk_g m c t (y 1)) (blk_b m c t (y 1))

theorem algebraic : Cert.algebraic_OutProjIdeal_OutProjRefIdeal (hOutProjIdeal := Cert.OutProjIdeal.Gen.facts)
    (hOutProjRefIdeal := Cert.OutProjRefIdeal.Gen.facts) := by
  intro m g m' g' _ hargs
  refine ⟨outS m, outY m, ?_, ?_⟩
  · refine (θ_run (Cert.OutProjIdeal.defs (F := Ideal)) _ _).mono (fun r h c => ?_) (Cert.OutProjIdeal.Value.run_blocks (F := Ideal) m g)
    obtain ⟨e0, e1, hm⟩ := h c
    exact ⟨e0.trans (arr_s m c), e1.trans (arr_y m c), hm⟩
  · refine (θ_run (Cert.OutProjRefIdeal.defs (F := Ideal)) _ _).mono (fun r h c => ?_) (Cert.OutProjRefIdeal.Value.run (F := Ideal) m' g')
    obtain ⟨e0, e1, hm⟩ := h c
    obtain ⟨a0, a1, a2, a3, a4⟩ := hargs c
    refine ⟨e0.trans ((val_main_v4_eq ..).trans ?_), e1.trans ((val_main_v26_eq ..).trans ?_), hm⟩
    · unfold outS; rw [← a0, ← a1, ← a2]
    · unfold outY; rw [← a0, ← a1, ← a2, ← a3, ← a4]

theorem frame_kernel : Cert.quiescent_OutProj (hOutProj := Cert.OutProj.Gen.facts) := fun m g _ => Cert.OutProj.Gen.frame m g
theorem frame_ideal : Cert.quiescent_OutProjIdeal (hOutProjIdeal := Cert.OutProjIdeal.Gen.facts) := fun m g _ => Cert.OutProjIdeal.Gen.frame m g
theorem frame_reference : Cert.quiescent_OutProjRefIdeal (hOutProjRefIdeal := Cert.OutProjRefIdeal.Gen.facts) := fun m g _ =>
  (θ_run (Cert.OutProjRefIdeal.defs (F := Ideal)) _ _).mono (fun r h => ⟨fun c => (h c).2.2, sem_eq_zero_of_no_sems (by decide) r.2⟩)
    (Cert.OutProjRefIdeal.Value.run (F := Ideal) m g)

end Cert.OutProjIdeal.Out

end
-- ==== Proof.LossTile.lean ====
module

public import proofs.«01_k».proof.Proof.Gen.LossIdeal.Value
public import proofs.«01_k».proof.Proof.Norm.Real
public import Idealize.ShloMosaic.Lib.Pipeline.ValueKit
public import Idealize.ShloMosaic.Lib.Pointwise

/-! One block of rows of the loss and its norm's gradient, in real numbers. -/

@[expose] public section

set_option maxRecDepth 16384
noncomputable section

namespace Cert.LossIdeal.Tile

open Cert.LossIdeal Cert.LossIdeal.Gen Idealize.ShloMosaic Idealize.ShloMosaic.TcCoe Cert.Norm

variable {v0 v25 v28 v34 v26 : Vec Ideal S512x1024 .f32} {v1 v3 v2 : Vec Ideal S1x1024 .f32} {v39 : Vec Ideal S512x1 .f32}
variable {S T W : Fin 512 → Fin 1024 → ℝ} {G B : Fin 1024 → ℝ}

theorem pay4_at (hs : ∀ i j, v0 (ix2 i j) = (S i j : EReal)) (i j) : k0_pay4 (F := Ideal) v0 (ix2 i j) = (cen (S i) j : EReal) := by
  pointwise [k0_pay4, hs]
  simp only [coe_sum, lit1024, div1024, ← EReal.coe_sub]
  rfl

theorem pay5_at (hs : ∀ i j, v0 (ix2 i j) = (S i j : EReal)) (i j) : k0_pay5 (F := Ideal) v0 (ix2 i j) = (var (S i) : EReal) := by
  have h := pay4_at hs
  unfold k0_pay5
  pointwise [h]
  simp only [← EReal.coe_mul, coe_sum, lit1024, div1024]
  rfl

theorem pay6_at (hv : ∀ i j, v39 (ix2 i j) = (var (S i) : EReal)) (i j) :
    k0_pay6 (F := Ideal) v39 (Ideal.ofBits .f32 0x3727C5AC#32) (ix2 i j) = (rstd (S i) : EReal) := by
  pointwise [k0_pay6, hv]
  simp only [litEps, ← EReal.coe_add, rsqrt_pos (var_eps_pos _)]
  rfl

theorem pay7_at (hx : ∀ i j, v34 (ix2 i j) = (cen (S i) j : EReal)) (hv : ∀ i j, v39 (ix2 i j) = (var (S i) : EReal)) (i j) :
    k0_pay7 (F := Ideal) v34 v39 (Ideal.ofBits .f32 0x3727C5AC#32) (ix2 i j) = (hat (S i) j : EReal) := by
  have h := pay6_at hv
  unfold k0_pay7
  pointwise [h, hx]
  simp only [← EReal.coe_mul]
  rfl

/-- The norm's output less its target. -/
def err (s : Fin 1024 → ℝ) (G B t : Fin 1024 → ℝ) (j : Fin 1024) : ℝ := hat s j * G j + B j - t j

theorem pay2_at (hs : ∀ i j, v0 (ix2 i j) = (S i j : EReal)) (hg : ∀ i j, v1 (ix2 i j) = (G j : EReal)) (hb : ∀ i j, v3 (ix2 i j) = (B j : EReal))
    (ht : ∀ i j, v25 (ix2 i j) = (T i j : EReal)) (i j) : k0_pay2 (F := Ideal) v0 v1 v3 v25 (ix2 i j) = (err (S i) G B (T i) j : EReal) := by
  have e := pay7_at (pay4_at hs) (pay5_at hs) i j
  refine Eq.trans (b := k0_pay7 (F := Ideal) (k0_pay4 (F := Ideal) v0) (k0_pay5 (F := Ideal) v0) (Ideal.ofBits .f32 0x3727C5AC#32) (ix2 i j) * v1 (ix2 0 j) + v3 (ix2 0 j) - v25 (ix2 i j)) ?_ ?_
  · pointwise [k0_pay2, k0_pay1, k0_pay7, k0_pay6, k0_pay5, k0_pay4]
  · rw [e, hg, hb, ht, ← EReal.coe_mul, ← EReal.coe_add, ← EReal.coe_sub]; rfl

theorem pay3_at (hs : ∀ i j, v0 (ix2 i j) = (S i j : EReal)) (hg : ∀ i j, v1 (ix2 i j) = (G j : EReal)) (hb : ∀ i j, v3 (ix2 i j) = (B j : EReal))
    (ht : ∀ i j, v25 (ix2 i j) = (T i j : EReal)) (i j) : k0_pay3 (F := Ideal) v0 v1 v3 v25 (ix2 i j) = ((err (S i) G B (T i) j * (1 / 1024) : ℝ) : EReal) := by
  have h := pay2_at hs hg hb ht
  unfold k0_pay3
  pointwise [h]
  simp only [litInv1024, ← EReal.coe_mul]

theorem pay8_at (hw : ∀ i j, v28 (ix2 i j) = (W i j : EReal)) (hg : ∀ i j, v2 (ix2 i j) = (G j : EReal))
    (hx : ∀ i j, v34 (ix2 i j) = (cen (S i) j : EReal)) (hv : ∀ i j, v39 (ix2 i j) = (var (S i) : EReal)) (i j) :
    k0_pay8 (F := Ideal) v2 v28 v34 v39 (Ideal.ofBits .f32 0x3727C5AC#32) (ix2 i j) = (back (S i) (fun j => W i j * G j) j : EReal) := by
  have h := pay7_at hx hv
  have h6 := pay6_at hv
  unfold k0_pay8
  pointwise [h, h6, hw, hg]
  simp only [lit1024, ← EReal.coe_mul, coe_sum, div1024, ← EReal.coe_sub]
  rfl

theorem pay9_at (hw : ∀ i j, v28 (ix2 i j) = (W i j : EReal))
    (hx : ∀ i j, v34 (ix2 i j) = (cen (S i) j : EReal)) (hv : ∀ i j, v39 (ix2 i j) = (var (S i) : EReal)) (i j) :
    k0_pay9 (F := Ideal) v28 v34 v39 (Ideal.ofBits .f32 0x3727C5AC#32) (ix2 i j) = ((∑ r, W r j * hat (S r) j : ℝ) : EReal) := by
  have h := pay7_at hx hv
  unfold k0_pay9
  pointwise [h, hw]
  simp only [← EReal.coe_mul, coe_sum]

theorem pay10_at (hw : ∀ i j, v28 (ix2 i j) = (W i j : EReal)) (i j) : k0_pay10 (F := Ideal) v28 (ix2 i j) = ((∑ r, W r j : ℝ) : EReal) := by
  unfold k0_pay10
  pointwise [hw]
  simp only [coe_sum]

theorem pay11_at (hw : ∀ i j, v26 (ix2 i j) = (W i j : EReal)) (i j) : k0_pay11 (F := Ideal) v26 (ix2 i j) = ((∑ r, W r j * W r j : ℝ) : EReal) := by
  unfold k0_pay11
  pointwise [hw]
  simp only [← EReal.coe_mul, coe_sum]

theorem pay16_at {A : Fin 1024 → ℝ} {a : Vec Ideal S1x1024 .f32} (ha : ∀ i j, a (ix2 i j) = (A j : EReal)) (i j) :
    k0_pay16 (F := Ideal) a (ix2 i j) = (((∑ x, A x) * (1 / 2048) : ℝ) : EReal) := by
  unfold k0_pay16
  pointwise [ha]
  simp only [coe_sum, litHalfInv, ← EReal.coe_mul]

end Cert.LossIdeal.Tile

end
-- ==== Proof.LossArr.lean ====
module

public import proofs.«01_k».proof.Proof.LossTile
public import proofs.«01_k».proof.Proof.Norm.Blocks
public import Idealize.ShloMosaic.Lib.Pipeline.ReadBack

/-! The kernel's arrays of the loss and its norm's gradient, in real numbers. -/

@[expose] public section

set_option maxRecDepth 16384
noncomputable section

namespace Cert.LossIdeal.Arr

open Cert.LossIdeal Cert.LossIdeal.Gen Idealize.ShloMosaic Idealize.ShloMosaic.TcCoe Cert.Norm Cert.LossIdeal.Tile
open Idealize.ShloMosaic.Pipeline (Dat)

variable {m : (ℓ : Loc nD τ sig) → Buf (Elt Ideal) ℓ} {c : Dev nD}
variable {X T : Fin 8192 → Fin 1024 → ℝ} {G B : Fin 1024 → ℝ}

/-- The arguments in real numbers. -/
structure Args (m : (ℓ : Loc nD τ sig) → Buf (Elt Ideal) ℓ) (c : Dev nD) (X T : Fin 8192 → Fin 1024 → ℝ) (G B : Fin 1024 → ℝ) : Prop where
  x : ∀ i j, (m ((c : Thread nD τ).loc main_arg0) : Vec Ideal S8192x1024 .f32) (ix2 i j) = (X i j : EReal)
  g : ∀ j, (m ((c : Thread nD τ).loc main_arg1) : Vec Ideal S1024 .f32) (ix1 j) = (G j : EReal)
  b : ∀ j, (m ((c : Thread nD τ).loc main_arg2) : Vec Ideal S1024 .f32) (ix1 j) = (B j : EReal)
  t : ∀ i j, (m ((c : Thread nD τ).loc main_arg3) : Vec Ideal S8192x1024 .f32) (ix2 i j) = (T i j : EReal)

/-- The derivative at the norm's output, one row; and the results. -/
def dyR (X T : Fin 8192 → Fin 1024 → ℝ) (G B : Fin 1024 → ℝ) (r : Fin 8192) (j : Fin 1024) : ℝ := err (X r) G B (T r) j * (1 / 1024)
def dsR (X T : Fin 8192 → Fin 1024 → ℝ) (G B : Fin 1024 → ℝ) (r : Fin 8192) (j : Fin 1024) : ℝ := back (X r) (fun j => dyR X T G B r j * G j) j
def dgR (X T : Fin 8192 → Fin 1024 → ℝ) (G B : Fin 1024 → ℝ) (j : Fin 1024) : ℝ := ∑ r, dyR X T G B r j * hat (X r) j
def dbR (X T : Fin 8192 → Fin 1024 → ℝ) (G B : Fin 1024 → ℝ) (j : Fin 1024) : ℝ := ∑ r, dyR X T G B r j
def sqR (X T : Fin 8192 → Fin 1024 → ℝ) (G B : Fin 1024 → ℝ) (j : Fin 1024) : ℝ := ∑ r, err (X r) G B (T r) j * err (X r) G B (T r) j
def lossR (X T : Fin 8192 → Fin 1024 → ℝ) (G B : Fin 1024 → ℝ) : ℝ := (∑ j, sqR X T G B j) * (1 / 2048)

theorem places : ∀ t : Fin cfg0.N, win0_0.index t = ![t.val, 0] ∧ win0_1.index t = ![0, 0]
    ∧ win0_2.index t = ![0, 0] ∧ win0_3.index t = ![t.val, 0] ∧ win0_5.index t = ![t.val, 0] :=
  (by decide +kernel : ∀ t : Fin grid0.N, _)

theorem lt16 (t : Fin cfg0.N) : t.val < 16 := Nat.lt_of_lt_of_eq t.isLt N_0

/-- Row `i` of block `t`. -/
def row (t : Fin cfg0.N) (i : Fin 512) : Fin 8192 := ⟨t.val * 512 + i.val, by have := lt16 t; omega⟩

theorem blk_x (h : Args m c X T G B) (t : Fin cfg0.N) (i : Fin 512) (j : Fin 1024) : (iblk m c 0 t : Vec Ideal S512x1024 .f32) (ix2 i j) = (X (row t i) j : EReal) := by
  refine Eq.trans ?_ (h.x _ _)
  unfold row
  blk_point [iblk, V, places t]

theorem blk_t (h : Args m c X T G B) (t : Fin cfg0.N) (i : Fin 512) (j : Fin 1024) : (iblk m c 3 t : Vec Ideal S512x1024 .f32) (ix2 i j) = (T (row t i) j : EReal) := by
  refine Eq.trans ?_ (h.t _ _)
  unfold row
  blk_point [iblk, V, places t]

theorem blk_g (h : Args m c X T G B) (t : Fin cfg0.N) (i : Fin 1) (j : Fin 1024) : (iblk m c 1 t : Vec Ideal S1x1024 .f32) (ix2 i j) = (G j : EReal) := by
  refine Eq.trans ?_ (h.g _)
  blk_point [iblk, V, places t]

theorem blk_b (h : Args m c X T G B) (t : Fin cfg0.N) (i : Fin 1) (j : Fin 1024) : (iblk m c 2 t : Vec Ideal S1x1024 .f32) (ix2 i j) = (B j : EReal) := by
  refine Eq.trans ?_ (h.b _)
  blk_point [iblk, V, places t]

theorem pay1_at {v : Vec Ideal S1x1024 .f32} (h : ∀ i j, v (ix2 i j) = (G j : EReal)) (i j) : k0_pay1 (F := Ideal) v (ix2 i j) = (G j : EReal) := by
  pointwise [k0_pay1, h]

theorem pt_ds (h : Args m c X T G B) (t : Fin cfg0.N) (i : Fin 512) (j : Fin 1024) :
    (outsAt0 m c t.val t.isLt).2.1 (ix2 i j) = (dsR X T G B (row t i) j : EReal) := by
  by_cases h0 : t.val % 16 = 0
  · have h1 : ¬1 ≤ t.val := by have := lt16 t; omega
    have h2 : ¬t.val % 16 = 15 := by omega
    rw [outsAt0_A m c t h0 h1 h2]; frame_out
    exact pay8_at (pay3_at (blk_x h t) (blk_g h t) (blk_b h t) (blk_t h t)) (pay1_at (blk_g h t)) (pay4_at (blk_x h t)) (pay5_at (blk_x h t)) i j
  · have h1 : 1 ≤ t.val := by have := lt16 t; omega
    by_cases h2 : t.val % 16 = 15
    · rw [outsAt0_C m c t h0 h1 h2]; frame_out
      exact pay8_at (pay3_at (blk_x h t) (blk_g h t) (blk_b h t) (blk_t h t)) (pay1_at (blk_g h t)) (pay4_at (blk_x h t)) (pay5_at (blk_x h t)) i j
    · rw [outsAt0_B m c t h0 h1 h2]; frame_out
      exact pay8_at (pay3_at (blk_x h t) (blk_g h t) (blk_b h t) (blk_t h t)) (pay1_at (blk_g h t)) (pay4_at (blk_x h t)) (pay5_at (blk_x h t)) i j

theorem pay12_at (v : Vec Ideal S512x1024 .f32) (i j) : k0_pay12 (F := Ideal) v (ix2 i j) = k0_pay11 (F := Ideal) v (ix2 i j) := by
  unfold k0_pay12; pointwise
theorem pay13_at (v : Vec Ideal S512x1024 .f32) (a : Vec Ideal S1x1024 .f32) (i j) :
    k0_pay13 (F := Ideal) v a (ix2 i j) = a (ix2 i j) + k0_pay11 (F := Ideal) v (ix2 i j) := by
  unfold k0_pay13; pointwise
theorem pay14_at (v x : Vec Ideal S512x1024 .f32) (y : Vec Ideal S512x1 .f32) (e : Ideal .f32) (a : Vec Ideal S1x1024 .f32) (i j) :
    k0_pay14 (F := Ideal) v x y e a (ix2 i j) = a (ix2 i j) + k0_pay9 (F := Ideal) v x y e (ix2 i j) := by
  unfold k0_pay14; pointwise
theorem pay15_at (v : Vec Ideal S512x1024 .f32) (a : Vec Ideal S1x1024 .f32) (i j) :
    k0_pay15 (F := Ideal) v a (ix2 i j) = a (ix2 i j) + k0_pay10 (F := Ideal) v (ix2 i j) := by
  unfold k0_pay15; pointwise

/-- What the first point leaves in the three carried rows. -/
theorem first (h : Args m c X T G B) (t : Fin cfg0.N) (h0 : t.val = 0) (j : Fin 1024) :
    (outsAt0 m c t.val t.isLt).2.2.1 (ix2 0 j) = ((∑ i, dyR X T G B (row t i) j * hat (X (row t i)) j : ℝ) : EReal)
    ∧ (outsAt0 m c t.val t.isLt).2.2.2.1 (ix2 0 j) = ((∑ i, dyR X T G B (row t i) j : ℝ) : EReal)
    ∧ (outsAt0 m c t.val t.isLt).2.2.2.2 (ix2 0 j) = ((∑ i, err (X (row t i)) G B (T (row t i)) j * err (X (row t i)) G B (T (row t i)) j : ℝ) : EReal) := by
  rw [outsAt0_A m c t (by omega) (by omega) (by omega)]; frame_out
  refine ⟨?_, ?_, ?_⟩
  · exact pay9_at (pay3_at (blk_x h t) (blk_g h t) (blk_b h t) (blk_t h t)) (pay4_at (blk_x h t)) (pay5_at (blk_x h t)) 0 j
  · exact pay10_at (pay3_at (blk_x h t) (blk_g h t) (blk_b h t) (blk_t h t)) 0 j
  · exact (pay12_at _ 0 j).trans (pay11_at (pay2_at (blk_x h t) (blk_g h t) (blk_b h t) (blk_t h t)) 0 j)

/-- What each later point adds to them. -/
theorem later (h : Args m c X T G B) (t : Fin cfg0.N) (h0 : 1 ≤ t.val) (j : Fin 1024) :
    (outsAt0 m c t.val t.isLt).2.2.1 (ix2 0 j) = (outsAt0 m c (t.val - 1) (by have := t.isLt; omega)).2.2.1 (ix2 0 j) + ((∑ i, dyR X T G B (row t i) j * hat (X (row t i)) j : ℝ) : EReal)
    ∧ (outsAt0 m c t.val t.isLt).2.2.2.1 (ix2 0 j) = (outsAt0 m c (t.val - 1) (by have := t.isLt; omega)).2.2.2.1 (ix2 0 j) + ((∑ i, dyR X T G B (row t i) j : ℝ) : EReal)
    ∧ (outsAt0 m c t.val t.isLt).2.2.2.2 (ix2 0 j) = (outsAt0 m c (t.val - 1) (by have := t.isLt; omega)).2.2.2.2 (ix2 0 j)
      + ((∑ i, err (X (row t i)) G B (T (row t i)) j * err (X (row t i)) G B (T (row t i)) j : ℝ) : EReal) := by
  have lt := lt16 t
  have e9 := pay9_at (pay3_at (blk_x h t) (blk_g h t) (blk_b h t) (blk_t h t)) (pay4_at (blk_x h t)) (pay5_at (blk_x h t)) 0 j
  have e10 := pay10_at (pay3_at (blk_x h t) (blk_g h t) (blk_b h t) (blk_t h t)) 0 j
  have e11 := pay11_at (pay2_at (blk_x h t) (blk_g h t) (blk_b h t) (blk_t h t)) 0 j
  by_cases h2 : t.val % 16 = 15
  · rw [outsAt0_C m c t (by omega) (by omega) h2]; frame_out
    rw [read_unread_whole, pay14_at, pay15_at, pay13_at]
    exact ⟨congrArg _ e9, congrArg _ e10, congrArg _ e11⟩
  · rw [outsAt0_B m c t (by omega) (by omega) h2]; frame_out
    rw [read_unread_whole, pay14_at, pay15_at, pay13_at]
    exact ⟨congrArg _ e9, congrArg _ e10, congrArg _ e11⟩

theorem row_at (k : Fin cfg0.N) (i : Fin 512) : (row k i).val = k.val * 512 + i.val := rfl

theorem last_dg (h : Args m c X T G B) (j : Fin 1024) : (outsAt0 m c t0_15.val t0_15.isLt).2.2.1 (ix2 0 j) = (dgR X T G B j : EReal) :=
  carried_rows (congrArg (· * 512) N_0) (fun n hn => (outsAt0 m c n hn).2.2.1 (ix2 0 j)) (fun r => dyR X T G B r j * hat (X r) j) row row_at
    (fun h0 => (first h ⟨0, h0⟩ rfl j).1) (fun n hn => (later h ⟨n + 1, hn⟩ (Nat.le_add_left 1 n) j).1) 15 t0_15.isLt N_0.symm
theorem last_db (h : Args m c X T G B) (j : Fin 1024) : (outsAt0 m c t0_15.val t0_15.isLt).2.2.2.1 (ix2 0 j) = (dbR X T G B j : EReal) :=
  carried_rows (congrArg (· * 512) N_0) (fun n hn => (outsAt0 m c n hn).2.2.2.1 (ix2 0 j)) (fun r => dyR X T G B r j) row row_at
    (fun h0 => (first h ⟨0, h0⟩ rfl j).2.1) (fun n hn => (later h ⟨n + 1, hn⟩ (Nat.le_add_left 1 n) j).2.1) 15 t0_15.isLt N_0.symm
theorem last_sq (h : Args m c X T G B) (j : Fin 1024) : (outsAt0 m c t0_15.val t0_15.isLt).2.2.2.2 (ix2 0 j) = (sqR X T G B j : EReal) :=
  carried_rows (congrArg (· * 512) N_0) (fun n hn => (outsAt0 m c n hn).2.2.2.2 (ix2 0 j)) (fun r => err (X r) G B (T r) j * err (X r) G B (T r) j) row row_at
    (fun h0 => (first h ⟨0, h0⟩ rfl j).2.2) (fun n hn => (later h ⟨n + 1, hn⟩ (Nat.le_add_left 1 n) j).2.2) 15 t0_15.isLt N_0.symm

/-- The loss written at the last point is read from the carried row just updated. -/
theorem last_loss (h : Args m c X T G B) : (outsAt0 m c t0_15.val t0_15.isLt).1 (ix2 0 0) = (lossR X T G B : EReal) := by
  have key : (outsAt0 m c t0_15.val t0_15.isLt).1 = k0_pay16 (F := Ideal) (outsAt0 m c t0_15.val t0_15.isLt).2.2.2.2 := by
    rw [outsAt0_C m c t0_15 (by decide) (by decide) (by decide)]; frame_out
  rw [key]
  refine pay16_at (A := sqR X T G B) (fun i j => ?_) 0 0
  obtain rfl : i = 0 := Subsingleton.elim _ _
  exact last_sq h j

/-! ## The result arrays -/

theorem at_ds (t : Fin cfg0.N) (y : S512x1024.Idx) : (((cfg0.win 5).blk t).view.emb y : S8192x1024.Idx) = ix2 (row t (y 0)) (y 1) := by
  unfold row
  blk_ext [places t]

theorem fin1 (a b : Fin 1) : a = b := Subsingleton.elim a b
theorem row1 (y : S1x1024.Idx) : y = ix2 0 (y 1) := (ix2_eta y).symm.trans (congrArg (fun a => ix2 a (y 1)) (fin1 (y 0) 0))
theorem cell (y : S1x1.Idx) : y = ix2 0 0 :=
  (ix2_eta y).symm.trans (congrArg₂ (fun a b => ix2 a b) (fin1 (y 0) 0) (fin1 (y 1) 0))

theorem arr_ds (h : Args m c X T G B) (i : Fin 8192) (j : Fin 1024) : ((dats m 0 c).arrAt 5 cfg0.N : Vec Ideal S8192x1024 .f32) (ix2 i j) = (dsR X T G B i j : EReal) := by
  refine congrFun ((dats m 0 c).arrAt_eq_of_covers 5 (fun y : S8192x1024.Idx => ((dsR X T G B (y 0) (y 1) : ℝ) : EReal)) (by decide +kernel) fun t hf y => ?_) (ix2 i j)
  refine Eq.trans ?_ (congrArg (fun y : S8192x1024.Idx => ((dsR X T G B (y 0) (y 1) : ℝ) : EReal)) (at_ds t y).symm)
  blk_simp
  rw [after0_5, show y = ix2 (y 0) (y 1) from (ix2_eta y).symm]
  exact pt_ds h t (y 0) (y 1)

theorem arr_dg (h : Args m c X T G B) (j : Fin 1024) : ((dats m 0 c).arrAt 6 cfg0.N : Vec Ideal S1x1024 .f32) (ix2 0 j) = (dgR X T G B j : EReal) := by
  refine congrFun ((dats m 0 c).arrAt_eq_of_after_last 6 t0_15 (by decide +kernel) (fun y : S1x1024.Idx => ((dgR X T G B (y 1) : ℝ) : EReal)) fun (y : S1x1024.Idx) => ?_) (ix2 0 j)
  blk_simp
  rw [after0_6, row1 y]
  exact last_dg h (y 1)

theorem arr_db (h : Args m c X T G B) (j : Fin 1024) : ((dats m 0 c).arrAt 7 cfg0.N : Vec Ideal S1x1024 .f32) (ix2 0 j) = (dbR X T G B j : EReal) := by
  refine congrFun ((dats m 0 c).arrAt_eq_of_after_last 7 t0_15 (by decide +kernel) (fun y : S1x1024.Idx => ((dbR X T G B (y 1) : ℝ) : EReal)) fun (y : S1x1024.Idx) => ?_) (ix2 0 j)
  blk_simp
  rw [after0_7, row1 y]
  exact last_db h (y 1)

theorem arr_loss (h : Args m c X T G B) : ((dats m 0 c).arrAt 4 cfg0.N : Vec Ideal S1x1 .f32) (ix2 0 0) = (lossR X T G B : EReal) := by
  refine congrFun ((dats m 0 c).arrAt_eq_of_after_last 4 t0_15 (by decide +kernel) (fun _ : S1x1.Idx => ((lossR X T G B : ℝ) : EReal)) fun (y : S1x1.Idx) => ?_) (ix2 0 0)
  blk_simp
  rw [after0_4, cell y]
  exact last_loss h

end Cert.LossIdeal.Arr

end
-- ==== Proof.LossRef.lean ====
module

public import proofs.«01_k».proof.Proof.Gen.LossRefIdeal.Run
public import proofs.«01_k».proof.Proof.Gen.LossRefIdeal.Read
public import proofs.«01_k».proof.Proof.LossArr

/-! The reference's loss and gradient, in real numbers. -/

@[expose] public section

set_option maxRecDepth 16384
noncomputable section

namespace Cert.LossRefIdeal.Back

open Cert.LossRefIdeal Cert.LossRefIdeal.Read Idealize.ShloMosaic Idealize.ShloMosaic.TcCoe Cert.Norm
open Cert.LossIdeal.Arr (dyR dsR dgR dbR sqR lossR)
open Cert.LossIdeal.Tile (err)

variable {x0 x3 : Vec Ideal S8192x1024 .f32} {x1 x2 : Vec Ideal S1024 .f32}
variable {X T W : Fin 8192 → Fin 1024 → ℝ} {G B : Fin 1024 → ℝ}

theorem v5_at (hx : ∀ i j, x0 (ix2 i j) = (X i j : EReal)) (i j) : val_main_v5 (F := Ideal) x0 (ix2 i j) = (cen (X i) j : EReal) := by
  unfold val_main_v5 val_main_v4 val_main_v3 val_main_v2 val_main_v1 val_main_v0 val_main_cst val_main_cst_0
  pointwise [hx]
  simp only [coe_sum, lit1024, div1024, ← EReal.coe_sub]
  rfl

theorem v10_at (hx : ∀ i j, x0 (ix2 i j) = (X i j : EReal)) (i j) : val_main_v10 (F := Ideal) x0 (ix2 i j) = (var (X i) : EReal) := by
  have h := v5_at hx
  unfold val_main_v10 val_main_v9 val_main_v8 val_main_v7 val_main_v6 val_main_cst_1 val_main_cst_2
  pointwise [h]
  simp only [← EReal.coe_mul, coe_sum, lit1024, div1024]
  rfl

theorem v12_at (hx : ∀ i j, x0 (ix2 i j) = (X i j : EReal)) (i j) : val_main_v12 (F := Ideal) x0 (ix2 i j) = ((var (X i) + eps : ℝ) : EReal) := by
  have h := v10_at hx
  unfold val_main_v12 val_main_v11 val_main_cst_3
  pointwise [h]
  simp only [litEps, ← EReal.coe_add]

theorem v13_at (hx : ∀ i j, x0 (ix2 i j) = (X i j : EReal)) (i j) : val_main_v13 (F := Ideal) x0 (ix2 i j) = (rstd (X i) : EReal) := by
  have h := v12_at hx
  unfold val_main_v13
  pointwise [h]
  simp only [rsqrt_pos (var_eps_pos _)]
  rfl

theorem v16_at (hx : ∀ i j, x0 (ix2 i j) = (X i j : EReal)) (i j) :
    val_main_v16 (F := Ideal) x0 (ix2 i j) = ((-(1 / 2) * (rstd (X i) / (var (X i) + eps)) : ℝ) : EReal) := by
  have h := v12_at hx
  have h' := v13_at hx
  unfold val_main_v16 val_main_v15 val_main_v14 val_main_cst_4
  pointwise [h, h']
  simp only [litNegHalf, div_real (var_eps_pos _).ne', ← EReal.coe_mul]

theorem v18_at (hx : ∀ i j, x0 (ix2 i j) = (X i j : EReal)) (i j) : val_main_v18 (F := Ideal) x0 (ix2 i j) = (hat (X i) j : EReal) := by
  have h := v5_at hx
  have h' := v13_at hx
  unfold val_main_v18 val_main_v17
  pointwise [h, h']
  simp only [← EReal.coe_mul]
  rfl

theorem v25_at (hx : ∀ i j, x0 (ix2 i j) = (X i j : EReal)) (hg : ∀ j, x1 (ix1 j) = (G j : EReal)) (hb : ∀ j, x2 (ix1 j) = (B j : EReal))
    (ht : ∀ i j, x3 (ix2 i j) = (T i j : EReal)) (i j) : val_main_v25 (F := Ideal) x0 x1 x2 x3 (ix2 i j) = (err (X i) G B (T i) j : EReal) := by
  have h := v18_at hx
  unfold val_main_v25 val_main_v24 val_main_v23 val_main_v22 val_main_v21 val_main_v20 val_main_v19
  pointwise [h, hg, hb, ht]
  simp only [← EReal.coe_mul, ← EReal.coe_add, ← EReal.coe_sub]
  rfl

theorem v39_at (he : ∀ i j, val_main_v25 (F := Ideal) x0 x1 x2 x3 (ix2 i j) = (err (X i) G B (T i) j : EReal)) (i j) :
    val_main_v39 (F := Ideal) x0 x1 x2 x3 (ix2 i j) = (dyR X T G B i j : EReal) := by
  unfold val_main_v39 val_main_v38 val_main_v37 val_main_v36 val_main_v35 val_main_v34 val_main_v28 val_main_v27 val_main_cst_5 val_main_cst_10 val_main_cst_11 val_main_cst_12
  pointwise [he]
  simp only [litTwo, litHalf, litOne, lit1024, div1024, ← EReal.coe_mul]
  refine congrArg (fun x : ℝ => (x : EReal)) ?_
  unfold dyR
  ring

theorem v47_at (hd : ∀ i j, val_main_v39 (F := Ideal) x0 x1 x2 x3 (ix2 i j) = (dyR X T G B i j : EReal)) (hg : ∀ j, x1 (ix1 j) = (G j : EReal)) (i j) :
    val_main_v47 (F := Ideal) x0 x1 x2 x3 (ix2 i j) = ((dyR X T G B i j * G j : ℝ) : EReal) := by
  unfold val_main_v47 val_main_v46 val_main_v19
  pointwise [hd, hg]
  simp only [← EReal.coe_mul]

theorem v58_at (hx : ∀ i j, x0 (ix2 i j) = (X i j : EReal)) (hw : ∀ i j, val_main_v47 (F := Ideal) x0 x1 x2 x3 (ix2 i j) = (W i j : EReal)) (i j) :
    val_main_v58 (F := Ideal) x0 x1 x2 x3 (ix2 i j) = (chainQ (X i) (W i) : EReal) := by
  have h := v5_at hx
  have h' := v16_at hx
  unfold val_main_v58 val_main_v57 val_main_v56 val_main_v55 val_main_v54 val_main_v51 val_main_v50 val_main_v49 val_main_cst_17 val_main_cst_18 val_main_cst_19
  pointwise [h, h', hw]
  simp only [Fin.sum_univ_one, lit1024, ← EReal.coe_mul, coe_sum, div1024]
  rfl

theorem v62_at (hx : ∀ i j, x0 (ix2 i j) = (X i j : EReal)) (hw : ∀ i j, val_main_v47 (F := Ideal) x0 x1 x2 x3 (ix2 i j) = (W i j : EReal)) (i j) :
    val_main_v62 (F := Ideal) x0 x1 x2 x3 (ix2 i j) = (chainT (X i) (W i) j : EReal) := by
  have h := v5_at hx
  have h' := v13_at hx
  have h'' := v58_at hx hw
  unfold val_main_v62 val_main_v61 val_main_v60 val_main_v59 val_main_v53 val_main_v52
  pointwise [h, h', h'', hw]
  simp only [← EReal.coe_mul, ← EReal.coe_add]
  rfl

theorem v70_at (hx : ∀ i j, x0 (ix2 i j) = (X i j : EReal)) (hw : ∀ i j, val_main_v47 (F := Ideal) x0 x1 x2 x3 (ix2 i j) = (W i j : EReal)) (i j) :
    val_main_v70 (F := Ideal) x0 x1 x2 x3 (ix2 i j) = (back (X i) (W i) j : EReal) := by
  have h := v62_at hx hw
  rw [← chain_eq]
  unfold val_main_v70 val_main_v69 val_main_v68 val_main_v67 val_main_v66 val_main_v65 val_main_v64 val_main_v63 val_main_cst_20 val_main_cst_21 val_main_cst_22
  pointwise [h]
  simp only [Fin.sum_univ_one, ← EReal.coe_neg, coe_sum, lit1024, div1024, ← EReal.coe_add]
  rfl

theorem v72_at (hx : ∀ i j, x0 (ix2 i j) = (X i j : EReal)) (hd : ∀ i j, val_main_v39 (F := Ideal) x0 x1 x2 x3 (ix2 i j) = (dyR X T G B i j : EReal)) (j) :
    val_main_v72 (F := Ideal) x0 x1 x2 x3 (ix2 0 j) = (dgR X T G B j : EReal) := by
  have h := v18_at hx
  unfold val_main_v72 val_main_v48 val_main_v45 val_main_v44 val_main_v43 val_main_cst_15 val_main_cst_16
  pointwise [h, hd]
  simp only [Fin.sum_univ_one, ← EReal.coe_mul, coe_sum]
  unfold dgR
  simp only [mul_comm]

theorem v73_at (hd : ∀ i j, val_main_v39 (F := Ideal) x0 x1 x2 x3 (ix2 i j) = (dyR X T G B i j : EReal)) (j) :
    val_main_v73 (F := Ideal) x0 x1 x2 x3 (ix2 0 j) = (dbR X T G B j : EReal) := by
  unfold val_main_v73 val_main_v42 val_main_v41 val_main_v40 val_main_cst_13 val_main_cst_14
  pointwise [hd]
  simp only [Fin.sum_univ_one, coe_sum]
  rfl

theorem v71_at (he : ∀ i j, val_main_v25 (F := Ideal) x0 x1 x2 x3 (ix2 i j) = (err (X i) G B (T i) j : EReal)) :
    val_main_v71 (F := Ideal) x0 x1 x2 x3 (ix2 0 0) = (lossR X T G B : EReal) := by
  unfold val_main_v71 val_main_v33 val_main_v32 val_main_v31 val_main_v30 val_main_v29 val_main_v26 val_main_cst_6 val_main_cst_7 val_main_cst_8 val_main_cst_9
  pointwise [he]
  simp only [← EReal.coe_mul, coe_sum, lit1024, div1024, litHalf]
  refine congrArg (fun x : ℝ => (x : EReal)) ?_
  unfold lossR sqR
  rw [Finset.sum_comm, ← Finset.sum_div]
  ring

end Cert.LossRefIdeal.Back

end
-- ==== Proof.LossEq.lean ====
module

public import proofs.«01_k».proof.Defs
public import proofs.«01_k».proof.Proof.Gen.Pre_finite_loss
public import proofs.«01_k».proof.Proof.Gen.Loss
public import proofs.«01_k».proof.Proof.Gen.Loss.Frame
public import proofs.«01_k».proof.Proof.Gen.LossIdeal
public import proofs.«01_k».proof.Proof.Gen.LossRefIdeal
public import proofs.«01_k».proof.Proof.Finite
public import proofs.«01_k».proof.Proof.LossRef
public import Idealize.ShloMosaic.Lib.Claim

/-! The loss and its norm's gradient: kernel and reference end with the same four arrays. -/

@[expose] public section

set_option maxRecDepth 16384
noncomputable section

namespace Cert.LossIdeal.Eq

open Idealize.ShloMosaic Idealize.ShloMosaic.TcCoe Idealize.SL Idealize.SL.Sem
open Cert.LossIdeal Cert.LossIdeal.Arr Cert.LossRefIdeal.Back

variable (m : (ℓ : Loc nD τ sig) → Buf (Elt Ideal) ℓ) (c : Dev nD)

/-- The arguments' real numbers. -/
abbrev rX : Fin 8192 → Fin 1024 → ℝ := fun i j => ((m ((c : Thread nD τ).loc main_arg0) : Vec Ideal S8192x1024 .f32) (ix2 i j)).toReal
abbrev rG : Fin 1024 → ℝ := fun j => ((m ((c : Thread nD τ).loc main_arg1) : Vec Ideal S1024 .f32) (ix1 j)).toReal
abbrev rB : Fin 1024 → ℝ := fun j => ((m ((c : Thread nD τ).loc main_arg2) : Vec Ideal S1024 .f32) (ix1 j)).toReal
abbrev rT : Fin 8192 → Fin 1024 → ℝ := fun i j => ((m ((c : Thread nD τ).loc main_arg3) : Vec Ideal S8192x1024 .f32) (ix2 i j)).toReal

theorem args (h : Cert.Pre_LossIdeal_finite_loss m (hPre_finite_loss := Cert.Pre_finite_loss.Gen.facts)) : Args m c (rX m c) (rT m c) (rG m c) (rB m c) := by
  obtain ⟨h0, h1, h2, h3⟩ := h c
  exact ⟨fun i j => Cert.Fin.real_of_lt (congrFun h0 (ix2 i j)), fun j => Cert.Fin.real_of_lt (congrFun h1 (ix1 j)),
    fun j => Cert.Fin.real_of_lt (congrFun h2 (ix1 j)), fun i j => Cert.Fin.real_of_lt (congrFun h3 (ix2 i j))⟩

abbrev outL : Vec Ideal S1x1 .f32 := fun _ => ((lossR (rX m c) (rT m c) (rG m c) (rB m c) : ℝ) : EReal)
abbrev outS : Vec Ideal S8192x1024 .f32 := fun y => ((dsR (rX m c) (rT m c) (rG m c) (rB m c) (y 0) (y 1) : ℝ) : EReal)
abbrev outG : Vec Ideal S1x1024 .f32 := fun y => ((dgR (rX m c) (rT m c) (rG m c) (rB m c) (y 1) : ℝ) : EReal)
abbrev outB : Vec Ideal S1x1024 .f32 := fun y => ((dbR (rX m c) (rT m c) (rG m c) (rB m c) (y 1) : ℝ) : EReal)

theorem algebraic : Cert.algebraic_LossIdeal_LossRefIdeal_pre_finite_loss (hLossIdeal := Cert.LossIdeal.Gen.facts)
    (hLossRefIdeal := Cert.LossRefIdeal.Gen.facts) (hPre_finite_loss := Cert.Pre_finite_loss.Gen.facts) := by
  intro m g m' g' hpre hargs
  refine ⟨outL m, outS m, outG m, outB m, ?_, ?_⟩
  · refine (θ_run (Cert.LossIdeal.defs (F := Ideal)) _ _).mono (fun r h c => ?_) (Cert.LossIdeal.Value.run_blocks (F := Ideal) m g)
    obtain ⟨e4, e5, e6, e7, hm⟩ := h c
    have a := args m c hpre
    refine ⟨e4.trans ?_, e5.trans ?_, e6.trans ?_, e7.trans ?_, hm⟩
    · funext (y : S1x1.Idx)
      rw [cell y]; exact arr_loss a
    · funext (y : S8192x1024.Idx)
      rw [show y = ix2 (y 0) (y 1) from (ix2_eta y).symm]; exact arr_ds a _ _
    · funext (y : S1x1024.Idx)
      rw [row1 y]; exact arr_dg a _
    · funext (y : S1x1024.Idx)
      rw [row1 y]; exact arr_db a _
  · refine (θ_run (Cert.LossRefIdeal.defs (F := Ideal)) _ _).mono (fun r h c => ?_) (Cert.LossRefIdeal.Value.run (F := Ideal) m' g')
    obtain ⟨e0, e1, e2, e3, hm⟩ := h c
    obtain ⟨a0, a1, a2, a3⟩ := hargs c
    have a := args m c hpre
    have hx := fun i j => (congrFun a0 (ix2 i j)).trans (a.x i j)
    have hg := fun j => (congrFun a1 (ix1 j)).trans (a.g j)
    have hb := fun j => (congrFun a2 (ix1 j)).trans (a.b j)
    have ht := fun i j => (congrFun a3 (ix2 i j)).trans (a.t i j)
    have he := v25_at hx hg hb ht
    have hd := v39_at he
    have hw := v47_at hd hg
    refine ⟨e0.trans ?_, e1.trans ?_, e2.trans ?_, e3.trans ?_, hm⟩
    · refine (Cert.LossRefIdeal.Read.val_main_v71_eq ..).trans ?_
      funext (y : S1x1.Idx)
      rw [cell y]; exact v71_at he
    · refine (Cert.LossRefIdeal.Read.val_main_v70_eq ..).trans ?_
      funext (y : S8192x1024.Idx)
      rw [show y = ix2 (y 0) (y 1) from (ix2_eta y).symm]; exact v70_at hx hw _ _
    · refine (Cert.LossRefIdeal.Read.val_main_v72_eq ..).trans ?_
      funext (y : S1x1024.Idx)
      rw [row1 y]; exact v72_at hx hd _
    · refine (Cert.LossRefIdeal.Read.val_main_v73_eq ..).trans ?_
      funext (y : S1x1024.Idx)
      rw [row1 y]; exact v73_at hd _

theorem frame_kernel : Cert.quiescent_Loss (hLoss := Cert.Loss.Gen.facts) := fun m g _ => Cert.Loss.Gen.frame m g
theorem frame_ideal : Cert.quiescent_LossIdeal (hLossIdeal := Cert.LossIdeal.Gen.facts) := fun m g _ => Cert.LossIdeal.Gen.frame m g
theorem frame_ideal_finite : Cert.quiescent_LossIdeal_pre_finite_loss (hLossIdeal := Cert.LossIdeal.Gen.facts) (hPre_finite_loss := Cert.Pre_finite_loss.Gen.facts) :=
  fun m g _ => Cert.LossIdeal.Gen.frame m g
theorem frame_reference : Cert.quiescent_LossRefIdeal (hLossRefIdeal := Cert.LossRefIdeal.Gen.facts) := fun m g _ =>
  (θ_run (Cert.LossRefIdeal.defs (F := Ideal)) _ _).mono (fun r h => ⟨fun c => (h c).2.2.2.2, sem_eq_zero_of_no_sems (by decide) r.2⟩)
    (Cert.LossRefIdeal.Value.run (F := Ideal) m g)
theorem frame_reference_finite : Cert.quiescent_LossRefIdeal_pre_finite_loss (hLossRefIdeal := Cert.LossRefIdeal.Gen.facts) (hPre_finite_loss := Cert.Pre_finite_loss.Gen.facts) :=
  fun m g _ => frame_reference m g trivial

end Cert.LossIdeal.Eq

end
-- ==== Proof.Norm.Residual.lean ====
module

public import proofs.«01_k».proof.Proof.Norm.Blocks

/-! The derivative through a residual sum and the norm before it, in real numbers. -/

@[expose] public section

noncomputable section

namespace Cert.Norm

open Idealize.ShloMosaic

/-- The residual's factor, as its single-precision literal. -/
def alpha : ℝ := 11863283 / 8388608

theorem litAlpha : Ideal.ofBits .f32 0x3FB504F3#32 = (alpha : EReal) := by simp [Ideal.ofBits, Ideal.ieee, alpha]; norm_num [← EReal.coe_mul]

/-- The derivatives with respect to the norm's input `X`, gain and bias, of the derivative `D` at its output. -/
def inS (X D : Fin 8192 → Fin 1024 → ℝ) (G : Fin 1024 → ℝ) (r : Fin 8192) (j : Fin 1024) : ℝ := back (X r) (fun j => D r j * G j) j
def inG (X D : Fin 8192 → Fin 1024 → ℝ) (j : Fin 1024) : ℝ := ∑ r, D r j * hat (X r) j
def inB (D : Fin 8192 → Fin 1024 → ℝ) (j : Fin 1024) : ℝ := ∑ r, D r j

/-- The derivative at the norm's output: through the product with `W` (its rows the output's columns) and the residual. -/
def through {n : ℕ} (P : Fin 8192 → Fin n → ℝ) (W : Fin 1024 → Fin n → ℝ) (E : Fin 8192 → Fin 1024 → ℝ) (r : Fin 8192) (j : Fin 1024) : ℝ :=
  (∑ f, P r f * W j f) + alpha * E r j

end Cert.Norm

end
-- ==== Proof.DXMidRef.lean ====
module

public import proofs.«01_k».proof.Proof.Gen.DXMidRefIdeal.Run
public import proofs.«01_k».proof.Proof.Gen.DXMidRefIdeal.Read
public import proofs.«01_k».proof.Proof.Norm.Residual

/-! The reference's derivative through the first norm, in real numbers. -/

@[expose] public section

set_option maxRecDepth 16384
noncomputable section

namespace Cert.DXMidRefIdeal.Back

open Cert.DXMidRefIdeal Cert.DXMidRefIdeal.Read Idealize.ShloMosaic Idealize.ShloMosaic.TcCoe Cert.Norm

variable {x0 x5 : Vec Ideal S8192x1024 .f32} {x1 : Vec Ideal S1024 .f32} {x3 : Vec Ideal S1024x4096 .f32} {x4 : Vec Ideal S8192x4096 .bf16}
variable {X E D W' : Fin 8192 → Fin 1024 → ℝ} {G : Fin 1024 → ℝ} {W : Fin 1024 → Fin 4096 → ℝ} {P : Fin 8192 → Fin 4096 → ℝ}

theorem v5_at (hx : ∀ i j, x0 (ix2 i j) = (X i j : EReal)) (i j) : val_main_v5 (F := Ideal) x0 (ix2 i j) = (cen (X i) j : EReal) := by
  unfold val_main_v5 val_main_v4 val_main_v3 val_main_v2 val_main_v1 val_main_v0 val_main_cst val_main_cst_0
  pointwise [hx]
  simp only [coe_sum, lit1024, div1024, ← EReal.coe_sub]
  rfl

theorem v10_at (hx : ∀ i j, x0 (ix2 i j) = (X i j : EReal)) (i j) : val_main_v10 (F := Ideal) x0 (ix2 i j) = (var (X i) : EReal) := by
  have h := v5_at hx
  unfold val_main_v10 val_main_v9 val_main_v8 val_main_v7 val_main_v6 val_main_cst_1 val_main_cst_2
  pointwise [h]
  simp only [← EReal.coe_mul, coe_sum, lit1024, div1024]
  rfl

theorem v12_at (hx : ∀ i j, x0 (ix2 i j) = (X i j : EReal)) (i j) : val_main_v12 (F := Ideal) x0 (ix2 i j) = ((var (X i) + eps : ℝ) : EReal) := by
  have h := v10_at hx
  unfold val_main_v12 val_main_v11 val_main_cst_3
  pointwise [h]
  simp only [litEps, ← EReal.coe_add]

theorem v13_at (hx : ∀ i j, x0 (ix2 i j) = (X i j : EReal)) (i j) : val_main_v13 (F := Ideal) x0 (ix2 i j) = (rstd (X i) : EReal) := by
  have h := v12_at hx
  unfold val_main_v13
  pointwise [h]
  simp only [rsqrt_pos (var_eps_pos _)]
  rfl

theorem v16_at (hx : ∀ i j, x0 (ix2 i j) = (X i j : EReal)) (i j) :
    val_main_v16 (F := Ideal) x0 (ix2 i j) = ((-(1 / 2) * (rstd (X i) / (var (X i) + eps)) : ℝ) : EReal) := by
  have h := v12_at hx
  have h' := v13_at hx
  unfold val_main_v16 val_main_v15 val_main_v14 val_main_cst_4
  pointwise [h, h']
  simp only [litNegHalf, div_real (var_eps_pos _).ne', ← EReal.coe_mul]

theorem v18_at (hx : ∀ i j, x0 (ix2 i j) = (X i j : EReal)) (i j) : val_main_v18 (F := Ideal) x0 (ix2 i j) = (hat (X i) j : EReal) := by
  have h := v5_at hx
  have h' := v13_at hx
  unfold val_main_v18 val_main_v17
  pointwise [h, h']
  simp only [← EReal.coe_mul]
  rfl

theorem v34_at (hw : ∀ i j, x3 (ix2 i j) = (W i j : EReal)) (hp : ∀ i j, x4 (ix2 i j) = (P i j : EReal)) (he : ∀ i j, x5 (ix2 i j) = (E i j : EReal)) (i j) :
    val_main_v34 (F := Ideal) x3 x4 x5 (ix2 i j) = (through P W E i j : EReal) := by
  unfold val_main_v34 val_main_v33 val_main_v30 val_main_v29 val_main_v28 val_main_cst_6
  pointwise [hw, hp, he]
  simp only [litAlpha, ← EReal.coe_mul, coe_sum, ← EReal.coe_add]
  exact congrArg (fun x : ℝ => (x : EReal)) (add_comm _ _)

theorem v42_at (hd : ∀ i j, val_main_v34 (F := Ideal) x3 x4 x5 (ix2 i j) = (D i j : EReal)) (hg : ∀ j, x1 (ix1 j) = (G j : EReal)) (i j) :
    val_main_v42 (F := Ideal) x1 x3 x4 x5 (ix2 i j) = ((D i j * G j : ℝ) : EReal) := by
  unfold val_main_v42 val_main_v41 val_main_v19
  pointwise [hd, hg]
  simp only [← EReal.coe_mul]

theorem v53_at (hx : ∀ i j, x0 (ix2 i j) = (X i j : EReal)) (hw : ∀ i j, val_main_v42 (F := Ideal) x1 x3 x4 x5 (ix2 i j) = (W' i j : EReal)) (i j) :
    val_main_v53 (F := Ideal) x0 x1 x3 x4 x5 (ix2 i j) = (chainQ (X i) (W' i) : EReal) := by
  have h := v5_at hx
  have h' := v16_at hx
  unfold val_main_v53 val_main_v52 val_main_v51 val_main_v50 val_main_v49 val_main_v46 val_main_v45 val_main_v44 val_main_cst_11 val_main_cst_12 val_main_cst_13
  pointwise [h, h', hw]
  simp only [Fin.sum_univ_one, lit1024, ← EReal.coe_mul, coe_sum, div1024]
  rfl

theorem v57_at (hx : ∀ i j, x0 (ix2 i j) = (X i j : EReal)) (hw : ∀ i j, val_main_v42 (F := Ideal) x1 x3 x4 x5 (ix2 i j) = (W' i j : EReal)) (i j) :
    val_main_v57 (F := Ideal) x0 x1 x3 x4 x5 (ix2 i j) = (chainT (X i) (W' i) j : EReal) := by
  have h := v5_at hx
  have h' := v13_at hx
  have h'' := v53_at hx hw
  unfold val_main_v57 val_main_v56 val_main_v55 val_main_v54 val_main_v48 val_main_v47
  pointwise [h, h', h'', hw]
  simp only [← EReal.coe_mul, ← EReal.coe_add]
  rfl

theorem v65_at (hx : ∀ i j, x0 (ix2 i j) = (X i j : EReal)) (hw : ∀ i j, val_main_v42 (F := Ideal) x1 x3 x4 x5 (ix2 i j) = (W' i j : EReal)) (i j) :
    val_main_v65 (F := Ideal) x0 x1 x3 x4 x5 (ix2 i j) = (back (X i) (W' i) j : EReal) := by
  have h := v57_at hx hw
  rw [← chain_eq]
  unfold val_main_v65 val_main_v64 val_main_v63 val_main_v62 val_main_v61 val_main_v60 val_main_v59 val_main_v58 val_main_cst_14 val_main_cst_15 val_main_cst_16
  pointwise [h]
  simp only [Fin.sum_univ_one, ← EReal.coe_neg, coe_sum, lit1024, div1024, ← EReal.coe_add]
  rfl

theorem v66_at (hx : ∀ i j, x0 (ix2 i j) = (X i j : EReal)) (hd : ∀ i j, val_main_v34 (F := Ideal) x3 x4 x5 (ix2 i j) = (D i j : EReal)) (j) :
    val_main_v66 (F := Ideal) x0 x3 x4 x5 (ix2 0 j) = (inG X D j : EReal) := by
  have h := v18_at hx
  unfold val_main_v66 val_main_v43 val_main_v40 val_main_v39 val_main_v38 val_main_cst_9 val_main_cst_10
  pointwise [h, hd]
  simp only [Fin.sum_univ_one, ← EReal.coe_mul, coe_sum]
  unfold inG
  simp only [mul_comm]

theorem v67_at (hd : ∀ i j, val_main_v34 (F := Ideal) x3 x4 x5 (ix2 i j) = (D i j : EReal)) (j) :
    val_main_v67 (F := Ideal) x3 x4 x5 (ix2 0 j) = (inB D j : EReal) := by
  unfold val_main_v67 val_main_v37 val_main_v36 val_main_v35 val_main_cst_7 val_main_cst_8
  pointwise [hd]
  simp only [Fin.sum_univ_one, coe_sum]
  rfl

end Cert.DXMidRefIdeal.Back

end
-- ==== Proof.DXMidArr.lean ====
module

public import proofs.«01_k».proof.Proof.Gen.DXMidIdeal.Value
public import proofs.«01_k».proof.Proof.Norm.Residual
public import Idealize.ShloMosaic.Lib.Pipeline.ValueKit
public import Idealize.ShloMosaic.Lib.Pointwise

/-! The kernel's arrays of the derivative through the first norm, in real numbers. -/

@[expose] public section

set_option maxRecDepth 16384
noncomputable section

namespace Cert.DXMidIdeal.Arr

open Cert.DXMidIdeal Cert.DXMidIdeal.Gen Idealize.ShloMosaic Idealize.ShloMosaic.TcCoe Cert.Norm
open Idealize.ShloMosaic.Pipeline (Dat)

/-! ## One block of rows -/

section tile
variable {v0 : Vec Ideal S256x4096 .bf16} {v1 : Vec Ideal S4096x1024 .bf16} {v4 v5 v10 v26 v34 : Vec Ideal S256x1024 .f32} {v6 : Vec Ideal S1x1024 .f32}
  {v24 v37 : Vec Ideal S256x1 .f32}
variable {P : Fin 256 → Fin 4096 → ℝ} {W : Fin 1024 → Fin 4096 → ℝ} {E S D : Fin 256 → Fin 1024 → ℝ} {G : Fin 1024 → ℝ}

theorem pay6_at (h0 : ∀ i j, v0 (ix2 i j) = (P i j : EReal)) (h1 : ∀ i j, v1 (ix2 i j) = (W j i : EReal)) (h4 : ∀ i j, v4 (ix2 i j) = (E i j : EReal)) (i j) :
    k0_pay6 (F := Ideal) v0 v1 v4 (ix2 i j) = (((∑ f, P i f * W j f) + alpha * E i j : ℝ) : EReal) := by
  unfold k0_pay6
  pointwise [h0, h1, h4]
  simp only [litAlpha, ← EReal.coe_mul, coe_sum, ← EReal.coe_add]

theorem pay7_at (hs : ∀ i j, v5 (ix2 i j) = (S i j : EReal)) (i j) : k0_pay7 (F := Ideal) v5 (ix2 i j) = (cen (S i) j : EReal) := by
  pointwise [k0_pay7, hs]
  simp only [coe_sum, lit1024, div1024, ← EReal.coe_sub]
  rfl

theorem pay8_at (hs : ∀ i j, v5 (ix2 i j) = (S i j : EReal)) (i j) : k0_pay8 (F := Ideal) v5 (ix2 i j) = (rstd (S i) : EReal) := by
  have h := pay7_at hs
  unfold k0_pay8
  pointwise [h]
  simp only [← EReal.coe_mul, coe_sum, lit1024, div1024, litEps, ← EReal.coe_add]
  exact rsqrt_pos (var_eps_pos (S i))

theorem pay9_at (hs : ∀ i j, v5 (ix2 i j) = (S i j : EReal)) (i j) : k0_pay9 (F := Ideal) v5 (ix2 i j) = (hat (S i) j : EReal) := by
  have h := pay7_at hs
  have h' := pay8_at hs
  unfold k0_pay9
  pointwise [h, h']
  simp only [← EReal.coe_mul]
  rfl

theorem pay10_at (hd : ∀ i j, k0_pay6 (F := Ideal) v0 v1 v4 (ix2 i j) = (D i j : EReal)) (hg : ∀ i j, v6 (ix2 i j) = (G j : EReal)) (i j) :
    k0_pay10 (F := Ideal) v0 v1 v4 v6 (ix2 i j) = ((D i j * G j : ℝ) : EReal) := by
  unfold k0_pay10
  pointwise [hd, hg]
  simp only [← EReal.coe_mul]

theorem pay11_at (hd : ∀ i j, k0_pay6 (F := Ideal) v0 v1 v4 (ix2 i j) = (D i j : EReal)) (hg : ∀ i j, v6 (ix2 i j) = (G j : EReal)) (i j) :
    k0_pay11 (F := Ideal) v0 v1 v4 v6 (ix2 i j) = ((D i j * G j - mean (fun j => D i j * G j) : ℝ) : EReal) := by
  have h := pay10_at hd hg
  unfold k0_pay11
  pointwise [h]
  simp only [coe_sum, lit1024, div1024, ← EReal.coe_sub]
  rfl

theorem pay12_at (hd : ∀ i j, k0_pay6 (F := Ideal) v0 v1 v4 (ix2 i j) = (D i j : EReal)) (hg : ∀ i j, v6 (ix2 i j) = (G j : EReal))
    (hs : ∀ i j, v5 (ix2 i j) = (S i j : EReal)) (i j) :
    k0_pay12 (F := Ideal) v0 v1 v4 v5 v6 (ix2 i j) = ((∑ k, D i k * G k * hat (S i) k : ℝ) : EReal) := by
  have h := pay10_at hd hg
  have h' := pay9_at hs
  unfold k0_pay12
  pointwise [h, h']
  simp only [← EReal.coe_mul, coe_sum]

theorem pay1_at (hd : ∀ i j, k0_pay6 (F := Ideal) v0 v1 v4 (ix2 i j) = (D i j : EReal)) (hg : ∀ i j, v6 (ix2 i j) = (G j : EReal))
    (hs : ∀ i j, v5 (ix2 i j) = (S i j : EReal)) (i j) :
    k0_pay1 (F := Ideal) (k0_pay8 v5) (k0_pay9 v5) (k0_pay11 v0 v1 v4 v6) (k0_pay12 v0 v1 v4 v5 v6) (ix2 i j) = (back (S i) (fun j => D i j * G j) j : EReal) := by
  have h8 := pay8_at hs
  have h9 := pay9_at hs
  have h11 := pay11_at hd hg
  have h12 := pay12_at hd hg hs
  unfold k0_pay1
  pointwise [h8, h9, h11, h12]
  simp only [lit1024, div1024, ← EReal.coe_mul, ← EReal.coe_sub]
  rfl

theorem pay2_at (hd : ∀ i j, v10 (ix2 i j) = (D i j : EReal)) (hx : ∀ i j, v26 (ix2 i j) = (hat (S i) j : EReal)) (i j) :
    k0_pay2 (F := Ideal) v10 v26 (ix2 i j) = ((∑ r, D r j * hat (S r) j : ℝ) : EReal) := by
  unfold k0_pay2
  pointwise [hd, hx]
  simp only [← EReal.coe_mul, coe_sum]

theorem pay3_at (hd : ∀ i j, v10 (ix2 i j) = (D i j : EReal)) (i j) : k0_pay3 (F := Ideal) v10 (ix2 i j) = ((∑ r, D r j : ℝ) : EReal) := by
  unfold k0_pay3
  pointwise [hd]
  simp only [coe_sum]

theorem pay4_at (v10 v26 : Vec Ideal S256x1024 .f32) (a : Vec Ideal S1x1024 .f32) (i j) :
    k0_pay4 (F := Ideal) v10 v26 a (ix2 i j) = a (ix2 i j) + k0_pay2 (F := Ideal) v10 v26 (ix2 i j) := by
  unfold k0_pay4; pointwise
theorem pay5_at (v10 : Vec Ideal S256x1024 .f32) (a : Vec Ideal S1x1024 .f32) (i j) :
    k0_pay5 (F := Ideal) v10 a (ix2 i j) = a (ix2 i j) + k0_pay3 (F := Ideal) v10 (ix2 i j) := by
  unfold k0_pay5; pointwise
end tile

/-! ## The blocks -/

variable {m : (ℓ : Loc nD τ sig) → Buf (Elt Ideal) ℓ} {c : Dev nD}
variable {X E : Fin 8192 → Fin 1024 → ℝ} {G : Fin 1024 → ℝ} {W : Fin 1024 → Fin 4096 → ℝ} {P : Fin 8192 → Fin 4096 → ℝ}

/-- The arguments in real numbers; the bias is not read. -/
structure Args (m : (ℓ : Loc nD τ sig) → Buf (Elt Ideal) ℓ) (c : Dev nD) (X E : Fin 8192 → Fin 1024 → ℝ) (G : Fin 1024 → ℝ)
    (W : Fin 1024 → Fin 4096 → ℝ) (P : Fin 8192 → Fin 4096 → ℝ) : Prop where
  x : ∀ i j, (m ((c : Thread nD τ).loc main_arg0) : Vec Ideal S8192x1024 .f32) (ix2 i j) = (X i j : EReal)
  g : ∀ j, (m ((c : Thread nD τ).loc main_arg1) : Vec Ideal S1024 .f32) (ix1 j) = (G j : EReal)
  w : ∀ i j, (m ((c : Thread nD τ).loc main_arg3) : Vec Ideal S1024x4096 .f32) (ix2 i j) = (W i j : EReal)
  p : ∀ i j, (m ((c : Thread nD τ).loc main_arg4) : Vec Ideal S8192x4096 .bf16) (ix2 i j) = (P i j : EReal)
  e : ∀ i j, (m ((c : Thread nD τ).loc main_arg5) : Vec Ideal S8192x1024 .f32) (ix2 i j) = (E i j : EReal)

theorem places : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] :=
  (by decide +kernel : ∀ t : Fin grid0.N, _)

theorem lt32 (t : Fin cfg0.N) : t.val < 32 := Nat.lt_of_lt_of_eq t.isLt N_0

/-- Row `i` of block `t`. -/
def row (t : Fin cfg0.N) (i : Fin 256) : Fin 8192 := ⟨t.val * 256 + i.val, by have := lt32 t; omega⟩

theorem blk_p (h : Args m c X E G W P) (t : Fin cfg0.N) (i : Fin 256) (j : Fin 4096) : (iblk m c 0 t : Vec Ideal S256x4096 .bf16) (ix2 i j) = (P (row t i) j : EReal) := by
  refine Eq.trans ?_ (h.p _ _)
  unfold row
  blk_point [iblk, V, places t]

theorem blk_w (h : Args m c X E G W P) (t : Fin cfg0.N) (i : Fin 4096) (j : Fin 1024) : (iblk m c 1 t : Vec Ideal S4096x1024 .bf16) (ix2 i j) = (W j i : EReal) := by
  refine Eq.trans ?_ (h.w _ _)
  blk_point [iblk, V, places t]

theorem blk_e (h : Args m c X E G W P) (t : Fin cfg0.N) (i : Fin 256) (j : Fin 1024) : (iblk m c 2 t : Vec Ideal S256x1024 .f32) (ix2 i j) = (E (row t i) j : EReal) := by
  refine Eq.trans ?_ (h.e _ _)
  unfold row
  blk_point [iblk, V, places t]

theorem blk_x (h : Args m c X E G W P) (t : Fin cfg0.N) (i : Fin 256) (j : Fin 1024) : (iblk m c 3 t : Vec Ideal S256x1024 .f32) (ix2 i j) = (X (row t i) j : EReal) := by
  refine Eq.trans ?_ (h.x _ _)
  unfold row
  blk_point [iblk, V, places t]

theorem blk_g (h : Args m c X E G W P) (t : Fin cfg0.N) (i : Fin 1) (j : Fin 1024) : (iblk m c 4 t : Vec Ideal S1x1024 .f32) (ix2 i j) = (G j : EReal) := by
  refine Eq.trans ?_ (h.g _)
  blk_point [iblk, V, places t]

theorem blk_d (h : Args m c X E G W P) (t : Fin cfg0.N) (i : Fin 256) (j : Fin 1024) :
    k0_pay6 (F := Ideal) (iblk m c 0 t) (iblk m c 1 t) (iblk m c 2 t) (ix2 i j) = (through P W E (row t i) j : EReal) :=
  pay6_at (blk_p h t) (blk_w h t) (blk_e h t) i j

theorem pt_ds (h : Args m c X E G W P) (t : Fin cfg0.N) (i : Fin 256) (j : Fin 1024) :
    (outsAt0 m c t.val t.isLt).1 (ix2 i j) = (inS X (through P W E) G (row t i) j : EReal) := by
  by_cases h0 : t.val = 0
  · rw [outsAt0_A m c t (by omega) (by omega) (by omega) (by omega)]; frame_out
    exact pay1_at (blk_d h t) (blk_g h t) (blk_x h t) i j
  · have := lt32 t
    rw [outsAt0_B m c t (by omega) (by omega) (by omega) (by omega)]; frame_out
    exact pay1_at (blk_d h t) (blk_g h t) (blk_x h t) i j

/-- What the first point leaves in the two carried rows. -/
theorem first (h : Args m c X E G W P) (t : Fin cfg0.N) (h0 : t.val = 0) (j : Fin 1024) :
    (outsAt0 m c t.val t.isLt).2.1 (ix2 0 j) = ((∑ i, through P W E (row t i) j * hat (X (row t i)) j : ℝ) : EReal)
    ∧ (outsAt0 m c t.val t.isLt).2.2 (ix2 0 j) = ((∑ i, through P W E (row t i) j : ℝ) : EReal) := by
  rw [outsAt0_A m c t (by omega) (by omega) (by omega) (by omega)]; frame_out
  exact ⟨pay2_at (blk_d h t) (pay9_at (blk_x h t)) 0 j, pay3_at (blk_d h t) 0 j⟩

/-- What each later point adds to them. -/
theorem later (h : Args m c X E G W P) (t : Fin cfg0.N) (h0 : 1 ≤ t.val) (j : Fin 1024) :
    (outsAt0 m c t.val t.isLt).2.1 (ix2 0 j) = (outsAt0 m c (t.val - 1) (by have := t.isLt; omega)).2.1 (ix2 0 j) + ((∑ i, through P W E (row t i) j * hat (X (row t i)) j : ℝ) : EReal)
    ∧ (outsAt0 m c t.val t.isLt).2.2 (ix2 0 j) = (outsAt0 m c (t.val - 1) (by have := t.isLt; omega)).2.2 (ix2 0 j) + ((∑ i, through P W E (row t i) j : ℝ) : EReal) := by
  have := lt32 t
  rw [outsAt0_B m c t (by omega) (by omega) (by omega) (by omega)]; frame_out
  rw [pay4_at, pay5_at]
  exact ⟨congrArg _ (pay2_at (blk_d h t) (pay9_at (blk_x h t)) 0 j), congrArg _ (pay3_at (blk_d h t) 0 j)⟩

theorem row_at (k : Fin cfg0.N) (i : Fin 256) : (row k i).val = k.val * 256 + i.val := rfl

/-- The last point. -/
def last : Fin cfg0.N := ⟨31, by show 31 < grid0.N; rw [N_0]; decide⟩

theorem last_g (h : Args m c X E G W P) (j : Fin 1024) : (outsAt0 m c last.val last.isLt).2.1 (ix2 0 j) = (inG X (through P W E) j : EReal) :=
  carried_rows (congrArg (· * 256) N_0) (fun n hn => (outsAt0 m c n hn).2.1 (ix2 0 j)) (fun r => through P W E r j * hat (X r) j) row row_at
    (fun h0 => (first h ⟨0, h0⟩ rfl j).1) (fun n hn => (later h ⟨n + 1, hn⟩ (Nat.le_add_left 1 n) j).1) 31 last.isLt N_0.symm
theorem last_b (h : Args m c X E G W P) (j : Fin 1024) : (outsAt0 m c last.val last.isLt).2.2 (ix2 0 j) = (inB (through P W E) j : EReal) :=
  carried_rows (congrArg (· * 256) N_0) (fun n hn => (outsAt0 m c n hn).2.2 (ix2 0 j)) (fun r => through P W E r j) row row_at
    (fun h0 => (first h ⟨0, h0⟩ rfl j).2) (fun n hn => (later h ⟨n + 1, hn⟩ (Nat.le_add_left 1 n) j).2) 31 last.isLt N_0.symm

/-! ## The result arrays -/

theorem at_ds (t : Fin cfg0.N) (y : S256x1024.Idx) : (((cfg0.win 5).blk t).view.emb y : S8192x1024.Idx) = ix2 (row t (y 0)) (y 1) := by
  unfold row
  blk_ext [places t]

theorem fin1 (a b : Fin 1) : a = b := Subsingleton.elim a b
theorem row1 (y : S1x1024.Idx) : y = ix2 0 (y 1) := (ix2_eta y).symm.trans (congrArg (fun a => ix2 a (y 1)) (fin1 (y 0) 0))

theorem arr_ds (h : Args m c X E G W P) (i : Fin 8192) (j : Fin 1024) :
    ((dats m 0 c).arrAt 5 cfg0.N : Vec Ideal S8192x1024 .f32) (ix2 i j) = (inS X (through P W E) G i j : EReal) := by
  refine congrFun ((dats m 0 c).arrAt_eq_of_covers 5 (fun y : S8192x1024.Idx => ((inS X (through P W E) G (y 0) (y 1) : ℝ) : EReal)) (by decide +kernel) fun t hf y => ?_) (ix2 i j)
  refine Eq.trans ?_ (congrArg (fun y : S8192x1024.Idx => ((inS X (through P W E) G (y 0) (y 1) : ℝ) : EReal)) (at_ds t y).symm)
  blk_simp
  rw [after0_5, show y = ix2 (y 0) (y 1) from (ix2_eta y).symm]
  exact pt_ds h t (y 0) (y 1)

theorem arr_g (h : Args m c X E G W P) (j : Fin 1024) : ((dats m 0 c).arrAt 6 cfg0.N : Vec Ideal S1x1024 .f32) (ix2 0 j) = (inG X (through P W E) j : EReal) := by
  refine congrFun ((dats m 0 c).arrAt_eq_of_after_last 6 last (by decide +kernel) (fun y : S1x1024.Idx => ((inG X (through P W E) (y 1) : ℝ) : EReal)) fun (y : S1x1024.Idx) => ?_) (ix2 0 j)
  blk_simp
  rw [after0_6, row1 y]
  exact last_g h (y 1)

theorem arr_b (h : Args m c X E G W P) (j : Fin 1024) : ((dats m 0 c).arrAt 7 cfg0.N : Vec Ideal S1x1024 .f32) (ix2 0 j) = (inB (through P W E) j : EReal) := by
  refine congrFun ((dats m 0 c).arrAt_eq_of_after_last 7 last (by decide +kernel) (fun y : S1x1024.Idx => ((inB (through P W E) (y 1) : ℝ) : EReal)) fun (y : S1x1024.Idx) => ?_) (ix2 0 j)
  blk_simp
  rw [after0_7, row1 y]
  exact last_b h (y 1)

end Cert.DXMidIdeal.Arr

end
-- ==== Proof.DXMidEq.lean ====
module

public import proofs.«01_k».proof.Defs
public import proofs.«01_k».proof.Proof.Gen.Pre_finite_dx1
public import proofs.«01_k».proof.Proof.Gen.DXMid
public import proofs.«01_k».proof.Proof.Gen.DXMid.Frame
public import proofs.«01_k».proof.Proof.Gen.DXMidIdeal
public import proofs.«01_k».proof.Proof.Gen.DXMidRefIdeal
public import proofs.«01_k».proof.Proof.Finite
public import proofs.«01_k».proof.Proof.DXMidRef
public import proofs.«01_k».proof.Proof.DXMidArr
public import Idealize.ShloMosaic.Lib.Claim

/-! The derivative through the first norm: kernel and reference end with the same three arrays. -/

@[expose] public section

set_option maxRecDepth 16384
noncomputable section

namespace Cert.DXMidIdeal.Eq

open Idealize.ShloMosaic Idealize.ShloMosaic.TcCoe Idealize.SL Idealize.SL.Sem
open Cert.Norm Cert.DXMidIdeal Cert.DXMidIdeal.Arr Cert.DXMidRefIdeal.Back

variable (m : (ℓ : Loc nD τ sig) → Buf (Elt Ideal) ℓ) (c : Dev nD)

/-- The arguments' real numbers. -/
abbrev rX : Fin 8192 → Fin 1024 → ℝ := fun i j => ((m ((c : Thread nD τ).loc main_arg0) : Vec Ideal S8192x1024 .f32) (ix2 i j)).toReal
abbrev rG : Fin 1024 → ℝ := fun j => ((m ((c : Thread nD τ).loc main_arg1) : Vec Ideal S1024 .f32) (ix1 j)).toReal
abbrev rW : Fin 1024 → Fin 4096 → ℝ := fun i j => ((m ((c : Thread nD τ).loc main_arg3) : Vec Ideal S1024x4096 .f32) (ix2 i j)).toReal
abbrev rP : Fin 8192 → Fin 4096 → ℝ := fun i j => ((m ((c : Thread nD τ).loc main_arg4) : Vec Ideal S8192x4096 .bf16) (ix2 i j)).toReal
abbrev rE : Fin 8192 → Fin 1024 → ℝ := fun i j => ((m ((c : Thread nD τ).loc main_arg5) : Vec Ideal S8192x1024 .f32) (ix2 i j)).toReal

theorem args (h : Cert.Pre_DXMidIdeal_finite_dx1 m (hPre_finite_dx1 := Cert.Pre_finite_dx1.Gen.facts)) : Args m c (rX m c) (rE m c) (rG m c) (rW m c) (rP m c) := by
  obtain ⟨h0, h1, h3, h4, h5⟩ := h c
  exact ⟨fun i j => Cert.Fin.real_of_lt (congrFun h0 (ix2 i j)), fun j => Cert.Fin.real_of_lt (congrFun h1 (ix1 j)),
    fun i j => Cert.Fin.real_of_lt (congrFun h3 (ix2 i j)), fun i j => Cert.Fin.real_of_lt (congrFun h4 (ix2 i j)), fun i j => Cert.Fin.real_of_lt (congrFun h5 (ix2 i j))⟩

abbrev D : Fin 8192 → Fin 1024 → ℝ := through (rP m c) (rW m c) (rE m c)
abbrev outS : Vec Ideal S8192x1024 .f32 := fun y => ((inS (rX m c) (D m c) (rG m c) (y 0) (y 1) : ℝ) : EReal)
abbrev outG : Vec Ideal S1x1024 .f32 := fun y => ((inG (rX m c) (D m c) (y 1) : ℝ) : EReal)
abbrev outB : Vec Ideal S1x1024 .f32 := fun y => ((inB (D m c) (y 1) : ℝ) : EReal)

theorem algebraic : Cert.algebraic_DXMidIdeal_DXMidRefIdeal_pre_finite_dx1 (hDXMidIdeal := Cert.DXMidIdeal.Gen.facts)
    (hDXMidRefIdeal := Cert.DXMidRefIdeal.Gen.facts) (hPre_finite_dx1 := Cert.Pre_finite_dx1.Gen.facts) := by
  intro m g m' g' hpre hargs
  refine ⟨outS m, outG m, outB m, ?_, ?_⟩
  · refine (θ_run (Cert.DXMidIdeal.defs (F := Ideal)) _ _).mono (fun r h c => ?_) (Cert.DXMidIdeal.Value.run_blocks (F := Ideal) m g)
    obtain ⟨e5, e6, e7, hm⟩ := h c
    have a := args m c hpre
    refine ⟨e5.trans ?_, e6.trans ?_, e7.trans ?_, hm⟩
    · funext (y : S8192x1024.Idx)
      rw [show y = ix2 (y 0) (y 1) from (ix2_eta y).symm]; exact arr_ds a _ _
    · funext (y : S1x1024.Idx)
      rw [row1 y]; exact arr_g a _
    · funext (y : S1x1024.Idx)
      rw [row1 y]; exact arr_b a _
  · refine (θ_run (Cert.DXMidRefIdeal.defs (F := Ideal)) _ _).mono (fun r h c => ?_) (Cert.DXMidRefIdeal.Value.run (F := Ideal) m' g')
    obtain ⟨e0, e1, e2, hm⟩ := h c
    obtain ⟨a0, a1, a2, a3, a4, a5⟩ := hargs c
    have a := args m c hpre
    have hx := fun i j => (congrFun a0 (ix2 i j)).trans (a.x i j)
    have hg := fun j => (congrFun a1 (ix1 j)).trans (a.g j)
    have hw := fun i j => (congrFun a3 (ix2 i j)).trans (a.w i j)
    have hp := fun i j => (congrFun a4 (ix2 i j)).trans (a.p i j)
    have he := fun i j => (congrFun a5 (ix2 i j)).trans (a.e i j)
    have hd := v34_at hw hp he
    refine ⟨e0.trans ?_, e1.trans ?_, e2.trans ?_, hm⟩
    · refine (Cert.DXMidRefIdeal.Read.val_main_v65_eq ..).trans ?_
      funext (y : S8192x1024.Idx)
      rw [show y = ix2 (y 0) (y 1) from (ix2_eta y).symm]; exact v65_at hx (v42_at hd hg) _ _
    · refine (Cert.DXMidRefIdeal.Read.val_main_v66_eq ..).trans ?_
      funext (y : S1x1024.Idx)
      rw [row1 y]; exact v66_at hx hd _
    · refine (Cert.DXMidRefIdeal.Read.val_main_v67_eq ..).trans ?_
      funext (y : S1x1024.Idx)
      rw [row1 y]; exact v67_at hd _

theorem frame_kernel : Cert.quiescent_DXMid (hDXMid := Cert.DXMid.Gen.facts) := fun m g _ => Cert.DXMid.Gen.frame m g
theorem frame_ideal : Cert.quiescent_DXMidIdeal (hDXMidIdeal := Cert.DXMidIdeal.Gen.facts) := fun m g _ => Cert.DXMidIdeal.Gen.frame m g
theorem frame_ideal_finite : Cert.quiescent_DXMidIdeal_pre_finite_dx1 (hDXMidIdeal := Cert.DXMidIdeal.Gen.facts) (hPre_finite_dx1 := Cert.Pre_finite_dx1.Gen.facts) :=
  fun m g _ => Cert.DXMidIdeal.Gen.frame m g
theorem frame_reference : Cert.quiescent_DXMidRefIdeal (hDXMidRefIdeal := Cert.DXMidRefIdeal.Gen.facts) := fun m g _ =>
  (θ_run (Cert.DXMidRefIdeal.defs (F := Ideal)) _ _).mono (fun r h => ⟨fun c => (h c).2.2.2, sem_eq_zero_of_no_sems (by decide) r.2⟩)
    (Cert.DXMidRefIdeal.Value.run (F := Ideal) m g)
theorem frame_reference_finite : Cert.quiescent_DXMidRefIdeal_pre_finite_dx1 (hDXMidRefIdeal := Cert.DXMidRefIdeal.Gen.facts) (hPre_finite_dx1 := Cert.Pre_finite_dx1.Gen.facts) :=
  fun m g _ => frame_reference m g trivial

end Cert.DXMidIdeal.Eq

end
-- ==== Proof.DXInArr.lean ====
module

public import proofs.«01_k».proof.Proof.Gen.DXInIdeal.Value
public import proofs.«01_k».proof.Proof.Norm.Residual
public import Idealize.ShloMosaic.Lib.Pipeline.ValueKit
public import Idealize.ShloMosaic.Lib.Pointwise

/-! The kernel's arrays of the derivative through the second norm, in real numbers. -/

@[expose] public section

set_option maxRecDepth 16384
noncomputable section

namespace Cert.DXInIdeal.Arr

open Cert.DXInIdeal Cert.DXInIdeal.Gen Idealize.ShloMosaic Idealize.ShloMosaic.TcCoe Cert.Norm
open Idealize.ShloMosaic.Pipeline (Dat)

/-! ## One block of rows -/

/-- Column `o + f` of a matrix with 2560 columns. -/
def col {n : ℕ} (o : ℕ) (h : o + n ≤ 2560) (f : Fin n) : Fin 2560 := ⟨o + f.val, by omega⟩

/-- The derivative at the norm's output: through the products of four pieces with their columns of `W`, and the residual. -/
def parts {r : ℕ} (Q K V : Fin r → Fin 512 → ℝ) (R : Fin r → Fin 1024 → ℝ) (W : Fin 1024 → Fin 2560 → ℝ) (E : Fin r → Fin 1024 → ℝ) (i : Fin r) (j : Fin 1024) : ℝ :=
  (∑ f, Q i f * W j (col 0 (by omega) f)) + (∑ f, K i f * W j (col 512 (by omega) f)) + (∑ f, V i f * W j (col 1024 (by omega) f))
    + (∑ f, R i f * W j (col 1536 (by omega) f)) + alpha * E i j

section tile
variable {v0 v4 v9 : Vec Ideal S256x512 .bf16} {v1 v5 v10 : Vec Ideal S512x1024 .bf16} {v14 : Vec Ideal S256x1024 .bf16} {v15 : Vec Ideal S1024x1024 .bf16}
  {v19 v20 v25 : Vec Ideal S256x1024 .f32} {v22 : Vec Ideal S1x1024 .f32}
variable {Q K V' : Fin 256 → Fin 512 → ℝ} {R E S D : Fin 256 → Fin 1024 → ℝ} {W : Fin 1024 → Fin 2560 → ℝ} {G : Fin 1024 → ℝ}

theorem pay4_at (h0 : ∀ i j, v0 (ix2 i j) = (Q i j : EReal)) (h1 : ∀ i j, v1 (ix2 i j) = (W j (col 0 (by omega) i) : EReal))
    (h4 : ∀ i j, v4 (ix2 i j) = (K i j : EReal)) (h5 : ∀ i j, v5 (ix2 i j) = (W j (col 512 (by omega) i) : EReal))
    (h9 : ∀ i j, v9 (ix2 i j) = (V' i j : EReal)) (h10 : ∀ i j, v10 (ix2 i j) = (W j (col 1024 (by omega) i) : EReal))
    (h14 : ∀ i j, v14 (ix2 i j) = (R i j : EReal)) (h15 : ∀ i j, v15 (ix2 i j) = (W j (col 1536 (by omega) i) : EReal))
    (h19 : ∀ i j, v19 (ix2 i j) = (E i j : EReal)) (i j) :
    k0_pay4 (F := Ideal) v0 v1 v4 v5 v9 v10 v14 v15 v19 (ix2 i j) = (parts Q K V' R W E i j : EReal) := by
  unfold k0_pay4
  pointwise [h0, h1, h4, h5, h9, h10, h14, h15, h19]
  simp only [litAlpha, ← EReal.coe_mul, coe_sum, ← EReal.coe_add]
  rfl

theorem pay7_at (hs : ∀ i j, v20 (ix2 i j) = (S i j : EReal)) (i j) : k0_pay7 (F := Ideal) v20 (k0_pay5 v20) k0_pay6 (ix2 i j) = (cen (S i) j : EReal) := by
  pointwise [k0_pay7, k0_pay5, k0_pay6, hs]
  simp only [coe_sum, lit1024, div1024, ← EReal.coe_sub]
  rfl

theorem pay8_at (hs : ∀ i j, v20 (ix2 i j) = (S i j : EReal)) (i j) : k0_pay8 (F := Ideal) v20 (k0_pay5 v20) k0_pay6 (ix2 i j) = (rstd (S i) : EReal) := by
  have h := pay7_at hs
  unfold k0_pay8
  pointwise [h]
  simp only [← EReal.coe_mul, coe_sum, lit1024, div1024, litEps, ← EReal.coe_add]
  exact rsqrt_pos (var_eps_pos (S i))

theorem pay9_at (hs : ∀ i j, v20 (ix2 i j) = (S i j : EReal)) (i j) : k0_pay9 (F := Ideal) v20 (k0_pay5 v20) k0_pay6 (ix2 i j) = (hat (S i) j : EReal) := by
  have h := pay7_at hs
  have h' := pay8_at hs
  unfold k0_pay9
  pointwise [h, h']
  simp only [← EReal.coe_mul]
  rfl

theorem pay3_at (hg : ∀ i j, v22 (ix2 i j) = (G j : EReal)) (i j) : k0_pay3 (F := Ideal) v22 (ix2 i j) = (G j : EReal) := by
  unfold k0_pay3; pointwise [hg]

theorem pay10_at (hs : ∀ i j, v20 (ix2 i j) = (S i j : EReal)) (hg : ∀ i j, v22 (ix2 i j) = (G j : EReal)) (hd : ∀ i j, v25 (ix2 i j) = (D i j : EReal)) (i j) :
    k0_pay10 (F := Ideal) v20 v22 v25 (k0_pay5 v20) k0_pay6 (ix2 i j) = (back (S i) (fun j => D i j * G j) j : EReal) := by
  have h8 := pay8_at hs
  have h9 := pay9_at hs
  unfold k0_pay10
  pointwise [hg, hd, h8, h9]
  simp only [← EReal.coe_mul, coe_sum, lit1024, div1024, ← EReal.coe_sub]
  rfl

theorem pay11_at (hs : ∀ i j, v20 (ix2 i j) = (S i j : EReal)) (hd : ∀ i j, v25 (ix2 i j) = (D i j : EReal)) (i j) :
    k0_pay11 (F := Ideal) v20 v25 (k0_pay5 v20) k0_pay6 (ix2 i j) = ((∑ r, D r j * hat (S r) j : ℝ) : EReal) := by
  have h9 := pay9_at hs
  unfold k0_pay11
  pointwise [hd, h9]
  simp only [← EReal.coe_mul, coe_sum]

theorem pay12_at (hd : ∀ i j, v25 (ix2 i j) = (D i j : EReal)) (i j) : k0_pay12 (F := Ideal) v25 (ix2 i j) = ((∑ r, D r j : ℝ) : EReal) := by
  unfold k0_pay12
  pointwise [hd]
  simp only [coe_sum]

theorem pay1_at (v a : Vec Ideal S1x1024 .f32) (i j) : k0_pay1 (F := Ideal) v a (ix2 i j) = a (ix2 i j) + v (ix2 i j) := by
  unfold k0_pay1; pointwise
theorem pay2_at (v a : Vec Ideal S1x1024 .f32) (i j) : k0_pay2 (F := Ideal) v a (ix2 i j) = a (ix2 i j) + v (ix2 i j) := by
  unfold k0_pay2; pointwise
end tile

/-! ## The blocks -/

variable {m : (ℓ : Loc nD τ sig) → Buf (Elt Ideal) ℓ} {c : Dev nD}
variable {X E R : Fin 8192 → Fin 1024 → ℝ} {G : Fin 1024 → ℝ} {W : Fin 1024 → Fin 2560 → ℝ} {Q K V' : Fin 8192 → Fin 512 → ℝ}

/-- The arguments in real numbers; the bias is not read. -/
structure Args (m : (ℓ : Loc nD τ sig) → Buf (Elt Ideal) ℓ) (c : Dev nD) (X : Fin 8192 → Fin 1024 → ℝ) (G : Fin 1024 → ℝ)
    (W : Fin 1024 → Fin 2560 → ℝ) (Q K V' : Fin 8192 → Fin 512 → ℝ) (R E : Fin 8192 → Fin 1024 → ℝ) : Prop where
  x : ∀ i j, (m ((c : Thread nD τ).loc main_arg0) : Vec Ideal S8192x1024 .f32) (ix2 i j) = (X i j : EReal)
  g : ∀ j, (m ((c : Thread nD τ).loc main_arg1) : Vec Ideal S1024 .f32) (ix1 j) = (G j : EReal)
  w : ∀ i j, (m ((c : Thread nD τ).loc main_arg3) : Vec Ideal S1024x2560 .f32) (ix2 i j) = (W i j : EReal)
  q : ∀ i j, (m ((c : Thread nD τ).loc main_arg4) : Vec Ideal S8192x512 .bf16) (ix2 i j) = (Q i j : EReal)
  k : ∀ i j, (m ((c : Thread nD τ).loc main_arg5) : Vec Ideal S8192x512 .bf16) (ix2 i j) = (K i j : EReal)
  v : ∀ i j, (m ((c : Thread nD τ).loc main_arg6) : Vec Ideal S8192x512 .bf16) (ix2 i j) = (V' i j : EReal)
  r : ∀ i j, (m ((c : Thread nD τ).loc main_arg7) : Vec Ideal S8192x1024 .bf16) (ix2 i j) = (R i j : EReal)
  e : ∀ i j, (m ((c : Thread nD τ).loc main_arg8) : Vec Ideal S8192x1024 .f32) (ix2 i j) = (E i j : EReal)

theorem places : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![t.val, 0] :=
  (by decide +kernel : ∀ t : Fin grid0.N, _)

theorem lt32 (t : Fin cfg0.N) : t.val < 32 := Nat.lt_of_lt_of_eq t.isLt N_0

/-- Row `i` of block `t`. -/
def row (t : Fin cfg0.N) (i : Fin 256) : Fin 8192 := ⟨t.val * 256 + i.val, by have := lt32 t; omega⟩

theorem blk_q (h : Args m c X G W Q K V' R E) (t : Fin cfg0.N) (i : Fin 256) (j : Fin 512) : (iblk m c 0 t : Vec Ideal S256x512 .bf16) (ix2 i j) = (Q (row t i) j : EReal) := by
  refine Eq.trans ?_ (h.q _ _)
  unfold row
  blk_point [iblk, V, places t]

theorem blk_k (h : Args m c X G W Q K V' R E) (t : Fin cfg0.N) (i : Fin 256) (j : Fin 512) : (iblk m c 1 t : Vec Ideal S256x512 .bf16) (ix2 i j) = (K (row t i) j : EReal) := by
  refine Eq.trans ?_ (h.k _ _)
  unfold row
  blk_point [iblk, V, places t]

theorem blk_v (h : Args m c X G W Q K V' R E) (t : Fin cfg0.N) (i : Fin 256) (j : Fin 512) : (iblk m c 2 t : Vec Ideal S256x512 .bf16) (ix2 i j) = (V' (row t i) j : EReal) := by
  refine Eq.trans ?_ (h.v _ _)
  unfold row
  blk_point [iblk, V, places t]

theorem blk_r (h : Args m c X G W Q K V' R E) (t : Fin cfg0.N) (i : Fin 256) (j : Fin 1024) : (iblk m c 3 t : Vec Ideal S256x1024 .bf16) (ix2 i j) = (R (row t i) j : EReal) := by
  refine Eq.trans ?_ (h.r _ _)
  unfold row
  blk_point [iblk, V, places t]

theorem blk_w (h : Args m c X G W Q K V' R E) (t : Fin cfg0.N) (i : Fin 2560) (j : Fin 1024) : (iblk m c 4 t : Vec Ideal S2560x1024 .bf16) (ix2 i j) = (W j i : EReal) := by
  refine Eq.trans ?_ (h.w _ _)
  blk_point [iblk, V, places t]

theorem blk_e (h : Args m c X G W Q K V' R E) (t : Fin cfg0.N) (i : Fin 256) (j : Fin 1024) : (iblk m c 5 t : Vec Ideal S256x1024 .f32) (ix2 i j) = (E (row t i) j : EReal) := by
  refine Eq.trans ?_ (h.e _ _)
  unfold row
  blk_point [iblk, V, places t]

theorem blk_x (h : Args m c X G W Q K V' R E) (t : Fin cfg0.N) (i : Fin 256) (j : Fin 1024) : (iblk m c 6 t : Vec Ideal S256x1024 .f32) (ix2 i j) = (X (row t i) j : EReal) := by
  refine Eq.trans ?_ (h.x _ _)
  unfold row
  blk_point [iblk, V, places t]

theorem blk_g (h : Args m c X G W Q K V' R E) (t : Fin cfg0.N) (i : Fin 1) (j : Fin 1024) : (iblk m c 7 t : Vec Ideal S1x1024 .f32) (ix2 i j) = (G j : EReal) := by
  refine Eq.trans ?_ (h.g _)
  blk_point [iblk, V, places t]

theorem weights_q (h : Args m c X G W Q K V' R E) (t : Fin cfg0.N) (i : Fin 512) (j : Fin 1024) :
    View.ld (iblk m c 4 t : Vec Ideal S2560x1024 .bf16) (Rect.unit ![0, 0] ![512, 1024] inb_S2560x1024_S512x1024_0_0) (ix2 i j) = (W j (col 0 (by omega) i) : EReal) := by
  refine (congrArg (iblk m c 4 t : Vec Ideal S2560x1024 .bf16) (?_ : _ = ix2 (col 0 (by omega) i) j)).trans (blk_w h t _ _)
  unfold col
  blk_ext <;> exact (Rect.idx_unit_val ..).trans (by simp)

theorem weights_k (h : Args m c X G W Q K V' R E) (t : Fin cfg0.N) (i : Fin 512) (j : Fin 1024) :
    View.ld (iblk m c 4 t : Vec Ideal S2560x1024 .bf16) (Rect.unit ![512, 0] ![512, 1024] inb_S2560x1024_S512x1024_512_0) (ix2 i j) = (W j (col 512 (by omega) i) : EReal) := by
  refine (congrArg (iblk m c 4 t : Vec Ideal S2560x1024 .bf16) (?_ : _ = ix2 (col 512 (by omega) i) j)).trans (blk_w h t _ _)
  unfold col
  blk_ext <;> exact (Rect.idx_unit_val ..).trans (by simp)

theorem weights_v (h : Args m c X G W Q K V' R E) (t : Fin cfg0.N) (i : Fin 512) (j : Fin 1024) :
    View.ld (iblk m c 4 t : Vec Ideal S2560x1024 .bf16) (Rect.unit ![1024, 0] ![512, 1024] inb_S2560x1024_S512x1024_1024_0) (ix2 i j) = (W j (col 1024 (by omega) i) : EReal) := by
  refine (congrArg (iblk m c 4 t : Vec Ideal S2560x1024 .bf16) (?_ : _ = ix2 (col 1024 (by omega) i) j)).trans (blk_w h t _ _)
  unfold col
  blk_ext <;> exact (Rect.idx_unit_val ..).trans (by simp)

theorem weights_r (h : Args m c X G W Q K V' R E) (t : Fin cfg0.N) (i : Fin 1024) (j : Fin 1024) :
    View.ld (iblk m c 4 t : Vec Ideal S2560x1024 .bf16) (Rect.unit ![1536, 0] ![1024, 1024] inb_S2560x1024_S1024x1024_1536_0) (ix2 i j) = (W j (col 1536 (by omega) i) : EReal) := by
  refine (congrArg (iblk m c 4 t : Vec Ideal S2560x1024 .bf16) (?_ : _ = ix2 (col 1536 (by omega) i) j)).trans (blk_w h t _ _)
  unfold col
  blk_ext <;> exact (Rect.idx_unit_val ..).trans (by simp)

/-- The derivative at the norm's output, a block of rows. -/
abbrev atOut (m : (ℓ : Loc nD τ sig) → Buf (Elt Ideal) ℓ) (c : Dev nD) (t : Fin cfg0.N) : Vec Ideal S256x1024 .f32 :=
  k0_pay4 (F := Ideal) (iblk m c 0 t) (View.ld (iblk m c 4 t) (Rect.unit ![0, 0] ![512, 1024] inb_S2560x1024_S512x1024_0_0))
    (iblk m c 1 t) (View.ld (iblk m c 4 t) (Rect.unit ![512, 0] ![512, 1024] inb_S2560x1024_S512x1024_512_0))
    (iblk m c 2 t) (View.ld (iblk m c 4 t) (Rect.unit ![1024, 0] ![512, 1024] inb_S2560x1024_S512x1024_1024_0))
    (iblk m c 3 t) (View.ld (iblk m c 4 t) (Rect.unit ![1536, 0] ![1024, 1024] inb_S2560x1024_S1024x1024_1536_0))
    (iblk m c 5 t)

theorem blk_d (h : Args m c X G W Q K V' R E) (t : Fin cfg0.N) (i : Fin 256) (j : Fin 1024) : atOut m c t (ix2 i j) = (parts Q K V' R W E (row t i) j : EReal) :=
  pay4_at (blk_q h t) (weights_q h t) (blk_k h t) (weights_k h t) (blk_v h t) (weights_v h t) (blk_r h t) (weights_r h t) (blk_e h t) i j

theorem pt_ds (h : Args m c X G W Q K V' R E) (t : Fin cfg0.N) (i : Fin 256) (j : Fin 1024) :
    (outsAt0 m c t.val t.isLt).1 (ix2 i j) = (inS X (parts Q K V' R W E) G (row t i) j : EReal) := by
  by_cases h0 : t.val = 0
  · rw [outsAt0_A m c t (by omega) (by omega) (by omega) (by omega)]; frame_out
    exact pay10_at (blk_x h t) (pay3_at (blk_g h t)) (blk_d h t) i j
  · have := lt32 t
    rw [outsAt0_B m c t (by omega) (by omega) (by omega) (by omega)]; frame_out
    exact pay10_at (blk_x h t) (pay3_at (blk_g h t)) (blk_d h t) i j

/-- What the first point leaves in the two carried rows. -/
theorem first (h : Args m c X G W Q K V' R E) (t : Fin cfg0.N) (h0 : t.val = 0) (j : Fin 1024) :
    (outsAt0 m c t.val t.isLt).2.1 (ix2 0 j) = ((∑ i, parts Q K V' R W E (row t i) j * hat (X (row t i)) j : ℝ) : EReal)
    ∧ (outsAt0 m c t.val t.isLt).2.2 (ix2 0 j) = ((∑ i, parts Q K V' R W E (row t i) j : ℝ) : EReal) := by
  rw [outsAt0_A m c t (by omega) (by omega) (by omega) (by omega)]; frame_out
  exact ⟨pay11_at (blk_x h t) (blk_d h t) 0 j, pay12_at (blk_d h t) 0 j⟩

/-- What each later point adds to them. -/
theorem later (h : Args m c X G W Q K V' R E) (t : Fin cfg0.N) (h0 : 1 ≤ t.val) (j : Fin 1024) :
    (outsAt0 m c t.val t.isLt).2.1 (ix2 0 j) = (outsAt0 m c (t.val - 1) (by have := t.isLt; omega)).2.1 (ix2 0 j) + ((∑ i, parts Q K V' R W E (row t i) j * hat (X (row t i)) j : ℝ) : EReal)
    ∧ (outsAt0 m c t.val t.isLt).2.2 (ix2 0 j) = (outsAt0 m c (t.val - 1) (by have := t.isLt; omega)).2.2 (ix2 0 j) + ((∑ i, parts Q K V' R W E (row t i) j : ℝ) : EReal) := by
  have := lt32 t
  rw [outsAt0_B m c t (by omega) (by omega) (by omega) (by omega)]; frame_out
  rw [pay1_at, pay2_at]
  exact ⟨congrArg _ (pay11_at (blk_x h t) (blk_d h t) 0 j), congrArg _ (pay12_at (blk_d h t) 0 j)⟩

theorem row_at (k : Fin cfg0.N) (i : Fin 256) : (row k i).val = k.val * 256 + i.val := rfl

/-- The last point. -/
def last : Fin cfg0.N := ⟨31, by show 31 < grid0.N; rw [N_0]; decide⟩

theorem last_g (h : Args m c X G W Q K V' R E) (j : Fin 1024) : (outsAt0 m c last.val last.isLt).2.1 (ix2 0 j) = (inG X (parts Q K V' R W E) j : EReal) :=
  carried_rows (congrArg (· * 256) N_0) (fun n hn => (outsAt0 m c n hn).2.1 (ix2 0 j)) (fun r => parts Q K V' R W E r j * hat (X r) j) row row_at
    (fun h0 => (first h ⟨0, h0⟩ rfl j).1) (fun n hn => (later h ⟨n + 1, hn⟩ (Nat.le_add_left 1 n) j).1) 31 last.isLt N_0.symm
theorem last_b (h : Args m c X G W Q K V' R E) (j : Fin 1024) : (outsAt0 m c last.val last.isLt).2.2 (ix2 0 j) = (inB (parts Q K V' R W E) j : EReal) :=
  carried_rows (congrArg (· * 256) N_0) (fun n hn => (outsAt0 m c n hn).2.2 (ix2 0 j)) (fun r => parts Q K V' R W E r j) row row_at
    (fun h0 => (first h ⟨0, h0⟩ rfl j).2) (fun n hn => (later h ⟨n + 1, hn⟩ (Nat.le_add_left 1 n) j).2) 31 last.isLt N_0.symm

/-! ## The result arrays -/

theorem at_ds (t : Fin cfg0.N) (y : S256x1024.Idx) : (((cfg0.win 8).blk t).view.emb y : S8192x1024.Idx) = ix2 (row t (y 0)) (y 1) := by
  unfold row
  blk_ext [places t]

theorem fin1 (a b : Fin 1) : a = b := Subsingleton.elim a b
theorem row1 (y : S1x1024.Idx) : y = ix2 0 (y 1) := (ix2_eta y).symm.trans (congrArg (fun a => ix2 a (y 1)) (fin1 (y 0) 0))

theorem arr_ds (h : Args m c X G W Q K V' R E) (i : Fin 8192) (j : Fin 1024) :
    ((dats m 0 c).arrAt 8 cfg0.N : Vec Ideal S8192x1024 .f32) (ix2 i j) = (inS X (parts Q K V' R W E) G i j : EReal) := by
  refine congrFun ((dats m 0 c).arrAt_eq_of_covers 8 (fun y : S8192x1024.Idx => ((inS X (parts Q K V' R W E) G (y 0) (y 1) : ℝ) : EReal)) (by decide +kernel) fun t hf y => ?_) (ix2 i j)
  refine Eq.trans ?_ (congrArg (fun y : S8192x1024.Idx => ((inS X (parts Q K V' R W E) G (y 0) (y 1) : ℝ) : EReal)) (at_ds t y).symm)
  blk_simp
  rw [after0_8, show y = ix2 (y 0) (y 1) from (ix2_eta y).symm]
  exact pt_ds h t (y 0) (y 1)

theorem arr_g (h : Args m c X G W Q K V' R E) (j : Fin 1024) : ((dats m 0 c).arrAt 9 cfg0.N : Vec Ideal S1x1024 .f32) (ix2 0 j) = (inG X (parts Q K V' R W E) j : EReal) := by
  refine congrFun ((dats m 0 c).arrAt_eq_of_after_last 9 last (by decide +kernel) (fun y : S1x1024.Idx => ((inG X (parts Q K V' R W E) (y 1) : ℝ) : EReal)) fun (y : S1x1024.Idx) => ?_) (ix2 0 j)
  blk_simp
  rw [after0_9, row1 y]
  exact last_g h (y 1)

theorem arr_b (h : Args m c X G W Q K V' R E) (j : Fin 1024) : ((dats m 0 c).arrAt 10 cfg0.N : Vec Ideal S1x1024 .f32) (ix2 0 j) = (inB (parts Q K V' R W E) j : EReal) := by
  refine congrFun ((dats m 0 c).arrAt_eq_of_after_last 10 last (by decide +kernel) (fun y : S1x1024.Idx => ((inB (parts Q K V' R W E) (y 1) : ℝ) : EReal)) fun (y : S1x1024.Idx) => ?_) (ix2 0 j)
  blk_simp
  rw [after0_10, row1 y]
  exact last_b h (y 1)

end Cert.DXInIdeal.Arr

end
-- ==== Proof.DXInRef.lean ====
module

public import proofs.«01_k».proof.Proof.Gen.DXInRefIdeal.Run
public import proofs.«01_k».proof.Proof.Gen.DXInRefIdeal.Read
public import proofs.«01_k».proof.Proof.DXInArr

/-! The reference's derivative through the second norm, in real numbers. -/

@[expose] public section

set_option maxRecDepth 16384
noncomputable section

namespace Cert.DXInRefIdeal.Back

open Cert.DXInRefIdeal Cert.DXInRefIdeal.Read Idealize.ShloMosaic Idealize.ShloMosaic.TcCoe Cert.Norm
open Cert.DXInIdeal.Arr (col parts)

variable {x0 x8 : Vec Ideal S8192x1024 .f32} {x1 : Vec Ideal S1024 .f32} {x3 : Vec Ideal S1024x2560 .f32} {x4 x5 x6 : Vec Ideal S8192x512 .bf16} {x7 : Vec Ideal S8192x1024 .bf16}
variable {X E D W' R : Fin 8192 → Fin 1024 → ℝ} {G : Fin 1024 → ℝ} {W : Fin 1024 → Fin 2560 → ℝ} {Q K V : Fin 8192 → Fin 512 → ℝ}

theorem v10_at (hx : ∀ i j, x0 (ix2 i j) = (X i j : EReal)) (i j) : val_main_v10 (F := Ideal) x0 (ix2 i j) = (cen (X i) j : EReal) := by
  unfold val_main_v10 val_main_v9 val_main_v8 val_main_v7 val_main_v6 val_main_v5 val_main_cst val_main_cst_0
  pointwise [hx]
  simp only [coe_sum, lit1024, div1024, ← EReal.coe_sub]
  rfl

theorem v15_at (hx : ∀ i j, x0 (ix2 i j) = (X i j : EReal)) (i j) : val_main_v15 (F := Ideal) x0 (ix2 i j) = (var (X i) : EReal) := by
  have h := v10_at hx
  unfold val_main_v15 val_main_v14 val_main_v13 val_main_v12 val_main_v11 val_main_cst_1 val_main_cst_2
  pointwise [h]
  simp only [← EReal.coe_mul, coe_sum, lit1024, div1024]
  rfl

theorem v17_at (hx : ∀ i j, x0 (ix2 i j) = (X i j : EReal)) (i j) : val_main_v17 (F := Ideal) x0 (ix2 i j) = ((var (X i) + eps : ℝ) : EReal) := by
  have h := v15_at hx
  unfold val_main_v17 val_main_v16 val_main_cst_3
  pointwise [h]
  simp only [litEps, ← EReal.coe_add]

theorem v18_at (hx : ∀ i j, x0 (ix2 i j) = (X i j : EReal)) (i j) : val_main_v18 (F := Ideal) x0 (ix2 i j) = (rstd (X i) : EReal) := by
  have h := v17_at hx
  unfold val_main_v18
  pointwise [h]
  simp only [rsqrt_pos (var_eps_pos _)]
  rfl

theorem v21_at (hx : ∀ i j, x0 (ix2 i j) = (X i j : EReal)) (i j) :
    val_main_v21 (F := Ideal) x0 (ix2 i j) = ((-(1 / 2) * (rstd (X i) / (var (X i) + eps)) : ℝ) : EReal) := by
  have h := v17_at hx
  have h' := v18_at hx
  unfold val_main_v21 val_main_v20 val_main_v19 val_main_cst_4
  pointwise [h, h']
  simp only [litNegHalf, div_real (var_eps_pos _).ne', ← EReal.coe_mul]

theorem v23_at (hx : ∀ i j, x0 (ix2 i j) = (X i j : EReal)) (i j) : val_main_v23 (F := Ideal) x0 (ix2 i j) = (hat (X i) j : EReal) := by
  have h := v10_at hx
  have h' := v18_at hx
  unfold val_main_v23 val_main_v22
  pointwise [h, h']
  simp only [← EReal.coe_mul]
  rfl

theorem sum_pieces (f : Fin 2560 → EReal) : ∑ k, f k
    = (∑ k, f (col (n := 512) 0 (by omega) k)) + (∑ k, f (col (n := 512) 512 (by omega) k)) + (∑ k, f (col (n := 512) 1024 (by omega) k))
      + ∑ k, f (col (n := 1024) 1536 (by omega) k) := by
  have h0 : ∀ k : Fin 512, col (n := 512) 0 (by omega) k = ⟨k.val, by omega⟩ := fun k => Fin.ext (Nat.zero_add _)
  simp only [h0]
  exact (Fin.sum_univ_add (a := 1536) (b := 1024) f).trans (congrArg₂ (· + ·) ((Fin.sum_univ_add (a := 1024) (b := 512) _).trans
    (congrArg₂ (· + ·) (Fin.sum_univ_add (a := 512) (b := 512) _) rfl)) rfl)

theorem v4_at (hq : ∀ i j, x4 (ix2 i j) = (Q i j : EReal)) (hk : ∀ i j, x5 (ix2 i j) = (K i j : EReal))
    (hv : ∀ i j, x6 (ix2 i j) = (V i j : EReal)) (hr : ∀ i j, x7 (ix2 i j) = (R i j : EReal)) (i : Fin 8192) :
    (∀ f : Fin 512, val_main_v4 (F := Ideal) x4 x5 x6 x7 (ix2 i (col 0 (by omega) f)) = (Q i f : EReal))
    ∧ (∀ f : Fin 512, val_main_v4 (F := Ideal) x4 x5 x6 x7 (ix2 i (col 512 (by omega) f)) = (K i f : EReal))
    ∧ (∀ f : Fin 512, val_main_v4 (F := Ideal) x4 x5 x6 x7 (ix2 i (col 1024 (by omega) f)) = (V i f : EReal))
    ∧ ∀ f : Fin 1024, val_main_v4 (F := Ideal) x4 x5 x6 x7 (ix2 i (col 1536 (by omega) f)) = (R i f : EReal) := by
  unfold val_main_v4 val_main_v3 val_main_v2 val_main_v1 val_main_v0 col
  refine ⟨fun f => ?_, fun f => ?_, fun f => ?_, fun f => ?_⟩ <;> pointwise [hq, hk, hv, hr]
  · rw [dif_neg (by omega), dif_neg (by omega), dif_pos (by omega)]
    exact congrArg (fun k : Fin 512 => (V i k : EReal)) (Fin.ext (by show 1024 + f.val - 512 - 512 = f.val; omega))
  · rw [dif_neg (by omega), dif_neg (by omega), dif_neg (by omega)]
    exact congrArg (fun k : Fin 1024 => (R i k : EReal)) (Fin.ext (by show 1536 + f.val - 512 - 512 - 512 = f.val; omega))

theorem v37_at (hw : ∀ i j, x3 (ix2 i j) = (W i j : EReal)) (hq : ∀ i j, x4 (ix2 i j) = (Q i j : EReal)) (hk : ∀ i j, x5 (ix2 i j) = (K i j : EReal))
    (hv : ∀ i j, x6 (ix2 i j) = (V i j : EReal)) (hr : ∀ i j, x7 (ix2 i j) = (R i j : EReal)) (i j) :
    val_main_v37 (F := Ideal) x3 x4 x5 x6 x7 (ix2 i j) = (((∑ f, Q i f * W j (col 0 (by omega) f)) + (∑ f, K i f * W j (col 512 (by omega) f)) + (∑ f, V i f * W j (col 1024 (by omega) f))
    + (∑ f, R i f * W j (col 1536 (by omega) f)) : ℝ) : EReal) := by
  obtain ⟨h0, h1, h2, h3⟩ := v4_at hq hk hv hr i
  unfold val_main_v37
  pointwise [hw]
  rw [sum_pieces]
  simp only [h0, h1, h2, h3, ← EReal.coe_mul, coe_sum, ← EReal.coe_add]

theorem v38_at (hw : ∀ i j, x3 (ix2 i j) = (W i j : EReal)) (hq : ∀ i j, x4 (ix2 i j) = (Q i j : EReal)) (hk : ∀ i j, x5 (ix2 i j) = (K i j : EReal))
    (hv : ∀ i j, x6 (ix2 i j) = (V i j : EReal)) (hr : ∀ i j, x7 (ix2 i j) = (R i j : EReal)) (he : ∀ i j, x8 (ix2 i j) = (E i j : EReal)) (i j) :
    val_main_v38 (F := Ideal) x3 x4 x5 x6 x7 x8 (ix2 i j) = (parts Q K V R W E i j : EReal) := by
  have h := v37_at hw hq hk hv hr
  unfold val_main_v38 val_main_v34 val_main_v33 val_main_cst_6
  pointwise [h, he]
  simp only [litAlpha, ← EReal.coe_mul, ← EReal.coe_add]
  exact congrArg (fun x : ℝ => (x : EReal)) (add_comm _ _)

theorem v46_at (hd : ∀ i j, val_main_v38 (F := Ideal) x3 x4 x5 x6 x7 x8 (ix2 i j) = (D i j : EReal)) (hg : ∀ j, x1 (ix1 j) = (G j : EReal)) (i j) :
    val_main_v46 (F := Ideal) x1 x3 x4 x5 x6 x7 x8 (ix2 i j) = ((D i j * G j : ℝ) : EReal) := by
  unfold val_main_v46 val_main_v45 val_main_v24
  pointwise [hd, hg]
  simp only [← EReal.coe_mul]

theorem v57_at (hx : ∀ i j, x0 (ix2 i j) = (X i j : EReal)) (hw : ∀ i j, val_main_v46 (F := Ideal) x1 x3 x4 x5 x6 x7 x8 (ix2 i j) = (W' i j : EReal)) (i j) :
    val_main_v57 (F := Ideal) x0 x1 x3 x4 x5 x6 x7 x8 (ix2 i j) = (chainQ (X i) (W' i) : EReal) := by
  have h := v10_at hx
  have h' := v21_at hx
  unfold val_main_v57 val_main_v56 val_main_v55 val_main_v54 val_main_v53 val_main_v50 val_main_v49 val_main_v48 val_main_cst_11 val_main_cst_12 val_main_cst_13
  pointwise [h, h', hw]
  simp only [Fin.sum_univ_one, lit1024, ← EReal.coe_mul, coe_sum, div1024]
  rfl

theorem v61_at (hx : ∀ i j, x0 (ix2 i j) = (X i j : EReal)) (hw : ∀ i j, val_main_v46 (F := Ideal) x1 x3 x4 x5 x6 x7 x8 (ix2 i j) = (W' i j : EReal)) (i j) :
    val_main_v61 (F := Ideal) x0 x1 x3 x4 x5 x6 x7 x8 (ix2 i j) = (chainT (X i) (W' i) j : EReal) := by
  have h := v10_at hx
  have h' := v18_at hx
  have h'' := v57_at hx hw
  unfold val_main_v61 val_main_v60 val_main_v59 val_main_v58 val_main_v52 val_main_v51
  pointwise [h, h', h'', hw]
  simp only [← EReal.coe_mul, ← EReal.coe_add]
  rfl

theorem v69_at (hx : ∀ i j, x0 (ix2 i j) = (X i j : EReal)) (hw : ∀ i j, val_main_v46 (F := Ideal) x1 x3 x4 x5 x6 x7 x8 (ix2 i j) = (W' i j : EReal)) (i j) :
    val_main_v69 (F := Ideal) x0 x1 x3 x4 x5 x6 x7 x8 (ix2 i j) = (back (X i) (W' i) j : EReal) := by
  have h := v61_at hx hw
  rw [← chain_eq]
  unfold val_main_v69 val_main_v68 val_main_v67 val_main_v66 val_main_v65 val_main_v64 val_main_v63 val_main_v62 val_main_cst_14 val_main_cst_15 val_main_cst_16
  pointwise [h]
  simp only [Fin.sum_univ_one, ← EReal.coe_neg, coe_sum, lit1024, div1024, ← EReal.coe_add]
  rfl

theorem v70_at (hx : ∀ i j, x0 (ix2 i j) = (X i j : EReal)) (hd : ∀ i j, val_main_v38 (F := Ideal) x3 x4 x5 x6 x7 x8 (ix2 i j) = (D i j : EReal)) (j) :
    val_main_v70 (F := Ideal) x0 x3 x4 x5 x6 x7 x8 (ix2 0 j) = (inG X D j : EReal) := by
  have h := v23_at hx
  unfold val_main_v70 val_main_v47 val_main_v44 val_main_v43 val_main_v42 val_main_cst_9 val_main_cst_10
  pointwise [h, hd]
  simp only [Fin.sum_univ_one, ← EReal.coe_mul, coe_sum]
  unfold inG
  simp only [mul_comm]

theorem v71_at (hd : ∀ i j, val_main_v38 (F := Ideal) x3 x4 x5 x6 x7 x8 (ix2 i j) = (D i j : EReal)) (j) :
    val_main_v71 (F := Ideal) x3 x4 x5 x6 x7 x8 (ix2 0 j) = (inB D j : EReal) := by
  unfold val_main_v71 val_main_v41 val_main_v40 val_main_v39 val_main_cst_7 val_main_cst_8
  pointwise [hd]
  simp only [Fin.sum_univ_one, coe_sum]
  rfl

end Cert.DXInRefIdeal.Back

end
-- ==== Proof.DXInEq.lean ====
module

public import proofs.«01_k».proof.Defs
public import proofs.«01_k».proof.Proof.Gen.Pre_finite_dx
public import proofs.«01_k».proof.Proof.Gen.DXIn
public import proofs.«01_k».proof.Proof.Gen.DXIn.Frame
public import proofs.«01_k».proof.Proof.Gen.DXInIdeal
public import proofs.«01_k».proof.Proof.Gen.DXInRefIdeal
public import proofs.«01_k».proof.Proof.Finite
public import proofs.«01_k».proof.Proof.DXInRef
public import proofs.«01_k».proof.Proof.DXInArr
public import Idealize.ShloMosaic.Lib.Claim

/-! The derivative through the second norm: kernel and reference end with the same three arrays. -/

@[expose] public section

set_option maxRecDepth 16384
noncomputable section

namespace Cert.DXInIdeal.Eq

open Idealize.ShloMosaic Idealize.ShloMosaic.TcCoe Idealize.SL Idealize.SL.Sem
open Cert.Norm Cert.DXInIdeal Cert.DXInIdeal.Arr Cert.DXInRefIdeal.Back

variable (m : (ℓ : Loc nD τ sig) → Buf (Elt Ideal) ℓ) (c : Dev nD)

/-- The arguments' real numbers. -/
abbrev rX : Fin 8192 → Fin 1024 → ℝ := fun i j => ((m ((c : Thread nD τ).loc main_arg0) : Vec Ideal S8192x1024 .f32) (ix2 i j)).toReal
abbrev rG : Fin 1024 → ℝ := fun j => ((m ((c : Thread nD τ).loc main_arg1) : Vec Ideal S1024 .f32) (ix1 j)).toReal
abbrev rW : Fin 1024 → Fin 2560 → ℝ := fun i j => ((m ((c : Thread nD τ).loc main_arg3) : Vec Ideal S1024x2560 .f32) (ix2 i j)).toReal
abbrev rQ : Fin 8192 → Fin 512 → ℝ := fun i j => ((m ((c : Thread nD τ).loc main_arg4) : Vec Ideal S8192x512 .bf16) (ix2 i j)).toReal
abbrev rK : Fin 8192 → Fin 512 → ℝ := fun i j => ((m ((c : Thread nD τ).loc main_arg5) : Vec Ideal S8192x512 .bf16) (ix2 i j)).toReal
abbrev rV : Fin 8192 → Fin 512 → ℝ := fun i j => ((m ((c : Thread nD τ).loc main_arg6) : Vec Ideal S8192x512 .bf16) (ix2 i j)).toReal
abbrev rR : Fin 8192 → Fin 1024 → ℝ := fun i j => ((m ((c : Thread nD τ).loc main_arg7) : Vec Ideal S8192x1024 .bf16) (ix2 i j)).toReal
abbrev rE : Fin 8192 → Fin 1024 → ℝ := fun i j => ((m ((c : Thread nD τ).loc main_arg8) : Vec Ideal S8192x1024 .f32) (ix2 i j)).toReal

theorem args (h : Cert.Pre_DXInIdeal_finite_dx m (hPre_finite_dx := Cert.Pre_finite_dx.Gen.facts)) :
    Args m c (rX m c) (rG m c) (rW m c) (rQ m c) (rK m c) (rV m c) (rR m c) (rE m c) := by
  obtain ⟨h0, h1, h3, h4, h5, h6, h7, h8⟩ := h c
  exact ⟨fun i j => Cert.Fin.real_of_lt (congrFun h0 (ix2 i j)), fun j => Cert.Fin.real_of_lt (congrFun h1 (ix1 j)),
    fun i j => Cert.Fin.real_of_lt (congrFun h3 (ix2 i j)), fun i j => Cert.Fin.real_of_lt (congrFun h4 (ix2 i j)), fun i j => Cert.Fin.real_of_lt (congrFun h5 (ix2 i j)),
    fun i j => Cert.Fin.real_of_lt (congrFun h6 (ix2 i j)), fun i j => Cert.Fin.real_of_lt (congrFun h7 (ix2 i j)), fun i j => Cert.Fin.real_of_lt (congrFun h8 (ix2 i j))⟩

abbrev D : Fin 8192 → Fin 1024 → ℝ := parts (rQ m c) (rK m c) (rV m c) (rR m c) (rW m c) (rE m c)
abbrev outS : Vec Ideal S8192x1024 .f32 := fun y => ((inS (rX m c) (D m c) (rG m c) (y 0) (y 1) : ℝ) : EReal)
abbrev outG : Vec Ideal S1x1024 .f32 := fun y => ((inG (rX m c) (D m c) (y 1) : ℝ) : EReal)
abbrev outB : Vec Ideal S1x1024 .f32 := fun y => ((inB (D m c) (y 1) : ℝ) : EReal)

theorem algebraic : Cert.algebraic_DXInIdeal_DXInRefIdeal_pre_finite_dx (hDXInIdeal := Cert.DXInIdeal.Gen.facts)
    (hDXInRefIdeal := Cert.DXInRefIdeal.Gen.facts) (hPre_finite_dx := Cert.Pre_finite_dx.Gen.facts) := by
  intro m g m' g' hpre hargs
  refine ⟨outS m, outG m, outB m, ?_, ?_⟩
  · refine (θ_run (Cert.DXInIdeal.defs (F := Ideal)) _ _).mono (fun r h c => ?_) (Cert.DXInIdeal.Value.run_blocks (F := Ideal) m g)
    obtain ⟨e8, e9, e10, hm⟩ := h c
    have a := args m c hpre
    refine ⟨e8.trans ?_, e9.trans ?_, e10.trans ?_, hm⟩
    · funext (y : S8192x1024.Idx)
      rw [show y = ix2 (y 0) (y 1) from (ix2_eta y).symm]; exact arr_ds a _ _
    · funext (y : S1x1024.Idx)
      rw [row1 y]; exact arr_g a _
    · funext (y : S1x1024.Idx)
      rw [row1 y]; exact arr_b a _
  · refine (θ_run (Cert.DXInRefIdeal.defs (F := Ideal)) _ _).mono (fun r h c => ?_) (Cert.DXInRefIdeal.Value.run (F := Ideal) m' g')
    obtain ⟨e0, e1, e2, hm⟩ := h c
    obtain ⟨a0, a1, a2, a3, a4, a5, a6, a7, a8⟩ := hargs c
    have a := args m c hpre
    have hx := fun i j => (congrFun a0 (ix2 i j)).trans (a.x i j)
    have hg := fun j => (congrFun a1 (ix1 j)).trans (a.g j)
    have hw := fun i j => (congrFun a3 (ix2 i j)).trans (a.w i j)
    have hq := fun i j => (congrFun a4 (ix2 i j)).trans (a.q i j)
    have hk := fun i j => (congrFun a5 (ix2 i j)).trans (a.k i j)
    have hv := fun i j => (congrFun a6 (ix2 i j)).trans (a.v i j)
    have hr := fun i j => (congrFun a7 (ix2 i j)).trans (a.r i j)
    have he := fun i j => (congrFun a8 (ix2 i j)).trans (a.e i j)
    have hd := v38_at hw hq hk hv hr he
    refine ⟨e0.trans ?_, e1.trans ?_, e2.trans ?_, hm⟩
    · refine (Cert.DXInRefIdeal.Read.val_main_v69_eq ..).trans ?_
      funext (y : S8192x1024.Idx)
      rw [show y = ix2 (y 0) (y 1) from (ix2_eta y).symm]; exact v69_at hx (v46_at hd hg) _ _
    · refine (Cert.DXInRefIdeal.Read.val_main_v70_eq ..).trans ?_
      funext (y : S1x1024.Idx)
      rw [row1 y]; exact v70_at hx hd _
    · refine (Cert.DXInRefIdeal.Read.val_main_v71_eq ..).trans ?_
      funext (y : S1x1024.Idx)
      rw [row1 y]; exact v71_at hd _

theorem frame_kernel : Cert.quiescent_DXIn (hDXIn := Cert.DXIn.Gen.facts) := fun m g _ => Cert.DXIn.Gen.frame m g
theorem frame_ideal : Cert.quiescent_DXInIdeal (hDXInIdeal := Cert.DXInIdeal.Gen.facts) := fun m g _ => Cert.DXInIdeal.Gen.frame m g
theorem frame_ideal_finite : Cert.quiescent_DXInIdeal_pre_finite_dx (hDXInIdeal := Cert.DXInIdeal.Gen.facts) (hPre_finite_dx := Cert.Pre_finite_dx.Gen.facts) :=
  fun m g _ => Cert.DXInIdeal.Gen.frame m g
theorem frame_reference : Cert.quiescent_DXInRefIdeal (hDXInRefIdeal := Cert.DXInRefIdeal.Gen.facts) := fun m g _ =>
  (θ_run (Cert.DXInRefIdeal.defs (F := Ideal)) _ _).mono (fun r h => ⟨fun c => (h c).2.2.2, sem_eq_zero_of_no_sems (by decide) r.2⟩)
    (Cert.DXInRefIdeal.Value.run (F := Ideal) m g)
theorem frame_reference_finite : Cert.quiescent_DXInRefIdeal_pre_finite_dx (hDXInRefIdeal := Cert.DXInRefIdeal.Gen.facts) (hPre_finite_dx := Cert.Pre_finite_dx.Gen.facts) :=
  fun m g _ => frame_reference m g trivial

end Cert.DXInIdeal.Eq

end
-- ==== Proof.RmsRef.lean ====
module

public import proofs.«01_k».proof.Proof.Gen.RmsRefIdeal.Run
public import proofs.«01_k».proof.Proof.Gen.RmsRefIdeal.Read
public import proofs.«01_k».proof.Proof.Norm.Head
public import Idealize.ShloMosaic.Lib.Pointwise

/-! The reference's derivative of the norm over heads, in real numbers. -/

@[expose] public section

set_option maxRecDepth 16384
noncomputable section

namespace Cert.RmsRefIdeal.Back

open Idealize.ShloMosaic Idealize.ShloMosaic.TcCoe Cert.Norm Cert.Head
open Cert.RmsRefIdeal Cert.RmsRefIdeal.Gen Cert.RmsRefIdeal.Read

theorem div64 (x : ℝ) : Ideal.div (x : EReal) ((64 : ℝ) : EReal) = ((x * (1 / 64) : ℝ) : EReal) := by
  rw [div_real (by norm_num : (64 : ℝ) ≠ 0)]; congr 1; ring

variable {x0 x1 : Vec Ideal S8192x512 .f32} {x2 : Vec Ideal S1024 .f32} {x3 : Vec Ideal S8192x1024 .f32}
variable {A C : Fin 8192 → Fin 512 → ℝ} {G : Fin 1024 → ℝ} {D : Fin 8192 → Fin 1024 → ℝ}

theorem v25_at (h2 : ∀ j, x2 (ix1 j) = (G j : EReal)) (h3 : ∀ i j, x3 (ix2 i j) = (D i j : EReal)) (i h p) :
    val_main_v25 (F := Ideal) x2 x3 (ix3 i h p) = ((D i (col h p) * G (col h p) : ℝ) : EReal) := by
  unfold val_main_v25 val_main_v23 val_main_v22 val_main_v16
  pointwise [h2, h3]
  rw [← EReal.coe_mul]
  rfl

variable (h0 : ∀ i j, x0 (ix2 i j) = (A i j : EReal)) (h1 : ∀ i j, x1 (ix2 i j) = (C i j : EReal))
include h0 h1

theorem v1_at (i h p) :
    val_main_v1 (F := Ideal) x0 x1 (ix3 i h p) = (cat (A i) (C i) (col h p) : EReal) := by
  unfold val_main_v1 val_main_v0
  pointwise [h0, h1]
  unfold cat col
  split <;> rfl

theorem v8_at (i h k) :
    val_main_v8 (F := Ideal) x0 x1 (ix3 i h k) = ((ms (cat (A i) (C i)) h + eps6 : ℝ) : EReal) := by
  have e := v1_at h0 h1
  unfold val_main_v8 val_main_v7 val_main_v6 val_main_v5 val_main_v4 val_main_v3 val_main_v2 val_main_cst val_main_cst_0 val_main_cst_1
  pointwise [e]
  simp only [← EReal.coe_mul, coe_sum, lit64', div64, litEps6, ← EReal.coe_add]
  rfl

theorem v9_at (i h k) :
    val_main_v9 (F := Ideal) x0 x1 (ix3 i h k) = (rr (cat (A i) (C i)) h : EReal) := by
  have e := v8_at h0 h1
  unfold val_main_v9
  pointwise [e]
  exact rsqrt_pos (ms_pos _ _)

theorem v12_at (i h k) :
    val_main_v12 (F := Ideal) x0 x1 (ix3 i h k) = ((-(1 / 2) * (rr (cat (A i) (C i)) h / (ms (cat (A i) (C i)) h + eps6)) : ℝ) : EReal) := by
  have e := v8_at h0 h1
  have e' := v9_at h0 h1
  unfold val_main_v12 val_main_v11 val_main_v10 val_main_cst_2
  pointwise [e, e']
  rw [litNegHalf, div_real (ms_pos _ _).ne', ← EReal.coe_mul]

theorem v15_at (i j) :
    val_main_v15 (F := Ideal) x0 x1 (ix2 i j) = ((cat (A i) (C i) j * rr (cat (A i) (C i)) (hd j) : ℝ) : EReal) := by
  have e := v1_at h0 h1
  have e' := v9_at h0 h1
  unfold val_main_v15 val_main_v14 val_main_v13
  pointwise [e, e']
  rw [← EReal.coe_mul]
  exact congrArg (fun k => ((cat (A i) (C i) k * rr (cat (A i) (C i)) (hd j) : ℝ) : EReal)) (col_hd j)

theorem v44_at (h3 : ∀ i j, x3 (ix2 i j) = (D i j : EReal)) (j) :
    val_main_v44 (F := Ideal) x0 x1 x3 (ix2 0 j) = ((∑ i, D i j * cat (A i) (C i) j * rr (cat (A i) (C i)) (hd j) : ℝ) : EReal) := by
  have e := v15_at h0 h1
  unfold val_main_v44 val_main_v24 val_main_v21 val_main_v20 val_main_v19 val_main_cst_3 val_main_cst_4
  pointwise [e, h3]
  simp only [Fin.sum_univ_one, ← EReal.coe_mul, coe_sum]
  exact congrArg _ (Finset.sum_congr rfl fun i _ => by ring)

variable (h2 : ∀ j, x2 (ix1 j) = (G j : EReal))
  (h3 : ∀ i j, x3 (ix2 i j) = (D i j : EReal))
include h2 h3

theorem v35_at (i h p) :
    val_main_v35 (F := Ideal) x0 x1 x2 x3 (ix3 i h p) = ((-(1 / 2) * along (cat (A i) (C i)) (fun j => D i j * G j) h : ℝ) : EReal) := by
  have e := v1_at h0 h1
  have e' := v25_at h2 h3
  have e'' := v12_at h0 h1
  unfold val_main_v35 val_main_v34 val_main_v33 val_main_v32 val_main_v31 val_main_v28 val_main_v27 val_main_v26 val_main_cst_5 val_main_cst_6 val_main_cst_7
  pointwise [e, e', e'']
  simp only [Fin.sum_univ_one, ← EReal.coe_mul, coe_sum, lit64', div64]
  refine congrArg _ ?_
  have r2 : (ms (cat (A i) (C i)) h + eps6)⁻¹ = rr (cat (A i) (C i)) h * rr (cat (A i) (C i)) h := by
    unfold rr
    rw [← mul_inv, Real.mul_self_sqrt (ms_pos _ _).le]
  rw [div_eq_mul_inv (rr _ _), r2]
  unfold along
  rw [Finset.sum_congr rfl fun p _ => mul_comm (cat (A i) (C i) (col h p)) _]
  ring

theorem v40_at (i j) :
    val_main_v40 (F := Ideal) x0 x1 x2 x3 (ix2 i j) = (backS (cat (A i) (C i)) (fun j => D i j * G j) j : EReal) := by
  have e := v1_at h0 h1
  have e' := v25_at h2 h3
  have e'' := v9_at h0 h1
  have e3 := v35_at h0 h1 h2 h3
  unfold val_main_v40 val_main_v39 val_main_v38 val_main_v37 val_main_v36 val_main_v30 val_main_v29
  pointwise [e, e', e'', e3]
  simp only [← EReal.coe_mul, ← EReal.coe_add]
  refine congrArg _ ?_
  have k : col (⟨j.val / 64, by omega⟩ : Fin 16) (⟨j.val % 64, Nat.mod_lt _ (by decide)⟩ : Fin 64) = j := col_hd j
  rw [k]
  unfold backS
  rw [show (⟨j.val / 64, by omega⟩ : Fin 16) = hd j from rfl]
  ring

theorem v43_at (i j) :
    val_main_v43 (F := Ideal) x0 x1 x2 x3 (ix2 i j) = (backS (cat (A i) (C i)) (fun j => D i j * G j) ⟨j.val, by omega⟩ : EReal) := by
  have e := v40_at h0 h1 h2 h3
  unfold val_main_v43 val_main_v41
  pointwise [e]

theorem v42_at (i j) :
    val_main_v42 (F := Ideal) x0 x1 x2 x3 (ix2 i j) = (backS (cat (A i) (C i)) (fun j => D i j * G j) ⟨512 + j.val, by omega⟩ : EReal) := by
  have e := v40_at h0 h1 h2 h3
  unfold val_main_v42
  pointwise [e]

end Cert.RmsRefIdeal.Back

end
-- ==== Proof.RmsEq.lean ====
module

public import proofs.«01_k».proof.Defs
public import proofs.«01_k».proof.Proof.Gen.Pre_finite_rms
public import proofs.«01_k».proof.Proof.Gen.Rms
public import proofs.«01_k».proof.Proof.Gen.Rms.Frame
public import proofs.«01_k».proof.Proof.Gen.RmsIdeal
public import proofs.«01_k».proof.Proof.Gen.RmsRefIdeal
public import proofs.«01_k».proof.Proof.Finite
public import proofs.«01_k».proof.Proof.RmsRef
public import proofs.«01_k».proof.Proof.RmsArr
public import Idealize.ShloMosaic.Lib.Claim

/-! The derivative of the norm over heads: kernel and reference end with the same three arrays. -/

@[expose] public section

set_option maxRecDepth 16384
noncomputable section

namespace Cert.RmsIdeal.Eq

open Idealize.ShloMosaic Idealize.ShloMosaic.TcCoe Idealize.SL Idealize.SL.Sem
open Cert.Norm Cert.Head Cert.RmsIdeal Cert.RmsIdeal.Arr Cert.RmsRefIdeal.Back

variable (m : (ℓ : Loc nD τ sig) → Buf (Elt Ideal) ℓ) (c : Dev nD)

/-- The arguments' real numbers. -/
abbrev rA : Fin 8192 → Fin 512 → ℝ := fun i j => ((m ((c : Thread nD τ).loc main_arg0) : Vec Ideal S8192x512 .f32) (ix2 i j)).toReal
abbrev rC : Fin 8192 → Fin 512 → ℝ := fun i j => ((m ((c : Thread nD τ).loc main_arg1) : Vec Ideal S8192x512 .f32) (ix2 i j)).toReal
abbrev rG : Fin 1024 → ℝ := fun j => ((m ((c : Thread nD τ).loc main_arg2) : Vec Ideal S1024 .f32) (ix1 j)).toReal
abbrev rD : Fin 8192 → Fin 1024 → ℝ := fun i j => ((m ((c : Thread nD τ).loc main_arg3) : Vec Ideal S8192x1024 .f32) (ix2 i j)).toReal

theorem args (h : Cert.Pre_RmsIdeal_finite_rms m (hPre_finite_rms := Cert.Pre_finite_rms.Gen.facts)) : Args m c (rA m c) (rC m c) (rG m c) (rD m c) := by
  obtain ⟨h0, h1, h2, h3⟩ := h c
  exact ⟨fun i j => Cert.Fin.real_of_lt (congrFun h0 (ix2 i j)), fun i j => Cert.Fin.real_of_lt (congrFun h1 (ix2 i j)),
    fun j => Cert.Fin.real_of_lt (congrFun h2 (ix1 j)), fun i j => Cert.Fin.real_of_lt (congrFun h3 (ix2 i j))⟩

abbrev outA : Vec Ideal S8192x512 .bf16 := fun y => ((dO (rA m c) (rC m c) (rG m c) (rD m c) (y 0) ⟨(y 1).val, by have : (y 1).val < 512 := (y 1).isLt; omega⟩ : ℝ) : EReal)
abbrev outC : Vec Ideal S8192x512 .f32 := fun y => ((dO (rA m c) (rC m c) (rG m c) (rD m c) (y 0) ⟨512 + (y 1).val, by have : (y 1).val < 512 := (y 1).isLt; omega⟩ : ℝ) : EReal)
abbrev outG : Vec Ideal S1x1024 .f32 := fun y => ((∑ i, gS (rA m c) (rC m c) (rD m c) i (y 1) : ℝ) : EReal)

theorem algebraic : Cert.algebraic_RmsIdeal_RmsRefIdeal_pre_finite_rms (hRmsIdeal := Cert.RmsIdeal.Gen.facts)
    (hRmsRefIdeal := Cert.RmsRefIdeal.Gen.facts) (hPre_finite_rms := Cert.Pre_finite_rms.Gen.facts) := by
  intro m g m' g' hpre hargs
  refine ⟨outA m, outC m, outG m, ?_, ?_⟩
  · refine (θ_run (Cert.RmsIdeal.defs (F := Ideal)) _ _).mono (fun r h c => ?_) (Cert.RmsIdeal.Value.run_blocks (F := Ideal) m g)
    obtain ⟨e5, e6, e7, hm⟩ := h c
    have a := args m c hpre
    refine ⟨e5.trans ?_, e6.trans ?_, e7.trans ?_, hm⟩
    · funext (y : S8192x512.Idx)
      rw [show y = ix2 (y 0) (y 1) from (ix2_eta y).symm]; exact arr_a a _ _
    · funext (y : S8192x512.Idx)
      rw [show y = ix2 (y 0) (y 1) from (ix2_eta y).symm]; exact arr_c a _ _
    · funext (y : S1x1024.Idx)
      rw [row1 y]; exact arr_g a _
  · refine (θ_run (Cert.RmsRefIdeal.defs (F := Ideal)) _ _).mono (fun r h c => ?_) (Cert.RmsRefIdeal.Value.run (F := Ideal) m' g')
    obtain ⟨e0, e1, e2, hm⟩ := h c
    obtain ⟨a0, a1, a2, a3⟩ := hargs c
    have a := args m c hpre
    have ha := fun i j => (congrFun a0 (ix2 i j)).trans (a.a i j)
    have ho := fun i j => (congrFun a1 (ix2 i j)).trans (a.o i j)
    have hg := fun j => (congrFun a2 (ix1 j)).trans (a.g j)
    have hd := fun i j => (congrFun a3 (ix2 i j)).trans (a.d i j)
    refine ⟨e0.trans ?_, e1.trans ?_, e2.trans ?_, hm⟩
    · refine (Cert.RmsRefIdeal.Read.val_main_v43_eq ..).trans ?_
      funext (y : S8192x512.Idx)
      rw [show y = ix2 (y 0) (y 1) from (ix2_eta y).symm]; exact v43_at ha ho hg hd _ _
    · refine (Cert.RmsRefIdeal.Read.val_main_v42_eq ..).trans ?_
      funext (y : S8192x512.Idx)
      rw [show y = ix2 (y 0) (y 1) from (ix2_eta y).symm]; exact v42_at ha ho hg hd _ _
    · refine (Cert.RmsRefIdeal.Read.val_main_v44_eq ..).trans ?_
      funext (y : S1x1024.Idx)
      rw [row1 y]; exact v44_at ha ho hd _

theorem frame_kernel : Cert.quiescent_Rms (hRms := Cert.Rms.Gen.facts) := fun m g _ => Cert.Rms.Gen.frame m g
theorem frame_ideal : Cert.quiescent_RmsIdeal (hRmsIdeal := Cert.RmsIdeal.Gen.facts) := fun m g _ => Cert.RmsIdeal.Gen.frame m g
theorem frame_ideal_finite : Cert.quiescent_RmsIdeal_pre_finite_rms (hRmsIdeal := Cert.RmsIdeal.Gen.facts) (hPre_finite_rms := Cert.Pre_finite_rms.Gen.facts) :=
  fun m g _ => Cert.RmsIdeal.Gen.frame m g
theorem frame_reference : Cert.quiescent_RmsRefIdeal (hRmsRefIdeal := Cert.RmsRefIdeal.Gen.facts) := fun m g _ =>
  (θ_run (Cert.RmsRefIdeal.defs (F := Ideal)) _ _).mono (fun r h => ⟨fun c => (h c).2.2.2, sem_eq_zero_of_no_sems (by decide) r.2⟩)
    (Cert.RmsRefIdeal.Value.run (F := Ideal) m g)
theorem frame_reference_finite : Cert.quiescent_RmsRefIdeal_pre_finite_rms (hRmsRefIdeal := Cert.RmsRefIdeal.Gen.facts) (hPre_finite_rms := Cert.Pre_finite_rms.Gen.facts) :=
  fun m g _ => frame_reference m g trivial

end Cert.RmsIdeal.Eq

end
-- ==== Proof.DUpValue.lean ====
/-
  The gradient at the hidden layer, d_up: after its run the kernel's result array is the reference's composed term.
-/
module

public import proofs.«01_k».proof.Proof.Gen.DUpIdeal.Value
public import proofs.«01_k».proof.Proof.Gen.DUpRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DUpIdeal.Up

open Cert.DUpIdeal Cert.DUpIdeal.Gen Idealize.ShloMosaic Idealize.ShloMosaic.TcCoe Idealize.SL.Sem
open Idealize.ShloMosaic.Pipeline (Dat)

variable (m : (ℓ : Loc nD τ sig) → Buf (Elt Ideal) ℓ)

theorem places : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- Where the hidden value is not positive the factor `2 · max u 0` is zero, so the test of the reference changes nothing. -/
theorem gate (u s k : EReal) :
    (Scalar.select (Ideal.cmp .ogt u 0) (s * (k * max u 0)) 0 : EReal) = s * (k * max u 0) := by
  by_cases h : 0 < u
  · simp [Scalar.select, Ideal.cmp, h]
  · simp [Scalar.select, Ideal.cmp, h, max_eq_right (not_lt.mp h)]

/-- The reference's result at an index. -/
theorem ref_at (x0 : Vec Ideal Cert.DUpRefIdeal.S8192x4096 .bf16) (x1 : Vec Ideal Cert.DUpRefIdeal.S4096x1024 .f32)
    (x2 : Vec Ideal Cert.DUpRefIdeal.S8192x1024 .f32) (j : Cert.DUpRefIdeal.S8192x4096.Idx) :
    Cert.DUpRefIdeal.Read.val_main_v15 (F := Ideal) x0 x1 x2 j
      = (∑ k : Fin 1024, x2 (ix2 (j 0) k) * x1 (ix2 (j 1) k)) * (Ideal.ofBits .f32 0x40000000#32 * max (x0 j) 0) := by
  refine Eq.trans ?_ (gate (x0 j) _ _)
  rw [← Cert.DUpRefIdeal.Read.val_main_v15_eq]
  pointwise

theorem point (c : Dev nD) (t : Fin cfg0.N) (y) :
    k0_pay1 (F := Ideal) (iblk m c 0 t) (iblk m c 1 t) (iblk m c 2 t) y
      = Cert.DUpRefIdeal.Read.val_main_v15 (F := Ideal) (m ((c : Thread nD τ).loc main_arg0)) (m ((c : Thread nD τ).loc main_arg1))
          (m ((c : Thread nD τ).loc main_arg2)) (((cfg0.win 3).blk t).view.emb y) := by
  rw [ref_at]
  pointwise [k0_pay1]
  blk_point [iblk, V, places t]

theorem final (c : Dev nD) : (dats m 0 c).arrAt 3 (cfgs 0).N
    = Cert.DUpRefIdeal.Read.val_main_v15 (F := Ideal) (m ((c : Thread nD τ).loc main_arg0))
        (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.DUpIdeal.Up

end
-- ==== Proof.lean ====
/- The proof of the claims: each pair's frames and its value, assembled from the modules under Proof/. -/
module

public import proofs.«01_k».proof.Defs
public import proofs.«01_k».proof.Proof.AttnEq
public import proofs.«01_k».proof.Proof.Fwd.Eq
public import proofs.«01_k».proof.Proof.Mix.Eq
public import proofs.«01_k».proof.Proof.Out.Ffn
public import proofs.«01_k».proof.Proof.Out.Proj
public import proofs.«01_k».proof.Proof.LossEq
public import proofs.«01_k».proof.Proof.DXMidEq
public import proofs.«01_k».proof.Proof.DXInEq
public import proofs.«01_k».proof.Proof.RmsEq
public import proofs.«01_k».proof.Proof.Gen.DUp
public import proofs.«01_k».proof.Proof.Gen.DUp.Frame
public import proofs.«01_k».proof.Proof.Gen.DUpIdeal
public import proofs.«01_k».proof.Proof.Gen.DUpIdeal.Frame
public import proofs.«01_k».proof.Proof.Gen.DUpRefIdeal
public import proofs.«01_k».proof.Proof.Gen.DUpRefIdeal.Run
public import proofs.«01_k».proof.Proof.Gen.DUpRefIdeal.Read
public import proofs.«01_k».proof.Proof.Gen.DUpIdeal.Value
public import proofs.«01_k».proof.Proof.DUpValue
public import Idealize.ShloMosaic.Lib.Claim
public import Idealize.ShloMosaic.Adequacy
public import Idealize.ShloMosaic.Init

@[expose] public section

noncomputable section

namespace Cert.Proof

open Idealize.ShloMosaic Idealize.SL.Sem

theorem algebraic_dup : Cert.algebraic_DUpIdeal_DUpRefIdeal (hDUpIdeal := Cert.DUpIdeal.Gen.facts)
    (hDUpRefIdeal := Cert.DUpRefIdeal.Gen.facts) := by
  intro m g m' g' _ hargs
  refine ⟨fun c => (Cert.DUpIdeal.Gen.dats m 0 c).arrAt 3 (Cert.DUpIdeal.cfgs 0).N,
    Cert.DUpIdeal.Value.run_blocks (F := Ideal) m g, ?_⟩
  refine (θ_run (Cert.DUpRefIdeal.defs (F := Ideal)) _ _).mono (fun r h c => ?_)
    (Cert.DUpRefIdeal.Value.run (F := Ideal) m' g')
  obtain ⟨hv, h0, h1, h2⟩ := h c
  refine ⟨hv.trans ?_, h0, h1, h2⟩
  rw [(hargs c).1, (hargs c).2.1, (hargs c).2.2]
  exact (Cert.DUpIdeal.Up.final m c).symm

theorem frame_dup_reference : Cert.quiescent_DUpRefIdeal (hDUpRefIdeal := Cert.DUpRefIdeal.Gen.facts) := fun m g _ =>
  (θ_run (Cert.DUpRefIdeal.defs (F := Ideal)) _ _).mono (fun r h => ⟨fun c => (h c).2, sem_eq_zero_of_no_sems (by decide) r.2⟩)
    (Cert.DUpRefIdeal.Value.run (F := Ideal) m g)

theorem claim : Cert.Claim := ⟨
  Cert.Kernel.Gen.facts, Cert.KernelIdeal.Gen.facts, Cert.ReferenceIdeal.Gen.facts, Cert.DUp.Gen.facts, Cert.DUpIdeal.Gen.facts,
  Cert.DUpRefIdeal.Gen.facts, Cert.Loss.Gen.facts, Cert.LossIdeal.Gen.facts, Cert.LossRefIdeal.Gen.facts, Cert.DXMid.Gen.facts,
  Cert.DXMidIdeal.Gen.facts, Cert.DXMidRefIdeal.Gen.facts, Cert.DXIn.Gen.facts, Cert.DXInIdeal.Gen.facts, Cert.DXInRefIdeal.Gen.facts,
  Cert.Rms.Gen.facts, Cert.RmsIdeal.Gen.facts, Cert.RmsRefIdeal.Gen.facts, Cert.AttnF.Gen.facts, Cert.AttnFIdeal.Gen.facts,
  Cert.AttnFRefIdeal.Gen.facts, Cert.FfnDown.Gen.facts, Cert.FfnDownIdeal.Gen.facts, Cert.FfnDownRefIdeal.Gen.facts, Cert.OutProj.Gen.facts,
  Cert.OutProjIdeal.Gen.facts, Cert.OutProjRefIdeal.Gen.facts, Cert.Mixer.Gen.facts, Cert.MixerIdeal.Gen.facts, Cert.MixerRefIdeal.Gen.facts,
  Cert.Pre_finite.Gen.facts, Cert.Pre_finite_loss.Gen.facts, Cert.Pre_finite_dx1.Gen.facts, Cert.Pre_finite_dx.Gen.facts,
  Cert.Pre_finite_rms.Gen.facts, Cert.Pre_finite_fwd.Gen.facts, Cert.Pre_finite_mixer.Gen.facts, Cert.Attn.frame_kernel, Cert.Attn.frame_ideal,
  Cert.Attn.frame_ideal_finite, Cert.Attn.frame_reference, Cert.Attn.frame_reference_finite, fun m g _ => Cert.DUp.Gen.frame m g,
  fun m g _ => Cert.DUpIdeal.Gen.frame m g, frame_dup_reference, Cert.LossIdeal.Eq.frame_kernel, Cert.LossIdeal.Eq.frame_ideal,
  Cert.LossIdeal.Eq.frame_ideal_finite, Cert.LossIdeal.Eq.frame_reference, Cert.LossIdeal.Eq.frame_reference_finite, Cert.DXMidIdeal.Eq.frame_kernel,
  Cert.DXMidIdeal.Eq.frame_ideal, Cert.DXMidIdeal.Eq.frame_ideal_finite, Cert.DXMidIdeal.Eq.frame_reference, Cert.DXMidIdeal.Eq.frame_reference_finite,
  Cert.DXInIdeal.Eq.frame_kernel, Cert.DXInIdeal.Eq.frame_ideal, Cert.DXInIdeal.Eq.frame_ideal_finite, Cert.DXInIdeal.Eq.frame_reference,
  Cert.DXInIdeal.Eq.frame_reference_finite, Cert.RmsIdeal.Eq.frame_kernel, Cert.RmsIdeal.Eq.frame_ideal, Cert.RmsIdeal.Eq.frame_ideal_finite,
  Cert.RmsIdeal.Eq.frame_reference, Cert.RmsIdeal.Eq.frame_reference_finite, Cert.AttnFIdeal.Eq.frame_kernel, Cert.AttnFIdeal.Eq.frame_ideal,
  Cert.AttnFIdeal.Eq.frame_ideal_finite, Cert.AttnFIdeal.Eq.frame_reference, Cert.AttnFIdeal.Eq.frame_reference_finite,
  Cert.FfnDownIdeal.Out.frame_kernel, Cert.FfnDownIdeal.Out.frame_ideal, Cert.FfnDownIdeal.Out.frame_reference, Cert.OutProjIdeal.Out.frame_kernel,
  Cert.OutProjIdeal.Out.frame_ideal, Cert.OutProjIdeal.Out.frame_reference, Cert.MixerIdeal.Eq.frame_kernel, Cert.MixerIdeal.Eq.frame_ideal,
  Cert.MixerIdeal.Eq.frame_ideal_finite, Cert.MixerIdeal.Eq.frame_reference, Cert.MixerIdeal.Eq.frame_reference_finite, Cert.Attn.preserves,
  Cert.Attn.algebraic, trivial, algebraic_dup, trivial, Cert.LossIdeal.Eq.algebraic, trivial, Cert.DXMidIdeal.Eq.algebraic, trivial,
  Cert.DXInIdeal.Eq.algebraic, trivial, Cert.RmsIdeal.Eq.algebraic, Cert.AttnFIdeal.Eq.preserves, Cert.AttnFIdeal.Eq.algebraic, trivial,
  Cert.FfnDownIdeal.Out.algebraic, trivial, Cert.OutProjIdeal.Out.algebraic, trivial, Cert.MixerIdeal.Eq.algebraic⟩

end Cert.Proof

end
